-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v61) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  main_v10
-- ==== Pre_finite_inputs_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x4096x512 .bf16) (main_arg1 : FVec F S512x256 .bf16) (main_arg2 : FVec F S2x4096x4x64 .bf16) (main_arg3 : FVec F S2x4096x4x64 .bf16) (main_arg4 : FVec F S256x512 .bf16) : IVec S_ 1 :=
  let main_v0 : FVec F S2x4096x512 .f32 := (extf .f32 · bitsLt_bf16_f32) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_c : IVec S_ 1 := constantI S_ 1 1#1
  let main_v4 : IVec S_ 1 := (fun x v => Host.reduce IntOp.andi x v reducesTo_S2x4096x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  main_v10
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S32x2x2x2x4x64x64 : Shape := ⟨7, ![32, 2, 2, 2, 4, 64, 64]⟩
abbrev S2x2x2x4x64x64 : Shape := ⟨6, ![2, 2, 2, 4, 64, 64]⟩
abbrev S32 : Shape := ⟨1, ![32]⟩
abbrev S_ : Shape := ⟨0, ![]⟩
abbrev S2x64x4x64 : Shape := ⟨4, ![2, 64, 4, 64]⟩
abbrev S2x4x64x64 : Shape := ⟨4, ![2, 4, 64, 64]⟩
abbrev S1x1x2x4x64x64 : Shape := ⟨6, ![1, 1, 2, 4, 64, 64]⟩
abbrev S1 : Shape := ⟨1, ![1]⟩
abbrev S1x2x2x2x4x64x64 : Shape := ⟨7, ![1, 2, 2, 2, 4, 64, 64]⟩
abbrev S1x1x2x2x4x64x64 : Shape := ⟨7, ![1, 1, 2, 2, 4, 64, 64]⟩
abbrev S2x2x4x64x64 : Shape := ⟨5, ![2, 2, 4, 64, 64]⟩
abbrev S1x2x2x4x64x64 : Shape := ⟨6, ![1, 2, 2, 4, 64, 64]⟩
abbrev S128x4096 : Shape := ⟨2, ![128, 4096]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S32x2x1x1x1x64x64 : Shape := ⟨7, ![32, 2, 1, 1, 1, 64, 64]⟩
abbrev S32x2x64x64 : Shape := ⟨4, ![32, 2, 64, 64]⟩
abbrev S4096x64 : Shape := ⟨2, ![4096, 64]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S32x2x2x2x4x64x64, .i8⟩
  | .local _ .vmem, ⟨7, _⟩ => ⟨S2x2x2x4x64x64, .i8⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_335 : BitVec 32 := 0#32
  let v482 : BitVec 1 := Scalar.cmpi .eq v2 c0_i32_335
  let c2_i32_336 : BitVec 32 := 2#32
  let c1_i32_328 : BitVec 32 := 1#32
  let v471 : BitVec 32 := Scalar.addi v2 c1_i32_328
  let c32_i32_329 : BitVec 32 := 32#32
  let c0_i32_330 : BitVec 32 := 0#32
  let v472 : BitVec 1 := Scalar.cmpi .eq c32_i32_329 c0_i32_330
  let c1_i32_331 : BitVec 32 := 1#32
  let v473 : BitVec 32 := Scalar.select v472 c1_i32_331 c32_i32_329
  let v474 : BitVec 32 := Scalar.remsi v471 v473
  let c0_i32_333 : BitVec 32 := 0#32
  let v476 : BitVec 1 := Scalar.cmpi .slt v474 c0_i32_333
  let c0_i32_334 : BitVec 32 := 0#32
  let v477 : BitVec 1 := Scalar.cmpi .slt v473 c0_i32_334
  let v478 : BitVec 1 := Scalar.xori v476 v477
  let c0_i32_332 : BitVec 32 := 0#32
  let v475 : BitVec 1 := Scalar.cmpi .ne v474 c0_i32_332
  let v479 : BitVec 1 := Scalar.andi v478 v475
  let v480 : BitVec 32 := Scalar.addi v474 v473
  let v481 : BitVec 32 := Scalar.select v479 v480 v474
  let v483 : BitVec 32 := Scalar.muli c2_i32_336 v481
  let c2_i32_337 : BitVec 32 := 2#32
  let v484 : BitVec 32 := Scalar.muli c2_i32_337 v2
  let v485 : BitVec 32 := Scalar.addi v483 v484
  let c3_i32_338 : BitVec 32 := 3#32
  let c0_i32_339 : BitVec 32 := 0#32
  let v486 : BitVec 1 := Scalar.cmpi .eq c3_i32_338 c0_i32_339
  let c1_i32_340 : BitVec 32 := 1#32
  let v487 : BitVec 32 := Scalar.select v486 c1_i32_340 c3_i32_338
  let v488 : BitVec 32 := Scalar.remsi v485 v487
  let c0_i32_342 : BitVec 32 := 0#32
  let v490 : BitVec 1 := Scalar.cmpi .slt v488 c0_i32_342
  let c0_i32_343 : BitVec 32 := 0#32
  let v491 : BitVec 1 := Scalar.cmpi .slt v487 c0_i32_343
  let v492 : BitVec 1 := Scalar.xori v490 v491
  let c0_i32_341 : BitVec 32 := 0#32
  let v489 : BitVec 1 := Scalar.cmpi .ne v488 c0_i32_341
  let v493 : BitVec 1 := Scalar.andi v492 v489
  let v494 : BitVec 32 := Scalar.addi v488 v487
  let v495 : BitVec 32 := Scalar.select v493 v494 v488
  let c1_i32_344 : BitVec 32 := 1#32
  let v496 : BitVec 1 := Scalar.cmpi .ne v495 c1_i32_344
  let v497 : BitVec 1 := Scalar.ori v482 v496
  let c2_i32_345 : BitVec 32 := 2#32
  let v498 : BitVec 32 := Scalar.muli c2_i32_345 v481
  let c2_i32_346 : BitVec 32 := 2#32
  let v499 : BitVec 32 := Scalar.muli c2_i32_346 v2
  let v500 : BitVec 32 := Scalar.addi v498 v499
  let c1_i32_347 : BitVec 32 := 1#32
  let v501 : BitVec 32 := Scalar.addi v500 c1_i32_347
  let c3_i32_348 : BitVec 32 := 3#32
  let c0_i32_349 : BitVec 32 := 0#32
  let v502 : BitVec 1 := Scalar.cmpi .eq c3_i32_348 c0_i32_349
  let c1_i32_350 : BitVec 32 := 1#32
  let v503 : BitVec 32 := Scalar.select v502 c1_i32_350 c3_i32_348
  let v504 : BitVec 32 := Scalar.remsi v501 v503
  let c0_i32_352 : BitVec 32 := 0#32
  let v506 : BitVec 1 := Scalar.cmpi .slt v504 c0_i32_352
  let c0_i32_353 : BitVec 32 := 0#32
  let v507 : BitVec 1 := Scalar.cmpi .slt v503 c0_i32_353
  let v508 : BitVec 1 := Scalar.xori v506 v507
  let c0_i32_351 : BitVec 32 := 0#32
  let v505 : BitVec 1 := Scalar.cmpi .ne v504 c0_i32_351
  let v509 : BitVec 1 := Scalar.andi v508 v505
  let v510 : BitVec 32 := Scalar.addi v504 v503
  let v511 : BitVec 32 := Scalar.select v509 v510 v504
  let c1_i32_354 : BitVec 32 := 1#32
  let v512 : BitVec 1 := Scalar.cmpi .ne v511 c1_i32_354
  let v513 : BitVec 1 := Scalar.andi v497 v512
  let v514 : BitVec 32 := Scalar.extui v513
  let c0_i32_355 : BitVec 32 := 0#32
  let v515 : BitVec 1 := Scalar.cmpi .ne v514 c0_i32_355
  v515

def k0_dev32 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_328 : BitVec 32 := 1#32
  let v471 : BitVec 32 := Scalar.addi v2 c1_i32_328
  let c32_i32_329 : BitVec 32 := 32#32
  let c0_i32_330 : BitVec 32 := 0#32
  let v472 : BitVec 1 := Scalar.cmpi .eq c32_i32_329 c0_i32_330
  let c1_i32_331 : BitVec 32 := 1#32
  let v473 : BitVec 32 := Scalar.select v472 c1_i32_331 c32_i32_329
  let v474 : BitVec 32 := Scalar.remsi v471 v473
  let c0_i32_333 : BitVec 32 := 0#32
  let v476 : BitVec 1 := Scalar.cmpi .slt v474 c0_i32_333
  let c0_i32_334 : BitVec 32 := 0#32
  let v477 : BitVec 1 := Scalar.cmpi .slt v473 c0_i32_334
  let v478 : BitVec 1 := Scalar.xori v476 v477
  let c0_i32_332 : BitVec 32 := 0#32
  let v475 : BitVec 1 := Scalar.cmpi .ne v474 c0_i32_332
  let v479 : BitVec 1 := Scalar.andi v478 v475
  let v480 : BitVec 32 := Scalar.addi v474 v473
  let v481 : BitVec 32 := Scalar.select v479 v480 v474
  let c1_i32_3564 : BitVec 32 := 1#32
  let v5774 : BitVec 32 := Scalar.muli v481 c1_i32_3564
  let v5775 : BitVec 32 := Scalar.addi c0_i32_3565 v5774
  v5775.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_335 : BitVec 32 := 0#32
  let v482 : BitVec 1 := Scalar.cmpi .eq v2 c0_i32_335
  let c2_i32_336 : BitVec 32 := 2#32
  let c1_i32_328 : BitVec 32 := 1#32
  let v471 : BitVec 32 := Scalar.addi v2 c1_i32_328
  let c32_i32_329 : BitVec 32 := 32#32
  let c0_i32_330 : BitVec 32 := 0#32
  let v472 : BitVec 1 := Scalar.cmpi .eq c32_i32_329 c0_i32_330
  let c1_i32_331 : BitVec 32 := 1#32
  let v473 : BitVec 32 := Scalar.select v472 c1_i32_331 c32_i32_329
  let v474 : BitVec 32 := Scalar.remsi v471 v473
  let c0_i32_333 : BitVec 32 := 0#32
  let v476 : BitVec 1 := Scalar.cmpi .slt v474 c0_i32_333
  let c0_i32_334 : BitVec 32 := 0#32
  let v477 : BitVec 1 := Scalar.cmpi .slt v473 c0_i32_334
  let v478 : BitVec 1 := Scalar.xori v476 v477
  let c0_i32_332 : BitVec 32 := 0#32
  let v475 : BitVec 1 := Scalar.cmpi .ne v474 c0_i32_332
  let v479 : BitVec 1 := Scalar.andi v478 v475
  let v480 : BitVec 32 := Scalar.addi v474 v473
  let v481 : BitVec 32 := Scalar.select v479 v480 v474
  let v483 : BitVec 32 := Scalar.muli c2_i32_336 v481
  let c2_i32_337 : BitVec 32 := 2#32
  let v484 : BitVec 32 := Scalar.muli c2_i32_337 v2
  let v485 : BitVec 32 := Scalar.addi v483 v484
  let c3_i32_338 : BitVec 32 := 3#32
  let c0_i32_339 : BitVec 32 := 0#32
  let v486 : BitVec 1 := Scalar.cmpi .eq c3_i32_338 c0_i32_339
  let c1_i32_340 : BitVec 32 := 1#32
  let v487 : BitVec 32 := Scalar.select v486 c1_i32_340 c3_i32_338
  let v488 : BitVec 32 := Scalar.remsi v485 v487
  let c0_i32_342 : BitVec 32 := 0#32
  let v490 : BitVec 1 := Scalar.cmpi .slt v488 c0_i32_342
  let c0_i32_343 : BitVec 32 := 0#32
  let v491 : BitVec 1 := Scalar.cmpi .slt v487 c0_i32_343
  let v492 : BitVec 1 := Scalar.xori v490 v491
  let c0_i32_341 : BitVec 32 := 0#32
  let v489 : BitVec 1 := Scalar.cmpi .ne v488 c0_i32_341
  let v493 : BitVec 1 := Scalar.andi v492 v489
  let v494 : BitVec 32 := Scalar.addi v488 v487
  let v495 : BitVec 32 := Scalar.select v493 v494 v488
  let c1_i32_344 : BitVec 32 := 1#32
  let v496 : BitVec 1 := Scalar.cmpi .ne v495 c1_i32_344
  let v497 : BitVec 1 := Scalar.ori v482 v496
  let c2_i32_345 : BitVec 32 := 2#32
  let v498 : BitVec 32 := Scalar.muli c2_i32_345 v481
  let c2_i32_346 : BitVec 32 := 2#32
  let v499 : BitVec 32 := Scalar.muli c2_i32_346 v2
  let v500 : BitVec 32 := Scalar.addi v498 v499
  let c1_i32_347 : BitVec 32 := 1#32
  let v501 : BitVec 32 := Scalar.addi v500 c1_i32_347
  let c3_i32_348 : BitVec 32 := 3#32
  let c0_i32_349 : BitVec 32 := 0#32
  let v502 : BitVec 1 := Scalar.cmpi .eq c3_i32_348 c0_i32_349
  let c1_i32_350 : BitVec 32 := 1#32
  let v503 : BitVec 32 := Scalar.select v502 c1_i32_350 c3_i32_348
  let v504 : BitVec 32 := Scalar.remsi v501 v503
  let c0_i32_352 : BitVec 32 := 0#32
  let v506 : BitVec 1 := Scalar.cmpi .slt v504 c0_i32_352
  let c0_i32_353 : BitVec 32 := 0#32
  let v507 : BitVec 1 := Scalar.cmpi .slt v503 c0_i32_353
  let v508 : BitVec 1 := Scalar.xori v506 v507
  let c0_i32_351 : BitVec 32 := 0#32
  let v505 : BitVec 1 := Scalar.cmpi .ne v504 c0_i32_351
  let v509 : BitVec 1 := Scalar.andi v508 v505
  let v510 : BitVec 32 := Scalar.addi v504 v503
  let v511 : BitVec 32 := Scalar.select v509 v510 v504
  let c1_i32_354 : BitVec 32 := 1#32
  let v512 : BitVec 1 := Scalar.cmpi .ne v511 c1_i32_354
  let true_356 : BitVec 1 := 1#1
  let v516 : BitVec 1 := Scalar.xori v512 true_356
  let v517 : BitVec 1 := Scalar.andi v497 v516
  let v518 : BitVec 32 := Scalar.extui v517
  let c0_i32_357 : BitVec 32 := 0#32
  let v519 : BitVec 1 := Scalar.cmpi .ne v518 c0_i32_357
  v519

def k0_dev33 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_328 : BitVec 32 := 1#32
  let v471 : BitVec 32 := Scalar.addi v2 c1_i32_328
  let c32_i32_329 : BitVec 32 := 32#32
  let c0_i32_330 : BitVec 32 := 0#32
  let v472 : BitVec 1 := Scalar.cmpi .eq c32_i32_329 c0_i32_330
  let c1_i32_331 : BitVec 32 := 1#32
  let v473 : BitVec 32 := Scalar.select v472 c1_i32_331 c32_i32_329
  let v474 : BitVec 32 := Scalar.remsi v471 v473
  let c0_i32_333 : BitVec 32 := 0#32
  let v476 : BitVec 1 := Scalar.cmpi .slt v474 c0_i32_333
  let c0_i32_334 : BitVec 32 := 0#32
  let v477 : BitVec 1 := Scalar.cmpi .slt v473 c0_i32_334
  let v478 : BitVec 1 := Scalar.xori v476 v477
  let c0_i32_332 : BitVec 32 := 0#32
  let v475 : BitVec 1 := Scalar.cmpi .ne v474 c0_i32_332
  let v479 : BitVec 1 := Scalar.andi v478 v475
  let v480 : BitVec 32 := Scalar.addi v474 v473
  let v481 : BitVec 32 := Scalar.select v479 v480 v474
  let c1_i32_3566 : BitVec 32 := 1#32
  let v5774 : BitVec 32 := Scalar.muli v481 c1_i32_3566
  let v5775 : BitVec 32 := Scalar.addi c0_i32_3567 v5774
  v5775.toNat
def k0_cond3 (d0 : Dev nD) : BitVec 1 :=
  let c2_i32_345 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_328 : BitVec 32 := 1#32
  let v471 : BitVec 32 := Scalar.addi v2 c1_i32_328
  let c32_i32_329 : BitVec 32 := 32#32
  let c0_i32_330 : BitVec 32 := 0#32
  let v472 : BitVec 1 := Scalar.cmpi .eq c32_i32_329 c0_i32_330
  let c1_i32_331 : BitVec 32 := 1#32
  let v473 : BitVec 32 := Scalar.select v472 c1_i32_331 c32_i32_329
  let v474 : BitVec 32 := Scalar.remsi v471 v473
  let c0_i32_333 : BitVec 32 := 0#32
  let v476 : BitVec 1 := Scalar.cmpi .slt v474 c0_i32_333
  let c0_i32_334 : BitVec 32 := 0#32
  let v477 : BitVec 1 := Scalar.cmpi .slt v473 c0_i32_334
  let v478 : BitVec 1 := Scalar.xori v476 v477
  let c0_i32_332 : BitVec 32 := 0#32
  let v475 : BitVec 1 := Scalar.cmpi .ne v474 c0_i32_332
  let v479 : BitVec 1 := Scalar.andi v478 v475
  let v480 : BitVec 32 := Scalar.addi v474 v473
  let v481 : BitVec 32 := Scalar.select v479 v480 v474
  let v498 : BitVec 32 := Scalar.muli c2_i32_345 v481
  let c2_i32_346 : BitVec 32 := 2#32
  let v499 : BitVec 32 := Scalar.muli c2_i32_346 v2
  let v500 : BitVec 32 := Scalar.addi v498 v499
  let c1_i32_347 : BitVec 32 := 1#32
  let v501 : BitVec 32 := Scalar.addi v500 c1_i32_347
  let c3_i32_348 : BitVec 32 := 3#32
  let c0_i32_349 : BitVec 32 := 0#32
  let v502 : BitVec 1 := Scalar.cmpi .eq c3_i32_348 c0_i32_349
  let c1_i32_350 : BitVec 32 := 1#32
  let v503 : BitVec 32 := Scalar.select v502 c1_i32_350 c3_i32_348
  let v504 : BitVec 32 := Scalar.remsi v501 v503
  let c0_i32_352 : BitVec 32 := 0#32
  let v506 : BitVec 1 := Scalar.cmpi .slt v504 c0_i32_352
  let c0_i32_353 : BitVec 32 := 0#32
  let v507 : BitVec 1 := Scalar.cmpi .slt v503 c0_i32_353
  let v508 : BitVec 1 := Scalar.xori v506 v507
  let c0_i32_351 : BitVec 32 := 0#32
  let v505 : BitVec 1 := Scalar.cmpi .ne v504 c0_i32_351
  let v509 : BitVec 1 := Scalar.andi v508 v505
  let v510 : BitVec 32 := Scalar.addi v504 v503
  let v511 : BitVec 32 := Scalar.select v509 v510 v504
  let c1_i32_354 : BitVec 32 := 1#32
  let v512 : BitVec 1 := Scalar.cmpi .ne v511 c1_i32_354
  let c0_i32_335 : BitVec 32 := 0#32
  let v482 : BitVec 1 := Scalar.cmpi .eq v2 c0_i32_335
  let c2_i32_336 : BitVec 32 := 2#32
  let v483 : BitVec 32 := Scalar.muli c2_i32_336 v481
  let c2_i32_337 : BitVec 32 := 2#32
  let v484 : BitVec 32 := Scalar.muli c2_i32_337 v2
  let v485 : BitVec 32 := Scalar.addi v483 v484
  let c3_i32_338 : BitVec 32 := 3#32
  let c0_i32_339 : BitVec 32 := 0#32
  let v486 : BitVec 1 := Scalar.cmpi .eq c3_i32_338 c0_i32_339
  let c1_i32_340 : BitVec 32 := 1#32
  let v487 : BitVec 32 := Scalar.select v486 c1_i32_340 c3_i32_338
  let v488 : BitVec 32 := Scalar.remsi v485 v487
  let c0_i32_342 : BitVec 32 := 0#32
  let v490 : BitVec 1 := Scalar.cmpi .slt v488 c0_i32_342
  let c0_i32_343 : BitVec 32 := 0#32
  let v491 : BitVec 1 := Scalar.cmpi .slt v487 c0_i32_343
  let v492 : BitVec 1 := Scalar.xori v490 v491
  let c0_i32_341 : BitVec 32 := 0#32
  let v489 : BitVec 1 := Scalar.cmpi .ne v488 c0_i32_341
  let v493 : BitVec 1 := Scalar.andi v492 v489
  let v494 : BitVec 32 := Scalar.addi v488 v487
  let v495 : BitVec 32 := Scalar.select v493 v494 v488
  let c1_i32_344 : BitVec 32 := 1#32
  let v496 : BitVec 1 := Scalar.cmpi .ne v495 c1_i32_344
  let v497 : BitVec 1 := Scalar.ori v482 v496
  let true_358 : BitVec 1 := 1#1
  let v520 : BitVec 1 := Scalar.xori v497 true_358
  let v521 : BitVec 1 := Scalar.andi v512 v520
  let v522 : BitVec 32 := Scalar.extui v521
  let c0_i32_359 : BitVec 32 := 0#32
  let v523 : BitVec 1 := Scalar.cmpi .ne v522 c0_i32_359
  v523

def k0_dev34 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_328 : BitVec 32 := 1#32
  let v471 : BitVec 32 := Scalar.addi v2 c1_i32_328
  let c32_i32_329 : BitVec 32 := 32#32
  let c0_i32_330 : BitVec 32 := 0#32
  let v472 : BitVec 1 := Scalar.cmpi .eq c32_i32_329 c0_i32_330
  let c1_i32_331 : BitVec 32 := 1#32
  let v473 : BitVec 32 := Scalar.select v472 c1_i32_331 c32_i32_329
  let v474 : BitVec 32 := Scalar.remsi v471 v473
  let c0_i32_333 : BitVec 32 := 0#32
  let v476 : BitVec 1 := Scalar.cmpi .slt v474 c0_i32_333
  let c0_i32_334 : BitVec 32 := 0#32
  let v477 : BitVec 1 := Scalar.cmpi .slt v473 c0_i32_334
  let v478 : BitVec 1 := Scalar.xori v476 v477
  let c0_i32_332 : BitVec 32 := 0#32
  let v475 : BitVec 1 := Scalar.cmpi .ne v474 c0_i32_332
  let v479 : BitVec 1 := Scalar.andi v478 v475
  let v480 : BitVec 32 := Scalar.addi v474 v473
  let v481 : BitVec 32 := Scalar.select v479 v480 v474
  let c1_i32_3566 : BitVec 32 := 1#32
  let v5774 : BitVec 32 := Scalar.muli v481 c1_i32_3566
  let v5775 : BitVec 32 := Scalar.addi c0_i32_3567 v5774
  v5775.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_367 : BitVec 32 := 0#32
  let v535 : BitVec 1 := Scalar.cmpi .eq v2 c0_i32_367
  let c2_i32_368 : BitVec 32 := 2#32
  let c2_i32_360 : BitVec 32 := 2#32
  let v524 : BitVec 32 := Scalar.addi v2 c2_i32_360
  let c32_i32_361 : BitVec 32 := 32#32
  let c0_i32_362 : BitVec 32 := 0#32
  let v525 : BitVec 1 := Scalar.cmpi .eq c32_i32_361 c0_i32_362
  let c1_i32_363 : BitVec 32 := 1#32
  let v526 : BitVec 32 := Scalar.select v525 c1_i32_363 c32_i32_361
  let v527 : BitVec 32 := Scalar.remsi v524 v526
  let c0_i32_365 : BitVec 32 := 0#32
  let v529 : BitVec 1 := Scalar.cmpi .slt v527 c0_i32_365
  let c0_i32_366 : BitVec 32 := 0#32
  let v530 : BitVec 1 := Scalar.cmpi .slt v526 c0_i32_366
  let v531 : BitVec 1 := Scalar.xori v529 v530
  let c0_i32_364 : BitVec 32 := 0#32
  let v528 : BitVec 1 := Scalar.cmpi .ne v527 c0_i32_364
  let v532 : BitVec 1 := Scalar.andi v531 v528
  let v533 : BitVec 32 := Scalar.addi v527 v526
  let v534 : BitVec 32 := Scalar.select v532 v533 v527
  let v536 : BitVec 32 := Scalar.muli c2_i32_368 v534
  let c2_i32_369 : BitVec 32 := 2#32
  let v537 : BitVec 32 := Scalar.muli c2_i32_369 v2
  let v538 : BitVec 32 := Scalar.addi v536 v537
  let c3_i32_370 : BitVec 32 := 3#32
  let c0_i32_371 : BitVec 32 := 0#32
  let v539 : BitVec 1 := Scalar.cmpi .eq c3_i32_370 c0_i32_371
  let c1_i32_372 : BitVec 32 := 1#32
  let v540 : BitVec 32 := Scalar.select v539 c1_i32_372 c3_i32_370
  let v541 : BitVec 32 := Scalar.remsi v538 v540
  let c0_i32_374 : BitVec 32 := 0#32
  let v543 : BitVec 1 := Scalar.cmpi .slt v541 c0_i32_374
  let c0_i32_375 : BitVec 32 := 0#32
  let v544 : BitVec 1 := Scalar.cmpi .slt v540 c0_i32_375
  let v545 : BitVec 1 := Scalar.xori v543 v544
  let c0_i32_373 : BitVec 32 := 0#32
  let v542 : BitVec 1 := Scalar.cmpi .ne v541 c0_i32_373
  let v546 : BitVec 1 := Scalar.andi v545 v542
  let v547 : BitVec 32 := Scalar.addi v541 v540
  let v548 : BitVec 32 := Scalar.select v546 v547 v541
  let c1_i32_376 : BitVec 32 := 1#32
  let v549 : BitVec 1 := Scalar.cmpi .ne v548 c1_i32_376
  let v550 : BitVec 1 := Scalar.ori v535 v549
  let c2_i32_377 : BitVec 32 := 2#32
  let v551 : BitVec 32 := Scalar.muli c2_i32_377 v534
  let c2_i32_378 : BitVec 32 := 2#32
  let v552 : BitVec 32 := Scalar.muli c2_i32_378 v2
  let v553 : BitVec 32 := Scalar.addi v551 v552
  let c1_i32_379 : BitVec 32 := 1#32
  let v554 : BitVec 32 := Scalar.addi v553 c1_i32_379
  let c3_i32_380 : BitVec 32 := 3#32
  let c0_i32_381 : BitVec 32 := 0#32
  let v555 : BitVec 1 := Scalar.cmpi .eq c3_i32_380 c0_i32_381
  let c1_i32_382 : BitVec 32 := 1#32
  let v556 : BitVec 32 := Scalar.select v555 c1_i32_382 c3_i32_380
  let v557 : BitVec 32 := Scalar.remsi v554 v556
  let c0_i32_384 : BitVec 32 := 0#32
  let v559 : BitVec 1 := Scalar.cmpi .slt v557 c0_i32_384
  let c0_i32_385 : BitVec 32 := 0#32
  let v560 : BitVec 1 := Scalar.cmpi .slt v556 c0_i32_385
  let v561 : BitVec 1 := Scalar.xori v559 v560
  let c0_i32_383 : BitVec 32 := 0#32
  let v558 : BitVec 1 := Scalar.cmpi .ne v557 c0_i32_383
  let v562 : BitVec 1 := Scalar.andi v561 v558
  let v563 : BitVec 32 := Scalar.addi v557 v556
  let v564 : BitVec 32 := Scalar.select v562 v563 v557
  let c1_i32_386 : BitVec 32 := 1#32
  let v565 : BitVec 1 := Scalar.cmpi .ne v564 c1_i32_386
  let v566 : BitVec 1 := Scalar.andi v550 v565
  let v567 : BitVec 32 := Scalar.extui v566
  let c0_i32_387 : BitVec 32 := 0#32
  let v568 : BitVec 1 := Scalar.cmpi .ne v567 c0_i32_387
  v568

def k0_dev35 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_360 : BitVec 32 := 2#32
  let v524 : BitVec 32 := Scalar.addi v2 c2_i32_360
  let c32_i32_361 : BitVec 32 := 32#32
  let c0_i32_362 : BitVec 32 := 0#32
  let v525 : BitVec 1 := Scalar.cmpi .eq c32_i32_361 c0_i32_362
  let c1_i32_363 : BitVec 32 := 1#32
  let v526 : BitVec 32 := Scalar.select v525 c1_i32_363 c32_i32_361
  let v527 : BitVec 32 := Scalar.remsi v524 v526
  let c0_i32_365 : BitVec 32 := 0#32
  let v529 : BitVec 1 := Scalar.cmpi .slt v527 c0_i32_365
  let c0_i32_366 : BitVec 32 := 0#32
  let v530 : BitVec 1 := Scalar.cmpi .slt v526 c0_i32_366
  let v531 : BitVec 1 := Scalar.xori v529 v530
  let c0_i32_364 : BitVec 32 := 0#32
  let v528 : BitVec 1 := Scalar.cmpi .ne v527 c0_i32_364
  let v532 : BitVec 1 := Scalar.andi v531 v528
  let v533 : BitVec 32 := Scalar.addi v527 v526
  let v534 : BitVec 32 := Scalar.select v532 v533 v527
  let c1_i32_3564 : BitVec 32 := 1#32
  let v5774 : BitVec 32 := Scalar.muli v534 c1_i32_3564
  let v5775 : BitVec 32 := Scalar.addi c0_i32_3565 v5774
  v5775.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_367 : BitVec 32 := 0#32
  let v535 : BitVec 1 := Scalar.cmpi .eq v2 c0_i32_367
  let c2_i32_368 : BitVec 32 := 2#32
  let c2_i32_360 : BitVec 32 := 2#32
  let v524 : BitVec 32 := Scalar.addi v2 c2_i32_360
  let c32_i32_361 : BitVec 32 := 32#32
  let c0_i32_362 : BitVec 32 := 0#32
  let v525 : BitVec 1 := Scalar.cmpi .eq c32_i32_361 c0_i32_362
  let c1_i32_363 : BitVec 32 := 1#32
  let v526 : BitVec 32 := Scalar.select v525 c1_i32_363 c32_i32_361
  let v527 : BitVec 32 := Scalar.remsi v524 v526
  let c0_i32_365 : BitVec 32 := 0#32
  let v529 : BitVec 1 := Scalar.cmpi .slt v527 c0_i32_365
  let c0_i32_366 : BitVec 32 := 0#32
  let v530 : BitVec 1 := Scalar.cmpi .slt v526 c0_i32_366
  let v531 : BitVec 1 := Scalar.xori v529 v530
  let c0_i32_364 : BitVec 32 := 0#32
  let v528 : BitVec 1 := Scalar.cmpi .ne v527 c0_i32_364
  let v532 : BitVec 1 := Scalar.andi v531 v528
  let v533 : BitVec 32 := Scalar.addi v527 v526
  let v534 : BitVec 32 := Scalar.select v532 v533 v527
  let v536 : BitVec 32 := Scalar.muli c2_i32_368 v534
  let c2_i32_369 : BitVec 32 := 2#32
  let v537 : BitVec 32 := Scalar.muli c2_i32_369 v2
  let v538 : BitVec 32 := Scalar.addi v536 v537
  let c3_i32_370 : BitVec 32 := 3#32
  let c0_i32_371 : BitVec 32 := 0#32
  let v539 : BitVec 1 := Scalar.cmpi .eq c3_i32_370 c0_i32_371
  let c1_i32_372 : BitVec 32 := 1#32
  let v540 : BitVec 32 := Scalar.select v539 c1_i32_372 c3_i32_370
  let v541 : BitVec 32 := Scalar.remsi v538 v540
  let c0_i32_374 : BitVec 32 := 0#32
  let v543 : BitVec 1 := Scalar.cmpi .slt v541 c0_i32_374
  let c0_i32_375 : BitVec 32 := 0#32
  let v544 : BitVec 1 := Scalar.cmpi .slt v540 c0_i32_375
  let v545 : BitVec 1 := Scalar.xori v543 v544
  let c0_i32_373 : BitVec 32 := 0#32
  let v542 : BitVec 1 := Scalar.cmpi .ne v541 c0_i32_373
  let v546 : BitVec 1 := Scalar.andi v545 v542
  let v547 : BitVec 32 := Scalar.addi v541 v540
  let v548 : BitVec 32 := Scalar.select v546 v547 v541
  let c1_i32_376 : BitVec 32 := 1#32
  let v549 : BitVec 1 := Scalar.cmpi .ne v548 c1_i32_376
  let v550 : BitVec 1 := Scalar.ori v535 v549
  let c2_i32_377 : BitVec 32 := 2#32
  let v551 : BitVec 32 := Scalar.muli c2_i32_377 v534
  let c2_i32_378 : BitVec 32 := 2#32
  let v552 : BitVec 32 := Scalar.muli c2_i32_378 v2
  let v553 : BitVec 32 := Scalar.addi v551 v552
  let c1_i32_379 : BitVec 32 := 1#32
  let v554 : BitVec 32 := Scalar.addi v553 c1_i32_379
  let c3_i32_380 : BitVec 32 := 3#32
  let c0_i32_381 : BitVec 32 := 0#32
  let v555 : BitVec 1 := Scalar.cmpi .eq c3_i32_380 c0_i32_381
  let c1_i32_382 : BitVec 32 := 1#32
  let v556 : BitVec 32 := Scalar.select v555 c1_i32_382 c3_i32_380
  let v557 : BitVec 32 := Scalar.remsi v554 v556
  let c0_i32_384 : BitVec 32 := 0#32
  let v559 : BitVec 1 := Scalar.cmpi .slt v557 c0_i32_384
  let c0_i32_385 : BitVec 32 := 0#32
  let v560 : BitVec 1 := Scalar.cmpi .slt v556 c0_i32_385
  let v561 : BitVec 1 := Scalar.xori v559 v560
  let c0_i32_383 : BitVec 32 := 0#32
  let v558 : BitVec 1 := Scalar.cmpi .ne v557 c0_i32_383
  let v562 : BitVec 1 := Scalar.andi v561 v558
  let v563 : BitVec 32 := Scalar.addi v557 v556
  let v564 : BitVec 32 := Scalar.select v562 v563 v557
  let c1_i32_386 : BitVec 32 := 1#32
  let v565 : BitVec 1 := Scalar.cmpi .ne v564 c1_i32_386
  let true_388 : BitVec 1 := 1#1
  let v569 : BitVec 1 := Scalar.xori v565 true_388
  let v570 : BitVec 1 := Scalar.andi v550 v569
  let v571 : BitVec 32 := Scalar.extui v570
  let c0_i32_389 : BitVec 32 := 0#32
  let v572 : BitVec 1 := Scalar.cmpi .ne v571 c0_i32_389
  v572

def k0_dev36 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_360 : BitVec 32 := 2#32
  let v524 : BitVec 32 := Scalar.addi v2 c2_i32_360
  let c32_i32_361 : BitVec 32 := 32#32
  let c0_i32_362 : BitVec 32 := 0#32
  let v525 : BitVec 1 := Scalar.cmpi .eq c32_i32_361 c0_i32_362
  let c1_i32_363 : BitVec 32 := 1#32
  let v526 : BitVec 32 := Scalar.select v525 c1_i32_363 c32_i32_361
  let v527 : BitVec 32 := Scalar.remsi v524 v526
  let c0_i32_365 : BitVec 32 := 0#32
  let v529 : BitVec 1 := Scalar.cmpi .slt v527 c0_i32_365
  let c0_i32_366 : BitVec 32 := 0#32
  let v530 : BitVec 1 := Scalar.cmpi .slt v526 c0_i32_366
  let v531 : BitVec 1 := Scalar.xori v529 v530
  let c0_i32_364 : BitVec 32 := 0#32
  let v528 : BitVec 1 := Scalar.cmpi .ne v527 c0_i32_364
  let v532 : BitVec 1 := Scalar.andi v531 v528
  let v533 : BitVec 32 := Scalar.addi v527 v526
  let v534 : BitVec 32 := Scalar.select v532 v533 v527
  let c1_i32_3566 : BitVec 32 := 1#32
  let v5774 : BitVec 32 := Scalar.muli v534 c1_i32_3566
  let v5775 : BitVec 32 := Scalar.addi c0_i32_3567 v5774
  v5775.toNat
def k0_cond6 (d0 : Dev nD) : BitVec 1 :=
  let c2_i32_377 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_360 : BitVec 32 := 2#32
  let v524 : BitVec 32 := Scalar.addi v2 c2_i32_360
  let c32_i32_361 : BitVec 32 := 32#32
  let c0_i32_362 : BitVec 32 := 0#32
  let v525 : BitVec 1 := Scalar.cmpi .eq c32_i32_361 c0_i32_362
  let c1_i32_363 : BitVec 32 := 1#32
  let v526 : BitVec 32 := Scalar.select v525 c1_i32_363 c32_i32_361
  let v527 : BitVec 32 := Scalar.remsi v524 v526
  let c0_i32_365 : BitVec 32 := 0#32
  let v529 : BitVec 1 := Scalar.cmpi .slt v527 c0_i32_365
  let c0_i32_366 : BitVec 32 := 0#32
  let v530 : BitVec 1 := Scalar.cmpi .slt v526 c0_i32_366
  let v531 : BitVec 1 := Scalar.xori v529 v530
  let c0_i32_364 : BitVec 32 := 0#32
  let v528 : BitVec 1 := Scalar.cmpi .ne v527 c0_i32_364
  let v532 : BitVec 1 := Scalar.andi v531 v528
  let v533 : BitVec 32 := Scalar.addi v527 v526
  let v534 : BitVec 32 := Scalar.select v532 v533 v527
  let v551 : BitVec 32 := Scalar.muli c2_i32_377 v534
  let c2_i32_378 : BitVec 32 := 2#32
  let v552 : BitVec 32 := Scalar.muli c2_i32_378 v2
  let v553 : BitVec 32 := Scalar.addi v551 v552
  let c1_i32_379 : BitVec 32 := 1#32
  let v554 : BitVec 32 := Scalar.addi v553 c1_i32_379
  let c3_i32_380 : BitVec 32 := 3#32
  let c0_i32_381 : BitVec 32 := 0#32
  let v555 : BitVec 1 := Scalar.cmpi .eq c3_i32_380 c0_i32_381
  let c1_i32_382 : BitVec 32 := 1#32
  let v556 : BitVec 32 := Scalar.select v555 c1_i32_382 c3_i32_380
  let v557 : BitVec 32 := Scalar.remsi v554 v556
  let c0_i32_384 : BitVec 32 := 0#32
  let v559 : BitVec 1 := Scalar.cmpi .slt v557 c0_i32_384
  let c0_i32_385 : BitVec 32 := 0#32
  let v560 : BitVec 1 := Scalar.cmpi .slt v556 c0_i32_385
  let v561 : BitVec 1 := Scalar.xori v559 v560
  let c0_i32_383 : BitVec 32 := 0#32
  let v558 : BitVec 1 := Scalar.cmpi .ne v557 c0_i32_383
  let v562 : BitVec 1 := Scalar.andi v561 v558
  let v563 : BitVec 32 := Scalar.addi v557 v556
  let v564 : BitVec 32 := Scalar.select v562 v563 v557
  let c1_i32_386 : BitVec 32 := 1#32
  let v565 : BitVec 1 := Scalar.cmpi .ne v564 c1_i32_386
  let c0_i32_367 : BitVec 32 := 0#32
  let v535 : BitVec 1 := Scalar.cmpi .eq v2 c0_i32_367
  let c2_i32_368 : BitVec 32 := 2#32
  let v536 : BitVec 32 := Scalar.muli c2_i32_368 v534
  let c2_i32_369 : BitVec 32 := 2#32
  let v537 : BitVec 32 := Scalar.muli c2_i32_369 v2
  let v538 : BitVec 32 := Scalar.addi v536 v537
  let c3_i32_370 : BitVec 32 := 3#32
  let c0_i32_371 : BitVec 32 := 0#32
  let v539 : BitVec 1 := Scalar.cmpi .eq c3_i32_370 c0_i32_371
  let c1_i32_372 : BitVec 32 := 1#32
  let v540 : BitVec 32 := Scalar.select v539 c1_i32_372 c3_i32_370
  let v541 : BitVec 32 := Scalar.remsi v538 v540
  let c0_i32_374 : BitVec 32 := 0#32
  let v543 : BitVec 1 := Scalar.cmpi .slt v541 c0_i32_374
  let c0_i32_375 : BitVec 32 := 0#32
  let v544 : BitVec 1 := Scalar.cmpi .slt v540 c0_i32_375
  let v545 : BitVec 1 := Scalar.xori v543 v544
  let c0_i32_373 : BitVec 32 := 0#32
  let v542 : BitVec 1 := Scalar.cmpi .ne v541 c0_i32_373
  let v546 : BitVec 1 := Scalar.andi v545 v542
  let v547 : BitVec 32 := Scalar.addi v541 v540
  let v548 : BitVec 32 := Scalar.select v546 v547 v541
  let c1_i32_376 : BitVec 32 := 1#32
  let v549 : BitVec 1 := Scalar.cmpi .ne v548 c1_i32_376
  let v550 : BitVec 1 := Scalar.ori v535 v549
  let true_390 : BitVec 1 := 1#1
  let v573 : BitVec 1 := Scalar.xori v550 true_390
  let v574 : BitVec 1 := Scalar.andi v565 v573
  let v575 : BitVec 32 := Scalar.extui v574
  let c0_i32_391 : BitVec 32 := 0#32
  let v576 : BitVec 1 := Scalar.cmpi .ne v575 c0_i32_391
  v576

def k0_dev37 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_360 : BitVec 32 := 2#32
  let v524 : BitVec 32 := Scalar.addi v2 c2_i32_360
  let c32_i32_361 : BitVec 32 := 32#32
  let c0_i32_362 : BitVec 32 := 0#32
  let v525 : BitVec 1 := Scalar.cmpi .eq c32_i32_361 c0_i32_362
  let c1_i32_363 : BitVec 32 := 1#32
  let v526 : BitVec 32 := Scalar.select v525 c1_i32_363 c32_i32_361
  let v527 : BitVec 32 := Scalar.remsi v524 v526
  let c0_i32_365 : BitVec 32 := 0#32
  let v529 : BitVec 1 := Scalar.cmpi .slt v527 c0_i32_365
  let c0_i32_366 : BitVec 32 := 0#32
  let v530 : BitVec 1 := Scalar.cmpi .slt v526 c0_i32_366
  let v531 : BitVec 1 := Scalar.xori v529 v530
  let c0_i32_364 : BitVec 32 := 0#32
  let v528 : BitVec 1 := Scalar.cmpi .ne v527 c0_i32_364
  let v532 : BitVec 1 := Scalar.andi v531 v528
  let v533 : BitVec 32 := Scalar.addi v527 v526
  let v534 : BitVec 32 := Scalar.select v532 v533 v527
  let c1_i32_3566 : BitVec 32 := 1#32
  let v5774 : BitVec 32 := Scalar.muli v534 c1_i32_3566
  let v5775 : BitVec 32 := Scalar.addi c0_i32_3567 v5774
  v5775.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let v588 : BitVec 1 := Scalar.cmpi .eq v2 c0_i32_399
  let c2_i32_400 : BitVec 32 := 2#32
  let c3_i32_392 : BitVec 32 := 3#32
  let v577 : BitVec 32 := Scalar.addi v2 c3_i32_392
  let c32_i32_393 : BitVec 32 := 32#32
  let c0_i32_394 : BitVec 32 := 0#32
  let v578 : BitVec 1 := Scalar.cmpi .eq c32_i32_393 c0_i32_394
  let c1_i32_395 : BitVec 32 := 1#32
  let v579 : BitVec 32 := Scalar.select v578 c1_i32_395 c32_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  let v589 : BitVec 32 := Scalar.muli c2_i32_400 v587
  let c2_i32_401 : BitVec 32 := 2#32
  let v590 : BitVec 32 := Scalar.muli c2_i32_401 v2
  let v591 : BitVec 32 := Scalar.addi v589 v590
  let c3_i32_402 : BitVec 32 := 3#32
  let c0_i32_403 : BitVec 32 := 0#32
  let v592 : BitVec 1 := Scalar.cmpi .eq c3_i32_402 c0_i32_403
  let c1_i32_404 : BitVec 32 := 1#32
  let v593 : BitVec 32 := Scalar.select v592 c1_i32_404 c3_i32_402
  let v594 : BitVec 32 := Scalar.remsi v591 v593
  let c0_i32_406 : BitVec 32 := 0#32
  let v596 : BitVec 1 := Scalar.cmpi .slt v594 c0_i32_406
  let c0_i32_407 : BitVec 32 := 0#32
  let v597 : BitVec 1 := Scalar.cmpi .slt v593 c0_i32_407
  let v598 : BitVec 1 := Scalar.xori v596 v597
  let c0_i32_405 : BitVec 32 := 0#32
  let v595 : BitVec 1 := Scalar.cmpi .ne v594 c0_i32_405
  let v599 : BitVec 1 := Scalar.andi v598 v595
  let v600 : BitVec 32 := Scalar.addi v594 v593
  let v601 : BitVec 32 := Scalar.select v599 v600 v594
  let c1_i32_408 : BitVec 32 := 1#32
  let v602 : BitVec 1 := Scalar.cmpi .ne v601 c1_i32_408
  let v603 : BitVec 1 := Scalar.ori v588 v602
  let c2_i32_409 : BitVec 32 := 2#32
  let v604 : BitVec 32 := Scalar.muli c2_i32_409 v587
  let c2_i32_410 : BitVec 32 := 2#32
  let v605 : BitVec 32 := Scalar.muli c2_i32_410 v2
  let v606 : BitVec 32 := Scalar.addi v604 v605
  let c1_i32_411 : BitVec 32 := 1#32
  let v607 : BitVec 32 := Scalar.addi v606 c1_i32_411
  let c3_i32_412 : BitVec 32 := 3#32
  let c0_i32_413 : BitVec 32 := 0#32
  let v608 : BitVec 1 := Scalar.cmpi .eq c3_i32_412 c0_i32_413
  let c1_i32_414 : BitVec 32 := 1#32
  let v609 : BitVec 32 := Scalar.select v608 c1_i32_414 c3_i32_412
  let v610 : BitVec 32 := Scalar.remsi v607 v609
  let c0_i32_416 : BitVec 32 := 0#32
  let v612 : BitVec 1 := Scalar.cmpi .slt v610 c0_i32_416
  let c0_i32_417 : BitVec 32 := 0#32
  let v613 : BitVec 1 := Scalar.cmpi .slt v609 c0_i32_417
  let v614 : BitVec 1 := Scalar.xori v612 v613
  let c0_i32_415 : BitVec 32 := 0#32
  let v611 : BitVec 1 := Scalar.cmpi .ne v610 c0_i32_415
  let v615 : BitVec 1 := Scalar.andi v614 v611
  let v616 : BitVec 32 := Scalar.addi v610 v609
  let v617 : BitVec 32 := Scalar.select v615 v616 v610
  let c1_i32_418 : BitVec 32 := 1#32
  let v618 : BitVec 1 := Scalar.cmpi .ne v617 c1_i32_418
  let v619 : BitVec 1 := Scalar.andi v603 v618
  let v620 : BitVec 32 := Scalar.extui v619
  let c0_i32_419 : BitVec 32 := 0#32
  let v621 : BitVec 1 := Scalar.cmpi .ne v620 c0_i32_419
  v621

def k0_dev38 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_392 : BitVec 32 := 3#32
  let v577 : BitVec 32 := Scalar.addi v2 c3_i32_392
  let c32_i32_393 : BitVec 32 := 32#32
  let c0_i32_394 : BitVec 32 := 0#32
  let v578 : BitVec 1 := Scalar.cmpi .eq c32_i32_393 c0_i32_394
  let c1_i32_395 : BitVec 32 := 1#32
  let v579 : BitVec 32 := Scalar.select v578 c1_i32_395 c32_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  let c1_i32_3564 : BitVec 32 := 1#32
  let v5774 : BitVec 32 := Scalar.muli v587 c1_i32_3564
  let v5775 : BitVec 32 := Scalar.addi c0_i32_3565 v5774
  v5775.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_399 : BitVec 32 := 0#32
  let v588 : BitVec 1 := Scalar.cmpi .eq v2 c0_i32_399
  let c2_i32_400 : BitVec 32 := 2#32
  let c3_i32_392 : BitVec 32 := 3#32
  let v577 : BitVec 32 := Scalar.addi v2 c3_i32_392
  let c32_i32_393 : BitVec 32 := 32#32
  let c0_i32_394 : BitVec 32 := 0#32
  let v578 : BitVec 1 := Scalar.cmpi .eq c32_i32_393 c0_i32_394
  let c1_i32_395 : BitVec 32 := 1#32
  let v579 : BitVec 32 := Scalar.select v578 c1_i32_395 c32_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  let v589 : BitVec 32 := Scalar.muli c2_i32_400 v587
  let c2_i32_401 : BitVec 32 := 2#32
  let v590 : BitVec 32 := Scalar.muli c2_i32_401 v2
  let v591 : BitVec 32 := Scalar.addi v589 v590
  let c3_i32_402 : BitVec 32 := 3#32
  let c0_i32_403 : BitVec 32 := 0#32
  let v592 : BitVec 1 := Scalar.cmpi .eq c3_i32_402 c0_i32_403
  let c1_i32_404 : BitVec 32 := 1#32
  let v593 : BitVec 32 := Scalar.select v592 c1_i32_404 c3_i32_402
  let v594 : BitVec 32 := Scalar.remsi v591 v593
  let c0_i32_406 : BitVec 32 := 0#32
  let v596 : BitVec 1 := Scalar.cmpi .slt v594 c0_i32_406
  let c0_i32_407 : BitVec 32 := 0#32
  let v597 : BitVec 1 := Scalar.cmpi .slt v593 c0_i32_407
  let v598 : BitVec 1 := Scalar.xori v596 v597
  let c0_i32_405 : BitVec 32 := 0#32
  let v595 : BitVec 1 := Scalar.cmpi .ne v594 c0_i32_405
  let v599 : BitVec 1 := Scalar.andi v598 v595
  let v600 : BitVec 32 := Scalar.addi v594 v593
  let v601 : BitVec 32 := Scalar.select v599 v600 v594
  let c1_i32_408 : BitVec 32 := 1#32
  let v602 : BitVec 1 := Scalar.cmpi .ne v601 c1_i32_408
  let v603 : BitVec 1 := Scalar.ori v588 v602
  let c2_i32_409 : BitVec 32 := 2#32
  let v604 : BitVec 32 := Scalar.muli c2_i32_409 v587
  let c2_i32_410 : BitVec 32 := 2#32
  let v605 : BitVec 32 := Scalar.muli c2_i32_410 v2
  let v606 : BitVec 32 := Scalar.addi v604 v605
  let c1_i32_411 : BitVec 32 := 1#32
  let v607 : BitVec 32 := Scalar.addi v606 c1_i32_411
  let c3_i32_412 : BitVec 32 := 3#32
  let c0_i32_413 : BitVec 32 := 0#32
  let v608 : BitVec 1 := Scalar.cmpi .eq c3_i32_412 c0_i32_413
  let c1_i32_414 : BitVec 32 := 1#32
  let v609 : BitVec 32 := Scalar.select v608 c1_i32_414 c3_i32_412
  let v610 : BitVec 32 := Scalar.remsi v607 v609
  let c0_i32_416 : BitVec 32 := 0#32
  let v612 : BitVec 1 := Scalar.cmpi .slt v610 c0_i32_416
  let c0_i32_417 : BitVec 32 := 0#32
  let v613 : BitVec 1 := Scalar.cmpi .slt v609 c0_i32_417
  let v614 : BitVec 1 := Scalar.xori v612 v613
  let c0_i32_415 : BitVec 32 := 0#32
  let v611 : BitVec 1 := Scalar.cmpi .ne v610 c0_i32_415
  let v615 : BitVec 1 := Scalar.andi v614 v611
  let v616 : BitVec 32 := Scalar.addi v610 v609
  let v617 : BitVec 32 := Scalar.select v615 v616 v610
  let c1_i32_418 : BitVec 32 := 1#32
  let v618 : BitVec 1 := Scalar.cmpi .ne v617 c1_i32_418
  let true_420 : BitVec 1 := 1#1
  let v622 : BitVec 1 := Scalar.xori v618 true_420
  let v623 : BitVec 1 := Scalar.andi v603 v622
  let v624 : BitVec 32 := Scalar.extui v623
  let c0_i32_421 : BitVec 32 := 0#32
  let v625 : BitVec 1 := Scalar.cmpi .ne v624 c0_i32_421
  v625

def k0_dev39 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_392 : BitVec 32 := 3#32
  let v577 : BitVec 32 := Scalar.addi v2 c3_i32_392
  let c32_i32_393 : BitVec 32 := 32#32
  let c0_i32_394 : BitVec 32 := 0#32
  let v578 : BitVec 1 := Scalar.cmpi .eq c32_i32_393 c0_i32_394
  let c1_i32_395 : BitVec 32 := 1#32
  let v579 : BitVec 32 := Scalar.select v578 c1_i32_395 c32_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  let c1_i32_3566 : BitVec 32 := 1#32
  let v5774 : BitVec 32 := Scalar.muli v587 c1_i32_3566
  let v5775 : BitVec 32 := Scalar.addi c0_i32_3567 v5774
  v5775.toNat
def k0_cond9 (d0 : Dev nD) : BitVec 1 :=
  let c2_i32_409 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_392 : BitVec 32 := 3#32
  let v577 : BitVec 32 := Scalar.addi v2 c3_i32_392
  let c32_i32_393 : BitVec 32 := 32#32
  let c0_i32_394 : BitVec 32 := 0#32
  let v578 : BitVec 1 := Scalar.cmpi .eq c32_i32_393 c0_i32_394
  let c1_i32_395 : BitVec 32 := 1#32
  let v579 : BitVec 32 := Scalar.select v578 c1_i32_395 c32_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  let v604 : BitVec 32 := Scalar.muli c2_i32_409 v587
  let c2_i32_410 : BitVec 32 := 2#32
  let v605 : BitVec 32 := Scalar.muli c2_i32_410 v2
  let v606 : BitVec 32 := Scalar.addi v604 v605
  let c1_i32_411 : BitVec 32 := 1#32
  let v607 : BitVec 32 := Scalar.addi v606 c1_i32_411
  let c3_i32_412 : BitVec 32 := 3#32
  let c0_i32_413 : BitVec 32 := 0#32
  let v608 : BitVec 1 := Scalar.cmpi .eq c3_i32_412 c0_i32_413
  let c1_i32_414 : BitVec 32 := 1#32
  let v609 : BitVec 32 := Scalar.select v608 c1_i32_414 c3_i32_412
  let v610 : BitVec 32 := Scalar.remsi v607 v609
  let c0_i32_416 : BitVec 32 := 0#32
  let v612 : BitVec 1 := Scalar.cmpi .slt v610 c0_i32_416
  let c0_i32_417 : BitVec 32 := 0#32
  let v613 : BitVec 1 := Scalar.cmpi .slt v609 c0_i32_417
  let v614 : BitVec 1 := Scalar.xori v612 v613
  let c0_i32_415 : BitVec 32 := 0#32
  let v611 : BitVec 1 := Scalar.cmpi .ne v610 c0_i32_415
  let v615 : BitVec 1 := Scalar.andi v614 v611
  let v616 : BitVec 32 := Scalar.addi v610 v609
  let v617 : BitVec 32 := Scalar.select v615 v616 v610
  let c1_i32_418 : BitVec 32 := 1#32
  let v618 : BitVec 1 := Scalar.cmpi .ne v617 c1_i32_418
  let c0_i32_399 : BitVec 32 := 0#32
  let v588 : BitVec 1 := Scalar.cmpi .eq v2 c0_i32_399
  let c2_i32_400 : BitVec 32 := 2#32
  let v589 : BitVec 32 := Scalar.muli c2_i32_400 v587
  let c2_i32_401 : BitVec 32 := 2#32
  let v590 : BitVec 32 := Scalar.muli c2_i32_401 v2
  let v591 : BitVec 32 := Scalar.addi v589 v590
  let c3_i32_402 : BitVec 32 := 3#32
  let c0_i32_403 : BitVec 32 := 0#32
  let v592 : BitVec 1 := Scalar.cmpi .eq c3_i32_402 c0_i32_403
  let c1_i32_404 : BitVec 32 := 1#32
  let v593 : BitVec 32 := Scalar.select v592 c1_i32_404 c3_i32_402
  let v594 : BitVec 32 := Scalar.remsi v591 v593
  let c0_i32_406 : BitVec 32 := 0#32
  let v596 : BitVec 1 := Scalar.cmpi .slt v594 c0_i32_406
  let c0_i32_407 : BitVec 32 := 0#32
  let v597 : BitVec 1 := Scalar.cmpi .slt v593 c0_i32_407
  let v598 : BitVec 1 := Scalar.xori v596 v597
  let c0_i32_405 : BitVec 32 := 0#32
  let v595 : BitVec 1 := Scalar.cmpi .ne v594 c0_i32_405
  let v599 : BitVec 1 := Scalar.andi v598 v595
  let v600 : BitVec 32 := Scalar.addi v594 v593
  let v601 : BitVec 32 := Scalar.select v599 v600 v594
  let c1_i32_408 : BitVec 32 := 1#32
  let v602 : BitVec 1 := Scalar.cmpi .ne v601 c1_i32_408
  let v603 : BitVec 1 := Scalar.ori v588 v602
  let true_422 : BitVec 1 := 1#1
  let v626 : BitVec 1 := Scalar.xori v603 true_422
  let v627 : BitVec 1 := Scalar.andi v618 v626
  let v628 : BitVec 32 := Scalar.extui v627
  let c0_i32_423 : BitVec 32 := 0#32
  let v629 : BitVec 1 := Scalar.cmpi .ne v628 c0_i32_423
  v629

def k0_dev40 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_392 : BitVec 32 := 3#32
  let v577 : BitVec 32 := Scalar.addi v2 c3_i32_392
  let c32_i32_393 : BitVec 32 := 32#32
  let c0_i32_394 : BitVec 32 := 0#32
  let v578 : BitVec 1 := Scalar.cmpi .eq c32_i32_393 c0_i32_394
  let c1_i32_395 : BitVec 32 := 1#32
  let v579 : BitVec 32 := Scalar.select v578 c1_i32_395 c32_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  let c1_i32_3566 : BitVec 32 := 1#32
  let v5774 : BitVec 32 := Scalar.muli v587 c1_i32_3566
  let v5775 : BitVec 32 := Scalar.addi c0_i32_3567 v5774
  v5775.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_431 : BitVec 32 := 0#32
  let v641 : BitVec 1 := Scalar.cmpi .eq v2 c0_i32_431
  let c2_i32_432 : BitVec 32 := 2#32
  let c4_i32_424 : BitVec 32 := 4#32
  let v630 : BitVec 32 := Scalar.addi v2 c4_i32_424
  let c32_i32_425 : BitVec 32 := 32#32
  let c0_i32_426 : BitVec 32 := 0#32
  let v631 : BitVec 1 := Scalar.cmpi .eq c32_i32_425 c0_i32_426
  let c1_i32_427 : BitVec 32 := 1#32
  let v632 : BitVec 32 := Scalar.select v631 c1_i32_427 c32_i32_425
  let v633 : BitVec 32 := Scalar.remsi v630 v632
  let c0_i32_429 : BitVec 32 := 0#32
  let v635 : BitVec 1 := Scalar.cmpi .slt v633 c0_i32_429
  let c0_i32_430 : BitVec 32 := 0#32
  let v636 : BitVec 1 := Scalar.cmpi .slt v632 c0_i32_430
  let v637 : BitVec 1 := Scalar.xori v635 v636
  let c0_i32_428 : BitVec 32 := 0#32
  let v634 : BitVec 1 := Scalar.cmpi .ne v633 c0_i32_428
  let v638 : BitVec 1 := Scalar.andi v637 v634
  let v639 : BitVec 32 := Scalar.addi v633 v632
  let v640 : BitVec 32 := Scalar.select v638 v639 v633
  let v642 : BitVec 32 := Scalar.muli c2_i32_432 v640
  let c2_i32_433 : BitVec 32 := 2#32
  let v643 : BitVec 32 := Scalar.muli c2_i32_433 v2
  let v644 : BitVec 32 := Scalar.addi v642 v643
  let c3_i32_434 : BitVec 32 := 3#32
  let c0_i32_435 : BitVec 32 := 0#32
  let v645 : BitVec 1 := Scalar.cmpi .eq c3_i32_434 c0_i32_435
  let c1_i32_436 : BitVec 32 := 1#32
  let v646 : BitVec 32 := Scalar.select v645 c1_i32_436 c3_i32_434
  let v647 : BitVec 32 := Scalar.remsi v644 v646
  let c0_i32_438 : BitVec 32 := 0#32
  let v649 : BitVec 1 := Scalar.cmpi .slt v647 c0_i32_438
  let c0_i32_439 : BitVec 32 := 0#32
  let v650 : BitVec 1 := Scalar.cmpi .slt v646 c0_i32_439
  let v651 : BitVec 1 := Scalar.xori v649 v650
  let c0_i32_437 : BitVec 32 := 0#32
  let v648 : BitVec 1 := Scalar.cmpi .ne v647 c0_i32_437
  let v652 : BitVec 1 := Scalar.andi v651 v648
  let v653 : BitVec 32 := Scalar.addi v647 v646
  let v654 : BitVec 32 := Scalar.select v652 v653 v647
  let c1_i32_440 : BitVec 32 := 1#32
  let v655 : BitVec 1 := Scalar.cmpi .ne v654 c1_i32_440
  let v656 : BitVec 1 := Scalar.ori v641 v655
  let c2_i32_441 : BitVec 32 := 2#32
  let v657 : BitVec 32 := Scalar.muli c2_i32_441 v640
  let c2_i32_442 : BitVec 32 := 2#32
  let v658 : BitVec 32 := Scalar.muli c2_i32_442 v2
  let v659 : BitVec 32 := Scalar.addi v657 v658
  let c1_i32_443 : BitVec 32 := 1#32
  let v660 : BitVec 32 := Scalar.addi v659 c1_i32_443
  let c3_i32_444 : BitVec 32 := 3#32
  let c0_i32_445 : BitVec 32 := 0#32
  let v661 : BitVec 1 := Scalar.cmpi .eq c3_i32_444 c0_i32_445
  let c1_i32_446 : BitVec 32 := 1#32
  let v662 : BitVec 32 := Scalar.select v661 c1_i32_446 c3_i32_444
  let v663 : BitVec 32 := Scalar.remsi v660 v662
  let c0_i32_448 : BitVec 32 := 0#32
  let v665 : BitVec 1 := Scalar.cmpi .slt v663 c0_i32_448
  let c0_i32_449 : BitVec 32 := 0#32
  let v666 : BitVec 1 := Scalar.cmpi .slt v662 c0_i32_449
  let v667 : BitVec 1 := Scalar.xori v665 v666
  let c0_i32_447 : BitVec 32 := 0#32
  let v664 : BitVec 1 := Scalar.cmpi .ne v663 c0_i32_447
  let v668 : BitVec 1 := Scalar.andi v667 v664
  let v669 : BitVec 32 := Scalar.addi v663 v662
  let v670 : BitVec 32 := Scalar.select v668 v669 v663
  let c1_i32_450 : BitVec 32 := 1#32
  let v671 : BitVec 1 := Scalar.cmpi .ne v670 c1_i32_450
  let v672 : BitVec 1 := Scalar.andi v656 v671
  let v673 : BitVec 32 := Scalar.extui v672
  let c0_i32_451 : BitVec 32 := 0#32
  let v674 : BitVec 1 := Scalar.cmpi .ne v673 c0_i32_451
  v674

def k0_dev41 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_424 : BitVec 32 := 4#32
  let v630 : BitVec 32 := Scalar.addi v2 c4_i32_424
  let c32_i32_425 : BitVec 32 := 32#32
  let c0_i32_426 : BitVec 32 := 0#32
  let v631 : BitVec 1 := Scalar.cmpi .eq c32_i32_425 c0_i32_426
  let c1_i32_427 : BitVec 32 := 1#32
  let v632 : BitVec 32 := Scalar.select v631 c1_i32_427 c32_i32_425
  let v633 : BitVec 32 := Scalar.remsi v630 v632
  let c0_i32_429 : BitVec 32 := 0#32
  let v635 : BitVec 1 := Scalar.cmpi .slt v633 c0_i32_429
  let c0_i32_430 : BitVec 32 := 0#32
  let v636 : BitVec 1 := Scalar.cmpi .slt v632 c0_i32_430
  let v637 : BitVec 1 := Scalar.xori v635 v636
  let c0_i32_428 : BitVec 32 := 0#32
  let v634 : BitVec 1 := Scalar.cmpi .ne v633 c0_i32_428
  let v638 : BitVec 1 := Scalar.andi v637 v634
  let v639 : BitVec 32 := Scalar.addi v633 v632
  let v640 : BitVec 32 := Scalar.select v638 v639 v633
  let c1_i32_3564 : BitVec 32 := 1#32
  let v5774 : BitVec 32 := Scalar.muli v640 c1_i32_3564
  let v5775 : BitVec 32 := Scalar.addi c0_i32_3565 v5774
  v5775.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_431 : BitVec 32 := 0#32
  let v641 : BitVec 1 := Scalar.cmpi .eq v2 c0_i32_431
  let c2_i32_432 : BitVec 32 := 2#32
  let c4_i32_424 : BitVec 32 := 4#32
  let v630 : BitVec 32 := Scalar.addi v2 c4_i32_424
  let c32_i32_425 : BitVec 32 := 32#32
  let c0_i32_426 : BitVec 32 := 0#32
  let v631 : BitVec 1 := Scalar.cmpi .eq c32_i32_425 c0_i32_426
  let c1_i32_427 : BitVec 32 := 1#32
  let v632 : BitVec 32 := Scalar.select v631 c1_i32_427 c32_i32_425
  let v633 : BitVec 32 := Scalar.remsi v630 v632
  let c0_i32_429 : BitVec 32 := 0#32
  let v635 : BitVec 1 := Scalar.cmpi .slt v633 c0_i32_429
  let c0_i32_430 : BitVec 32 := 0#32
  let v636 : BitVec 1 := Scalar.cmpi .slt v632 c0_i32_430
  let v637 : BitVec 1 := Scalar.xori v635 v636
  let c0_i32_428 : BitVec 32 := 0#32
  let v634 : BitVec 1 := Scalar.cmpi .ne v633 c0_i32_428
  let v638 : BitVec 1 := Scalar.andi v637 v634
  let v639 : BitVec 32 := Scalar.addi v633 v632
  let v640 : BitVec 32 := Scalar.select v638 v639 v633
  let v642 : BitVec 32 := Scalar.muli c2_i32_432 v640
  let c2_i32_433 : BitVec 32 := 2#32
  let v643 : BitVec 32 := Scalar.muli c2_i32_433 v2
  let v644 : BitVec 32 := Scalar.addi v642 v643
  let c3_i32_434 : BitVec 32 := 3#32
  let c0_i32_435 : BitVec 32 := 0#32
  let v645 : BitVec 1 := Scalar.cmpi .eq c3_i32_434 c0_i32_435
  let c1_i32_436 : BitVec 32 := 1#32
  let v646 : BitVec 32 := Scalar.select v645 c1_i32_436 c3_i32_434
  let v647 : BitVec 32 := Scalar.remsi v644 v646
  let c0_i32_438 : BitVec 32 := 0#32
  let v649 : BitVec 1 := Scalar.cmpi .slt v647 c0_i32_438
  let c0_i32_439 : BitVec 32 := 0#32
  let v650 : BitVec 1 := Scalar.cmpi .slt v646 c0_i32_439
  let v651 : BitVec 1 := Scalar.xori v649 v650
  let c0_i32_437 : BitVec 32 := 0#32
  let v648 : BitVec 1 := Scalar.cmpi .ne v647 c0_i32_437
  let v652 : BitVec 1 := Scalar.andi v651 v648
  let v653 : BitVec 32 := Scalar.addi v647 v646
  let v654 : BitVec 32 := Scalar.select v652 v653 v647
  let c1_i32_440 : BitVec 32 := 1#32
  let v655 : BitVec 1 := Scalar.cmpi .ne v654 c1_i32_440
  let v656 : BitVec 1 := Scalar.ori v641 v655
  let c2_i32_441 : BitVec 32 := 2#32
  let v657 : BitVec 32 := Scalar.muli c2_i32_441 v640
  let c2_i32_442 : BitVec 32 := 2#32
  let v658 : BitVec 32 := Scalar.muli c2_i32_442 v2
  let v659 : BitVec 32 := Scalar.addi v657 v658
  let c1_i32_443 : BitVec 32 := 1#32
  let v660 : BitVec 32 := Scalar.addi v659 c1_i32_443
  let c3_i32_444 : BitVec 32 := 3#32
  let c0_i32_445 : BitVec 32 := 0#32
  let v661 : BitVec 1 := Scalar.cmpi .eq c3_i32_444 c0_i32_445
  let c1_i32_446 : BitVec 32 := 1#32
  let v662 : BitVec 32 := Scalar.select v661 c1_i32_446 c3_i32_444
  let v663 : BitVec 32 := Scalar.remsi v660 v662
  let c0_i32_448 : BitVec 32 := 0#32
  let v665 : BitVec 1 := Scalar.cmpi .slt v663 c0_i32_448
  let c0_i32_449 : BitVec 32 := 0#32
  let v666 : BitVec 1 := Scalar.cmpi .slt v662 c0_i32_449
  let v667 : BitVec 1 := Scalar.xori v665 v666
  let c0_i32_447 : BitVec 32 := 0#32
  let v664 : BitVec 1 := Scalar.cmpi .ne v663 c0_i32_447
  let v668 : BitVec 1 := Scalar.andi v667 v664
  let v669 : BitVec 32 := Scalar.addi v663 v662
  let v670 : BitVec 32 := Scalar.select v668 v669 v663
  let c1_i32_450 : BitVec 32 := 1#32
  let v671 : BitVec 1 := Scalar.cmpi .ne v670 c1_i32_450
  let true_452 : BitVec 1 := 1#1
  let v675 : BitVec 1 := Scalar.xori v671 true_452
  let v676 : BitVec 1 := Scalar.andi v656 v675
  let v677 : BitVec 32 := Scalar.extui v676
  let c0_i32_453 : BitVec 32 := 0#32
  let v678 : BitVec 1 := Scalar.cmpi .ne v677 c0_i32_453
  v678

def k0_dev42 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_424 : BitVec 32 := 4#32
  let v630 : BitVec 32 := Scalar.addi v2 c4_i32_424
  let c32_i32_425 : BitVec 32 := 32#32
  let c0_i32_426 : BitVec 32 := 0#32
  let v631 : BitVec 1 := Scalar.cmpi .eq c32_i32_425 c0_i32_426
  let c1_i32_427 : BitVec 32 := 1#32
  let v632 : BitVec 32 := Scalar.select v631 c1_i32_427 c32_i32_425
  let v633 : BitVec 32 := Scalar.remsi v630 v632
  let c0_i32_429 : BitVec 32 := 0#32
  let v635 : BitVec 1 := Scalar.cmpi .slt v633 c0_i32_429
  let c0_i32_430 : BitVec 32 := 0#32
  let v636 : BitVec 1 := Scalar.cmpi .slt v632 c0_i32_430
  let v637 : BitVec 1 := Scalar.xori v635 v636
  let c0_i32_428 : BitVec 32 := 0#32
  let v634 : BitVec 1 := Scalar.cmpi .ne v633 c0_i32_428
  let v638 : BitVec 1 := Scalar.andi v637 v634
  let v639 : BitVec 32 := Scalar.addi v633 v632
  let v640 : BitVec 32 := Scalar.select v638 v639 v633
  let c1_i32_3566 : BitVec 32 := 1#32
  let v5774 : BitVec 32 := Scalar.muli v640 c1_i32_3566
  let v5775 : BitVec 32 := Scalar.addi c0_i32_3567 v5774
  v5775.toNat
def k0_cond12 (d0 : Dev nD) : BitVec 1 :=
  let c2_i32_441 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_424 : BitVec 32 := 4#32
  let v630 : BitVec 32 := Scalar.addi v2 c4_i32_424
  let c32_i32_425 : BitVec 32 := 32#32
  let c0_i32_426 : BitVec 32 := 0#32
  let v631 : BitVec 1 := Scalar.cmpi .eq c32_i32_425 c0_i32_426
  let c1_i32_427 : BitVec 32 := 1#32
  let v632 : BitVec 32 := Scalar.select v631 c1_i32_427 c32_i32_425
  let v633 : BitVec 32 := Scalar.remsi v630 v632
  let c0_i32_429 : BitVec 32 := 0#32
  let v635 : BitVec 1 := Scalar.cmpi .slt v633 c0_i32_429
  let c0_i32_430 : BitVec 32 := 0#32
  let v636 : BitVec 1 := Scalar.cmpi .slt v632 c0_i32_430
  let v637 : BitVec 1 := Scalar.xori v635 v636
  let c0_i32_428 : BitVec 32 := 0#32
  let v634 : BitVec 1 := Scalar.cmpi .ne v633 c0_i32_428
  let v638 : BitVec 1 := Scalar.andi v637 v634
  let v639 : BitVec 32 := Scalar.addi v633 v632
  let v640 : BitVec 32 := Scalar.select v638 v639 v633
  let v657 : BitVec 32 := Scalar.muli c2_i32_441 v640
  let c2_i32_442 : BitVec 32 := 2#32
  let v658 : BitVec 32 := Scalar.muli c2_i32_442 v2
  let v659 : BitVec 32 := Scalar.addi v657 v658
  let c1_i32_443 : BitVec 32 := 1#32
  let v660 : BitVec 32 := Scalar.addi v659 c1_i32_443
  let c3_i32_444 : BitVec 32 := 3#32
  let c0_i32_445 : BitVec 32 := 0#32
  let v661 : BitVec 1 := Scalar.cmpi .eq c3_i32_444 c0_i32_445
  let c1_i32_446 : BitVec 32 := 1#32
  let v662 : BitVec 32 := Scalar.select v661 c1_i32_446 c3_i32_444
  let v663 : BitVec 32 := Scalar.remsi v660 v662
  let c0_i32_448 : BitVec 32 := 0#32
  let v665 : BitVec 1 := Scalar.cmpi .slt v663 c0_i32_448
  let c0_i32_449 : BitVec 32 := 0#32
  let v666 : BitVec 1 := Scalar.cmpi .slt v662 c0_i32_449
  let v667 : BitVec 1 := Scalar.xori v665 v666
  let c0_i32_447 : BitVec 32 := 0#32
  let v664 : BitVec 1 := Scalar.cmpi .ne v663 c0_i32_447
  let v668 : BitVec 1 := Scalar.andi v667 v664
  let v669 : BitVec 32 := Scalar.addi v663 v662
  let v670 : BitVec 32 := Scalar.select v668 v669 v663
  let c1_i32_450 : BitVec 32 := 1#32
  let v671 : BitVec 1 := Scalar.cmpi .ne v670 c1_i32_450
  let c0_i32_431 : BitVec 32 := 0#32
  let v641 : BitVec 1 := Scalar.cmpi .eq v2 c0_i32_431
  let c2_i32_432 : BitVec 32 := 2#32
  let v642 : BitVec 32 := Scalar.muli c2_i32_432 v640
  let c2_i32_433 : BitVec 32 := 2#32
  let v643 : BitVec 32 := Scalar.muli c2_i32_433 v2
  let v644 : BitVec 32 := Scalar.addi v642 v643
  let c3_i32_434 : BitVec 32 := 3#32
  let c0_i32_435 : BitVec 32 := 0#32
  let v645 : BitVec 1 := Scalar.cmpi .eq c3_i32_434 c0_i32_435
  let c1_i32_436 : BitVec 32 := 1#32
  let v646 : BitVec 32 := Scalar.select v645 c1_i32_436 c3_i32_434
  let v647 : BitVec 32 := Scalar.remsi v644 v646
  let c0_i32_438 : BitVec 32 := 0#32
  let v649 : BitVec 1 := Scalar.cmpi .slt v647 c0_i32_438
  let c0_i32_439 : BitVec 32 := 0#32
  let v650 : BitVec 1 := Scalar.cmpi .slt v646 c0_i32_439
  let v651 : BitVec 1 := Scalar.xori v649 v650
  let c0_i32_437 : BitVec 32 := 0#32
  let v648 : BitVec 1 := Scalar.cmpi .ne v647 c0_i32_437
  let v652 : BitVec 1 := Scalar.andi v651 v648
  let v653 : BitVec 32 := Scalar.addi v647 v646
  let v654 : BitVec 32 := Scalar.select v652 v653 v647
  let c1_i32_440 : BitVec 32 := 1#32
  let v655 : BitVec 1 := Scalar.cmpi .ne v654 c1_i32_440
  let v656 : BitVec 1 := Scalar.ori v641 v655
  let true_454 : BitVec 1 := 1#1
  let v679 : BitVec 1 := Scalar.xori v656 true_454
  let v680 : BitVec 1 := Scalar.andi v671 v679
  let v681 : BitVec 32 := Scalar.extui v680
  let c0_i32_455 : BitVec 32 := 0#32
  let v682 : BitVec 1 := Scalar.cmpi .ne v681 c0_i32_455
  v682

def k0_dev43 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_424 : BitVec 32 := 4#32
  let v630 : BitVec 32 := Scalar.addi v2 c4_i32_424
  let c32_i32_425 : BitVec 32 := 32#32
  let c0_i32_426 : BitVec 32 := 0#32
  let v631 : BitVec 1 := Scalar.cmpi .eq c32_i32_425 c0_i32_426
  let c1_i32_427 : BitVec 32 := 1#32
  let v632 : BitVec 32 := Scalar.select v631 c1_i32_427 c32_i32_425
  let v633 : BitVec 32 := Scalar.remsi v630 v632
  let c0_i32_429 : BitVec 32 := 0#32
  let v635 : BitVec 1 := Scalar.cmpi .slt v633 c0_i32_429
  let c0_i32_430 : BitVec 32 := 0#32
  let v636 : BitVec 1 := Scalar.cmpi .slt v632 c0_i32_430
  let v637 : BitVec 1 := Scalar.xori v635 v636
  let c0_i32_428 : BitVec 32 := 0#32
  let v634 : BitVec 1 := Scalar.cmpi .ne v633 c0_i32_428
  let v638 : BitVec 1 := Scalar.andi v637 v634
  let v639 : BitVec 32 := Scalar.addi v633 v632
  let v640 : BitVec 32 := Scalar.select v638 v639 v633
  let c1_i32_3566 : BitVec 32 := 1#32
  let v5774 : BitVec 32 := Scalar.muli v640 c1_i32_3566
  let v5775 : BitVec 32 := Scalar.addi c0_i32_3567 v5774
  v5775.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_463 : BitVec 32 := 0#32
  let v694 : BitVec 1 := Scalar.cmpi .eq v2 c0_i32_463
  let c2_i32_464 : BitVec 32 := 2#32
  let c5_i32_456 : BitVec 32 := 5#32
  let v683 : BitVec 32 := Scalar.addi v2 c5_i32_456
  let c32_i32_457 : BitVec 32 := 32#32
  let c0_i32_458 : BitVec 32 := 0#32
  let v684 : BitVec 1 := Scalar.cmpi .eq c32_i32_457 c0_i32_458
  let c1_i32_459 : BitVec 32 := 1#32
  let v685 : BitVec 32 := Scalar.select v684 c1_i32_459 c32_i32_457
  let v686 : BitVec 32 := Scalar.remsi v683 v685
  let c0_i32_461 : BitVec 32 := 0#32
  let v688 : BitVec 1 := Scalar.cmpi .slt v686 c0_i32_461
  let c0_i32_462 : BitVec 32 := 0#32
  let v689 : BitVec 1 := Scalar.cmpi .slt v685 c0_i32_462
  let v690 : BitVec 1 := Scalar.xori v688 v689
  let c0_i32_460 : BitVec 32 := 0#32
  let v687 : BitVec 1 := Scalar.cmpi .ne v686 c0_i32_460
  let v691 : BitVec 1 := Scalar.andi v690 v687
  let v692 : BitVec 32 := Scalar.addi v686 v685
  let v693 : BitVec 32 := Scalar.select v691 v692 v686
  let v695 : BitVec 32 := Scalar.muli c2_i32_464 v693
  let c2_i32_465 : BitVec 32 := 2#32
  let v696 : BitVec 32 := Scalar.muli c2_i32_465 v2
  let v697 : BitVec 32 := Scalar.addi v695 v696
  let c3_i32_466 : BitVec 32 := 3#32
  let c0_i32_467 : BitVec 32 := 0#32
  let v698 : BitVec 1 := Scalar.cmpi .eq c3_i32_466 c0_i32_467
  let c1_i32_468 : BitVec 32 := 1#32
  let v699 : BitVec 32 := Scalar.select v698 c1_i32_468 c3_i32_466
  let v700 : BitVec 32 := Scalar.remsi v697 v699
  let c0_i32_470 : BitVec 32 := 0#32
  let v702 : BitVec 1 := Scalar.cmpi .slt v700 c0_i32_470
  let c0_i32_471 : BitVec 32 := 0#32
  let v703 : BitVec 1 := Scalar.cmpi .slt v699 c0_i32_471
  let v704 : BitVec 1 := Scalar.xori v702 v703
  let c0_i32_469 : BitVec 32 := 0#32
  let v701 : BitVec 1 := Scalar.cmpi .ne v700 c0_i32_469
  let v705 : BitVec 1 := Scalar.andi v704 v701
  let v706 : BitVec 32 := Scalar.addi v700 v699
  let v707 : BitVec 32 := Scalar.select v705 v706 v700
  let c1_i32_472 : BitVec 32 := 1#32
  let v708 : BitVec 1 := Scalar.cmpi .ne v707 c1_i32_472
  let v709 : BitVec 1 := Scalar.ori v694 v708
  let c2_i32_473 : BitVec 32 := 2#32
  let v710 : BitVec 32 := Scalar.muli c2_i32_473 v693
  let c2_i32_474 : BitVec 32 := 2#32
  let v711 : BitVec 32 := Scalar.muli c2_i32_474 v2
  let v712 : BitVec 32 := Scalar.addi v710 v711
  let c1_i32_475 : BitVec 32 := 1#32
  let v713 : BitVec 32 := Scalar.addi v712 c1_i32_475
  let c3_i32_476 : BitVec 32 := 3#32
  let c0_i32_477 : BitVec 32 := 0#32
  let v714 : BitVec 1 := Scalar.cmpi .eq c3_i32_476 c0_i32_477
  let c1_i32_478 : BitVec 32 := 1#32
  let v715 : BitVec 32 := Scalar.select v714 c1_i32_478 c3_i32_476
  let v716 : BitVec 32 := Scalar.remsi v713 v715
  let c0_i32_480 : BitVec 32 := 0#32
  let v718 : BitVec 1 := Scalar.cmpi .slt v716 c0_i32_480
  let c0_i32_481 : BitVec 32 := 0#32
  let v719 : BitVec 1 := Scalar.cmpi .slt v715 c0_i32_481
  let v720 : BitVec 1 := Scalar.xori v718 v719
  let c0_i32_479 : BitVec 32 := 0#32
  let v717 : BitVec 1 := Scalar.cmpi .ne v716 c0_i32_479
  let v721 : BitVec 1 := Scalar.andi v720 v717
  let v722 : BitVec 32 := Scalar.addi v716 v715
  let v723 : BitVec 32 := Scalar.select v721 v722 v716
  let c1_i32_482 : BitVec 32 := 1#32
  let v724 : BitVec 1 := Scalar.cmpi .ne v723 c1_i32_482
  let v725 : BitVec 1 := Scalar.andi v709 v724
  let v726 : BitVec 32 := Scalar.extui v725
  let c0_i32_483 : BitVec 32 := 0#32
  let v727 : BitVec 1 := Scalar.cmpi .ne v726 c0_i32_483
  v727

def k0_dev44 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_456 : BitVec 32 := 5#32
  let v683 : BitVec 32 := Scalar.addi v2 c5_i32_456
  let c32_i32_457 : BitVec 32 := 32#32
  let c0_i32_458 : BitVec 32 := 0#32
  let v684 : BitVec 1 := Scalar.cmpi .eq c32_i32_457 c0_i32_458
  let c1_i32_459 : BitVec 32 := 1#32
  let v685 : BitVec 32 := Scalar.select v684 c1_i32_459 c32_i32_457
  let v686 : BitVec 32 := Scalar.remsi v683 v685
  let c0_i32_461 : BitVec 32 := 0#32
  let v688 : BitVec 1 := Scalar.cmpi .slt v686 c0_i32_461
  let c0_i32_462 : BitVec 32 := 0#32
  let v689 : BitVec 1 := Scalar.cmpi .slt v685 c0_i32_462
  let v690 : BitVec 1 := Scalar.xori v688 v689
  let c0_i32_460 : BitVec 32 := 0#32
  let v687 : BitVec 1 := Scalar.cmpi .ne v686 c0_i32_460
  let v691 : BitVec 1 := Scalar.andi v690 v687
  let v692 : BitVec 32 := Scalar.addi v686 v685
  let v693 : BitVec 32 := Scalar.select v691 v692 v686
  let c1_i32_3564 : BitVec 32 := 1#32
  let v5774 : BitVec 32 := Scalar.muli v693 c1_i32_3564
  let v5775 : BitVec 32 := Scalar.addi c0_i32_3565 v5774
  v5775.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_463 : BitVec 32 := 0#32
  let v694 : BitVec 1 := Scalar.cmpi .eq v2 c0_i32_463
  let c2_i32_464 : BitVec 32 := 2#32
  let c5_i32_456 : BitVec 32 := 5#32
  let v683 : BitVec 32 := Scalar.addi v2 c5_i32_456
  let c32_i32_457 : BitVec 32 := 32#32
  let c0_i32_458 : BitVec 32 := 0#32
  let v684 : BitVec 1 := Scalar.cmpi .eq c32_i32_457 c0_i32_458
  let c1_i32_459 : BitVec 32 := 1#32
  let v685 : BitVec 32 := Scalar.select v684 c1_i32_459 c32_i32_457
  let v686 : BitVec 32 := Scalar.remsi v683 v685
  let c0_i32_461 : BitVec 32 := 0#32
  let v688 : BitVec 1 := Scalar.cmpi .slt v686 c0_i32_461
  let c0_i32_462 : BitVec 32 := 0#32
  let v689 : BitVec 1 := Scalar.cmpi .slt v685 c0_i32_462
  let v690 : BitVec 1 := Scalar.xori v688 v689
  let c0_i32_460 : BitVec 32 := 0#32
  let v687 : BitVec 1 := Scalar.cmpi .ne v686 c0_i32_460
  let v691 : BitVec 1 := Scalar.andi v690 v687
  let v692 : BitVec 32 := Scalar.addi v686 v685
  let v693 : BitVec 32 := Scalar.select v691 v692 v686
  let v695 : BitVec 32 := Scalar.muli c2_i32_464 v693
  let c2_i32_465 : BitVec 32 := 2#32
  let v696 : BitVec 32 := Scalar.muli c2_i32_465 v2
  let v697 : BitVec 32 := Scalar.addi v695 v696
  let c3_i32_466 : BitVec 32 := 3#32
  let c0_i32_467 : BitVec 32 := 0#32
  let v698 : BitVec 1 := Scalar.cmpi .eq c3_i32_466 c0_i32_467
  let c1_i32_468 : BitVec 32 := 1#32
  let v699 : BitVec 32 := Scalar.select v698 c1_i32_468 c3_i32_466
  let v700 : BitVec 32 := Scalar.remsi v697 v699
  let c0_i32_470 : BitVec 32 := 0#32
  let v702 : BitVec 1 := Scalar.cmpi .slt v700 c0_i32_470
  let c0_i32_471 : BitVec 32 := 0#32
  let v703 : BitVec 1 := Scalar.cmpi .slt v699 c0_i32_471
  let v704 : BitVec 1 := Scalar.xori v702 v703
  let c0_i32_469 : BitVec 32 := 0#32
  let v701 : BitVec 1 := Scalar.cmpi .ne v700 c0_i32_469
  let v705 : BitVec 1 := Scalar.andi v704 v701
  let v706 : BitVec 32 := Scalar.addi v700 v699
  let v707 : BitVec 32 := Scalar.select v705 v706 v700
  let c1_i32_472 : BitVec 32 := 1#32
  let v708 : BitVec 1 := Scalar.cmpi .ne v707 c1_i32_472
  let v709 : BitVec 1 := Scalar.ori v694 v708
  let c2_i32_473 : BitVec 32 := 2#32
  let v710 : BitVec 32 := Scalar.muli c2_i32_473 v693
  let c2_i32_474 : BitVec 32 := 2#32
  let v711 : BitVec 32 := Scalar.muli c2_i32_474 v2
  let v712 : BitVec 32 := Scalar.addi v710 v711
  let c1_i32_475 : BitVec 32 := 1#32
  let v713 : BitVec 32 := Scalar.addi v712 c1_i32_475
  let c3_i32_476 : BitVec 32 := 3#32
  let c0_i32_477 : BitVec 32 := 0#32
  let v714 : BitVec 1 := Scalar.cmpi .eq c3_i32_476 c0_i32_477
  let c1_i32_478 : BitVec 32 := 1#32
  let v715 : BitVec 32 := Scalar.select v714 c1_i32_478 c3_i32_476
  let v716 : BitVec 32 := Scalar.remsi v713 v715
  let c0_i32_480 : BitVec 32 := 0#32
  let v718 : BitVec 1 := Scalar.cmpi .slt v716 c0_i32_480
  let c0_i32_481 : BitVec 32 := 0#32
  let v719 : BitVec 1 := Scalar.cmpi .slt v715 c0_i32_481
  let v720 : BitVec 1 := Scalar.xori v718 v719
  let c0_i32_479 : BitVec 32 := 0#32
  let v717 : BitVec 1 := Scalar.cmpi .ne v716 c0_i32_479
  let v721 : BitVec 1 := Scalar.andi v720 v717
  let v722 : BitVec 32 := Scalar.addi v716 v715
  let v723 : BitVec 32 := Scalar.select v721 v722 v716
  let c1_i32_482 : BitVec 32 := 1#32
  let v724 : BitVec 1 := Scalar.cmpi .ne v723 c1_i32_482
  let true_484 : BitVec 1 := 1#1
  let v728 : BitVec 1 := Scalar.xori v724 true_484
  let v729 : BitVec 1 := Scalar.andi v709 v728
  let v730 : BitVec 32 := Scalar.extui v729
  let c0_i32_485 : BitVec 32 := 0#32
  let v731 : BitVec 1 := Scalar.cmpi .ne v730 c0_i32_485
  v731

def k0_dev45 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_456 : BitVec 32 := 5#32
  let v683 : BitVec 32 := Scalar.addi v2 c5_i32_456
  let c32_i32_457 : BitVec 32 := 32#32
  let c0_i32_458 : BitVec 32 := 0#32
  let v684 : BitVec 1 := Scalar.cmpi .eq c32_i32_457 c0_i32_458
  let c1_i32_459 : BitVec 32 := 1#32
  let v685 : BitVec 32 := Scalar.select v684 c1_i32_459 c32_i32_457
  let v686 : BitVec 32 := Scalar.remsi v683 v685
  let c0_i32_461 : BitVec 32 := 0#32
  let v688 : BitVec 1 := Scalar.cmpi .slt v686 c0_i32_461
  let c0_i32_462 : BitVec 32 := 0#32
  let v689 : BitVec 1 := Scalar.cmpi .slt v685 c0_i32_462
  let v690 : BitVec 1 := Scalar.xori v688 v689
  let c0_i32_460 : BitVec 32 := 0#32
  let v687 : BitVec 1 := Scalar.cmpi .ne v686 c0_i32_460
  let v691 : BitVec 1 := Scalar.andi v690 v687
  let v692 : BitVec 32 := Scalar.addi v686 v685
  let v693 : BitVec 32 := Scalar.select v691 v692 v686
  let c1_i32_3566 : BitVec 32 := 1#32
  let v5774 : BitVec 32 := Scalar.muli v693 c1_i32_3566
  let v5775 : BitVec 32 := Scalar.addi c0_i32_3567 v5774
  v5775.toNat
def k0_cond15 (d0 : Dev nD) : BitVec 1 :=
  let c2_i32_473 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_456 : BitVec 32 := 5#32
  let v683 : BitVec 32 := Scalar.addi v2 c5_i32_456
  let c32_i32_457 : BitVec 32 := 32#32
  let c0_i32_458 : BitVec 32 := 0#32
  let v684 : BitVec 1 := Scalar.cmpi .eq c32_i32_457 c0_i32_458
  let c1_i32_459 : BitVec 32 := 1#32
  let v685 : BitVec 32 := Scalar.select v684 c1_i32_459 c32_i32_457
  let v686 : BitVec 32 := Scalar.remsi v683 v685
  let c0_i32_461 : BitVec 32 := 0#32
  let v688 : BitVec 1 := Scalar.cmpi .slt v686 c0_i32_461
  let c0_i32_462 : BitVec 32 := 0#32
  let v689 : BitVec 1 := Scalar.cmpi .slt v685 c0_i32_462
  let v690 : BitVec 1 := Scalar.xori v688 v689
  let c0_i32_460 : BitVec 32 := 0#32
  let v687 : BitVec 1 := Scalar.cmpi .ne v686 c0_i32_460
  let v691 : BitVec 1 := Scalar.andi v690 v687
  let v692 : BitVec 32 := Scalar.addi v686 v685
  let v693 : BitVec 32 := Scalar.select v691 v692 v686
  let v710 : BitVec 32 := Scalar.muli c2_i32_473 v693
  let c2_i32_474 : BitVec 32 := 2#32
  let v711 : BitVec 32 := Scalar.muli c2_i32_474 v2
  let v712 : BitVec 32 := Scalar.addi v710 v711
  let c1_i32_475 : BitVec 32 := 1#32
  let v713 : BitVec 32 := Scalar.addi v712 c1_i32_475
  let c3_i32_476 : BitVec 32 := 3#32
  let c0_i32_477 : BitVec 32 := 0#32
  let v714 : BitVec 1 := Scalar.cmpi .eq c3_i32_476 c0_i32_477
  let c1_i32_478 : BitVec 32 := 1#32
  let v715 : BitVec 32 := Scalar.select v714 c1_i32_478 c3_i32_476
  let v716 : BitVec 32 := Scalar.remsi v713 v715
  let c0_i32_480 : BitVec 32 := 0#32
  let v718 : BitVec 1 := Scalar.cmpi .slt v716 c0_i32_480
  let c0_i32_481 : BitVec 32 := 0#32
  let v719 : BitVec 1 := Scalar.cmpi .slt v715 c0_i32_481
  let v720 : BitVec 1 := Scalar.xori v718 v719
  let c0_i32_479 : BitVec 32 := 0#32
  let v717 : BitVec 1 := Scalar.cmpi .ne v716 c0_i32_479
  let v721 : BitVec 1 := Scalar.andi v720 v717
  let v722 : BitVec 32 := Scalar.addi v716 v715
  let v723 : BitVec 32 := Scalar.select v721 v722 v716
  let c1_i32_482 : BitVec 32 := 1#32
  let v724 : BitVec 1 := Scalar.cmpi .ne v723 c1_i32_482
  let c0_i32_463 : BitVec 32 := 0#32
  let v694 : BitVec 1 := Scalar.cmpi .eq v2 c0_i32_463
  let c2_i32_464 : BitVec 32 := 2#32
  let v695 : BitVec 32 := Scalar.muli c2_i32_464 v693
  let c2_i32_465 : BitVec 32 := 2#32
  let v696 : BitVec 32 := Scalar.muli c2_i32_465 v2
  let v697 : BitVec 32 := Scalar.addi v695 v696
  let c3_i32_466 : BitVec 32 := 3#32
  let c0_i32_467 : BitVec 32 := 0#32
  let v698 : BitVec 1 := Scalar.cmpi .eq c3_i32_466 c0_i32_467
  let c1_i32_468 : BitVec 32 := 1#32
  let v699 : BitVec 32 := Scalar.select v698 c1_i32_468 c3_i32_466
  let v700 : BitVec 32 := Scalar.remsi v697 v699
  let c0_i32_470 : BitVec 32 := 0#32
  let v702 : BitVec 1 := Scalar.cmpi .slt v700 c0_i32_470
  let c0_i32_471 : BitVec 32 := 0#32
  let v703 : BitVec 1 := Scalar.cmpi .slt v699 c0_i32_471
  let v704 : BitVec 1 := Scalar.xori v702 v703
  let c0_i32_469 : BitVec 32 := 0#32
  let v701 : BitVec 1 := Scalar.cmpi .ne v700 c0_i32_469
  let v705 : BitVec 1 := Scalar.andi v704 v701
  let v706 : BitVec 32 := Scalar.addi v700 v699
  let v707 : BitVec 32 := Scalar.select v705 v706 v700
  let c1_i32_472 : BitVec 32 := 1#32
  let v708 : BitVec 1 := Scalar.cmpi .ne v707 c1_i32_472
  let v709 : BitVec 1 := Scalar.ori v694 v708
  let true_486 : BitVec 1 := 1#1
  let v732 : BitVec 1 := Scalar.xori v709 true_486
  let v733 : BitVec 1 := Scalar.andi v724 v732
  let v734 : BitVec 32 := Scalar.extui v733
  let c0_i32_487 : BitVec 32 := 0#32
  let v735 : BitVec 1 := Scalar.cmpi .ne v734 c0_i32_487
  v735

def k0_dev46 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_456 : BitVec 32 := 5#32
  let v683 : BitVec 32 := Scalar.addi v2 c5_i32_456
  let c32_i32_457 : BitVec 32 := 32#32
  let c0_i32_458 : BitVec 32 := 0#32
  let v684 : BitVec 1 := Scalar.cmpi .eq c32_i32_457 c0_i32_458
  let c1_i32_459 : BitVec 32 := 1#32
  let v685 : BitVec 32 := Scalar.select v684 c1_i32_459 c32_i32_457
  let v686 : BitVec 32 := Scalar.remsi v683 v685
  let c0_i32_461 : BitVec 32 := 0#32
  let v688 : BitVec 1 := Scalar.cmpi .slt v686 c0_i32_461
  let c0_i32_462 : BitVec 32 := 0#32
  let v689 : BitVec 1 := Scalar.cmpi .slt v685 c0_i32_462
  let v690 : BitVec 1 := Scalar.xori v688 v689
  let c0_i32_460 : BitVec 32 := 0#32
  let v687 : BitVec 1 := Scalar.cmpi .ne v686 c0_i32_460
  let v691 : BitVec 1 := Scalar.andi v690 v687
  let v692 : BitVec 32 := Scalar.addi v686 v685
  let v693 : BitVec 32 := Scalar.select v691 v692 v686
  let c1_i32_3566 : BitVec 32 := 1#32
  let v5774 : BitVec 32 := Scalar.muli v693 c1_i32_3566
  let v5775 : BitVec 32 := Scalar.addi c0_i32_3567 v5774
  v5775.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_495 : BitVec 32 := 0#32
  let v747 : BitVec 1 := Scalar.cmpi .eq v2 c0_i32_495
  let c2_i32_496 : BitVec 32 := 2#32
  let c6_i32_488 : BitVec 32 := 6#32
  let v736 : BitVec 32 := Scalar.addi v2 c6_i32_488
  let c32_i32_489 : BitVec 32 := 32#32
  let c0_i32_490 : BitVec 32 := 0#32
  let v737 : BitVec 1 := Scalar.cmpi .eq c32_i32_489 c0_i32_490
  let c1_i32_491 : BitVec 32 := 1#32
  let v738 : BitVec 32 := Scalar.select v737 c1_i32_491 c32_i32_489
  let v739 : BitVec 32 := Scalar.remsi v736 v738
  let c0_i32_493 : BitVec 32 := 0#32
  let v741 : BitVec 1 := Scalar.cmpi .slt v739 c0_i32_493
  let c0_i32_494 : BitVec 32 := 0#32
  let v742 : BitVec 1 := Scalar.cmpi .slt v738 c0_i32_494
  let v743 : BitVec 1 := Scalar.xori v741 v742
  let c0_i32_492 : BitVec 32 := 0#32
  let v740 : BitVec 1 := Scalar.cmpi .ne v739 c0_i32_492
  let v744 : BitVec 1 := Scalar.andi v743 v740
  let v745 : BitVec 32 := Scalar.addi v739 v738
  let v746 : BitVec 32 := Scalar.select v744 v745 v739
  let v748 : BitVec 32 := Scalar.muli c2_i32_496 v746
  let c2_i32_497 : BitVec 32 := 2#32
  let v749 : BitVec 32 := Scalar.muli c2_i32_497 v2
  let v750 : BitVec 32 := Scalar.addi v748 v749
  let c3_i32_498 : BitVec 32 := 3#32
  let c0_i32_499 : BitVec 32 := 0#32
  let v751 : BitVec 1 := Scalar.cmpi .eq c3_i32_498 c0_i32_499
  let c1_i32_500 : BitVec 32 := 1#32
  let v752 : BitVec 32 := Scalar.select v751 c1_i32_500 c3_i32_498
  let v753 : BitVec 32 := Scalar.remsi v750 v752
  let c0_i32_502 : BitVec 32 := 0#32
  let v755 : BitVec 1 := Scalar.cmpi .slt v753 c0_i32_502
  let c0_i32_503 : BitVec 32 := 0#32
  let v756 : BitVec 1 := Scalar.cmpi .slt v752 c0_i32_503
  let v757 : BitVec 1 := Scalar.xori v755 v756
  let c0_i32_501 : BitVec 32 := 0#32
  let v754 : BitVec 1 := Scalar.cmpi .ne v753 c0_i32_501
  let v758 : BitVec 1 := Scalar.andi v757 v754
  let v759 : BitVec 32 := Scalar.addi v753 v752
  let v760 : BitVec 32 := Scalar.select v758 v759 v753
  let c1_i32_504 : BitVec 32 := 1#32
  let v761 : BitVec 1 := Scalar.cmpi .ne v760 c1_i32_504
  let v762 : BitVec 1 := Scalar.ori v747 v761
  let c2_i32_505 : BitVec 32 := 2#32
  let v763 : BitVec 32 := Scalar.muli c2_i32_505 v746
  let c2_i32_506 : BitVec 32 := 2#32
  let v764 : BitVec 32 := Scalar.muli c2_i32_506 v2
  let v765 : BitVec 32 := Scalar.addi v763 v764
  let c1_i32_507 : BitVec 32 := 1#32
  let v766 : BitVec 32 := Scalar.addi v765 c1_i32_507
  let c3_i32_508 : BitVec 32 := 3#32
  let c0_i32_509 : BitVec 32 := 0#32
  let v767 : BitVec 1 := Scalar.cmpi .eq c3_i32_508 c0_i32_509
  let c1_i32_510 : BitVec 32 := 1#32
  let v768 : BitVec 32 := Scalar.select v767 c1_i32_510 c3_i32_508
  let v769 : BitVec 32 := Scalar.remsi v766 v768
  let c0_i32_512 : BitVec 32 := 0#32
  let v771 : BitVec 1 := Scalar.cmpi .slt v769 c0_i32_512
  let c0_i32_513 : BitVec 32 := 0#32
  let v772 : BitVec 1 := Scalar.cmpi .slt v768 c0_i32_513
  let v773 : BitVec 1 := Scalar.xori v771 v772
  let c0_i32_511 : BitVec 32 := 0#32
  let v770 : BitVec 1 := Scalar.cmpi .ne v769 c0_i32_511
  let v774 : BitVec 1 := Scalar.andi v773 v770
  let v775 : BitVec 32 := Scalar.addi v769 v768
  let v776 : BitVec 32 := Scalar.select v774 v775 v769
  let c1_i32_514 : BitVec 32 := 1#32
  let v777 : BitVec 1 := Scalar.cmpi .ne v776 c1_i32_514
  let v778 : BitVec 1 := Scalar.andi v762 v777
  let v779 : BitVec 32 := Scalar.extui v778
  let c0_i32_515 : BitVec 32 := 0#32
  let v780 : BitVec 1 := Scalar.cmpi .ne v779 c0_i32_515
  v780

def k0_dev47 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_488 : BitVec 32 := 6#32
  let v736 : BitVec 32 := Scalar.addi v2 c6_i32_488
  let c32_i32_489 : BitVec 32 := 32#32
  let c0_i32_490 : BitVec 32 := 0#32
  let v737 : BitVec 1 := Scalar.cmpi .eq c32_i32_489 c0_i32_490
  let c1_i32_491 : BitVec 32 := 1#32
  let v738 : BitVec 32 := Scalar.select v737 c1_i32_491 c32_i32_489
  let v739 : BitVec 32 := Scalar.remsi v736 v738
  let c0_i32_493 : BitVec 32 := 0#32
  let v741 : BitVec 1 := Scalar.cmpi .slt v739 c0_i32_493
  let c0_i32_494 : BitVec 32 := 0#32
  let v742 : BitVec 1 := Scalar.cmpi .slt v738 c0_i32_494
  let v743 : BitVec 1 := Scalar.xori v741 v742
  let c0_i32_492 : BitVec 32 := 0#32
  let v740 : BitVec 1 := Scalar.cmpi .ne v739 c0_i32_492
  let v744 : BitVec 1 := Scalar.andi v743 v740
  let v745 : BitVec 32 := Scalar.addi v739 v738
  let v746 : BitVec 32 := Scalar.select v744 v745 v739
  let c1_i32_3564 : BitVec 32 := 1#32
  let v5774 : BitVec 32 := Scalar.muli v746 c1_i32_3564
  let v5775 : BitVec 32 := Scalar.addi c0_i32_3565 v5774
  v5775.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_495 : BitVec 32 := 0#32
  let v747 : BitVec 1 := Scalar.cmpi .eq v2 c0_i32_495
  let c2_i32_496 : BitVec 32 := 2#32
  let c6_i32_488 : BitVec 32 := 6#32
  let v736 : BitVec 32 := Scalar.addi v2 c6_i32_488
  let c32_i32_489 : BitVec 32 := 32#32
  let c0_i32_490 : BitVec 32 := 0#32
  let v737 : BitVec 1 := Scalar.cmpi .eq c32_i32_489 c0_i32_490
  let c1_i32_491 : BitVec 32 := 1#32
  let v738 : BitVec 32 := Scalar.select v737 c1_i32_491 c32_i32_489
  let v739 : BitVec 32 := Scalar.remsi v736 v738
  let c0_i32_493 : BitVec 32 := 0#32
  let v741 : BitVec 1 := Scalar.cmpi .slt v739 c0_i32_493
  let c0_i32_494 : BitVec 32 := 0#32
  let v742 : BitVec 1 := Scalar.cmpi .slt v738 c0_i32_494
  let v743 : BitVec 1 := Scalar.xori v741 v742
  let c0_i32_492 : BitVec 32 := 0#32
  let v740 : BitVec 1 := Scalar.cmpi .ne v739 c0_i32_492
  let v744 : BitVec 1 := Scalar.andi v743 v740
  let v745 : BitVec 32 := Scalar.addi v739 v738
  let v746 : BitVec 32 := Scalar.select v744 v745 v739
  let v748 : BitVec 32 := Scalar.muli c2_i32_496 v746
  let c2_i32_497 : BitVec 32 := 2#32
  let v749 : BitVec 32 := Scalar.muli c2_i32_497 v2
  let v750 : BitVec 32 := Scalar.addi v748 v749
  let c3_i32_498 : BitVec 32 := 3#32
  let c0_i32_499 : BitVec 32 := 0#32
  let v751 : BitVec 1 := Scalar.cmpi .eq c3_i32_498 c0_i32_499
  let c1_i32_500 : BitVec 32 := 1#32
  let v752 : BitVec 32 := Scalar.select v751 c1_i32_500 c3_i32_498
  let v753 : BitVec 32 := Scalar.remsi v750 v752
  let c0_i32_502 : BitVec 32 := 0#32
  let v755 : BitVec 1 := Scalar.cmpi .slt v753 c0_i32_502
  let c0_i32_503 : BitVec 32 := 0#32
  let v756 : BitVec 1 := Scalar.cmpi .slt v752 c0_i32_503
  let v757 : BitVec 1 := Scalar.xori v755 v756
  let c0_i32_501 : BitVec 32 := 0#32
  let v754 : BitVec 1 := Scalar.cmpi .ne v753 c0_i32_501
  let v758 : BitVec 1 := Scalar.andi v757 v754
  let v759 : BitVec 32 := Scalar.addi v753 v752
  let v760 : BitVec 32 := Scalar.select v758 v759 v753
  let c1_i32_504 : BitVec 32 := 1#32
  let v761 : BitVec 1 := Scalar.cmpi .ne v760 c1_i32_504
  let v762 : BitVec 1 := Scalar.ori v747 v761
  let c2_i32_505 : BitVec 32 := 2#32
  let v763 : BitVec 32 := Scalar.muli c2_i32_505 v746
  let c2_i32_506 : BitVec 32 := 2#32
  let v764 : BitVec 32 := Scalar.muli c2_i32_506 v2
  let v765 : BitVec 32 := Scalar.addi v763 v764
  let c1_i32_507 : BitVec 32 := 1#32
  let v766 : BitVec 32 := Scalar.addi v765 c1_i32_507
  let c3_i32_508 : BitVec 32 := 3#32
  let c0_i32_509 : BitVec 32 := 0#32
  let v767 : BitVec 1 := Scalar.cmpi .eq c3_i32_508 c0_i32_509
  let c1_i32_510 : BitVec 32 := 1#32
  let v768 : BitVec 32 := Scalar.select v767 c1_i32_510 c3_i32_508
  let v769 : BitVec 32 := Scalar.remsi v766 v768
  let c0_i32_512 : BitVec 32 := 0#32
  let v771 : BitVec 1 := Scalar.cmpi .slt v769 c0_i32_512
  let c0_i32_513 : BitVec 32 := 0#32
  let v772 : BitVec 1 := Scalar.cmpi .slt v768 c0_i32_513
  let v773 : BitVec 1 := Scalar.xori v771 v772
  let c0_i32_511 : BitVec 32 := 0#32
  let v770 : BitVec 1 := Scalar.cmpi .ne v769 c0_i32_511
  let v774 : BitVec 1 := Scalar.andi v773 v770
  let v775 : BitVec 32 := Scalar.addi v769 v768
  let v776 : BitVec 32 := Scalar.select v774 v775 v769
  let c1_i32_514 : BitVec 32 := 1#32
  let v777 : BitVec 1 := Scalar.cmpi .ne v776 c1_i32_514
  let true_516 : BitVec 1 := 1#1
  let v781 : BitVec 1 := Scalar.xori v777 true_516
  let v782 : BitVec 1 := Scalar.andi v762 v781
  let v783 : BitVec 32 := Scalar.extui v782
  let c0_i32_517 : BitVec 32 := 0#32
  let v784 : BitVec 1 := Scalar.cmpi .ne v783 c0_i32_517
  v784

def k0_dev48 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_488 : BitVec 32 := 6#32
  let v736 : BitVec 32 := Scalar.addi v2 c6_i32_488
  let c32_i32_489 : BitVec 32 := 32#32
  let c0_i32_490 : BitVec 32 := 0#32
  let v737 : BitVec 1 := Scalar.cmpi .eq c32_i32_489 c0_i32_490
  let c1_i32_491 : BitVec 32 := 1#32
  let v738 : BitVec 32 := Scalar.select v737 c1_i32_491 c32_i32_489
  let v739 : BitVec 32 := Scalar.remsi v736 v738
  let c0_i32_493 : BitVec 32 := 0#32
  let v741 : BitVec 1 := Scalar.cmpi .slt v739 c0_i32_493
  let c0_i32_494 : BitVec 32 := 0#32
  let v742 : BitVec 1 := Scalar.cmpi .slt v738 c0_i32_494
  let v743 : BitVec 1 := Scalar.xori v741 v742
  let c0_i32_492 : BitVec 32 := 0#32
  let v740 : BitVec 1 := Scalar.cmpi .ne v739 c0_i32_492
  let v744 : BitVec 1 := Scalar.andi v743 v740
  let v745 : BitVec 32 := Scalar.addi v739 v738
  let v746 : BitVec 32 := Scalar.select v744 v745 v739
  let c1_i32_3566 : BitVec 32 := 1#32
  let v5774 : BitVec 32 := Scalar.muli v746 c1_i32_3566
  let v5775 : BitVec 32 := Scalar.addi c0_i32_3567 v5774
  v5775.toNat
def k0_cond18 (d0 : Dev nD) : BitVec 1 :=
  let c2_i32_505 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_488 : BitVec 32 := 6#32
  let v736 : BitVec 32 := Scalar.addi v2 c6_i32_488
  let c32_i32_489 : BitVec 32 := 32#32
  let c0_i32_490 : BitVec 32 := 0#32
  let v737 : BitVec 1 := Scalar.cmpi .eq c32_i32_489 c0_i32_490
  let c1_i32_491 : BitVec 32 := 1#32
  let v738 : BitVec 32 := Scalar.select v737 c1_i32_491 c32_i32_489
  let v739 : BitVec 32 := Scalar.remsi v736 v738
  let c0_i32_493 : BitVec 32 := 0#32
  let v741 : BitVec 1 := Scalar.cmpi .slt v739 c0_i32_493
  let c0_i32_494 : BitVec 32 := 0#32
  let v742 : BitVec 1 := Scalar.cmpi .slt v738 c0_i32_494
  let v743 : BitVec 1 := Scalar.xori v741 v742
  let c0_i32_492 : BitVec 32 := 0#32
  let v740 : BitVec 1 := Scalar.cmpi .ne v739 c0_i32_492
  let v744 : BitVec 1 := Scalar.andi v743 v740
  let v745 : BitVec 32 := Scalar.addi v739 v738
  let v746 : BitVec 32 := Scalar.select v744 v745 v739
  let v763 : BitVec 32 := Scalar.muli c2_i32_505 v746
  let c2_i32_506 : BitVec 32 := 2#32
  let v764 : BitVec 32 := Scalar.muli c2_i32_506 v2
  let v765 : BitVec 32 := Scalar.addi v763 v764
  let c1_i32_507 : BitVec 32 := 1#32
  let v766 : BitVec 32 := Scalar.addi v765 c1_i32_507
  let c3_i32_508 : BitVec 32 := 3#32
  let c0_i32_509 : BitVec 32 := 0#32
  let v767 : BitVec 1 := Scalar.cmpi .eq c3_i32_508 c0_i32_509
  let c1_i32_510 : BitVec 32 := 1#32
  let v768 : BitVec 32 := Scalar.select v767 c1_i32_510 c3_i32_508
  let v769 : BitVec 32 := Scalar.remsi v766 v768
  let c0_i32_512 : BitVec 32 := 0#32
  let v771 : BitVec 1 := Scalar.cmpi .slt v769 c0_i32_512
  let c0_i32_513 : BitVec 32 := 0#32
  let v772 : BitVec 1 := Scalar.cmpi .slt v768 c0_i32_513
  let v773 : BitVec 1 := Scalar.xori v771 v772
  let c0_i32_511 : BitVec 32 := 0#32
  let v770 : BitVec 1 := Scalar.cmpi .ne v769 c0_i32_511
  let v774 : BitVec 1 := Scalar.andi v773 v770
  let v775 : BitVec 32 := Scalar.addi v769 v768
  let v776 : BitVec 32 := Scalar.select v774 v775 v769
  let c1_i32_514 : BitVec 32 := 1#32
  let v777 : BitVec 1 := Scalar.cmpi .ne v776 c1_i32_514
  let c0_i32_495 : BitVec 32 := 0#32
  let v747 : BitVec 1 := Scalar.cmpi .eq v2 c0_i32_495
  let c2_i32_496 : BitVec 32 := 2#32
  let v748 : BitVec 32 := Scalar.muli c2_i32_496 v746
  let c2_i32_497 : BitVec 32 := 2#32
  let v749 : BitVec 32 := Scalar.muli c2_i32_497 v2
  let v750 : BitVec 32 := Scalar.addi v748 v749
  let c3_i32_498 : BitVec 32 := 3#32
  let c0_i32_499 : BitVec 32 := 0#32
  let v751 : BitVec 1 := Scalar.cmpi .eq c3_i32_498 c0_i32_499
  let c1_i32_500 : BitVec 32 := 1#32
  let v752 : BitVec 32 := Scalar.select v751 c1_i32_500 c3_i32_498
  let v753 : BitVec 32 := Scalar.remsi v750 v752
  let c0_i32_502 : BitVec 32 := 0#32
  let v755 : BitVec 1 := Scalar.cmpi .slt v753 c0_i32_502
  let c0_i32_503 : BitVec 32 := 0#32
  let v756 : BitVec 1 := Scalar.cmpi .slt v752 c0_i32_503
  let v757 : BitVec 1 := Scalar.xori v755 v756
  let c0_i32_501 : BitVec 32 := 0#32
  let v754 : BitVec 1 := Scalar.cmpi .ne v753 c0_i32_501
  let v758 : BitVec 1 := Scalar.andi v757 v754
  let v759 : BitVec 32 := Scalar.addi v753 v752
  let v760 : BitVec 32 := Scalar.select v758 v759 v753
  let c1_i32_504 : BitVec 32 := 1#32
  let v761 : BitVec 1 := Scalar.cmpi .ne v760 c1_i32_504
  let v762 : BitVec 1 := Scalar.ori v747 v761
  let true_518 : BitVec 1 := 1#1
  let v785 : BitVec 1 := Scalar.xori v762 true_518
  let v786 : BitVec 1 := Scalar.andi v777 v785
  let v787 : BitVec 32 := Scalar.extui v786
  let c0_i32_519 : BitVec 32 := 0#32
  let v788 : BitVec 1 := Scalar.cmpi .ne v787 c0_i32_519
  v788

def k0_dev49 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_488 : BitVec 32 := 6#32
  let v736 : BitVec 32 := Scalar.addi v2 c6_i32_488
  let c32_i32_489 : BitVec 32 := 32#32
  let c0_i32_490 : BitVec 32 := 0#32
  let v737 : BitVec 1 := Scalar.cmpi .eq c32_i32_489 c0_i32_490
  let c1_i32_491 : BitVec 32 := 1#32
  let v738 : BitVec 32 := Scalar.select v737 c1_i32_491 c32_i32_489
  let v739 : BitVec 32 := Scalar.remsi v736 v738
  let c0_i32_493 : BitVec 32 := 0#32
  let v741 : BitVec 1 := Scalar.cmpi .slt v739 c0_i32_493
  let c0_i32_494 : BitVec 32 := 0#32
  let v742 : BitVec 1 := Scalar.cmpi .slt v738 c0_i32_494
  let v743 : BitVec 1 := Scalar.xori v741 v742
  let c0_i32_492 : BitVec 32 := 0#32
  let v740 : BitVec 1 := Scalar.cmpi .ne v739 c0_i32_492
  let v744 : BitVec 1 := Scalar.andi v743 v740
  let v745 : BitVec 32 := Scalar.addi v739 v738
  let v746 : BitVec 32 := Scalar.select v744 v745 v739
  let c1_i32_3566 : BitVec 32 := 1#32
  let v5774 : BitVec 32 := Scalar.muli v746 c1_i32_3566
  let v5775 : BitVec 32 := Scalar.addi c0_i32_3567 v5774
  v5775.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_527 : BitVec 32 := 0#32
  let v800 : BitVec 1 := Scalar.cmpi .eq v2 c0_i32_527
  let c2_i32_528 : BitVec 32 := 2#32
  let c7_i32_520 : BitVec 32 := 7#32
  let v789 : BitVec 32 := Scalar.addi v2 c7_i32_520
  let c32_i32_521 : BitVec 32 := 32#32
  let c0_i32_522 : BitVec 32 := 0#32
  let v790 : BitVec 1 := Scalar.cmpi .eq c32_i32_521 c0_i32_522
  let c1_i32_523 : BitVec 32 := 1#32
  let v791 : BitVec 32 := Scalar.select v790 c1_i32_523 c32_i32_521
  let v792 : BitVec 32 := Scalar.remsi v789 v791
  let c0_i32_525 : BitVec 32 := 0#32
  let v794 : BitVec 1 := Scalar.cmpi .slt v792 c0_i32_525
  let c0_i32_526 : BitVec 32 := 0#32
  let v795 : BitVec 1 := Scalar.cmpi .slt v791 c0_i32_526
  let v796 : BitVec 1 := Scalar.xori v794 v795
  let c0_i32_524 : BitVec 32 := 0#32
  let v793 : BitVec 1 := Scalar.cmpi .ne v792 c0_i32_524
  let v797 : BitVec 1 := Scalar.andi v796 v793
  let v798 : BitVec 32 := Scalar.addi v792 v791
  let v799 : BitVec 32 := Scalar.select v797 v798 v792
  let v801 : BitVec 32 := Scalar.muli c2_i32_528 v799
  let c2_i32_529 : BitVec 32 := 2#32
  let v802 : BitVec 32 := Scalar.muli c2_i32_529 v2
  let v803 : BitVec 32 := Scalar.addi v801 v802
  let c3_i32_530 : BitVec 32 := 3#32
  let c0_i32_531 : BitVec 32 := 0#32
  let v804 : BitVec 1 := Scalar.cmpi .eq c3_i32_530 c0_i32_531
  let c1_i32_532 : BitVec 32 := 1#32
  let v805 : BitVec 32 := Scalar.select v804 c1_i32_532 c3_i32_530
  let v806 : BitVec 32 := Scalar.remsi v803 v805
  let c0_i32_534 : BitVec 32 := 0#32
  let v808 : BitVec 1 := Scalar.cmpi .slt v806 c0_i32_534
  let c0_i32_535 : BitVec 32 := 0#32
  let v809 : BitVec 1 := Scalar.cmpi .slt v805 c0_i32_535
  let v810 : BitVec 1 := Scalar.xori v808 v809
  let c0_i32_533 : BitVec 32 := 0#32
  let v807 : BitVec 1 := Scalar.cmpi .ne v806 c0_i32_533
  let v811 : BitVec 1 := Scalar.andi v810 v807
  let v812 : BitVec 32 := Scalar.addi v806 v805
  let v813 : BitVec 32 := Scalar.select v811 v812 v806
  let c1_i32_536 : BitVec 32 := 1#32
  let v814 : BitVec 1 := Scalar.cmpi .ne v813 c1_i32_536
  let v815 : BitVec 1 := Scalar.ori v800 v814
  let c2_i32_537 : BitVec 32 := 2#32
  let v816 : BitVec 32 := Scalar.muli c2_i32_537 v799
  let c2_i32_538 : BitVec 32 := 2#32
  let v817 : BitVec 32 := Scalar.muli c2_i32_538 v2
  let v818 : BitVec 32 := Scalar.addi v816 v817
  let c1_i32_539 : BitVec 32 := 1#32
  let v819 : BitVec 32 := Scalar.addi v818 c1_i32_539
  let c3_i32_540 : BitVec 32 := 3#32
  let c0_i32_541 : BitVec 32 := 0#32
  let v820 : BitVec 1 := Scalar.cmpi .eq c3_i32_540 c0_i32_541
  let c1_i32_542 : BitVec 32 := 1#32
  let v821 : BitVec 32 := Scalar.select v820 c1_i32_542 c3_i32_540
  let v822 : BitVec 32 := Scalar.remsi v819 v821
  let c0_i32_544 : BitVec 32 := 0#32
  let v824 : BitVec 1 := Scalar.cmpi .slt v822 c0_i32_544
  let c0_i32_545 : BitVec 32 := 0#32
  let v825 : BitVec 1 := Scalar.cmpi .slt v821 c0_i32_545
  let v826 : BitVec 1 := Scalar.xori v824 v825
  let c0_i32_543 : BitVec 32 := 0#32
  let v823 : BitVec 1 := Scalar.cmpi .ne v822 c0_i32_543
  let v827 : BitVec 1 := Scalar.andi v826 v823
  let v828 : BitVec 32 := Scalar.addi v822 v821
  let v829 : BitVec 32 := Scalar.select v827 v828 v822
  let c1_i32_546 : BitVec 32 := 1#32
  let v830 : BitVec 1 := Scalar.cmpi .ne v829 c1_i32_546
  let v831 : BitVec 1 := Scalar.andi v815 v830
  let v832 : BitVec 32 := Scalar.extui v831
  let c0_i32_547 : BitVec 32 := 0#32
  let v833 : BitVec 1 := Scalar.cmpi .ne v832 c0_i32_547
  v833

def k0_dev50 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_520 : BitVec 32 := 7#32
  let v789 : BitVec 32 := Scalar.addi v2 c7_i32_520
  let c32_i32_521 : BitVec 32 := 32#32
  let c0_i32_522 : BitVec 32 := 0#32
  let v790 : BitVec 1 := Scalar.cmpi .eq c32_i32_521 c0_i32_522
  let c1_i32_523 : BitVec 32 := 1#32
  let v791 : BitVec 32 := Scalar.select v790 c1_i32_523 c32_i32_521
  let v792 : BitVec 32 := Scalar.remsi v789 v791
  let c0_i32_525 : BitVec 32 := 0#32
  let v794 : BitVec 1 := Scalar.cmpi .slt v792 c0_i32_525
  let c0_i32_526 : BitVec 32 := 0#32
  let v795 : BitVec 1 := Scalar.cmpi .slt v791 c0_i32_526
  let v796 : BitVec 1 := Scalar.xori v794 v795
  let c0_i32_524 : BitVec 32 := 0#32
  let v793 : BitVec 1 := Scalar.cmpi .ne v792 c0_i32_524
  let v797 : BitVec 1 := Scalar.andi v796 v793
  let v798 : BitVec 32 := Scalar.addi v792 v791
  let v799 : BitVec 32 := Scalar.select v797 v798 v792
  let c1_i32_3564 : BitVec 32 := 1#32
  let v5774 : BitVec 32 := Scalar.muli v799 c1_i32_3564
  let v5775 : BitVec 32 := Scalar.addi c0_i32_3565 v5774
  v5775.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_527 : BitVec 32 := 0#32
  let v800 : BitVec 1 := Scalar.cmpi .eq v2 c0_i32_527
  let c2_i32_528 : BitVec 32 := 2#32
  let c7_i32_520 : BitVec 32 := 7#32
  let v789 : BitVec 32 := Scalar.addi v2 c7_i32_520
  let c32_i32_521 : BitVec 32 := 32#32
  let c0_i32_522 : BitVec 32 := 0#32
  let v790 : BitVec 1 := Scalar.cmpi .eq c32_i32_521 c0_i32_522
  let c1_i32_523 : BitVec 32 := 1#32
  let v791 : BitVec 32 := Scalar.select v790 c1_i32_523 c32_i32_521
  let v792 : BitVec 32 := Scalar.remsi v789 v791
  let c0_i32_525 : BitVec 32 := 0#32
  let v794 : BitVec 1 := Scalar.cmpi .slt v792 c0_i32_525
  let c0_i32_526 : BitVec 32 := 0#32
  let v795 : BitVec 1 := Scalar.cmpi .slt v791 c0_i32_526
  let v796 : BitVec 1 := Scalar.xori v794 v795
  let c0_i32_524 : BitVec 32 := 0#32
  let v793 : BitVec 1 := Scalar.cmpi .ne v792 c0_i32_524
  let v797 : BitVec 1 := Scalar.andi v796 v793
  let v798 : BitVec 32 := Scalar.addi v792 v791
  let v799 : BitVec 32 := Scalar.select v797 v798 v792
  let v801 : BitVec 32 := Scalar.muli c2_i32_528 v799
  let c2_i32_529 : BitVec 32 := 2#32
  let v802 : BitVec 32 := Scalar.muli c2_i32_529 v2
  let v803 : BitVec 32 := Scalar.addi v801 v802
  let c3_i32_530 : BitVec 32 := 3#32
  let c0_i32_531 : BitVec 32 := 0#32
  let v804 : BitVec 1 := Scalar.cmpi .eq c3_i32_530 c0_i32_531
  let c1_i32_532 : BitVec 32 := 1#32
  let v805 : BitVec 32 := Scalar.select v804 c1_i32_532 c3_i32_530
  let v806 : BitVec 32 := Scalar.remsi v803 v805
  let c0_i32_534 : BitVec 32 := 0#32
  let v808 : BitVec 1 := Scalar.cmpi .slt v806 c0_i32_534
  let c0_i32_535 : BitVec 32 := 0#32
  let v809 : BitVec 1 := Scalar.cmpi .slt v805 c0_i32_535
  let v810 : BitVec 1 := Scalar.xori v808 v809
  let c0_i32_533 : BitVec 32 := 0#32
  let v807 : BitVec 1 := Scalar.cmpi .ne v806 c0_i32_533
  let v811 : BitVec 1 := Scalar.andi v810 v807
  let v812 : BitVec 32 := Scalar.addi v806 v805
  let v813 : BitVec 32 := Scalar.select v811 v812 v806
  let c1_i32_536 : BitVec 32 := 1#32
  let v814 : BitVec 1 := Scalar.cmpi .ne v813 c1_i32_536
  let v815 : BitVec 1 := Scalar.ori v800 v814
  let c2_i32_537 : BitVec 32 := 2#32
  let v816 : BitVec 32 := Scalar.muli c2_i32_537 v799
  let c2_i32_538 : BitVec 32 := 2#32
  let v817 : BitVec 32 := Scalar.muli c2_i32_538 v2
  let v818 : BitVec 32 := Scalar.addi v816 v817
  let c1_i32_539 : BitVec 32 := 1#32
  let v819 : BitVec 32 := Scalar.addi v818 c1_i32_539
  let c3_i32_540 : BitVec 32 := 3#32
  let c0_i32_541 : BitVec 32 := 0#32
  let v820 : BitVec 1 := Scalar.cmpi .eq c3_i32_540 c0_i32_541
  let c1_i32_542 : BitVec 32 := 1#32
  let v821 : BitVec 32 := Scalar.select v820 c1_i32_542 c3_i32_540
  let v822 : BitVec 32 := Scalar.remsi v819 v821
  let c0_i32_544 : BitVec 32 := 0#32
  let v824 : BitVec 1 := Scalar.cmpi .slt v822 c0_i32_544
  let c0_i32_545 : BitVec 32 := 0#32
  let v825 : BitVec 1 := Scalar.cmpi .slt v821 c0_i32_545
  let v826 : BitVec 1 := Scalar.xori v824 v825
  let c0_i32_543 : BitVec 32 := 0#32
  let v823 : BitVec 1 := Scalar.cmpi .ne v822 c0_i32_543
  let v827 : BitVec 1 := Scalar.andi v826 v823
  let v828 : BitVec 32 := Scalar.addi v822 v821
  let v829 : BitVec 32 := Scalar.select v827 v828 v822
  let c1_i32_546 : BitVec 32 := 1#32
  let v830 : BitVec 1 := Scalar.cmpi .ne v829 c1_i32_546
  let true_548 : BitVec 1 := 1#1
  let v834 : BitVec 1 := Scalar.xori v830 true_548
  let v835 : BitVec 1 := Scalar.andi v815 v834
  let v836 : BitVec 32 := Scalar.extui v835
  let c0_i32_549 : BitVec 32 := 0#32
  let v837 : BitVec 1 := Scalar.cmpi .ne v836 c0_i32_549
  v837

def k0_dev51 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_520 : BitVec 32 := 7#32
  let v789 : BitVec 32 := Scalar.addi v2 c7_i32_520
  let c32_i32_521 : BitVec 32 := 32#32
  let c0_i32_522 : BitVec 32 := 0#32
  let v790 : BitVec 1 := Scalar.cmpi .eq c32_i32_521 c0_i32_522
  let c1_i32_523 : BitVec 32 := 1#32
  let v791 : BitVec 32 := Scalar.select v790 c1_i32_523 c32_i32_521
  let v792 : BitVec 32 := Scalar.remsi v789 v791
  let c0_i32_525 : BitVec 32 := 0#32
  let v794 : BitVec 1 := Scalar.cmpi .slt v792 c0_i32_525
  let c0_i32_526 : BitVec 32 := 0#32
  let v795 : BitVec 1 := Scalar.cmpi .slt v791 c0_i32_526
  let v796 : BitVec 1 := Scalar.xori v794 v795
  let c0_i32_524 : BitVec 32 := 0#32
  let v793 : BitVec 1 := Scalar.cmpi .ne v792 c0_i32_524
  let v797 : BitVec 1 := Scalar.andi v796 v793
  let v798 : BitVec 32 := Scalar.addi v792 v791
  let v799 : BitVec 32 := Scalar.select v797 v798 v792
  let c1_i32_3566 : BitVec 32 := 1#32
  let v5774 : BitVec 32 := Scalar.muli v799 c1_i32_3566
  let v5775 : BitVec 32 := Scalar.addi c0_i32_3567 v5774
  v5775.toNat
def k0_cond21 (d0 : Dev nD) : BitVec 1 :=
  let c2_i32_537 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_520 : BitVec 32 := 7#32
  let v789 : BitVec 32 := Scalar.addi v2 c7_i32_520
  let c32_i32_521 : BitVec 32 := 32#32
  let c0_i32_522 : BitVec 32 := 0#32
  let v790 : BitVec 1 := Scalar.cmpi .eq c32_i32_521 c0_i32_522
  let c1_i32_523 : BitVec 32 := 1#32
  let v791 : BitVec 32 := Scalar.select v790 c1_i32_523 c32_i32_521
  let v792 : BitVec 32 := Scalar.remsi v789 v791
  let c0_i32_525 : BitVec 32 := 0#32
  let v794 : BitVec 1 := Scalar.cmpi .slt v792 c0_i32_525
  let c0_i32_526 : BitVec 32 := 0#32
  let v795 : BitVec 1 := Scalar.cmpi .slt v791 c0_i32_526
  let v796 : BitVec 1 := Scalar.xori v794 v795
  let c0_i32_524 : BitVec 32 := 0#32
  let v793 : BitVec 1 := Scalar.cmpi .ne v792 c0_i32_524
  let v797 : BitVec 1 := Scalar.andi v796 v793
  let v798 : BitVec 32 := Scalar.addi v792 v791
  let v799 : BitVec 32 := Scalar.select v797 v798 v792
  let v816 : BitVec 32 := Scalar.muli c2_i32_537 v799
  let c2_i32_538 : BitVec 32 := 2#32
  let v817 : BitVec 32 := Scalar.muli c2_i32_538 v2
  let v818 : BitVec 32 := Scalar.addi v816 v817
  let c1_i32_539 : BitVec 32 := 1#32
  let v819 : BitVec 32 := Scalar.addi v818 c1_i32_539
  let c3_i32_540 : BitVec 32 := 3#32
  let c0_i32_541 : BitVec 32 := 0#32
  let v820 : BitVec 1 := Scalar.cmpi .eq c3_i32_540 c0_i32_541
  let c1_i32_542 : BitVec 32 := 1#32
  let v821 : BitVec 32 := Scalar.select v820 c1_i32_542 c3_i32_540
  let v822 : BitVec 32 := Scalar.remsi v819 v821
  let c0_i32_544 : BitVec 32 := 0#32
  let v824 : BitVec 1 := Scalar.cmpi .slt v822 c0_i32_544
  let c0_i32_545 : BitVec 32 := 0#32
  let v825 : BitVec 1 := Scalar.cmpi .slt v821 c0_i32_545
  let v826 : BitVec 1 := Scalar.xori v824 v825
  let c0_i32_543 : BitVec 32 := 0#32
  let v823 : BitVec 1 := Scalar.cmpi .ne v822 c0_i32_543
  let v827 : BitVec 1 := Scalar.andi v826 v823
  let v828 : BitVec 32 := Scalar.addi v822 v821
  let v829 : BitVec 32 := Scalar.select v827 v828 v822
  let c1_i32_546 : BitVec 32 := 1#32
  let v830 : BitVec 1 := Scalar.cmpi .ne v829 c1_i32_546
  let c0_i32_527 : BitVec 32 := 0#32
  let v800 : BitVec 1 := Scalar.cmpi .eq v2 c0_i32_527
  let c2_i32_528 : BitVec 32 := 2#32
  let v801 : BitVec 32 := Scalar.muli c2_i32_528 v799
  let c2_i32_529 : BitVec 32 := 2#32
  let v802 : BitVec 32 := Scalar.muli c2_i32_529 v2
  let v803 : BitVec 32 := Scalar.addi v801 v802
  let c3_i32_530 : BitVec 32 := 3#32
  let c0_i32_531 : BitVec 32 := 0#32
  let v804 : BitVec 1 := Scalar.cmpi .eq c3_i32_530 c0_i32_531
  let c1_i32_532 : BitVec 32 := 1#32
  let v805 : BitVec 32 := Scalar.select v804 c1_i32_532 c3_i32_530
  let v806 : BitVec 32 := Scalar.remsi v803 v805
  let c0_i32_534 : BitVec 32 := 0#32
  let v808 : BitVec 1 := Scalar.cmpi .slt v806 c0_i32_534
  let c0_i32_535 : BitVec 32 := 0#32
  let v809 : BitVec 1 := Scalar.cmpi .slt v805 c0_i32_535
  let v810 : BitVec 1 := Scalar.xori v808 v809
  let c0_i32_533 : BitVec 32 := 0#32
  let v807 : BitVec 1 := Scalar.cmpi .ne v806 c0_i32_533
  let v811 : BitVec 1 := Scalar.andi v810 v807
  let v812 : BitVec 32 := Scalar.addi v806 v805
  let v813 : BitVec 32 := Scalar.select v811 v812 v806
  let c1_i32_536 : BitVec 32 := 1#32
  let v814 : BitVec 1 := Scalar.cmpi .ne v813 c1_i32_536
  let v815 : BitVec 1 := Scalar.ori v800 v814
  let true_550 : BitVec 1 := 1#1
  let v838 : BitVec 1 := Scalar.xori v815 true_550
  let v839 : BitVec 1 := Scalar.andi v830 v838
  let v840 : BitVec 32 := Scalar.extui v839
  let c0_i32_551 : BitVec 32 := 0#32
  let v841 : BitVec 1 := Scalar.cmpi .ne v840 c0_i32_551
  v841

def k0_dev52 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_520 : BitVec 32 := 7#32
  let v789 : BitVec 32 := Scalar.addi v2 c7_i32_520
  let c32_i32_521 : BitVec 32 := 32#32
  let c0_i32_522 : BitVec 32 := 0#32
  let v790 : BitVec 1 := Scalar.cmpi .eq c32_i32_521 c0_i32_522
  let c1_i32_523 : BitVec 32 := 1#32
  let v791 : BitVec 32 := Scalar.select v790 c1_i32_523 c32_i32_521
  let v792 : BitVec 32 := Scalar.remsi v789 v791
  let c0_i32_525 : BitVec 32 := 0#32
  let v794 : BitVec 1 := Scalar.cmpi .slt v792 c0_i32_525
  let c0_i32_526 : BitVec 32 := 0#32
  let v795 : BitVec 1 := Scalar.cmpi .slt v791 c0_i32_526
  let v796 : BitVec 1 := Scalar.xori v794 v795
  let c0_i32_524 : BitVec 32 := 0#32
  let v793 : BitVec 1 := Scalar.cmpi .ne v792 c0_i32_524
  let v797 : BitVec 1 := Scalar.andi v796 v793
  let v798 : BitVec 32 := Scalar.addi v792 v791
  let v799 : BitVec 32 := Scalar.select v797 v798 v792
  let c1_i32_3566 : BitVec 32 := 1#32
  let v5774 : BitVec 32 := Scalar.muli v799 c1_i32_3566
  let v5775 : BitVec 32 := Scalar.addi c0_i32_3567 v5774
  v5775.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_559 : BitVec 32 := 0#32
  let v853 : BitVec 1 := Scalar.cmpi .eq v2 c0_i32_559
  let c2_i32_560 : BitVec 32 := 2#32
  let c8_i32_552 : BitVec 32 := 8#32
  let v842 : BitVec 32 := Scalar.addi v2 c8_i32_552
  let c32_i32_553 : BitVec 32 := 32#32
  let c0_i32_554 : BitVec 32 := 0#32
  let v843 : BitVec 1 := Scalar.cmpi .eq c32_i32_553 c0_i32_554
  let c1_i32_555 : BitVec 32 := 1#32
  let v844 : BitVec 32 := Scalar.select v843 c1_i32_555 c32_i32_553
  let v845 : BitVec 32 := Scalar.remsi v842 v844
  let c0_i32_557 : BitVec 32 := 0#32
  let v847 : BitVec 1 := Scalar.cmpi .slt v845 c0_i32_557
  let c0_i32_558 : BitVec 32 := 0#32
  let v848 : BitVec 1 := Scalar.cmpi .slt v844 c0_i32_558
  let v849 : BitVec 1 := Scalar.xori v847 v848
  let c0_i32_556 : BitVec 32 := 0#32
  let v846 : BitVec 1 := Scalar.cmpi .ne v845 c0_i32_556
  let v850 : BitVec 1 := Scalar.andi v849 v846
  let v851 : BitVec 32 := Scalar.addi v845 v844
  let v852 : BitVec 32 := Scalar.select v850 v851 v845
  let v854 : BitVec 32 := Scalar.muli c2_i32_560 v852
  let c2_i32_561 : BitVec 32 := 2#32
  let v855 : BitVec 32 := Scalar.muli c2_i32_561 v2
  let v856 : BitVec 32 := Scalar.addi v854 v855
  let c3_i32_562 : BitVec 32 := 3#32
  let c0_i32_563 : BitVec 32 := 0#32
  let v857 : BitVec 1 := Scalar.cmpi .eq c3_i32_562 c0_i32_563
  let c1_i32_564 : BitVec 32 := 1#32
  let v858 : BitVec 32 := Scalar.select v857 c1_i32_564 c3_i32_562
  let v859 : BitVec 32 := Scalar.remsi v856 v858
  let c0_i32_566 : BitVec 32 := 0#32
  let v861 : BitVec 1 := Scalar.cmpi .slt v859 c0_i32_566
  let c0_i32_567 : BitVec 32 := 0#32
  let v862 : BitVec 1 := Scalar.cmpi .slt v858 c0_i32_567
  let v863 : BitVec 1 := Scalar.xori v861 v862
  let c0_i32_565 : BitVec 32 := 0#32
  let v860 : BitVec 1 := Scalar.cmpi .ne v859 c0_i32_565
  let v864 : BitVec 1 := Scalar.andi v863 v860
  let v865 : BitVec 32 := Scalar.addi v859 v858
  let v866 : BitVec 32 := Scalar.select v864 v865 v859
  let c1_i32_568 : BitVec 32 := 1#32
  let v867 : BitVec 1 := Scalar.cmpi .ne v866 c1_i32_568
  let v868 : BitVec 1 := Scalar.ori v853 v867
  let c2_i32_569 : BitVec 32 := 2#32
  let v869 : BitVec 32 := Scalar.muli c2_i32_569 v852
  let c2_i32_570 : BitVec 32 := 2#32
  let v870 : BitVec 32 := Scalar.muli c2_i32_570 v2
  let v871 : BitVec 32 := Scalar.addi v869 v870
  let c1_i32_571 : BitVec 32 := 1#32
  let v872 : BitVec 32 := Scalar.addi v871 c1_i32_571
  let c3_i32_572 : BitVec 32 := 3#32
  let c0_i32_573 : BitVec 32 := 0#32
  let v873 : BitVec 1 := Scalar.cmpi .eq c3_i32_572 c0_i32_573
  let c1_i32_574 : BitVec 32 := 1#32
  let v874 : BitVec 32 := Scalar.select v873 c1_i32_574 c3_i32_572
  let v875 : BitVec 32 := Scalar.remsi v872 v874
  let c0_i32_576 : BitVec 32 := 0#32
  let v877 : BitVec 1 := Scalar.cmpi .slt v875 c0_i32_576
  let c0_i32_577 : BitVec 32 := 0#32
  let v878 : BitVec 1 := Scalar.cmpi .slt v874 c0_i32_577
  let v879 : BitVec 1 := Scalar.xori v877 v878
  let c0_i32_575 : BitVec 32 := 0#32
  let v876 : BitVec 1 := Scalar.cmpi .ne v875 c0_i32_575
  let v880 : BitVec 1 := Scalar.andi v879 v876
  let v881 : BitVec 32 := Scalar.addi v875 v874
  let v882 : BitVec 32 := Scalar.select v880 v881 v875
  let c1_i32_578 : BitVec 32 := 1#32
  let v883 : BitVec 1 := Scalar.cmpi .ne v882 c1_i32_578
  let v884 : BitVec 1 := Scalar.andi v868 v883
  let v885 : BitVec 32 := Scalar.extui v884
  let c0_i32_579 : BitVec 32 := 0#32
  let v886 : BitVec 1 := Scalar.cmpi .ne v885 c0_i32_579
  v886

def k0_dev53 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_552 : BitVec 32 := 8#32
  let v842 : BitVec 32 := Scalar.addi v2 c8_i32_552
  let c32_i32_553 : BitVec 32 := 32#32
  let c0_i32_554 : BitVec 32 := 0#32
  let v843 : BitVec 1 := Scalar.cmpi .eq c32_i32_553 c0_i32_554
  let c1_i32_555 : BitVec 32 := 1#32
  let v844 : BitVec 32 := Scalar.select v843 c1_i32_555 c32_i32_553
  let v845 : BitVec 32 := Scalar.remsi v842 v844
  let c0_i32_557 : BitVec 32 := 0#32
  let v847 : BitVec 1 := Scalar.cmpi .slt v845 c0_i32_557
  let c0_i32_558 : BitVec 32 := 0#32
  let v848 : BitVec 1 := Scalar.cmpi .slt v844 c0_i32_558
  let v849 : BitVec 1 := Scalar.xori v847 v848
  let c0_i32_556 : BitVec 32 := 0#32
  let v846 : BitVec 1 := Scalar.cmpi .ne v845 c0_i32_556
  let v850 : BitVec 1 := Scalar.andi v849 v846
  let v851 : BitVec 32 := Scalar.addi v845 v844
  let v852 : BitVec 32 := Scalar.select v850 v851 v845
  let c1_i32_3564 : BitVec 32 := 1#32
  let v5774 : BitVec 32 := Scalar.muli v852 c1_i32_3564
  let v5775 : BitVec 32 := Scalar.addi c0_i32_3565 v5774
  v5775.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_559 : BitVec 32 := 0#32
  let v853 : BitVec 1 := Scalar.cmpi .eq v2 c0_i32_559
  let c2_i32_560 : BitVec 32 := 2#32
  let c8_i32_552 : BitVec 32 := 8#32
  let v842 : BitVec 32 := Scalar.addi v2 c8_i32_552
  let c32_i32_553 : BitVec 32 := 32#32
  let c0_i32_554 : BitVec 32 := 0#32
  let v843 : BitVec 1 := Scalar.cmpi .eq c32_i32_553 c0_i32_554
  let c1_i32_555 : BitVec 32 := 1#32
  let v844 : BitVec 32 := Scalar.select v843 c1_i32_555 c32_i32_553
  let v845 : BitVec 32 := Scalar.remsi v842 v844
  let c0_i32_557 : BitVec 32 := 0#32
  let v847 : BitVec 1 := Scalar.cmpi .slt v845 c0_i32_557
  let c0_i32_558 : BitVec 32 := 0#32
  let v848 : BitVec 1 := Scalar.cmpi .slt v844 c0_i32_558
  let v849 : BitVec 1 := Scalar.xori v847 v848
  let c0_i32_556 : BitVec 32 := 0#32
  let v846 : BitVec 1 := Scalar.cmpi .ne v845 c0_i32_556
  let v850 : BitVec 1 := Scalar.andi v849 v846
  let v851 : BitVec 32 := Scalar.addi v845 v844
  let v852 : BitVec 32 := Scalar.select v850 v851 v845
  let v854 : BitVec 32 := Scalar.muli c2_i32_560 v852
  let c2_i32_561 : BitVec 32 := 2#32
  let v855 : BitVec 32 := Scalar.muli c2_i32_561 v2
  let v856 : BitVec 32 := Scalar.addi v854 v855
  let c3_i32_562 : BitVec 32 := 3#32
  let c0_i32_563 : BitVec 32 := 0#32
  let v857 : BitVec 1 := Scalar.cmpi .eq c3_i32_562 c0_i32_563
  let c1_i32_564 : BitVec 32 := 1#32
  let v858 : BitVec 32 := Scalar.select v857 c1_i32_564 c3_i32_562
  let v859 : BitVec 32 := Scalar.remsi v856 v858
  let c0_i32_566 : BitVec 32 := 0#32
  let v861 : BitVec 1 := Scalar.cmpi .slt v859 c0_i32_566
  let c0_i32_567 : BitVec 32 := 0#32
  let v862 : BitVec 1 := Scalar.cmpi .slt v858 c0_i32_567
  let v863 : BitVec 1 := Scalar.xori v861 v862
  let c0_i32_565 : BitVec 32 := 0#32
  let v860 : BitVec 1 := Scalar.cmpi .ne v859 c0_i32_565
  let v864 : BitVec 1 := Scalar.andi v863 v860
  let v865 : BitVec 32 := Scalar.addi v859 v858
  let v866 : BitVec 32 := Scalar.select v864 v865 v859
  let c1_i32_568 : BitVec 32 := 1#32
  let v867 : BitVec 1 := Scalar.cmpi .ne v866 c1_i32_568
  let v868 : BitVec 1 := Scalar.ori v853 v867
  let c2_i32_569 : BitVec 32 := 2#32
  let v869 : BitVec 32 := Scalar.muli c2_i32_569 v852
  let c2_i32_570 : BitVec 32 := 2#32
  let v870 : BitVec 32 := Scalar.muli c2_i32_570 v2
  let v871 : BitVec 32 := Scalar.addi v869 v870
  let c1_i32_571 : BitVec 32 := 1#32
  let v872 : BitVec 32 := Scalar.addi v871 c1_i32_571
  let c3_i32_572 : BitVec 32 := 3#32
  let c0_i32_573 : BitVec 32 := 0#32
  let v873 : BitVec 1 := Scalar.cmpi .eq c3_i32_572 c0_i32_573
  let c1_i32_574 : BitVec 32 := 1#32
  let v874 : BitVec 32 := Scalar.select v873 c1_i32_574 c3_i32_572
  let v875 : BitVec 32 := Scalar.remsi v872 v874
  let c0_i32_576 : BitVec 32 := 0#32
  let v877 : BitVec 1 := Scalar.cmpi .slt v875 c0_i32_576
  let c0_i32_577 : BitVec 32 := 0#32
  let v878 : BitVec 1 := Scalar.cmpi .slt v874 c0_i32_577
  let v879 : BitVec 1 := Scalar.xori v877 v878
  let c0_i32_575 : BitVec 32 := 0#32
  let v876 : BitVec 1 := Scalar.cmpi .ne v875 c0_i32_575
  let v880 : BitVec 1 := Scalar.andi v879 v876
  let v881 : BitVec 32 := Scalar.addi v875 v874
  let v882 : BitVec 32 := Scalar.select v880 v881 v875
  let c1_i32_578 : BitVec 32 := 1#32
  let v883 : BitVec 1 := Scalar.cmpi .ne v882 c1_i32_578
  let true_580 : BitVec 1 := 1#1
  let v887 : BitVec 1 := Scalar.xori v883 true_580
  let v888 : BitVec 1 := Scalar.andi v868 v887
  let v889 : BitVec 32 := Scalar.extui v888
  let c0_i32_581 : BitVec 32 := 0#32
  let v890 : BitVec 1 := Scalar.cmpi .ne v889 c0_i32_581
  v890

def k0_dev54 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_552 : BitVec 32 := 8#32
  let v842 : BitVec 32 := Scalar.addi v2 c8_i32_552
  let c32_i32_553 : BitVec 32 := 32#32
  let c0_i32_554 : BitVec 32 := 0#32
  let v843 : BitVec 1 := Scalar.cmpi .eq c32_i32_553 c0_i32_554
  let c1_i32_555 : BitVec 32 := 1#32
  let v844 : BitVec 32 := Scalar.select v843 c1_i32_555 c32_i32_553
  let v845 : BitVec 32 := Scalar.remsi v842 v844
  let c0_i32_557 : BitVec 32 := 0#32
  let v847 : BitVec 1 := Scalar.cmpi .slt v845 c0_i32_557
  let c0_i32_558 : BitVec 32 := 0#32
  let v848 : BitVec 1 := Scalar.cmpi .slt v844 c0_i32_558
  let v849 : BitVec 1 := Scalar.xori v847 v848
  let c0_i32_556 : BitVec 32 := 0#32
  let v846 : BitVec 1 := Scalar.cmpi .ne v845 c0_i32_556
  let v850 : BitVec 1 := Scalar.andi v849 v846
  let v851 : BitVec 32 := Scalar.addi v845 v844
  let v852 : BitVec 32 := Scalar.select v850 v851 v845
  let c1_i32_3566 : BitVec 32 := 1#32
  let v5774 : BitVec 32 := Scalar.muli v852 c1_i32_3566
  let v5775 : BitVec 32 := Scalar.addi c0_i32_3567 v5774
  v5775.toNat
def k0_cond24 (d0 : Dev nD) : BitVec 1 :=
  let c2_i32_569 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_552 : BitVec 32 := 8#32
  let v842 : BitVec 32 := Scalar.addi v2 c8_i32_552
  let c32_i32_553 : BitVec 32 := 32#32
  let c0_i32_554 : BitVec 32 := 0#32
  let v843 : BitVec 1 := Scalar.cmpi .eq c32_i32_553 c0_i32_554
  let c1_i32_555 : BitVec 32 := 1#32
  let v844 : BitVec 32 := Scalar.select v843 c1_i32_555 c32_i32_553
  let v845 : BitVec 32 := Scalar.remsi v842 v844
  let c0_i32_557 : BitVec 32 := 0#32
  let v847 : BitVec 1 := Scalar.cmpi .slt v845 c0_i32_557
  let c0_i32_558 : BitVec 32 := 0#32
  let v848 : BitVec 1 := Scalar.cmpi .slt v844 c0_i32_558
  let v849 : BitVec 1 := Scalar.xori v847 v848
  let c0_i32_556 : BitVec 32 := 0#32
  let v846 : BitVec 1 := Scalar.cmpi .ne v845 c0_i32_556
  let v850 : BitVec 1 := Scalar.andi v849 v846
  let v851 : BitVec 32 := Scalar.addi v845 v844
  let v852 : BitVec 32 := Scalar.select v850 v851 v845
  let v869 : BitVec 32 := Scalar.muli c2_i32_569 v852
  let c2_i32_570 : BitVec 32 := 2#32
  let v870 : BitVec 32 := Scalar.muli c2_i32_570 v2
  let v871 : BitVec 32 := Scalar.addi v869 v870
  let c1_i32_571 : BitVec 32 := 1#32
  let v872 : BitVec 32 := Scalar.addi v871 c1_i32_571
  let c3_i32_572 : BitVec 32 := 3#32
  let c0_i32_573 : BitVec 32 := 0#32
  let v873 : BitVec 1 := Scalar.cmpi .eq c3_i32_572 c0_i32_573
  let c1_i32_574 : BitVec 32 := 1#32
  let v874 : BitVec 32 := Scalar.select v873 c1_i32_574 c3_i32_572
  let v875 : BitVec 32 := Scalar.remsi v872 v874
  let c0_i32_576 : BitVec 32 := 0#32
  let v877 : BitVec 1 := Scalar.cmpi .slt v875 c0_i32_576
  let c0_i32_577 : BitVec 32 := 0#32
  let v878 : BitVec 1 := Scalar.cmpi .slt v874 c0_i32_577
  let v879 : BitVec 1 := Scalar.xori v877 v878
  let c0_i32_575 : BitVec 32 := 0#32
  let v876 : BitVec 1 := Scalar.cmpi .ne v875 c0_i32_575
  let v880 : BitVec 1 := Scalar.andi v879 v876
  let v881 : BitVec 32 := Scalar.addi v875 v874
  let v882 : BitVec 32 := Scalar.select v880 v881 v875
  let c1_i32_578 : BitVec 32 := 1#32
  let v883 : BitVec 1 := Scalar.cmpi .ne v882 c1_i32_578
  let c0_i32_559 : BitVec 32 := 0#32
  let v853 : BitVec 1 := Scalar.cmpi .eq v2 c0_i32_559
  let c2_i32_560 : BitVec 32 := 2#32
  let v854 : BitVec 32 := Scalar.muli c2_i32_560 v852
  let c2_i32_561 : BitVec 32 := 2#32
  let v855 : BitVec 32 := Scalar.muli c2_i32_561 v2
  let v856 : BitVec 32 := Scalar.addi v854 v855
  let c3_i32_562 : BitVec 32 := 3#32
  let c0_i32_563 : BitVec 32 := 0#32
  let v857 : BitVec 1 := Scalar.cmpi .eq c3_i32_562 c0_i32_563
  let c1_i32_564 : BitVec 32 := 1#32
  let v858 : BitVec 32 := Scalar.select v857 c1_i32_564 c3_i32_562
  let v859 : BitVec 32 := Scalar.remsi v856 v858
  let c0_i32_566 : BitVec 32 := 0#32
  let v861 : BitVec 1 := Scalar.cmpi .slt v859 c0_i32_566
  let c0_i32_567 : BitVec 32 := 0#32
  let v862 : BitVec 1 := Scalar.cmpi .slt v858 c0_i32_567
  let v863 : BitVec 1 := Scalar.xori v861 v862
  let c0_i32_565 : BitVec 32 := 0#32
  let v860 : BitVec 1 := Scalar.cmpi .ne v859 c0_i32_565
  let v864 : BitVec 1 := Scalar.andi v863 v860
  let v865 : BitVec 32 := Scalar.addi v859 v858
  let v866 : BitVec 32 := Scalar.select v864 v865 v859
  let c1_i32_568 : BitVec 32 := 1#32
  let v867 : BitVec 1 := Scalar.cmpi .ne v866 c1_i32_568
  let v868 : BitVec 1 := Scalar.ori v853 v867
  let true_582 : BitVec 1 := 1#1
  let v891 : BitVec 1 := Scalar.xori v868 true_582
  let v892 : BitVec 1 := Scalar.andi v883 v891
  let v893 : BitVec 32 := Scalar.extui v892
  let c0_i32_583 : BitVec 32 := 0#32
  let v894 : BitVec 1 := Scalar.cmpi .ne v893 c0_i32_583
  v894

def k0_dev55 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_552 : BitVec 32 := 8#32
  let v842 : BitVec 32 := Scalar.addi v2 c8_i32_552
  let c32_i32_553 : BitVec 32 := 32#32
  let c0_i32_554 : BitVec 32 := 0#32
  let v843 : BitVec 1 := Scalar.cmpi .eq c32_i32_553 c0_i32_554
  let c1_i32_555 : BitVec 32 := 1#32
  let v844 : BitVec 32 := Scalar.select v843 c1_i32_555 c32_i32_553
  let v845 : BitVec 32 := Scalar.remsi v842 v844
  let c0_i32_557 : BitVec 32 := 0#32
  let v847 : BitVec 1 := Scalar.cmpi .slt v845 c0_i32_557
  let c0_i32_558 : BitVec 32 := 0#32
  let v848 : BitVec 1 := Scalar.cmpi .slt v844 c0_i32_558
  let v849 : BitVec 1 := Scalar.xori v847 v848
  let c0_i32_556 : BitVec 32 := 0#32
  let v846 : BitVec 1 := Scalar.cmpi .ne v845 c0_i32_556
  let v850 : BitVec 1 := Scalar.andi v849 v846
  let v851 : BitVec 32 := Scalar.addi v845 v844
  let v852 : BitVec 32 := Scalar.select v850 v851 v845
  let c1_i32_3566 : BitVec 32 := 1#32
  let v5774 : BitVec 32 := Scalar.muli v852 c1_i32_3566
  let v5775 : BitVec 32 := Scalar.addi c0_i32_3567 v5774
  v5775.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_591 : BitVec 32 := 0#32
  let v906 : BitVec 1 := Scalar.cmpi .eq v2 c0_i32_591
  let c2_i32_592 : BitVec 32 := 2#32
  let c9_i32_584 : BitVec 32 := 9#32
  let v895 : BitVec 32 := Scalar.addi v2 c9_i32_584
  let c32_i32_585 : BitVec 32 := 32#32
  let c0_i32_586 : BitVec 32 := 0#32
  let v896 : BitVec 1 := Scalar.cmpi .eq c32_i32_585 c0_i32_586
  let c1_i32_587 : BitVec 32 := 1#32
  let v897 : BitVec 32 := Scalar.select v896 c1_i32_587 c32_i32_585
  let v898 : BitVec 32 := Scalar.remsi v895 v897
  let c0_i32_589 : BitVec 32 := 0#32
  let v900 : BitVec 1 := Scalar.cmpi .slt v898 c0_i32_589
  let c0_i32_590 : BitVec 32 := 0#32
  let v901 : BitVec 1 := Scalar.cmpi .slt v897 c0_i32_590
  let v902 : BitVec 1 := Scalar.xori v900 v901
  let c0_i32_588 : BitVec 32 := 0#32
  let v899 : BitVec 1 := Scalar.cmpi .ne v898 c0_i32_588
  let v903 : BitVec 1 := Scalar.andi v902 v899
  let v904 : BitVec 32 := Scalar.addi v898 v897
  let v905 : BitVec 32 := Scalar.select v903 v904 v898
  let v907 : BitVec 32 := Scalar.muli c2_i32_592 v905
  let c2_i32_593 : BitVec 32 := 2#32
  let v908 : BitVec 32 := Scalar.muli c2_i32_593 v2
  let v909 : BitVec 32 := Scalar.addi v907 v908
  let c3_i32_594 : BitVec 32 := 3#32
  let c0_i32_595 : BitVec 32 := 0#32
  let v910 : BitVec 1 := Scalar.cmpi .eq c3_i32_594 c0_i32_595
  let c1_i32_596 : BitVec 32 := 1#32
  let v911 : BitVec 32 := Scalar.select v910 c1_i32_596 c3_i32_594
  let v912 : BitVec 32 := Scalar.remsi v909 v911
  let c0_i32_598 : BitVec 32 := 0#32
  let v914 : BitVec 1 := Scalar.cmpi .slt v912 c0_i32_598
  let c0_i32_599 : BitVec 32 := 0#32
  let v915 : BitVec 1 := Scalar.cmpi .slt v911 c0_i32_599
  let v916 : BitVec 1 := Scalar.xori v914 v915
  let c0_i32_597 : BitVec 32 := 0#32
  let v913 : BitVec 1 := Scalar.cmpi .ne v912 c0_i32_597
  let v917 : BitVec 1 := Scalar.andi v916 v913
  let v918 : BitVec 32 := Scalar.addi v912 v911
  let v919 : BitVec 32 := Scalar.select v917 v918 v912
  let c1_i32_600 : BitVec 32 := 1#32
  let v920 : BitVec 1 := Scalar.cmpi .ne v919 c1_i32_600
  let v921 : BitVec 1 := Scalar.ori v906 v920
  let c2_i32_601 : BitVec 32 := 2#32
  let v922 : BitVec 32 := Scalar.muli c2_i32_601 v905
  let c2_i32_602 : BitVec 32 := 2#32
  let v923 : BitVec 32 := Scalar.muli c2_i32_602 v2
  let v924 : BitVec 32 := Scalar.addi v922 v923
  let c1_i32_603 : BitVec 32 := 1#32
  let v925 : BitVec 32 := Scalar.addi v924 c1_i32_603
  let c3_i32_604 : BitVec 32 := 3#32
  let c0_i32_605 : BitVec 32 := 0#32
  let v926 : BitVec 1 := Scalar.cmpi .eq c3_i32_604 c0_i32_605
  let c1_i32_606 : BitVec 32 := 1#32
  let v927 : BitVec 32 := Scalar.select v926 c1_i32_606 c3_i32_604
  let v928 : BitVec 32 := Scalar.remsi v925 v927
  let c0_i32_608 : BitVec 32 := 0#32
  let v930 : BitVec 1 := Scalar.cmpi .slt v928 c0_i32_608
  let c0_i32_609 : BitVec 32 := 0#32
  let v931 : BitVec 1 := Scalar.cmpi .slt v927 c0_i32_609
  let v932 : BitVec 1 := Scalar.xori v930 v931
  let c0_i32_607 : BitVec 32 := 0#32
  let v929 : BitVec 1 := Scalar.cmpi .ne v928 c0_i32_607
  let v933 : BitVec 1 := Scalar.andi v932 v929
  let v934 : BitVec 32 := Scalar.addi v928 v927
  let v935 : BitVec 32 := Scalar.select v933 v934 v928
  let c1_i32_610 : BitVec 32 := 1#32
  let v936 : BitVec 1 := Scalar.cmpi .ne v935 c1_i32_610
  let v937 : BitVec 1 := Scalar.andi v921 v936
  let v938 : BitVec 32 := Scalar.extui v937
  let c0_i32_611 : BitVec 32 := 0#32
  let v939 : BitVec 1 := Scalar.cmpi .ne v938 c0_i32_611
  v939

def k0_dev56 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_584 : BitVec 32 := 9#32
  let v895 : BitVec 32 := Scalar.addi v2 c9_i32_584
  let c32_i32_585 : BitVec 32 := 32#32
  let c0_i32_586 : BitVec 32 := 0#32
  let v896 : BitVec 1 := Scalar.cmpi .eq c32_i32_585 c0_i32_586
  let c1_i32_587 : BitVec 32 := 1#32
  let v897 : BitVec 32 := Scalar.select v896 c1_i32_587 c32_i32_585
  let v898 : BitVec 32 := Scalar.remsi v895 v897
  let c0_i32_589 : BitVec 32 := 0#32
  let v900 : BitVec 1 := Scalar.cmpi .slt v898 c0_i32_589
  let c0_i32_590 : BitVec 32 := 0#32
  let v901 : BitVec 1 := Scalar.cmpi .slt v897 c0_i32_590
  let v902 : BitVec 1 := Scalar.xori v900 v901
  let c0_i32_588 : BitVec 32 := 0#32
  let v899 : BitVec 1 := Scalar.cmpi .ne v898 c0_i32_588
  let v903 : BitVec 1 := Scalar.andi v902 v899
  let v904 : BitVec 32 := Scalar.addi v898 v897
  let v905 : BitVec 32 := Scalar.select v903 v904 v898
  let c1_i32_3564 : BitVec 32 := 1#32
  let v5774 : BitVec 32 := Scalar.muli v905 c1_i32_3564
  let v5775 : BitVec 32 := Scalar.addi c0_i32_3565 v5774
  v5775.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_591 : BitVec 32 := 0#32
  let v906 : BitVec 1 := Scalar.cmpi .eq v2 c0_i32_591
  let c2_i32_592 : BitVec 32 := 2#32
  let c9_i32_584 : BitVec 32 := 9#32
  let v895 : BitVec 32 := Scalar.addi v2 c9_i32_584
  let c32_i32_585 : BitVec 32 := 32#32
  let c0_i32_586 : BitVec 32 := 0#32
  let v896 : BitVec 1 := Scalar.cmpi .eq c32_i32_585 c0_i32_586
  let c1_i32_587 : BitVec 32 := 1#32
  let v897 : BitVec 32 := Scalar.select v896 c1_i32_587 c32_i32_585
  let v898 : BitVec 32 := Scalar.remsi v895 v897
  let c0_i32_589 : BitVec 32 := 0#32
  let v900 : BitVec 1 := Scalar.cmpi .slt v898 c0_i32_589
  let c0_i32_590 : BitVec 32 := 0#32
  let v901 : BitVec 1 := Scalar.cmpi .slt v897 c0_i32_590
  let v902 : BitVec 1 := Scalar.xori v900 v901
  let c0_i32_588 : BitVec 32 := 0#32
  let v899 : BitVec 1 := Scalar.cmpi .ne v898 c0_i32_588
  let v903 : BitVec 1 := Scalar.andi v902 v899
  let v904 : BitVec 32 := Scalar.addi v898 v897
  let v905 : BitVec 32 := Scalar.select v903 v904 v898
  let v907 : BitVec 32 := Scalar.muli c2_i32_592 v905
  let c2_i32_593 : BitVec 32 := 2#32
  let v908 : BitVec 32 := Scalar.muli c2_i32_593 v2
  let v909 : BitVec 32 := Scalar.addi v907 v908
  let c3_i32_594 : BitVec 32 := 3#32
  let c0_i32_595 : BitVec 32 := 0#32
  let v910 : BitVec 1 := Scalar.cmpi .eq c3_i32_594 c0_i32_595
  let c1_i32_596 : BitVec 32 := 1#32
  let v911 : BitVec 32 := Scalar.select v910 c1_i32_596 c3_i32_594
  let v912 : BitVec 32 := Scalar.remsi v909 v911
  let c0_i32_598 : BitVec 32 := 0#32
  let v914 : BitVec 1 := Scalar.cmpi .slt v912 c0_i32_598
  let c0_i32_599 : BitVec 32 := 0#32
  let v915 : BitVec 1 := Scalar.cmpi .slt v911 c0_i32_599
  let v916 : BitVec 1 := Scalar.xori v914 v915
  let c0_i32_597 : BitVec 32 := 0#32
  let v913 : BitVec 1 := Scalar.cmpi .ne v912 c0_i32_597
  let v917 : BitVec 1 := Scalar.andi v916 v913
  let v918 : BitVec 32 := Scalar.addi v912 v911
  let v919 : BitVec 32 := Scalar.select v917 v918 v912
  let c1_i32_600 : BitVec 32 := 1#32
  let v920 : BitVec 1 := Scalar.cmpi .ne v919 c1_i32_600
  let v921 : BitVec 1 := Scalar.ori v906 v920
  let c2_i32_601 : BitVec 32 := 2#32
  let v922 : BitVec 32 := Scalar.muli c2_i32_601 v905
  let c2_i32_602 : BitVec 32 := 2#32
  let v923 : BitVec 32 := Scalar.muli c2_i32_602 v2
  let v924 : BitVec 32 := Scalar.addi v922 v923
  let c1_i32_603 : BitVec 32 := 1#32
  let v925 : BitVec 32 := Scalar.addi v924 c1_i32_603
  let c3_i32_604 : BitVec 32 := 3#32
  let c0_i32_605 : BitVec 32 := 0#32
  let v926 : BitVec 1 := Scalar.cmpi .eq c3_i32_604 c0_i32_605
  let c1_i32_606 : BitVec 32 := 1#32
  let v927 : BitVec 32 := Scalar.select v926 c1_i32_606 c3_i32_604
  let v928 : BitVec 32 := Scalar.remsi v925 v927
  let c0_i32_608 : BitVec 32 := 0#32
  let v930 : BitVec 1 := Scalar.cmpi .slt v928 c0_i32_608
  let c0_i32_609 : BitVec 32 := 0#32
  let v931 : BitVec 1 := Scalar.cmpi .slt v927 c0_i32_609
  let v932 : BitVec 1 := Scalar.xori v930 v931
  let c0_i32_607 : BitVec 32 := 0#32
  let v929 : BitVec 1 := Scalar.cmpi .ne v928 c0_i32_607
  let v933 : BitVec 1 := Scalar.andi v932 v929
  let v934 : BitVec 32 := Scalar.addi v928 v927
  let v935 : BitVec 32 := Scalar.select v933 v934 v928
  let c1_i32_610 : BitVec 32 := 1#32
  let v936 : BitVec 1 := Scalar.cmpi .ne v935 c1_i32_610
  let true_612 : BitVec 1 := 1#1
  let v940 : BitVec 1 := Scalar.xori v936 true_612
  let v941 : BitVec 1 := Scalar.andi v921 v940
  let v942 : BitVec 32 := Scalar.extui v941
  let c0_i32_613 : BitVec 32 := 0#32
  let v943 : BitVec 1 := Scalar.cmpi .ne v942 c0_i32_613
  v943

def k0_dev57 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_584 : BitVec 32 := 9#32
  let v895 : BitVec 32 := Scalar.addi v2 c9_i32_584
  let c32_i32_585 : BitVec 32 := 32#32
  let c0_i32_586 : BitVec 32 := 0#32
  let v896 : BitVec 1 := Scalar.cmpi .eq c32_i32_585 c0_i32_586
  let c1_i32_587 : BitVec 32 := 1#32
  let v897 : BitVec 32 := Scalar.select v896 c1_i32_587 c32_i32_585
  let v898 : BitVec 32 := Scalar.remsi v895 v897
  let c0_i32_589 : BitVec 32 := 0#32
  let v900 : BitVec 1 := Scalar.cmpi .slt v898 c0_i32_589
  let c0_i32_590 : BitVec 32 := 0#32
  let v901 : BitVec 1 := Scalar.cmpi .slt v897 c0_i32_590
  let v902 : BitVec 1 := Scalar.xori v900 v901
  let c0_i32_588 : BitVec 32 := 0#32
  let v899 : BitVec 1 := Scalar.cmpi .ne v898 c0_i32_588
  let v903 : BitVec 1 := Scalar.andi v902 v899
  let v904 : BitVec 32 := Scalar.addi v898 v897
  let v905 : BitVec 32 := Scalar.select v903 v904 v898
  let c1_i32_3566 : BitVec 32 := 1#32
  let v5774 : BitVec 32 := Scalar.muli v905 c1_i32_3566
  let v5775 : BitVec 32 := Scalar.addi c0_i32_3567 v5774
  v5775.toNat
def k0_cond27 (d0 : Dev nD) : BitVec 1 :=
  let c2_i32_601 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_584 : BitVec 32 := 9#32
  let v895 : BitVec 32 := Scalar.addi v2 c9_i32_584
  let c32_i32_585 : BitVec 32 := 32#32
  let c0_i32_586 : BitVec 32 := 0#32
  let v896 : BitVec 1 := Scalar.cmpi .eq c32_i32_585 c0_i32_586
  let c1_i32_587 : BitVec 32 := 1#32
  let v897 : BitVec 32 := Scalar.select v896 c1_i32_587 c32_i32_585
  let v898 : BitVec 32 := Scalar.remsi v895 v897
  let c0_i32_589 : BitVec 32 := 0#32
  let v900 : BitVec 1 := Scalar.cmpi .slt v898 c0_i32_589
  let c0_i32_590 : BitVec 32 := 0#32
  let v901 : BitVec 1 := Scalar.cmpi .slt v897 c0_i32_590
  let v902 : BitVec 1 := Scalar.xori v900 v901
  let c0_i32_588 : BitVec 32 := 0#32
  let v899 : BitVec 1 := Scalar.cmpi .ne v898 c0_i32_588
  let v903 : BitVec 1 := Scalar.andi v902 v899
  let v904 : BitVec 32 := Scalar.addi v898 v897
  let v905 : BitVec 32 := Scalar.select v903 v904 v898
  let v922 : BitVec 32 := Scalar.muli c2_i32_601 v905
  let c2_i32_602 : BitVec 32 := 2#32
  let v923 : BitVec 32 := Scalar.muli c2_i32_602 v2
  let v924 : BitVec 32 := Scalar.addi v922 v923
  let c1_i32_603 : BitVec 32 := 1#32
  let v925 : BitVec 32 := Scalar.addi v924 c1_i32_603
  let c3_i32_604 : BitVec 32 := 3#32
  let c0_i32_605 : BitVec 32 := 0#32
  let v926 : BitVec 1 := Scalar.cmpi .eq c3_i32_604 c0_i32_605
  let c1_i32_606 : BitVec 32 := 1#32
  let v927 : BitVec 32 := Scalar.select v926 c1_i32_606 c3_i32_604
  let v928 : BitVec 32 := Scalar.remsi v925 v927
  let c0_i32_608 : BitVec 32 := 0#32
  let v930 : BitVec 1 := Scalar.cmpi .slt v928 c0_i32_608
  let c0_i32_609 : BitVec 32 := 0#32
  let v931 : BitVec 1 := Scalar.cmpi .slt v927 c0_i32_609
  let v932 : BitVec 1 := Scalar.xori v930 v931
  let c0_i32_607 : BitVec 32 := 0#32
  let v929 : BitVec 1 := Scalar.cmpi .ne v928 c0_i32_607
  let v933 : BitVec 1 := Scalar.andi v932 v929
  let v934 : BitVec 32 := Scalar.addi v928 v927
  let v935 : BitVec 32 := Scalar.select v933 v934 v928
  let c1_i32_610 : BitVec 32 := 1#32
  let v936 : BitVec 1 := Scalar.cmpi .ne v935 c1_i32_610
  let c0_i32_591 : BitVec 32 := 0#32
  let v906 : BitVec 1 := Scalar.cmpi .eq v2 c0_i32_591
  let c2_i32_592 : BitVec 32 := 2#32
  let v907 : BitVec 32 := Scalar.muli c2_i32_592 v905
  let c2_i32_593 : BitVec 32 := 2#32
  let v908 : BitVec 32 := Scalar.muli c2_i32_593 v2
  let v909 : BitVec 32 := Scalar.addi v907 v908
  let c3_i32_594 : BitVec 32 := 3#32
  let c0_i32_595 : BitVec 32 := 0#32
  let v910 : BitVec 1 := Scalar.cmpi .eq c3_i32_594 c0_i32_595
  let c1_i32_596 : BitVec 32 := 1#32
  let v911 : BitVec 32 := Scalar.select v910 c1_i32_596 c3_i32_594
  let v912 : BitVec 32 := Scalar.remsi v909 v911
  let c0_i32_598 : BitVec 32 := 0#32
  let v914 : BitVec 1 := Scalar.cmpi .slt v912 c0_i32_598
  let c0_i32_599 : BitVec 32 := 0#32
  let v915 : BitVec 1 := Scalar.cmpi .slt v911 c0_i32_599
  let v916 : BitVec 1 := Scalar.xori v914 v915
  let c0_i32_597 : BitVec 32 := 0#32
  let v913 : BitVec 1 := Scalar.cmpi .ne v912 c0_i32_597
  let v917 : BitVec 1 := Scalar.andi v916 v913
  let v918 : BitVec 32 := Scalar.addi v912 v911
  let v919 : BitVec 32 := Scalar.select v917 v918 v912
  let c1_i32_600 : BitVec 32 := 1#32
  let v920 : BitVec 1 := Scalar.cmpi .ne v919 c1_i32_600
  let v921 : BitVec 1 := Scalar.ori v906 v920
  let true_614 : BitVec 1 := 1#1
  let v944 : BitVec 1 := Scalar.xori v921 true_614
  let v945 : BitVec 1 := Scalar.andi v936 v944
  let v946 : BitVec 32 := Scalar.extui v945
  let c0_i32_615 : BitVec 32 := 0#32
  let v947 : BitVec 1 := Scalar.cmpi .ne v946 c0_i32_615
  v947

def k0_dev58 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_584 : BitVec 32 := 9#32
  let v895 : BitVec 32 := Scalar.addi v2 c9_i32_584
  let c32_i32_585 : BitVec 32 := 32#32
  let c0_i32_586 : BitVec 32 := 0#32
  let v896 : BitVec 1 := Scalar.cmpi .eq c32_i32_585 c0_i32_586
  let c1_i32_587 : BitVec 32 := 1#32
  let v897 : BitVec 32 := Scalar.select v896 c1_i32_587 c32_i32_585
  let v898 : BitVec 32 := Scalar.remsi v895 v897
  let c0_i32_589 : BitVec 32 := 0#32
  let v900 : BitVec 1 := Scalar.cmpi .slt v898 c0_i32_589
  let c0_i32_590 : BitVec 32 := 0#32
  let v901 : BitVec 1 := Scalar.cmpi .slt v897 c0_i32_590
  let v902 : BitVec 1 := Scalar.xori v900 v901
  let c0_i32_588 : BitVec 32 := 0#32
  let v899 : BitVec 1 := Scalar.cmpi .ne v898 c0_i32_588
  let v903 : BitVec 1 := Scalar.andi v902 v899
  let v904 : BitVec 32 := Scalar.addi v898 v897
  let v905 : BitVec 32 := Scalar.select v903 v904 v898
  let c1_i32_3566 : BitVec 32 := 1#32
  let v5774 : BitVec 32 := Scalar.muli v905 c1_i32_3566
  let v5775 : BitVec 32 := Scalar.addi c0_i32_3567 v5774
  v5775.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_623 : BitVec 32 := 0#32
  let v959 : BitVec 1 := Scalar.cmpi .eq v2 c0_i32_623
  let c2_i32_624 : BitVec 32 := 2#32
  let c10_i32_616 : BitVec 32 := 10#32
  let v948 : BitVec 32 := Scalar.addi v2 c10_i32_616
  let c32_i32_617 : BitVec 32 := 32#32
  let c0_i32_618 : BitVec 32 := 0#32
  let v949 : BitVec 1 := Scalar.cmpi .eq c32_i32_617 c0_i32_618
  let c1_i32_619 : BitVec 32 := 1#32
  let v950 : BitVec 32 := Scalar.select v949 c1_i32_619 c32_i32_617
  let v951 : BitVec 32 := Scalar.remsi v948 v950
  let c0_i32_621 : BitVec 32 := 0#32
  let v953 : BitVec 1 := Scalar.cmpi .slt v951 c0_i32_621
  let c0_i32_622 : BitVec 32 := 0#32
  let v954 : BitVec 1 := Scalar.cmpi .slt v950 c0_i32_622
  let v955 : BitVec 1 := Scalar.xori v953 v954
  let c0_i32_620 : BitVec 32 := 0#32
  let v952 : BitVec 1 := Scalar.cmpi .ne v951 c0_i32_620
  let v956 : BitVec 1 := Scalar.andi v955 v952
  let v957 : BitVec 32 := Scalar.addi v951 v950
  let v958 : BitVec 32 := Scalar.select v956 v957 v951
  let v960 : BitVec 32 := Scalar.muli c2_i32_624 v958
  let c2_i32_625 : BitVec 32 := 2#32
  let v961 : BitVec 32 := Scalar.muli c2_i32_625 v2
  let v962 : BitVec 32 := Scalar.addi v960 v961
  let c3_i32_626 : BitVec 32 := 3#32
  let c0_i32_627 : BitVec 32 := 0#32
  let v963 : BitVec 1 := Scalar.cmpi .eq c3_i32_626 c0_i32_627
  let c1_i32_628 : BitVec 32 := 1#32
  let v964 : BitVec 32 := Scalar.select v963 c1_i32_628 c3_i32_626
  let v965 : BitVec 32 := Scalar.remsi v962 v964
  let c0_i32_630 : BitVec 32 := 0#32
  let v967 : BitVec 1 := Scalar.cmpi .slt v965 c0_i32_630
  let c0_i32_631 : BitVec 32 := 0#32
  let v968 : BitVec 1 := Scalar.cmpi .slt v964 c0_i32_631
  let v969 : BitVec 1 := Scalar.xori v967 v968
  let c0_i32_629 : BitVec 32 := 0#32
  let v966 : BitVec 1 := Scalar.cmpi .ne v965 c0_i32_629
  let v970 : BitVec 1 := Scalar.andi v969 v966
  let v971 : BitVec 32 := Scalar.addi v965 v964
  let v972 : BitVec 32 := Scalar.select v970 v971 v965
  let c1_i32_632 : BitVec 32 := 1#32
  let v973 : BitVec 1 := Scalar.cmpi .ne v972 c1_i32_632
  let v974 : BitVec 1 := Scalar.ori v959 v973
  let c2_i32_633 : BitVec 32 := 2#32
  let v975 : BitVec 32 := Scalar.muli c2_i32_633 v958
  let c2_i32_634 : BitVec 32 := 2#32
  let v976 : BitVec 32 := Scalar.muli c2_i32_634 v2
  let v977 : BitVec 32 := Scalar.addi v975 v976
  let c1_i32_635 : BitVec 32 := 1#32
  let v978 : BitVec 32 := Scalar.addi v977 c1_i32_635
  let c3_i32_636 : BitVec 32 := 3#32
  let c0_i32_637 : BitVec 32 := 0#32
  let v979 : BitVec 1 := Scalar.cmpi .eq c3_i32_636 c0_i32_637
  let c1_i32_638 : BitVec 32 := 1#32
  let v980 : BitVec 32 := Scalar.select v979 c1_i32_638 c3_i32_636
  let v981 : BitVec 32 := Scalar.remsi v978 v980
  let c0_i32_640 : BitVec 32 := 0#32
  let v983 : BitVec 1 := Scalar.cmpi .slt v981 c0_i32_640
  let c0_i32_641 : BitVec 32 := 0#32
  let v984 : BitVec 1 := Scalar.cmpi .slt v980 c0_i32_641
  let v985 : BitVec 1 := Scalar.xori v983 v984
  let c0_i32_639 : BitVec 32 := 0#32
  let v982 : BitVec 1 := Scalar.cmpi .ne v981 c0_i32_639
  let v986 : BitVec 1 := Scalar.andi v985 v982
  let v987 : BitVec 32 := Scalar.addi v981 v980
  let v988 : BitVec 32 := Scalar.select v986 v987 v981
  let c1_i32_642 : BitVec 32 := 1#32
  let v989 : BitVec 1 := Scalar.cmpi .ne v988 c1_i32_642
  let v990 : BitVec 1 := Scalar.andi v974 v989
  let v991 : BitVec 32 := Scalar.extui v990
  let c0_i32_643 : BitVec 32 := 0#32
  let v992 : BitVec 1 := Scalar.cmpi .ne v991 c0_i32_643
  v992

def k0_dev59 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_616 : BitVec 32 := 10#32
  let v948 : BitVec 32 := Scalar.addi v2 c10_i32_616
  let c32_i32_617 : BitVec 32 := 32#32
  let c0_i32_618 : BitVec 32 := 0#32
  let v949 : BitVec 1 := Scalar.cmpi .eq c32_i32_617 c0_i32_618
  let c1_i32_619 : BitVec 32 := 1#32
  let v950 : BitVec 32 := Scalar.select v949 c1_i32_619 c32_i32_617
  let v951 : BitVec 32 := Scalar.remsi v948 v950
  let c0_i32_621 : BitVec 32 := 0#32
  let v953 : BitVec 1 := Scalar.cmpi .slt v951 c0_i32_621
  let c0_i32_622 : BitVec 32 := 0#32
  let v954 : BitVec 1 := Scalar.cmpi .slt v950 c0_i32_622
  let v955 : BitVec 1 := Scalar.xori v953 v954
  let c0_i32_620 : BitVec 32 := 0#32
  let v952 : BitVec 1 := Scalar.cmpi .ne v951 c0_i32_620
  let v956 : BitVec 1 := Scalar.andi v955 v952
  let v957 : BitVec 32 := Scalar.addi v951 v950
  let v958 : BitVec 32 := Scalar.select v956 v957 v951
  let c1_i32_3564 : BitVec 32 := 1#32
  let v5774 : BitVec 32 := Scalar.muli v958 c1_i32_3564
  let v5775 : BitVec 32 := Scalar.addi c0_i32_3565 v5774
  v5775.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_623 : BitVec 32 := 0#32
  let v959 : BitVec 1 := Scalar.cmpi .eq v2 c0_i32_623
  let c2_i32_624 : BitVec 32 := 2#32
  let c10_i32_616 : BitVec 32 := 10#32
  let v948 : BitVec 32 := Scalar.addi v2 c10_i32_616
  let c32_i32_617 : BitVec 32 := 32#32
  let c0_i32_618 : BitVec 32 := 0#32
  let v949 : BitVec 1 := Scalar.cmpi .eq c32_i32_617 c0_i32_618
  let c1_i32_619 : BitVec 32 := 1#32
  let v950 : BitVec 32 := Scalar.select v949 c1_i32_619 c32_i32_617
  let v951 : BitVec 32 := Scalar.remsi v948 v950
  let c0_i32_621 : BitVec 32 := 0#32
  let v953 : BitVec 1 := Scalar.cmpi .slt v951 c0_i32_621
  let c0_i32_622 : BitVec 32 := 0#32
  let v954 : BitVec 1 := Scalar.cmpi .slt v950 c0_i32_622
  let v955 : BitVec 1 := Scalar.xori v953 v954
  let c0_i32_620 : BitVec 32 := 0#32
  let v952 : BitVec 1 := Scalar.cmpi .ne v951 c0_i32_620
  let v956 : BitVec 1 := Scalar.andi v955 v952
  let v957 : BitVec 32 := Scalar.addi v951 v950
  let v958 : BitVec 32 := Scalar.select v956 v957 v951
  let v960 : BitVec 32 := Scalar.muli c2_i32_624 v958
  let c2_i32_625 : BitVec 32 := 2#32
  let v961 : BitVec 32 := Scalar.muli c2_i32_625 v2
  let v962 : BitVec 32 := Scalar.addi v960 v961
  let c3_i32_626 : BitVec 32 := 3#32
  let c0_i32_627 : BitVec 32 := 0#32
  let v963 : BitVec 1 := Scalar.cmpi .eq c3_i32_626 c0_i32_627
  let c1_i32_628 : BitVec 32 := 1#32
  let v964 : BitVec 32 := Scalar.select v963 c1_i32_628 c3_i32_626
  let v965 : BitVec 32 := Scalar.remsi v962 v964
  let c0_i32_630 : BitVec 32 := 0#32
  let v967 : BitVec 1 := Scalar.cmpi .slt v965 c0_i32_630
  let c0_i32_631 : BitVec 32 := 0#32
  let v968 : BitVec 1 := Scalar.cmpi .slt v964 c0_i32_631
  let v969 : BitVec 1 := Scalar.xori v967 v968
  let c0_i32_629 : BitVec 32 := 0#32
  let v966 : BitVec 1 := Scalar.cmpi .ne v965 c0_i32_629
  let v970 : BitVec 1 := Scalar.andi v969 v966
  let v971 : BitVec 32 := Scalar.addi v965 v964
  let v972 : BitVec 32 := Scalar.select v970 v971 v965
  let c1_i32_632 : BitVec 32 := 1#32
  let v973 : BitVec 1 := Scalar.cmpi .ne v972 c1_i32_632
  let v974 : BitVec 1 := Scalar.ori v959 v973
  let c2_i32_633 : BitVec 32 := 2#32
  let v975 : BitVec 32 := Scalar.muli c2_i32_633 v958
  let c2_i32_634 : BitVec 32 := 2#32
  let v976 : BitVec 32 := Scalar.muli c2_i32_634 v2
  let v977 : BitVec 32 := Scalar.addi v975 v976
  let c1_i32_635 : BitVec 32 := 1#32
  let v978 : BitVec 32 := Scalar.addi v977 c1_i32_635
  let c3_i32_636 : BitVec 32 := 3#32
  let c0_i32_637 : BitVec 32 := 0#32
  let v979 : BitVec 1 := Scalar.cmpi .eq c3_i32_636 c0_i32_637
  let c1_i32_638 : BitVec 32 := 1#32
  let v980 : BitVec 32 := Scalar.select v979 c1_i32_638 c3_i32_636
  let v981 : BitVec 32 := Scalar.remsi v978 v980
  let c0_i32_640 : BitVec 32 := 0#32
  let v983 : BitVec 1 := Scalar.cmpi .slt v981 c0_i32_640
  let c0_i32_641 : BitVec 32 := 0#32
  let v984 : BitVec 1 := Scalar.cmpi .slt v980 c0_i32_641
  let v985 : BitVec 1 := Scalar.xori v983 v984
  let c0_i32_639 : BitVec 32 := 0#32
  let v982 : BitVec 1 := Scalar.cmpi .ne v981 c0_i32_639
  let v986 : BitVec 1 := Scalar.andi v985 v982
  let v987 : BitVec 32 := Scalar.addi v981 v980
  let v988 : BitVec 32 := Scalar.select v986 v987 v981
  let c1_i32_642 : BitVec 32 := 1#32
  let v989 : BitVec 1 := Scalar.cmpi .ne v988 c1_i32_642
  let true_644 : BitVec 1 := 1#1
  let v993 : BitVec 1 := Scalar.xori v989 true_644
  let v994 : BitVec 1 := Scalar.andi v974 v993
  let v995 : BitVec 32 := Scalar.extui v994
  let c0_i32_645 : BitVec 32 := 0#32
  let v996 : BitVec 1 := Scalar.cmpi .ne v995 c0_i32_645
  v996

def k0_dev60 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_616 : BitVec 32 := 10#32
  let v948 : BitVec 32 := Scalar.addi v2 c10_i32_616
  let c32_i32_617 : BitVec 32 := 32#32
  let c0_i32_618 : BitVec 32 := 0#32
  let v949 : BitVec 1 := Scalar.cmpi .eq c32_i32_617 c0_i32_618
  let c1_i32_619 : BitVec 32 := 1#32
  let v950 : BitVec 32 := Scalar.select v949 c1_i32_619 c32_i32_617
  let v951 : BitVec 32 := Scalar.remsi v948 v950
  let c0_i32_621 : BitVec 32 := 0#32
  let v953 : BitVec 1 := Scalar.cmpi .slt v951 c0_i32_621
  let c0_i32_622 : BitVec 32 := 0#32
  let v954 : BitVec 1 := Scalar.cmpi .slt v950 c0_i32_622
  let v955 : BitVec 1 := Scalar.xori v953 v954
  let c0_i32_620 : BitVec 32 := 0#32
  let v952 : BitVec 1 := Scalar.cmpi .ne v951 c0_i32_620
  let v956 : BitVec 1 := Scalar.andi v955 v952
  let v957 : BitVec 32 := Scalar.addi v951 v950
  let v958 : BitVec 32 := Scalar.select v956 v957 v951
  let c1_i32_3566 : BitVec 32 := 1#32
  let v5774 : BitVec 32 := Scalar.muli v958 c1_i32_3566
  let v5775 : BitVec 32 := Scalar.addi c0_i32_3567 v5774
  v5775.toNat
def k0_cond30 (d0 : Dev nD) : BitVec 1 :=
  let c2_i32_633 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_616 : BitVec 32 := 10#32
  let v948 : BitVec 32 := Scalar.addi v2 c10_i32_616
  let c32_i32_617 : BitVec 32 := 32#32
  let c0_i32_618 : BitVec 32 := 0#32
  let v949 : BitVec 1 := Scalar.cmpi .eq c32_i32_617 c0_i32_618
  let c1_i32_619 : BitVec 32 := 1#32
  let v950 : BitVec 32 := Scalar.select v949 c1_i32_619 c32_i32_617
  let v951 : BitVec 32 := Scalar.remsi v948 v950
  let c0_i32_621 : BitVec 32 := 0#32
  let v953 : BitVec 1 := Scalar.cmpi .slt v951 c0_i32_621
  let c0_i32_622 : BitVec 32 := 0#32
  let v954 : BitVec 1 := Scalar.cmpi .slt v950 c0_i32_622
  let v955 : BitVec 1 := Scalar.xori v953 v954
  let c0_i32_620 : BitVec 32 := 0#32
  let v952 : BitVec 1 := Scalar.cmpi .ne v951 c0_i32_620
  let v956 : BitVec 1 := Scalar.andi v955 v952
  let v957 : BitVec 32 := Scalar.addi v951 v950
  let v958 : BitVec 32 := Scalar.select v956 v957 v951
  let v975 : BitVec 32 := Scalar.muli c2_i32_633 v958
  let c2_i32_634 : BitVec 32 := 2#32
  let v976 : BitVec 32 := Scalar.muli c2_i32_634 v2
  let v977 : BitVec 32 := Scalar.addi v975 v976
  let c1_i32_635 : BitVec 32 := 1#32
  let v978 : BitVec 32 := Scalar.addi v977 c1_i32_635
  let c3_i32_636 : BitVec 32 := 3#32
  let c0_i32_637 : BitVec 32 := 0#32
  let v979 : BitVec 1 := Scalar.cmpi .eq c3_i32_636 c0_i32_637
  let c1_i32_638 : BitVec 32 := 1#32
  let v980 : BitVec 32 := Scalar.select v979 c1_i32_638 c3_i32_636
  let v981 : BitVec 32 := Scalar.remsi v978 v980
  let c0_i32_640 : BitVec 32 := 0#32
  let v983 : BitVec 1 := Scalar.cmpi .slt v981 c0_i32_640
  let c0_i32_641 : BitVec 32 := 0#32
  let v984 : BitVec 1 := Scalar.cmpi .slt v980 c0_i32_641
  let v985 : BitVec 1 := Scalar.xori v983 v984
  let c0_i32_639 : BitVec 32 := 0#32
  let v982 : BitVec 1 := Scalar.cmpi .ne v981 c0_i32_639
  let v986 : BitVec 1 := Scalar.andi v985 v982
  let v987 : BitVec 32 := Scalar.addi v981 v980
  let v988 : BitVec 32 := Scalar.select v986 v987 v981
  let c1_i32_642 : BitVec 32 := 1#32
  let v989 : BitVec 1 := Scalar.cmpi .ne v988 c1_i32_642
  let c0_i32_623 : BitVec 32 := 0#32
  let v959 : BitVec 1 := Scalar.cmpi .eq v2 c0_i32_623
  let c2_i32_624 : BitVec 32 := 2#32
  let v960 : BitVec 32 := Scalar.muli c2_i32_624 v958
  let c2_i32_625 : BitVec 32 := 2#32
  let v961 : BitVec 32 := Scalar.muli c2_i32_625 v2
  let v962 : BitVec 32 := Scalar.addi v960 v961
  let c3_i32_626 : BitVec 32 := 3#32
  let c0_i32_627 : BitVec 32 := 0#32
  let v963 : BitVec 1 := Scalar.cmpi .eq c3_i32_626 c0_i32_627
  let c1_i32_628 : BitVec 32 := 1#32
  let v964 : BitVec 32 := Scalar.select v963 c1_i32_628 c3_i32_626
  let v965 : BitVec 32 := Scalar.remsi v962 v964
  let c0_i32_630 : BitVec 32 := 0#32
  let v967 : BitVec 1 := Scalar.cmpi .slt v965 c0_i32_630
  let c0_i32_631 : BitVec 32 := 0#32
  let v968 : BitVec 1 := Scalar.cmpi .slt v964 c0_i32_631
  let v969 : BitVec 1 := Scalar.xori v967 v968
  let c0_i32_629 : BitVec 32 := 0#32
  let v966 : BitVec 1 := Scalar.cmpi .ne v965 c0_i32_629
  let v970 : BitVec 1 := Scalar.andi v969 v966
  let v971 : BitVec 32 := Scalar.addi v965 v964
  let v972 : BitVec 32 := Scalar.select v970 v971 v965
  let c1_i32_632 : BitVec 32 := 1#32
  let v973 : BitVec 1 := Scalar.cmpi .ne v972 c1_i32_632
  let v974 : BitVec 1 := Scalar.ori v959 v973
  let true_646 : BitVec 1 := 1#1
  let v997 : BitVec 1 := Scalar.xori v974 true_646
  let v998 : BitVec 1 := Scalar.andi v989 v997
  let v999 : BitVec 32 := Scalar.extui v998
  let c0_i32_647 : BitVec 32 := 0#32
  let v1000 : BitVec 1 := Scalar.cmpi .ne v999 c0_i32_647
  v1000

def k0_dev61 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_616 : BitVec 32 := 10#32
  let v948 : BitVec 32 := Scalar.addi v2 c10_i32_616
  let c32_i32_617 : BitVec 32 := 32#32
  let c0_i32_618 : BitVec 32 := 0#32
  let v949 : BitVec 1 := Scalar.cmpi .eq c32_i32_617 c0_i32_618
  let c1_i32_619 : BitVec 32 := 1#32
  let v950 : BitVec 32 := Scalar.select v949 c1_i32_619 c32_i32_617
  let v951 : BitVec 32 := Scalar.remsi v948 v950
  let c0_i32_621 : BitVec 32 := 0#32
  let v953 : BitVec 1 := Scalar.cmpi .slt v951 c0_i32_621
  let c0_i32_622 : BitVec 32 := 0#32
  let v954 : BitVec 1 := Scalar.cmpi .slt v950 c0_i32_622
  let v955 : BitVec 1 := Scalar.xori v953 v954
  let c0_i32_620 : BitVec 32 := 0#32
  let v952 : BitVec 1 := Scalar.cmpi .ne v951 c0_i32_620
  let v956 : BitVec 1 := Scalar.andi v955 v952
  let v957 : BitVec 32 := Scalar.addi v951 v950
  let v958 : BitVec 32 := Scalar.select v956 v957 v951
  let c1_i32_3566 : BitVec 32 := 1#32
  let v5774 : BitVec 32 := Scalar.muli v958 c1_i32_3566
  let v5775 : BitVec 32 := Scalar.addi c0_i32_3567 v5774
  v5775.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let v1012 : BitVec 1 := Scalar.cmpi .eq v2 c0_i32_655
  let c2_i32_656 : BitVec 32 := 2#32
  let c11_i32_648 : BitVec 32 := 11#32
  let v1001 : BitVec 32 := Scalar.addi v2 c11_i32_648
  let c32_i32_649 : BitVec 32 := 32#32
  let c0_i32_650 : BitVec 32 := 0#32
  let v1002 : BitVec 1 := Scalar.cmpi .eq c32_i32_649 c0_i32_650
  let c1_i32_651 : BitVec 32 := 1#32
  let v1003 : BitVec 32 := Scalar.select v1002 c1_i32_651 c32_i32_649
  let v1004 : BitVec 32 := Scalar.remsi v1001 v1003
  let c0_i32_653 : BitVec 32 := 0#32
  let v1006 : BitVec 1 := Scalar.cmpi .slt v1004 c0_i32_653
  let c0_i32_654 : BitVec 32 := 0#32
  let v1007 : BitVec 1 := Scalar.cmpi .slt v1003 c0_i32_654
  let v1008 : BitVec 1 := Scalar.xori v1006 v1007
  let c0_i32_652 : BitVec 32 := 0#32
  let v1005 : BitVec 1 := Scalar.cmpi .ne v1004 c0_i32_652
  let v1009 : BitVec 1 := Scalar.andi v1008 v1005
  let v1010 : BitVec 32 := Scalar.addi v1004 v1003
  let v1011 : BitVec 32 := Scalar.select v1009 v1010 v1004
  let v1013 : BitVec 32 := Scalar.muli c2_i32_656 v1011
  let c2_i32_657 : BitVec 32 := 2#32
  let v1014 : BitVec 32 := Scalar.muli c2_i32_657 v2
  let v1015 : BitVec 32 := Scalar.addi v1013 v1014
  let c3_i32_658 : BitVec 32 := 3#32
  let c0_i32_659 : BitVec 32 := 0#32
  let v1016 : BitVec 1 := Scalar.cmpi .eq c3_i32_658 c0_i32_659
  let c1_i32_660 : BitVec 32 := 1#32
  let v1017 : BitVec 32 := Scalar.select v1016 c1_i32_660 c3_i32_658
  let v1018 : BitVec 32 := Scalar.remsi v1015 v1017
  let c0_i32_662 : BitVec 32 := 0#32
  let v1020 : BitVec 1 := Scalar.cmpi .slt v1018 c0_i32_662
  let c0_i32_663 : BitVec 32 := 0#32
  let v1021 : BitVec 1 := Scalar.cmpi .slt v1017 c0_i32_663
  let v1022 : BitVec 1 := Scalar.xori v1020 v1021
  let c0_i32_661 : BitVec 32 := 0#32
  let v1019 : BitVec 1 := Scalar.cmpi .ne v1018 c0_i32_661
  let v1023 : BitVec 1 := Scalar.andi v1022 v1019
  let v1024 : BitVec 32 := Scalar.addi v1018 v1017
  let v1025 : BitVec 32 := Scalar.select v1023 v1024 v1018
  let c1_i32_664 : BitVec 32 := 1#32
  let v1026 : BitVec 1 := Scalar.cmpi .ne v1025 c1_i32_664
  let v1027 : BitVec 1 := Scalar.ori v1012 v1026
  let c2_i32_665 : BitVec 32 := 2#32
  let v1028 : BitVec 32 := Scalar.muli c2_i32_665 v1011
  let c2_i32_666 : BitVec 32 := 2#32
  let v1029 : BitVec 32 := Scalar.muli c2_i32_666 v2
  let v1030 : BitVec 32 := Scalar.addi v1028 v1029
  let c1_i32_667 : BitVec 32 := 1#32
  let v1031 : BitVec 32 := Scalar.addi v1030 c1_i32_667
  let c3_i32_668 : BitVec 32 := 3#32
  let c0_i32_669 : BitVec 32 := 0#32
  let v1032 : BitVec 1 := Scalar.cmpi .eq c3_i32_668 c0_i32_669
  let c1_i32_670 : BitVec 32 := 1#32
  let v1033 : BitVec 32 := Scalar.select v1032 c1_i32_670 c3_i32_668
  let v1034 : BitVec 32 := Scalar.remsi v1031 v1033
  let c0_i32_672 : BitVec 32 := 0#32
  let v1036 : BitVec 1 := Scalar.cmpi .slt v1034 c0_i32_672
  let c0_i32_673 : BitVec 32 := 0#32
  let v1037 : BitVec 1 := Scalar.cmpi .slt v1033 c0_i32_673
  let v1038 : BitVec 1 := Scalar.xori v1036 v1037
  let c0_i32_671 : BitVec 32 := 0#32
  let v1035 : BitVec 1 := Scalar.cmpi .ne v1034 c0_i32_671
  let v1039 : BitVec 1 := Scalar.andi v1038 v1035
  let v1040 : BitVec 32 := Scalar.addi v1034 v1033
  let v1041 : BitVec 32 := Scalar.select v1039 v1040 v1034
  let c1_i32_674 : BitVec 32 := 1#32
  let v1042 : BitVec 1 := Scalar.cmpi .ne v1041 c1_i32_674
  let v1043 : BitVec 1 := Scalar.andi v1027 v1042
  let v1044 : BitVec 32 := Scalar.extui v1043
  let c0_i32_675 : BitVec 32 := 0#32
  let v1045 : BitVec 1 := Scalar.cmpi .ne v1044 c0_i32_675
  v1045

def k0_dev62 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_648 : BitVec 32 := 11#32
  let v1001 : BitVec 32 := Scalar.addi v2 c11_i32_648
  let c32_i32_649 : BitVec 32 := 32#32
  let c0_i32_650 : BitVec 32 := 0#32
  let v1002 : BitVec 1 := Scalar.cmpi .eq c32_i32_649 c0_i32_650
  let c1_i32_651 : BitVec 32 := 1#32
  let v1003 : BitVec 32 := Scalar.select v1002 c1_i32_651 c32_i32_649
  let v1004 : BitVec 32 := Scalar.remsi v1001 v1003
  let c0_i32_653 : BitVec 32 := 0#32
  let v1006 : BitVec 1 := Scalar.cmpi .slt v1004 c0_i32_653
  let c0_i32_654 : BitVec 32 := 0#32
  let v1007 : BitVec 1 := Scalar.cmpi .slt v1003 c0_i32_654
  let v1008 : BitVec 1 := Scalar.xori v1006 v1007
  let c0_i32_652 : BitVec 32 := 0#32
  let v1005 : BitVec 1 := Scalar.cmpi .ne v1004 c0_i32_652
  let v1009 : BitVec 1 := Scalar.andi v1008 v1005
  let v1010 : BitVec 32 := Scalar.addi v1004 v1003
  let v1011 : BitVec 32 := Scalar.select v1009 v1010 v1004
  let c1_i32_3564 : BitVec 32 := 1#32
  let v5774 : BitVec 32 := Scalar.muli v1011 c1_i32_3564
  let v5775 : BitVec 32 := Scalar.addi c0_i32_3565 v5774
  v5775.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_655 : BitVec 32 := 0#32
  let v1012 : BitVec 1 := Scalar.cmpi .eq v2 c0_i32_655
  let c2_i32_656 : BitVec 32 := 2#32
  let c11_i32_648 : BitVec 32 := 11#32
  let v1001 : BitVec 32 := Scalar.addi v2 c11_i32_648
  let c32_i32_649 : BitVec 32 := 32#32
  let c0_i32_650 : BitVec 32 := 0#32
  let v1002 : BitVec 1 := Scalar.cmpi .eq c32_i32_649 c0_i32_650
  let c1_i32_651 : BitVec 32 := 1#32
  let v1003 : BitVec 32 := Scalar.select v1002 c1_i32_651 c32_i32_649
  let v1004 : BitVec 32 := Scalar.remsi v1001 v1003
  let c0_i32_653 : BitVec 32 := 0#32
  let v1006 : BitVec 1 := Scalar.cmpi .slt v1004 c0_i32_653
  let c0_i32_654 : BitVec 32 := 0#32
  let v1007 : BitVec 1 := Scalar.cmpi .slt v1003 c0_i32_654
  let v1008 : BitVec 1 := Scalar.xori v1006 v1007
  let c0_i32_652 : BitVec 32 := 0#32
  let v1005 : BitVec 1 := Scalar.cmpi .ne v1004 c0_i32_652
  let v1009 : BitVec 1 := Scalar.andi v1008 v1005
  let v1010 : BitVec 32 := Scalar.addi v1004 v1003
  let v1011 : BitVec 32 := Scalar.select v1009 v1010 v1004
  let v1013 : BitVec 32 := Scalar.muli c2_i32_656 v1011
  let c2_i32_657 : BitVec 32 := 2#32
  let v1014 : BitVec 32 := Scalar.muli c2_i32_657 v2
  let v1015 : BitVec 32 := Scalar.addi v1013 v1014
  let c3_i32_658 : BitVec 32 := 3#32
  let c0_i32_659 : BitVec 32 := 0#32
  let v1016 : BitVec 1 := Scalar.cmpi .eq c3_i32_658 c0_i32_659
  let c1_i32_660 : BitVec 32 := 1#32
  let v1017 : BitVec 32 := Scalar.select v1016 c1_i32_660 c3_i32_658
  let v1018 : BitVec 32 := Scalar.remsi v1015 v1017
  let c0_i32_662 : BitVec 32 := 0#32
  let v1020 : BitVec 1 := Scalar.cmpi .slt v1018 c0_i32_662
  let c0_i32_663 : BitVec 32 := 0#32
  let v1021 : BitVec 1 := Scalar.cmpi .slt v1017 c0_i32_663
  let v1022 : BitVec 1 := Scalar.xori v1020 v1021
  let c0_i32_661 : BitVec 32 := 0#32
  let v1019 : BitVec 1 := Scalar.cmpi .ne v1018 c0_i32_661
  let v1023 : BitVec 1 := Scalar.andi v1022 v1019
  let v1024 : BitVec 32 := Scalar.addi v1018 v1017
  let v1025 : BitVec 32 := Scalar.select v1023 v1024 v1018
  let c1_i32_664 : BitVec 32 := 1#32
  let v1026 : BitVec 1 := Scalar.cmpi .ne v1025 c1_i32_664
  let v1027 : BitVec 1 := Scalar.ori v1012 v1026
  let c2_i32_665 : BitVec 32 := 2#32
  let v1028 : BitVec 32 := Scalar.muli c2_i32_665 v1011
  let c2_i32_666 : BitVec 32 := 2#32
  let v1029 : BitVec 32 := Scalar.muli c2_i32_666 v2
  let v1030 : BitVec 32 := Scalar.addi v1028 v1029
  let c1_i32_667 : BitVec 32 := 1#32
  let v1031 : BitVec 32 := Scalar.addi v1030 c1_i32_667
  let c3_i32_668 : BitVec 32 := 3#32
  let c0_i32_669 : BitVec 32 := 0#32
  let v1032 : BitVec 1 := Scalar.cmpi .eq c3_i32_668 c0_i32_669
  let c1_i32_670 : BitVec 32 := 1#32
  let v1033 : BitVec 32 := Scalar.select v1032 c1_i32_670 c3_i32_668
  let v1034 : BitVec 32 := Scalar.remsi v1031 v1033
  let c0_i32_672 : BitVec 32 := 0#32
  let v1036 : BitVec 1 := Scalar.cmpi .slt v1034 c0_i32_672
  let c0_i32_673 : BitVec 32 := 0#32
  let v1037 : BitVec 1 := Scalar.cmpi .slt v1033 c0_i32_673
  let v1038 : BitVec 1 := Scalar.xori v1036 v1037
  let c0_i32_671 : BitVec 32 := 0#32
  let v1035 : BitVec 1 := Scalar.cmpi .ne v1034 c0_i32_671
  let v1039 : BitVec 1 := Scalar.andi v1038 v1035
  let v1040 : BitVec 32 := Scalar.addi v1034 v1033
  let v1041 : BitVec 32 := Scalar.select v1039 v1040 v1034
  let c1_i32_674 : BitVec 32 := 1#32
  let v1042 : BitVec 1 := Scalar.cmpi .ne v1041 c1_i32_674
  let true_676 : BitVec 1 := 1#1
  let v1046 : BitVec 1 := Scalar.xori v1042 true_676
  let v1047 : BitVec 1 := Scalar.andi v1027 v1046
  let v1048 : BitVec 32 := Scalar.extui v1047
  let c0_i32_677 : BitVec 32 := 0#32
  let v1049 : BitVec 1 := Scalar.cmpi .ne v1048 c0_i32_677
  v1049

def k0_dev63 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_648 : BitVec 32 := 11#32
  let v1001 : BitVec 32 := Scalar.addi v2 c11_i32_648
  let c32_i32_649 : BitVec 32 := 32#32
  let c0_i32_650 : BitVec 32 := 0#32
  let v1002 : BitVec 1 := Scalar.cmpi .eq c32_i32_649 c0_i32_650
  let c1_i32_651 : BitVec 32 := 1#32
  let v1003 : BitVec 32 := Scalar.select v1002 c1_i32_651 c32_i32_649
  let v1004 : BitVec 32 := Scalar.remsi v1001 v1003
  let c0_i32_653 : BitVec 32 := 0#32
  let v1006 : BitVec 1 := Scalar.cmpi .slt v1004 c0_i32_653
  let c0_i32_654 : BitVec 32 := 0#32
  let v1007 : BitVec 1 := Scalar.cmpi .slt v1003 c0_i32_654
  let v1008 : BitVec 1 := Scalar.xori v1006 v1007
  let c0_i32_652 : BitVec 32 := 0#32
  let v1005 : BitVec 1 := Scalar.cmpi .ne v1004 c0_i32_652
  let v1009 : BitVec 1 := Scalar.andi v1008 v1005
  let v1010 : BitVec 32 := Scalar.addi v1004 v1003
  let v1011 : BitVec 32 := Scalar.select v1009 v1010 v1004
  let c1_i32_3566 : BitVec 32 := 1#32
  let v5774 : BitVec 32 := Scalar.muli v1011 c1_i32_3566
  let v5775 : BitVec 32 := Scalar.addi c0_i32_3567 v5774
  v5775.toNat
def k0_cond33 (d0 : Dev nD) : BitVec 1 :=
  let c2_i32_665 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_648 : BitVec 32 := 11#32
  let v1001 : BitVec 32 := Scalar.addi v2 c11_i32_648
  let c32_i32_649 : BitVec 32 := 32#32
  let c0_i32_650 : BitVec 32 := 0#32
  let v1002 : BitVec 1 := Scalar.cmpi .eq c32_i32_649 c0_i32_650
  let c1_i32_651 : BitVec 32 := 1#32
  let v1003 : BitVec 32 := Scalar.select v1002 c1_i32_651 c32_i32_649
  let v1004 : BitVec 32 := Scalar.remsi v1001 v1003
  let c0_i32_653 : BitVec 32 := 0#32
  let v1006 : BitVec 1 := Scalar.cmpi .slt v1004 c0_i32_653
  let c0_i32_654 : BitVec 32 := 0#32
  let v1007 : BitVec 1 := Scalar.cmpi .slt v1003 c0_i32_654
  let v1008 : BitVec 1 := Scalar.xori v1006 v1007
  let c0_i32_652 : BitVec 32 := 0#32
  let v1005 : BitVec 1 := Scalar.cmpi .ne v1004 c0_i32_652
  let v1009 : BitVec 1 := Scalar.andi v1008 v1005
  let v1010 : BitVec 32 := Scalar.addi v1004 v1003
  let v1011 : BitVec 32 := Scalar.select v1009 v1010 v1004
  let v1028 : BitVec 32 := Scalar.muli c2_i32_665 v1011
  let c2_i32_666 : BitVec 32 := 2#32
  let v1029 : BitVec 32 := Scalar.muli c2_i32_666 v2
  let v1030 : BitVec 32 := Scalar.addi v1028 v1029
  let c1_i32_667 : BitVec 32 := 1#32
  let v1031 : BitVec 32 := Scalar.addi v1030 c1_i32_667
  let c3_i32_668 : BitVec 32 := 3#32
  let c0_i32_669 : BitVec 32 := 0#32
  let v1032 : BitVec 1 := Scalar.cmpi .eq c3_i32_668 c0_i32_669
  let c1_i32_670 : BitVec 32 := 1#32
  let v1033 : BitVec 32 := Scalar.select v1032 c1_i32_670 c3_i32_668
  let v1034 : BitVec 32 := Scalar.remsi v1031 v1033
  let c0_i32_672 : BitVec 32 := 0#32
  let v1036 : BitVec 1 := Scalar.cmpi .slt v1034 c0_i32_672
  let c0_i32_673 : BitVec 32 := 0#32
  let v1037 : BitVec 1 := Scalar.cmpi .slt v1033 c0_i32_673
  let v1038 : BitVec 1 := Scalar.xori v1036 v1037
  let c0_i32_671 : BitVec 32 := 0#32
  let v1035 : BitVec 1 := Scalar.cmpi .ne v1034 c0_i32_671
  let v1039 : BitVec 1 := Scalar.andi v1038 v1035
  let v1040 : BitVec 32 := Scalar.addi v1034 v1033
  let v1041 : BitVec 32 := Scalar.select v1039 v1040 v1034
  let c1_i32_674 : BitVec 32 := 1#32
  let v1042 : BitVec 1 := Scalar.cmpi .ne v1041 c1_i32_674
  let c0_i32_655 : BitVec 32 := 0#32
  let v1012 : BitVec 1 := Scalar.cmpi .eq v2 c0_i32_655
  let c2_i32_656 : BitVec 32 := 2#32
  let v1013 : BitVec 32 := Scalar.muli c2_i32_656 v1011
  let c2_i32_657 : BitVec 32 := 2#32
  let v1014 : BitVec 32 := Scalar.muli c2_i32_657 v2
  let v1015 : BitVec 32 := Scalar.addi v1013 v1014
  let c3_i32_658 : BitVec 32 := 3#32
  let c0_i32_659 : BitVec 32 := 0#32
  let v1016 : BitVec 1 := Scalar.cmpi .eq c3_i32_658 c0_i32_659
  let c1_i32_660 : BitVec 32 := 1#32
  let v1017 : BitVec 32 := Scalar.select v1016 c1_i32_660 c3_i32_658
  let v1018 : BitVec 32 := Scalar.remsi v1015 v1017
  let c0_i32_662 : BitVec 32 := 0#32
  let v1020 : BitVec 1 := Scalar.cmpi .slt v1018 c0_i32_662
  let c0_i32_663 : BitVec 32 := 0#32
  let v1021 : BitVec 1 := Scalar.cmpi .slt v1017 c0_i32_663
  let v1022 : BitVec 1 := Scalar.xori v1020 v1021
  let c0_i32_661 : BitVec 32 := 0#32
  let v1019 : BitVec 1 := Scalar.cmpi .ne v1018 c0_i32_661
  let v1023 : BitVec 1 := Scalar.andi v1022 v1019
  let v1024 : BitVec 32 := Scalar.addi v1018 v1017
  let v1025 : BitVec 32 := Scalar.select v1023 v1024 v1018
  let c1_i32_664 : BitVec 32 := 1#32
  let v1026 : BitVec 1 := Scalar.cmpi .ne v1025 c1_i32_664
  let v1027 : BitVec 1 := Scalar.ori v1012 v1026
  let true_678 : BitVec 1 := 1#1
  let v1050 : BitVec 1 := Scalar.xori v1027 true_678
  let v1051 : BitVec 1 := Scalar.andi v1042 v1050
  let v1052 : BitVec 32 := Scalar.extui v1051
  let c0_i32_679 : BitVec 32 := 0#32
  let v1053 : BitVec 1 := Scalar.cmpi .ne v1052 c0_i32_679
  v1053

def k0_dev64 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_648 : BitVec 32 := 11#32
  let v1001 : BitVec 32 := Scalar.addi v2 c11_i32_648
  let c32_i32_649 : BitVec 32 := 32#32
  let c0_i32_650 : BitVec 32 := 0#32
  let v1002 : BitVec 1 := Scalar.cmpi .eq c32_i32_649 c0_i32_650
  let c1_i32_651 : BitVec 32 := 1#32
  let v1003 : BitVec 32 := Scalar.select v1002 c1_i32_651 c32_i32_649
  let v1004 : BitVec 32 := Scalar.remsi v1001 v1003
  let c0_i32_653 : BitVec 32 := 0#32
  let v1006 : BitVec 1 := Scalar.cmpi .slt v1004 c0_i32_653
  let c0_i32_654 : BitVec 32 := 0#32
  let v1007 : BitVec 1 := Scalar.cmpi .slt v1003 c0_i32_654
  let v1008 : BitVec 1 := Scalar.xori v1006 v1007
  let c0_i32_652 : BitVec 32 := 0#32
  let v1005 : BitVec 1 := Scalar.cmpi .ne v1004 c0_i32_652
  let v1009 : BitVec 1 := Scalar.andi v1008 v1005
  let v1010 : BitVec 32 := Scalar.addi v1004 v1003
  let v1011 : BitVec 32 := Scalar.select v1009 v1010 v1004
  let c1_i32_3566 : BitVec 32 := 1#32
  let v5774 : BitVec 32 := Scalar.muli v1011 c1_i32_3566
  let v5775 : BitVec 32 := Scalar.addi c0_i32_3567 v5774
  v5775.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_687 : BitVec 32 := 0#32
  let v1065 : BitVec 1 := Scalar.cmpi .eq v2 c0_i32_687
  let c2_i32_688 : BitVec 32 := 2#32
  let c12_i32_680 : BitVec 32 := 12#32
  let v1054 : BitVec 32 := Scalar.addi v2 c12_i32_680
  let c32_i32_681 : BitVec 32 := 32#32
  let c0_i32_682 : BitVec 32 := 0#32
  let v1055 : BitVec 1 := Scalar.cmpi .eq c32_i32_681 c0_i32_682
  let c1_i32_683 : BitVec 32 := 1#32
  let v1056 : BitVec 32 := Scalar.select v1055 c1_i32_683 c32_i32_681
  let v1057 : BitVec 32 := Scalar.remsi v1054 v1056
  let c0_i32_685 : BitVec 32 := 0#32
  let v1059 : BitVec 1 := Scalar.cmpi .slt v1057 c0_i32_685
  let c0_i32_686 : BitVec 32 := 0#32
  let v1060 : BitVec 1 := Scalar.cmpi .slt v1056 c0_i32_686
  let v1061 : BitVec 1 := Scalar.xori v1059 v1060
  let c0_i32_684 : BitVec 32 := 0#32
  let v1058 : BitVec 1 := Scalar.cmpi .ne v1057 c0_i32_684
  let v1062 : BitVec 1 := Scalar.andi v1061 v1058
  let v1063 : BitVec 32 := Scalar.addi v1057 v1056
  let v1064 : BitVec 32 := Scalar.select v1062 v1063 v1057
  let v1066 : BitVec 32 := Scalar.muli c2_i32_688 v1064
  let c2_i32_689 : BitVec 32 := 2#32
  let v1067 : BitVec 32 := Scalar.muli c2_i32_689 v2
  let v1068 : BitVec 32 := Scalar.addi v1066 v1067
  let c3_i32_690 : BitVec 32 := 3#32
  let c0_i32_691 : BitVec 32 := 0#32
  let v1069 : BitVec 1 := Scalar.cmpi .eq c3_i32_690 c0_i32_691
  let c1_i32_692 : BitVec 32 := 1#32
  let v1070 : BitVec 32 := Scalar.select v1069 c1_i32_692 c3_i32_690
  let v1071 : BitVec 32 := Scalar.remsi v1068 v1070
  let c0_i32_694 : BitVec 32 := 0#32
  let v1073 : BitVec 1 := Scalar.cmpi .slt v1071 c0_i32_694
  let c0_i32_695 : BitVec 32 := 0#32
  let v1074 : BitVec 1 := Scalar.cmpi .slt v1070 c0_i32_695
  let v1075 : BitVec 1 := Scalar.xori v1073 v1074
  let c0_i32_693 : BitVec 32 := 0#32
  let v1072 : BitVec 1 := Scalar.cmpi .ne v1071 c0_i32_693
  let v1076 : BitVec 1 := Scalar.andi v1075 v1072
  let v1077 : BitVec 32 := Scalar.addi v1071 v1070
  let v1078 : BitVec 32 := Scalar.select v1076 v1077 v1071
  let c1_i32_696 : BitVec 32 := 1#32
  let v1079 : BitVec 1 := Scalar.cmpi .ne v1078 c1_i32_696
  let v1080 : BitVec 1 := Scalar.ori v1065 v1079
  let c2_i32_697 : BitVec 32 := 2#32
  let v1081 : BitVec 32 := Scalar.muli c2_i32_697 v1064
  let c2_i32_698 : BitVec 32 := 2#32
  let v1082 : BitVec 32 := Scalar.muli c2_i32_698 v2
  let v1083 : BitVec 32 := Scalar.addi v1081 v1082
  let c1_i32_699 : BitVec 32 := 1#32
  let v1084 : BitVec 32 := Scalar.addi v1083 c1_i32_699
  let c3_i32_700 : BitVec 32 := 3#32
  let c0_i32_701 : BitVec 32 := 0#32
  let v1085 : BitVec 1 := Scalar.cmpi .eq c3_i32_700 c0_i32_701
  let c1_i32_702 : BitVec 32 := 1#32
  let v1086 : BitVec 32 := Scalar.select v1085 c1_i32_702 c3_i32_700
  let v1087 : BitVec 32 := Scalar.remsi v1084 v1086
  let c0_i32_704 : BitVec 32 := 0#32
  let v1089 : BitVec 1 := Scalar.cmpi .slt v1087 c0_i32_704
  let c0_i32_705 : BitVec 32 := 0#32
  let v1090 : BitVec 1 := Scalar.cmpi .slt v1086 c0_i32_705
  let v1091 : BitVec 1 := Scalar.xori v1089 v1090
  let c0_i32_703 : BitVec 32 := 0#32
  let v1088 : BitVec 1 := Scalar.cmpi .ne v1087 c0_i32_703
  let v1092 : BitVec 1 := Scalar.andi v1091 v1088
  let v1093 : BitVec 32 := Scalar.addi v1087 v1086
  let v1094 : BitVec 32 := Scalar.select v1092 v1093 v1087
  let c1_i32_706 : BitVec 32 := 1#32
  let v1095 : BitVec 1 := Scalar.cmpi .ne v1094 c1_i32_706
  let v1096 : BitVec 1 := Scalar.andi v1080 v1095
  let v1097 : BitVec 32 := Scalar.extui v1096
  let c0_i32_707 : BitVec 32 := 0#32
  let v1098 : BitVec 1 := Scalar.cmpi .ne v1097 c0_i32_707
  v1098

def k0_dev65 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_680 : BitVec 32 := 12#32
  let v1054 : BitVec 32 := Scalar.addi v2 c12_i32_680
  let c32_i32_681 : BitVec 32 := 32#32
  let c0_i32_682 : BitVec 32 := 0#32
  let v1055 : BitVec 1 := Scalar.cmpi .eq c32_i32_681 c0_i32_682
  let c1_i32_683 : BitVec 32 := 1#32
  let v1056 : BitVec 32 := Scalar.select v1055 c1_i32_683 c32_i32_681
  let v1057 : BitVec 32 := Scalar.remsi v1054 v1056
  let c0_i32_685 : BitVec 32 := 0#32
  let v1059 : BitVec 1 := Scalar.cmpi .slt v1057 c0_i32_685
  let c0_i32_686 : BitVec 32 := 0#32
  let v1060 : BitVec 1 := Scalar.cmpi .slt v1056 c0_i32_686
  let v1061 : BitVec 1 := Scalar.xori v1059 v1060
  let c0_i32_684 : BitVec 32 := 0#32
  let v1058 : BitVec 1 := Scalar.cmpi .ne v1057 c0_i32_684
  let v1062 : BitVec 1 := Scalar.andi v1061 v1058
  let v1063 : BitVec 32 := Scalar.addi v1057 v1056
  let v1064 : BitVec 32 := Scalar.select v1062 v1063 v1057
  let c1_i32_3564 : BitVec 32 := 1#32
  let v5774 : BitVec 32 := Scalar.muli v1064 c1_i32_3564
  let v5775 : BitVec 32 := Scalar.addi c0_i32_3565 v5774
  v5775.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_687 : BitVec 32 := 0#32
  let v1065 : BitVec 1 := Scalar.cmpi .eq v2 c0_i32_687
  let c2_i32_688 : BitVec 32 := 2#32
  let c12_i32_680 : BitVec 32 := 12#32
  let v1054 : BitVec 32 := Scalar.addi v2 c12_i32_680
  let c32_i32_681 : BitVec 32 := 32#32
  let c0_i32_682 : BitVec 32 := 0#32
  let v1055 : BitVec 1 := Scalar.cmpi .eq c32_i32_681 c0_i32_682
  let c1_i32_683 : BitVec 32 := 1#32
  let v1056 : BitVec 32 := Scalar.select v1055 c1_i32_683 c32_i32_681
  let v1057 : BitVec 32 := Scalar.remsi v1054 v1056
  let c0_i32_685 : BitVec 32 := 0#32
  let v1059 : BitVec 1 := Scalar.cmpi .slt v1057 c0_i32_685
  let c0_i32_686 : BitVec 32 := 0#32
  let v1060 : BitVec 1 := Scalar.cmpi .slt v1056 c0_i32_686
  let v1061 : BitVec 1 := Scalar.xori v1059 v1060
  let c0_i32_684 : BitVec 32 := 0#32
  let v1058 : BitVec 1 := Scalar.cmpi .ne v1057 c0_i32_684
  let v1062 : BitVec 1 := Scalar.andi v1061 v1058
  let v1063 : BitVec 32 := Scalar.addi v1057 v1056
  let v1064 : BitVec 32 := Scalar.select v1062 v1063 v1057
  let v1066 : BitVec 32 := Scalar.muli c2_i32_688 v1064
  let c2_i32_689 : BitVec 32 := 2#32
  let v1067 : BitVec 32 := Scalar.muli c2_i32_689 v2
  let v1068 : BitVec 32 := Scalar.addi v1066 v1067
  let c3_i32_690 : BitVec 32 := 3#32
  let c0_i32_691 : BitVec 32 := 0#32
  let v1069 : BitVec 1 := Scalar.cmpi .eq c3_i32_690 c0_i32_691
  let c1_i32_692 : BitVec 32 := 1#32
  let v1070 : BitVec 32 := Scalar.select v1069 c1_i32_692 c3_i32_690
  let v1071 : BitVec 32 := Scalar.remsi v1068 v1070
  let c0_i32_694 : BitVec 32 := 0#32
  let v1073 : BitVec 1 := Scalar.cmpi .slt v1071 c0_i32_694
  let c0_i32_695 : BitVec 32 := 0#32
  let v1074 : BitVec 1 := Scalar.cmpi .slt v1070 c0_i32_695
  let v1075 : BitVec 1 := Scalar.xori v1073 v1074
  let c0_i32_693 : BitVec 32 := 0#32
  let v1072 : BitVec 1 := Scalar.cmpi .ne v1071 c0_i32_693
  let v1076 : BitVec 1 := Scalar.andi v1075 v1072
  let v1077 : BitVec 32 := Scalar.addi v1071 v1070
  let v1078 : BitVec 32 := Scalar.select v1076 v1077 v1071
  let c1_i32_696 : BitVec 32 := 1#32
  let v1079 : BitVec 1 := Scalar.cmpi .ne v1078 c1_i32_696
  let v1080 : BitVec 1 := Scalar.ori v1065 v1079
  let c2_i32_697 : BitVec 32 := 2#32
  let v1081 : BitVec 32 := Scalar.muli c2_i32_697 v1064
  let c2_i32_698 : BitVec 32 := 2#32
  let v1082 : BitVec 32 := Scalar.muli c2_i32_698 v2
  let v1083 : BitVec 32 := Scalar.addi v1081 v1082
  let c1_i32_699 : BitVec 32 := 1#32
  let v1084 : BitVec 32 := Scalar.addi v1083 c1_i32_699
  let c3_i32_700 : BitVec 32 := 3#32
  let c0_i32_701 : BitVec 32 := 0#32
  let v1085 : BitVec 1 := Scalar.cmpi .eq c3_i32_700 c0_i32_701
  let c1_i32_702 : BitVec 32 := 1#32
  let v1086 : BitVec 32 := Scalar.select v1085 c1_i32_702 c3_i32_700
  let v1087 : BitVec 32 := Scalar.remsi v1084 v1086
  let c0_i32_704 : BitVec 32 := 0#32
  let v1089 : BitVec 1 := Scalar.cmpi .slt v1087 c0_i32_704
  let c0_i32_705 : BitVec 32 := 0#32
  let v1090 : BitVec 1 := Scalar.cmpi .slt v1086 c0_i32_705
  let v1091 : BitVec 1 := Scalar.xori v1089 v1090
  let c0_i32_703 : BitVec 32 := 0#32
  let v1088 : BitVec 1 := Scalar.cmpi .ne v1087 c0_i32_703
  let v1092 : BitVec 1 := Scalar.andi v1091 v1088
  let v1093 : BitVec 32 := Scalar.addi v1087 v1086
  let v1094 : BitVec 32 := Scalar.select v1092 v1093 v1087
  let c1_i32_706 : BitVec 32 := 1#32
  let v1095 : BitVec 1 := Scalar.cmpi .ne v1094 c1_i32_706
  let true_708 : BitVec 1 := 1#1
  let v1099 : BitVec 1 := Scalar.xori v1095 true_708
  let v1100 : BitVec 1 := Scalar.andi v1080 v1099
  let v1101 : BitVec 32 := Scalar.extui v1100
  let c0_i32_709 : BitVec 32 := 0#32
  let v1102 : BitVec 1 := Scalar.cmpi .ne v1101 c0_i32_709
  v1102

def k0_dev66 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_680 : BitVec 32 := 12#32
  let v1054 : BitVec 32 := Scalar.addi v2 c12_i32_680
  let c32_i32_681 : BitVec 32 := 32#32
  let c0_i32_682 : BitVec 32 := 0#32
  let v1055 : BitVec 1 := Scalar.cmpi .eq c32_i32_681 c0_i32_682
  let c1_i32_683 : BitVec 32 := 1#32
  let v1056 : BitVec 32 := Scalar.select v1055 c1_i32_683 c32_i32_681
  let v1057 : BitVec 32 := Scalar.remsi v1054 v1056
  let c0_i32_685 : BitVec 32 := 0#32
  let v1059 : BitVec 1 := Scalar.cmpi .slt v1057 c0_i32_685
  let c0_i32_686 : BitVec 32 := 0#32
  let v1060 : BitVec 1 := Scalar.cmpi .slt v1056 c0_i32_686
  let v1061 : BitVec 1 := Scalar.xori v1059 v1060
  let c0_i32_684 : BitVec 32 := 0#32
  let v1058 : BitVec 1 := Scalar.cmpi .ne v1057 c0_i32_684
  let v1062 : BitVec 1 := Scalar.andi v1061 v1058
  let v1063 : BitVec 32 := Scalar.addi v1057 v1056
  let v1064 : BitVec 32 := Scalar.select v1062 v1063 v1057
  let c1_i32_3566 : BitVec 32 := 1#32
  let v5774 : BitVec 32 := Scalar.muli v1064 c1_i32_3566
  let v5775 : BitVec 32 := Scalar.addi c0_i32_3567 v5774
  v5775.toNat
def k0_cond36 (d0 : Dev nD) : BitVec 1 :=
  let c2_i32_697 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_680 : BitVec 32 := 12#32
  let v1054 : BitVec 32 := Scalar.addi v2 c12_i32_680
  let c32_i32_681 : BitVec 32 := 32#32
  let c0_i32_682 : BitVec 32 := 0#32
  let v1055 : BitVec 1 := Scalar.cmpi .eq c32_i32_681 c0_i32_682
  let c1_i32_683 : BitVec 32 := 1#32
  let v1056 : BitVec 32 := Scalar.select v1055 c1_i32_683 c32_i32_681
  let v1057 : BitVec 32 := Scalar.remsi v1054 v1056
  let c0_i32_685 : BitVec 32 := 0#32
  let v1059 : BitVec 1 := Scalar.cmpi .slt v1057 c0_i32_685
  let c0_i32_686 : BitVec 32 := 0#32
  let v1060 : BitVec 1 := Scalar.cmpi .slt v1056 c0_i32_686
  let v1061 : BitVec 1 := Scalar.xori v1059 v1060
  let c0_i32_684 : BitVec 32 := 0#32
  let v1058 : BitVec 1 := Scalar.cmpi .ne v1057 c0_i32_684
  let v1062 : BitVec 1 := Scalar.andi v1061 v1058
  let v1063 : BitVec 32 := Scalar.addi v1057 v1056
  let v1064 : BitVec 32 := Scalar.select v1062 v1063 v1057
  let v1081 : BitVec 32 := Scalar.muli c2_i32_697 v1064
  let c2_i32_698 : BitVec 32 := 2#32
  let v1082 : BitVec 32 := Scalar.muli c2_i32_698 v2
  let v1083 : BitVec 32 := Scalar.addi v1081 v1082
  let c1_i32_699 : BitVec 32 := 1#32
  let v1084 : BitVec 32 := Scalar.addi v1083 c1_i32_699
  let c3_i32_700 : BitVec 32 := 3#32
  let c0_i32_701 : BitVec 32 := 0#32
  let v1085 : BitVec 1 := Scalar.cmpi .eq c3_i32_700 c0_i32_701
  let c1_i32_702 : BitVec 32 := 1#32
  let v1086 : BitVec 32 := Scalar.select v1085 c1_i32_702 c3_i32_700
  let v1087 : BitVec 32 := Scalar.remsi v1084 v1086
  let c0_i32_704 : BitVec 32 := 0#32
  let v1089 : BitVec 1 := Scalar.cmpi .slt v1087 c0_i32_704
  let c0_i32_705 : BitVec 32 := 0#32
  let v1090 : BitVec 1 := Scalar.cmpi .slt v1086 c0_i32_705
  let v1091 : BitVec 1 := Scalar.xori v1089 v1090
  let c0_i32_703 : BitVec 32 := 0#32
  let v1088 : BitVec 1 := Scalar.cmpi .ne v1087 c0_i32_703
  let v1092 : BitVec 1 := Scalar.andi v1091 v1088
  let v1093 : BitVec 32 := Scalar.addi v1087 v1086
  let v1094 : BitVec 32 := Scalar.select v1092 v1093 v1087
  let c1_i32_706 : BitVec 32 := 1#32
  let v1095 : BitVec 1 := Scalar.cmpi .ne v1094 c1_i32_706
  let c0_i32_687 : BitVec 32 := 0#32
  let v1065 : BitVec 1 := Scalar.cmpi .eq v2 c0_i32_687
  let c2_i32_688 : BitVec 32 := 2#32
  let v1066 : BitVec 32 := Scalar.muli c2_i32_688 v1064
  let c2_i32_689 : BitVec 32 := 2#32
  let v1067 : BitVec 32 := Scalar.muli c2_i32_689 v2
  let v1068 : BitVec 32 := Scalar.addi v1066 v1067
  let c3_i32_690 : BitVec 32 := 3#32
  let c0_i32_691 : BitVec 32 := 0#32
  let v1069 : BitVec 1 := Scalar.cmpi .eq c3_i32_690 c0_i32_691
  let c1_i32_692 : BitVec 32 := 1#32
  let v1070 : BitVec 32 := Scalar.select v1069 c1_i32_692 c3_i32_690
  let v1071 : BitVec 32 := Scalar.remsi v1068 v1070
  let c0_i32_694 : BitVec 32 := 0#32
  let v1073 : BitVec 1 := Scalar.cmpi .slt v1071 c0_i32_694
  let c0_i32_695 : BitVec 32 := 0#32
  let v1074 : BitVec 1 := Scalar.cmpi .slt v1070 c0_i32_695
  let v1075 : BitVec 1 := Scalar.xori v1073 v1074
  let c0_i32_693 : BitVec 32 := 0#32
  let v1072 : BitVec 1 := Scalar.cmpi .ne v1071 c0_i32_693
  let v1076 : BitVec 1 := Scalar.andi v1075 v1072
  let v1077 : BitVec 32 := Scalar.addi v1071 v1070
  let v1078 : BitVec 32 := Scalar.select v1076 v1077 v1071
  let c1_i32_696 : BitVec 32 := 1#32
  let v1079 : BitVec 1 := Scalar.cmpi .ne v1078 c1_i32_696
  let v1080 : BitVec 1 := Scalar.ori v1065 v1079
  let true_710 : BitVec 1 := 1#1
  let v1103 : BitVec 1 := Scalar.xori v1080 true_710
  let v1104 : BitVec 1 := Scalar.andi v1095 v1103
  let v1105 : BitVec 32 := Scalar.extui v1104
  let c0_i32_711 : BitVec 32 := 0#32
  let v1106 : BitVec 1 := Scalar.cmpi .ne v1105 c0_i32_711
  v1106

def k0_dev67 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_680 : BitVec 32 := 12#32
  let v1054 : BitVec 32 := Scalar.addi v2 c12_i32_680
  let c32_i32_681 : BitVec 32 := 32#32
  let c0_i32_682 : BitVec 32 := 0#32
  let v1055 : BitVec 1 := Scalar.cmpi .eq c32_i32_681 c0_i32_682
  let c1_i32_683 : BitVec 32 := 1#32
  let v1056 : BitVec 32 := Scalar.select v1055 c1_i32_683 c32_i32_681
  let v1057 : BitVec 32 := Scalar.remsi v1054 v1056
  let c0_i32_685 : BitVec 32 := 0#32
  let v1059 : BitVec 1 := Scalar.cmpi .slt v1057 c0_i32_685
  let c0_i32_686 : BitVec 32 := 0#32
  let v1060 : BitVec 1 := Scalar.cmpi .slt v1056 c0_i32_686
  let v1061 : BitVec 1 := Scalar.xori v1059 v1060
  let c0_i32_684 : BitVec 32 := 0#32
  let v1058 : BitVec 1 := Scalar.cmpi .ne v1057 c0_i32_684
  let v1062 : BitVec 1 := Scalar.andi v1061 v1058
  let v1063 : BitVec 32 := Scalar.addi v1057 v1056
  let v1064 : BitVec 32 := Scalar.select v1062 v1063 v1057
  let c1_i32_3566 : BitVec 32 := 1#32
  let v5774 : BitVec 32 := Scalar.muli v1064 c1_i32_3566
  let v5775 : BitVec 32 := Scalar.addi c0_i32_3567 v5774
  v5775.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_719 : BitVec 32 := 0#32
  let v1118 : BitVec 1 := Scalar.cmpi .eq v2 c0_i32_719
  let c2_i32_720 : BitVec 32 := 2#32
  let c13_i32_712 : BitVec 32 := 13#32
  let v1107 : BitVec 32 := Scalar.addi v2 c13_i32_712
  let c32_i32_713 : BitVec 32 := 32#32
  let c0_i32_714 : BitVec 32 := 0#32
  let v1108 : BitVec 1 := Scalar.cmpi .eq c32_i32_713 c0_i32_714
  let c1_i32_715 : BitVec 32 := 1#32
  let v1109 : BitVec 32 := Scalar.select v1108 c1_i32_715 c32_i32_713
  let v1110 : BitVec 32 := Scalar.remsi v1107 v1109
  let c0_i32_717 : BitVec 32 := 0#32
  let v1112 : BitVec 1 := Scalar.cmpi .slt v1110 c0_i32_717
  let c0_i32_718 : BitVec 32 := 0#32
  let v1113 : BitVec 1 := Scalar.cmpi .slt v1109 c0_i32_718
  let v1114 : BitVec 1 := Scalar.xori v1112 v1113
  let c0_i32_716 : BitVec 32 := 0#32
  let v1111 : BitVec 1 := Scalar.cmpi .ne v1110 c0_i32_716
  let v1115 : BitVec 1 := Scalar.andi v1114 v1111
  let v1116 : BitVec 32 := Scalar.addi v1110 v1109
  let v1117 : BitVec 32 := Scalar.select v1115 v1116 v1110
  let v1119 : BitVec 32 := Scalar.muli c2_i32_720 v1117
  let c2_i32_721 : BitVec 32 := 2#32
  let v1120 : BitVec 32 := Scalar.muli c2_i32_721 v2
  let v1121 : BitVec 32 := Scalar.addi v1119 v1120
  let c3_i32_722 : BitVec 32 := 3#32
  let c0_i32_723 : BitVec 32 := 0#32
  let v1122 : BitVec 1 := Scalar.cmpi .eq c3_i32_722 c0_i32_723
  let c1_i32_724 : BitVec 32 := 1#32
  let v1123 : BitVec 32 := Scalar.select v1122 c1_i32_724 c3_i32_722
  let v1124 : BitVec 32 := Scalar.remsi v1121 v1123
  let c0_i32_726 : BitVec 32 := 0#32
  let v1126 : BitVec 1 := Scalar.cmpi .slt v1124 c0_i32_726
  let c0_i32_727 : BitVec 32 := 0#32
  let v1127 : BitVec 1 := Scalar.cmpi .slt v1123 c0_i32_727
  let v1128 : BitVec 1 := Scalar.xori v1126 v1127
  let c0_i32_725 : BitVec 32 := 0#32
  let v1125 : BitVec 1 := Scalar.cmpi .ne v1124 c0_i32_725
  let v1129 : BitVec 1 := Scalar.andi v1128 v1125
  let v1130 : BitVec 32 := Scalar.addi v1124 v1123
  let v1131 : BitVec 32 := Scalar.select v1129 v1130 v1124
  let c1_i32_728 : BitVec 32 := 1#32
  let v1132 : BitVec 1 := Scalar.cmpi .ne v1131 c1_i32_728
  let v1133 : BitVec 1 := Scalar.ori v1118 v1132
  let c2_i32_729 : BitVec 32 := 2#32
  let v1134 : BitVec 32 := Scalar.muli c2_i32_729 v1117
  let c2_i32_730 : BitVec 32 := 2#32
  let v1135 : BitVec 32 := Scalar.muli c2_i32_730 v2
  let v1136 : BitVec 32 := Scalar.addi v1134 v1135
  let c1_i32_731 : BitVec 32 := 1#32
  let v1137 : BitVec 32 := Scalar.addi v1136 c1_i32_731
  let c3_i32_732 : BitVec 32 := 3#32
  let c0_i32_733 : BitVec 32 := 0#32
  let v1138 : BitVec 1 := Scalar.cmpi .eq c3_i32_732 c0_i32_733
  let c1_i32_734 : BitVec 32 := 1#32
  let v1139 : BitVec 32 := Scalar.select v1138 c1_i32_734 c3_i32_732
  let v1140 : BitVec 32 := Scalar.remsi v1137 v1139
  let c0_i32_736 : BitVec 32 := 0#32
  let v1142 : BitVec 1 := Scalar.cmpi .slt v1140 c0_i32_736
  let c0_i32_737 : BitVec 32 := 0#32
  let v1143 : BitVec 1 := Scalar.cmpi .slt v1139 c0_i32_737
  let v1144 : BitVec 1 := Scalar.xori v1142 v1143
  let c0_i32_735 : BitVec 32 := 0#32
  let v1141 : BitVec 1 := Scalar.cmpi .ne v1140 c0_i32_735
  let v1145 : BitVec 1 := Scalar.andi v1144 v1141
  let v1146 : BitVec 32 := Scalar.addi v1140 v1139
  let v1147 : BitVec 32 := Scalar.select v1145 v1146 v1140
  let c1_i32_738 : BitVec 32 := 1#32
  let v1148 : BitVec 1 := Scalar.cmpi .ne v1147 c1_i32_738
  let v1149 : BitVec 1 := Scalar.andi v1133 v1148
  let v1150 : BitVec 32 := Scalar.extui v1149
  let c0_i32_739 : BitVec 32 := 0#32
  let v1151 : BitVec 1 := Scalar.cmpi .ne v1150 c0_i32_739
  v1151

def k0_dev68 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_712 : BitVec 32 := 13#32
  let v1107 : BitVec 32 := Scalar.addi v2 c13_i32_712
  let c32_i32_713 : BitVec 32 := 32#32
  let c0_i32_714 : BitVec 32 := 0#32
  let v1108 : BitVec 1 := Scalar.cmpi .eq c32_i32_713 c0_i32_714
  let c1_i32_715 : BitVec 32 := 1#32
  let v1109 : BitVec 32 := Scalar.select v1108 c1_i32_715 c32_i32_713
  let v1110 : BitVec 32 := Scalar.remsi v1107 v1109
  let c0_i32_717 : BitVec 32 := 0#32
  let v1112 : BitVec 1 := Scalar.cmpi .slt v1110 c0_i32_717
  let c0_i32_718 : BitVec 32 := 0#32
  let v1113 : BitVec 1 := Scalar.cmpi .slt v1109 c0_i32_718
  let v1114 : BitVec 1 := Scalar.xori v1112 v1113
  let c0_i32_716 : BitVec 32 := 0#32
  let v1111 : BitVec 1 := Scalar.cmpi .ne v1110 c0_i32_716
  let v1115 : BitVec 1 := Scalar.andi v1114 v1111
  let v1116 : BitVec 32 := Scalar.addi v1110 v1109
  let v1117 : BitVec 32 := Scalar.select v1115 v1116 v1110
  let c1_i32_3564 : BitVec 32 := 1#32
  let v5774 : BitVec 32 := Scalar.muli v1117 c1_i32_3564
  let v5775 : BitVec 32 := Scalar.addi c0_i32_3565 v5774
  v5775.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_719 : BitVec 32 := 0#32
  let v1118 : BitVec 1 := Scalar.cmpi .eq v2 c0_i32_719
  let c2_i32_720 : BitVec 32 := 2#32
  let c13_i32_712 : BitVec 32 := 13#32
  let v1107 : BitVec 32 := Scalar.addi v2 c13_i32_712
  let c32_i32_713 : BitVec 32 := 32#32
  let c0_i32_714 : BitVec 32 := 0#32
  let v1108 : BitVec 1 := Scalar.cmpi .eq c32_i32_713 c0_i32_714
  let c1_i32_715 : BitVec 32 := 1#32
  let v1109 : BitVec 32 := Scalar.select v1108 c1_i32_715 c32_i32_713
  let v1110 : BitVec 32 := Scalar.remsi v1107 v1109
  let c0_i32_717 : BitVec 32 := 0#32
  let v1112 : BitVec 1 := Scalar.cmpi .slt v1110 c0_i32_717
  let c0_i32_718 : BitVec 32 := 0#32
  let v1113 : BitVec 1 := Scalar.cmpi .slt v1109 c0_i32_718
  let v1114 : BitVec 1 := Scalar.xori v1112 v1113
  let c0_i32_716 : BitVec 32 := 0#32
  let v1111 : BitVec 1 := Scalar.cmpi .ne v1110 c0_i32_716
  let v1115 : BitVec 1 := Scalar.andi v1114 v1111
  let v1116 : BitVec 32 := Scalar.addi v1110 v1109
  let v1117 : BitVec 32 := Scalar.select v1115 v1116 v1110
  let v1119 : BitVec 32 := Scalar.muli c2_i32_720 v1117
  let c2_i32_721 : BitVec 32 := 2#32
  let v1120 : BitVec 32 := Scalar.muli c2_i32_721 v2
  let v1121 : BitVec 32 := Scalar.addi v1119 v1120
  let c3_i32_722 : BitVec 32 := 3#32
  let c0_i32_723 : BitVec 32 := 0#32
  let v1122 : BitVec 1 := Scalar.cmpi .eq c3_i32_722 c0_i32_723
  let c1_i32_724 : BitVec 32 := 1#32
  let v1123 : BitVec 32 := Scalar.select v1122 c1_i32_724 c3_i32_722
  let v1124 : BitVec 32 := Scalar.remsi v1121 v1123
  let c0_i32_726 : BitVec 32 := 0#32
  let v1126 : BitVec 1 := Scalar.cmpi .slt v1124 c0_i32_726
  let c0_i32_727 : BitVec 32 := 0#32
  let v1127 : BitVec 1 := Scalar.cmpi .slt v1123 c0_i32_727
  let v1128 : BitVec 1 := Scalar.xori v1126 v1127
  let c0_i32_725 : BitVec 32 := 0#32
  let v1125 : BitVec 1 := Scalar.cmpi .ne v1124 c0_i32_725
  let v1129 : BitVec 1 := Scalar.andi v1128 v1125
  let v1130 : BitVec 32 := Scalar.addi v1124 v1123
  let v1131 : BitVec 32 := Scalar.select v1129 v1130 v1124
  let c1_i32_728 : BitVec 32 := 1#32
  let v1132 : BitVec 1 := Scalar.cmpi .ne v1131 c1_i32_728
  let v1133 : BitVec 1 := Scalar.ori v1118 v1132
  let c2_i32_729 : BitVec 32 := 2#32
  let v1134 : BitVec 32 := Scalar.muli c2_i32_729 v1117
  let c2_i32_730 : BitVec 32 := 2#32
  let v1135 : BitVec 32 := Scalar.muli c2_i32_730 v2
  let v1136 : BitVec 32 := Scalar.addi v1134 v1135
  let c1_i32_731 : BitVec 32 := 1#32
  let v1137 : BitVec 32 := Scalar.addi v1136 c1_i32_731
  let c3_i32_732 : BitVec 32 := 3#32
  let c0_i32_733 : BitVec 32 := 0#32
  let v1138 : BitVec 1 := Scalar.cmpi .eq c3_i32_732 c0_i32_733
  let c1_i32_734 : BitVec 32 := 1#32
  let v1139 : BitVec 32 := Scalar.select v1138 c1_i32_734 c3_i32_732
  let v1140 : BitVec 32 := Scalar.remsi v1137 v1139
  let c0_i32_736 : BitVec 32 := 0#32
  let v1142 : BitVec 1 := Scalar.cmpi .slt v1140 c0_i32_736
  let c0_i32_737 : BitVec 32 := 0#32
  let v1143 : BitVec 1 := Scalar.cmpi .slt v1139 c0_i32_737
  let v1144 : BitVec 1 := Scalar.xori v1142 v1143
  let c0_i32_735 : BitVec 32 := 0#32
  let v1141 : BitVec 1 := Scalar.cmpi .ne v1140 c0_i32_735
  let v1145 : BitVec 1 := Scalar.andi v1144 v1141
  let v1146 : BitVec 32 := Scalar.addi v1140 v1139
  let v1147 : BitVec 32 := Scalar.select v1145 v1146 v1140
  let c1_i32_738 : BitVec 32 := 1#32
  let v1148 : BitVec 1 := Scalar.cmpi .ne v1147 c1_i32_738
  let true_740 : BitVec 1 := 1#1
  let v1152 : BitVec 1 := Scalar.xori v1148 true_740
  let v1153 : BitVec 1 := Scalar.andi v1133 v1152
  let v1154 : BitVec 32 := Scalar.extui v1153
  let c0_i32_741 : BitVec 32 := 0#32
  let v1155 : BitVec 1 := Scalar.cmpi .ne v1154 c0_i32_741
  v1155

def k0_dev69 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_712 : BitVec 32 := 13#32
  let v1107 : BitVec 32 := Scalar.addi v2 c13_i32_712
  let c32_i32_713 : BitVec 32 := 32#32
  let c0_i32_714 : BitVec 32 := 0#32
  let v1108 : BitVec 1 := Scalar.cmpi .eq c32_i32_713 c0_i32_714
  let c1_i32_715 : BitVec 32 := 1#32
  let v1109 : BitVec 32 := Scalar.select v1108 c1_i32_715 c32_i32_713
  let v1110 : BitVec 32 := Scalar.remsi v1107 v1109
  let c0_i32_717 : BitVec 32 := 0#32
  let v1112 : BitVec 1 := Scalar.cmpi .slt v1110 c0_i32_717
  let c0_i32_718 : BitVec 32 := 0#32
  let v1113 : BitVec 1 := Scalar.cmpi .slt v1109 c0_i32_718
  let v1114 : BitVec 1 := Scalar.xori v1112 v1113
  let c0_i32_716 : BitVec 32 := 0#32
  let v1111 : BitVec 1 := Scalar.cmpi .ne v1110 c0_i32_716
  let v1115 : BitVec 1 := Scalar.andi v1114 v1111
  let v1116 : BitVec 32 := Scalar.addi v1110 v1109
  let v1117 : BitVec 32 := Scalar.select v1115 v1116 v1110
  let c1_i32_3566 : BitVec 32 := 1#32
  let v5774 : BitVec 32 := Scalar.muli v1117 c1_i32_3566
  let v5775 : BitVec 32 := Scalar.addi c0_i32_3567 v5774
  v5775.toNat
def k0_cond39 (d0 : Dev nD) : BitVec 1 :=
  let c2_i32_729 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_712 : BitVec 32 := 13#32
  let v1107 : BitVec 32 := Scalar.addi v2 c13_i32_712
  let c32_i32_713 : BitVec 32 := 32#32
  let c0_i32_714 : BitVec 32 := 0#32
  let v1108 : BitVec 1 := Scalar.cmpi .eq c32_i32_713 c0_i32_714
  let c1_i32_715 : BitVec 32 := 1#32
  let v1109 : BitVec 32 := Scalar.select v1108 c1_i32_715 c32_i32_713
  let v1110 : BitVec 32 := Scalar.remsi v1107 v1109
  let c0_i32_717 : BitVec 32 := 0#32
  let v1112 : BitVec 1 := Scalar.cmpi .slt v1110 c0_i32_717
  let c0_i32_718 : BitVec 32 := 0#32
  let v1113 : BitVec 1 := Scalar.cmpi .slt v1109 c0_i32_718
  let v1114 : BitVec 1 := Scalar.xori v1112 v1113
  let c0_i32_716 : BitVec 32 := 0#32
  let v1111 : BitVec 1 := Scalar.cmpi .ne v1110 c0_i32_716
  let v1115 : BitVec 1 := Scalar.andi v1114 v1111
  let v1116 : BitVec 32 := Scalar.addi v1110 v1109
  let v1117 : BitVec 32 := Scalar.select v1115 v1116 v1110
  let v1134 : BitVec 32 := Scalar.muli c2_i32_729 v1117
  let c2_i32_730 : BitVec 32 := 2#32
  let v1135 : BitVec 32 := Scalar.muli c2_i32_730 v2
  let v1136 : BitVec 32 := Scalar.addi v1134 v1135
  let c1_i32_731 : BitVec 32 := 1#32
  let v1137 : BitVec 32 := Scalar.addi v1136 c1_i32_731
  let c3_i32_732 : BitVec 32 := 3#32
  let c0_i32_733 : BitVec 32 := 0#32
  let v1138 : BitVec 1 := Scalar.cmpi .eq c3_i32_732 c0_i32_733
  let c1_i32_734 : BitVec 32 := 1#32
  let v1139 : BitVec 32 := Scalar.select v1138 c1_i32_734 c3_i32_732
  let v1140 : BitVec 32 := Scalar.remsi v1137 v1139
  let c0_i32_736 : BitVec 32 := 0#32
  let v1142 : BitVec 1 := Scalar.cmpi .slt v1140 c0_i32_736
  let c0_i32_737 : BitVec 32 := 0#32
  let v1143 : BitVec 1 := Scalar.cmpi .slt v1139 c0_i32_737
  let v1144 : BitVec 1 := Scalar.xori v1142 v1143
  let c0_i32_735 : BitVec 32 := 0#32
  let v1141 : BitVec 1 := Scalar.cmpi .ne v1140 c0_i32_735
  let v1145 : BitVec 1 := Scalar.andi v1144 v1141
  let v1146 : BitVec 32 := Scalar.addi v1140 v1139
  let v1147 : BitVec 32 := Scalar.select v1145 v1146 v1140
  let c1_i32_738 : BitVec 32 := 1#32
  let v1148 : BitVec 1 := Scalar.cmpi .ne v1147 c1_i32_738
  let c0_i32_719 : BitVec 32 := 0#32
  let v1118 : BitVec 1 := Scalar.cmpi .eq v2 c0_i32_719
  let c2_i32_720 : BitVec 32 := 2#32
  let v1119 : BitVec 32 := Scalar.muli c2_i32_720 v1117
  let c2_i32_721 : BitVec 32 := 2#32
  let v1120 : BitVec 32 := Scalar.muli c2_i32_721 v2
  let v1121 : BitVec 32 := Scalar.addi v1119 v1120
  let c3_i32_722 : BitVec 32 := 3#32
  let c0_i32_723 : BitVec 32 := 0#32
  let v1122 : BitVec 1 := Scalar.cmpi .eq c3_i32_722 c0_i32_723
  let c1_i32_724 : BitVec 32 := 1#32
  let v1123 : BitVec 32 := Scalar.select v1122 c1_i32_724 c3_i32_722
  let v1124 : BitVec 32 := Scalar.remsi v1121 v1123
  let c0_i32_726 : BitVec 32 := 0#32
  let v1126 : BitVec 1 := Scalar.cmpi .slt v1124 c0_i32_726
  let c0_i32_727 : BitVec 32 := 0#32
  let v1127 : BitVec 1 := Scalar.cmpi .slt v1123 c0_i32_727
  let v1128 : BitVec 1 := Scalar.xori v1126 v1127
  let c0_i32_725 : BitVec 32 := 0#32
  let v1125 : BitVec 1 := Scalar.cmpi .ne v1124 c0_i32_725
  let v1129 : BitVec 1 := Scalar.andi v1128 v1125
  let v1130 : BitVec 32 := Scalar.addi v1124 v1123
  let v1131 : BitVec 32 := Scalar.select v1129 v1130 v1124
  let c1_i32_728 : BitVec 32 := 1#32
  let v1132 : BitVec 1 := Scalar.cmpi .ne v1131 c1_i32_728
  let v1133 : BitVec 1 := Scalar.ori v1118 v1132
  let true_742 : BitVec 1 := 1#1
  let v1156 : BitVec 1 := Scalar.xori v1133 true_742
  let v1157 : BitVec 1 := Scalar.andi v1148 v1156
  let v1158 : BitVec 32 := Scalar.extui v1157
  let c0_i32_743 : BitVec 32 := 0#32
  let v1159 : BitVec 1 := Scalar.cmpi .ne v1158 c0_i32_743
  v1159

def k0_dev70 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_712 : BitVec 32 := 13#32
  let v1107 : BitVec 32 := Scalar.addi v2 c13_i32_712
  let c32_i32_713 : BitVec 32 := 32#32
  let c0_i32_714 : BitVec 32 := 0#32
  let v1108 : BitVec 1 := Scalar.cmpi .eq c32_i32_713 c0_i32_714
  let c1_i32_715 : BitVec 32 := 1#32
  let v1109 : BitVec 32 := Scalar.select v1108 c1_i32_715 c32_i32_713
  let v1110 : BitVec 32 := Scalar.remsi v1107 v1109
  let c0_i32_717 : BitVec 32 := 0#32
  let v1112 : BitVec 1 := Scalar.cmpi .slt v1110 c0_i32_717
  let c0_i32_718 : BitVec 32 := 0#32
  let v1113 : BitVec 1 := Scalar.cmpi .slt v1109 c0_i32_718
  let v1114 : BitVec 1 := Scalar.xori v1112 v1113
  let c0_i32_716 : BitVec 32 := 0#32
  let v1111 : BitVec 1 := Scalar.cmpi .ne v1110 c0_i32_716
  let v1115 : BitVec 1 := Scalar.andi v1114 v1111
  let v1116 : BitVec 32 := Scalar.addi v1110 v1109
  let v1117 : BitVec 32 := Scalar.select v1115 v1116 v1110
  let c1_i32_3566 : BitVec 32 := 1#32
  let v5774 : BitVec 32 := Scalar.muli v1117 c1_i32_3566
  let v5775 : BitVec 32 := Scalar.addi c0_i32_3567 v5774
  v5775.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_751 : BitVec 32 := 0#32
  let v1171 : BitVec 1 := Scalar.cmpi .eq v2 c0_i32_751
  let c2_i32_752 : BitVec 32 := 2#32
  let c14_i32_744 : BitVec 32 := 14#32
  let v1160 : BitVec 32 := Scalar.addi v2 c14_i32_744
  let c32_i32_745 : BitVec 32 := 32#32
  let c0_i32_746 : BitVec 32 := 0#32
  let v1161 : BitVec 1 := Scalar.cmpi .eq c32_i32_745 c0_i32_746
  let c1_i32_747 : BitVec 32 := 1#32
  let v1162 : BitVec 32 := Scalar.select v1161 c1_i32_747 c32_i32_745
  let v1163 : BitVec 32 := Scalar.remsi v1160 v1162
  let c0_i32_749 : BitVec 32 := 0#32
  let v1165 : BitVec 1 := Scalar.cmpi .slt v1163 c0_i32_749
  let c0_i32_750 : BitVec 32 := 0#32
  let v1166 : BitVec 1 := Scalar.cmpi .slt v1162 c0_i32_750
  let v1167 : BitVec 1 := Scalar.xori v1165 v1166
  let c0_i32_748 : BitVec 32 := 0#32
  let v1164 : BitVec 1 := Scalar.cmpi .ne v1163 c0_i32_748
  let v1168 : BitVec 1 := Scalar.andi v1167 v1164
  let v1169 : BitVec 32 := Scalar.addi v1163 v1162
  let v1170 : BitVec 32 := Scalar.select v1168 v1169 v1163
  let v1172 : BitVec 32 := Scalar.muli c2_i32_752 v1170
  let c2_i32_753 : BitVec 32 := 2#32
  let v1173 : BitVec 32 := Scalar.muli c2_i32_753 v2
  let v1174 : BitVec 32 := Scalar.addi v1172 v1173
  let c3_i32_754 : BitVec 32 := 3#32
  let c0_i32_755 : BitVec 32 := 0#32
  let v1175 : BitVec 1 := Scalar.cmpi .eq c3_i32_754 c0_i32_755
  let c1_i32_756 : BitVec 32 := 1#32
  let v1176 : BitVec 32 := Scalar.select v1175 c1_i32_756 c3_i32_754
  let v1177 : BitVec 32 := Scalar.remsi v1174 v1176
  let c0_i32_758 : BitVec 32 := 0#32
  let v1179 : BitVec 1 := Scalar.cmpi .slt v1177 c0_i32_758
  let c0_i32_759 : BitVec 32 := 0#32
  let v1180 : BitVec 1 := Scalar.cmpi .slt v1176 c0_i32_759
  let v1181 : BitVec 1 := Scalar.xori v1179 v1180
  let c0_i32_757 : BitVec 32 := 0#32
  let v1178 : BitVec 1 := Scalar.cmpi .ne v1177 c0_i32_757
  let v1182 : BitVec 1 := Scalar.andi v1181 v1178
  let v1183 : BitVec 32 := Scalar.addi v1177 v1176
  let v1184 : BitVec 32 := Scalar.select v1182 v1183 v1177
  let c1_i32_760 : BitVec 32 := 1#32
  let v1185 : BitVec 1 := Scalar.cmpi .ne v1184 c1_i32_760
  let v1186 : BitVec 1 := Scalar.ori v1171 v1185
  let c2_i32_761 : BitVec 32 := 2#32
  let v1187 : BitVec 32 := Scalar.muli c2_i32_761 v1170
  let c2_i32_762 : BitVec 32 := 2#32
  let v1188 : BitVec 32 := Scalar.muli c2_i32_762 v2
  let v1189 : BitVec 32 := Scalar.addi v1187 v1188
  let c1_i32_763 : BitVec 32 := 1#32
  let v1190 : BitVec 32 := Scalar.addi v1189 c1_i32_763
  let c3_i32_764 : BitVec 32 := 3#32
  let c0_i32_765 : BitVec 32 := 0#32
  let v1191 : BitVec 1 := Scalar.cmpi .eq c3_i32_764 c0_i32_765
  let c1_i32_766 : BitVec 32 := 1#32
  let v1192 : BitVec 32 := Scalar.select v1191 c1_i32_766 c3_i32_764
  let v1193 : BitVec 32 := Scalar.remsi v1190 v1192
  let c0_i32_768 : BitVec 32 := 0#32
  let v1195 : BitVec 1 := Scalar.cmpi .slt v1193 c0_i32_768
  let c0_i32_769 : BitVec 32 := 0#32
  let v1196 : BitVec 1 := Scalar.cmpi .slt v1192 c0_i32_769
  let v1197 : BitVec 1 := Scalar.xori v1195 v1196
  let c0_i32_767 : BitVec 32 := 0#32
  let v1194 : BitVec 1 := Scalar.cmpi .ne v1193 c0_i32_767
  let v1198 : BitVec 1 := Scalar.andi v1197 v1194
  let v1199 : BitVec 32 := Scalar.addi v1193 v1192
  let v1200 : BitVec 32 := Scalar.select v1198 v1199 v1193
  let c1_i32_770 : BitVec 32 := 1#32
  let v1201 : BitVec 1 := Scalar.cmpi .ne v1200 c1_i32_770
  let v1202 : BitVec 1 := Scalar.andi v1186 v1201
  let v1203 : BitVec 32 := Scalar.extui v1202
  let c0_i32_771 : BitVec 32 := 0#32
  let v1204 : BitVec 1 := Scalar.cmpi .ne v1203 c0_i32_771
  v1204

def k0_dev71 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_744 : BitVec 32 := 14#32
  let v1160 : BitVec 32 := Scalar.addi v2 c14_i32_744
  let c32_i32_745 : BitVec 32 := 32#32
  let c0_i32_746 : BitVec 32 := 0#32
  let v1161 : BitVec 1 := Scalar.cmpi .eq c32_i32_745 c0_i32_746
  let c1_i32_747 : BitVec 32 := 1#32
  let v1162 : BitVec 32 := Scalar.select v1161 c1_i32_747 c32_i32_745
  let v1163 : BitVec 32 := Scalar.remsi v1160 v1162
  let c0_i32_749 : BitVec 32 := 0#32
  let v1165 : BitVec 1 := Scalar.cmpi .slt v1163 c0_i32_749
  let c0_i32_750 : BitVec 32 := 0#32
  let v1166 : BitVec 1 := Scalar.cmpi .slt v1162 c0_i32_750
  let v1167 : BitVec 1 := Scalar.xori v1165 v1166
  let c0_i32_748 : BitVec 32 := 0#32
  let v1164 : BitVec 1 := Scalar.cmpi .ne v1163 c0_i32_748
  let v1168 : BitVec 1 := Scalar.andi v1167 v1164
  let v1169 : BitVec 32 := Scalar.addi v1163 v1162
  let v1170 : BitVec 32 := Scalar.select v1168 v1169 v1163
  let c1_i32_3564 : BitVec 32 := 1#32
  let v5774 : BitVec 32 := Scalar.muli v1170 c1_i32_3564
  let v5775 : BitVec 32 := Scalar.addi c0_i32_3565 v5774
  v5775.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_751 : BitVec 32 := 0#32
  let v1171 : BitVec 1 := Scalar.cmpi .eq v2 c0_i32_751
  let c2_i32_752 : BitVec 32 := 2#32
  let c14_i32_744 : BitVec 32 := 14#32
  let v1160 : BitVec 32 := Scalar.addi v2 c14_i32_744
  let c32_i32_745 : BitVec 32 := 32#32
  let c0_i32_746 : BitVec 32 := 0#32
  let v1161 : BitVec 1 := Scalar.cmpi .eq c32_i32_745 c0_i32_746
  let c1_i32_747 : BitVec 32 := 1#32
  let v1162 : BitVec 32 := Scalar.select v1161 c1_i32_747 c32_i32_745
  let v1163 : BitVec 32 := Scalar.remsi v1160 v1162
  let c0_i32_749 : BitVec 32 := 0#32
  let v1165 : BitVec 1 := Scalar.cmpi .slt v1163 c0_i32_749
  let c0_i32_750 : BitVec 32 := 0#32
  let v1166 : BitVec 1 := Scalar.cmpi .slt v1162 c0_i32_750
  let v1167 : BitVec 1 := Scalar.xori v1165 v1166
  let c0_i32_748 : BitVec 32 := 0#32
  let v1164 : BitVec 1 := Scalar.cmpi .ne v1163 c0_i32_748
  let v1168 : BitVec 1 := Scalar.andi v1167 v1164
  let v1169 : BitVec 32 := Scalar.addi v1163 v1162
  let v1170 : BitVec 32 := Scalar.select v1168 v1169 v1163
  let v1172 : BitVec 32 := Scalar.muli c2_i32_752 v1170
  let c2_i32_753 : BitVec 32 := 2#32
  let v1173 : BitVec 32 := Scalar.muli c2_i32_753 v2
  let v1174 : BitVec 32 := Scalar.addi v1172 v1173
  let c3_i32_754 : BitVec 32 := 3#32
  let c0_i32_755 : BitVec 32 := 0#32
  let v1175 : BitVec 1 := Scalar.cmpi .eq c3_i32_754 c0_i32_755
  let c1_i32_756 : BitVec 32 := 1#32
  let v1176 : BitVec 32 := Scalar.select v1175 c1_i32_756 c3_i32_754
  let v1177 : BitVec 32 := Scalar.remsi v1174 v1176
  let c0_i32_758 : BitVec 32 := 0#32
  let v1179 : BitVec 1 := Scalar.cmpi .slt v1177 c0_i32_758
  let c0_i32_759 : BitVec 32 := 0#32
  let v1180 : BitVec 1 := Scalar.cmpi .slt v1176 c0_i32_759
  let v1181 : BitVec 1 := Scalar.xori v1179 v1180
  let c0_i32_757 : BitVec 32 := 0#32
  let v1178 : BitVec 1 := Scalar.cmpi .ne v1177 c0_i32_757
  let v1182 : BitVec 1 := Scalar.andi v1181 v1178
  let v1183 : BitVec 32 := Scalar.addi v1177 v1176
  let v1184 : BitVec 32 := Scalar.select v1182 v1183 v1177
  let c1_i32_760 : BitVec 32 := 1#32
  let v1185 : BitVec 1 := Scalar.cmpi .ne v1184 c1_i32_760
  let v1186 : BitVec 1 := Scalar.ori v1171 v1185
  let c2_i32_761 : BitVec 32 := 2#32
  let v1187 : BitVec 32 := Scalar.muli c2_i32_761 v1170
  let c2_i32_762 : BitVec 32 := 2#32
  let v1188 : BitVec 32 := Scalar.muli c2_i32_762 v2
  let v1189 : BitVec 32 := Scalar.addi v1187 v1188
  let c1_i32_763 : BitVec 32 := 1#32
  let v1190 : BitVec 32 := Scalar.addi v1189 c1_i32_763
  let c3_i32_764 : BitVec 32 := 3#32
  let c0_i32_765 : BitVec 32 := 0#32
  let v1191 : BitVec 1 := Scalar.cmpi .eq c3_i32_764 c0_i32_765
  let c1_i32_766 : BitVec 32 := 1#32
  let v1192 : BitVec 32 := Scalar.select v1191 c1_i32_766 c3_i32_764
  let v1193 : BitVec 32 := Scalar.remsi v1190 v1192
  let c0_i32_768 : BitVec 32 := 0#32
  let v1195 : BitVec 1 := Scalar.cmpi .slt v1193 c0_i32_768
  let c0_i32_769 : BitVec 32 := 0#32
  let v1196 : BitVec 1 := Scalar.cmpi .slt v1192 c0_i32_769
  let v1197 : BitVec 1 := Scalar.xori v1195 v1196
  let c0_i32_767 : BitVec 32 := 0#32
  let v1194 : BitVec 1 := Scalar.cmpi .ne v1193 c0_i32_767
  let v1198 : BitVec 1 := Scalar.andi v1197 v1194
  let v1199 : BitVec 32 := Scalar.addi v1193 v1192
  let v1200 : BitVec 32 := Scalar.select v1198 v1199 v1193
  let c1_i32_770 : BitVec 32 := 1#32
  let v1201 : BitVec 1 := Scalar.cmpi .ne v1200 c1_i32_770
  let true_772 : BitVec 1 := 1#1
  let v1205 : BitVec 1 := Scalar.xori v1201 true_772
  let v1206 : BitVec 1 := Scalar.andi v1186 v1205
  let v1207 : BitVec 32 := Scalar.extui v1206
  let c0_i32_773 : BitVec 32 := 0#32
  let v1208 : BitVec 1 := Scalar.cmpi .ne v1207 c0_i32_773
  v1208

def k0_dev72 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_744 : BitVec 32 := 14#32
  let v1160 : BitVec 32 := Scalar.addi v2 c14_i32_744
  let c32_i32_745 : BitVec 32 := 32#32
  let c0_i32_746 : BitVec 32 := 0#32
  let v1161 : BitVec 1 := Scalar.cmpi .eq c32_i32_745 c0_i32_746
  let c1_i32_747 : BitVec 32 := 1#32
  let v1162 : BitVec 32 := Scalar.select v1161 c1_i32_747 c32_i32_745
  let v1163 : BitVec 32 := Scalar.remsi v1160 v1162
  let c0_i32_749 : BitVec 32 := 0#32
  let v1165 : BitVec 1 := Scalar.cmpi .slt v1163 c0_i32_749
  let c0_i32_750 : BitVec 32 := 0#32
  let v1166 : BitVec 1 := Scalar.cmpi .slt v1162 c0_i32_750
  let v1167 : BitVec 1 := Scalar.xori v1165 v1166
  let c0_i32_748 : BitVec 32 := 0#32
  let v1164 : BitVec 1 := Scalar.cmpi .ne v1163 c0_i32_748
  let v1168 : BitVec 1 := Scalar.andi v1167 v1164
  let v1169 : BitVec 32 := Scalar.addi v1163 v1162
  let v1170 : BitVec 32 := Scalar.select v1168 v1169 v1163
  let c1_i32_3566 : BitVec 32 := 1#32
  let v5774 : BitVec 32 := Scalar.muli v1170 c1_i32_3566
  let v5775 : BitVec 32 := Scalar.addi c0_i32_3567 v5774
  v5775.toNat
def k0_cond42 (d0 : Dev nD) : BitVec 1 :=
  let c2_i32_761 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_744 : BitVec 32 := 14#32
  let v1160 : BitVec 32 := Scalar.addi v2 c14_i32_744
  let c32_i32_745 : BitVec 32 := 32#32
  let c0_i32_746 : BitVec 32 := 0#32
  let v1161 : BitVec 1 := Scalar.cmpi .eq c32_i32_745 c0_i32_746
  let c1_i32_747 : BitVec 32 := 1#32
  let v1162 : BitVec 32 := Scalar.select v1161 c1_i32_747 c32_i32_745
  let v1163 : BitVec 32 := Scalar.remsi v1160 v1162
  let c0_i32_749 : BitVec 32 := 0#32
  let v1165 : BitVec 1 := Scalar.cmpi .slt v1163 c0_i32_749
  let c0_i32_750 : BitVec 32 := 0#32
  let v1166 : BitVec 1 := Scalar.cmpi .slt v1162 c0_i32_750
  let v1167 : BitVec 1 := Scalar.xori v1165 v1166
  let c0_i32_748 : BitVec 32 := 0#32
  let v1164 : BitVec 1 := Scalar.cmpi .ne v1163 c0_i32_748
  let v1168 : BitVec 1 := Scalar.andi v1167 v1164
  let v1169 : BitVec 32 := Scalar.addi v1163 v1162
  let v1170 : BitVec 32 := Scalar.select v1168 v1169 v1163
  let v1187 : BitVec 32 := Scalar.muli c2_i32_761 v1170
  let c2_i32_762 : BitVec 32 := 2#32
  let v1188 : BitVec 32 := Scalar.muli c2_i32_762 v2
  let v1189 : BitVec 32 := Scalar.addi v1187 v1188
  let c1_i32_763 : BitVec 32 := 1#32
  let v1190 : BitVec 32 := Scalar.addi v1189 c1_i32_763
  let c3_i32_764 : BitVec 32 := 3#32
  let c0_i32_765 : BitVec 32 := 0#32
  let v1191 : BitVec 1 := Scalar.cmpi .eq c3_i32_764 c0_i32_765
  let c1_i32_766 : BitVec 32 := 1#32
  let v1192 : BitVec 32 := Scalar.select v1191 c1_i32_766 c3_i32_764
  let v1193 : BitVec 32 := Scalar.remsi v1190 v1192
  let c0_i32_768 : BitVec 32 := 0#32
  let v1195 : BitVec 1 := Scalar.cmpi .slt v1193 c0_i32_768
  let c0_i32_769 : BitVec 32 := 0#32
  let v1196 : BitVec 1 := Scalar.cmpi .slt v1192 c0_i32_769
  let v1197 : BitVec 1 := Scalar.xori v1195 v1196
  let c0_i32_767 : BitVec 32 := 0#32
  let v1194 : BitVec 1 := Scalar.cmpi .ne v1193 c0_i32_767
  let v1198 : BitVec 1 := Scalar.andi v1197 v1194
  let v1199 : BitVec 32 := Scalar.addi v1193 v1192
  let v1200 : BitVec 32 := Scalar.select v1198 v1199 v1193
  let c1_i32_770 : BitVec 32 := 1#32
  let v1201 : BitVec 1 := Scalar.cmpi .ne v1200 c1_i32_770
  let c0_i32_751 : BitVec 32 := 0#32
  let v1171 : BitVec 1 := Scalar.cmpi .eq v2 c0_i32_751
  let c2_i32_752 : BitVec 32 := 2#32
  let v1172 : BitVec 32 := Scalar.muli c2_i32_752 v1170
  let c2_i32_753 : BitVec 32 := 2#32
  let v1173 : BitVec 32 := Scalar.muli c2_i32_753 v2
  let v1174 : BitVec 32 := Scalar.addi v1172 v1173
  let c3_i32_754 : BitVec 32 := 3#32
  let c0_i32_755 : BitVec 32 := 0#32
  let v1175 : BitVec 1 := Scalar.cmpi .eq c3_i32_754 c0_i32_755
  let c1_i32_756 : BitVec 32 := 1#32
  let v1176 : BitVec 32 := Scalar.select v1175 c1_i32_756 c3_i32_754
  let v1177 : BitVec 32 := Scalar.remsi v1174 v1176
  let c0_i32_758 : BitVec 32 := 0#32
  let v1179 : BitVec 1 := Scalar.cmpi .slt v1177 c0_i32_758
  let c0_i32_759 : BitVec 32 := 0#32
  let v1180 : BitVec 1 := Scalar.cmpi .slt v1176 c0_i32_759
  let v1181 : BitVec 1 := Scalar.xori v1179 v1180
  let c0_i32_757 : BitVec 32 := 0#32
  let v1178 : BitVec 1 := Scalar.cmpi .ne v1177 c0_i32_757
  let v1182 : BitVec 1 := Scalar.andi v1181 v1178
  let v1183 : BitVec 32 := Scalar.addi v1177 v1176
  let v1184 : BitVec 32 := Scalar.select v1182 v1183 v1177
  let c1_i32_760 : BitVec 32 := 1#32
  let v1185 : BitVec 1 := Scalar.cmpi .ne v1184 c1_i32_760
  let v1186 : BitVec 1 := Scalar.ori v1171 v1185
  let true_774 : BitVec 1 := 1#1
  let v1209 : BitVec 1 := Scalar.xori v1186 true_774
  let v1210 : BitVec 1 := Scalar.andi v1201 v1209
  let v1211 : BitVec 32 := Scalar.extui v1210
  let c0_i32_775 : BitVec 32 := 0#32
  let v1212 : BitVec 1 := Scalar.cmpi .ne v1211 c0_i32_775
  v1212

def k0_dev73 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_744 : BitVec 32 := 14#32
  let v1160 : BitVec 32 := Scalar.addi v2 c14_i32_744
  let c32_i32_745 : BitVec 32 := 32#32
  let c0_i32_746 : BitVec 32 := 0#32
  let v1161 : BitVec 1 := Scalar.cmpi .eq c32_i32_745 c0_i32_746
  let c1_i32_747 : BitVec 32 := 1#32
  let v1162 : BitVec 32 := Scalar.select v1161 c1_i32_747 c32_i32_745
  let v1163 : BitVec 32 := Scalar.remsi v1160 v1162
  let c0_i32_749 : BitVec 32 := 0#32
  let v1165 : BitVec 1 := Scalar.cmpi .slt v1163 c0_i32_749
  let c0_i32_750 : BitVec 32 := 0#32
  let v1166 : BitVec 1 := Scalar.cmpi .slt v1162 c0_i32_750
  let v1167 : BitVec 1 := Scalar.xori v1165 v1166
  let c0_i32_748 : BitVec 32 := 0#32
  let v1164 : BitVec 1 := Scalar.cmpi .ne v1163 c0_i32_748
  let v1168 : BitVec 1 := Scalar.andi v1167 v1164
  let v1169 : BitVec 32 := Scalar.addi v1163 v1162
  let v1170 : BitVec 32 := Scalar.select v1168 v1169 v1163
  let c1_i32_3566 : BitVec 32 := 1#32
  let v5774 : BitVec 32 := Scalar.muli v1170 c1_i32_3566
  let v5775 : BitVec 32 := Scalar.addi c0_i32_3567 v5774
  v5775.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_783 : BitVec 32 := 0#32
  let v1224 : BitVec 1 := Scalar.cmpi .eq v2 c0_i32_783
  let c2_i32_784 : BitVec 32 := 2#32
  let c15_i32_776 : BitVec 32 := 15#32
  let v1213 : BitVec 32 := Scalar.addi v2 c15_i32_776
  let c32_i32_777 : BitVec 32 := 32#32
  let c0_i32_778 : BitVec 32 := 0#32
  let v1214 : BitVec 1 := Scalar.cmpi .eq c32_i32_777 c0_i32_778
  let c1_i32_779 : BitVec 32 := 1#32
  let v1215 : BitVec 32 := Scalar.select v1214 c1_i32_779 c32_i32_777
  let v1216 : BitVec 32 := Scalar.remsi v1213 v1215
  let c0_i32_781 : BitVec 32 := 0#32
  let v1218 : BitVec 1 := Scalar.cmpi .slt v1216 c0_i32_781
  let c0_i32_782 : BitVec 32 := 0#32
  let v1219 : BitVec 1 := Scalar.cmpi .slt v1215 c0_i32_782
  let v1220 : BitVec 1 := Scalar.xori v1218 v1219
  let c0_i32_780 : BitVec 32 := 0#32
  let v1217 : BitVec 1 := Scalar.cmpi .ne v1216 c0_i32_780
  let v1221 : BitVec 1 := Scalar.andi v1220 v1217
  let v1222 : BitVec 32 := Scalar.addi v1216 v1215
  let v1223 : BitVec 32 := Scalar.select v1221 v1222 v1216
  let v1225 : BitVec 32 := Scalar.muli c2_i32_784 v1223
  let c2_i32_785 : BitVec 32 := 2#32
  let v1226 : BitVec 32 := Scalar.muli c2_i32_785 v2
  let v1227 : BitVec 32 := Scalar.addi v1225 v1226
  let c3_i32_786 : BitVec 32 := 3#32
  let c0_i32_787 : BitVec 32 := 0#32
  let v1228 : BitVec 1 := Scalar.cmpi .eq c3_i32_786 c0_i32_787
  let c1_i32_788 : BitVec 32 := 1#32
  let v1229 : BitVec 32 := Scalar.select v1228 c1_i32_788 c3_i32_786
  let v1230 : BitVec 32 := Scalar.remsi v1227 v1229
  let c0_i32_790 : BitVec 32 := 0#32
  let v1232 : BitVec 1 := Scalar.cmpi .slt v1230 c0_i32_790
  let c0_i32_791 : BitVec 32 := 0#32
  let v1233 : BitVec 1 := Scalar.cmpi .slt v1229 c0_i32_791
  let v1234 : BitVec 1 := Scalar.xori v1232 v1233
  let c0_i32_789 : BitVec 32 := 0#32
  let v1231 : BitVec 1 := Scalar.cmpi .ne v1230 c0_i32_789
  let v1235 : BitVec 1 := Scalar.andi v1234 v1231
  let v1236 : BitVec 32 := Scalar.addi v1230 v1229
  let v1237 : BitVec 32 := Scalar.select v1235 v1236 v1230
  let c1_i32_792 : BitVec 32 := 1#32
  let v1238 : BitVec 1 := Scalar.cmpi .ne v1237 c1_i32_792
  let v1239 : BitVec 1 := Scalar.ori v1224 v1238
  let c2_i32_793 : BitVec 32 := 2#32
  let v1240 : BitVec 32 := Scalar.muli c2_i32_793 v1223
  let c2_i32_794 : BitVec 32 := 2#32
  let v1241 : BitVec 32 := Scalar.muli c2_i32_794 v2
  let v1242 : BitVec 32 := Scalar.addi v1240 v1241
  let c1_i32_795 : BitVec 32 := 1#32
  let v1243 : BitVec 32 := Scalar.addi v1242 c1_i32_795
  let c3_i32_796 : BitVec 32 := 3#32
  let c0_i32_797 : BitVec 32 := 0#32
  let v1244 : BitVec 1 := Scalar.cmpi .eq c3_i32_796 c0_i32_797
  let c1_i32_798 : BitVec 32 := 1#32
  let v1245 : BitVec 32 := Scalar.select v1244 c1_i32_798 c3_i32_796
  let v1246 : BitVec 32 := Scalar.remsi v1243 v1245
  let c0_i32_800 : BitVec 32 := 0#32
  let v1248 : BitVec 1 := Scalar.cmpi .slt v1246 c0_i32_800
  let c0_i32_801 : BitVec 32 := 0#32
  let v1249 : BitVec 1 := Scalar.cmpi .slt v1245 c0_i32_801
  let v1250 : BitVec 1 := Scalar.xori v1248 v1249
  let c0_i32_799 : BitVec 32 := 0#32
  let v1247 : BitVec 1 := Scalar.cmpi .ne v1246 c0_i32_799
  let v1251 : BitVec 1 := Scalar.andi v1250 v1247
  let v1252 : BitVec 32 := Scalar.addi v1246 v1245
  let v1253 : BitVec 32 := Scalar.select v1251 v1252 v1246
  let c1_i32_802 : BitVec 32 := 1#32
  let v1254 : BitVec 1 := Scalar.cmpi .ne v1253 c1_i32_802
  let v1255 : BitVec 1 := Scalar.andi v1239 v1254
  let v1256 : BitVec 32 := Scalar.extui v1255
  let c0_i32_803 : BitVec 32 := 0#32
  let v1257 : BitVec 1 := Scalar.cmpi .ne v1256 c0_i32_803
  v1257

def k0_dev74 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_776 : BitVec 32 := 15#32
  let v1213 : BitVec 32 := Scalar.addi v2 c15_i32_776
  let c32_i32_777 : BitVec 32 := 32#32
  let c0_i32_778 : BitVec 32 := 0#32
  let v1214 : BitVec 1 := Scalar.cmpi .eq c32_i32_777 c0_i32_778
  let c1_i32_779 : BitVec 32 := 1#32
  let v1215 : BitVec 32 := Scalar.select v1214 c1_i32_779 c32_i32_777
  let v1216 : BitVec 32 := Scalar.remsi v1213 v1215
  let c0_i32_781 : BitVec 32 := 0#32
  let v1218 : BitVec 1 := Scalar.cmpi .slt v1216 c0_i32_781
  let c0_i32_782 : BitVec 32 := 0#32
  let v1219 : BitVec 1 := Scalar.cmpi .slt v1215 c0_i32_782
  let v1220 : BitVec 1 := Scalar.xori v1218 v1219
  let c0_i32_780 : BitVec 32 := 0#32
  let v1217 : BitVec 1 := Scalar.cmpi .ne v1216 c0_i32_780
  let v1221 : BitVec 1 := Scalar.andi v1220 v1217
  let v1222 : BitVec 32 := Scalar.addi v1216 v1215
  let v1223 : BitVec 32 := Scalar.select v1221 v1222 v1216
  let c1_i32_3564 : BitVec 32 := 1#32
  let v5774 : BitVec 32 := Scalar.muli v1223 c1_i32_3564
  let v5775 : BitVec 32 := Scalar.addi c0_i32_3565 v5774
  v5775.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_783 : BitVec 32 := 0#32
  let v1224 : BitVec 1 := Scalar.cmpi .eq v2 c0_i32_783
  let c2_i32_784 : BitVec 32 := 2#32
  let c15_i32_776 : BitVec 32 := 15#32
  let v1213 : BitVec 32 := Scalar.addi v2 c15_i32_776
  let c32_i32_777 : BitVec 32 := 32#32
  let c0_i32_778 : BitVec 32 := 0#32
  let v1214 : BitVec 1 := Scalar.cmpi .eq c32_i32_777 c0_i32_778
  let c1_i32_779 : BitVec 32 := 1#32
  let v1215 : BitVec 32 := Scalar.select v1214 c1_i32_779 c32_i32_777
  let v1216 : BitVec 32 := Scalar.remsi v1213 v1215
  let c0_i32_781 : BitVec 32 := 0#32
  let v1218 : BitVec 1 := Scalar.cmpi .slt v1216 c0_i32_781
  let c0_i32_782 : BitVec 32 := 0#32
  let v1219 : BitVec 1 := Scalar.cmpi .slt v1215 c0_i32_782
  let v1220 : BitVec 1 := Scalar.xori v1218 v1219
  let c0_i32_780 : BitVec 32 := 0#32
  let v1217 : BitVec 1 := Scalar.cmpi .ne v1216 c0_i32_780
  let v1221 : BitVec 1 := Scalar.andi v1220 v1217
  let v1222 : BitVec 32 := Scalar.addi v1216 v1215
  let v1223 : BitVec 32 := Scalar.select v1221 v1222 v1216
  let v1225 : BitVec 32 := Scalar.muli c2_i32_784 v1223
  let c2_i32_785 : BitVec 32 := 2#32
  let v1226 : BitVec 32 := Scalar.muli c2_i32_785 v2
  let v1227 : BitVec 32 := Scalar.addi v1225 v1226
  let c3_i32_786 : BitVec 32 := 3#32
  let c0_i32_787 : BitVec 32 := 0#32
  let v1228 : BitVec 1 := Scalar.cmpi .eq c3_i32_786 c0_i32_787
  let c1_i32_788 : BitVec 32 := 1#32
  let v1229 : BitVec 32 := Scalar.select v1228 c1_i32_788 c3_i32_786
  let v1230 : BitVec 32 := Scalar.remsi v1227 v1229
  let c0_i32_790 : BitVec 32 := 0#32
  let v1232 : BitVec 1 := Scalar.cmpi .slt v1230 c0_i32_790
  let c0_i32_791 : BitVec 32 := 0#32
  let v1233 : BitVec 1 := Scalar.cmpi .slt v1229 c0_i32_791
  let v1234 : BitVec 1 := Scalar.xori v1232 v1233
  let c0_i32_789 : BitVec 32 := 0#32
  let v1231 : BitVec 1 := Scalar.cmpi .ne v1230 c0_i32_789
  let v1235 : BitVec 1 := Scalar.andi v1234 v1231
  let v1236 : BitVec 32 := Scalar.addi v1230 v1229
  let v1237 : BitVec 32 := Scalar.select v1235 v1236 v1230
  let c1_i32_792 : BitVec 32 := 1#32
  let v1238 : BitVec 1 := Scalar.cmpi .ne v1237 c1_i32_792
  let v1239 : BitVec 1 := Scalar.ori v1224 v1238
  let c2_i32_793 : BitVec 32 := 2#32
  let v1240 : BitVec 32 := Scalar.muli c2_i32_793 v1223
  let c2_i32_794 : BitVec 32 := 2#32
  let v1241 : BitVec 32 := Scalar.muli c2_i32_794 v2
  let v1242 : BitVec 32 := Scalar.addi v1240 v1241
  let c1_i32_795 : BitVec 32 := 1#32
  let v1243 : BitVec 32 := Scalar.addi v1242 c1_i32_795
  let c3_i32_796 : BitVec 32 := 3#32
  let c0_i32_797 : BitVec 32 := 0#32
  let v1244 : BitVec 1 := Scalar.cmpi .eq c3_i32_796 c0_i32_797
  let c1_i32_798 : BitVec 32 := 1#32
  let v1245 : BitVec 32 := Scalar.select v1244 c1_i32_798 c3_i32_796
  let v1246 : BitVec 32 := Scalar.remsi v1243 v1245
  let c0_i32_800 : BitVec 32 := 0#32
  let v1248 : BitVec 1 := Scalar.cmpi .slt v1246 c0_i32_800
  let c0_i32_801 : BitVec 32 := 0#32
  let v1249 : BitVec 1 := Scalar.cmpi .slt v1245 c0_i32_801
  let v1250 : BitVec 1 := Scalar.xori v1248 v1249
  let c0_i32_799 : BitVec 32 := 0#32
  let v1247 : BitVec 1 := Scalar.cmpi .ne v1246 c0_i32_799
  let v1251 : BitVec 1 := Scalar.andi v1250 v1247
  let v1252 : BitVec 32 := Scalar.addi v1246 v1245
  let v1253 : BitVec 32 := Scalar.select v1251 v1252 v1246
  let c1_i32_802 : BitVec 32 := 1#32
  let v1254 : BitVec 1 := Scalar.cmpi .ne v1253 c1_i32_802
  let true_804 : BitVec 1 := 1#1
  let v1258 : BitVec 1 := Scalar.xori v1254 true_804
  let v1259 : BitVec 1 := Scalar.andi v1239 v1258
  let v1260 : BitVec 32 := Scalar.extui v1259
  let c0_i32_805 : BitVec 32 := 0#32
  let v1261 : BitVec 1 := Scalar.cmpi .ne v1260 c0_i32_805
  v1261

def k0_dev75 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_776 : BitVec 32 := 15#32
  let v1213 : BitVec 32 := Scalar.addi v2 c15_i32_776
  let c32_i32_777 : BitVec 32 := 32#32
  let c0_i32_778 : BitVec 32 := 0#32
  let v1214 : BitVec 1 := Scalar.cmpi .eq c32_i32_777 c0_i32_778
  let c1_i32_779 : BitVec 32 := 1#32
  let v1215 : BitVec 32 := Scalar.select v1214 c1_i32_779 c32_i32_777
  let v1216 : BitVec 32 := Scalar.remsi v1213 v1215
  let c0_i32_781 : BitVec 32 := 0#32
  let v1218 : BitVec 1 := Scalar.cmpi .slt v1216 c0_i32_781
  let c0_i32_782 : BitVec 32 := 0#32
  let v1219 : BitVec 1 := Scalar.cmpi .slt v1215 c0_i32_782
  let v1220 : BitVec 1 := Scalar.xori v1218 v1219
  let c0_i32_780 : BitVec 32 := 0#32
  let v1217 : BitVec 1 := Scalar.cmpi .ne v1216 c0_i32_780
  let v1221 : BitVec 1 := Scalar.andi v1220 v1217
  let v1222 : BitVec 32 := Scalar.addi v1216 v1215
  let v1223 : BitVec 32 := Scalar.select v1221 v1222 v1216
  let c1_i32_3566 : BitVec 32 := 1#32
  let v5774 : BitVec 32 := Scalar.muli v1223 c1_i32_3566
  let v5775 : BitVec 32 := Scalar.addi c0_i32_3567 v5774
  v5775.toNat
def k0_cond45 (d0 : Dev nD) : BitVec 1 :=
  let c2_i32_793 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_776 : BitVec 32 := 15#32
  let v1213 : BitVec 32 := Scalar.addi v2 c15_i32_776
  let c32_i32_777 : BitVec 32 := 32#32
  let c0_i32_778 : BitVec 32 := 0#32
  let v1214 : BitVec 1 := Scalar.cmpi .eq c32_i32_777 c0_i32_778
  let c1_i32_779 : BitVec 32 := 1#32
  let v1215 : BitVec 32 := Scalar.select v1214 c1_i32_779 c32_i32_777
  let v1216 : BitVec 32 := Scalar.remsi v1213 v1215
  let c0_i32_781 : BitVec 32 := 0#32
  let v1218 : BitVec 1 := Scalar.cmpi .slt v1216 c0_i32_781
  let c0_i32_782 : BitVec 32 := 0#32
  let v1219 : BitVec 1 := Scalar.cmpi .slt v1215 c0_i32_782
  let v1220 : BitVec 1 := Scalar.xori v1218 v1219
  let c0_i32_780 : BitVec 32 := 0#32
  let v1217 : BitVec 1 := Scalar.cmpi .ne v1216 c0_i32_780
  let v1221 : BitVec 1 := Scalar.andi v1220 v1217
  let v1222 : BitVec 32 := Scalar.addi v1216 v1215
  let v1223 : BitVec 32 := Scalar.select v1221 v1222 v1216
  let v1240 : BitVec 32 := Scalar.muli c2_i32_793 v1223
  let c2_i32_794 : BitVec 32 := 2#32
  let v1241 : BitVec 32 := Scalar.muli c2_i32_794 v2
  let v1242 : BitVec 32 := Scalar.addi v1240 v1241
  let c1_i32_795 : BitVec 32 := 1#32
  let v1243 : BitVec 32 := Scalar.addi v1242 c1_i32_795
  let c3_i32_796 : BitVec 32 := 3#32
  let c0_i32_797 : BitVec 32 := 0#32
  let v1244 : BitVec 1 := Scalar.cmpi .eq c3_i32_796 c0_i32_797
  let c1_i32_798 : BitVec 32 := 1#32
  let v1245 : BitVec 32 := Scalar.select v1244 c1_i32_798 c3_i32_796
  let v1246 : BitVec 32 := Scalar.remsi v1243 v1245
  let c0_i32_800 : BitVec 32 := 0#32
  let v1248 : BitVec 1 := Scalar.cmpi .slt v1246 c0_i32_800
  let c0_i32_801 : BitVec 32 := 0#32
  let v1249 : BitVec 1 := Scalar.cmpi .slt v1245 c0_i32_801
  let v1250 : BitVec 1 := Scalar.xori v1248 v1249
  let c0_i32_799 : BitVec 32 := 0#32
  let v1247 : BitVec 1 := Scalar.cmpi .ne v1246 c0_i32_799
  let v1251 : BitVec 1 := Scalar.andi v1250 v1247
  let v1252 : BitVec 32 := Scalar.addi v1246 v1245
  let v1253 : BitVec 32 := Scalar.select v1251 v1252 v1246
  let c1_i32_802 : BitVec 32 := 1#32
  let v1254 : BitVec 1 := Scalar.cmpi .ne v1253 c1_i32_802
  let c0_i32_783 : BitVec 32 := 0#32
  let v1224 : BitVec 1 := Scalar.cmpi .eq v2 c0_i32_783
  let c2_i32_784 : BitVec 32 := 2#32
  let v1225 : BitVec 32 := Scalar.muli c2_i32_784 v1223
  let c2_i32_785 : BitVec 32 := 2#32
  let v1226 : BitVec 32 := Scalar.muli c2_i32_785 v2
  let v1227 : BitVec 32 := Scalar.addi v1225 v1226
  let c3_i32_786 : BitVec 32 := 3#32
  let c0_i32_787 : BitVec 32 := 0#32
  let v1228 : BitVec 1 := Scalar.cmpi .eq c3_i32_786 c0_i32_787
  let c1_i32_788 : BitVec 32 := 1#32
  let v1229 : BitVec 32 := Scalar.select v1228 c1_i32_788 c3_i32_786
  let v1230 : BitVec 32 := Scalar.remsi v1227 v1229
  let c0_i32_790 : BitVec 32 := 0#32
  let v1232 : BitVec 1 := Scalar.cmpi .slt v1230 c0_i32_790
  let c0_i32_791 : BitVec 32 := 0#32
  let v1233 : BitVec 1 := Scalar.cmpi .slt v1229 c0_i32_791
  let v1234 : BitVec 1 := Scalar.xori v1232 v1233
  let c0_i32_789 : BitVec 32 := 0#32
  let v1231 : BitVec 1 := Scalar.cmpi .ne v1230 c0_i32_789
  let v1235 : BitVec 1 := Scalar.andi v1234 v1231
  let v1236 : BitVec 32 := Scalar.addi v1230 v1229
  let v1237 : BitVec 32 := Scalar.select v1235 v1236 v1230
  let c1_i32_792 : BitVec 32 := 1#32
  let v1238 : BitVec 1 := Scalar.cmpi .ne v1237 c1_i32_792
  let v1239 : BitVec 1 := Scalar.ori v1224 v1238
  let true_806 : BitVec 1 := 1#1
  let v1262 : BitVec 1 := Scalar.xori v1239 true_806
  let v1263 : BitVec 1 := Scalar.andi v1254 v1262
  let v1264 : BitVec 32 := Scalar.extui v1263
  let c0_i32_807 : BitVec 32 := 0#32
  let v1265 : BitVec 1 := Scalar.cmpi .ne v1264 c0_i32_807
  v1265

def k0_dev76 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_776 : BitVec 32 := 15#32
  let v1213 : BitVec 32 := Scalar.addi v2 c15_i32_776
  let c32_i32_777 : BitVec 32 := 32#32
  let c0_i32_778 : BitVec 32 := 0#32
  let v1214 : BitVec 1 := Scalar.cmpi .eq c32_i32_777 c0_i32_778
  let c1_i32_779 : BitVec 32 := 1#32
  let v1215 : BitVec 32 := Scalar.select v1214 c1_i32_779 c32_i32_777
  let v1216 : BitVec 32 := Scalar.remsi v1213 v1215
  let c0_i32_781 : BitVec 32 := 0#32
  let v1218 : BitVec 1 := Scalar.cmpi .slt v1216 c0_i32_781
  let c0_i32_782 : BitVec 32 := 0#32
  let v1219 : BitVec 1 := Scalar.cmpi .slt v1215 c0_i32_782
  let v1220 : BitVec 1 := Scalar.xori v1218 v1219
  let c0_i32_780 : BitVec 32 := 0#32
  let v1217 : BitVec 1 := Scalar.cmpi .ne v1216 c0_i32_780
  let v1221 : BitVec 1 := Scalar.andi v1220 v1217
  let v1222 : BitVec 32 := Scalar.addi v1216 v1215
  let v1223 : BitVec 32 := Scalar.select v1221 v1222 v1216
  let c1_i32_3566 : BitVec 32 := 1#32
  let v5774 : BitVec 32 := Scalar.muli v1223 c1_i32_3566
  let v5775 : BitVec 32 := Scalar.addi c0_i32_3567 v5774
  v5775.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_815 : BitVec 32 := 0#32
  let v1277 : BitVec 1 := Scalar.cmpi .eq v2 c0_i32_815
  let c2_i32_816 : BitVec 32 := 2#32
  let c16_i32_808 : BitVec 32 := 16#32
  let v1266 : BitVec 32 := Scalar.addi v2 c16_i32_808
  let c32_i32_809 : BitVec 32 := 32#32
  let c0_i32_810 : BitVec 32 := 0#32
  let v1267 : BitVec 1 := Scalar.cmpi .eq c32_i32_809 c0_i32_810
  let c1_i32_811 : BitVec 32 := 1#32
  let v1268 : BitVec 32 := Scalar.select v1267 c1_i32_811 c32_i32_809
  let v1269 : BitVec 32 := Scalar.remsi v1266 v1268
  let c0_i32_813 : BitVec 32 := 0#32
  let v1271 : BitVec 1 := Scalar.cmpi .slt v1269 c0_i32_813
  let c0_i32_814 : BitVec 32 := 0#32
  let v1272 : BitVec 1 := Scalar.cmpi .slt v1268 c0_i32_814
  let v1273 : BitVec 1 := Scalar.xori v1271 v1272
  let c0_i32_812 : BitVec 32 := 0#32
  let v1270 : BitVec 1 := Scalar.cmpi .ne v1269 c0_i32_812
  let v1274 : BitVec 1 := Scalar.andi v1273 v1270
  let v1275 : BitVec 32 := Scalar.addi v1269 v1268
  let v1276 : BitVec 32 := Scalar.select v1274 v1275 v1269
  let v1278 : BitVec 32 := Scalar.muli c2_i32_816 v1276
  let c2_i32_817 : BitVec 32 := 2#32
  let v1279 : BitVec 32 := Scalar.muli c2_i32_817 v2
  let v1280 : BitVec 32 := Scalar.addi v1278 v1279
  let c3_i32_818 : BitVec 32 := 3#32
  let c0_i32_819 : BitVec 32 := 0#32
  let v1281 : BitVec 1 := Scalar.cmpi .eq c3_i32_818 c0_i32_819
  let c1_i32_820 : BitVec 32 := 1#32
  let v1282 : BitVec 32 := Scalar.select v1281 c1_i32_820 c3_i32_818
  let v1283 : BitVec 32 := Scalar.remsi v1280 v1282
  let c0_i32_822 : BitVec 32 := 0#32
  let v1285 : BitVec 1 := Scalar.cmpi .slt v1283 c0_i32_822
  let c0_i32_823 : BitVec 32 := 0#32
  let v1286 : BitVec 1 := Scalar.cmpi .slt v1282 c0_i32_823
  let v1287 : BitVec 1 := Scalar.xori v1285 v1286
  let c0_i32_821 : BitVec 32 := 0#32
  let v1284 : BitVec 1 := Scalar.cmpi .ne v1283 c0_i32_821
  let v1288 : BitVec 1 := Scalar.andi v1287 v1284
  let v1289 : BitVec 32 := Scalar.addi v1283 v1282
  let v1290 : BitVec 32 := Scalar.select v1288 v1289 v1283
  let c1_i32_824 : BitVec 32 := 1#32
  let v1291 : BitVec 1 := Scalar.cmpi .ne v1290 c1_i32_824
  let v1292 : BitVec 1 := Scalar.ori v1277 v1291
  let c2_i32_825 : BitVec 32 := 2#32
  let v1293 : BitVec 32 := Scalar.muli c2_i32_825 v1276
  let c2_i32_826 : BitVec 32 := 2#32
  let v1294 : BitVec 32 := Scalar.muli c2_i32_826 v2
  let v1295 : BitVec 32 := Scalar.addi v1293 v1294
  let c1_i32_827 : BitVec 32 := 1#32
  let v1296 : BitVec 32 := Scalar.addi v1295 c1_i32_827
  let c3_i32_828 : BitVec 32 := 3#32
  let c0_i32_829 : BitVec 32 := 0#32
  let v1297 : BitVec 1 := Scalar.cmpi .eq c3_i32_828 c0_i32_829
  let c1_i32_830 : BitVec 32 := 1#32
  let v1298 : BitVec 32 := Scalar.select v1297 c1_i32_830 c3_i32_828
  let v1299 : BitVec 32 := Scalar.remsi v1296 v1298
  let c0_i32_832 : BitVec 32 := 0#32
  let v1301 : BitVec 1 := Scalar.cmpi .slt v1299 c0_i32_832
  let c0_i32_833 : BitVec 32 := 0#32
  let v1302 : BitVec 1 := Scalar.cmpi .slt v1298 c0_i32_833
  let v1303 : BitVec 1 := Scalar.xori v1301 v1302
  let c0_i32_831 : BitVec 32 := 0#32
  let v1300 : BitVec 1 := Scalar.cmpi .ne v1299 c0_i32_831
  let v1304 : BitVec 1 := Scalar.andi v1303 v1300
  let v1305 : BitVec 32 := Scalar.addi v1299 v1298
  let v1306 : BitVec 32 := Scalar.select v1304 v1305 v1299
  let c1_i32_834 : BitVec 32 := 1#32
  let v1307 : BitVec 1 := Scalar.cmpi .ne v1306 c1_i32_834
  let v1308 : BitVec 1 := Scalar.andi v1292 v1307
  let v1309 : BitVec 32 := Scalar.extui v1308
  let c0_i32_835 : BitVec 32 := 0#32
  let v1310 : BitVec 1 := Scalar.cmpi .ne v1309 c0_i32_835
  v1310

def k0_dev77 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_808 : BitVec 32 := 16#32
  let v1266 : BitVec 32 := Scalar.addi v2 c16_i32_808
  let c32_i32_809 : BitVec 32 := 32#32
  let c0_i32_810 : BitVec 32 := 0#32
  let v1267 : BitVec 1 := Scalar.cmpi .eq c32_i32_809 c0_i32_810
  let c1_i32_811 : BitVec 32 := 1#32
  let v1268 : BitVec 32 := Scalar.select v1267 c1_i32_811 c32_i32_809
  let v1269 : BitVec 32 := Scalar.remsi v1266 v1268
  let c0_i32_813 : BitVec 32 := 0#32
  let v1271 : BitVec 1 := Scalar.cmpi .slt v1269 c0_i32_813
  let c0_i32_814 : BitVec 32 := 0#32
  let v1272 : BitVec 1 := Scalar.cmpi .slt v1268 c0_i32_814
  let v1273 : BitVec 1 := Scalar.xori v1271 v1272
  let c0_i32_812 : BitVec 32 := 0#32
  let v1270 : BitVec 1 := Scalar.cmpi .ne v1269 c0_i32_812
  let v1274 : BitVec 1 := Scalar.andi v1273 v1270
  let v1275 : BitVec 32 := Scalar.addi v1269 v1268
  let v1276 : BitVec 32 := Scalar.select v1274 v1275 v1269
  let c1_i32_3564 : BitVec 32 := 1#32
  let v5774 : BitVec 32 := Scalar.muli v1276 c1_i32_3564
  let v5775 : BitVec 32 := Scalar.addi c0_i32_3565 v5774
  v5775.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_815 : BitVec 32 := 0#32
  let v1277 : BitVec 1 := Scalar.cmpi .eq v2 c0_i32_815
  let c2_i32_816 : BitVec 32 := 2#32
  let c16_i32_808 : BitVec 32 := 16#32
  let v1266 : BitVec 32 := Scalar.addi v2 c16_i32_808
  let c32_i32_809 : BitVec 32 := 32#32
  let c0_i32_810 : BitVec 32 := 0#32
  let v1267 : BitVec 1 := Scalar.cmpi .eq c32_i32_809 c0_i32_810
  let c1_i32_811 : BitVec 32 := 1#32
  let v1268 : BitVec 32 := Scalar.select v1267 c1_i32_811 c32_i32_809
  let v1269 : BitVec 32 := Scalar.remsi v1266 v1268
  let c0_i32_813 : BitVec 32 := 0#32
  let v1271 : BitVec 1 := Scalar.cmpi .slt v1269 c0_i32_813
  let c0_i32_814 : BitVec 32 := 0#32
  let v1272 : BitVec 1 := Scalar.cmpi .slt v1268 c0_i32_814
  let v1273 : BitVec 1 := Scalar.xori v1271 v1272
  let c0_i32_812 : BitVec 32 := 0#32
  let v1270 : BitVec 1 := Scalar.cmpi .ne v1269 c0_i32_812
  let v1274 : BitVec 1 := Scalar.andi v1273 v1270
  let v1275 : BitVec 32 := Scalar.addi v1269 v1268
  let v1276 : BitVec 32 := Scalar.select v1274 v1275 v1269
  let v1278 : BitVec 32 := Scalar.muli c2_i32_816 v1276
  let c2_i32_817 : BitVec 32 := 2#32
  let v1279 : BitVec 32 := Scalar.muli c2_i32_817 v2
  let v1280 : BitVec 32 := Scalar.addi v1278 v1279
  let c3_i32_818 : BitVec 32 := 3#32
  let c0_i32_819 : BitVec 32 := 0#32
  let v1281 : BitVec 1 := Scalar.cmpi .eq c3_i32_818 c0_i32_819
  let c1_i32_820 : BitVec 32 := 1#32
  let v1282 : BitVec 32 := Scalar.select v1281 c1_i32_820 c3_i32_818
  let v1283 : BitVec 32 := Scalar.remsi v1280 v1282
  let c0_i32_822 : BitVec 32 := 0#32
  let v1285 : BitVec 1 := Scalar.cmpi .slt v1283 c0_i32_822
  let c0_i32_823 : BitVec 32 := 0#32
  let v1286 : BitVec 1 := Scalar.cmpi .slt v1282 c0_i32_823
  let v1287 : BitVec 1 := Scalar.xori v1285 v1286
  let c0_i32_821 : BitVec 32 := 0#32
  let v1284 : BitVec 1 := Scalar.cmpi .ne v1283 c0_i32_821
  let v1288 : BitVec 1 := Scalar.andi v1287 v1284
  let v1289 : BitVec 32 := Scalar.addi v1283 v1282
  let v1290 : BitVec 32 := Scalar.select v1288 v1289 v1283
  let c1_i32_824 : BitVec 32 := 1#32
  let v1291 : BitVec 1 := Scalar.cmpi .ne v1290 c1_i32_824
  let v1292 : BitVec 1 := Scalar.ori v1277 v1291
  let c2_i32_825 : BitVec 32 := 2#32
  let v1293 : BitVec 32 := Scalar.muli c2_i32_825 v1276
  let c2_i32_826 : BitVec 32 := 2#32
  let v1294 : BitVec 32 := Scalar.muli c2_i32_826 v2
  let v1295 : BitVec 32 := Scalar.addi v1293 v1294
  let c1_i32_827 : BitVec 32 := 1#32
  let v1296 : BitVec 32 := Scalar.addi v1295 c1_i32_827
  let c3_i32_828 : BitVec 32 := 3#32
  let c0_i32_829 : BitVec 32 := 0#32
  let v1297 : BitVec 1 := Scalar.cmpi .eq c3_i32_828 c0_i32_829
  let c1_i32_830 : BitVec 32 := 1#32
  let v1298 : BitVec 32 := Scalar.select v1297 c1_i32_830 c3_i32_828
  let v1299 : BitVec 32 := Scalar.remsi v1296 v1298
  let c0_i32_832 : BitVec 32 := 0#32
  let v1301 : BitVec 1 := Scalar.cmpi .slt v1299 c0_i32_832
  let c0_i32_833 : BitVec 32 := 0#32
  let v1302 : BitVec 1 := Scalar.cmpi .slt v1298 c0_i32_833
  let v1303 : BitVec 1 := Scalar.xori v1301 v1302
  let c0_i32_831 : BitVec 32 := 0#32
  let v1300 : BitVec 1 := Scalar.cmpi .ne v1299 c0_i32_831
  let v1304 : BitVec 1 := Scalar.andi v1303 v1300
  let v1305 : BitVec 32 := Scalar.addi v1299 v1298
  let v1306 : BitVec 32 := Scalar.select v1304 v1305 v1299
  let c1_i32_834 : BitVec 32 := 1#32
  let v1307 : BitVec 1 := Scalar.cmpi .ne v1306 c1_i32_834
  let true_836 : BitVec 1 := 1#1
  let v1311 : BitVec 1 := Scalar.xori v1307 true_836
  let v1312 : BitVec 1 := Scalar.andi v1292 v1311
  let v1313 : BitVec 32 := Scalar.extui v1312
  let c0_i32_837 : BitVec 32 := 0#32
  let v1314 : BitVec 1 := Scalar.cmpi .ne v1313 c0_i32_837
  v1314

def k0_dev78 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_808 : BitVec 32 := 16#32
  let v1266 : BitVec 32 := Scalar.addi v2 c16_i32_808
  let c32_i32_809 : BitVec 32 := 32#32
  let c0_i32_810 : BitVec 32 := 0#32
  let v1267 : BitVec 1 := Scalar.cmpi .eq c32_i32_809 c0_i32_810
  let c1_i32_811 : BitVec 32 := 1#32
  let v1268 : BitVec 32 := Scalar.select v1267 c1_i32_811 c32_i32_809
  let v1269 : BitVec 32 := Scalar.remsi v1266 v1268
  let c0_i32_813 : BitVec 32 := 0#32
  let v1271 : BitVec 1 := Scalar.cmpi .slt v1269 c0_i32_813
  let c0_i32_814 : BitVec 32 := 0#32
  let v1272 : BitVec 1 := Scalar.cmpi .slt v1268 c0_i32_814
  let v1273 : BitVec 1 := Scalar.xori v1271 v1272
  let c0_i32_812 : BitVec 32 := 0#32
  let v1270 : BitVec 1 := Scalar.cmpi .ne v1269 c0_i32_812
  let v1274 : BitVec 1 := Scalar.andi v1273 v1270
  let v1275 : BitVec 32 := Scalar.addi v1269 v1268
  let v1276 : BitVec 32 := Scalar.select v1274 v1275 v1269
  let c1_i32_3566 : BitVec 32 := 1#32
  let v5774 : BitVec 32 := Scalar.muli v1276 c1_i32_3566
  let v5775 : BitVec 32 := Scalar.addi c0_i32_3567 v5774
  v5775.toNat
def k0_cond48 (d0 : Dev nD) : BitVec 1 :=
  let c2_i32_825 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_808 : BitVec 32 := 16#32
  let v1266 : BitVec 32 := Scalar.addi v2 c16_i32_808
  let c32_i32_809 : BitVec 32 := 32#32
  let c0_i32_810 : BitVec 32 := 0#32
  let v1267 : BitVec 1 := Scalar.cmpi .eq c32_i32_809 c0_i32_810
  let c1_i32_811 : BitVec 32 := 1#32
  let v1268 : BitVec 32 := Scalar.select v1267 c1_i32_811 c32_i32_809
  let v1269 : BitVec 32 := Scalar.remsi v1266 v1268
  let c0_i32_813 : BitVec 32 := 0#32
  let v1271 : BitVec 1 := Scalar.cmpi .slt v1269 c0_i32_813
  let c0_i32_814 : BitVec 32 := 0#32
  let v1272 : BitVec 1 := Scalar.cmpi .slt v1268 c0_i32_814
  let v1273 : BitVec 1 := Scalar.xori v1271 v1272
  let c0_i32_812 : BitVec 32 := 0#32
  let v1270 : BitVec 1 := Scalar.cmpi .ne v1269 c0_i32_812
  let v1274 : BitVec 1 := Scalar.andi v1273 v1270
  let v1275 : BitVec 32 := Scalar.addi v1269 v1268
  let v1276 : BitVec 32 := Scalar.select v1274 v1275 v1269
  let v1293 : BitVec 32 := Scalar.muli c2_i32_825 v1276
  let c2_i32_826 : BitVec 32 := 2#32
  let v1294 : BitVec 32 := Scalar.muli c2_i32_826 v2
  let v1295 : BitVec 32 := Scalar.addi v1293 v1294
  let c1_i32_827 : BitVec 32 := 1#32
  let v1296 : BitVec 32 := Scalar.addi v1295 c1_i32_827
  let c3_i32_828 : BitVec 32 := 3#32
  let c0_i32_829 : BitVec 32 := 0#32
  let v1297 : BitVec 1 := Scalar.cmpi .eq c3_i32_828 c0_i32_829
  let c1_i32_830 : BitVec 32 := 1#32
  let v1298 : BitVec 32 := Scalar.select v1297 c1_i32_830 c3_i32_828
  let v1299 : BitVec 32 := Scalar.remsi v1296 v1298
  let c0_i32_832 : BitVec 32 := 0#32
  let v1301 : BitVec 1 := Scalar.cmpi .slt v1299 c0_i32_832
  let c0_i32_833 : BitVec 32 := 0#32
  let v1302 : BitVec 1 := Scalar.cmpi .slt v1298 c0_i32_833
  let v1303 : BitVec 1 := Scalar.xori v1301 v1302
  let c0_i32_831 : BitVec 32 := 0#32
  let v1300 : BitVec 1 := Scalar.cmpi .ne v1299 c0_i32_831
  let v1304 : BitVec 1 := Scalar.andi v1303 v1300
  let v1305 : BitVec 32 := Scalar.addi v1299 v1298
  let v1306 : BitVec 32 := Scalar.select v1304 v1305 v1299
  let c1_i32_834 : BitVec 32 := 1#32
  let v1307 : BitVec 1 := Scalar.cmpi .ne v1306 c1_i32_834
  let c0_i32_815 : BitVec 32 := 0#32
  let v1277 : BitVec 1 := Scalar.cmpi .eq v2 c0_i32_815
  let c2_i32_816 : BitVec 32 := 2#32
  let v1278 : BitVec 32 := Scalar.muli c2_i32_816 v1276
  let c2_i32_817 : BitVec 32 := 2#32
  let v1279 : BitVec 32 := Scalar.muli c2_i32_817 v2
  let v1280 : BitVec 32 := Scalar.addi v1278 v1279
  let c3_i32_818 : BitVec 32 := 3#32
  let c0_i32_819 : BitVec 32 := 0#32
  let v1281 : BitVec 1 := Scalar.cmpi .eq c3_i32_818 c0_i32_819
  let c1_i32_820 : BitVec 32 := 1#32
  let v1282 : BitVec 32 := Scalar.select v1281 c1_i32_820 c3_i32_818
  let v1283 : BitVec 32 := Scalar.remsi v1280 v1282
  let c0_i32_822 : BitVec 32 := 0#32
  let v1285 : BitVec 1 := Scalar.cmpi .slt v1283 c0_i32_822
  let c0_i32_823 : BitVec 32 := 0#32
  let v1286 : BitVec 1 := Scalar.cmpi .slt v1282 c0_i32_823
  let v1287 : BitVec 1 := Scalar.xori v1285 v1286
  let c0_i32_821 : BitVec 32 := 0#32
  let v1284 : BitVec 1 := Scalar.cmpi .ne v1283 c0_i32_821
  let v1288 : BitVec 1 := Scalar.andi v1287 v1284
  let v1289 : BitVec 32 := Scalar.addi v1283 v1282
  let v1290 : BitVec 32 := Scalar.select v1288 v1289 v1283
  let c1_i32_824 : BitVec 32 := 1#32
  let v1291 : BitVec 1 := Scalar.cmpi .ne v1290 c1_i32_824
  let v1292 : BitVec 1 := Scalar.ori v1277 v1291
  let true_838 : BitVec 1 := 1#1
  let v1315 : BitVec 1 := Scalar.xori v1292 true_838
  let v1316 : BitVec 1 := Scalar.andi v1307 v1315
  let v1317 : BitVec 32 := Scalar.extui v1316
  let c0_i32_839 : BitVec 32 := 0#32
  let v1318 : BitVec 1 := Scalar.cmpi .ne v1317 c0_i32_839
  v1318

def k0_dev79 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_808 : BitVec 32 := 16#32
  let v1266 : BitVec 32 := Scalar.addi v2 c16_i32_808
  let c32_i32_809 : BitVec 32 := 32#32
  let c0_i32_810 : BitVec 32 := 0#32
  let v1267 : BitVec 1 := Scalar.cmpi .eq c32_i32_809 c0_i32_810
  let c1_i32_811 : BitVec 32 := 1#32
  let v1268 : BitVec 32 := Scalar.select v1267 c1_i32_811 c32_i32_809
  let v1269 : BitVec 32 := Scalar.remsi v1266 v1268
  let c0_i32_813 : BitVec 32 := 0#32
  let v1271 : BitVec 1 := Scalar.cmpi .slt v1269 c0_i32_813
  let c0_i32_814 : BitVec 32 := 0#32
  let v1272 : BitVec 1 := Scalar.cmpi .slt v1268 c0_i32_814
  let v1273 : BitVec 1 := Scalar.xori v1271 v1272
  let c0_i32_812 : BitVec 32 := 0#32
  let v1270 : BitVec 1 := Scalar.cmpi .ne v1269 c0_i32_812
  let v1274 : BitVec 1 := Scalar.andi v1273 v1270
  let v1275 : BitVec 32 := Scalar.addi v1269 v1268
  let v1276 : BitVec 32 := Scalar.select v1274 v1275 v1269
  let c1_i32_3566 : BitVec 32 := 1#32
  let v5774 : BitVec 32 := Scalar.muli v1276 c1_i32_3566
  let v5775 : BitVec 32 := Scalar.addi c0_i32_3567 v5774
  v5775.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_847 : BitVec 32 := 0#32
  let v1330 : BitVec 1 := Scalar.cmpi .eq v2 c0_i32_847
  let c2_i32_848 : BitVec 32 := 2#32
  let c17_i32_840 : BitVec 32 := 17#32
  let v1319 : BitVec 32 := Scalar.addi v2 c17_i32_840
  let c32_i32_841 : BitVec 32 := 32#32
  let c0_i32_842 : BitVec 32 := 0#32
  let v1320 : BitVec 1 := Scalar.cmpi .eq c32_i32_841 c0_i32_842
  let c1_i32_843 : BitVec 32 := 1#32
  let v1321 : BitVec 32 := Scalar.select v1320 c1_i32_843 c32_i32_841
  let v1322 : BitVec 32 := Scalar.remsi v1319 v1321
  let c0_i32_845 : BitVec 32 := 0#32
  let v1324 : BitVec 1 := Scalar.cmpi .slt v1322 c0_i32_845
  let c0_i32_846 : BitVec 32 := 0#32
  let v1325 : BitVec 1 := Scalar.cmpi .slt v1321 c0_i32_846
  let v1326 : BitVec 1 := Scalar.xori v1324 v1325
  let c0_i32_844 : BitVec 32 := 0#32
  let v1323 : BitVec 1 := Scalar.cmpi .ne v1322 c0_i32_844
  let v1327 : BitVec 1 := Scalar.andi v1326 v1323
  let v1328 : BitVec 32 := Scalar.addi v1322 v1321
  let v1329 : BitVec 32 := Scalar.select v1327 v1328 v1322
  let v1331 : BitVec 32 := Scalar.muli c2_i32_848 v1329
  let c2_i32_849 : BitVec 32 := 2#32
  let v1332 : BitVec 32 := Scalar.muli c2_i32_849 v2
  let v1333 : BitVec 32 := Scalar.addi v1331 v1332
  let c3_i32_850 : BitVec 32 := 3#32
  let c0_i32_851 : BitVec 32 := 0#32
  let v1334 : BitVec 1 := Scalar.cmpi .eq c3_i32_850 c0_i32_851
  let c1_i32_852 : BitVec 32 := 1#32
  let v1335 : BitVec 32 := Scalar.select v1334 c1_i32_852 c3_i32_850
  let v1336 : BitVec 32 := Scalar.remsi v1333 v1335
  let c0_i32_854 : BitVec 32 := 0#32
  let v1338 : BitVec 1 := Scalar.cmpi .slt v1336 c0_i32_854
  let c0_i32_855 : BitVec 32 := 0#32
  let v1339 : BitVec 1 := Scalar.cmpi .slt v1335 c0_i32_855
  let v1340 : BitVec 1 := Scalar.xori v1338 v1339
  let c0_i32_853 : BitVec 32 := 0#32
  let v1337 : BitVec 1 := Scalar.cmpi .ne v1336 c0_i32_853
  let v1341 : BitVec 1 := Scalar.andi v1340 v1337
  let v1342 : BitVec 32 := Scalar.addi v1336 v1335
  let v1343 : BitVec 32 := Scalar.select v1341 v1342 v1336
  let c1_i32_856 : BitVec 32 := 1#32
  let v1344 : BitVec 1 := Scalar.cmpi .ne v1343 c1_i32_856
  let v1345 : BitVec 1 := Scalar.ori v1330 v1344
  let c2_i32_857 : BitVec 32 := 2#32
  let v1346 : BitVec 32 := Scalar.muli c2_i32_857 v1329
  let c2_i32_858 : BitVec 32 := 2#32
  let v1347 : BitVec 32 := Scalar.muli c2_i32_858 v2
  let v1348 : BitVec 32 := Scalar.addi v1346 v1347
  let c1_i32_859 : BitVec 32 := 1#32
  let v1349 : BitVec 32 := Scalar.addi v1348 c1_i32_859
  let c3_i32_860 : BitVec 32 := 3#32
  let c0_i32_861 : BitVec 32 := 0#32
  let v1350 : BitVec 1 := Scalar.cmpi .eq c3_i32_860 c0_i32_861
  let c1_i32_862 : BitVec 32 := 1#32
  let v1351 : BitVec 32 := Scalar.select v1350 c1_i32_862 c3_i32_860
  let v1352 : BitVec 32 := Scalar.remsi v1349 v1351
  let c0_i32_864 : BitVec 32 := 0#32
  let v1354 : BitVec 1 := Scalar.cmpi .slt v1352 c0_i32_864
  let c0_i32_865 : BitVec 32 := 0#32
  let v1355 : BitVec 1 := Scalar.cmpi .slt v1351 c0_i32_865
  let v1356 : BitVec 1 := Scalar.xori v1354 v1355
  let c0_i32_863 : BitVec 32 := 0#32
  let v1353 : BitVec 1 := Scalar.cmpi .ne v1352 c0_i32_863
  let v1357 : BitVec 1 := Scalar.andi v1356 v1353
  let v1358 : BitVec 32 := Scalar.addi v1352 v1351
  let v1359 : BitVec 32 := Scalar.select v1357 v1358 v1352
  let c1_i32_866 : BitVec 32 := 1#32
  let v1360 : BitVec 1 := Scalar.cmpi .ne v1359 c1_i32_866
  let v1361 : BitVec 1 := Scalar.andi v1345 v1360
  let v1362 : BitVec 32 := Scalar.extui v1361
  let c0_i32_867 : BitVec 32 := 0#32
  let v1363 : BitVec 1 := Scalar.cmpi .ne v1362 c0_i32_867
  v1363

def k0_dev80 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_840 : BitVec 32 := 17#32
  let v1319 : BitVec 32 := Scalar.addi v2 c17_i32_840
  let c32_i32_841 : BitVec 32 := 32#32
  let c0_i32_842 : BitVec 32 := 0#32
  let v1320 : BitVec 1 := Scalar.cmpi .eq c32_i32_841 c0_i32_842
  let c1_i32_843 : BitVec 32 := 1#32
  let v1321 : BitVec 32 := Scalar.select v1320 c1_i32_843 c32_i32_841
  let v1322 : BitVec 32 := Scalar.remsi v1319 v1321
  let c0_i32_845 : BitVec 32 := 0#32
  let v1324 : BitVec 1 := Scalar.cmpi .slt v1322 c0_i32_845
  let c0_i32_846 : BitVec 32 := 0#32
  let v1325 : BitVec 1 := Scalar.cmpi .slt v1321 c0_i32_846
  let v1326 : BitVec 1 := Scalar.xori v1324 v1325
  let c0_i32_844 : BitVec 32 := 0#32
  let v1323 : BitVec 1 := Scalar.cmpi .ne v1322 c0_i32_844
  let v1327 : BitVec 1 := Scalar.andi v1326 v1323
  let v1328 : BitVec 32 := Scalar.addi v1322 v1321
  let v1329 : BitVec 32 := Scalar.select v1327 v1328 v1322
  let c1_i32_3564 : BitVec 32 := 1#32
  let v5774 : BitVec 32 := Scalar.muli v1329 c1_i32_3564
  let v5775 : BitVec 32 := Scalar.addi c0_i32_3565 v5774
  v5775.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_847 : BitVec 32 := 0#32
  let v1330 : BitVec 1 := Scalar.cmpi .eq v2 c0_i32_847
  let c2_i32_848 : BitVec 32 := 2#32
  let c17_i32_840 : BitVec 32 := 17#32
  let v1319 : BitVec 32 := Scalar.addi v2 c17_i32_840
  let c32_i32_841 : BitVec 32 := 32#32
  let c0_i32_842 : BitVec 32 := 0#32
  let v1320 : BitVec 1 := Scalar.cmpi .eq c32_i32_841 c0_i32_842
  let c1_i32_843 : BitVec 32 := 1#32
  let v1321 : BitVec 32 := Scalar.select v1320 c1_i32_843 c32_i32_841
  let v1322 : BitVec 32 := Scalar.remsi v1319 v1321
  let c0_i32_845 : BitVec 32 := 0#32
  let v1324 : BitVec 1 := Scalar.cmpi .slt v1322 c0_i32_845
  let c0_i32_846 : BitVec 32 := 0#32
  let v1325 : BitVec 1 := Scalar.cmpi .slt v1321 c0_i32_846
  let v1326 : BitVec 1 := Scalar.xori v1324 v1325
  let c0_i32_844 : BitVec 32 := 0#32
  let v1323 : BitVec 1 := Scalar.cmpi .ne v1322 c0_i32_844
  let v1327 : BitVec 1 := Scalar.andi v1326 v1323
  let v1328 : BitVec 32 := Scalar.addi v1322 v1321
  let v1329 : BitVec 32 := Scalar.select v1327 v1328 v1322
  let v1331 : BitVec 32 := Scalar.muli c2_i32_848 v1329
  let c2_i32_849 : BitVec 32 := 2#32
  let v1332 : BitVec 32 := Scalar.muli c2_i32_849 v2
  let v1333 : BitVec 32 := Scalar.addi v1331 v1332
  let c3_i32_850 : BitVec 32 := 3#32
  let c0_i32_851 : BitVec 32 := 0#32
  let v1334 : BitVec 1 := Scalar.cmpi .eq c3_i32_850 c0_i32_851
  let c1_i32_852 : BitVec 32 := 1#32
  let v1335 : BitVec 32 := Scalar.select v1334 c1_i32_852 c3_i32_850
  let v1336 : BitVec 32 := Scalar.remsi v1333 v1335
  let c0_i32_854 : BitVec 32 := 0#32
  let v1338 : BitVec 1 := Scalar.cmpi .slt v1336 c0_i32_854
  let c0_i32_855 : BitVec 32 := 0#32
  let v1339 : BitVec 1 := Scalar.cmpi .slt v1335 c0_i32_855
  let v1340 : BitVec 1 := Scalar.xori v1338 v1339
  let c0_i32_853 : BitVec 32 := 0#32
  let v1337 : BitVec 1 := Scalar.cmpi .ne v1336 c0_i32_853
  let v1341 : BitVec 1 := Scalar.andi v1340 v1337
  let v1342 : BitVec 32 := Scalar.addi v1336 v1335
  let v1343 : BitVec 32 := Scalar.select v1341 v1342 v1336
  let c1_i32_856 : BitVec 32 := 1#32
  let v1344 : BitVec 1 := Scalar.cmpi .ne v1343 c1_i32_856
  let v1345 : BitVec 1 := Scalar.ori v1330 v1344
  let c2_i32_857 : BitVec 32 := 2#32
  let v1346 : BitVec 32 := Scalar.muli c2_i32_857 v1329
  let c2_i32_858 : BitVec 32 := 2#32
  let v1347 : BitVec 32 := Scalar.muli c2_i32_858 v2
  let v1348 : BitVec 32 := Scalar.addi v1346 v1347
  let c1_i32_859 : BitVec 32 := 1#32
  let v1349 : BitVec 32 := Scalar.addi v1348 c1_i32_859
  let c3_i32_860 : BitVec 32 := 3#32
  let c0_i32_861 : BitVec 32 := 0#32
  let v1350 : BitVec 1 := Scalar.cmpi .eq c3_i32_860 c0_i32_861
  let c1_i32_862 : BitVec 32 := 1#32
  let v1351 : BitVec 32 := Scalar.select v1350 c1_i32_862 c3_i32_860
  let v1352 : BitVec 32 := Scalar.remsi v1349 v1351
  let c0_i32_864 : BitVec 32 := 0#32
  let v1354 : BitVec 1 := Scalar.cmpi .slt v1352 c0_i32_864
  let c0_i32_865 : BitVec 32 := 0#32
  let v1355 : BitVec 1 := Scalar.cmpi .slt v1351 c0_i32_865
  let v1356 : BitVec 1 := Scalar.xori v1354 v1355
  let c0_i32_863 : BitVec 32 := 0#32
  let v1353 : BitVec 1 := Scalar.cmpi .ne v1352 c0_i32_863
  let v1357 : BitVec 1 := Scalar.andi v1356 v1353
  let v1358 : BitVec 32 := Scalar.addi v1352 v1351
  let v1359 : BitVec 32 := Scalar.select v1357 v1358 v1352
  let c1_i32_866 : BitVec 32 := 1#32
  let v1360 : BitVec 1 := Scalar.cmpi .ne v1359 c1_i32_866
  let true_868 : BitVec 1 := 1#1
  let v1364 : BitVec 1 := Scalar.xori v1360 true_868
  let v1365 : BitVec 1 := Scalar.andi v1345 v1364
  let v1366 : BitVec 32 := Scalar.extui v1365
  let c0_i32_869 : BitVec 32 := 0#32
  let v1367 : BitVec 1 := Scalar.cmpi .ne v1366 c0_i32_869
  v1367

def k0_dev81 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_840 : BitVec 32 := 17#32
  let v1319 : BitVec 32 := Scalar.addi v2 c17_i32_840
  let c32_i32_841 : BitVec 32 := 32#32
  let c0_i32_842 : BitVec 32 := 0#32
  let v1320 : BitVec 1 := Scalar.cmpi .eq c32_i32_841 c0_i32_842
  let c1_i32_843 : BitVec 32 := 1#32
  let v1321 : BitVec 32 := Scalar.select v1320 c1_i32_843 c32_i32_841
  let v1322 : BitVec 32 := Scalar.remsi v1319 v1321
  let c0_i32_845 : BitVec 32 := 0#32
  let v1324 : BitVec 1 := Scalar.cmpi .slt v1322 c0_i32_845
  let c0_i32_846 : BitVec 32 := 0#32
  let v1325 : BitVec 1 := Scalar.cmpi .slt v1321 c0_i32_846
  let v1326 : BitVec 1 := Scalar.xori v1324 v1325
  let c0_i32_844 : BitVec 32 := 0#32
  let v1323 : BitVec 1 := Scalar.cmpi .ne v1322 c0_i32_844
  let v1327 : BitVec 1 := Scalar.andi v1326 v1323
  let v1328 : BitVec 32 := Scalar.addi v1322 v1321
  let v1329 : BitVec 32 := Scalar.select v1327 v1328 v1322
  let c1_i32_3566 : BitVec 32 := 1#32
  let v5774 : BitVec 32 := Scalar.muli v1329 c1_i32_3566
  let v5775 : BitVec 32 := Scalar.addi c0_i32_3567 v5774
  v5775.toNat
def k0_cond51 (d0 : Dev nD) : BitVec 1 :=
  let c2_i32_857 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_840 : BitVec 32 := 17#32
  let v1319 : BitVec 32 := Scalar.addi v2 c17_i32_840
  let c32_i32_841 : BitVec 32 := 32#32
  let c0_i32_842 : BitVec 32 := 0#32
  let v1320 : BitVec 1 := Scalar.cmpi .eq c32_i32_841 c0_i32_842
  let c1_i32_843 : BitVec 32 := 1#32
  let v1321 : BitVec 32 := Scalar.select v1320 c1_i32_843 c32_i32_841
  let v1322 : BitVec 32 := Scalar.remsi v1319 v1321
  let c0_i32_845 : BitVec 32 := 0#32
  let v1324 : BitVec 1 := Scalar.cmpi .slt v1322 c0_i32_845
  let c0_i32_846 : BitVec 32 := 0#32
  let v1325 : BitVec 1 := Scalar.cmpi .slt v1321 c0_i32_846
  let v1326 : BitVec 1 := Scalar.xori v1324 v1325
  let c0_i32_844 : BitVec 32 := 0#32
  let v1323 : BitVec 1 := Scalar.cmpi .ne v1322 c0_i32_844
  let v1327 : BitVec 1 := Scalar.andi v1326 v1323
  let v1328 : BitVec 32 := Scalar.addi v1322 v1321
  let v1329 : BitVec 32 := Scalar.select v1327 v1328 v1322
  let v1346 : BitVec 32 := Scalar.muli c2_i32_857 v1329
  let c2_i32_858 : BitVec 32 := 2#32
  let v1347 : BitVec 32 := Scalar.muli c2_i32_858 v2
  let v1348 : BitVec 32 := Scalar.addi v1346 v1347
  let c1_i32_859 : BitVec 32 := 1#32
  let v1349 : BitVec 32 := Scalar.addi v1348 c1_i32_859
  let c3_i32_860 : BitVec 32 := 3#32
  let c0_i32_861 : BitVec 32 := 0#32
  let v1350 : BitVec 1 := Scalar.cmpi .eq c3_i32_860 c0_i32_861
  let c1_i32_862 : BitVec 32 := 1#32
  let v1351 : BitVec 32 := Scalar.select v1350 c1_i32_862 c3_i32_860
  let v1352 : BitVec 32 := Scalar.remsi v1349 v1351
  let c0_i32_864 : BitVec 32 := 0#32
  let v1354 : BitVec 1 := Scalar.cmpi .slt v1352 c0_i32_864
  let c0_i32_865 : BitVec 32 := 0#32
  let v1355 : BitVec 1 := Scalar.cmpi .slt v1351 c0_i32_865
  let v1356 : BitVec 1 := Scalar.xori v1354 v1355
  let c0_i32_863 : BitVec 32 := 0#32
  let v1353 : BitVec 1 := Scalar.cmpi .ne v1352 c0_i32_863
  let v1357 : BitVec 1 := Scalar.andi v1356 v1353
  let v1358 : BitVec 32 := Scalar.addi v1352 v1351
  let v1359 : BitVec 32 := Scalar.select v1357 v1358 v1352
  let c1_i32_866 : BitVec 32 := 1#32
  let v1360 : BitVec 1 := Scalar.cmpi .ne v1359 c1_i32_866
  let c0_i32_847 : BitVec 32 := 0#32
  let v1330 : BitVec 1 := Scalar.cmpi .eq v2 c0_i32_847
  let c2_i32_848 : BitVec 32 := 2#32
  let v1331 : BitVec 32 := Scalar.muli c2_i32_848 v1329
  let c2_i32_849 : BitVec 32 := 2#32
  let v1332 : BitVec 32 := Scalar.muli c2_i32_849 v2
  let v1333 : BitVec 32 := Scalar.addi v1331 v1332
  let c3_i32_850 : BitVec 32 := 3#32
  let c0_i32_851 : BitVec 32 := 0#32
  let v1334 : BitVec 1 := Scalar.cmpi .eq c3_i32_850 c0_i32_851
  let c1_i32_852 : BitVec 32 := 1#32
  let v1335 : BitVec 32 := Scalar.select v1334 c1_i32_852 c3_i32_850
  let v1336 : BitVec 32 := Scalar.remsi v1333 v1335
  let c0_i32_854 : BitVec 32 := 0#32
  let v1338 : BitVec 1 := Scalar.cmpi .slt v1336 c0_i32_854
  let c0_i32_855 : BitVec 32 := 0#32
  let v1339 : BitVec 1 := Scalar.cmpi .slt v1335 c0_i32_855
  let v1340 : BitVec 1 := Scalar.xori v1338 v1339
  let c0_i32_853 : BitVec 32 := 0#32
  let v1337 : BitVec 1 := Scalar.cmpi .ne v1336 c0_i32_853
  let v1341 : BitVec 1 := Scalar.andi v1340 v1337
  let v1342 : BitVec 32 := Scalar.addi v1336 v1335
  let v1343 : BitVec 32 := Scalar.select v1341 v1342 v1336
  let c1_i32_856 : BitVec 32 := 1#32
  let v1344 : BitVec 1 := Scalar.cmpi .ne v1343 c1_i32_856
  let v1345 : BitVec 1 := Scalar.ori v1330 v1344
  let true_870 : BitVec 1 := 1#1
  let v1368 : BitVec 1 := Scalar.xori v1345 true_870
  let v1369 : BitVec 1 := Scalar.andi v1360 v1368
  let v1370 : BitVec 32 := Scalar.extui v1369
  let c0_i32_871 : BitVec 32 := 0#32
  let v1371 : BitVec 1 := Scalar.cmpi .ne v1370 c0_i32_871
  v1371

def k0_dev82 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_840 : BitVec 32 := 17#32
  let v1319 : BitVec 32 := Scalar.addi v2 c17_i32_840
  let c32_i32_841 : BitVec 32 := 32#32
  let c0_i32_842 : BitVec 32 := 0#32
  let v1320 : BitVec 1 := Scalar.cmpi .eq c32_i32_841 c0_i32_842
  let c1_i32_843 : BitVec 32 := 1#32
  let v1321 : BitVec 32 := Scalar.select v1320 c1_i32_843 c32_i32_841
  let v1322 : BitVec 32 := Scalar.remsi v1319 v1321
  let c0_i32_845 : BitVec 32 := 0#32
  let v1324 : BitVec 1 := Scalar.cmpi .slt v1322 c0_i32_845
  let c0_i32_846 : BitVec 32 := 0#32
  let v1325 : BitVec 1 := Scalar.cmpi .slt v1321 c0_i32_846
  let v1326 : BitVec 1 := Scalar.xori v1324 v1325
  let c0_i32_844 : BitVec 32 := 0#32
  let v1323 : BitVec 1 := Scalar.cmpi .ne v1322 c0_i32_844
  let v1327 : BitVec 1 := Scalar.andi v1326 v1323
  let v1328 : BitVec 32 := Scalar.addi v1322 v1321
  let v1329 : BitVec 32 := Scalar.select v1327 v1328 v1322
  let c1_i32_3566 : BitVec 32 := 1#32
  let v5774 : BitVec 32 := Scalar.muli v1329 c1_i32_3566
  let v5775 : BitVec 32 := Scalar.addi c0_i32_3567 v5774
  v5775.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_879 : BitVec 32 := 0#32
  let v1383 : BitVec 1 := Scalar.cmpi .eq v2 c0_i32_879
  let c2_i32_880 : BitVec 32 := 2#32
  let c18_i32_872 : BitVec 32 := 18#32
  let v1372 : BitVec 32 := Scalar.addi v2 c18_i32_872
  let c32_i32_873 : BitVec 32 := 32#32
  let c0_i32_874 : BitVec 32 := 0#32
  let v1373 : BitVec 1 := Scalar.cmpi .eq c32_i32_873 c0_i32_874
  let c1_i32_875 : BitVec 32 := 1#32
  let v1374 : BitVec 32 := Scalar.select v1373 c1_i32_875 c32_i32_873
  let v1375 : BitVec 32 := Scalar.remsi v1372 v1374
  let c0_i32_877 : BitVec 32 := 0#32
  let v1377 : BitVec 1 := Scalar.cmpi .slt v1375 c0_i32_877
  let c0_i32_878 : BitVec 32 := 0#32
  let v1378 : BitVec 1 := Scalar.cmpi .slt v1374 c0_i32_878
  let v1379 : BitVec 1 := Scalar.xori v1377 v1378
  let c0_i32_876 : BitVec 32 := 0#32
  let v1376 : BitVec 1 := Scalar.cmpi .ne v1375 c0_i32_876
  let v1380 : BitVec 1 := Scalar.andi v1379 v1376
  let v1381 : BitVec 32 := Scalar.addi v1375 v1374
  let v1382 : BitVec 32 := Scalar.select v1380 v1381 v1375
  let v1384 : BitVec 32 := Scalar.muli c2_i32_880 v1382
  let c2_i32_881 : BitVec 32 := 2#32
  let v1385 : BitVec 32 := Scalar.muli c2_i32_881 v2
  let v1386 : BitVec 32 := Scalar.addi v1384 v1385
  let c3_i32_882 : BitVec 32 := 3#32
  let c0_i32_883 : BitVec 32 := 0#32
  let v1387 : BitVec 1 := Scalar.cmpi .eq c3_i32_882 c0_i32_883
  let c1_i32_884 : BitVec 32 := 1#32
  let v1388 : BitVec 32 := Scalar.select v1387 c1_i32_884 c3_i32_882
  let v1389 : BitVec 32 := Scalar.remsi v1386 v1388
  let c0_i32_886 : BitVec 32 := 0#32
  let v1391 : BitVec 1 := Scalar.cmpi .slt v1389 c0_i32_886
  let c0_i32_887 : BitVec 32 := 0#32
  let v1392 : BitVec 1 := Scalar.cmpi .slt v1388 c0_i32_887
  let v1393 : BitVec 1 := Scalar.xori v1391 v1392
  let c0_i32_885 : BitVec 32 := 0#32
  let v1390 : BitVec 1 := Scalar.cmpi .ne v1389 c0_i32_885
  let v1394 : BitVec 1 := Scalar.andi v1393 v1390
  let v1395 : BitVec 32 := Scalar.addi v1389 v1388
  let v1396 : BitVec 32 := Scalar.select v1394 v1395 v1389
  let c1_i32_888 : BitVec 32 := 1#32
  let v1397 : BitVec 1 := Scalar.cmpi .ne v1396 c1_i32_888
  let v1398 : BitVec 1 := Scalar.ori v1383 v1397
  let c2_i32_889 : BitVec 32 := 2#32
  let v1399 : BitVec 32 := Scalar.muli c2_i32_889 v1382
  let c2_i32_890 : BitVec 32 := 2#32
  let v1400 : BitVec 32 := Scalar.muli c2_i32_890 v2
  let v1401 : BitVec 32 := Scalar.addi v1399 v1400
  let c1_i32_891 : BitVec 32 := 1#32
  let v1402 : BitVec 32 := Scalar.addi v1401 c1_i32_891
  let c3_i32_892 : BitVec 32 := 3#32
  let c0_i32_893 : BitVec 32 := 0#32
  let v1403 : BitVec 1 := Scalar.cmpi .eq c3_i32_892 c0_i32_893
  let c1_i32_894 : BitVec 32 := 1#32
  let v1404 : BitVec 32 := Scalar.select v1403 c1_i32_894 c3_i32_892
  let v1405 : BitVec 32 := Scalar.remsi v1402 v1404
  let c0_i32_896 : BitVec 32 := 0#32
  let v1407 : BitVec 1 := Scalar.cmpi .slt v1405 c0_i32_896
  let c0_i32_897 : BitVec 32 := 0#32
  let v1408 : BitVec 1 := Scalar.cmpi .slt v1404 c0_i32_897
  let v1409 : BitVec 1 := Scalar.xori v1407 v1408
  let c0_i32_895 : BitVec 32 := 0#32
  let v1406 : BitVec 1 := Scalar.cmpi .ne v1405 c0_i32_895
  let v1410 : BitVec 1 := Scalar.andi v1409 v1406
  let v1411 : BitVec 32 := Scalar.addi v1405 v1404
  let v1412 : BitVec 32 := Scalar.select v1410 v1411 v1405
  let c1_i32_898 : BitVec 32 := 1#32
  let v1413 : BitVec 1 := Scalar.cmpi .ne v1412 c1_i32_898
  let v1414 : BitVec 1 := Scalar.andi v1398 v1413
  let v1415 : BitVec 32 := Scalar.extui v1414
  let c0_i32_899 : BitVec 32 := 0#32
  let v1416 : BitVec 1 := Scalar.cmpi .ne v1415 c0_i32_899
  v1416

def k0_dev83 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_872 : BitVec 32 := 18#32
  let v1372 : BitVec 32 := Scalar.addi v2 c18_i32_872
  let c32_i32_873 : BitVec 32 := 32#32
  let c0_i32_874 : BitVec 32 := 0#32
  let v1373 : BitVec 1 := Scalar.cmpi .eq c32_i32_873 c0_i32_874
  let c1_i32_875 : BitVec 32 := 1#32
  let v1374 : BitVec 32 := Scalar.select v1373 c1_i32_875 c32_i32_873
  let v1375 : BitVec 32 := Scalar.remsi v1372 v1374
  let c0_i32_877 : BitVec 32 := 0#32
  let v1377 : BitVec 1 := Scalar.cmpi .slt v1375 c0_i32_877
  let c0_i32_878 : BitVec 32 := 0#32
  let v1378 : BitVec 1 := Scalar.cmpi .slt v1374 c0_i32_878
  let v1379 : BitVec 1 := Scalar.xori v1377 v1378
  let c0_i32_876 : BitVec 32 := 0#32
  let v1376 : BitVec 1 := Scalar.cmpi .ne v1375 c0_i32_876
  let v1380 : BitVec 1 := Scalar.andi v1379 v1376
  let v1381 : BitVec 32 := Scalar.addi v1375 v1374
  let v1382 : BitVec 32 := Scalar.select v1380 v1381 v1375
  let c1_i32_3564 : BitVec 32 := 1#32
  let v5774 : BitVec 32 := Scalar.muli v1382 c1_i32_3564
  let v5775 : BitVec 32 := Scalar.addi c0_i32_3565 v5774
  v5775.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_879 : BitVec 32 := 0#32
  let v1383 : BitVec 1 := Scalar.cmpi .eq v2 c0_i32_879
  let c2_i32_880 : BitVec 32 := 2#32
  let c18_i32_872 : BitVec 32 := 18#32
  let v1372 : BitVec 32 := Scalar.addi v2 c18_i32_872
  let c32_i32_873 : BitVec 32 := 32#32
  let c0_i32_874 : BitVec 32 := 0#32
  let v1373 : BitVec 1 := Scalar.cmpi .eq c32_i32_873 c0_i32_874
  let c1_i32_875 : BitVec 32 := 1#32
  let v1374 : BitVec 32 := Scalar.select v1373 c1_i32_875 c32_i32_873
  let v1375 : BitVec 32 := Scalar.remsi v1372 v1374
  let c0_i32_877 : BitVec 32 := 0#32
  let v1377 : BitVec 1 := Scalar.cmpi .slt v1375 c0_i32_877
  let c0_i32_878 : BitVec 32 := 0#32
  let v1378 : BitVec 1 := Scalar.cmpi .slt v1374 c0_i32_878
  let v1379 : BitVec 1 := Scalar.xori v1377 v1378
  let c0_i32_876 : BitVec 32 := 0#32
  let v1376 : BitVec 1 := Scalar.cmpi .ne v1375 c0_i32_876
  let v1380 : BitVec 1 := Scalar.andi v1379 v1376
  let v1381 : BitVec 32 := Scalar.addi v1375 v1374
  let v1382 : BitVec 32 := Scalar.select v1380 v1381 v1375
  let v1384 : BitVec 32 := Scalar.muli c2_i32_880 v1382
  let c2_i32_881 : BitVec 32 := 2#32
  let v1385 : BitVec 32 := Scalar.muli c2_i32_881 v2
  let v1386 : BitVec 32 := Scalar.addi v1384 v1385
  let c3_i32_882 : BitVec 32 := 3#32
  let c0_i32_883 : BitVec 32 := 0#32
  let v1387 : BitVec 1 := Scalar.cmpi .eq c3_i32_882 c0_i32_883
  let c1_i32_884 : BitVec 32 := 1#32
  let v1388 : BitVec 32 := Scalar.select v1387 c1_i32_884 c3_i32_882
  let v1389 : BitVec 32 := Scalar.remsi v1386 v1388
  let c0_i32_886 : BitVec 32 := 0#32
  let v1391 : BitVec 1 := Scalar.cmpi .slt v1389 c0_i32_886
  let c0_i32_887 : BitVec 32 := 0#32
  let v1392 : BitVec 1 := Scalar.cmpi .slt v1388 c0_i32_887
  let v1393 : BitVec 1 := Scalar.xori v1391 v1392
  let c0_i32_885 : BitVec 32 := 0#32
  let v1390 : BitVec 1 := Scalar.cmpi .ne v1389 c0_i32_885
  let v1394 : BitVec 1 := Scalar.andi v1393 v1390
  let v1395 : BitVec 32 := Scalar.addi v1389 v1388
  let v1396 : BitVec 32 := Scalar.select v1394 v1395 v1389
  let c1_i32_888 : BitVec 32 := 1#32
  let v1397 : BitVec 1 := Scalar.cmpi .ne v1396 c1_i32_888
  let v1398 : BitVec 1 := Scalar.ori v1383 v1397
  let c2_i32_889 : BitVec 32 := 2#32
  let v1399 : BitVec 32 := Scalar.muli c2_i32_889 v1382
  let c2_i32_890 : BitVec 32 := 2#32
  let v1400 : BitVec 32 := Scalar.muli c2_i32_890 v2
  let v1401 : BitVec 32 := Scalar.addi v1399 v1400
  let c1_i32_891 : BitVec 32 := 1#32
  let v1402 : BitVec 32 := Scalar.addi v1401 c1_i32_891
  let c3_i32_892 : BitVec 32 := 3#32
  let c0_i32_893 : BitVec 32 := 0#32
  let v1403 : BitVec 1 := Scalar.cmpi .eq c3_i32_892 c0_i32_893
  let c1_i32_894 : BitVec 32 := 1#32
  let v1404 : BitVec 32 := Scalar.select v1403 c1_i32_894 c3_i32_892
  let v1405 : BitVec 32 := Scalar.remsi v1402 v1404
  let c0_i32_896 : BitVec 32 := 0#32
  let v1407 : BitVec 1 := Scalar.cmpi .slt v1405 c0_i32_896
  let c0_i32_897 : BitVec 32 := 0#32
  let v1408 : BitVec 1 := Scalar.cmpi .slt v1404 c0_i32_897
  let v1409 : BitVec 1 := Scalar.xori v1407 v1408
  let c0_i32_895 : BitVec 32 := 0#32
  let v1406 : BitVec 1 := Scalar.cmpi .ne v1405 c0_i32_895
  let v1410 : BitVec 1 := Scalar.andi v1409 v1406
  let v1411 : BitVec 32 := Scalar.addi v1405 v1404
  let v1412 : BitVec 32 := Scalar.select v1410 v1411 v1405
  let c1_i32_898 : BitVec 32 := 1#32
  let v1413 : BitVec 1 := Scalar.cmpi .ne v1412 c1_i32_898
  let true_900 : BitVec 1 := 1#1
  let v1417 : BitVec 1 := Scalar.xori v1413 true_900
  let v1418 : BitVec 1 := Scalar.andi v1398 v1417
  let v1419 : BitVec 32 := Scalar.extui v1418
  let c0_i32_901 : BitVec 32 := 0#32
  let v1420 : BitVec 1 := Scalar.cmpi .ne v1419 c0_i32_901
  v1420

def k0_dev84 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_872 : BitVec 32 := 18#32
  let v1372 : BitVec 32 := Scalar.addi v2 c18_i32_872
  let c32_i32_873 : BitVec 32 := 32#32
  let c0_i32_874 : BitVec 32 := 0#32
  let v1373 : BitVec 1 := Scalar.cmpi .eq c32_i32_873 c0_i32_874
  let c1_i32_875 : BitVec 32 := 1#32
  let v1374 : BitVec 32 := Scalar.select v1373 c1_i32_875 c32_i32_873
  let v1375 : BitVec 32 := Scalar.remsi v1372 v1374
  let c0_i32_877 : BitVec 32 := 0#32
  let v1377 : BitVec 1 := Scalar.cmpi .slt v1375 c0_i32_877
  let c0_i32_878 : BitVec 32 := 0#32
  let v1378 : BitVec 1 := Scalar.cmpi .slt v1374 c0_i32_878
  let v1379 : BitVec 1 := Scalar.xori v1377 v1378
  let c0_i32_876 : BitVec 32 := 0#32
  let v1376 : BitVec 1 := Scalar.cmpi .ne v1375 c0_i32_876
  let v1380 : BitVec 1 := Scalar.andi v1379 v1376
  let v1381 : BitVec 32 := Scalar.addi v1375 v1374
  let v1382 : BitVec 32 := Scalar.select v1380 v1381 v1375
  let c1_i32_3566 : BitVec 32 := 1#32
  let v5774 : BitVec 32 := Scalar.muli v1382 c1_i32_3566
  let v5775 : BitVec 32 := Scalar.addi c0_i32_3567 v5774
  v5775.toNat
def k0_cond54 (d0 : Dev nD) : BitVec 1 :=
  let c2_i32_889 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_872 : BitVec 32 := 18#32
  let v1372 : BitVec 32 := Scalar.addi v2 c18_i32_872
  let c32_i32_873 : BitVec 32 := 32#32
  let c0_i32_874 : BitVec 32 := 0#32
  let v1373 : BitVec 1 := Scalar.cmpi .eq c32_i32_873 c0_i32_874
  let c1_i32_875 : BitVec 32 := 1#32
  let v1374 : BitVec 32 := Scalar.select v1373 c1_i32_875 c32_i32_873
  let v1375 : BitVec 32 := Scalar.remsi v1372 v1374
  let c0_i32_877 : BitVec 32 := 0#32
  let v1377 : BitVec 1 := Scalar.cmpi .slt v1375 c0_i32_877
  let c0_i32_878 : BitVec 32 := 0#32
  let v1378 : BitVec 1 := Scalar.cmpi .slt v1374 c0_i32_878
  let v1379 : BitVec 1 := Scalar.xori v1377 v1378
  let c0_i32_876 : BitVec 32 := 0#32
  let v1376 : BitVec 1 := Scalar.cmpi .ne v1375 c0_i32_876
  let v1380 : BitVec 1 := Scalar.andi v1379 v1376
  let v1381 : BitVec 32 := Scalar.addi v1375 v1374
  let v1382 : BitVec 32 := Scalar.select v1380 v1381 v1375
  let v1399 : BitVec 32 := Scalar.muli c2_i32_889 v1382
  let c2_i32_890 : BitVec 32 := 2#32
  let v1400 : BitVec 32 := Scalar.muli c2_i32_890 v2
  let v1401 : BitVec 32 := Scalar.addi v1399 v1400
  let c1_i32_891 : BitVec 32 := 1#32
  let v1402 : BitVec 32 := Scalar.addi v1401 c1_i32_891
  let c3_i32_892 : BitVec 32 := 3#32
  let c0_i32_893 : BitVec 32 := 0#32
  let v1403 : BitVec 1 := Scalar.cmpi .eq c3_i32_892 c0_i32_893
  let c1_i32_894 : BitVec 32 := 1#32
  let v1404 : BitVec 32 := Scalar.select v1403 c1_i32_894 c3_i32_892
  let v1405 : BitVec 32 := Scalar.remsi v1402 v1404
  let c0_i32_896 : BitVec 32 := 0#32
  let v1407 : BitVec 1 := Scalar.cmpi .slt v1405 c0_i32_896
  let c0_i32_897 : BitVec 32 := 0#32
  let v1408 : BitVec 1 := Scalar.cmpi .slt v1404 c0_i32_897
  let v1409 : BitVec 1 := Scalar.xori v1407 v1408
  let c0_i32_895 : BitVec 32 := 0#32
  let v1406 : BitVec 1 := Scalar.cmpi .ne v1405 c0_i32_895
  let v1410 : BitVec 1 := Scalar.andi v1409 v1406
  let v1411 : BitVec 32 := Scalar.addi v1405 v1404
  let v1412 : BitVec 32 := Scalar.select v1410 v1411 v1405
  let c1_i32_898 : BitVec 32 := 1#32
  let v1413 : BitVec 1 := Scalar.cmpi .ne v1412 c1_i32_898
  let c0_i32_879 : BitVec 32 := 0#32
  let v1383 : BitVec 1 := Scalar.cmpi .eq v2 c0_i32_879
  let c2_i32_880 : BitVec 32 := 2#32
  let v1384 : BitVec 32 := Scalar.muli c2_i32_880 v1382
  let c2_i32_881 : BitVec 32 := 2#32
  let v1385 : BitVec 32 := Scalar.muli c2_i32_881 v2
  let v1386 : BitVec 32 := Scalar.addi v1384 v1385
  let c3_i32_882 : BitVec 32 := 3#32
  let c0_i32_883 : BitVec 32 := 0#32
  let v1387 : BitVec 1 := Scalar.cmpi .eq c3_i32_882 c0_i32_883
  let c1_i32_884 : BitVec 32 := 1#32
  let v1388 : BitVec 32 := Scalar.select v1387 c1_i32_884 c3_i32_882
  let v1389 : BitVec 32 := Scalar.remsi v1386 v1388
  let c0_i32_886 : BitVec 32 := 0#32
  let v1391 : BitVec 1 := Scalar.cmpi .slt v1389 c0_i32_886
  let c0_i32_887 : BitVec 32 := 0#32
  let v1392 : BitVec 1 := Scalar.cmpi .slt v1388 c0_i32_887
  let v1393 : BitVec 1 := Scalar.xori v1391 v1392
  let c0_i32_885 : BitVec 32 := 0#32
  let v1390 : BitVec 1 := Scalar.cmpi .ne v1389 c0_i32_885
  let v1394 : BitVec 1 := Scalar.andi v1393 v1390
  let v1395 : BitVec 32 := Scalar.addi v1389 v1388
  let v1396 : BitVec 32 := Scalar.select v1394 v1395 v1389
  let c1_i32_888 : BitVec 32 := 1#32
  let v1397 : BitVec 1 := Scalar.cmpi .ne v1396 c1_i32_888
  let v1398 : BitVec 1 := Scalar.ori v1383 v1397
  let true_902 : BitVec 1 := 1#1
  let v1421 : BitVec 1 := Scalar.xori v1398 true_902
  let v1422 : BitVec 1 := Scalar.andi v1413 v1421
  let v1423 : BitVec 32 := Scalar.extui v1422
  let c0_i32_903 : BitVec 32 := 0#32
  let v1424 : BitVec 1 := Scalar.cmpi .ne v1423 c0_i32_903
  v1424

def k0_dev85 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_872 : BitVec 32 := 18#32
  let v1372 : BitVec 32 := Scalar.addi v2 c18_i32_872
  let c32_i32_873 : BitVec 32 := 32#32
  let c0_i32_874 : BitVec 32 := 0#32
  let v1373 : BitVec 1 := Scalar.cmpi .eq c32_i32_873 c0_i32_874
  let c1_i32_875 : BitVec 32 := 1#32
  let v1374 : BitVec 32 := Scalar.select v1373 c1_i32_875 c32_i32_873
  let v1375 : BitVec 32 := Scalar.remsi v1372 v1374
  let c0_i32_877 : BitVec 32 := 0#32
  let v1377 : BitVec 1 := Scalar.cmpi .slt v1375 c0_i32_877
  let c0_i32_878 : BitVec 32 := 0#32
  let v1378 : BitVec 1 := Scalar.cmpi .slt v1374 c0_i32_878
  let v1379 : BitVec 1 := Scalar.xori v1377 v1378
  let c0_i32_876 : BitVec 32 := 0#32
  let v1376 : BitVec 1 := Scalar.cmpi .ne v1375 c0_i32_876
  let v1380 : BitVec 1 := Scalar.andi v1379 v1376
  let v1381 : BitVec 32 := Scalar.addi v1375 v1374
  let v1382 : BitVec 32 := Scalar.select v1380 v1381 v1375
  let c1_i32_3566 : BitVec 32 := 1#32
  let v5774 : BitVec 32 := Scalar.muli v1382 c1_i32_3566
  let v5775 : BitVec 32 := Scalar.addi c0_i32_3567 v5774
  v5775.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_911 : BitVec 32 := 0#32
  let v1436 : BitVec 1 := Scalar.cmpi .eq v2 c0_i32_911
  let c2_i32_912 : BitVec 32 := 2#32
  let c19_i32_904 : BitVec 32 := 19#32
  let v1425 : BitVec 32 := Scalar.addi v2 c19_i32_904
  let c32_i32_905 : BitVec 32 := 32#32
  let c0_i32_906 : BitVec 32 := 0#32
  let v1426 : BitVec 1 := Scalar.cmpi .eq c32_i32_905 c0_i32_906
  let c1_i32_907 : BitVec 32 := 1#32
  let v1427 : BitVec 32 := Scalar.select v1426 c1_i32_907 c32_i32_905
  let v1428 : BitVec 32 := Scalar.remsi v1425 v1427
  let c0_i32_909 : BitVec 32 := 0#32
  let v1430 : BitVec 1 := Scalar.cmpi .slt v1428 c0_i32_909
  let c0_i32_910 : BitVec 32 := 0#32
  let v1431 : BitVec 1 := Scalar.cmpi .slt v1427 c0_i32_910
  let v1432 : BitVec 1 := Scalar.xori v1430 v1431
  let c0_i32_908 : BitVec 32 := 0#32
  let v1429 : BitVec 1 := Scalar.cmpi .ne v1428 c0_i32_908
  let v1433 : BitVec 1 := Scalar.andi v1432 v1429
  let v1434 : BitVec 32 := Scalar.addi v1428 v1427
  let v1435 : BitVec 32 := Scalar.select v1433 v1434 v1428
  let v1437 : BitVec 32 := Scalar.muli c2_i32_912 v1435
  let c2_i32_913 : BitVec 32 := 2#32
  let v1438 : BitVec 32 := Scalar.muli c2_i32_913 v2
  let v1439 : BitVec 32 := Scalar.addi v1437 v1438
  let c3_i32_914 : BitVec 32 := 3#32
  let c0_i32_915 : BitVec 32 := 0#32
  let v1440 : BitVec 1 := Scalar.cmpi .eq c3_i32_914 c0_i32_915
  let c1_i32_916 : BitVec 32 := 1#32
  let v1441 : BitVec 32 := Scalar.select v1440 c1_i32_916 c3_i32_914
  let v1442 : BitVec 32 := Scalar.remsi v1439 v1441
  let c0_i32_918 : BitVec 32 := 0#32
  let v1444 : BitVec 1 := Scalar.cmpi .slt v1442 c0_i32_918
  let c0_i32_919 : BitVec 32 := 0#32
  let v1445 : BitVec 1 := Scalar.cmpi .slt v1441 c0_i32_919
  let v1446 : BitVec 1 := Scalar.xori v1444 v1445
  let c0_i32_917 : BitVec 32 := 0#32
  let v1443 : BitVec 1 := Scalar.cmpi .ne v1442 c0_i32_917
  let v1447 : BitVec 1 := Scalar.andi v1446 v1443
  let v1448 : BitVec 32 := Scalar.addi v1442 v1441
  let v1449 : BitVec 32 := Scalar.select v1447 v1448 v1442
  let c1_i32_920 : BitVec 32 := 1#32
  let v1450 : BitVec 1 := Scalar.cmpi .ne v1449 c1_i32_920
  let v1451 : BitVec 1 := Scalar.ori v1436 v1450
  let c2_i32_921 : BitVec 32 := 2#32
  let v1452 : BitVec 32 := Scalar.muli c2_i32_921 v1435
  let c2_i32_922 : BitVec 32 := 2#32
  let v1453 : BitVec 32 := Scalar.muli c2_i32_922 v2
  let v1454 : BitVec 32 := Scalar.addi v1452 v1453
  let c1_i32_923 : BitVec 32 := 1#32
  let v1455 : BitVec 32 := Scalar.addi v1454 c1_i32_923
  let c3_i32_924 : BitVec 32 := 3#32
  let c0_i32_925 : BitVec 32 := 0#32
  let v1456 : BitVec 1 := Scalar.cmpi .eq c3_i32_924 c0_i32_925
  let c1_i32_926 : BitVec 32 := 1#32
  let v1457 : BitVec 32 := Scalar.select v1456 c1_i32_926 c3_i32_924
  let v1458 : BitVec 32 := Scalar.remsi v1455 v1457
  let c0_i32_928 : BitVec 32 := 0#32
  let v1460 : BitVec 1 := Scalar.cmpi .slt v1458 c0_i32_928
  let c0_i32_929 : BitVec 32 := 0#32
  let v1461 : BitVec 1 := Scalar.cmpi .slt v1457 c0_i32_929
  let v1462 : BitVec 1 := Scalar.xori v1460 v1461
  let c0_i32_927 : BitVec 32 := 0#32
  let v1459 : BitVec 1 := Scalar.cmpi .ne v1458 c0_i32_927
  let v1463 : BitVec 1 := Scalar.andi v1462 v1459
  let v1464 : BitVec 32 := Scalar.addi v1458 v1457
  let v1465 : BitVec 32 := Scalar.select v1463 v1464 v1458
  let c1_i32_930 : BitVec 32 := 1#32
  let v1466 : BitVec 1 := Scalar.cmpi .ne v1465 c1_i32_930
  let v1467 : BitVec 1 := Scalar.andi v1451 v1466
  let v1468 : BitVec 32 := Scalar.extui v1467
  let c0_i32_931 : BitVec 32 := 0#32
  let v1469 : BitVec 1 := Scalar.cmpi .ne v1468 c0_i32_931
  v1469

def k0_dev86 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_904 : BitVec 32 := 19#32
  let v1425 : BitVec 32 := Scalar.addi v2 c19_i32_904
  let c32_i32_905 : BitVec 32 := 32#32
  let c0_i32_906 : BitVec 32 := 0#32
  let v1426 : BitVec 1 := Scalar.cmpi .eq c32_i32_905 c0_i32_906
  let c1_i32_907 : BitVec 32 := 1#32
  let v1427 : BitVec 32 := Scalar.select v1426 c1_i32_907 c32_i32_905
  let v1428 : BitVec 32 := Scalar.remsi v1425 v1427
  let c0_i32_909 : BitVec 32 := 0#32
  let v1430 : BitVec 1 := Scalar.cmpi .slt v1428 c0_i32_909
  let c0_i32_910 : BitVec 32 := 0#32
  let v1431 : BitVec 1 := Scalar.cmpi .slt v1427 c0_i32_910
  let v1432 : BitVec 1 := Scalar.xori v1430 v1431
  let c0_i32_908 : BitVec 32 := 0#32
  let v1429 : BitVec 1 := Scalar.cmpi .ne v1428 c0_i32_908
  let v1433 : BitVec 1 := Scalar.andi v1432 v1429
  let v1434 : BitVec 32 := Scalar.addi v1428 v1427
  let v1435 : BitVec 32 := Scalar.select v1433 v1434 v1428
  let c1_i32_3564 : BitVec 32 := 1#32
  let v5774 : BitVec 32 := Scalar.muli v1435 c1_i32_3564
  let v5775 : BitVec 32 := Scalar.addi c0_i32_3565 v5774
  v5775.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_911 : BitVec 32 := 0#32
  let v1436 : BitVec 1 := Scalar.cmpi .eq v2 c0_i32_911
  let c2_i32_912 : BitVec 32 := 2#32
  let c19_i32_904 : BitVec 32 := 19#32
  let v1425 : BitVec 32 := Scalar.addi v2 c19_i32_904
  let c32_i32_905 : BitVec 32 := 32#32
  let c0_i32_906 : BitVec 32 := 0#32
  let v1426 : BitVec 1 := Scalar.cmpi .eq c32_i32_905 c0_i32_906
  let c1_i32_907 : BitVec 32 := 1#32
  let v1427 : BitVec 32 := Scalar.select v1426 c1_i32_907 c32_i32_905
  let v1428 : BitVec 32 := Scalar.remsi v1425 v1427
  let c0_i32_909 : BitVec 32 := 0#32
  let v1430 : BitVec 1 := Scalar.cmpi .slt v1428 c0_i32_909
  let c0_i32_910 : BitVec 32 := 0#32
  let v1431 : BitVec 1 := Scalar.cmpi .slt v1427 c0_i32_910
  let v1432 : BitVec 1 := Scalar.xori v1430 v1431
  let c0_i32_908 : BitVec 32 := 0#32
  let v1429 : BitVec 1 := Scalar.cmpi .ne v1428 c0_i32_908
  let v1433 : BitVec 1 := Scalar.andi v1432 v1429
  let v1434 : BitVec 32 := Scalar.addi v1428 v1427
  let v1435 : BitVec 32 := Scalar.select v1433 v1434 v1428
  let v1437 : BitVec 32 := Scalar.muli c2_i32_912 v1435
  let c2_i32_913 : BitVec 32 := 2#32
  let v1438 : BitVec 32 := Scalar.muli c2_i32_913 v2
  let v1439 : BitVec 32 := Scalar.addi v1437 v1438
  let c3_i32_914 : BitVec 32 := 3#32
  let c0_i32_915 : BitVec 32 := 0#32
  let v1440 : BitVec 1 := Scalar.cmpi .eq c3_i32_914 c0_i32_915
  let c1_i32_916 : BitVec 32 := 1#32
  let v1441 : BitVec 32 := Scalar.select v1440 c1_i32_916 c3_i32_914
  let v1442 : BitVec 32 := Scalar.remsi v1439 v1441
  let c0_i32_918 : BitVec 32 := 0#32
  let v1444 : BitVec 1 := Scalar.cmpi .slt v1442 c0_i32_918
  let c0_i32_919 : BitVec 32 := 0#32
  let v1445 : BitVec 1 := Scalar.cmpi .slt v1441 c0_i32_919
  let v1446 : BitVec 1 := Scalar.xori v1444 v1445
  let c0_i32_917 : BitVec 32 := 0#32
  let v1443 : BitVec 1 := Scalar.cmpi .ne v1442 c0_i32_917
  let v1447 : BitVec 1 := Scalar.andi v1446 v1443
  let v1448 : BitVec 32 := Scalar.addi v1442 v1441
  let v1449 : BitVec 32 := Scalar.select v1447 v1448 v1442
  let c1_i32_920 : BitVec 32 := 1#32
  let v1450 : BitVec 1 := Scalar.cmpi .ne v1449 c1_i32_920
  let v1451 : BitVec 1 := Scalar.ori v1436 v1450
  let c2_i32_921 : BitVec 32 := 2#32
  let v1452 : BitVec 32 := Scalar.muli c2_i32_921 v1435
  let c2_i32_922 : BitVec 32 := 2#32
  let v1453 : BitVec 32 := Scalar.muli c2_i32_922 v2
  let v1454 : BitVec 32 := Scalar.addi v1452 v1453
  let c1_i32_923 : BitVec 32 := 1#32
  let v1455 : BitVec 32 := Scalar.addi v1454 c1_i32_923
  let c3_i32_924 : BitVec 32 := 3#32
  let c0_i32_925 : BitVec 32 := 0#32
  let v1456 : BitVec 1 := Scalar.cmpi .eq c3_i32_924 c0_i32_925
  let c1_i32_926 : BitVec 32 := 1#32
  let v1457 : BitVec 32 := Scalar.select v1456 c1_i32_926 c3_i32_924
  let v1458 : BitVec 32 := Scalar.remsi v1455 v1457
  let c0_i32_928 : BitVec 32 := 0#32
  let v1460 : BitVec 1 := Scalar.cmpi .slt v1458 c0_i32_928
  let c0_i32_929 : BitVec 32 := 0#32
  let v1461 : BitVec 1 := Scalar.cmpi .slt v1457 c0_i32_929
  let v1462 : BitVec 1 := Scalar.xori v1460 v1461
  let c0_i32_927 : BitVec 32 := 0#32
  let v1459 : BitVec 1 := Scalar.cmpi .ne v1458 c0_i32_927
  let v1463 : BitVec 1 := Scalar.andi v1462 v1459
  let v1464 : BitVec 32 := Scalar.addi v1458 v1457
  let v1465 : BitVec 32 := Scalar.select v1463 v1464 v1458
  let c1_i32_930 : BitVec 32 := 1#32
  let v1466 : BitVec 1 := Scalar.cmpi .ne v1465 c1_i32_930
  let true_932 : BitVec 1 := 1#1
  let v1470 : BitVec 1 := Scalar.xori v1466 true_932
  let v1471 : BitVec 1 := Scalar.andi v1451 v1470
  let v1472 : BitVec 32 := Scalar.extui v1471
  let c0_i32_933 : BitVec 32 := 0#32
  let v1473 : BitVec 1 := Scalar.cmpi .ne v1472 c0_i32_933
  v1473

def k0_dev87 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_904 : BitVec 32 := 19#32
  let v1425 : BitVec 32 := Scalar.addi v2 c19_i32_904
  let c32_i32_905 : BitVec 32 := 32#32
  let c0_i32_906 : BitVec 32 := 0#32
  let v1426 : BitVec 1 := Scalar.cmpi .eq c32_i32_905 c0_i32_906
  let c1_i32_907 : BitVec 32 := 1#32
  let v1427 : BitVec 32 := Scalar.select v1426 c1_i32_907 c32_i32_905
  let v1428 : BitVec 32 := Scalar.remsi v1425 v1427
  let c0_i32_909 : BitVec 32 := 0#32
  let v1430 : BitVec 1 := Scalar.cmpi .slt v1428 c0_i32_909
  let c0_i32_910 : BitVec 32 := 0#32
  let v1431 : BitVec 1 := Scalar.cmpi .slt v1427 c0_i32_910
  let v1432 : BitVec 1 := Scalar.xori v1430 v1431
  let c0_i32_908 : BitVec 32 := 0#32
  let v1429 : BitVec 1 := Scalar.cmpi .ne v1428 c0_i32_908
  let v1433 : BitVec 1 := Scalar.andi v1432 v1429
  let v1434 : BitVec 32 := Scalar.addi v1428 v1427
  let v1435 : BitVec 32 := Scalar.select v1433 v1434 v1428
  let c1_i32_3566 : BitVec 32 := 1#32
  let v5774 : BitVec 32 := Scalar.muli v1435 c1_i32_3566
  let v5775 : BitVec 32 := Scalar.addi c0_i32_3567 v5774
  v5775.toNat
def k0_cond57 (d0 : Dev nD) : BitVec 1 :=
  let c2_i32_921 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_904 : BitVec 32 := 19#32
  let v1425 : BitVec 32 := Scalar.addi v2 c19_i32_904
  let c32_i32_905 : BitVec 32 := 32#32
  let c0_i32_906 : BitVec 32 := 0#32
  let v1426 : BitVec 1 := Scalar.cmpi .eq c32_i32_905 c0_i32_906
  let c1_i32_907 : BitVec 32 := 1#32
  let v1427 : BitVec 32 := Scalar.select v1426 c1_i32_907 c32_i32_905
  let v1428 : BitVec 32 := Scalar.remsi v1425 v1427
  let c0_i32_909 : BitVec 32 := 0#32
  let v1430 : BitVec 1 := Scalar.cmpi .slt v1428 c0_i32_909
  let c0_i32_910 : BitVec 32 := 0#32
  let v1431 : BitVec 1 := Scalar.cmpi .slt v1427 c0_i32_910
  let v1432 : BitVec 1 := Scalar.xori v1430 v1431
  let c0_i32_908 : BitVec 32 := 0#32
  let v1429 : BitVec 1 := Scalar.cmpi .ne v1428 c0_i32_908
  let v1433 : BitVec 1 := Scalar.andi v1432 v1429
  let v1434 : BitVec 32 := Scalar.addi v1428 v1427
  let v1435 : BitVec 32 := Scalar.select v1433 v1434 v1428
  let v1452 : BitVec 32 := Scalar.muli c2_i32_921 v1435
  let c2_i32_922 : BitVec 32 := 2#32
  let v1453 : BitVec 32 := Scalar.muli c2_i32_922 v2
  let v1454 : BitVec 32 := Scalar.addi v1452 v1453
  let c1_i32_923 : BitVec 32 := 1#32
  let v1455 : BitVec 32 := Scalar.addi v1454 c1_i32_923
  let c3_i32_924 : BitVec 32 := 3#32
  let c0_i32_925 : BitVec 32 := 0#32
  let v1456 : BitVec 1 := Scalar.cmpi .eq c3_i32_924 c0_i32_925
  let c1_i32_926 : BitVec 32 := 1#32
  let v1457 : BitVec 32 := Scalar.select v1456 c1_i32_926 c3_i32_924
  let v1458 : BitVec 32 := Scalar.remsi v1455 v1457
  let c0_i32_928 : BitVec 32 := 0#32
  let v1460 : BitVec 1 := Scalar.cmpi .slt v1458 c0_i32_928
  let c0_i32_929 : BitVec 32 := 0#32
  let v1461 : BitVec 1 := Scalar.cmpi .slt v1457 c0_i32_929
  let v1462 : BitVec 1 := Scalar.xori v1460 v1461
  let c0_i32_927 : BitVec 32 := 0#32
  let v1459 : BitVec 1 := Scalar.cmpi .ne v1458 c0_i32_927
  let v1463 : BitVec 1 := Scalar.andi v1462 v1459
  let v1464 : BitVec 32 := Scalar.addi v1458 v1457
  let v1465 : BitVec 32 := Scalar.select v1463 v1464 v1458
  let c1_i32_930 : BitVec 32 := 1#32
  let v1466 : BitVec 1 := Scalar.cmpi .ne v1465 c1_i32_930
  let c0_i32_911 : BitVec 32 := 0#32
  let v1436 : BitVec 1 := Scalar.cmpi .eq v2 c0_i32_911
  let c2_i32_912 : BitVec 32 := 2#32
  let v1437 : BitVec 32 := Scalar.muli c2_i32_912 v1435
  let c2_i32_913 : BitVec 32 := 2#32
  let v1438 : BitVec 32 := Scalar.muli c2_i32_913 v2
  let v1439 : BitVec 32 := Scalar.addi v1437 v1438
  let c3_i32_914 : BitVec 32 := 3#32
  let c0_i32_915 : BitVec 32 := 0#32
  let v1440 : BitVec 1 := Scalar.cmpi .eq c3_i32_914 c0_i32_915
  let c1_i32_916 : BitVec 32 := 1#32
  let v1441 : BitVec 32 := Scalar.select v1440 c1_i32_916 c3_i32_914
  let v1442 : BitVec 32 := Scalar.remsi v1439 v1441
  let c0_i32_918 : BitVec 32 := 0#32
  let v1444 : BitVec 1 := Scalar.cmpi .slt v1442 c0_i32_918
  let c0_i32_919 : BitVec 32 := 0#32
  let v1445 : BitVec 1 := Scalar.cmpi .slt v1441 c0_i32_919
  let v1446 : BitVec 1 := Scalar.xori v1444 v1445
  let c0_i32_917 : BitVec 32 := 0#32
  let v1443 : BitVec 1 := Scalar.cmpi .ne v1442 c0_i32_917
  let v1447 : BitVec 1 := Scalar.andi v1446 v1443
  let v1448 : BitVec 32 := Scalar.addi v1442 v1441
  let v1449 : BitVec 32 := Scalar.select v1447 v1448 v1442
  let c1_i32_920 : BitVec 32 := 1#32
  let v1450 : BitVec 1 := Scalar.cmpi .ne v1449 c1_i32_920
  let v1451 : BitVec 1 := Scalar.ori v1436 v1450
  let true_934 : BitVec 1 := 1#1
  let v1474 : BitVec 1 := Scalar.xori v1451 true_934
  let v1475 : BitVec 1 := Scalar.andi v1466 v1474
  let v1476 : BitVec 32 := Scalar.extui v1475
  let c0_i32_935 : BitVec 32 := 0#32
  let v1477 : BitVec 1 := Scalar.cmpi .ne v1476 c0_i32_935
  v1477

def k0_dev88 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_904 : BitVec 32 := 19#32
  let v1425 : BitVec 32 := Scalar.addi v2 c19_i32_904
  let c32_i32_905 : BitVec 32 := 32#32
  let c0_i32_906 : BitVec 32 := 0#32
  let v1426 : BitVec 1 := Scalar.cmpi .eq c32_i32_905 c0_i32_906
  let c1_i32_907 : BitVec 32 := 1#32
  let v1427 : BitVec 32 := Scalar.select v1426 c1_i32_907 c32_i32_905
  let v1428 : BitVec 32 := Scalar.remsi v1425 v1427
  let c0_i32_909 : BitVec 32 := 0#32
  let v1430 : BitVec 1 := Scalar.cmpi .slt v1428 c0_i32_909
  let c0_i32_910 : BitVec 32 := 0#32
  let v1431 : BitVec 1 := Scalar.cmpi .slt v1427 c0_i32_910
  let v1432 : BitVec 1 := Scalar.xori v1430 v1431
  let c0_i32_908 : BitVec 32 := 0#32
  let v1429 : BitVec 1 := Scalar.cmpi .ne v1428 c0_i32_908
  let v1433 : BitVec 1 := Scalar.andi v1432 v1429
  let v1434 : BitVec 32 := Scalar.addi v1428 v1427
  let v1435 : BitVec 32 := Scalar.select v1433 v1434 v1428
  let c1_i32_3566 : BitVec 32 := 1#32
  let v5774 : BitVec 32 := Scalar.muli v1435 c1_i32_3566
  let v5775 : BitVec 32 := Scalar.addi c0_i32_3567 v5774
  v5775.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_943 : BitVec 32 := 0#32
  let v1489 : BitVec 1 := Scalar.cmpi .eq v2 c0_i32_943
  let c2_i32_944 : BitVec 32 := 2#32
  let c20_i32_936 : BitVec 32 := 20#32
  let v1478 : BitVec 32 := Scalar.addi v2 c20_i32_936
  let c32_i32_937 : BitVec 32 := 32#32
  let c0_i32_938 : BitVec 32 := 0#32
  let v1479 : BitVec 1 := Scalar.cmpi .eq c32_i32_937 c0_i32_938
  let c1_i32_939 : BitVec 32 := 1#32
  let v1480 : BitVec 32 := Scalar.select v1479 c1_i32_939 c32_i32_937
  let v1481 : BitVec 32 := Scalar.remsi v1478 v1480
  let c0_i32_941 : BitVec 32 := 0#32
  let v1483 : BitVec 1 := Scalar.cmpi .slt v1481 c0_i32_941
  let c0_i32_942 : BitVec 32 := 0#32
  let v1484 : BitVec 1 := Scalar.cmpi .slt v1480 c0_i32_942
  let v1485 : BitVec 1 := Scalar.xori v1483 v1484
  let c0_i32_940 : BitVec 32 := 0#32
  let v1482 : BitVec 1 := Scalar.cmpi .ne v1481 c0_i32_940
  let v1486 : BitVec 1 := Scalar.andi v1485 v1482
  let v1487 : BitVec 32 := Scalar.addi v1481 v1480
  let v1488 : BitVec 32 := Scalar.select v1486 v1487 v1481
  let v1490 : BitVec 32 := Scalar.muli c2_i32_944 v1488
  let c2_i32_945 : BitVec 32 := 2#32
  let v1491 : BitVec 32 := Scalar.muli c2_i32_945 v2
  let v1492 : BitVec 32 := Scalar.addi v1490 v1491
  let c3_i32_946 : BitVec 32 := 3#32
  let c0_i32_947 : BitVec 32 := 0#32
  let v1493 : BitVec 1 := Scalar.cmpi .eq c3_i32_946 c0_i32_947
  let c1_i32_948 : BitVec 32 := 1#32
  let v1494 : BitVec 32 := Scalar.select v1493 c1_i32_948 c3_i32_946
  let v1495 : BitVec 32 := Scalar.remsi v1492 v1494
  let c0_i32_950 : BitVec 32 := 0#32
  let v1497 : BitVec 1 := Scalar.cmpi .slt v1495 c0_i32_950
  let c0_i32_951 : BitVec 32 := 0#32
  let v1498 : BitVec 1 := Scalar.cmpi .slt v1494 c0_i32_951
  let v1499 : BitVec 1 := Scalar.xori v1497 v1498
  let c0_i32_949 : BitVec 32 := 0#32
  let v1496 : BitVec 1 := Scalar.cmpi .ne v1495 c0_i32_949
  let v1500 : BitVec 1 := Scalar.andi v1499 v1496
  let v1501 : BitVec 32 := Scalar.addi v1495 v1494
  let v1502 : BitVec 32 := Scalar.select v1500 v1501 v1495
  let c1_i32_952 : BitVec 32 := 1#32
  let v1503 : BitVec 1 := Scalar.cmpi .ne v1502 c1_i32_952
  let v1504 : BitVec 1 := Scalar.ori v1489 v1503
  let c2_i32_953 : BitVec 32 := 2#32
  let v1505 : BitVec 32 := Scalar.muli c2_i32_953 v1488
  let c2_i32_954 : BitVec 32 := 2#32
  let v1506 : BitVec 32 := Scalar.muli c2_i32_954 v2
  let v1507 : BitVec 32 := Scalar.addi v1505 v1506
  let c1_i32_955 : BitVec 32 := 1#32
  let v1508 : BitVec 32 := Scalar.addi v1507 c1_i32_955
  let c3_i32_956 : BitVec 32 := 3#32
  let c0_i32_957 : BitVec 32 := 0#32
  let v1509 : BitVec 1 := Scalar.cmpi .eq c3_i32_956 c0_i32_957
  let c1_i32_958 : BitVec 32 := 1#32
  let v1510 : BitVec 32 := Scalar.select v1509 c1_i32_958 c3_i32_956
  let v1511 : BitVec 32 := Scalar.remsi v1508 v1510
  let c0_i32_960 : BitVec 32 := 0#32
  let v1513 : BitVec 1 := Scalar.cmpi .slt v1511 c0_i32_960
  let c0_i32_961 : BitVec 32 := 0#32
  let v1514 : BitVec 1 := Scalar.cmpi .slt v1510 c0_i32_961
  let v1515 : BitVec 1 := Scalar.xori v1513 v1514
  let c0_i32_959 : BitVec 32 := 0#32
  let v1512 : BitVec 1 := Scalar.cmpi .ne v1511 c0_i32_959
  let v1516 : BitVec 1 := Scalar.andi v1515 v1512
  let v1517 : BitVec 32 := Scalar.addi v1511 v1510
  let v1518 : BitVec 32 := Scalar.select v1516 v1517 v1511
  let c1_i32_962 : BitVec 32 := 1#32
  let v1519 : BitVec 1 := Scalar.cmpi .ne v1518 c1_i32_962
  let v1520 : BitVec 1 := Scalar.andi v1504 v1519
  let v1521 : BitVec 32 := Scalar.extui v1520
  let c0_i32_963 : BitVec 32 := 0#32
  let v1522 : BitVec 1 := Scalar.cmpi .ne v1521 c0_i32_963
  v1522

def k0_dev89 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_936 : BitVec 32 := 20#32
  let v1478 : BitVec 32 := Scalar.addi v2 c20_i32_936
  let c32_i32_937 : BitVec 32 := 32#32
  let c0_i32_938 : BitVec 32 := 0#32
  let v1479 : BitVec 1 := Scalar.cmpi .eq c32_i32_937 c0_i32_938
  let c1_i32_939 : BitVec 32 := 1#32
  let v1480 : BitVec 32 := Scalar.select v1479 c1_i32_939 c32_i32_937
  let v1481 : BitVec 32 := Scalar.remsi v1478 v1480
  let c0_i32_941 : BitVec 32 := 0#32
  let v1483 : BitVec 1 := Scalar.cmpi .slt v1481 c0_i32_941
  let c0_i32_942 : BitVec 32 := 0#32
  let v1484 : BitVec 1 := Scalar.cmpi .slt v1480 c0_i32_942
  let v1485 : BitVec 1 := Scalar.xori v1483 v1484
  let c0_i32_940 : BitVec 32 := 0#32
  let v1482 : BitVec 1 := Scalar.cmpi .ne v1481 c0_i32_940
  let v1486 : BitVec 1 := Scalar.andi v1485 v1482
  let v1487 : BitVec 32 := Scalar.addi v1481 v1480
  let v1488 : BitVec 32 := Scalar.select v1486 v1487 v1481
  let c1_i32_3564 : BitVec 32 := 1#32
  let v5774 : BitVec 32 := Scalar.muli v1488 c1_i32_3564
  let v5775 : BitVec 32 := Scalar.addi c0_i32_3565 v5774
  v5775.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_943 : BitVec 32 := 0#32
  let v1489 : BitVec 1 := Scalar.cmpi .eq v2 c0_i32_943
  let c2_i32_944 : BitVec 32 := 2#32
  let c20_i32_936 : BitVec 32 := 20#32
  let v1478 : BitVec 32 := Scalar.addi v2 c20_i32_936
  let c32_i32_937 : BitVec 32 := 32#32
  let c0_i32_938 : BitVec 32 := 0#32
  let v1479 : BitVec 1 := Scalar.cmpi .eq c32_i32_937 c0_i32_938
  let c1_i32_939 : BitVec 32 := 1#32
  let v1480 : BitVec 32 := Scalar.select v1479 c1_i32_939 c32_i32_937
  let v1481 : BitVec 32 := Scalar.remsi v1478 v1480
  let c0_i32_941 : BitVec 32 := 0#32
  let v1483 : BitVec 1 := Scalar.cmpi .slt v1481 c0_i32_941
  let c0_i32_942 : BitVec 32 := 0#32
  let v1484 : BitVec 1 := Scalar.cmpi .slt v1480 c0_i32_942
  let v1485 : BitVec 1 := Scalar.xori v1483 v1484
  let c0_i32_940 : BitVec 32 := 0#32
  let v1482 : BitVec 1 := Scalar.cmpi .ne v1481 c0_i32_940
  let v1486 : BitVec 1 := Scalar.andi v1485 v1482
  let v1487 : BitVec 32 := Scalar.addi v1481 v1480
  let v1488 : BitVec 32 := Scalar.select v1486 v1487 v1481
  let v1490 : BitVec 32 := Scalar.muli c2_i32_944 v1488
  let c2_i32_945 : BitVec 32 := 2#32
  let v1491 : BitVec 32 := Scalar.muli c2_i32_945 v2
  let v1492 : BitVec 32 := Scalar.addi v1490 v1491
  let c3_i32_946 : BitVec 32 := 3#32
  let c0_i32_947 : BitVec 32 := 0#32
  let v1493 : BitVec 1 := Scalar.cmpi .eq c3_i32_946 c0_i32_947
  let c1_i32_948 : BitVec 32 := 1#32
  let v1494 : BitVec 32 := Scalar.select v1493 c1_i32_948 c3_i32_946
  let v1495 : BitVec 32 := Scalar.remsi v1492 v1494
  let c0_i32_950 : BitVec 32 := 0#32
  let v1497 : BitVec 1 := Scalar.cmpi .slt v1495 c0_i32_950
  let c0_i32_951 : BitVec 32 := 0#32
  let v1498 : BitVec 1 := Scalar.cmpi .slt v1494 c0_i32_951
  let v1499 : BitVec 1 := Scalar.xori v1497 v1498
  let c0_i32_949 : BitVec 32 := 0#32
  let v1496 : BitVec 1 := Scalar.cmpi .ne v1495 c0_i32_949
  let v1500 : BitVec 1 := Scalar.andi v1499 v1496
  let v1501 : BitVec 32 := Scalar.addi v1495 v1494
  let v1502 : BitVec 32 := Scalar.select v1500 v1501 v1495
  let c1_i32_952 : BitVec 32 := 1#32
  let v1503 : BitVec 1 := Scalar.cmpi .ne v1502 c1_i32_952
  let v1504 : BitVec 1 := Scalar.ori v1489 v1503
  let c2_i32_953 : BitVec 32 := 2#32
  let v1505 : BitVec 32 := Scalar.muli c2_i32_953 v1488
  let c2_i32_954 : BitVec 32 := 2#32
  let v1506 : BitVec 32 := Scalar.muli c2_i32_954 v2
  let v1507 : BitVec 32 := Scalar.addi v1505 v1506
  let c1_i32_955 : BitVec 32 := 1#32
  let v1508 : BitVec 32 := Scalar.addi v1507 c1_i32_955
  let c3_i32_956 : BitVec 32 := 3#32
  let c0_i32_957 : BitVec 32 := 0#32
  let v1509 : BitVec 1 := Scalar.cmpi .eq c3_i32_956 c0_i32_957
  let c1_i32_958 : BitVec 32 := 1#32
  let v1510 : BitVec 32 := Scalar.select v1509 c1_i32_958 c3_i32_956
  let v1511 : BitVec 32 := Scalar.remsi v1508 v1510
  let c0_i32_960 : BitVec 32 := 0#32
  let v1513 : BitVec 1 := Scalar.cmpi .slt v1511 c0_i32_960
  let c0_i32_961 : BitVec 32 := 0#32
  let v1514 : BitVec 1 := Scalar.cmpi .slt v1510 c0_i32_961
  let v1515 : BitVec 1 := Scalar.xori v1513 v1514
  let c0_i32_959 : BitVec 32 := 0#32
  let v1512 : BitVec 1 := Scalar.cmpi .ne v1511 c0_i32_959
  let v1516 : BitVec 1 := Scalar.andi v1515 v1512
  let v1517 : BitVec 32 := Scalar.addi v1511 v1510
  let v1518 : BitVec 32 := Scalar.select v1516 v1517 v1511
  let c1_i32_962 : BitVec 32 := 1#32
  let v1519 : BitVec 1 := Scalar.cmpi .ne v1518 c1_i32_962
  let true_964 : BitVec 1 := 1#1
  let v1523 : BitVec 1 := Scalar.xori v1519 true_964
  let v1524 : BitVec 1 := Scalar.andi v1504 v1523
  let v1525 : BitVec 32 := Scalar.extui v1524
  let c0_i32_965 : BitVec 32 := 0#32
  let v1526 : BitVec 1 := Scalar.cmpi .ne v1525 c0_i32_965
  v1526

def k0_dev90 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_936 : BitVec 32 := 20#32
  let v1478 : BitVec 32 := Scalar.addi v2 c20_i32_936
  let c32_i32_937 : BitVec 32 := 32#32
  let c0_i32_938 : BitVec 32 := 0#32
  let v1479 : BitVec 1 := Scalar.cmpi .eq c32_i32_937 c0_i32_938
  let c1_i32_939 : BitVec 32 := 1#32
  let v1480 : BitVec 32 := Scalar.select v1479 c1_i32_939 c32_i32_937
  let v1481 : BitVec 32 := Scalar.remsi v1478 v1480
  let c0_i32_941 : BitVec 32 := 0#32
  let v1483 : BitVec 1 := Scalar.cmpi .slt v1481 c0_i32_941
  let c0_i32_942 : BitVec 32 := 0#32
  let v1484 : BitVec 1 := Scalar.cmpi .slt v1480 c0_i32_942
  let v1485 : BitVec 1 := Scalar.xori v1483 v1484
  let c0_i32_940 : BitVec 32 := 0#32
  let v1482 : BitVec 1 := Scalar.cmpi .ne v1481 c0_i32_940
  let v1486 : BitVec 1 := Scalar.andi v1485 v1482
  let v1487 : BitVec 32 := Scalar.addi v1481 v1480
  let v1488 : BitVec 32 := Scalar.select v1486 v1487 v1481
  let c1_i32_3566 : BitVec 32 := 1#32
  let v5774 : BitVec 32 := Scalar.muli v1488 c1_i32_3566
  let v5775 : BitVec 32 := Scalar.addi c0_i32_3567 v5774
  v5775.toNat
def k0_cond60 (d0 : Dev nD) : BitVec 1 :=
  let c2_i32_953 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_936 : BitVec 32 := 20#32
  let v1478 : BitVec 32 := Scalar.addi v2 c20_i32_936
  let c32_i32_937 : BitVec 32 := 32#32
  let c0_i32_938 : BitVec 32 := 0#32
  let v1479 : BitVec 1 := Scalar.cmpi .eq c32_i32_937 c0_i32_938
  let c1_i32_939 : BitVec 32 := 1#32
  let v1480 : BitVec 32 := Scalar.select v1479 c1_i32_939 c32_i32_937
  let v1481 : BitVec 32 := Scalar.remsi v1478 v1480
  let c0_i32_941 : BitVec 32 := 0#32
  let v1483 : BitVec 1 := Scalar.cmpi .slt v1481 c0_i32_941
  let c0_i32_942 : BitVec 32 := 0#32
  let v1484 : BitVec 1 := Scalar.cmpi .slt v1480 c0_i32_942
  let v1485 : BitVec 1 := Scalar.xori v1483 v1484
  let c0_i32_940 : BitVec 32 := 0#32
  let v1482 : BitVec 1 := Scalar.cmpi .ne v1481 c0_i32_940
  let v1486 : BitVec 1 := Scalar.andi v1485 v1482
  let v1487 : BitVec 32 := Scalar.addi v1481 v1480
  let v1488 : BitVec 32 := Scalar.select v1486 v1487 v1481
  let v1505 : BitVec 32 := Scalar.muli c2_i32_953 v1488
  let c2_i32_954 : BitVec 32 := 2#32
  let v1506 : BitVec 32 := Scalar.muli c2_i32_954 v2
  let v1507 : BitVec 32 := Scalar.addi v1505 v1506
  let c1_i32_955 : BitVec 32 := 1#32
  let v1508 : BitVec 32 := Scalar.addi v1507 c1_i32_955
  let c3_i32_956 : BitVec 32 := 3#32
  let c0_i32_957 : BitVec 32 := 0#32
  let v1509 : BitVec 1 := Scalar.cmpi .eq c3_i32_956 c0_i32_957
  let c1_i32_958 : BitVec 32 := 1#32
  let v1510 : BitVec 32 := Scalar.select v1509 c1_i32_958 c3_i32_956
  let v1511 : BitVec 32 := Scalar.remsi v1508 v1510
  let c0_i32_960 : BitVec 32 := 0#32
  let v1513 : BitVec 1 := Scalar.cmpi .slt v1511 c0_i32_960
  let c0_i32_961 : BitVec 32 := 0#32
  let v1514 : BitVec 1 := Scalar.cmpi .slt v1510 c0_i32_961
  let v1515 : BitVec 1 := Scalar.xori v1513 v1514
  let c0_i32_959 : BitVec 32 := 0#32
  let v1512 : BitVec 1 := Scalar.cmpi .ne v1511 c0_i32_959
  let v1516 : BitVec 1 := Scalar.andi v1515 v1512
  let v1517 : BitVec 32 := Scalar.addi v1511 v1510
  let v1518 : BitVec 32 := Scalar.select v1516 v1517 v1511
  let c1_i32_962 : BitVec 32 := 1#32
  let v1519 : BitVec 1 := Scalar.cmpi .ne v1518 c1_i32_962
  let c0_i32_943 : BitVec 32 := 0#32
  let v1489 : BitVec 1 := Scalar.cmpi .eq v2 c0_i32_943
  let c2_i32_944 : BitVec 32 := 2#32
  let v1490 : BitVec 32 := Scalar.muli c2_i32_944 v1488
  let c2_i32_945 : BitVec 32 := 2#32
  let v1491 : BitVec 32 := Scalar.muli c2_i32_945 v2
  let v1492 : BitVec 32 := Scalar.addi v1490 v1491
  let c3_i32_946 : BitVec 32 := 3#32
  let c0_i32_947 : BitVec 32 := 0#32
  let v1493 : BitVec 1 := Scalar.cmpi .eq c3_i32_946 c0_i32_947
  let c1_i32_948 : BitVec 32 := 1#32
  let v1494 : BitVec 32 := Scalar.select v1493 c1_i32_948 c3_i32_946
  let v1495 : BitVec 32 := Scalar.remsi v1492 v1494
  let c0_i32_950 : BitVec 32 := 0#32
  let v1497 : BitVec 1 := Scalar.cmpi .slt v1495 c0_i32_950
  let c0_i32_951 : BitVec 32 := 0#32
  let v1498 : BitVec 1 := Scalar.cmpi .slt v1494 c0_i32_951
  let v1499 : BitVec 1 := Scalar.xori v1497 v1498
  let c0_i32_949 : BitVec 32 := 0#32
  let v1496 : BitVec 1 := Scalar.cmpi .ne v1495 c0_i32_949
  let v1500 : BitVec 1 := Scalar.andi v1499 v1496
  let v1501 : BitVec 32 := Scalar.addi v1495 v1494
  let v1502 : BitVec 32 := Scalar.select v1500 v1501 v1495
  let c1_i32_952 : BitVec 32 := 1#32
  let v1503 : BitVec 1 := Scalar.cmpi .ne v1502 c1_i32_952
  let v1504 : BitVec 1 := Scalar.ori v1489 v1503
  let true_966 : BitVec 1 := 1#1
  let v1527 : BitVec 1 := Scalar.xori v1504 true_966
  let v1528 : BitVec 1 := Scalar.andi v1519 v1527
  let v1529 : BitVec 32 := Scalar.extui v1528
  let c0_i32_967 : BitVec 32 := 0#32
  let v1530 : BitVec 1 := Scalar.cmpi .ne v1529 c0_i32_967
  v1530

def k0_dev91 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_936 : BitVec 32 := 20#32
  let v1478 : BitVec 32 := Scalar.addi v2 c20_i32_936
  let c32_i32_937 : BitVec 32 := 32#32
  let c0_i32_938 : BitVec 32 := 0#32
  let v1479 : BitVec 1 := Scalar.cmpi .eq c32_i32_937 c0_i32_938
  let c1_i32_939 : BitVec 32 := 1#32
  let v1480 : BitVec 32 := Scalar.select v1479 c1_i32_939 c32_i32_937
  let v1481 : BitVec 32 := Scalar.remsi v1478 v1480
  let c0_i32_941 : BitVec 32 := 0#32
  let v1483 : BitVec 1 := Scalar.cmpi .slt v1481 c0_i32_941
  let c0_i32_942 : BitVec 32 := 0#32
  let v1484 : BitVec 1 := Scalar.cmpi .slt v1480 c0_i32_942
  let v1485 : BitVec 1 := Scalar.xori v1483 v1484
  let c0_i32_940 : BitVec 32 := 0#32
  let v1482 : BitVec 1 := Scalar.cmpi .ne v1481 c0_i32_940
  let v1486 : BitVec 1 := Scalar.andi v1485 v1482
  let v1487 : BitVec 32 := Scalar.addi v1481 v1480
  let v1488 : BitVec 32 := Scalar.select v1486 v1487 v1481
  let c1_i32_3566 : BitVec 32 := 1#32
  let v5774 : BitVec 32 := Scalar.muli v1488 c1_i32_3566
  let v5775 : BitVec 32 := Scalar.addi c0_i32_3567 v5774
  v5775.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  let v1542 : BitVec 1 := Scalar.cmpi .eq v2 c0_i32_975
  let c2_i32_976 : BitVec 32 := 2#32
  let c21_i32_968 : BitVec 32 := 21#32
  let v1531 : BitVec 32 := Scalar.addi v2 c21_i32_968
  let c32_i32_969 : BitVec 32 := 32#32
  let c0_i32_970 : BitVec 32 := 0#32
  let v1532 : BitVec 1 := Scalar.cmpi .eq c32_i32_969 c0_i32_970
  let c1_i32_971 : BitVec 32 := 1#32
  let v1533 : BitVec 32 := Scalar.select v1532 c1_i32_971 c32_i32_969
  let v1534 : BitVec 32 := Scalar.remsi v1531 v1533
  let c0_i32_973 : BitVec 32 := 0#32
  let v1536 : BitVec 1 := Scalar.cmpi .slt v1534 c0_i32_973
  let c0_i32_974 : BitVec 32 := 0#32
  let v1537 : BitVec 1 := Scalar.cmpi .slt v1533 c0_i32_974
  let v1538 : BitVec 1 := Scalar.xori v1536 v1537
  let c0_i32_972 : BitVec 32 := 0#32
  let v1535 : BitVec 1 := Scalar.cmpi .ne v1534 c0_i32_972
  let v1539 : BitVec 1 := Scalar.andi v1538 v1535
  let v1540 : BitVec 32 := Scalar.addi v1534 v1533
  let v1541 : BitVec 32 := Scalar.select v1539 v1540 v1534
  let v1543 : BitVec 32 := Scalar.muli c2_i32_976 v1541
  let c2_i32_977 : BitVec 32 := 2#32
  let v1544 : BitVec 32 := Scalar.muli c2_i32_977 v2
  let v1545 : BitVec 32 := Scalar.addi v1543 v1544
  let c3_i32_978 : BitVec 32 := 3#32
  let c0_i32_979 : BitVec 32 := 0#32
  let v1546 : BitVec 1 := Scalar.cmpi .eq c3_i32_978 c0_i32_979
  let c1_i32_980 : BitVec 32 := 1#32
  let v1547 : BitVec 32 := Scalar.select v1546 c1_i32_980 c3_i32_978
  let v1548 : BitVec 32 := Scalar.remsi v1545 v1547
  let c0_i32_982 : BitVec 32 := 0#32
  let v1550 : BitVec 1 := Scalar.cmpi .slt v1548 c0_i32_982
  let c0_i32_983 : BitVec 32 := 0#32
  let v1551 : BitVec 1 := Scalar.cmpi .slt v1547 c0_i32_983
  let v1552 : BitVec 1 := Scalar.xori v1550 v1551
  let c0_i32_981 : BitVec 32 := 0#32
  let v1549 : BitVec 1 := Scalar.cmpi .ne v1548 c0_i32_981
  let v1553 : BitVec 1 := Scalar.andi v1552 v1549
  let v1554 : BitVec 32 := Scalar.addi v1548 v1547
  let v1555 : BitVec 32 := Scalar.select v1553 v1554 v1548
  let c1_i32_984 : BitVec 32 := 1#32
  let v1556 : BitVec 1 := Scalar.cmpi .ne v1555 c1_i32_984
  let v1557 : BitVec 1 := Scalar.ori v1542 v1556
  let c2_i32_985 : BitVec 32 := 2#32
  let v1558 : BitVec 32 := Scalar.muli c2_i32_985 v1541
  let c2_i32_986 : BitVec 32 := 2#32
  let v1559 : BitVec 32 := Scalar.muli c2_i32_986 v2
  let v1560 : BitVec 32 := Scalar.addi v1558 v1559
  let c1_i32_987 : BitVec 32 := 1#32
  let v1561 : BitVec 32 := Scalar.addi v1560 c1_i32_987
  let c3_i32_988 : BitVec 32 := 3#32
  let c0_i32_989 : BitVec 32 := 0#32
  let v1562 : BitVec 1 := Scalar.cmpi .eq c3_i32_988 c0_i32_989
  let c1_i32_990 : BitVec 32 := 1#32
  let v1563 : BitVec 32 := Scalar.select v1562 c1_i32_990 c3_i32_988
  let v1564 : BitVec 32 := Scalar.remsi v1561 v1563
  let c0_i32_992 : BitVec 32 := 0#32
  let v1566 : BitVec 1 := Scalar.cmpi .slt v1564 c0_i32_992
  let c0_i32_993 : BitVec 32 := 0#32
  let v1567 : BitVec 1 := Scalar.cmpi .slt v1563 c0_i32_993
  let v1568 : BitVec 1 := Scalar.xori v1566 v1567
  let c0_i32_991 : BitVec 32 := 0#32
  let v1565 : BitVec 1 := Scalar.cmpi .ne v1564 c0_i32_991
  let v1569 : BitVec 1 := Scalar.andi v1568 v1565
  let v1570 : BitVec 32 := Scalar.addi v1564 v1563
  let v1571 : BitVec 32 := Scalar.select v1569 v1570 v1564
  let c1_i32_994 : BitVec 32 := 1#32
  let v1572 : BitVec 1 := Scalar.cmpi .ne v1571 c1_i32_994
  let v1573 : BitVec 1 := Scalar.andi v1557 v1572
  let v1574 : BitVec 32 := Scalar.extui v1573
  let c0_i32_995 : BitVec 32 := 0#32
  let v1575 : BitVec 1 := Scalar.cmpi .ne v1574 c0_i32_995
  v1575

def k0_dev92 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_968 : BitVec 32 := 21#32
  let v1531 : BitVec 32 := Scalar.addi v2 c21_i32_968
  let c32_i32_969 : BitVec 32 := 32#32
  let c0_i32_970 : BitVec 32 := 0#32
  let v1532 : BitVec 1 := Scalar.cmpi .eq c32_i32_969 c0_i32_970
  let c1_i32_971 : BitVec 32 := 1#32
  let v1533 : BitVec 32 := Scalar.select v1532 c1_i32_971 c32_i32_969
  let v1534 : BitVec 32 := Scalar.remsi v1531 v1533
  let c0_i32_973 : BitVec 32 := 0#32
  let v1536 : BitVec 1 := Scalar.cmpi .slt v1534 c0_i32_973
  let c0_i32_974 : BitVec 32 := 0#32
  let v1537 : BitVec 1 := Scalar.cmpi .slt v1533 c0_i32_974
  let v1538 : BitVec 1 := Scalar.xori v1536 v1537
  let c0_i32_972 : BitVec 32 := 0#32
  let v1535 : BitVec 1 := Scalar.cmpi .ne v1534 c0_i32_972
  let v1539 : BitVec 1 := Scalar.andi v1538 v1535
  let v1540 : BitVec 32 := Scalar.addi v1534 v1533
  let v1541 : BitVec 32 := Scalar.select v1539 v1540 v1534
  let c1_i32_3564 : BitVec 32 := 1#32
  let v5774 : BitVec 32 := Scalar.muli v1541 c1_i32_3564
  let v5775 : BitVec 32 := Scalar.addi c0_i32_3565 v5774
  v5775.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  let v1542 : BitVec 1 := Scalar.cmpi .eq v2 c0_i32_975
  let c2_i32_976 : BitVec 32 := 2#32
  let c21_i32_968 : BitVec 32 := 21#32
  let v1531 : BitVec 32 := Scalar.addi v2 c21_i32_968
  let c32_i32_969 : BitVec 32 := 32#32
  let c0_i32_970 : BitVec 32 := 0#32
  let v1532 : BitVec 1 := Scalar.cmpi .eq c32_i32_969 c0_i32_970
  let c1_i32_971 : BitVec 32 := 1#32
  let v1533 : BitVec 32 := Scalar.select v1532 c1_i32_971 c32_i32_969
  let v1534 : BitVec 32 := Scalar.remsi v1531 v1533
  let c0_i32_973 : BitVec 32 := 0#32
  let v1536 : BitVec 1 := Scalar.cmpi .slt v1534 c0_i32_973
  let c0_i32_974 : BitVec 32 := 0#32
  let v1537 : BitVec 1 := Scalar.cmpi .slt v1533 c0_i32_974
  let v1538 : BitVec 1 := Scalar.xori v1536 v1537
  let c0_i32_972 : BitVec 32 := 0#32
  let v1535 : BitVec 1 := Scalar.cmpi .ne v1534 c0_i32_972
  let v1539 : BitVec 1 := Scalar.andi v1538 v1535
  let v1540 : BitVec 32 := Scalar.addi v1534 v1533
  let v1541 : BitVec 32 := Scalar.select v1539 v1540 v1534
  let v1543 : BitVec 32 := Scalar.muli c2_i32_976 v1541
  let c2_i32_977 : BitVec 32 := 2#32
  let v1544 : BitVec 32 := Scalar.muli c2_i32_977 v2
  let v1545 : BitVec 32 := Scalar.addi v1543 v1544
  let c3_i32_978 : BitVec 32 := 3#32
  let c0_i32_979 : BitVec 32 := 0#32
  let v1546 : BitVec 1 := Scalar.cmpi .eq c3_i32_978 c0_i32_979
  let c1_i32_980 : BitVec 32 := 1#32
  let v1547 : BitVec 32 := Scalar.select v1546 c1_i32_980 c3_i32_978
  let v1548 : BitVec 32 := Scalar.remsi v1545 v1547
  let c0_i32_982 : BitVec 32 := 0#32
  let v1550 : BitVec 1 := Scalar.cmpi .slt v1548 c0_i32_982
  let c0_i32_983 : BitVec 32 := 0#32
  let v1551 : BitVec 1 := Scalar.cmpi .slt v1547 c0_i32_983
  let v1552 : BitVec 1 := Scalar.xori v1550 v1551
  let c0_i32_981 : BitVec 32 := 0#32
  let v1549 : BitVec 1 := Scalar.cmpi .ne v1548 c0_i32_981
  let v1553 : BitVec 1 := Scalar.andi v1552 v1549
  let v1554 : BitVec 32 := Scalar.addi v1548 v1547
  let v1555 : BitVec 32 := Scalar.select v1553 v1554 v1548
  let c1_i32_984 : BitVec 32 := 1#32
  let v1556 : BitVec 1 := Scalar.cmpi .ne v1555 c1_i32_984
  let v1557 : BitVec 1 := Scalar.ori v1542 v1556
  let c2_i32_985 : BitVec 32 := 2#32
  let v1558 : BitVec 32 := Scalar.muli c2_i32_985 v1541
  let c2_i32_986 : BitVec 32 := 2#32
  let v1559 : BitVec 32 := Scalar.muli c2_i32_986 v2
  let v1560 : BitVec 32 := Scalar.addi v1558 v1559
  let c1_i32_987 : BitVec 32 := 1#32
  let v1561 : BitVec 32 := Scalar.addi v1560 c1_i32_987
  let c3_i32_988 : BitVec 32 := 3#32
  let c0_i32_989 : BitVec 32 := 0#32
  let v1562 : BitVec 1 := Scalar.cmpi .eq c3_i32_988 c0_i32_989
  let c1_i32_990 : BitVec 32 := 1#32
  let v1563 : BitVec 32 := Scalar.select v1562 c1_i32_990 c3_i32_988
  let v1564 : BitVec 32 := Scalar.remsi v1561 v1563
  let c0_i32_992 : BitVec 32 := 0#32
  let v1566 : BitVec 1 := Scalar.cmpi .slt v1564 c0_i32_992
  let c0_i32_993 : BitVec 32 := 0#32
  let v1567 : BitVec 1 := Scalar.cmpi .slt v1563 c0_i32_993
  let v1568 : BitVec 1 := Scalar.xori v1566 v1567
  let c0_i32_991 : BitVec 32 := 0#32
  let v1565 : BitVec 1 := Scalar.cmpi .ne v1564 c0_i32_991
  let v1569 : BitVec 1 := Scalar.andi v1568 v1565
  let v1570 : BitVec 32 := Scalar.addi v1564 v1563
  let v1571 : BitVec 32 := Scalar.select v1569 v1570 v1564
  let c1_i32_994 : BitVec 32 := 1#32
  let v1572 : BitVec 1 := Scalar.cmpi .ne v1571 c1_i32_994
  let true_996 : BitVec 1 := 1#1
  let v1576 : BitVec 1 := Scalar.xori v1572 true_996
  let v1577 : BitVec 1 := Scalar.andi v1557 v1576
  let v1578 : BitVec 32 := Scalar.extui v1577
  let c0_i32_997 : BitVec 32 := 0#32
  let v1579 : BitVec 1 := Scalar.cmpi .ne v1578 c0_i32_997
  v1579

def k0_dev93 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_968 : BitVec 32 := 21#32
  let v1531 : BitVec 32 := Scalar.addi v2 c21_i32_968
  let c32_i32_969 : BitVec 32 := 32#32
  let c0_i32_970 : BitVec 32 := 0#32
  let v1532 : BitVec 1 := Scalar.cmpi .eq c32_i32_969 c0_i32_970
  let c1_i32_971 : BitVec 32 := 1#32
  let v1533 : BitVec 32 := Scalar.select v1532 c1_i32_971 c32_i32_969
  let v1534 : BitVec 32 := Scalar.remsi v1531 v1533
  let c0_i32_973 : BitVec 32 := 0#32
  let v1536 : BitVec 1 := Scalar.cmpi .slt v1534 c0_i32_973
  let c0_i32_974 : BitVec 32 := 0#32
  let v1537 : BitVec 1 := Scalar.cmpi .slt v1533 c0_i32_974
  let v1538 : BitVec 1 := Scalar.xori v1536 v1537
  let c0_i32_972 : BitVec 32 := 0#32
  let v1535 : BitVec 1 := Scalar.cmpi .ne v1534 c0_i32_972
  let v1539 : BitVec 1 := Scalar.andi v1538 v1535
  let v1540 : BitVec 32 := Scalar.addi v1534 v1533
  let v1541 : BitVec 32 := Scalar.select v1539 v1540 v1534
  let c1_i32_3566 : BitVec 32 := 1#32
  let v5774 : BitVec 32 := Scalar.muli v1541 c1_i32_3566
  let v5775 : BitVec 32 := Scalar.addi c0_i32_3567 v5774
  v5775.toNat
def k0_cond63 (d0 : Dev nD) : BitVec 1 :=
  let c2_i32_985 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_968 : BitVec 32 := 21#32
  let v1531 : BitVec 32 := Scalar.addi v2 c21_i32_968
  let c32_i32_969 : BitVec 32 := 32#32
  let c0_i32_970 : BitVec 32 := 0#32
  let v1532 : BitVec 1 := Scalar.cmpi .eq c32_i32_969 c0_i32_970
  let c1_i32_971 : BitVec 32 := 1#32
  let v1533 : BitVec 32 := Scalar.select v1532 c1_i32_971 c32_i32_969
  let v1534 : BitVec 32 := Scalar.remsi v1531 v1533
  let c0_i32_973 : BitVec 32 := 0#32
  let v1536 : BitVec 1 := Scalar.cmpi .slt v1534 c0_i32_973
  let c0_i32_974 : BitVec 32 := 0#32
  let v1537 : BitVec 1 := Scalar.cmpi .slt v1533 c0_i32_974
  let v1538 : BitVec 1 := Scalar.xori v1536 v1537
  let c0_i32_972 : BitVec 32 := 0#32
  let v1535 : BitVec 1 := Scalar.cmpi .ne v1534 c0_i32_972
  let v1539 : BitVec 1 := Scalar.andi v1538 v1535
  let v1540 : BitVec 32 := Scalar.addi v1534 v1533
  let v1541 : BitVec 32 := Scalar.select v1539 v1540 v1534
  let v1558 : BitVec 32 := Scalar.muli c2_i32_985 v1541
  let c2_i32_986 : BitVec 32 := 2#32
  let v1559 : BitVec 32 := Scalar.muli c2_i32_986 v2
  let v1560 : BitVec 32 := Scalar.addi v1558 v1559
  let c1_i32_987 : BitVec 32 := 1#32
  let v1561 : BitVec 32 := Scalar.addi v1560 c1_i32_987
  let c3_i32_988 : BitVec 32 := 3#32
  let c0_i32_989 : BitVec 32 := 0#32
  let v1562 : BitVec 1 := Scalar.cmpi .eq c3_i32_988 c0_i32_989
  let c1_i32_990 : BitVec 32 := 1#32
  let v1563 : BitVec 32 := Scalar.select v1562 c1_i32_990 c3_i32_988
  let v1564 : BitVec 32 := Scalar.remsi v1561 v1563
  let c0_i32_992 : BitVec 32 := 0#32
  let v1566 : BitVec 1 := Scalar.cmpi .slt v1564 c0_i32_992
  let c0_i32_993 : BitVec 32 := 0#32
  let v1567 : BitVec 1 := Scalar.cmpi .slt v1563 c0_i32_993
  let v1568 : BitVec 1 := Scalar.xori v1566 v1567
  let c0_i32_991 : BitVec 32 := 0#32
  let v1565 : BitVec 1 := Scalar.cmpi .ne v1564 c0_i32_991
  let v1569 : BitVec 1 := Scalar.andi v1568 v1565
  let v1570 : BitVec 32 := Scalar.addi v1564 v1563
  let v1571 : BitVec 32 := Scalar.select v1569 v1570 v1564
  let c1_i32_994 : BitVec 32 := 1#32
  let v1572 : BitVec 1 := Scalar.cmpi .ne v1571 c1_i32_994
  let c0_i32_975 : BitVec 32 := 0#32
  let v1542 : BitVec 1 := Scalar.cmpi .eq v2 c0_i32_975
  let c2_i32_976 : BitVec 32 := 2#32
  let v1543 : BitVec 32 := Scalar.muli c2_i32_976 v1541
  let c2_i32_977 : BitVec 32 := 2#32
  let v1544 : BitVec 32 := Scalar.muli c2_i32_977 v2
  let v1545 : BitVec 32 := Scalar.addi v1543 v1544
  let c3_i32_978 : BitVec 32 := 3#32
  let c0_i32_979 : BitVec 32 := 0#32
  let v1546 : BitVec 1 := Scalar.cmpi .eq c3_i32_978 c0_i32_979
  let c1_i32_980 : BitVec 32 := 1#32
  let v1547 : BitVec 32 := Scalar.select v1546 c1_i32_980 c3_i32_978
  let v1548 : BitVec 32 := Scalar.remsi v1545 v1547
  let c0_i32_982 : BitVec 32 := 0#32
  let v1550 : BitVec 1 := Scalar.cmpi .slt v1548 c0_i32_982
  let c0_i32_983 : BitVec 32 := 0#32
  let v1551 : BitVec 1 := Scalar.cmpi .slt v1547 c0_i32_983
  let v1552 : BitVec 1 := Scalar.xori v1550 v1551
  let c0_i32_981 : BitVec 32 := 0#32
  let v1549 : BitVec 1 := Scalar.cmpi .ne v1548 c0_i32_981
  let v1553 : BitVec 1 := Scalar.andi v1552 v1549
  let v1554 : BitVec 32 := Scalar.addi v1548 v1547
  let v1555 : BitVec 32 := Scalar.select v1553 v1554 v1548
  let c1_i32_984 : BitVec 32 := 1#32
  let v1556 : BitVec 1 := Scalar.cmpi .ne v1555 c1_i32_984
  let v1557 : BitVec 1 := Scalar.ori v1542 v1556
  let true_998 : BitVec 1 := 1#1
  let v1580 : BitVec 1 := Scalar.xori v1557 true_998
  let v1581 : BitVec 1 := Scalar.andi v1572 v1580
  let v1582 : BitVec 32 := Scalar.extui v1581
  let c0_i32_999 : BitVec 32 := 0#32
  let v1583 : BitVec 1 := Scalar.cmpi .ne v1582 c0_i32_999
  v1583

def k0_dev94 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_968 : BitVec 32 := 21#32
  let v1531 : BitVec 32 := Scalar.addi v2 c21_i32_968
  let c32_i32_969 : BitVec 32 := 32#32
  let c0_i32_970 : BitVec 32 := 0#32
  let v1532 : BitVec 1 := Scalar.cmpi .eq c32_i32_969 c0_i32_970
  let c1_i32_971 : BitVec 32 := 1#32
  let v1533 : BitVec 32 := Scalar.select v1532 c1_i32_971 c32_i32_969
  let v1534 : BitVec 32 := Scalar.remsi v1531 v1533
  let c0_i32_973 : BitVec 32 := 0#32
  let v1536 : BitVec 1 := Scalar.cmpi .slt v1534 c0_i32_973
  let c0_i32_974 : BitVec 32 := 0#32
  let v1537 : BitVec 1 := Scalar.cmpi .slt v1533 c0_i32_974
  let v1538 : BitVec 1 := Scalar.xori v1536 v1537
  let c0_i32_972 : BitVec 32 := 0#32
  let v1535 : BitVec 1 := Scalar.cmpi .ne v1534 c0_i32_972
  let v1539 : BitVec 1 := Scalar.andi v1538 v1535
  let v1540 : BitVec 32 := Scalar.addi v1534 v1533
  let v1541 : BitVec 32 := Scalar.select v1539 v1540 v1534
  let c1_i32_3566 : BitVec 32 := 1#32
  let v5774 : BitVec 32 := Scalar.muli v1541 c1_i32_3566
  let v5775 : BitVec 32 := Scalar.addi c0_i32_3567 v5774
  v5775.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1007 : BitVec 32 := 0#32
  let v1595 : BitVec 1 := Scalar.cmpi .eq v2 c0_i32_1007
  let c2_i32_1008 : BitVec 32 := 2#32
  let c22_i32_1000 : BitVec 32 := 22#32
  let v1584 : BitVec 32 := Scalar.addi v2 c22_i32_1000
  let c32_i32_1001 : BitVec 32 := 32#32
  let c0_i32_1002 : BitVec 32 := 0#32
  let v1585 : BitVec 1 := Scalar.cmpi .eq c32_i32_1001 c0_i32_1002
  let c1_i32_1003 : BitVec 32 := 1#32
  let v1586 : BitVec 32 := Scalar.select v1585 c1_i32_1003 c32_i32_1001
  let v1587 : BitVec 32 := Scalar.remsi v1584 v1586
  let c0_i32_1005 : BitVec 32 := 0#32
  let v1589 : BitVec 1 := Scalar.cmpi .slt v1587 c0_i32_1005
  let c0_i32_1006 : BitVec 32 := 0#32
  let v1590 : BitVec 1 := Scalar.cmpi .slt v1586 c0_i32_1006
  let v1591 : BitVec 1 := Scalar.xori v1589 v1590
  let c0_i32_1004 : BitVec 32 := 0#32
  let v1588 : BitVec 1 := Scalar.cmpi .ne v1587 c0_i32_1004
  let v1592 : BitVec 1 := Scalar.andi v1591 v1588
  let v1593 : BitVec 32 := Scalar.addi v1587 v1586
  let v1594 : BitVec 32 := Scalar.select v1592 v1593 v1587
  let v1596 : BitVec 32 := Scalar.muli c2_i32_1008 v1594
  let c2_i32_1009 : BitVec 32 := 2#32
  let v1597 : BitVec 32 := Scalar.muli c2_i32_1009 v2
  let v1598 : BitVec 32 := Scalar.addi v1596 v1597
  let c3_i32_1010 : BitVec 32 := 3#32
  let c0_i32_1011 : BitVec 32 := 0#32
  let v1599 : BitVec 1 := Scalar.cmpi .eq c3_i32_1010 c0_i32_1011
  let c1_i32_1012 : BitVec 32 := 1#32
  let v1600 : BitVec 32 := Scalar.select v1599 c1_i32_1012 c3_i32_1010
  let v1601 : BitVec 32 := Scalar.remsi v1598 v1600
  let c0_i32_1014 : BitVec 32 := 0#32
  let v1603 : BitVec 1 := Scalar.cmpi .slt v1601 c0_i32_1014
  let c0_i32_1015 : BitVec 32 := 0#32
  let v1604 : BitVec 1 := Scalar.cmpi .slt v1600 c0_i32_1015
  let v1605 : BitVec 1 := Scalar.xori v1603 v1604
  let c0_i32_1013 : BitVec 32 := 0#32
  let v1602 : BitVec 1 := Scalar.cmpi .ne v1601 c0_i32_1013
  let v1606 : BitVec 1 := Scalar.andi v1605 v1602
  let v1607 : BitVec 32 := Scalar.addi v1601 v1600
  let v1608 : BitVec 32 := Scalar.select v1606 v1607 v1601
  let c1_i32_1016 : BitVec 32 := 1#32
  let v1609 : BitVec 1 := Scalar.cmpi .ne v1608 c1_i32_1016
  let v1610 : BitVec 1 := Scalar.ori v1595 v1609
  let c2_i32_1017 : BitVec 32 := 2#32
  let v1611 : BitVec 32 := Scalar.muli c2_i32_1017 v1594
  let c2_i32_1018 : BitVec 32 := 2#32
  let v1612 : BitVec 32 := Scalar.muli c2_i32_1018 v2
  let v1613 : BitVec 32 := Scalar.addi v1611 v1612
  let c1_i32_1019 : BitVec 32 := 1#32
  let v1614 : BitVec 32 := Scalar.addi v1613 c1_i32_1019
  let c3_i32_1020 : BitVec 32 := 3#32
  let c0_i32_1021 : BitVec 32 := 0#32
  let v1615 : BitVec 1 := Scalar.cmpi .eq c3_i32_1020 c0_i32_1021
  let c1_i32_1022 : BitVec 32 := 1#32
  let v1616 : BitVec 32 := Scalar.select v1615 c1_i32_1022 c3_i32_1020
  let v1617 : BitVec 32 := Scalar.remsi v1614 v1616
  let c0_i32_1024 : BitVec 32 := 0#32
  let v1619 : BitVec 1 := Scalar.cmpi .slt v1617 c0_i32_1024
  let c0_i32_1025 : BitVec 32 := 0#32
  let v1620 : BitVec 1 := Scalar.cmpi .slt v1616 c0_i32_1025
  let v1621 : BitVec 1 := Scalar.xori v1619 v1620
  let c0_i32_1023 : BitVec 32 := 0#32
  let v1618 : BitVec 1 := Scalar.cmpi .ne v1617 c0_i32_1023
  let v1622 : BitVec 1 := Scalar.andi v1621 v1618
  let v1623 : BitVec 32 := Scalar.addi v1617 v1616
  let v1624 : BitVec 32 := Scalar.select v1622 v1623 v1617
  let c1_i32_1026 : BitVec 32 := 1#32
  let v1625 : BitVec 1 := Scalar.cmpi .ne v1624 c1_i32_1026
  let v1626 : BitVec 1 := Scalar.andi v1610 v1625
  let v1627 : BitVec 32 := Scalar.extui v1626
  let c0_i32_1027 : BitVec 32 := 0#32
  let v1628 : BitVec 1 := Scalar.cmpi .ne v1627 c0_i32_1027
  v1628

def k0_dev95 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1000 : BitVec 32 := 22#32
  let v1584 : BitVec 32 := Scalar.addi v2 c22_i32_1000
  let c32_i32_1001 : BitVec 32 := 32#32
  let c0_i32_1002 : BitVec 32 := 0#32
  let v1585 : BitVec 1 := Scalar.cmpi .eq c32_i32_1001 c0_i32_1002
  let c1_i32_1003 : BitVec 32 := 1#32
  let v1586 : BitVec 32 := Scalar.select v1585 c1_i32_1003 c32_i32_1001
  let v1587 : BitVec 32 := Scalar.remsi v1584 v1586
  let c0_i32_1005 : BitVec 32 := 0#32
  let v1589 : BitVec 1 := Scalar.cmpi .slt v1587 c0_i32_1005
  let c0_i32_1006 : BitVec 32 := 0#32
  let v1590 : BitVec 1 := Scalar.cmpi .slt v1586 c0_i32_1006
  let v1591 : BitVec 1 := Scalar.xori v1589 v1590
  let c0_i32_1004 : BitVec 32 := 0#32
  let v1588 : BitVec 1 := Scalar.cmpi .ne v1587 c0_i32_1004
  let v1592 : BitVec 1 := Scalar.andi v1591 v1588
  let v1593 : BitVec 32 := Scalar.addi v1587 v1586
  let v1594 : BitVec 32 := Scalar.select v1592 v1593 v1587
  let c1_i32_3564 : BitVec 32 := 1#32
  let v5774 : BitVec 32 := Scalar.muli v1594 c1_i32_3564
  let v5775 : BitVec 32 := Scalar.addi c0_i32_3565 v5774
  v5775.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1007 : BitVec 32 := 0#32
  let v1595 : BitVec 1 := Scalar.cmpi .eq v2 c0_i32_1007
  let c2_i32_1008 : BitVec 32 := 2#32
  let c22_i32_1000 : BitVec 32 := 22#32
  let v1584 : BitVec 32 := Scalar.addi v2 c22_i32_1000
  let c32_i32_1001 : BitVec 32 := 32#32
  let c0_i32_1002 : BitVec 32 := 0#32
  let v1585 : BitVec 1 := Scalar.cmpi .eq c32_i32_1001 c0_i32_1002
  let c1_i32_1003 : BitVec 32 := 1#32
  let v1586 : BitVec 32 := Scalar.select v1585 c1_i32_1003 c32_i32_1001
  let v1587 : BitVec 32 := Scalar.remsi v1584 v1586
  let c0_i32_1005 : BitVec 32 := 0#32
  let v1589 : BitVec 1 := Scalar.cmpi .slt v1587 c0_i32_1005
  let c0_i32_1006 : BitVec 32 := 0#32
  let v1590 : BitVec 1 := Scalar.cmpi .slt v1586 c0_i32_1006
  let v1591 : BitVec 1 := Scalar.xori v1589 v1590
  let c0_i32_1004 : BitVec 32 := 0#32
  let v1588 : BitVec 1 := Scalar.cmpi .ne v1587 c0_i32_1004
  let v1592 : BitVec 1 := Scalar.andi v1591 v1588
  let v1593 : BitVec 32 := Scalar.addi v1587 v1586
  let v1594 : BitVec 32 := Scalar.select v1592 v1593 v1587
  let v1596 : BitVec 32 := Scalar.muli c2_i32_1008 v1594
  let c2_i32_1009 : BitVec 32 := 2#32
  let v1597 : BitVec 32 := Scalar.muli c2_i32_1009 v2
  let v1598 : BitVec 32 := Scalar.addi v1596 v1597
  let c3_i32_1010 : BitVec 32 := 3#32
  let c0_i32_1011 : BitVec 32 := 0#32
  let v1599 : BitVec 1 := Scalar.cmpi .eq c3_i32_1010 c0_i32_1011
  let c1_i32_1012 : BitVec 32 := 1#32
  let v1600 : BitVec 32 := Scalar.select v1599 c1_i32_1012 c3_i32_1010
  let v1601 : BitVec 32 := Scalar.remsi v1598 v1600
  let c0_i32_1014 : BitVec 32 := 0#32
  let v1603 : BitVec 1 := Scalar.cmpi .slt v1601 c0_i32_1014
  let c0_i32_1015 : BitVec 32 := 0#32
  let v1604 : BitVec 1 := Scalar.cmpi .slt v1600 c0_i32_1015
  let v1605 : BitVec 1 := Scalar.xori v1603 v1604
  let c0_i32_1013 : BitVec 32 := 0#32
  let v1602 : BitVec 1 := Scalar.cmpi .ne v1601 c0_i32_1013
  let v1606 : BitVec 1 := Scalar.andi v1605 v1602
  let v1607 : BitVec 32 := Scalar.addi v1601 v1600
  let v1608 : BitVec 32 := Scalar.select v1606 v1607 v1601
  let c1_i32_1016 : BitVec 32 := 1#32
  let v1609 : BitVec 1 := Scalar.cmpi .ne v1608 c1_i32_1016
  let v1610 : BitVec 1 := Scalar.ori v1595 v1609
  let c2_i32_1017 : BitVec 32 := 2#32
  let v1611 : BitVec 32 := Scalar.muli c2_i32_1017 v1594
  let c2_i32_1018 : BitVec 32 := 2#32
  let v1612 : BitVec 32 := Scalar.muli c2_i32_1018 v2
  let v1613 : BitVec 32 := Scalar.addi v1611 v1612
  let c1_i32_1019 : BitVec 32 := 1#32
  let v1614 : BitVec 32 := Scalar.addi v1613 c1_i32_1019
  let c3_i32_1020 : BitVec 32 := 3#32
  let c0_i32_1021 : BitVec 32 := 0#32
  let v1615 : BitVec 1 := Scalar.cmpi .eq c3_i32_1020 c0_i32_1021
  let c1_i32_1022 : BitVec 32 := 1#32
  let v1616 : BitVec 32 := Scalar.select v1615 c1_i32_1022 c3_i32_1020
  let v1617 : BitVec 32 := Scalar.remsi v1614 v1616
  let c0_i32_1024 : BitVec 32 := 0#32
  let v1619 : BitVec 1 := Scalar.cmpi .slt v1617 c0_i32_1024
  let c0_i32_1025 : BitVec 32 := 0#32
  let v1620 : BitVec 1 := Scalar.cmpi .slt v1616 c0_i32_1025
  let v1621 : BitVec 1 := Scalar.xori v1619 v1620
  let c0_i32_1023 : BitVec 32 := 0#32
  let v1618 : BitVec 1 := Scalar.cmpi .ne v1617 c0_i32_1023
  let v1622 : BitVec 1 := Scalar.andi v1621 v1618
  let v1623 : BitVec 32 := Scalar.addi v1617 v1616
  let v1624 : BitVec 32 := Scalar.select v1622 v1623 v1617
  let c1_i32_1026 : BitVec 32 := 1#32
  let v1625 : BitVec 1 := Scalar.cmpi .ne v1624 c1_i32_1026
  let true_1028 : BitVec 1 := 1#1
  let v1629 : BitVec 1 := Scalar.xori v1625 true_1028
  let v1630 : BitVec 1 := Scalar.andi v1610 v1629
  let v1631 : BitVec 32 := Scalar.extui v1630
  let c0_i32_1029 : BitVec 32 := 0#32
  let v1632 : BitVec 1 := Scalar.cmpi .ne v1631 c0_i32_1029
  v1632

def k0_dev96 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1000 : BitVec 32 := 22#32
  let v1584 : BitVec 32 := Scalar.addi v2 c22_i32_1000
  let c32_i32_1001 : BitVec 32 := 32#32
  let c0_i32_1002 : BitVec 32 := 0#32
  let v1585 : BitVec 1 := Scalar.cmpi .eq c32_i32_1001 c0_i32_1002
  let c1_i32_1003 : BitVec 32 := 1#32
  let v1586 : BitVec 32 := Scalar.select v1585 c1_i32_1003 c32_i32_1001
  let v1587 : BitVec 32 := Scalar.remsi v1584 v1586
  let c0_i32_1005 : BitVec 32 := 0#32
  let v1589 : BitVec 1 := Scalar.cmpi .slt v1587 c0_i32_1005
  let c0_i32_1006 : BitVec 32 := 0#32
  let v1590 : BitVec 1 := Scalar.cmpi .slt v1586 c0_i32_1006
  let v1591 : BitVec 1 := Scalar.xori v1589 v1590
  let c0_i32_1004 : BitVec 32 := 0#32
  let v1588 : BitVec 1 := Scalar.cmpi .ne v1587 c0_i32_1004
  let v1592 : BitVec 1 := Scalar.andi v1591 v1588
  let v1593 : BitVec 32 := Scalar.addi v1587 v1586
  let v1594 : BitVec 32 := Scalar.select v1592 v1593 v1587
  let c1_i32_3566 : BitVec 32 := 1#32
  let v5774 : BitVec 32 := Scalar.muli v1594 c1_i32_3566
  let v5775 : BitVec 32 := Scalar.addi c0_i32_3567 v5774
  v5775.toNat
def k0_cond66 (d0 : Dev nD) : BitVec 1 :=
  let c2_i32_1017 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1000 : BitVec 32 := 22#32
  let v1584 : BitVec 32 := Scalar.addi v2 c22_i32_1000
  let c32_i32_1001 : BitVec 32 := 32#32
  let c0_i32_1002 : BitVec 32 := 0#32
  let v1585 : BitVec 1 := Scalar.cmpi .eq c32_i32_1001 c0_i32_1002
  let c1_i32_1003 : BitVec 32 := 1#32
  let v1586 : BitVec 32 := Scalar.select v1585 c1_i32_1003 c32_i32_1001
  let v1587 : BitVec 32 := Scalar.remsi v1584 v1586
  let c0_i32_1005 : BitVec 32 := 0#32
  let v1589 : BitVec 1 := Scalar.cmpi .slt v1587 c0_i32_1005
  let c0_i32_1006 : BitVec 32 := 0#32
  let v1590 : BitVec 1 := Scalar.cmpi .slt v1586 c0_i32_1006
  let v1591 : BitVec 1 := Scalar.xori v1589 v1590
  let c0_i32_1004 : BitVec 32 := 0#32
  let v1588 : BitVec 1 := Scalar.cmpi .ne v1587 c0_i32_1004
  let v1592 : BitVec 1 := Scalar.andi v1591 v1588
  let v1593 : BitVec 32 := Scalar.addi v1587 v1586
  let v1594 : BitVec 32 := Scalar.select v1592 v1593 v1587
  let v1611 : BitVec 32 := Scalar.muli c2_i32_1017 v1594
  let c2_i32_1018 : BitVec 32 := 2#32
  let v1612 : BitVec 32 := Scalar.muli c2_i32_1018 v2
  let v1613 : BitVec 32 := Scalar.addi v1611 v1612
  let c1_i32_1019 : BitVec 32 := 1#32
  let v1614 : BitVec 32 := Scalar.addi v1613 c1_i32_1019
  let c3_i32_1020 : BitVec 32 := 3#32
  let c0_i32_1021 : BitVec 32 := 0#32
  let v1615 : BitVec 1 := Scalar.cmpi .eq c3_i32_1020 c0_i32_1021
  let c1_i32_1022 : BitVec 32 := 1#32
  let v1616 : BitVec 32 := Scalar.select v1615 c1_i32_1022 c3_i32_1020
  let v1617 : BitVec 32 := Scalar.remsi v1614 v1616
  let c0_i32_1024 : BitVec 32 := 0#32
  let v1619 : BitVec 1 := Scalar.cmpi .slt v1617 c0_i32_1024
  let c0_i32_1025 : BitVec 32 := 0#32
  let v1620 : BitVec 1 := Scalar.cmpi .slt v1616 c0_i32_1025
  let v1621 : BitVec 1 := Scalar.xori v1619 v1620
  let c0_i32_1023 : BitVec 32 := 0#32
  let v1618 : BitVec 1 := Scalar.cmpi .ne v1617 c0_i32_1023
  let v1622 : BitVec 1 := Scalar.andi v1621 v1618
  let v1623 : BitVec 32 := Scalar.addi v1617 v1616
  let v1624 : BitVec 32 := Scalar.select v1622 v1623 v1617
  let c1_i32_1026 : BitVec 32 := 1#32
  let v1625 : BitVec 1 := Scalar.cmpi .ne v1624 c1_i32_1026
  let c0_i32_1007 : BitVec 32 := 0#32
  let v1595 : BitVec 1 := Scalar.cmpi .eq v2 c0_i32_1007
  let c2_i32_1008 : BitVec 32 := 2#32
  let v1596 : BitVec 32 := Scalar.muli c2_i32_1008 v1594
  let c2_i32_1009 : BitVec 32 := 2#32
  let v1597 : BitVec 32 := Scalar.muli c2_i32_1009 v2
  let v1598 : BitVec 32 := Scalar.addi v1596 v1597
  let c3_i32_1010 : BitVec 32 := 3#32
  let c0_i32_1011 : BitVec 32 := 0#32
  let v1599 : BitVec 1 := Scalar.cmpi .eq c3_i32_1010 c0_i32_1011
  let c1_i32_1012 : BitVec 32 := 1#32
  let v1600 : BitVec 32 := Scalar.select v1599 c1_i32_1012 c3_i32_1010
  let v1601 : BitVec 32 := Scalar.remsi v1598 v1600
  let c0_i32_1014 : BitVec 32 := 0#32
  let v1603 : BitVec 1 := Scalar.cmpi .slt v1601 c0_i32_1014
  let c0_i32_1015 : BitVec 32 := 0#32
  let v1604 : BitVec 1 := Scalar.cmpi .slt v1600 c0_i32_1015
  let v1605 : BitVec 1 := Scalar.xori v1603 v1604
  let c0_i32_1013 : BitVec 32 := 0#32
  let v1602 : BitVec 1 := Scalar.cmpi .ne v1601 c0_i32_1013
  let v1606 : BitVec 1 := Scalar.andi v1605 v1602
  let v1607 : BitVec 32 := Scalar.addi v1601 v1600
  let v1608 : BitVec 32 := Scalar.select v1606 v1607 v1601
  let c1_i32_1016 : BitVec 32 := 1#32
  let v1609 : BitVec 1 := Scalar.cmpi .ne v1608 c1_i32_1016
  let v1610 : BitVec 1 := Scalar.ori v1595 v1609
  let true_1030 : BitVec 1 := 1#1
  let v1633 : BitVec 1 := Scalar.xori v1610 true_1030
  let v1634 : BitVec 1 := Scalar.andi v1625 v1633
  let v1635 : BitVec 32 := Scalar.extui v1634
  let c0_i32_1031 : BitVec 32 := 0#32
  let v1636 : BitVec 1 := Scalar.cmpi .ne v1635 c0_i32_1031
  v1636

def k0_dev97 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1000 : BitVec 32 := 22#32
  let v1584 : BitVec 32 := Scalar.addi v2 c22_i32_1000
  let c32_i32_1001 : BitVec 32 := 32#32
  let c0_i32_1002 : BitVec 32 := 0#32
  let v1585 : BitVec 1 := Scalar.cmpi .eq c32_i32_1001 c0_i32_1002
  let c1_i32_1003 : BitVec 32 := 1#32
  let v1586 : BitVec 32 := Scalar.select v1585 c1_i32_1003 c32_i32_1001
  let v1587 : BitVec 32 := Scalar.remsi v1584 v1586
  let c0_i32_1005 : BitVec 32 := 0#32
  let v1589 : BitVec 1 := Scalar.cmpi .slt v1587 c0_i32_1005
  let c0_i32_1006 : BitVec 32 := 0#32
  let v1590 : BitVec 1 := Scalar.cmpi .slt v1586 c0_i32_1006
  let v1591 : BitVec 1 := Scalar.xori v1589 v1590
  let c0_i32_1004 : BitVec 32 := 0#32
  let v1588 : BitVec 1 := Scalar.cmpi .ne v1587 c0_i32_1004
  let v1592 : BitVec 1 := Scalar.andi v1591 v1588
  let v1593 : BitVec 32 := Scalar.addi v1587 v1586
  let v1594 : BitVec 32 := Scalar.select v1592 v1593 v1587
  let c1_i32_3566 : BitVec 32 := 1#32
  let v5774 : BitVec 32 := Scalar.muli v1594 c1_i32_3566
  let v5775 : BitVec 32 := Scalar.addi c0_i32_3567 v5774
  v5775.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1039 : BitVec 32 := 0#32
  let v1648 : BitVec 1 := Scalar.cmpi .eq v2 c0_i32_1039
  let c2_i32_1040 : BitVec 32 := 2#32
  let c23_i32_1032 : BitVec 32 := 23#32
  let v1637 : BitVec 32 := Scalar.addi v2 c23_i32_1032
  let c32_i32_1033 : BitVec 32 := 32#32
  let c0_i32_1034 : BitVec 32 := 0#32
  let v1638 : BitVec 1 := Scalar.cmpi .eq c32_i32_1033 c0_i32_1034
  let c1_i32_1035 : BitVec 32 := 1#32
  let v1639 : BitVec 32 := Scalar.select v1638 c1_i32_1035 c32_i32_1033
  let v1640 : BitVec 32 := Scalar.remsi v1637 v1639
  let c0_i32_1037 : BitVec 32 := 0#32
  let v1642 : BitVec 1 := Scalar.cmpi .slt v1640 c0_i32_1037
  let c0_i32_1038 : BitVec 32 := 0#32
  let v1643 : BitVec 1 := Scalar.cmpi .slt v1639 c0_i32_1038
  let v1644 : BitVec 1 := Scalar.xori v1642 v1643
  let c0_i32_1036 : BitVec 32 := 0#32
  let v1641 : BitVec 1 := Scalar.cmpi .ne v1640 c0_i32_1036
  let v1645 : BitVec 1 := Scalar.andi v1644 v1641
  let v1646 : BitVec 32 := Scalar.addi v1640 v1639
  let v1647 : BitVec 32 := Scalar.select v1645 v1646 v1640
  let v1649 : BitVec 32 := Scalar.muli c2_i32_1040 v1647
  let c2_i32_1041 : BitVec 32 := 2#32
  let v1650 : BitVec 32 := Scalar.muli c2_i32_1041 v2
  let v1651 : BitVec 32 := Scalar.addi v1649 v1650
  let c3_i32_1042 : BitVec 32 := 3#32
  let c0_i32_1043 : BitVec 32 := 0#32
  let v1652 : BitVec 1 := Scalar.cmpi .eq c3_i32_1042 c0_i32_1043
  let c1_i32_1044 : BitVec 32 := 1#32
  let v1653 : BitVec 32 := Scalar.select v1652 c1_i32_1044 c3_i32_1042
  let v1654 : BitVec 32 := Scalar.remsi v1651 v1653
  let c0_i32_1046 : BitVec 32 := 0#32
  let v1656 : BitVec 1 := Scalar.cmpi .slt v1654 c0_i32_1046
  let c0_i32_1047 : BitVec 32 := 0#32
  let v1657 : BitVec 1 := Scalar.cmpi .slt v1653 c0_i32_1047
  let v1658 : BitVec 1 := Scalar.xori v1656 v1657
  let c0_i32_1045 : BitVec 32 := 0#32
  let v1655 : BitVec 1 := Scalar.cmpi .ne v1654 c0_i32_1045
  let v1659 : BitVec 1 := Scalar.andi v1658 v1655
  let v1660 : BitVec 32 := Scalar.addi v1654 v1653
  let v1661 : BitVec 32 := Scalar.select v1659 v1660 v1654
  let c1_i32_1048 : BitVec 32 := 1#32
  let v1662 : BitVec 1 := Scalar.cmpi .ne v1661 c1_i32_1048
  let v1663 : BitVec 1 := Scalar.ori v1648 v1662
  let c2_i32_1049 : BitVec 32 := 2#32
  let v1664 : BitVec 32 := Scalar.muli c2_i32_1049 v1647
  let c2_i32_1050 : BitVec 32 := 2#32
  let v1665 : BitVec 32 := Scalar.muli c2_i32_1050 v2
  let v1666 : BitVec 32 := Scalar.addi v1664 v1665
  let c1_i32_1051 : BitVec 32 := 1#32
  let v1667 : BitVec 32 := Scalar.addi v1666 c1_i32_1051
  let c3_i32_1052 : BitVec 32 := 3#32
  let c0_i32_1053 : BitVec 32 := 0#32
  let v1668 : BitVec 1 := Scalar.cmpi .eq c3_i32_1052 c0_i32_1053
  let c1_i32_1054 : BitVec 32 := 1#32
  let v1669 : BitVec 32 := Scalar.select v1668 c1_i32_1054 c3_i32_1052
  let v1670 : BitVec 32 := Scalar.remsi v1667 v1669
  let c0_i32_1056 : BitVec 32 := 0#32
  let v1672 : BitVec 1 := Scalar.cmpi .slt v1670 c0_i32_1056
  let c0_i32_1057 : BitVec 32 := 0#32
  let v1673 : BitVec 1 := Scalar.cmpi .slt v1669 c0_i32_1057
  let v1674 : BitVec 1 := Scalar.xori v1672 v1673
  let c0_i32_1055 : BitVec 32 := 0#32
  let v1671 : BitVec 1 := Scalar.cmpi .ne v1670 c0_i32_1055
  let v1675 : BitVec 1 := Scalar.andi v1674 v1671
  let v1676 : BitVec 32 := Scalar.addi v1670 v1669
  let v1677 : BitVec 32 := Scalar.select v1675 v1676 v1670
  let c1_i32_1058 : BitVec 32 := 1#32
  let v1678 : BitVec 1 := Scalar.cmpi .ne v1677 c1_i32_1058
  let v1679 : BitVec 1 := Scalar.andi v1663 v1678
  let v1680 : BitVec 32 := Scalar.extui v1679
  let c0_i32_1059 : BitVec 32 := 0#32
  let v1681 : BitVec 1 := Scalar.cmpi .ne v1680 c0_i32_1059
  v1681

def k0_dev98 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1032 : BitVec 32 := 23#32
  let v1637 : BitVec 32 := Scalar.addi v2 c23_i32_1032
  let c32_i32_1033 : BitVec 32 := 32#32
  let c0_i32_1034 : BitVec 32 := 0#32
  let v1638 : BitVec 1 := Scalar.cmpi .eq c32_i32_1033 c0_i32_1034
  let c1_i32_1035 : BitVec 32 := 1#32
  let v1639 : BitVec 32 := Scalar.select v1638 c1_i32_1035 c32_i32_1033
  let v1640 : BitVec 32 := Scalar.remsi v1637 v1639
  let c0_i32_1037 : BitVec 32 := 0#32
  let v1642 : BitVec 1 := Scalar.cmpi .slt v1640 c0_i32_1037
  let c0_i32_1038 : BitVec 32 := 0#32
  let v1643 : BitVec 1 := Scalar.cmpi .slt v1639 c0_i32_1038
  let v1644 : BitVec 1 := Scalar.xori v1642 v1643
  let c0_i32_1036 : BitVec 32 := 0#32
  let v1641 : BitVec 1 := Scalar.cmpi .ne v1640 c0_i32_1036
  let v1645 : BitVec 1 := Scalar.andi v1644 v1641
  let v1646 : BitVec 32 := Scalar.addi v1640 v1639
  let v1647 : BitVec 32 := Scalar.select v1645 v1646 v1640
  let c1_i32_3564 : BitVec 32 := 1#32
  let v5774 : BitVec 32 := Scalar.muli v1647 c1_i32_3564
  let v5775 : BitVec 32 := Scalar.addi c0_i32_3565 v5774
  v5775.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1039 : BitVec 32 := 0#32
  let v1648 : BitVec 1 := Scalar.cmpi .eq v2 c0_i32_1039
  let c2_i32_1040 : BitVec 32 := 2#32
  let c23_i32_1032 : BitVec 32 := 23#32
  let v1637 : BitVec 32 := Scalar.addi v2 c23_i32_1032
  let c32_i32_1033 : BitVec 32 := 32#32
  let c0_i32_1034 : BitVec 32 := 0#32
  let v1638 : BitVec 1 := Scalar.cmpi .eq c32_i32_1033 c0_i32_1034
  let c1_i32_1035 : BitVec 32 := 1#32
  let v1639 : BitVec 32 := Scalar.select v1638 c1_i32_1035 c32_i32_1033
  let v1640 : BitVec 32 := Scalar.remsi v1637 v1639
  let c0_i32_1037 : BitVec 32 := 0#32
  let v1642 : BitVec 1 := Scalar.cmpi .slt v1640 c0_i32_1037
  let c0_i32_1038 : BitVec 32 := 0#32
  let v1643 : BitVec 1 := Scalar.cmpi .slt v1639 c0_i32_1038
  let v1644 : BitVec 1 := Scalar.xori v1642 v1643
  let c0_i32_1036 : BitVec 32 := 0#32
  let v1641 : BitVec 1 := Scalar.cmpi .ne v1640 c0_i32_1036
  let v1645 : BitVec 1 := Scalar.andi v1644 v1641
  let v1646 : BitVec 32 := Scalar.addi v1640 v1639
  let v1647 : BitVec 32 := Scalar.select v1645 v1646 v1640
  let v1649 : BitVec 32 := Scalar.muli c2_i32_1040 v1647
  let c2_i32_1041 : BitVec 32 := 2#32
  let v1650 : BitVec 32 := Scalar.muli c2_i32_1041 v2
  let v1651 : BitVec 32 := Scalar.addi v1649 v1650
  let c3_i32_1042 : BitVec 32 := 3#32
  let c0_i32_1043 : BitVec 32 := 0#32
  let v1652 : BitVec 1 := Scalar.cmpi .eq c3_i32_1042 c0_i32_1043
  let c1_i32_1044 : BitVec 32 := 1#32
  let v1653 : BitVec 32 := Scalar.select v1652 c1_i32_1044 c3_i32_1042
  let v1654 : BitVec 32 := Scalar.remsi v1651 v1653
  let c0_i32_1046 : BitVec 32 := 0#32
  let v1656 : BitVec 1 := Scalar.cmpi .slt v1654 c0_i32_1046
  let c0_i32_1047 : BitVec 32 := 0#32
  let v1657 : BitVec 1 := Scalar.cmpi .slt v1653 c0_i32_1047
  let v1658 : BitVec 1 := Scalar.xori v1656 v1657
  let c0_i32_1045 : BitVec 32 := 0#32
  let v1655 : BitVec 1 := Scalar.cmpi .ne v1654 c0_i32_1045
  let v1659 : BitVec 1 := Scalar.andi v1658 v1655
  let v1660 : BitVec 32 := Scalar.addi v1654 v1653
  let v1661 : BitVec 32 := Scalar.select v1659 v1660 v1654
  let c1_i32_1048 : BitVec 32 := 1#32
  let v1662 : BitVec 1 := Scalar.cmpi .ne v1661 c1_i32_1048
  let v1663 : BitVec 1 := Scalar.ori v1648 v1662
  let c2_i32_1049 : BitVec 32 := 2#32
  let v1664 : BitVec 32 := Scalar.muli c2_i32_1049 v1647
  let c2_i32_1050 : BitVec 32 := 2#32
  let v1665 : BitVec 32 := Scalar.muli c2_i32_1050 v2
  let v1666 : BitVec 32 := Scalar.addi v1664 v1665
  let c1_i32_1051 : BitVec 32 := 1#32
  let v1667 : BitVec 32 := Scalar.addi v1666 c1_i32_1051
  let c3_i32_1052 : BitVec 32 := 3#32
  let c0_i32_1053 : BitVec 32 := 0#32
  let v1668 : BitVec 1 := Scalar.cmpi .eq c3_i32_1052 c0_i32_1053
  let c1_i32_1054 : BitVec 32 := 1#32
  let v1669 : BitVec 32 := Scalar.select v1668 c1_i32_1054 c3_i32_1052
  let v1670 : BitVec 32 := Scalar.remsi v1667 v1669
  let c0_i32_1056 : BitVec 32 := 0#32
  let v1672 : BitVec 1 := Scalar.cmpi .slt v1670 c0_i32_1056
  let c0_i32_1057 : BitVec 32 := 0#32
  let v1673 : BitVec 1 := Scalar.cmpi .slt v1669 c0_i32_1057
  let v1674 : BitVec 1 := Scalar.xori v1672 v1673
  let c0_i32_1055 : BitVec 32 := 0#32
  let v1671 : BitVec 1 := Scalar.cmpi .ne v1670 c0_i32_1055
  let v1675 : BitVec 1 := Scalar.andi v1674 v1671
  let v1676 : BitVec 32 := Scalar.addi v1670 v1669
  let v1677 : BitVec 32 := Scalar.select v1675 v1676 v1670
  let c1_i32_1058 : BitVec 32 := 1#32
  let v1678 : BitVec 1 := Scalar.cmpi .ne v1677 c1_i32_1058
  let true_1060 : BitVec 1 := 1#1
  let v1682 : BitVec 1 := Scalar.xori v1678 true_1060
  let v1683 : BitVec 1 := Scalar.andi v1663 v1682
  let v1684 : BitVec 32 := Scalar.extui v1683
  let c0_i32_1061 : BitVec 32 := 0#32
  let v1685 : BitVec 1 := Scalar.cmpi .ne v1684 c0_i32_1061
  v1685

def k0_dev99 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1032 : BitVec 32 := 23#32
  let v1637 : BitVec 32 := Scalar.addi v2 c23_i32_1032
  let c32_i32_1033 : BitVec 32 := 32#32
  let c0_i32_1034 : BitVec 32 := 0#32
  let v1638 : BitVec 1 := Scalar.cmpi .eq c32_i32_1033 c0_i32_1034
  let c1_i32_1035 : BitVec 32 := 1#32
  let v1639 : BitVec 32 := Scalar.select v1638 c1_i32_1035 c32_i32_1033
  let v1640 : BitVec 32 := Scalar.remsi v1637 v1639
  let c0_i32_1037 : BitVec 32 := 0#32
  let v1642 : BitVec 1 := Scalar.cmpi .slt v1640 c0_i32_1037
  let c0_i32_1038 : BitVec 32 := 0#32
  let v1643 : BitVec 1 := Scalar.cmpi .slt v1639 c0_i32_1038
  let v1644 : BitVec 1 := Scalar.xori v1642 v1643
  let c0_i32_1036 : BitVec 32 := 0#32
  let v1641 : BitVec 1 := Scalar.cmpi .ne v1640 c0_i32_1036
  let v1645 : BitVec 1 := Scalar.andi v1644 v1641
  let v1646 : BitVec 32 := Scalar.addi v1640 v1639
  let v1647 : BitVec 32 := Scalar.select v1645 v1646 v1640
  let c1_i32_3566 : BitVec 32 := 1#32
  let v5774 : BitVec 32 := Scalar.muli v1647 c1_i32_3566
  let v5775 : BitVec 32 := Scalar.addi c0_i32_3567 v5774
  v5775.toNat
def k0_cond69 (d0 : Dev nD) : BitVec 1 :=
  let c2_i32_1049 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1032 : BitVec 32 := 23#32
  let v1637 : BitVec 32 := Scalar.addi v2 c23_i32_1032
  let c32_i32_1033 : BitVec 32 := 32#32
  let c0_i32_1034 : BitVec 32 := 0#32
  let v1638 : BitVec 1 := Scalar.cmpi .eq c32_i32_1033 c0_i32_1034
  let c1_i32_1035 : BitVec 32 := 1#32
  let v1639 : BitVec 32 := Scalar.select v1638 c1_i32_1035 c32_i32_1033
  let v1640 : BitVec 32 := Scalar.remsi v1637 v1639
  let c0_i32_1037 : BitVec 32 := 0#32
  let v1642 : BitVec 1 := Scalar.cmpi .slt v1640 c0_i32_1037
  let c0_i32_1038 : BitVec 32 := 0#32
  let v1643 : BitVec 1 := Scalar.cmpi .slt v1639 c0_i32_1038
  let v1644 : BitVec 1 := Scalar.xori v1642 v1643
  let c0_i32_1036 : BitVec 32 := 0#32
  let v1641 : BitVec 1 := Scalar.cmpi .ne v1640 c0_i32_1036
  let v1645 : BitVec 1 := Scalar.andi v1644 v1641
  let v1646 : BitVec 32 := Scalar.addi v1640 v1639
  let v1647 : BitVec 32 := Scalar.select v1645 v1646 v1640
  let v1664 : BitVec 32 := Scalar.muli c2_i32_1049 v1647
  let c2_i32_1050 : BitVec 32 := 2#32
  let v1665 : BitVec 32 := Scalar.muli c2_i32_1050 v2
  let v1666 : BitVec 32 := Scalar.addi v1664 v1665
  let c1_i32_1051 : BitVec 32 := 1#32
  let v1667 : BitVec 32 := Scalar.addi v1666 c1_i32_1051
  let c3_i32_1052 : BitVec 32 := 3#32
  let c0_i32_1053 : BitVec 32 := 0#32
  let v1668 : BitVec 1 := Scalar.cmpi .eq c3_i32_1052 c0_i32_1053
  let c1_i32_1054 : BitVec 32 := 1#32
  let v1669 : BitVec 32 := Scalar.select v1668 c1_i32_1054 c3_i32_1052
  let v1670 : BitVec 32 := Scalar.remsi v1667 v1669
  let c0_i32_1056 : BitVec 32 := 0#32
  let v1672 : BitVec 1 := Scalar.cmpi .slt v1670 c0_i32_1056
  let c0_i32_1057 : BitVec 32 := 0#32
  let v1673 : BitVec 1 := Scalar.cmpi .slt v1669 c0_i32_1057
  let v1674 : BitVec 1 := Scalar.xori v1672 v1673
  let c0_i32_1055 : BitVec 32 := 0#32
  let v1671 : BitVec 1 := Scalar.cmpi .ne v1670 c0_i32_1055
  let v1675 : BitVec 1 := Scalar.andi v1674 v1671
  let v1676 : BitVec 32 := Scalar.addi v1670 v1669
  let v1677 : BitVec 32 := Scalar.select v1675 v1676 v1670
  let c1_i32_1058 : BitVec 32 := 1#32
  let v1678 : BitVec 1 := Scalar.cmpi .ne v1677 c1_i32_1058
  let c0_i32_1039 : BitVec 32 := 0#32
  let v1648 : BitVec 1 := Scalar.cmpi .eq v2 c0_i32_1039
  let c2_i32_1040 : BitVec 32 := 2#32
  let v1649 : BitVec 32 := Scalar.muli c2_i32_1040 v1647
  let c2_i32_1041 : BitVec 32 := 2#32
  let v1650 : BitVec 32 := Scalar.muli c2_i32_1041 v2
  let v1651 : BitVec 32 := Scalar.addi v1649 v1650
  let c3_i32_1042 : BitVec 32 := 3#32
  let c0_i32_1043 : BitVec 32 := 0#32
  let v1652 : BitVec 1 := Scalar.cmpi .eq c3_i32_1042 c0_i32_1043
  let c1_i32_1044 : BitVec 32 := 1#32
  let v1653 : BitVec 32 := Scalar.select v1652 c1_i32_1044 c3_i32_1042
  let v1654 : BitVec 32 := Scalar.remsi v1651 v1653
  let c0_i32_1046 : BitVec 32 := 0#32
  let v1656 : BitVec 1 := Scalar.cmpi .slt v1654 c0_i32_1046
  let c0_i32_1047 : BitVec 32 := 0#32
  let v1657 : BitVec 1 := Scalar.cmpi .slt v1653 c0_i32_1047
  let v1658 : BitVec 1 := Scalar.xori v1656 v1657
  let c0_i32_1045 : BitVec 32 := 0#32
  let v1655 : BitVec 1 := Scalar.cmpi .ne v1654 c0_i32_1045
  let v1659 : BitVec 1 := Scalar.andi v1658 v1655
  let v1660 : BitVec 32 := Scalar.addi v1654 v1653
  let v1661 : BitVec 32 := Scalar.select v1659 v1660 v1654
  let c1_i32_1048 : BitVec 32 := 1#32
  let v1662 : BitVec 1 := Scalar.cmpi .ne v1661 c1_i32_1048
  let v1663 : BitVec 1 := Scalar.ori v1648 v1662
  let true_1062 : BitVec 1 := 1#1
  let v1686 : BitVec 1 := Scalar.xori v1663 true_1062
  let v1687 : BitVec 1 := Scalar.andi v1678 v1686
  let v1688 : BitVec 32 := Scalar.extui v1687
  let c0_i32_1063 : BitVec 32 := 0#32
  let v1689 : BitVec 1 := Scalar.cmpi .ne v1688 c0_i32_1063
  v1689

def k0_dev100 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1032 : BitVec 32 := 23#32
  let v1637 : BitVec 32 := Scalar.addi v2 c23_i32_1032
  let c32_i32_1033 : BitVec 32 := 32#32
  let c0_i32_1034 : BitVec 32 := 0#32
  let v1638 : BitVec 1 := Scalar.cmpi .eq c32_i32_1033 c0_i32_1034
  let c1_i32_1035 : BitVec 32 := 1#32
  let v1639 : BitVec 32 := Scalar.select v1638 c1_i32_1035 c32_i32_1033
  let v1640 : BitVec 32 := Scalar.remsi v1637 v1639
  let c0_i32_1037 : BitVec 32 := 0#32
  let v1642 : BitVec 1 := Scalar.cmpi .slt v1640 c0_i32_1037
  let c0_i32_1038 : BitVec 32 := 0#32
  let v1643 : BitVec 1 := Scalar.cmpi .slt v1639 c0_i32_1038
  let v1644 : BitVec 1 := Scalar.xori v1642 v1643
  let c0_i32_1036 : BitVec 32 := 0#32
  let v1641 : BitVec 1 := Scalar.cmpi .ne v1640 c0_i32_1036
  let v1645 : BitVec 1 := Scalar.andi v1644 v1641
  let v1646 : BitVec 32 := Scalar.addi v1640 v1639
  let v1647 : BitVec 32 := Scalar.select v1645 v1646 v1640
  let c1_i32_3566 : BitVec 32 := 1#32
  let v5774 : BitVec 32 := Scalar.muli v1647 c1_i32_3566
  let v5775 : BitVec 32 := Scalar.addi c0_i32_3567 v5774
  v5775.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1071 : BitVec 32 := 0#32
  let v1701 : BitVec 1 := Scalar.cmpi .eq v2 c0_i32_1071
  let c2_i32_1072 : BitVec 32 := 2#32
  let c24_i32_1064 : BitVec 32 := 24#32
  let v1690 : BitVec 32 := Scalar.addi v2 c24_i32_1064
  let c32_i32_1065 : BitVec 32 := 32#32
  let c0_i32_1066 : BitVec 32 := 0#32
  let v1691 : BitVec 1 := Scalar.cmpi .eq c32_i32_1065 c0_i32_1066
  let c1_i32_1067 : BitVec 32 := 1#32
  let v1692 : BitVec 32 := Scalar.select v1691 c1_i32_1067 c32_i32_1065
  let v1693 : BitVec 32 := Scalar.remsi v1690 v1692
  let c0_i32_1069 : BitVec 32 := 0#32
  let v1695 : BitVec 1 := Scalar.cmpi .slt v1693 c0_i32_1069
  let c0_i32_1070 : BitVec 32 := 0#32
  let v1696 : BitVec 1 := Scalar.cmpi .slt v1692 c0_i32_1070
  let v1697 : BitVec 1 := Scalar.xori v1695 v1696
  let c0_i32_1068 : BitVec 32 := 0#32
  let v1694 : BitVec 1 := Scalar.cmpi .ne v1693 c0_i32_1068
  let v1698 : BitVec 1 := Scalar.andi v1697 v1694
  let v1699 : BitVec 32 := Scalar.addi v1693 v1692
  let v1700 : BitVec 32 := Scalar.select v1698 v1699 v1693
  let v1702 : BitVec 32 := Scalar.muli c2_i32_1072 v1700
  let c2_i32_1073 : BitVec 32 := 2#32
  let v1703 : BitVec 32 := Scalar.muli c2_i32_1073 v2
  let v1704 : BitVec 32 := Scalar.addi v1702 v1703
  let c3_i32_1074 : BitVec 32 := 3#32
  let c0_i32_1075 : BitVec 32 := 0#32
  let v1705 : BitVec 1 := Scalar.cmpi .eq c3_i32_1074 c0_i32_1075
  let c1_i32_1076 : BitVec 32 := 1#32
  let v1706 : BitVec 32 := Scalar.select v1705 c1_i32_1076 c3_i32_1074
  let v1707 : BitVec 32 := Scalar.remsi v1704 v1706
  let c0_i32_1078 : BitVec 32 := 0#32
  let v1709 : BitVec 1 := Scalar.cmpi .slt v1707 c0_i32_1078
  let c0_i32_1079 : BitVec 32 := 0#32
  let v1710 : BitVec 1 := Scalar.cmpi .slt v1706 c0_i32_1079
  let v1711 : BitVec 1 := Scalar.xori v1709 v1710
  let c0_i32_1077 : BitVec 32 := 0#32
  let v1708 : BitVec 1 := Scalar.cmpi .ne v1707 c0_i32_1077
  let v1712 : BitVec 1 := Scalar.andi v1711 v1708
  let v1713 : BitVec 32 := Scalar.addi v1707 v1706
  let v1714 : BitVec 32 := Scalar.select v1712 v1713 v1707
  let c1_i32_1080 : BitVec 32 := 1#32
  let v1715 : BitVec 1 := Scalar.cmpi .ne v1714 c1_i32_1080
  let v1716 : BitVec 1 := Scalar.ori v1701 v1715
  let c2_i32_1081 : BitVec 32 := 2#32
  let v1717 : BitVec 32 := Scalar.muli c2_i32_1081 v1700
  let c2_i32_1082 : BitVec 32 := 2#32
  let v1718 : BitVec 32 := Scalar.muli c2_i32_1082 v2
  let v1719 : BitVec 32 := Scalar.addi v1717 v1718
  let c1_i32_1083 : BitVec 32 := 1#32
  let v1720 : BitVec 32 := Scalar.addi v1719 c1_i32_1083
  let c3_i32_1084 : BitVec 32 := 3#32
  let c0_i32_1085 : BitVec 32 := 0#32
  let v1721 : BitVec 1 := Scalar.cmpi .eq c3_i32_1084 c0_i32_1085
  let c1_i32_1086 : BitVec 32 := 1#32
  let v1722 : BitVec 32 := Scalar.select v1721 c1_i32_1086 c3_i32_1084
  let v1723 : BitVec 32 := Scalar.remsi v1720 v1722
  let c0_i32_1088 : BitVec 32 := 0#32
  let v1725 : BitVec 1 := Scalar.cmpi .slt v1723 c0_i32_1088
  let c0_i32_1089 : BitVec 32 := 0#32
  let v1726 : BitVec 1 := Scalar.cmpi .slt v1722 c0_i32_1089
  let v1727 : BitVec 1 := Scalar.xori v1725 v1726
  let c0_i32_1087 : BitVec 32 := 0#32
  let v1724 : BitVec 1 := Scalar.cmpi .ne v1723 c0_i32_1087
  let v1728 : BitVec 1 := Scalar.andi v1727 v1724
  let v1729 : BitVec 32 := Scalar.addi v1723 v1722
  let v1730 : BitVec 32 := Scalar.select v1728 v1729 v1723
  let c1_i32_1090 : BitVec 32 := 1#32
  let v1731 : BitVec 1 := Scalar.cmpi .ne v1730 c1_i32_1090
  let v1732 : BitVec 1 := Scalar.andi v1716 v1731
  let v1733 : BitVec 32 := Scalar.extui v1732
  let c0_i32_1091 : BitVec 32 := 0#32
  let v1734 : BitVec 1 := Scalar.cmpi .ne v1733 c0_i32_1091
  v1734

def k0_dev101 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1064 : BitVec 32 := 24#32
  let v1690 : BitVec 32 := Scalar.addi v2 c24_i32_1064
  let c32_i32_1065 : BitVec 32 := 32#32
  let c0_i32_1066 : BitVec 32 := 0#32
  let v1691 : BitVec 1 := Scalar.cmpi .eq c32_i32_1065 c0_i32_1066
  let c1_i32_1067 : BitVec 32 := 1#32
  let v1692 : BitVec 32 := Scalar.select v1691 c1_i32_1067 c32_i32_1065
  let v1693 : BitVec 32 := Scalar.remsi v1690 v1692
  let c0_i32_1069 : BitVec 32 := 0#32
  let v1695 : BitVec 1 := Scalar.cmpi .slt v1693 c0_i32_1069
  let c0_i32_1070 : BitVec 32 := 0#32
  let v1696 : BitVec 1 := Scalar.cmpi .slt v1692 c0_i32_1070
  let v1697 : BitVec 1 := Scalar.xori v1695 v1696
  let c0_i32_1068 : BitVec 32 := 0#32
  let v1694 : BitVec 1 := Scalar.cmpi .ne v1693 c0_i32_1068
  let v1698 : BitVec 1 := Scalar.andi v1697 v1694
  let v1699 : BitVec 32 := Scalar.addi v1693 v1692
  let v1700 : BitVec 32 := Scalar.select v1698 v1699 v1693
  let c1_i32_3564 : BitVec 32 := 1#32
  let v5774 : BitVec 32 := Scalar.muli v1700 c1_i32_3564
  let v5775 : BitVec 32 := Scalar.addi c0_i32_3565 v5774
  v5775.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1071 : BitVec 32 := 0#32
  let v1701 : BitVec 1 := Scalar.cmpi .eq v2 c0_i32_1071
  let c2_i32_1072 : BitVec 32 := 2#32
  let c24_i32_1064 : BitVec 32 := 24#32
  let v1690 : BitVec 32 := Scalar.addi v2 c24_i32_1064
  let c32_i32_1065 : BitVec 32 := 32#32
  let c0_i32_1066 : BitVec 32 := 0#32
  let v1691 : BitVec 1 := Scalar.cmpi .eq c32_i32_1065 c0_i32_1066
  let c1_i32_1067 : BitVec 32 := 1#32
  let v1692 : BitVec 32 := Scalar.select v1691 c1_i32_1067 c32_i32_1065
  let v1693 : BitVec 32 := Scalar.remsi v1690 v1692
  let c0_i32_1069 : BitVec 32 := 0#32
  let v1695 : BitVec 1 := Scalar.cmpi .slt v1693 c0_i32_1069
  let c0_i32_1070 : BitVec 32 := 0#32
  let v1696 : BitVec 1 := Scalar.cmpi .slt v1692 c0_i32_1070
  let v1697 : BitVec 1 := Scalar.xori v1695 v1696
  let c0_i32_1068 : BitVec 32 := 0#32
  let v1694 : BitVec 1 := Scalar.cmpi .ne v1693 c0_i32_1068
  let v1698 : BitVec 1 := Scalar.andi v1697 v1694
  let v1699 : BitVec 32 := Scalar.addi v1693 v1692
  let v1700 : BitVec 32 := Scalar.select v1698 v1699 v1693
  let v1702 : BitVec 32 := Scalar.muli c2_i32_1072 v1700
  let c2_i32_1073 : BitVec 32 := 2#32
  let v1703 : BitVec 32 := Scalar.muli c2_i32_1073 v2
  let v1704 : BitVec 32 := Scalar.addi v1702 v1703
  let c3_i32_1074 : BitVec 32 := 3#32
  let c0_i32_1075 : BitVec 32 := 0#32
  let v1705 : BitVec 1 := Scalar.cmpi .eq c3_i32_1074 c0_i32_1075
  let c1_i32_1076 : BitVec 32 := 1#32
  let v1706 : BitVec 32 := Scalar.select v1705 c1_i32_1076 c3_i32_1074
  let v1707 : BitVec 32 := Scalar.remsi v1704 v1706
  let c0_i32_1078 : BitVec 32 := 0#32
  let v1709 : BitVec 1 := Scalar.cmpi .slt v1707 c0_i32_1078
  let c0_i32_1079 : BitVec 32 := 0#32
  let v1710 : BitVec 1 := Scalar.cmpi .slt v1706 c0_i32_1079
  let v1711 : BitVec 1 := Scalar.xori v1709 v1710
  let c0_i32_1077 : BitVec 32 := 0#32
  let v1708 : BitVec 1 := Scalar.cmpi .ne v1707 c0_i32_1077
  let v1712 : BitVec 1 := Scalar.andi v1711 v1708
  let v1713 : BitVec 32 := Scalar.addi v1707 v1706
  let v1714 : BitVec 32 := Scalar.select v1712 v1713 v1707
  let c1_i32_1080 : BitVec 32 := 1#32
  let v1715 : BitVec 1 := Scalar.cmpi .ne v1714 c1_i32_1080
  let v1716 : BitVec 1 := Scalar.ori v1701 v1715
  let c2_i32_1081 : BitVec 32 := 2#32
  let v1717 : BitVec 32 := Scalar.muli c2_i32_1081 v1700
  let c2_i32_1082 : BitVec 32 := 2#32
  let v1718 : BitVec 32 := Scalar.muli c2_i32_1082 v2
  let v1719 : BitVec 32 := Scalar.addi v1717 v1718
  let c1_i32_1083 : BitVec 32 := 1#32
  let v1720 : BitVec 32 := Scalar.addi v1719 c1_i32_1083
  let c3_i32_1084 : BitVec 32 := 3#32
  let c0_i32_1085 : BitVec 32 := 0#32
  let v1721 : BitVec 1 := Scalar.cmpi .eq c3_i32_1084 c0_i32_1085
  let c1_i32_1086 : BitVec 32 := 1#32
  let v1722 : BitVec 32 := Scalar.select v1721 c1_i32_1086 c3_i32_1084
  let v1723 : BitVec 32 := Scalar.remsi v1720 v1722
  let c0_i32_1088 : BitVec 32 := 0#32
  let v1725 : BitVec 1 := Scalar.cmpi .slt v1723 c0_i32_1088
  let c0_i32_1089 : BitVec 32 := 0#32
  let v1726 : BitVec 1 := Scalar.cmpi .slt v1722 c0_i32_1089
  let v1727 : BitVec 1 := Scalar.xori v1725 v1726
  let c0_i32_1087 : BitVec 32 := 0#32
  let v1724 : BitVec 1 := Scalar.cmpi .ne v1723 c0_i32_1087
  let v1728 : BitVec 1 := Scalar.andi v1727 v1724
  let v1729 : BitVec 32 := Scalar.addi v1723 v1722
  let v1730 : BitVec 32 := Scalar.select v1728 v1729 v1723
  let c1_i32_1090 : BitVec 32 := 1#32
  let v1731 : BitVec 1 := Scalar.cmpi .ne v1730 c1_i32_1090
  let true_1092 : BitVec 1 := 1#1
  let v1735 : BitVec 1 := Scalar.xori v1731 true_1092
  let v1736 : BitVec 1 := Scalar.andi v1716 v1735
  let v1737 : BitVec 32 := Scalar.extui v1736
  let c0_i32_1093 : BitVec 32 := 0#32
  let v1738 : BitVec 1 := Scalar.cmpi .ne v1737 c0_i32_1093
  v1738

def k0_dev102 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1064 : BitVec 32 := 24#32
  let v1690 : BitVec 32 := Scalar.addi v2 c24_i32_1064
  let c32_i32_1065 : BitVec 32 := 32#32
  let c0_i32_1066 : BitVec 32 := 0#32
  let v1691 : BitVec 1 := Scalar.cmpi .eq c32_i32_1065 c0_i32_1066
  let c1_i32_1067 : BitVec 32 := 1#32
  let v1692 : BitVec 32 := Scalar.select v1691 c1_i32_1067 c32_i32_1065
  let v1693 : BitVec 32 := Scalar.remsi v1690 v1692
  let c0_i32_1069 : BitVec 32 := 0#32
  let v1695 : BitVec 1 := Scalar.cmpi .slt v1693 c0_i32_1069
  let c0_i32_1070 : BitVec 32 := 0#32
  let v1696 : BitVec 1 := Scalar.cmpi .slt v1692 c0_i32_1070
  let v1697 : BitVec 1 := Scalar.xori v1695 v1696
  let c0_i32_1068 : BitVec 32 := 0#32
  let v1694 : BitVec 1 := Scalar.cmpi .ne v1693 c0_i32_1068
  let v1698 : BitVec 1 := Scalar.andi v1697 v1694
  let v1699 : BitVec 32 := Scalar.addi v1693 v1692
  let v1700 : BitVec 32 := Scalar.select v1698 v1699 v1693
  let c1_i32_3566 : BitVec 32 := 1#32
  let v5774 : BitVec 32 := Scalar.muli v1700 c1_i32_3566
  let v5775 : BitVec 32 := Scalar.addi c0_i32_3567 v5774
  v5775.toNat
def k0_cond72 (d0 : Dev nD) : BitVec 1 :=
  let c2_i32_1081 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1064 : BitVec 32 := 24#32
  let v1690 : BitVec 32 := Scalar.addi v2 c24_i32_1064
  let c32_i32_1065 : BitVec 32 := 32#32
  let c0_i32_1066 : BitVec 32 := 0#32
  let v1691 : BitVec 1 := Scalar.cmpi .eq c32_i32_1065 c0_i32_1066
  let c1_i32_1067 : BitVec 32 := 1#32
  let v1692 : BitVec 32 := Scalar.select v1691 c1_i32_1067 c32_i32_1065
  let v1693 : BitVec 32 := Scalar.remsi v1690 v1692
  let c0_i32_1069 : BitVec 32 := 0#32
  let v1695 : BitVec 1 := Scalar.cmpi .slt v1693 c0_i32_1069
  let c0_i32_1070 : BitVec 32 := 0#32
  let v1696 : BitVec 1 := Scalar.cmpi .slt v1692 c0_i32_1070
  let v1697 : BitVec 1 := Scalar.xori v1695 v1696
  let c0_i32_1068 : BitVec 32 := 0#32
  let v1694 : BitVec 1 := Scalar.cmpi .ne v1693 c0_i32_1068
  let v1698 : BitVec 1 := Scalar.andi v1697 v1694
  let v1699 : BitVec 32 := Scalar.addi v1693 v1692
  let v1700 : BitVec 32 := Scalar.select v1698 v1699 v1693
  let v1717 : BitVec 32 := Scalar.muli c2_i32_1081 v1700
  let c2_i32_1082 : BitVec 32 := 2#32
  let v1718 : BitVec 32 := Scalar.muli c2_i32_1082 v2
  let v1719 : BitVec 32 := Scalar.addi v1717 v1718
  let c1_i32_1083 : BitVec 32 := 1#32
  let v1720 : BitVec 32 := Scalar.addi v1719 c1_i32_1083
  let c3_i32_1084 : BitVec 32 := 3#32
  let c0_i32_1085 : BitVec 32 := 0#32
  let v1721 : BitVec 1 := Scalar.cmpi .eq c3_i32_1084 c0_i32_1085
  let c1_i32_1086 : BitVec 32 := 1#32
  let v1722 : BitVec 32 := Scalar.select v1721 c1_i32_1086 c3_i32_1084
  let v1723 : BitVec 32 := Scalar.remsi v1720 v1722
  let c0_i32_1088 : BitVec 32 := 0#32
  let v1725 : BitVec 1 := Scalar.cmpi .slt v1723 c0_i32_1088
  let c0_i32_1089 : BitVec 32 := 0#32
  let v1726 : BitVec 1 := Scalar.cmpi .slt v1722 c0_i32_1089
  let v1727 : BitVec 1 := Scalar.xori v1725 v1726
  let c0_i32_1087 : BitVec 32 := 0#32
  let v1724 : BitVec 1 := Scalar.cmpi .ne v1723 c0_i32_1087
  let v1728 : BitVec 1 := Scalar.andi v1727 v1724
  let v1729 : BitVec 32 := Scalar.addi v1723 v1722
  let v1730 : BitVec 32 := Scalar.select v1728 v1729 v1723
  let c1_i32_1090 : BitVec 32 := 1#32
  let v1731 : BitVec 1 := Scalar.cmpi .ne v1730 c1_i32_1090
  let c0_i32_1071 : BitVec 32 := 0#32
  let v1701 : BitVec 1 := Scalar.cmpi .eq v2 c0_i32_1071
  let c2_i32_1072 : BitVec 32 := 2#32
  let v1702 : BitVec 32 := Scalar.muli c2_i32_1072 v1700
  let c2_i32_1073 : BitVec 32 := 2#32
  let v1703 : BitVec 32 := Scalar.muli c2_i32_1073 v2
  let v1704 : BitVec 32 := Scalar.addi v1702 v1703
  let c3_i32_1074 : BitVec 32 := 3#32
  let c0_i32_1075 : BitVec 32 := 0#32
  let v1705 : BitVec 1 := Scalar.cmpi .eq c3_i32_1074 c0_i32_1075
  let c1_i32_1076 : BitVec 32 := 1#32
  let v1706 : BitVec 32 := Scalar.select v1705 c1_i32_1076 c3_i32_1074
  let v1707 : BitVec 32 := Scalar.remsi v1704 v1706
  let c0_i32_1078 : BitVec 32 := 0#32
  let v1709 : BitVec 1 := Scalar.cmpi .slt v1707 c0_i32_1078
  let c0_i32_1079 : BitVec 32 := 0#32
  let v1710 : BitVec 1 := Scalar.cmpi .slt v1706 c0_i32_1079
  let v1711 : BitVec 1 := Scalar.xori v1709 v1710
  let c0_i32_1077 : BitVec 32 := 0#32
  let v1708 : BitVec 1 := Scalar.cmpi .ne v1707 c0_i32_1077
  let v1712 : BitVec 1 := Scalar.andi v1711 v1708
  let v1713 : BitVec 32 := Scalar.addi v1707 v1706
  let v1714 : BitVec 32 := Scalar.select v1712 v1713 v1707
  let c1_i32_1080 : BitVec 32 := 1#32
  let v1715 : BitVec 1 := Scalar.cmpi .ne v1714 c1_i32_1080
  let v1716 : BitVec 1 := Scalar.ori v1701 v1715
  let true_1094 : BitVec 1 := 1#1
  let v1739 : BitVec 1 := Scalar.xori v1716 true_1094
  let v1740 : BitVec 1 := Scalar.andi v1731 v1739
  let v1741 : BitVec 32 := Scalar.extui v1740
  let c0_i32_1095 : BitVec 32 := 0#32
  let v1742 : BitVec 1 := Scalar.cmpi .ne v1741 c0_i32_1095
  v1742

def k0_dev103 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1064 : BitVec 32 := 24#32
  let v1690 : BitVec 32 := Scalar.addi v2 c24_i32_1064
  let c32_i32_1065 : BitVec 32 := 32#32
  let c0_i32_1066 : BitVec 32 := 0#32
  let v1691 : BitVec 1 := Scalar.cmpi .eq c32_i32_1065 c0_i32_1066
  let c1_i32_1067 : BitVec 32 := 1#32
  let v1692 : BitVec 32 := Scalar.select v1691 c1_i32_1067 c32_i32_1065
  let v1693 : BitVec 32 := Scalar.remsi v1690 v1692
  let c0_i32_1069 : BitVec 32 := 0#32
  let v1695 : BitVec 1 := Scalar.cmpi .slt v1693 c0_i32_1069
  let c0_i32_1070 : BitVec 32 := 0#32
  let v1696 : BitVec 1 := Scalar.cmpi .slt v1692 c0_i32_1070
  let v1697 : BitVec 1 := Scalar.xori v1695 v1696
  let c0_i32_1068 : BitVec 32 := 0#32
  let v1694 : BitVec 1 := Scalar.cmpi .ne v1693 c0_i32_1068
  let v1698 : BitVec 1 := Scalar.andi v1697 v1694
  let v1699 : BitVec 32 := Scalar.addi v1693 v1692
  let v1700 : BitVec 32 := Scalar.select v1698 v1699 v1693
  let c1_i32_3566 : BitVec 32 := 1#32
  let v5774 : BitVec 32 := Scalar.muli v1700 c1_i32_3566
  let v5775 : BitVec 32 := Scalar.addi c0_i32_3567 v5774
  v5775.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1103 : BitVec 32 := 0#32
  let v1754 : BitVec 1 := Scalar.cmpi .eq v2 c0_i32_1103
  let c2_i32_1104 : BitVec 32 := 2#32
  let c25_i32_1096 : BitVec 32 := 25#32
  let v1743 : BitVec 32 := Scalar.addi v2 c25_i32_1096
  let c32_i32_1097 : BitVec 32 := 32#32
  let c0_i32_1098 : BitVec 32 := 0#32
  let v1744 : BitVec 1 := Scalar.cmpi .eq c32_i32_1097 c0_i32_1098
  let c1_i32_1099 : BitVec 32 := 1#32
  let v1745 : BitVec 32 := Scalar.select v1744 c1_i32_1099 c32_i32_1097
  let v1746 : BitVec 32 := Scalar.remsi v1743 v1745
  let c0_i32_1101 : BitVec 32 := 0#32
  let v1748 : BitVec 1 := Scalar.cmpi .slt v1746 c0_i32_1101
  let c0_i32_1102 : BitVec 32 := 0#32
  let v1749 : BitVec 1 := Scalar.cmpi .slt v1745 c0_i32_1102
  let v1750 : BitVec 1 := Scalar.xori v1748 v1749
  let c0_i32_1100 : BitVec 32 := 0#32
  let v1747 : BitVec 1 := Scalar.cmpi .ne v1746 c0_i32_1100
  let v1751 : BitVec 1 := Scalar.andi v1750 v1747
  let v1752 : BitVec 32 := Scalar.addi v1746 v1745
  let v1753 : BitVec 32 := Scalar.select v1751 v1752 v1746
  let v1755 : BitVec 32 := Scalar.muli c2_i32_1104 v1753
  let c2_i32_1105 : BitVec 32 := 2#32
  let v1756 : BitVec 32 := Scalar.muli c2_i32_1105 v2
  let v1757 : BitVec 32 := Scalar.addi v1755 v1756
  let c3_i32_1106 : BitVec 32 := 3#32
  let c0_i32_1107 : BitVec 32 := 0#32
  let v1758 : BitVec 1 := Scalar.cmpi .eq c3_i32_1106 c0_i32_1107
  let c1_i32_1108 : BitVec 32 := 1#32
  let v1759 : BitVec 32 := Scalar.select v1758 c1_i32_1108 c3_i32_1106
  let v1760 : BitVec 32 := Scalar.remsi v1757 v1759
  let c0_i32_1110 : BitVec 32 := 0#32
  let v1762 : BitVec 1 := Scalar.cmpi .slt v1760 c0_i32_1110
  let c0_i32_1111 : BitVec 32 := 0#32
  let v1763 : BitVec 1 := Scalar.cmpi .slt v1759 c0_i32_1111
  let v1764 : BitVec 1 := Scalar.xori v1762 v1763
  let c0_i32_1109 : BitVec 32 := 0#32
  let v1761 : BitVec 1 := Scalar.cmpi .ne v1760 c0_i32_1109
  let v1765 : BitVec 1 := Scalar.andi v1764 v1761
  let v1766 : BitVec 32 := Scalar.addi v1760 v1759
  let v1767 : BitVec 32 := Scalar.select v1765 v1766 v1760
  let c1_i32_1112 : BitVec 32 := 1#32
  let v1768 : BitVec 1 := Scalar.cmpi .ne v1767 c1_i32_1112
  let v1769 : BitVec 1 := Scalar.ori v1754 v1768
  let c2_i32_1113 : BitVec 32 := 2#32
  let v1770 : BitVec 32 := Scalar.muli c2_i32_1113 v1753
  let c2_i32_1114 : BitVec 32 := 2#32
  let v1771 : BitVec 32 := Scalar.muli c2_i32_1114 v2
  let v1772 : BitVec 32 := Scalar.addi v1770 v1771
  let c1_i32_1115 : BitVec 32 := 1#32
  let v1773 : BitVec 32 := Scalar.addi v1772 c1_i32_1115
  let c3_i32_1116 : BitVec 32 := 3#32
  let c0_i32_1117 : BitVec 32 := 0#32
  let v1774 : BitVec 1 := Scalar.cmpi .eq c3_i32_1116 c0_i32_1117
  let c1_i32_1118 : BitVec 32 := 1#32
  let v1775 : BitVec 32 := Scalar.select v1774 c1_i32_1118 c3_i32_1116
  let v1776 : BitVec 32 := Scalar.remsi v1773 v1775
  let c0_i32_1120 : BitVec 32 := 0#32
  let v1778 : BitVec 1 := Scalar.cmpi .slt v1776 c0_i32_1120
  let c0_i32_1121 : BitVec 32 := 0#32
  let v1779 : BitVec 1 := Scalar.cmpi .slt v1775 c0_i32_1121
  let v1780 : BitVec 1 := Scalar.xori v1778 v1779
  let c0_i32_1119 : BitVec 32 := 0#32
  let v1777 : BitVec 1 := Scalar.cmpi .ne v1776 c0_i32_1119
  let v1781 : BitVec 1 := Scalar.andi v1780 v1777
  let v1782 : BitVec 32 := Scalar.addi v1776 v1775
  let v1783 : BitVec 32 := Scalar.select v1781 v1782 v1776
  let c1_i32_1122 : BitVec 32 := 1#32
  let v1784 : BitVec 1 := Scalar.cmpi .ne v1783 c1_i32_1122
  let v1785 : BitVec 1 := Scalar.andi v1769 v1784
  let v1786 : BitVec 32 := Scalar.extui v1785
  let c0_i32_1123 : BitVec 32 := 0#32
  let v1787 : BitVec 1 := Scalar.cmpi .ne v1786 c0_i32_1123
  v1787

def k0_dev104 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1096 : BitVec 32 := 25#32
  let v1743 : BitVec 32 := Scalar.addi v2 c25_i32_1096
  let c32_i32_1097 : BitVec 32 := 32#32
  let c0_i32_1098 : BitVec 32 := 0#32
  let v1744 : BitVec 1 := Scalar.cmpi .eq c32_i32_1097 c0_i32_1098
  let c1_i32_1099 : BitVec 32 := 1#32
  let v1745 : BitVec 32 := Scalar.select v1744 c1_i32_1099 c32_i32_1097
  let v1746 : BitVec 32 := Scalar.remsi v1743 v1745
  let c0_i32_1101 : BitVec 32 := 0#32
  let v1748 : BitVec 1 := Scalar.cmpi .slt v1746 c0_i32_1101
  let c0_i32_1102 : BitVec 32 := 0#32
  let v1749 : BitVec 1 := Scalar.cmpi .slt v1745 c0_i32_1102
  let v1750 : BitVec 1 := Scalar.xori v1748 v1749
  let c0_i32_1100 : BitVec 32 := 0#32
  let v1747 : BitVec 1 := Scalar.cmpi .ne v1746 c0_i32_1100
  let v1751 : BitVec 1 := Scalar.andi v1750 v1747
  let v1752 : BitVec 32 := Scalar.addi v1746 v1745
  let v1753 : BitVec 32 := Scalar.select v1751 v1752 v1746
  let c1_i32_3564 : BitVec 32 := 1#32
  let v5774 : BitVec 32 := Scalar.muli v1753 c1_i32_3564
  let v5775 : BitVec 32 := Scalar.addi c0_i32_3565 v5774
  v5775.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1103 : BitVec 32 := 0#32
  let v1754 : BitVec 1 := Scalar.cmpi .eq v2 c0_i32_1103
  let c2_i32_1104 : BitVec 32 := 2#32
  let c25_i32_1096 : BitVec 32 := 25#32
  let v1743 : BitVec 32 := Scalar.addi v2 c25_i32_1096
  let c32_i32_1097 : BitVec 32 := 32#32
  let c0_i32_1098 : BitVec 32 := 0#32
  let v1744 : BitVec 1 := Scalar.cmpi .eq c32_i32_1097 c0_i32_1098
  let c1_i32_1099 : BitVec 32 := 1#32
  let v1745 : BitVec 32 := Scalar.select v1744 c1_i32_1099 c32_i32_1097
  let v1746 : BitVec 32 := Scalar.remsi v1743 v1745
  let c0_i32_1101 : BitVec 32 := 0#32
  let v1748 : BitVec 1 := Scalar.cmpi .slt v1746 c0_i32_1101
  let c0_i32_1102 : BitVec 32 := 0#32
  let v1749 : BitVec 1 := Scalar.cmpi .slt v1745 c0_i32_1102
  let v1750 : BitVec 1 := Scalar.xori v1748 v1749
  let c0_i32_1100 : BitVec 32 := 0#32
  let v1747 : BitVec 1 := Scalar.cmpi .ne v1746 c0_i32_1100
  let v1751 : BitVec 1 := Scalar.andi v1750 v1747
  let v1752 : BitVec 32 := Scalar.addi v1746 v1745
  let v1753 : BitVec 32 := Scalar.select v1751 v1752 v1746
  let v1755 : BitVec 32 := Scalar.muli c2_i32_1104 v1753
  let c2_i32_1105 : BitVec 32 := 2#32
  let v1756 : BitVec 32 := Scalar.muli c2_i32_1105 v2
  let v1757 : BitVec 32 := Scalar.addi v1755 v1756
  let c3_i32_1106 : BitVec 32 := 3#32
  let c0_i32_1107 : BitVec 32 := 0#32
  let v1758 : BitVec 1 := Scalar.cmpi .eq c3_i32_1106 c0_i32_1107
  let c1_i32_1108 : BitVec 32 := 1#32
  let v1759 : BitVec 32 := Scalar.select v1758 c1_i32_1108 c3_i32_1106
  let v1760 : BitVec 32 := Scalar.remsi v1757 v1759
  let c0_i32_1110 : BitVec 32 := 0#32
  let v1762 : BitVec 1 := Scalar.cmpi .slt v1760 c0_i32_1110
  let c0_i32_1111 : BitVec 32 := 0#32
  let v1763 : BitVec 1 := Scalar.cmpi .slt v1759 c0_i32_1111
  let v1764 : BitVec 1 := Scalar.xori v1762 v1763
  let c0_i32_1109 : BitVec 32 := 0#32
  let v1761 : BitVec 1 := Scalar.cmpi .ne v1760 c0_i32_1109
  let v1765 : BitVec 1 := Scalar.andi v1764 v1761
  let v1766 : BitVec 32 := Scalar.addi v1760 v1759
  let v1767 : BitVec 32 := Scalar.select v1765 v1766 v1760
  let c1_i32_1112 : BitVec 32 := 1#32
  let v1768 : BitVec 1 := Scalar.cmpi .ne v1767 c1_i32_1112
  let v1769 : BitVec 1 := Scalar.ori v1754 v1768
  let c2_i32_1113 : BitVec 32 := 2#32
  let v1770 : BitVec 32 := Scalar.muli c2_i32_1113 v1753
  let c2_i32_1114 : BitVec 32 := 2#32
  let v1771 : BitVec 32 := Scalar.muli c2_i32_1114 v2
  let v1772 : BitVec 32 := Scalar.addi v1770 v1771
  let c1_i32_1115 : BitVec 32 := 1#32
  let v1773 : BitVec 32 := Scalar.addi v1772 c1_i32_1115
  let c3_i32_1116 : BitVec 32 := 3#32
  let c0_i32_1117 : BitVec 32 := 0#32
  let v1774 : BitVec 1 := Scalar.cmpi .eq c3_i32_1116 c0_i32_1117
  let c1_i32_1118 : BitVec 32 := 1#32
  let v1775 : BitVec 32 := Scalar.select v1774 c1_i32_1118 c3_i32_1116
  let v1776 : BitVec 32 := Scalar.remsi v1773 v1775
  let c0_i32_1120 : BitVec 32 := 0#32
  let v1778 : BitVec 1 := Scalar.cmpi .slt v1776 c0_i32_1120
  let c0_i32_1121 : BitVec 32 := 0#32
  let v1779 : BitVec 1 := Scalar.cmpi .slt v1775 c0_i32_1121
  let v1780 : BitVec 1 := Scalar.xori v1778 v1779
  let c0_i32_1119 : BitVec 32 := 0#32
  let v1777 : BitVec 1 := Scalar.cmpi .ne v1776 c0_i32_1119
  let v1781 : BitVec 1 := Scalar.andi v1780 v1777
  let v1782 : BitVec 32 := Scalar.addi v1776 v1775
  let v1783 : BitVec 32 := Scalar.select v1781 v1782 v1776
  let c1_i32_1122 : BitVec 32 := 1#32
  let v1784 : BitVec 1 := Scalar.cmpi .ne v1783 c1_i32_1122
  let true_1124 : BitVec 1 := 1#1
  let v1788 : BitVec 1 := Scalar.xori v1784 true_1124
  let v1789 : BitVec 1 := Scalar.andi v1769 v1788
  let v1790 : BitVec 32 := Scalar.extui v1789
  let c0_i32_1125 : BitVec 32 := 0#32
  let v1791 : BitVec 1 := Scalar.cmpi .ne v1790 c0_i32_1125
  v1791

def k0_dev105 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1096 : BitVec 32 := 25#32
  let v1743 : BitVec 32 := Scalar.addi v2 c25_i32_1096
  let c32_i32_1097 : BitVec 32 := 32#32
  let c0_i32_1098 : BitVec 32 := 0#32
  let v1744 : BitVec 1 := Scalar.cmpi .eq c32_i32_1097 c0_i32_1098
  let c1_i32_1099 : BitVec 32 := 1#32
  let v1745 : BitVec 32 := Scalar.select v1744 c1_i32_1099 c32_i32_1097
  let v1746 : BitVec 32 := Scalar.remsi v1743 v1745
  let c0_i32_1101 : BitVec 32 := 0#32
  let v1748 : BitVec 1 := Scalar.cmpi .slt v1746 c0_i32_1101
  let c0_i32_1102 : BitVec 32 := 0#32
  let v1749 : BitVec 1 := Scalar.cmpi .slt v1745 c0_i32_1102
  let v1750 : BitVec 1 := Scalar.xori v1748 v1749
  let c0_i32_1100 : BitVec 32 := 0#32
  let v1747 : BitVec 1 := Scalar.cmpi .ne v1746 c0_i32_1100
  let v1751 : BitVec 1 := Scalar.andi v1750 v1747
  let v1752 : BitVec 32 := Scalar.addi v1746 v1745
  let v1753 : BitVec 32 := Scalar.select v1751 v1752 v1746
  let c1_i32_3566 : BitVec 32 := 1#32
  let v5774 : BitVec 32 := Scalar.muli v1753 c1_i32_3566
  let v5775 : BitVec 32 := Scalar.addi c0_i32_3567 v5774
  v5775.toNat
def k0_cond75 (d0 : Dev nD) : BitVec 1 :=
  let c2_i32_1113 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1096 : BitVec 32 := 25#32
  let v1743 : BitVec 32 := Scalar.addi v2 c25_i32_1096
  let c32_i32_1097 : BitVec 32 := 32#32
  let c0_i32_1098 : BitVec 32 := 0#32
  let v1744 : BitVec 1 := Scalar.cmpi .eq c32_i32_1097 c0_i32_1098
  let c1_i32_1099 : BitVec 32 := 1#32
  let v1745 : BitVec 32 := Scalar.select v1744 c1_i32_1099 c32_i32_1097
  let v1746 : BitVec 32 := Scalar.remsi v1743 v1745
  let c0_i32_1101 : BitVec 32 := 0#32
  let v1748 : BitVec 1 := Scalar.cmpi .slt v1746 c0_i32_1101
  let c0_i32_1102 : BitVec 32 := 0#32
  let v1749 : BitVec 1 := Scalar.cmpi .slt v1745 c0_i32_1102
  let v1750 : BitVec 1 := Scalar.xori v1748 v1749
  let c0_i32_1100 : BitVec 32 := 0#32
  let v1747 : BitVec 1 := Scalar.cmpi .ne v1746 c0_i32_1100
  let v1751 : BitVec 1 := Scalar.andi v1750 v1747
  let v1752 : BitVec 32 := Scalar.addi v1746 v1745
  let v1753 : BitVec 32 := Scalar.select v1751 v1752 v1746
  let v1770 : BitVec 32 := Scalar.muli c2_i32_1113 v1753
  let c2_i32_1114 : BitVec 32 := 2#32
  let v1771 : BitVec 32 := Scalar.muli c2_i32_1114 v2
  let v1772 : BitVec 32 := Scalar.addi v1770 v1771
  let c1_i32_1115 : BitVec 32 := 1#32
  let v1773 : BitVec 32 := Scalar.addi v1772 c1_i32_1115
  let c3_i32_1116 : BitVec 32 := 3#32
  let c0_i32_1117 : BitVec 32 := 0#32
  let v1774 : BitVec 1 := Scalar.cmpi .eq c3_i32_1116 c0_i32_1117
  let c1_i32_1118 : BitVec 32 := 1#32
  let v1775 : BitVec 32 := Scalar.select v1774 c1_i32_1118 c3_i32_1116
  let v1776 : BitVec 32 := Scalar.remsi v1773 v1775
  let c0_i32_1120 : BitVec 32 := 0#32
  let v1778 : BitVec 1 := Scalar.cmpi .slt v1776 c0_i32_1120
  let c0_i32_1121 : BitVec 32 := 0#32
  let v1779 : BitVec 1 := Scalar.cmpi .slt v1775 c0_i32_1121
  let v1780 : BitVec 1 := Scalar.xori v1778 v1779
  let c0_i32_1119 : BitVec 32 := 0#32
  let v1777 : BitVec 1 := Scalar.cmpi .ne v1776 c0_i32_1119
  let v1781 : BitVec 1 := Scalar.andi v1780 v1777
  let v1782 : BitVec 32 := Scalar.addi v1776 v1775
  let v1783 : BitVec 32 := Scalar.select v1781 v1782 v1776
  let c1_i32_1122 : BitVec 32 := 1#32
  let v1784 : BitVec 1 := Scalar.cmpi .ne v1783 c1_i32_1122
  let c0_i32_1103 : BitVec 32 := 0#32
  let v1754 : BitVec 1 := Scalar.cmpi .eq v2 c0_i32_1103
  let c2_i32_1104 : BitVec 32 := 2#32
  let v1755 : BitVec 32 := Scalar.muli c2_i32_1104 v1753
  let c2_i32_1105 : BitVec 32 := 2#32
  let v1756 : BitVec 32 := Scalar.muli c2_i32_1105 v2
  let v1757 : BitVec 32 := Scalar.addi v1755 v1756
  let c3_i32_1106 : BitVec 32 := 3#32
  let c0_i32_1107 : BitVec 32 := 0#32
  let v1758 : BitVec 1 := Scalar.cmpi .eq c3_i32_1106 c0_i32_1107
  let c1_i32_1108 : BitVec 32 := 1#32
  let v1759 : BitVec 32 := Scalar.select v1758 c1_i32_1108 c3_i32_1106
  let v1760 : BitVec 32 := Scalar.remsi v1757 v1759
  let c0_i32_1110 : BitVec 32 := 0#32
  let v1762 : BitVec 1 := Scalar.cmpi .slt v1760 c0_i32_1110
  let c0_i32_1111 : BitVec 32 := 0#32
  let v1763 : BitVec 1 := Scalar.cmpi .slt v1759 c0_i32_1111
  let v1764 : BitVec 1 := Scalar.xori v1762 v1763
  let c0_i32_1109 : BitVec 32 := 0#32
  let v1761 : BitVec 1 := Scalar.cmpi .ne v1760 c0_i32_1109
  let v1765 : BitVec 1 := Scalar.andi v1764 v1761
  let v1766 : BitVec 32 := Scalar.addi v1760 v1759
  let v1767 : BitVec 32 := Scalar.select v1765 v1766 v1760
  let c1_i32_1112 : BitVec 32 := 1#32
  let v1768 : BitVec 1 := Scalar.cmpi .ne v1767 c1_i32_1112
  let v1769 : BitVec 1 := Scalar.ori v1754 v1768
  let true_1126 : BitVec 1 := 1#1
  let v1792 : BitVec 1 := Scalar.xori v1769 true_1126
  let v1793 : BitVec 1 := Scalar.andi v1784 v1792
  let v1794 : BitVec 32 := Scalar.extui v1793
  let c0_i32_1127 : BitVec 32 := 0#32
  let v1795 : BitVec 1 := Scalar.cmpi .ne v1794 c0_i32_1127
  v1795

def k0_dev106 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1096 : BitVec 32 := 25#32
  let v1743 : BitVec 32 := Scalar.addi v2 c25_i32_1096
  let c32_i32_1097 : BitVec 32 := 32#32
  let c0_i32_1098 : BitVec 32 := 0#32
  let v1744 : BitVec 1 := Scalar.cmpi .eq c32_i32_1097 c0_i32_1098
  let c1_i32_1099 : BitVec 32 := 1#32
  let v1745 : BitVec 32 := Scalar.select v1744 c1_i32_1099 c32_i32_1097
  let v1746 : BitVec 32 := Scalar.remsi v1743 v1745
  let c0_i32_1101 : BitVec 32 := 0#32
  let v1748 : BitVec 1 := Scalar.cmpi .slt v1746 c0_i32_1101
  let c0_i32_1102 : BitVec 32 := 0#32
  let v1749 : BitVec 1 := Scalar.cmpi .slt v1745 c0_i32_1102
  let v1750 : BitVec 1 := Scalar.xori v1748 v1749
  let c0_i32_1100 : BitVec 32 := 0#32
  let v1747 : BitVec 1 := Scalar.cmpi .ne v1746 c0_i32_1100
  let v1751 : BitVec 1 := Scalar.andi v1750 v1747
  let v1752 : BitVec 32 := Scalar.addi v1746 v1745
  let v1753 : BitVec 32 := Scalar.select v1751 v1752 v1746
  let c1_i32_3566 : BitVec 32 := 1#32
  let v5774 : BitVec 32 := Scalar.muli v1753 c1_i32_3566
  let v5775 : BitVec 32 := Scalar.addi c0_i32_3567 v5774
  v5775.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1135 : BitVec 32 := 0#32
  let v1807 : BitVec 1 := Scalar.cmpi .eq v2 c0_i32_1135
  let c2_i32_1136 : BitVec 32 := 2#32
  let c26_i32_1128 : BitVec 32 := 26#32
  let v1796 : BitVec 32 := Scalar.addi v2 c26_i32_1128
  let c32_i32_1129 : BitVec 32 := 32#32
  let c0_i32_1130 : BitVec 32 := 0#32
  let v1797 : BitVec 1 := Scalar.cmpi .eq c32_i32_1129 c0_i32_1130
  let c1_i32_1131 : BitVec 32 := 1#32
  let v1798 : BitVec 32 := Scalar.select v1797 c1_i32_1131 c32_i32_1129
  let v1799 : BitVec 32 := Scalar.remsi v1796 v1798
  let c0_i32_1133 : BitVec 32 := 0#32
  let v1801 : BitVec 1 := Scalar.cmpi .slt v1799 c0_i32_1133
  let c0_i32_1134 : BitVec 32 := 0#32
  let v1802 : BitVec 1 := Scalar.cmpi .slt v1798 c0_i32_1134
  let v1803 : BitVec 1 := Scalar.xori v1801 v1802
  let c0_i32_1132 : BitVec 32 := 0#32
  let v1800 : BitVec 1 := Scalar.cmpi .ne v1799 c0_i32_1132
  let v1804 : BitVec 1 := Scalar.andi v1803 v1800
  let v1805 : BitVec 32 := Scalar.addi v1799 v1798
  let v1806 : BitVec 32 := Scalar.select v1804 v1805 v1799
  let v1808 : BitVec 32 := Scalar.muli c2_i32_1136 v1806
  let c2_i32_1137 : BitVec 32 := 2#32
  let v1809 : BitVec 32 := Scalar.muli c2_i32_1137 v2
  let v1810 : BitVec 32 := Scalar.addi v1808 v1809
  let c3_i32_1138 : BitVec 32 := 3#32
  let c0_i32_1139 : BitVec 32 := 0#32
  let v1811 : BitVec 1 := Scalar.cmpi .eq c3_i32_1138 c0_i32_1139
  let c1_i32_1140 : BitVec 32 := 1#32
  let v1812 : BitVec 32 := Scalar.select v1811 c1_i32_1140 c3_i32_1138
  let v1813 : BitVec 32 := Scalar.remsi v1810 v1812
  let c0_i32_1142 : BitVec 32 := 0#32
  let v1815 : BitVec 1 := Scalar.cmpi .slt v1813 c0_i32_1142
  let c0_i32_1143 : BitVec 32 := 0#32
  let v1816 : BitVec 1 := Scalar.cmpi .slt v1812 c0_i32_1143
  let v1817 : BitVec 1 := Scalar.xori v1815 v1816
  let c0_i32_1141 : BitVec 32 := 0#32
  let v1814 : BitVec 1 := Scalar.cmpi .ne v1813 c0_i32_1141
  let v1818 : BitVec 1 := Scalar.andi v1817 v1814
  let v1819 : BitVec 32 := Scalar.addi v1813 v1812
  let v1820 : BitVec 32 := Scalar.select v1818 v1819 v1813
  let c1_i32_1144 : BitVec 32 := 1#32
  let v1821 : BitVec 1 := Scalar.cmpi .ne v1820 c1_i32_1144
  let v1822 : BitVec 1 := Scalar.ori v1807 v1821
  let c2_i32_1145 : BitVec 32 := 2#32
  let v1823 : BitVec 32 := Scalar.muli c2_i32_1145 v1806
  let c2_i32_1146 : BitVec 32 := 2#32
  let v1824 : BitVec 32 := Scalar.muli c2_i32_1146 v2
  let v1825 : BitVec 32 := Scalar.addi v1823 v1824
  let c1_i32_1147 : BitVec 32 := 1#32
  let v1826 : BitVec 32 := Scalar.addi v1825 c1_i32_1147
  let c3_i32_1148 : BitVec 32 := 3#32
  let c0_i32_1149 : BitVec 32 := 0#32
  let v1827 : BitVec 1 := Scalar.cmpi .eq c3_i32_1148 c0_i32_1149
  let c1_i32_1150 : BitVec 32 := 1#32
  let v1828 : BitVec 32 := Scalar.select v1827 c1_i32_1150 c3_i32_1148
  let v1829 : BitVec 32 := Scalar.remsi v1826 v1828
  let c0_i32_1152 : BitVec 32 := 0#32
  let v1831 : BitVec 1 := Scalar.cmpi .slt v1829 c0_i32_1152
  let c0_i32_1153 : BitVec 32 := 0#32
  let v1832 : BitVec 1 := Scalar.cmpi .slt v1828 c0_i32_1153
  let v1833 : BitVec 1 := Scalar.xori v1831 v1832
  let c0_i32_1151 : BitVec 32 := 0#32
  let v1830 : BitVec 1 := Scalar.cmpi .ne v1829 c0_i32_1151
  let v1834 : BitVec 1 := Scalar.andi v1833 v1830
  let v1835 : BitVec 32 := Scalar.addi v1829 v1828
  let v1836 : BitVec 32 := Scalar.select v1834 v1835 v1829
  let c1_i32_1154 : BitVec 32 := 1#32
  let v1837 : BitVec 1 := Scalar.cmpi .ne v1836 c1_i32_1154
  let v1838 : BitVec 1 := Scalar.andi v1822 v1837
  let v1839 : BitVec 32 := Scalar.extui v1838
  let c0_i32_1155 : BitVec 32 := 0#32
  let v1840 : BitVec 1 := Scalar.cmpi .ne v1839 c0_i32_1155
  v1840

def k0_dev107 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1128 : BitVec 32 := 26#32
  let v1796 : BitVec 32 := Scalar.addi v2 c26_i32_1128
  let c32_i32_1129 : BitVec 32 := 32#32
  let c0_i32_1130 : BitVec 32 := 0#32
  let v1797 : BitVec 1 := Scalar.cmpi .eq c32_i32_1129 c0_i32_1130
  let c1_i32_1131 : BitVec 32 := 1#32
  let v1798 : BitVec 32 := Scalar.select v1797 c1_i32_1131 c32_i32_1129
  let v1799 : BitVec 32 := Scalar.remsi v1796 v1798
  let c0_i32_1133 : BitVec 32 := 0#32
  let v1801 : BitVec 1 := Scalar.cmpi .slt v1799 c0_i32_1133
  let c0_i32_1134 : BitVec 32 := 0#32
  let v1802 : BitVec 1 := Scalar.cmpi .slt v1798 c0_i32_1134
  let v1803 : BitVec 1 := Scalar.xori v1801 v1802
  let c0_i32_1132 : BitVec 32 := 0#32
  let v1800 : BitVec 1 := Scalar.cmpi .ne v1799 c0_i32_1132
  let v1804 : BitVec 1 := Scalar.andi v1803 v1800
  let v1805 : BitVec 32 := Scalar.addi v1799 v1798
  let v1806 : BitVec 32 := Scalar.select v1804 v1805 v1799
  let c1_i32_3564 : BitVec 32 := 1#32
  let v5774 : BitVec 32 := Scalar.muli v1806 c1_i32_3564
  let v5775 : BitVec 32 := Scalar.addi c0_i32_3565 v5774
  v5775.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1135 : BitVec 32 := 0#32
  let v1807 : BitVec 1 := Scalar.cmpi .eq v2 c0_i32_1135
  let c2_i32_1136 : BitVec 32 := 2#32
  let c26_i32_1128 : BitVec 32 := 26#32
  let v1796 : BitVec 32 := Scalar.addi v2 c26_i32_1128
  let c32_i32_1129 : BitVec 32 := 32#32
  let c0_i32_1130 : BitVec 32 := 0#32
  let v1797 : BitVec 1 := Scalar.cmpi .eq c32_i32_1129 c0_i32_1130
  let c1_i32_1131 : BitVec 32 := 1#32
  let v1798 : BitVec 32 := Scalar.select v1797 c1_i32_1131 c32_i32_1129
  let v1799 : BitVec 32 := Scalar.remsi v1796 v1798
  let c0_i32_1133 : BitVec 32 := 0#32
  let v1801 : BitVec 1 := Scalar.cmpi .slt v1799 c0_i32_1133
  let c0_i32_1134 : BitVec 32 := 0#32
  let v1802 : BitVec 1 := Scalar.cmpi .slt v1798 c0_i32_1134
  let v1803 : BitVec 1 := Scalar.xori v1801 v1802
  let c0_i32_1132 : BitVec 32 := 0#32
  let v1800 : BitVec 1 := Scalar.cmpi .ne v1799 c0_i32_1132
  let v1804 : BitVec 1 := Scalar.andi v1803 v1800
  let v1805 : BitVec 32 := Scalar.addi v1799 v1798
  let v1806 : BitVec 32 := Scalar.select v1804 v1805 v1799
  let v1808 : BitVec 32 := Scalar.muli c2_i32_1136 v1806
  let c2_i32_1137 : BitVec 32 := 2#32
  let v1809 : BitVec 32 := Scalar.muli c2_i32_1137 v2
  let v1810 : BitVec 32 := Scalar.addi v1808 v1809
  let c3_i32_1138 : BitVec 32 := 3#32
  let c0_i32_1139 : BitVec 32 := 0#32
  let v1811 : BitVec 1 := Scalar.cmpi .eq c3_i32_1138 c0_i32_1139
  let c1_i32_1140 : BitVec 32 := 1#32
  let v1812 : BitVec 32 := Scalar.select v1811 c1_i32_1140 c3_i32_1138
  let v1813 : BitVec 32 := Scalar.remsi v1810 v1812
  let c0_i32_1142 : BitVec 32 := 0#32
  let v1815 : BitVec 1 := Scalar.cmpi .slt v1813 c0_i32_1142
  let c0_i32_1143 : BitVec 32 := 0#32
  let v1816 : BitVec 1 := Scalar.cmpi .slt v1812 c0_i32_1143
  let v1817 : BitVec 1 := Scalar.xori v1815 v1816
  let c0_i32_1141 : BitVec 32 := 0#32
  let v1814 : BitVec 1 := Scalar.cmpi .ne v1813 c0_i32_1141
  let v1818 : BitVec 1 := Scalar.andi v1817 v1814
  let v1819 : BitVec 32 := Scalar.addi v1813 v1812
  let v1820 : BitVec 32 := Scalar.select v1818 v1819 v1813
  let c1_i32_1144 : BitVec 32 := 1#32
  let v1821 : BitVec 1 := Scalar.cmpi .ne v1820 c1_i32_1144
  let v1822 : BitVec 1 := Scalar.ori v1807 v1821
  let c2_i32_1145 : BitVec 32 := 2#32
  let v1823 : BitVec 32 := Scalar.muli c2_i32_1145 v1806
  let c2_i32_1146 : BitVec 32 := 2#32
  let v1824 : BitVec 32 := Scalar.muli c2_i32_1146 v2
  let v1825 : BitVec 32 := Scalar.addi v1823 v1824
  let c1_i32_1147 : BitVec 32 := 1#32
  let v1826 : BitVec 32 := Scalar.addi v1825 c1_i32_1147
  let c3_i32_1148 : BitVec 32 := 3#32
  let c0_i32_1149 : BitVec 32 := 0#32
  let v1827 : BitVec 1 := Scalar.cmpi .eq c3_i32_1148 c0_i32_1149
  let c1_i32_1150 : BitVec 32 := 1#32
  let v1828 : BitVec 32 := Scalar.select v1827 c1_i32_1150 c3_i32_1148
  let v1829 : BitVec 32 := Scalar.remsi v1826 v1828
  let c0_i32_1152 : BitVec 32 := 0#32
  let v1831 : BitVec 1 := Scalar.cmpi .slt v1829 c0_i32_1152
  let c0_i32_1153 : BitVec 32 := 0#32
  let v1832 : BitVec 1 := Scalar.cmpi .slt v1828 c0_i32_1153
  let v1833 : BitVec 1 := Scalar.xori v1831 v1832
  let c0_i32_1151 : BitVec 32 := 0#32
  let v1830 : BitVec 1 := Scalar.cmpi .ne v1829 c0_i32_1151
  let v1834 : BitVec 1 := Scalar.andi v1833 v1830
  let v1835 : BitVec 32 := Scalar.addi v1829 v1828
  let v1836 : BitVec 32 := Scalar.select v1834 v1835 v1829
  let c1_i32_1154 : BitVec 32 := 1#32
  let v1837 : BitVec 1 := Scalar.cmpi .ne v1836 c1_i32_1154
  let true_1156 : BitVec 1 := 1#1
  let v1841 : BitVec 1 := Scalar.xori v1837 true_1156
  let v1842 : BitVec 1 := Scalar.andi v1822 v1841
  let v1843 : BitVec 32 := Scalar.extui v1842
  let c0_i32_1157 : BitVec 32 := 0#32
  let v1844 : BitVec 1 := Scalar.cmpi .ne v1843 c0_i32_1157
  v1844

def k0_dev108 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1128 : BitVec 32 := 26#32
  let v1796 : BitVec 32 := Scalar.addi v2 c26_i32_1128
  let c32_i32_1129 : BitVec 32 := 32#32
  let c0_i32_1130 : BitVec 32 := 0#32
  let v1797 : BitVec 1 := Scalar.cmpi .eq c32_i32_1129 c0_i32_1130
  let c1_i32_1131 : BitVec 32 := 1#32
  let v1798 : BitVec 32 := Scalar.select v1797 c1_i32_1131 c32_i32_1129
  let v1799 : BitVec 32 := Scalar.remsi v1796 v1798
  let c0_i32_1133 : BitVec 32 := 0#32
  let v1801 : BitVec 1 := Scalar.cmpi .slt v1799 c0_i32_1133
  let c0_i32_1134 : BitVec 32 := 0#32
  let v1802 : BitVec 1 := Scalar.cmpi .slt v1798 c0_i32_1134
  let v1803 : BitVec 1 := Scalar.xori v1801 v1802
  let c0_i32_1132 : BitVec 32 := 0#32
  let v1800 : BitVec 1 := Scalar.cmpi .ne v1799 c0_i32_1132
  let v1804 : BitVec 1 := Scalar.andi v1803 v1800
  let v1805 : BitVec 32 := Scalar.addi v1799 v1798
  let v1806 : BitVec 32 := Scalar.select v1804 v1805 v1799
  let c1_i32_3566 : BitVec 32 := 1#32
  let v5774 : BitVec 32 := Scalar.muli v1806 c1_i32_3566
  let v5775 : BitVec 32 := Scalar.addi c0_i32_3567 v5774
  v5775.toNat
def k0_cond78 (d0 : Dev nD) : BitVec 1 :=
  let c2_i32_1145 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1128 : BitVec 32 := 26#32
  let v1796 : BitVec 32 := Scalar.addi v2 c26_i32_1128
  let c32_i32_1129 : BitVec 32 := 32#32
  let c0_i32_1130 : BitVec 32 := 0#32
  let v1797 : BitVec 1 := Scalar.cmpi .eq c32_i32_1129 c0_i32_1130
  let c1_i32_1131 : BitVec 32 := 1#32
  let v1798 : BitVec 32 := Scalar.select v1797 c1_i32_1131 c32_i32_1129
  let v1799 : BitVec 32 := Scalar.remsi v1796 v1798
  let c0_i32_1133 : BitVec 32 := 0#32
  let v1801 : BitVec 1 := Scalar.cmpi .slt v1799 c0_i32_1133
  let c0_i32_1134 : BitVec 32 := 0#32
  let v1802 : BitVec 1 := Scalar.cmpi .slt v1798 c0_i32_1134
  let v1803 : BitVec 1 := Scalar.xori v1801 v1802
  let c0_i32_1132 : BitVec 32 := 0#32
  let v1800 : BitVec 1 := Scalar.cmpi .ne v1799 c0_i32_1132
  let v1804 : BitVec 1 := Scalar.andi v1803 v1800
  let v1805 : BitVec 32 := Scalar.addi v1799 v1798
  let v1806 : BitVec 32 := Scalar.select v1804 v1805 v1799
  let v1823 : BitVec 32 := Scalar.muli c2_i32_1145 v1806
  let c2_i32_1146 : BitVec 32 := 2#32
  let v1824 : BitVec 32 := Scalar.muli c2_i32_1146 v2
  let v1825 : BitVec 32 := Scalar.addi v1823 v1824
  let c1_i32_1147 : BitVec 32 := 1#32
  let v1826 : BitVec 32 := Scalar.addi v1825 c1_i32_1147
  let c3_i32_1148 : BitVec 32 := 3#32
  let c0_i32_1149 : BitVec 32 := 0#32
  let v1827 : BitVec 1 := Scalar.cmpi .eq c3_i32_1148 c0_i32_1149
  let c1_i32_1150 : BitVec 32 := 1#32
  let v1828 : BitVec 32 := Scalar.select v1827 c1_i32_1150 c3_i32_1148
  let v1829 : BitVec 32 := Scalar.remsi v1826 v1828
  let c0_i32_1152 : BitVec 32 := 0#32
  let v1831 : BitVec 1 := Scalar.cmpi .slt v1829 c0_i32_1152
  let c0_i32_1153 : BitVec 32 := 0#32
  let v1832 : BitVec 1 := Scalar.cmpi .slt v1828 c0_i32_1153
  let v1833 : BitVec 1 := Scalar.xori v1831 v1832
  let c0_i32_1151 : BitVec 32 := 0#32
  let v1830 : BitVec 1 := Scalar.cmpi .ne v1829 c0_i32_1151
  let v1834 : BitVec 1 := Scalar.andi v1833 v1830
  let v1835 : BitVec 32 := Scalar.addi v1829 v1828
  let v1836 : BitVec 32 := Scalar.select v1834 v1835 v1829
  let c1_i32_1154 : BitVec 32 := 1#32
  let v1837 : BitVec 1 := Scalar.cmpi .ne v1836 c1_i32_1154
  let c0_i32_1135 : BitVec 32 := 0#32
  let v1807 : BitVec 1 := Scalar.cmpi .eq v2 c0_i32_1135
  let c2_i32_1136 : BitVec 32 := 2#32
  let v1808 : BitVec 32 := Scalar.muli c2_i32_1136 v1806
  let c2_i32_1137 : BitVec 32 := 2#32
  let v1809 : BitVec 32 := Scalar.muli c2_i32_1137 v2
  let v1810 : BitVec 32 := Scalar.addi v1808 v1809
  let c3_i32_1138 : BitVec 32 := 3#32
  let c0_i32_1139 : BitVec 32 := 0#32
  let v1811 : BitVec 1 := Scalar.cmpi .eq c3_i32_1138 c0_i32_1139
  let c1_i32_1140 : BitVec 32 := 1#32
  let v1812 : BitVec 32 := Scalar.select v1811 c1_i32_1140 c3_i32_1138
  let v1813 : BitVec 32 := Scalar.remsi v1810 v1812
  let c0_i32_1142 : BitVec 32 := 0#32
  let v1815 : BitVec 1 := Scalar.cmpi .slt v1813 c0_i32_1142
  let c0_i32_1143 : BitVec 32 := 0#32
  let v1816 : BitVec 1 := Scalar.cmpi .slt v1812 c0_i32_1143
  let v1817 : BitVec 1 := Scalar.xori v1815 v1816
  let c0_i32_1141 : BitVec 32 := 0#32
  let v1814 : BitVec 1 := Scalar.cmpi .ne v1813 c0_i32_1141
  let v1818 : BitVec 1 := Scalar.andi v1817 v1814
  let v1819 : BitVec 32 := Scalar.addi v1813 v1812
  let v1820 : BitVec 32 := Scalar.select v1818 v1819 v1813
  let c1_i32_1144 : BitVec 32 := 1#32
  let v1821 : BitVec 1 := Scalar.cmpi .ne v1820 c1_i32_1144
  let v1822 : BitVec 1 := Scalar.ori v1807 v1821
  let true_1158 : BitVec 1 := 1#1
  let v1845 : BitVec 1 := Scalar.xori v1822 true_1158
  let v1846 : BitVec 1 := Scalar.andi v1837 v1845
  let v1847 : BitVec 32 := Scalar.extui v1846
  let c0_i32_1159 : BitVec 32 := 0#32
  let v1848 : BitVec 1 := Scalar.cmpi .ne v1847 c0_i32_1159
  v1848

def k0_dev109 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1128 : BitVec 32 := 26#32
  let v1796 : BitVec 32 := Scalar.addi v2 c26_i32_1128
  let c32_i32_1129 : BitVec 32 := 32#32
  let c0_i32_1130 : BitVec 32 := 0#32
  let v1797 : BitVec 1 := Scalar.cmpi .eq c32_i32_1129 c0_i32_1130
  let c1_i32_1131 : BitVec 32 := 1#32
  let v1798 : BitVec 32 := Scalar.select v1797 c1_i32_1131 c32_i32_1129
  let v1799 : BitVec 32 := Scalar.remsi v1796 v1798
  let c0_i32_1133 : BitVec 32 := 0#32
  let v1801 : BitVec 1 := Scalar.cmpi .slt v1799 c0_i32_1133
  let c0_i32_1134 : BitVec 32 := 0#32
  let v1802 : BitVec 1 := Scalar.cmpi .slt v1798 c0_i32_1134
  let v1803 : BitVec 1 := Scalar.xori v1801 v1802
  let c0_i32_1132 : BitVec 32 := 0#32
  let v1800 : BitVec 1 := Scalar.cmpi .ne v1799 c0_i32_1132
  let v1804 : BitVec 1 := Scalar.andi v1803 v1800
  let v1805 : BitVec 32 := Scalar.addi v1799 v1798
  let v1806 : BitVec 32 := Scalar.select v1804 v1805 v1799
  let c1_i32_3566 : BitVec 32 := 1#32
  let v5774 : BitVec 32 := Scalar.muli v1806 c1_i32_3566
  let v5775 : BitVec 32 := Scalar.addi c0_i32_3567 v5774
  v5775.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let v1860 : BitVec 1 := Scalar.cmpi .eq v2 c0_i32_1167
  let c2_i32_1168 : BitVec 32 := 2#32
  let c27_i32_1160 : BitVec 32 := 27#32
  let v1849 : BitVec 32 := Scalar.addi v2 c27_i32_1160
  let c32_i32_1161 : BitVec 32 := 32#32
  let c0_i32_1162 : BitVec 32 := 0#32
  let v1850 : BitVec 1 := Scalar.cmpi .eq c32_i32_1161 c0_i32_1162
  let c1_i32_1163 : BitVec 32 := 1#32
  let v1851 : BitVec 32 := Scalar.select v1850 c1_i32_1163 c32_i32_1161
  let v1852 : BitVec 32 := Scalar.remsi v1849 v1851
  let c0_i32_1165 : BitVec 32 := 0#32
  let v1854 : BitVec 1 := Scalar.cmpi .slt v1852 c0_i32_1165
  let c0_i32_1166 : BitVec 32 := 0#32
  let v1855 : BitVec 1 := Scalar.cmpi .slt v1851 c0_i32_1166
  let v1856 : BitVec 1 := Scalar.xori v1854 v1855
  let c0_i32_1164 : BitVec 32 := 0#32
  let v1853 : BitVec 1 := Scalar.cmpi .ne v1852 c0_i32_1164
  let v1857 : BitVec 1 := Scalar.andi v1856 v1853
  let v1858 : BitVec 32 := Scalar.addi v1852 v1851
  let v1859 : BitVec 32 := Scalar.select v1857 v1858 v1852
  let v1861 : BitVec 32 := Scalar.muli c2_i32_1168 v1859
  let c2_i32_1169 : BitVec 32 := 2#32
  let v1862 : BitVec 32 := Scalar.muli c2_i32_1169 v2
  let v1863 : BitVec 32 := Scalar.addi v1861 v1862
  let c3_i32_1170 : BitVec 32 := 3#32
  let c0_i32_1171 : BitVec 32 := 0#32
  let v1864 : BitVec 1 := Scalar.cmpi .eq c3_i32_1170 c0_i32_1171
  let c1_i32_1172 : BitVec 32 := 1#32
  let v1865 : BitVec 32 := Scalar.select v1864 c1_i32_1172 c3_i32_1170
  let v1866 : BitVec 32 := Scalar.remsi v1863 v1865
  let c0_i32_1174 : BitVec 32 := 0#32
  let v1868 : BitVec 1 := Scalar.cmpi .slt v1866 c0_i32_1174
  let c0_i32_1175 : BitVec 32 := 0#32
  let v1869 : BitVec 1 := Scalar.cmpi .slt v1865 c0_i32_1175
  let v1870 : BitVec 1 := Scalar.xori v1868 v1869
  let c0_i32_1173 : BitVec 32 := 0#32
  let v1867 : BitVec 1 := Scalar.cmpi .ne v1866 c0_i32_1173
  let v1871 : BitVec 1 := Scalar.andi v1870 v1867
  let v1872 : BitVec 32 := Scalar.addi v1866 v1865
  let v1873 : BitVec 32 := Scalar.select v1871 v1872 v1866
  let c1_i32_1176 : BitVec 32 := 1#32
  let v1874 : BitVec 1 := Scalar.cmpi .ne v1873 c1_i32_1176
  let v1875 : BitVec 1 := Scalar.ori v1860 v1874
  let c2_i32_1177 : BitVec 32 := 2#32
  let v1876 : BitVec 32 := Scalar.muli c2_i32_1177 v1859
  let c2_i32_1178 : BitVec 32 := 2#32
  let v1877 : BitVec 32 := Scalar.muli c2_i32_1178 v2
  let v1878 : BitVec 32 := Scalar.addi v1876 v1877
  let c1_i32_1179 : BitVec 32 := 1#32
  let v1879 : BitVec 32 := Scalar.addi v1878 c1_i32_1179
  let c3_i32_1180 : BitVec 32 := 3#32
  let c0_i32_1181 : BitVec 32 := 0#32
  let v1880 : BitVec 1 := Scalar.cmpi .eq c3_i32_1180 c0_i32_1181
  let c1_i32_1182 : BitVec 32 := 1#32
  let v1881 : BitVec 32 := Scalar.select v1880 c1_i32_1182 c3_i32_1180
  let v1882 : BitVec 32 := Scalar.remsi v1879 v1881
  let c0_i32_1184 : BitVec 32 := 0#32
  let v1884 : BitVec 1 := Scalar.cmpi .slt v1882 c0_i32_1184
  let c0_i32_1185 : BitVec 32 := 0#32
  let v1885 : BitVec 1 := Scalar.cmpi .slt v1881 c0_i32_1185
  let v1886 : BitVec 1 := Scalar.xori v1884 v1885
  let c0_i32_1183 : BitVec 32 := 0#32
  let v1883 : BitVec 1 := Scalar.cmpi .ne v1882 c0_i32_1183
  let v1887 : BitVec 1 := Scalar.andi v1886 v1883
  let v1888 : BitVec 32 := Scalar.addi v1882 v1881
  let v1889 : BitVec 32 := Scalar.select v1887 v1888 v1882
  let c1_i32_1186 : BitVec 32 := 1#32
  let v1890 : BitVec 1 := Scalar.cmpi .ne v1889 c1_i32_1186
  let v1891 : BitVec 1 := Scalar.andi v1875 v1890
  let v1892 : BitVec 32 := Scalar.extui v1891
  let c0_i32_1187 : BitVec 32 := 0#32
  let v1893 : BitVec 1 := Scalar.cmpi .ne v1892 c0_i32_1187
  v1893

def k0_dev110 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1160 : BitVec 32 := 27#32
  let v1849 : BitVec 32 := Scalar.addi v2 c27_i32_1160
  let c32_i32_1161 : BitVec 32 := 32#32
  let c0_i32_1162 : BitVec 32 := 0#32
  let v1850 : BitVec 1 := Scalar.cmpi .eq c32_i32_1161 c0_i32_1162
  let c1_i32_1163 : BitVec 32 := 1#32
  let v1851 : BitVec 32 := Scalar.select v1850 c1_i32_1163 c32_i32_1161
  let v1852 : BitVec 32 := Scalar.remsi v1849 v1851
  let c0_i32_1165 : BitVec 32 := 0#32
  let v1854 : BitVec 1 := Scalar.cmpi .slt v1852 c0_i32_1165
  let c0_i32_1166 : BitVec 32 := 0#32
  let v1855 : BitVec 1 := Scalar.cmpi .slt v1851 c0_i32_1166
  let v1856 : BitVec 1 := Scalar.xori v1854 v1855
  let c0_i32_1164 : BitVec 32 := 0#32
  let v1853 : BitVec 1 := Scalar.cmpi .ne v1852 c0_i32_1164
  let v1857 : BitVec 1 := Scalar.andi v1856 v1853
  let v1858 : BitVec 32 := Scalar.addi v1852 v1851
  let v1859 : BitVec 32 := Scalar.select v1857 v1858 v1852
  let c1_i32_3564 : BitVec 32 := 1#32
  let v5774 : BitVec 32 := Scalar.muli v1859 c1_i32_3564
  let v5775 : BitVec 32 := Scalar.addi c0_i32_3565 v5774
  v5775.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1167 : BitVec 32 := 0#32
  let v1860 : BitVec 1 := Scalar.cmpi .eq v2 c0_i32_1167
  let c2_i32_1168 : BitVec 32 := 2#32
  let c27_i32_1160 : BitVec 32 := 27#32
  let v1849 : BitVec 32 := Scalar.addi v2 c27_i32_1160
  let c32_i32_1161 : BitVec 32 := 32#32
  let c0_i32_1162 : BitVec 32 := 0#32
  let v1850 : BitVec 1 := Scalar.cmpi .eq c32_i32_1161 c0_i32_1162
  let c1_i32_1163 : BitVec 32 := 1#32
  let v1851 : BitVec 32 := Scalar.select v1850 c1_i32_1163 c32_i32_1161
  let v1852 : BitVec 32 := Scalar.remsi v1849 v1851
  let c0_i32_1165 : BitVec 32 := 0#32
  let v1854 : BitVec 1 := Scalar.cmpi .slt v1852 c0_i32_1165
  let c0_i32_1166 : BitVec 32 := 0#32
  let v1855 : BitVec 1 := Scalar.cmpi .slt v1851 c0_i32_1166
  let v1856 : BitVec 1 := Scalar.xori v1854 v1855
  let c0_i32_1164 : BitVec 32 := 0#32
  let v1853 : BitVec 1 := Scalar.cmpi .ne v1852 c0_i32_1164
  let v1857 : BitVec 1 := Scalar.andi v1856 v1853
  let v1858 : BitVec 32 := Scalar.addi v1852 v1851
  let v1859 : BitVec 32 := Scalar.select v1857 v1858 v1852
  let v1861 : BitVec 32 := Scalar.muli c2_i32_1168 v1859
  let c2_i32_1169 : BitVec 32 := 2#32
  let v1862 : BitVec 32 := Scalar.muli c2_i32_1169 v2
  let v1863 : BitVec 32 := Scalar.addi v1861 v1862
  let c3_i32_1170 : BitVec 32 := 3#32
  let c0_i32_1171 : BitVec 32 := 0#32
  let v1864 : BitVec 1 := Scalar.cmpi .eq c3_i32_1170 c0_i32_1171
  let c1_i32_1172 : BitVec 32 := 1#32
  let v1865 : BitVec 32 := Scalar.select v1864 c1_i32_1172 c3_i32_1170
  let v1866 : BitVec 32 := Scalar.remsi v1863 v1865
  let c0_i32_1174 : BitVec 32 := 0#32
  let v1868 : BitVec 1 := Scalar.cmpi .slt v1866 c0_i32_1174
  let c0_i32_1175 : BitVec 32 := 0#32
  let v1869 : BitVec 1 := Scalar.cmpi .slt v1865 c0_i32_1175
  let v1870 : BitVec 1 := Scalar.xori v1868 v1869
  let c0_i32_1173 : BitVec 32 := 0#32
  let v1867 : BitVec 1 := Scalar.cmpi .ne v1866 c0_i32_1173
  let v1871 : BitVec 1 := Scalar.andi v1870 v1867
  let v1872 : BitVec 32 := Scalar.addi v1866 v1865
  let v1873 : BitVec 32 := Scalar.select v1871 v1872 v1866
  let c1_i32_1176 : BitVec 32 := 1#32
  let v1874 : BitVec 1 := Scalar.cmpi .ne v1873 c1_i32_1176
  let v1875 : BitVec 1 := Scalar.ori v1860 v1874
  let c2_i32_1177 : BitVec 32 := 2#32
  let v1876 : BitVec 32 := Scalar.muli c2_i32_1177 v1859
  let c2_i32_1178 : BitVec 32 := 2#32
  let v1877 : BitVec 32 := Scalar.muli c2_i32_1178 v2
  let v1878 : BitVec 32 := Scalar.addi v1876 v1877
  let c1_i32_1179 : BitVec 32 := 1#32
  let v1879 : BitVec 32 := Scalar.addi v1878 c1_i32_1179
  let c3_i32_1180 : BitVec 32 := 3#32
  let c0_i32_1181 : BitVec 32 := 0#32
  let v1880 : BitVec 1 := Scalar.cmpi .eq c3_i32_1180 c0_i32_1181
  let c1_i32_1182 : BitVec 32 := 1#32
  let v1881 : BitVec 32 := Scalar.select v1880 c1_i32_1182 c3_i32_1180
  let v1882 : BitVec 32 := Scalar.remsi v1879 v1881
  let c0_i32_1184 : BitVec 32 := 0#32
  let v1884 : BitVec 1 := Scalar.cmpi .slt v1882 c0_i32_1184
  let c0_i32_1185 : BitVec 32 := 0#32
  let v1885 : BitVec 1 := Scalar.cmpi .slt v1881 c0_i32_1185
  let v1886 : BitVec 1 := Scalar.xori v1884 v1885
  let c0_i32_1183 : BitVec 32 := 0#32
  let v1883 : BitVec 1 := Scalar.cmpi .ne v1882 c0_i32_1183
  let v1887 : BitVec 1 := Scalar.andi v1886 v1883
  let v1888 : BitVec 32 := Scalar.addi v1882 v1881
  let v1889 : BitVec 32 := Scalar.select v1887 v1888 v1882
  let c1_i32_1186 : BitVec 32 := 1#32
  let v1890 : BitVec 1 := Scalar.cmpi .ne v1889 c1_i32_1186
  let true_1188 : BitVec 1 := 1#1
  let v1894 : BitVec 1 := Scalar.xori v1890 true_1188
  let v1895 : BitVec 1 := Scalar.andi v1875 v1894
  let v1896 : BitVec 32 := Scalar.extui v1895
  let c0_i32_1189 : BitVec 32 := 0#32
  let v1897 : BitVec 1 := Scalar.cmpi .ne v1896 c0_i32_1189
  v1897

def k0_dev111 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1160 : BitVec 32 := 27#32
  let v1849 : BitVec 32 := Scalar.addi v2 c27_i32_1160
  let c32_i32_1161 : BitVec 32 := 32#32
  let c0_i32_1162 : BitVec 32 := 0#32
  let v1850 : BitVec 1 := Scalar.cmpi .eq c32_i32_1161 c0_i32_1162
  let c1_i32_1163 : BitVec 32 := 1#32
  let v1851 : BitVec 32 := Scalar.select v1850 c1_i32_1163 c32_i32_1161
  let v1852 : BitVec 32 := Scalar.remsi v1849 v1851
  let c0_i32_1165 : BitVec 32 := 0#32
  let v1854 : BitVec 1 := Scalar.cmpi .slt v1852 c0_i32_1165
  let c0_i32_1166 : BitVec 32 := 0#32
  let v1855 : BitVec 1 := Scalar.cmpi .slt v1851 c0_i32_1166
  let v1856 : BitVec 1 := Scalar.xori v1854 v1855
  let c0_i32_1164 : BitVec 32 := 0#32
  let v1853 : BitVec 1 := Scalar.cmpi .ne v1852 c0_i32_1164
  let v1857 : BitVec 1 := Scalar.andi v1856 v1853
  let v1858 : BitVec 32 := Scalar.addi v1852 v1851
  let v1859 : BitVec 32 := Scalar.select v1857 v1858 v1852
  let c1_i32_3566 : BitVec 32 := 1#32
  let v5774 : BitVec 32 := Scalar.muli v1859 c1_i32_3566
  let v5775 : BitVec 32 := Scalar.addi c0_i32_3567 v5774
  v5775.toNat
def k0_cond81 (d0 : Dev nD) : BitVec 1 :=
  let c2_i32_1177 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1160 : BitVec 32 := 27#32
  let v1849 : BitVec 32 := Scalar.addi v2 c27_i32_1160
  let c32_i32_1161 : BitVec 32 := 32#32
  let c0_i32_1162 : BitVec 32 := 0#32
  let v1850 : BitVec 1 := Scalar.cmpi .eq c32_i32_1161 c0_i32_1162
  let c1_i32_1163 : BitVec 32 := 1#32
  let v1851 : BitVec 32 := Scalar.select v1850 c1_i32_1163 c32_i32_1161
  let v1852 : BitVec 32 := Scalar.remsi v1849 v1851
  let c0_i32_1165 : BitVec 32 := 0#32
  let v1854 : BitVec 1 := Scalar.cmpi .slt v1852 c0_i32_1165
  let c0_i32_1166 : BitVec 32 := 0#32
  let v1855 : BitVec 1 := Scalar.cmpi .slt v1851 c0_i32_1166
  let v1856 : BitVec 1 := Scalar.xori v1854 v1855
  let c0_i32_1164 : BitVec 32 := 0#32
  let v1853 : BitVec 1 := Scalar.cmpi .ne v1852 c0_i32_1164
  let v1857 : BitVec 1 := Scalar.andi v1856 v1853
  let v1858 : BitVec 32 := Scalar.addi v1852 v1851
  let v1859 : BitVec 32 := Scalar.select v1857 v1858 v1852
  let v1876 : BitVec 32 := Scalar.muli c2_i32_1177 v1859
  let c2_i32_1178 : BitVec 32 := 2#32
  let v1877 : BitVec 32 := Scalar.muli c2_i32_1178 v2
  let v1878 : BitVec 32 := Scalar.addi v1876 v1877
  let c1_i32_1179 : BitVec 32 := 1#32
  let v1879 : BitVec 32 := Scalar.addi v1878 c1_i32_1179
  let c3_i32_1180 : BitVec 32 := 3#32
  let c0_i32_1181 : BitVec 32 := 0#32
  let v1880 : BitVec 1 := Scalar.cmpi .eq c3_i32_1180 c0_i32_1181
  let c1_i32_1182 : BitVec 32 := 1#32
  let v1881 : BitVec 32 := Scalar.select v1880 c1_i32_1182 c3_i32_1180
  let v1882 : BitVec 32 := Scalar.remsi v1879 v1881
  let c0_i32_1184 : BitVec 32 := 0#32
  let v1884 : BitVec 1 := Scalar.cmpi .slt v1882 c0_i32_1184
  let c0_i32_1185 : BitVec 32 := 0#32
  let v1885 : BitVec 1 := Scalar.cmpi .slt v1881 c0_i32_1185
  let v1886 : BitVec 1 := Scalar.xori v1884 v1885
  let c0_i32_1183 : BitVec 32 := 0#32
  let v1883 : BitVec 1 := Scalar.cmpi .ne v1882 c0_i32_1183
  let v1887 : BitVec 1 := Scalar.andi v1886 v1883
  let v1888 : BitVec 32 := Scalar.addi v1882 v1881
  let v1889 : BitVec 32 := Scalar.select v1887 v1888 v1882
  let c1_i32_1186 : BitVec 32 := 1#32
  let v1890 : BitVec 1 := Scalar.cmpi .ne v1889 c1_i32_1186
  let c0_i32_1167 : BitVec 32 := 0#32
  let v1860 : BitVec 1 := Scalar.cmpi .eq v2 c0_i32_1167
  let c2_i32_1168 : BitVec 32 := 2#32
  let v1861 : BitVec 32 := Scalar.muli c2_i32_1168 v1859
  let c2_i32_1169 : BitVec 32 := 2#32
  let v1862 : BitVec 32 := Scalar.muli c2_i32_1169 v2
  let v1863 : BitVec 32 := Scalar.addi v1861 v1862
  let c3_i32_1170 : BitVec 32 := 3#32
  let c0_i32_1171 : BitVec 32 := 0#32
  let v1864 : BitVec 1 := Scalar.cmpi .eq c3_i32_1170 c0_i32_1171
  let c1_i32_1172 : BitVec 32 := 1#32
  let v1865 : BitVec 32 := Scalar.select v1864 c1_i32_1172 c3_i32_1170
  let v1866 : BitVec 32 := Scalar.remsi v1863 v1865
  let c0_i32_1174 : BitVec 32 := 0#32
  let v1868 : BitVec 1 := Scalar.cmpi .slt v1866 c0_i32_1174
  let c0_i32_1175 : BitVec 32 := 0#32
  let v1869 : BitVec 1 := Scalar.cmpi .slt v1865 c0_i32_1175
  let v1870 : BitVec 1 := Scalar.xori v1868 v1869
  let c0_i32_1173 : BitVec 32 := 0#32
  let v1867 : BitVec 1 := Scalar.cmpi .ne v1866 c0_i32_1173
  let v1871 : BitVec 1 := Scalar.andi v1870 v1867
  let v1872 : BitVec 32 := Scalar.addi v1866 v1865
  let v1873 : BitVec 32 := Scalar.select v1871 v1872 v1866
  let c1_i32_1176 : BitVec 32 := 1#32
  let v1874 : BitVec 1 := Scalar.cmpi .ne v1873 c1_i32_1176
  let v1875 : BitVec 1 := Scalar.ori v1860 v1874
  let true_1190 : BitVec 1 := 1#1
  let v1898 : BitVec 1 := Scalar.xori v1875 true_1190
  let v1899 : BitVec 1 := Scalar.andi v1890 v1898
  let v1900 : BitVec 32 := Scalar.extui v1899
  let c0_i32_1191 : BitVec 32 := 0#32
  let v1901 : BitVec 1 := Scalar.cmpi .ne v1900 c0_i32_1191
  v1901

def k0_dev112 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1160 : BitVec 32 := 27#32
  let v1849 : BitVec 32 := Scalar.addi v2 c27_i32_1160
  let c32_i32_1161 : BitVec 32 := 32#32
  let c0_i32_1162 : BitVec 32 := 0#32
  let v1850 : BitVec 1 := Scalar.cmpi .eq c32_i32_1161 c0_i32_1162
  let c1_i32_1163 : BitVec 32 := 1#32
  let v1851 : BitVec 32 := Scalar.select v1850 c1_i32_1163 c32_i32_1161
  let v1852 : BitVec 32 := Scalar.remsi v1849 v1851
  let c0_i32_1165 : BitVec 32 := 0#32
  let v1854 : BitVec 1 := Scalar.cmpi .slt v1852 c0_i32_1165
  let c0_i32_1166 : BitVec 32 := 0#32
  let v1855 : BitVec 1 := Scalar.cmpi .slt v1851 c0_i32_1166
  let v1856 : BitVec 1 := Scalar.xori v1854 v1855
  let c0_i32_1164 : BitVec 32 := 0#32
  let v1853 : BitVec 1 := Scalar.cmpi .ne v1852 c0_i32_1164
  let v1857 : BitVec 1 := Scalar.andi v1856 v1853
  let v1858 : BitVec 32 := Scalar.addi v1852 v1851
  let v1859 : BitVec 32 := Scalar.select v1857 v1858 v1852
  let c1_i32_3566 : BitVec 32 := 1#32
  let v5774 : BitVec 32 := Scalar.muli v1859 c1_i32_3566
  let v5775 : BitVec 32 := Scalar.addi c0_i32_3567 v5774
  v5775.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let v1913 : BitVec 1 := Scalar.cmpi .eq v2 c0_i32_1199
  let c2_i32_1200 : BitVec 32 := 2#32
  let c28_i32_1192 : BitVec 32 := 28#32
  let v1902 : BitVec 32 := Scalar.addi v2 c28_i32_1192
  let c32_i32_1193 : BitVec 32 := 32#32
  let c0_i32_1194 : BitVec 32 := 0#32
  let v1903 : BitVec 1 := Scalar.cmpi .eq c32_i32_1193 c0_i32_1194
  let c1_i32_1195 : BitVec 32 := 1#32
  let v1904 : BitVec 32 := Scalar.select v1903 c1_i32_1195 c32_i32_1193
  let v1905 : BitVec 32 := Scalar.remsi v1902 v1904
  let c0_i32_1197 : BitVec 32 := 0#32
  let v1907 : BitVec 1 := Scalar.cmpi .slt v1905 c0_i32_1197
  let c0_i32_1198 : BitVec 32 := 0#32
  let v1908 : BitVec 1 := Scalar.cmpi .slt v1904 c0_i32_1198
  let v1909 : BitVec 1 := Scalar.xori v1907 v1908
  let c0_i32_1196 : BitVec 32 := 0#32
  let v1906 : BitVec 1 := Scalar.cmpi .ne v1905 c0_i32_1196
  let v1910 : BitVec 1 := Scalar.andi v1909 v1906
  let v1911 : BitVec 32 := Scalar.addi v1905 v1904
  let v1912 : BitVec 32 := Scalar.select v1910 v1911 v1905
  let v1914 : BitVec 32 := Scalar.muli c2_i32_1200 v1912
  let c2_i32_1201 : BitVec 32 := 2#32
  let v1915 : BitVec 32 := Scalar.muli c2_i32_1201 v2
  let v1916 : BitVec 32 := Scalar.addi v1914 v1915
  let c3_i32_1202 : BitVec 32 := 3#32
  let c0_i32_1203 : BitVec 32 := 0#32
  let v1917 : BitVec 1 := Scalar.cmpi .eq c3_i32_1202 c0_i32_1203
  let c1_i32_1204 : BitVec 32 := 1#32
  let v1918 : BitVec 32 := Scalar.select v1917 c1_i32_1204 c3_i32_1202
  let v1919 : BitVec 32 := Scalar.remsi v1916 v1918
  let c0_i32_1206 : BitVec 32 := 0#32
  let v1921 : BitVec 1 := Scalar.cmpi .slt v1919 c0_i32_1206
  let c0_i32_1207 : BitVec 32 := 0#32
  let v1922 : BitVec 1 := Scalar.cmpi .slt v1918 c0_i32_1207
  let v1923 : BitVec 1 := Scalar.xori v1921 v1922
  let c0_i32_1205 : BitVec 32 := 0#32
  let v1920 : BitVec 1 := Scalar.cmpi .ne v1919 c0_i32_1205
  let v1924 : BitVec 1 := Scalar.andi v1923 v1920
  let v1925 : BitVec 32 := Scalar.addi v1919 v1918
  let v1926 : BitVec 32 := Scalar.select v1924 v1925 v1919
  let c1_i32_1208 : BitVec 32 := 1#32
  let v1927 : BitVec 1 := Scalar.cmpi .ne v1926 c1_i32_1208
  let v1928 : BitVec 1 := Scalar.ori v1913 v1927
  let c2_i32_1209 : BitVec 32 := 2#32
  let v1929 : BitVec 32 := Scalar.muli c2_i32_1209 v1912
  let c2_i32_1210 : BitVec 32 := 2#32
  let v1930 : BitVec 32 := Scalar.muli c2_i32_1210 v2
  let v1931 : BitVec 32 := Scalar.addi v1929 v1930
  let c1_i32_1211 : BitVec 32 := 1#32
  let v1932 : BitVec 32 := Scalar.addi v1931 c1_i32_1211
  let c3_i32_1212 : BitVec 32 := 3#32
  let c0_i32_1213 : BitVec 32 := 0#32
  let v1933 : BitVec 1 := Scalar.cmpi .eq c3_i32_1212 c0_i32_1213
  let c1_i32_1214 : BitVec 32 := 1#32
  let v1934 : BitVec 32 := Scalar.select v1933 c1_i32_1214 c3_i32_1212
  let v1935 : BitVec 32 := Scalar.remsi v1932 v1934
  let c0_i32_1216 : BitVec 32 := 0#32
  let v1937 : BitVec 1 := Scalar.cmpi .slt v1935 c0_i32_1216
  let c0_i32_1217 : BitVec 32 := 0#32
  let v1938 : BitVec 1 := Scalar.cmpi .slt v1934 c0_i32_1217
  let v1939 : BitVec 1 := Scalar.xori v1937 v1938
  let c0_i32_1215 : BitVec 32 := 0#32
  let v1936 : BitVec 1 := Scalar.cmpi .ne v1935 c0_i32_1215
  let v1940 : BitVec 1 := Scalar.andi v1939 v1936
  let v1941 : BitVec 32 := Scalar.addi v1935 v1934
  let v1942 : BitVec 32 := Scalar.select v1940 v1941 v1935
  let c1_i32_1218 : BitVec 32 := 1#32
  let v1943 : BitVec 1 := Scalar.cmpi .ne v1942 c1_i32_1218
  let v1944 : BitVec 1 := Scalar.andi v1928 v1943
  let v1945 : BitVec 32 := Scalar.extui v1944
  let c0_i32_1219 : BitVec 32 := 0#32
  let v1946 : BitVec 1 := Scalar.cmpi .ne v1945 c0_i32_1219
  v1946

def k0_dev113 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1192 : BitVec 32 := 28#32
  let v1902 : BitVec 32 := Scalar.addi v2 c28_i32_1192
  let c32_i32_1193 : BitVec 32 := 32#32
  let c0_i32_1194 : BitVec 32 := 0#32
  let v1903 : BitVec 1 := Scalar.cmpi .eq c32_i32_1193 c0_i32_1194
  let c1_i32_1195 : BitVec 32 := 1#32
  let v1904 : BitVec 32 := Scalar.select v1903 c1_i32_1195 c32_i32_1193
  let v1905 : BitVec 32 := Scalar.remsi v1902 v1904
  let c0_i32_1197 : BitVec 32 := 0#32
  let v1907 : BitVec 1 := Scalar.cmpi .slt v1905 c0_i32_1197
  let c0_i32_1198 : BitVec 32 := 0#32
  let v1908 : BitVec 1 := Scalar.cmpi .slt v1904 c0_i32_1198
  let v1909 : BitVec 1 := Scalar.xori v1907 v1908
  let c0_i32_1196 : BitVec 32 := 0#32
  let v1906 : BitVec 1 := Scalar.cmpi .ne v1905 c0_i32_1196
  let v1910 : BitVec 1 := Scalar.andi v1909 v1906
  let v1911 : BitVec 32 := Scalar.addi v1905 v1904
  let v1912 : BitVec 32 := Scalar.select v1910 v1911 v1905
  let c1_i32_3564 : BitVec 32 := 1#32
  let v5774 : BitVec 32 := Scalar.muli v1912 c1_i32_3564
  let v5775 : BitVec 32 := Scalar.addi c0_i32_3565 v5774
  v5775.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let v1913 : BitVec 1 := Scalar.cmpi .eq v2 c0_i32_1199
  let c2_i32_1200 : BitVec 32 := 2#32
  let c28_i32_1192 : BitVec 32 := 28#32
  let v1902 : BitVec 32 := Scalar.addi v2 c28_i32_1192
  let c32_i32_1193 : BitVec 32 := 32#32
  let c0_i32_1194 : BitVec 32 := 0#32
  let v1903 : BitVec 1 := Scalar.cmpi .eq c32_i32_1193 c0_i32_1194
  let c1_i32_1195 : BitVec 32 := 1#32
  let v1904 : BitVec 32 := Scalar.select v1903 c1_i32_1195 c32_i32_1193
  let v1905 : BitVec 32 := Scalar.remsi v1902 v1904
  let c0_i32_1197 : BitVec 32 := 0#32
  let v1907 : BitVec 1 := Scalar.cmpi .slt v1905 c0_i32_1197
  let c0_i32_1198 : BitVec 32 := 0#32
  let v1908 : BitVec 1 := Scalar.cmpi .slt v1904 c0_i32_1198
  let v1909 : BitVec 1 := Scalar.xori v1907 v1908
  let c0_i32_1196 : BitVec 32 := 0#32
  let v1906 : BitVec 1 := Scalar.cmpi .ne v1905 c0_i32_1196
  let v1910 : BitVec 1 := Scalar.andi v1909 v1906
  let v1911 : BitVec 32 := Scalar.addi v1905 v1904
  let v1912 : BitVec 32 := Scalar.select v1910 v1911 v1905
  let v1914 : BitVec 32 := Scalar.muli c2_i32_1200 v1912
  let c2_i32_1201 : BitVec 32 := 2#32
  let v1915 : BitVec 32 := Scalar.muli c2_i32_1201 v2
  let v1916 : BitVec 32 := Scalar.addi v1914 v1915
  let c3_i32_1202 : BitVec 32 := 3#32
  let c0_i32_1203 : BitVec 32 := 0#32
  let v1917 : BitVec 1 := Scalar.cmpi .eq c3_i32_1202 c0_i32_1203
  let c1_i32_1204 : BitVec 32 := 1#32
  let v1918 : BitVec 32 := Scalar.select v1917 c1_i32_1204 c3_i32_1202
  let v1919 : BitVec 32 := Scalar.remsi v1916 v1918
  let c0_i32_1206 : BitVec 32 := 0#32
  let v1921 : BitVec 1 := Scalar.cmpi .slt v1919 c0_i32_1206
  let c0_i32_1207 : BitVec 32 := 0#32
  let v1922 : BitVec 1 := Scalar.cmpi .slt v1918 c0_i32_1207
  let v1923 : BitVec 1 := Scalar.xori v1921 v1922
  let c0_i32_1205 : BitVec 32 := 0#32
  let v1920 : BitVec 1 := Scalar.cmpi .ne v1919 c0_i32_1205
  let v1924 : BitVec 1 := Scalar.andi v1923 v1920
  let v1925 : BitVec 32 := Scalar.addi v1919 v1918
  let v1926 : BitVec 32 := Scalar.select v1924 v1925 v1919
  let c1_i32_1208 : BitVec 32 := 1#32
  let v1927 : BitVec 1 := Scalar.cmpi .ne v1926 c1_i32_1208
  let v1928 : BitVec 1 := Scalar.ori v1913 v1927
  let c2_i32_1209 : BitVec 32 := 2#32
  let v1929 : BitVec 32 := Scalar.muli c2_i32_1209 v1912
  let c2_i32_1210 : BitVec 32 := 2#32
  let v1930 : BitVec 32 := Scalar.muli c2_i32_1210 v2
  let v1931 : BitVec 32 := Scalar.addi v1929 v1930
  let c1_i32_1211 : BitVec 32 := 1#32
  let v1932 : BitVec 32 := Scalar.addi v1931 c1_i32_1211
  let c3_i32_1212 : BitVec 32 := 3#32
  let c0_i32_1213 : BitVec 32 := 0#32
  let v1933 : BitVec 1 := Scalar.cmpi .eq c3_i32_1212 c0_i32_1213
  let c1_i32_1214 : BitVec 32 := 1#32
  let v1934 : BitVec 32 := Scalar.select v1933 c1_i32_1214 c3_i32_1212
  let v1935 : BitVec 32 := Scalar.remsi v1932 v1934
  let c0_i32_1216 : BitVec 32 := 0#32
  let v1937 : BitVec 1 := Scalar.cmpi .slt v1935 c0_i32_1216
  let c0_i32_1217 : BitVec 32 := 0#32
  let v1938 : BitVec 1 := Scalar.cmpi .slt v1934 c0_i32_1217
  let v1939 : BitVec 1 := Scalar.xori v1937 v1938
  let c0_i32_1215 : BitVec 32 := 0#32
  let v1936 : BitVec 1 := Scalar.cmpi .ne v1935 c0_i32_1215
  let v1940 : BitVec 1 := Scalar.andi v1939 v1936
  let v1941 : BitVec 32 := Scalar.addi v1935 v1934
  let v1942 : BitVec 32 := Scalar.select v1940 v1941 v1935
  let c1_i32_1218 : BitVec 32 := 1#32
  let v1943 : BitVec 1 := Scalar.cmpi .ne v1942 c1_i32_1218
  let true_1220 : BitVec 1 := 1#1
  let v1947 : BitVec 1 := Scalar.xori v1943 true_1220
  let v1948 : BitVec 1 := Scalar.andi v1928 v1947
  let v1949 : BitVec 32 := Scalar.extui v1948
  let c0_i32_1221 : BitVec 32 := 0#32
  let v1950 : BitVec 1 := Scalar.cmpi .ne v1949 c0_i32_1221
  v1950

def k0_dev114 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1192 : BitVec 32 := 28#32
  let v1902 : BitVec 32 := Scalar.addi v2 c28_i32_1192
  let c32_i32_1193 : BitVec 32 := 32#32
  let c0_i32_1194 : BitVec 32 := 0#32
  let v1903 : BitVec 1 := Scalar.cmpi .eq c32_i32_1193 c0_i32_1194
  let c1_i32_1195 : BitVec 32 := 1#32
  let v1904 : BitVec 32 := Scalar.select v1903 c1_i32_1195 c32_i32_1193
  let v1905 : BitVec 32 := Scalar.remsi v1902 v1904
  let c0_i32_1197 : BitVec 32 := 0#32
  let v1907 : BitVec 1 := Scalar.cmpi .slt v1905 c0_i32_1197
  let c0_i32_1198 : BitVec 32 := 0#32
  let v1908 : BitVec 1 := Scalar.cmpi .slt v1904 c0_i32_1198
  let v1909 : BitVec 1 := Scalar.xori v1907 v1908
  let c0_i32_1196 : BitVec 32 := 0#32
  let v1906 : BitVec 1 := Scalar.cmpi .ne v1905 c0_i32_1196
  let v1910 : BitVec 1 := Scalar.andi v1909 v1906
  let v1911 : BitVec 32 := Scalar.addi v1905 v1904
  let v1912 : BitVec 32 := Scalar.select v1910 v1911 v1905
  let c1_i32_3566 : BitVec 32 := 1#32
  let v5774 : BitVec 32 := Scalar.muli v1912 c1_i32_3566
  let v5775 : BitVec 32 := Scalar.addi c0_i32_3567 v5774
  v5775.toNat
def k0_cond84 (d0 : Dev nD) : BitVec 1 :=
  let c2_i32_1209 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1192 : BitVec 32 := 28#32
  let v1902 : BitVec 32 := Scalar.addi v2 c28_i32_1192
  let c32_i32_1193 : BitVec 32 := 32#32
  let c0_i32_1194 : BitVec 32 := 0#32
  let v1903 : BitVec 1 := Scalar.cmpi .eq c32_i32_1193 c0_i32_1194
  let c1_i32_1195 : BitVec 32 := 1#32
  let v1904 : BitVec 32 := Scalar.select v1903 c1_i32_1195 c32_i32_1193
  let v1905 : BitVec 32 := Scalar.remsi v1902 v1904
  let c0_i32_1197 : BitVec 32 := 0#32
  let v1907 : BitVec 1 := Scalar.cmpi .slt v1905 c0_i32_1197
  let c0_i32_1198 : BitVec 32 := 0#32
  let v1908 : BitVec 1 := Scalar.cmpi .slt v1904 c0_i32_1198
  let v1909 : BitVec 1 := Scalar.xori v1907 v1908
  let c0_i32_1196 : BitVec 32 := 0#32
  let v1906 : BitVec 1 := Scalar.cmpi .ne v1905 c0_i32_1196
  let v1910 : BitVec 1 := Scalar.andi v1909 v1906
  let v1911 : BitVec 32 := Scalar.addi v1905 v1904
  let v1912 : BitVec 32 := Scalar.select v1910 v1911 v1905
  let v1929 : BitVec 32 := Scalar.muli c2_i32_1209 v1912
  let c2_i32_1210 : BitVec 32 := 2#32
  let v1930 : BitVec 32 := Scalar.muli c2_i32_1210 v2
  let v1931 : BitVec 32 := Scalar.addi v1929 v1930
  let c1_i32_1211 : BitVec 32 := 1#32
  let v1932 : BitVec 32 := Scalar.addi v1931 c1_i32_1211
  let c3_i32_1212 : BitVec 32 := 3#32
  let c0_i32_1213 : BitVec 32 := 0#32
  let v1933 : BitVec 1 := Scalar.cmpi .eq c3_i32_1212 c0_i32_1213
  let c1_i32_1214 : BitVec 32 := 1#32
  let v1934 : BitVec 32 := Scalar.select v1933 c1_i32_1214 c3_i32_1212
  let v1935 : BitVec 32 := Scalar.remsi v1932 v1934
  let c0_i32_1216 : BitVec 32 := 0#32
  let v1937 : BitVec 1 := Scalar.cmpi .slt v1935 c0_i32_1216
  let c0_i32_1217 : BitVec 32 := 0#32
  let v1938 : BitVec 1 := Scalar.cmpi .slt v1934 c0_i32_1217
  let v1939 : BitVec 1 := Scalar.xori v1937 v1938
  let c0_i32_1215 : BitVec 32 := 0#32
  let v1936 : BitVec 1 := Scalar.cmpi .ne v1935 c0_i32_1215
  let v1940 : BitVec 1 := Scalar.andi v1939 v1936
  let v1941 : BitVec 32 := Scalar.addi v1935 v1934
  let v1942 : BitVec 32 := Scalar.select v1940 v1941 v1935
  let c1_i32_1218 : BitVec 32 := 1#32
  let v1943 : BitVec 1 := Scalar.cmpi .ne v1942 c1_i32_1218
  let c0_i32_1199 : BitVec 32 := 0#32
  let v1913 : BitVec 1 := Scalar.cmpi .eq v2 c0_i32_1199
  let c2_i32_1200 : BitVec 32 := 2#32
  let v1914 : BitVec 32 := Scalar.muli c2_i32_1200 v1912
  let c2_i32_1201 : BitVec 32 := 2#32
  let v1915 : BitVec 32 := Scalar.muli c2_i32_1201 v2
  let v1916 : BitVec 32 := Scalar.addi v1914 v1915
  let c3_i32_1202 : BitVec 32 := 3#32
  let c0_i32_1203 : BitVec 32 := 0#32
  let v1917 : BitVec 1 := Scalar.cmpi .eq c3_i32_1202 c0_i32_1203
  let c1_i32_1204 : BitVec 32 := 1#32
  let v1918 : BitVec 32 := Scalar.select v1917 c1_i32_1204 c3_i32_1202
  let v1919 : BitVec 32 := Scalar.remsi v1916 v1918
  let c0_i32_1206 : BitVec 32 := 0#32
  let v1921 : BitVec 1 := Scalar.cmpi .slt v1919 c0_i32_1206
  let c0_i32_1207 : BitVec 32 := 0#32
  let v1922 : BitVec 1 := Scalar.cmpi .slt v1918 c0_i32_1207
  let v1923 : BitVec 1 := Scalar.xori v1921 v1922
  let c0_i32_1205 : BitVec 32 := 0#32
  let v1920 : BitVec 1 := Scalar.cmpi .ne v1919 c0_i32_1205
  let v1924 : BitVec 1 := Scalar.andi v1923 v1920
  let v1925 : BitVec 32 := Scalar.addi v1919 v1918
  let v1926 : BitVec 32 := Scalar.select v1924 v1925 v1919
  let c1_i32_1208 : BitVec 32 := 1#32
  let v1927 : BitVec 1 := Scalar.cmpi .ne v1926 c1_i32_1208
  let v1928 : BitVec 1 := Scalar.ori v1913 v1927
  let true_1222 : BitVec 1 := 1#1
  let v1951 : BitVec 1 := Scalar.xori v1928 true_1222
  let v1952 : BitVec 1 := Scalar.andi v1943 v1951
  let v1953 : BitVec 32 := Scalar.extui v1952
  let c0_i32_1223 : BitVec 32 := 0#32
  let v1954 : BitVec 1 := Scalar.cmpi .ne v1953 c0_i32_1223
  v1954

def k0_dev115 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1192 : BitVec 32 := 28#32
  let v1902 : BitVec 32 := Scalar.addi v2 c28_i32_1192
  let c32_i32_1193 : BitVec 32 := 32#32
  let c0_i32_1194 : BitVec 32 := 0#32
  let v1903 : BitVec 1 := Scalar.cmpi .eq c32_i32_1193 c0_i32_1194
  let c1_i32_1195 : BitVec 32 := 1#32
  let v1904 : BitVec 32 := Scalar.select v1903 c1_i32_1195 c32_i32_1193
  let v1905 : BitVec 32 := Scalar.remsi v1902 v1904
  let c0_i32_1197 : BitVec 32 := 0#32
  let v1907 : BitVec 1 := Scalar.cmpi .slt v1905 c0_i32_1197
  let c0_i32_1198 : BitVec 32 := 0#32
  let v1908 : BitVec 1 := Scalar.cmpi .slt v1904 c0_i32_1198
  let v1909 : BitVec 1 := Scalar.xori v1907 v1908
  let c0_i32_1196 : BitVec 32 := 0#32
  let v1906 : BitVec 1 := Scalar.cmpi .ne v1905 c0_i32_1196
  let v1910 : BitVec 1 := Scalar.andi v1909 v1906
  let v1911 : BitVec 32 := Scalar.addi v1905 v1904
  let v1912 : BitVec 32 := Scalar.select v1910 v1911 v1905
  let c1_i32_3566 : BitVec 32 := 1#32
  let v5774 : BitVec 32 := Scalar.muli v1912 c1_i32_3566
  let v5775 : BitVec 32 := Scalar.addi c0_i32_3567 v5774
  v5775.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1231 : BitVec 32 := 0#32
  let v1966 : BitVec 1 := Scalar.cmpi .eq v2 c0_i32_1231
  let c2_i32_1232 : BitVec 32 := 2#32
  let c29_i32_1224 : BitVec 32 := 29#32
  let v1955 : BitVec 32 := Scalar.addi v2 c29_i32_1224
  let c32_i32_1225 : BitVec 32 := 32#32
  let c0_i32_1226 : BitVec 32 := 0#32
  let v1956 : BitVec 1 := Scalar.cmpi .eq c32_i32_1225 c0_i32_1226
  let c1_i32_1227 : BitVec 32 := 1#32
  let v1957 : BitVec 32 := Scalar.select v1956 c1_i32_1227 c32_i32_1225
  let v1958 : BitVec 32 := Scalar.remsi v1955 v1957
  let c0_i32_1229 : BitVec 32 := 0#32
  let v1960 : BitVec 1 := Scalar.cmpi .slt v1958 c0_i32_1229
  let c0_i32_1230 : BitVec 32 := 0#32
  let v1961 : BitVec 1 := Scalar.cmpi .slt v1957 c0_i32_1230
  let v1962 : BitVec 1 := Scalar.xori v1960 v1961
  let c0_i32_1228 : BitVec 32 := 0#32
  let v1959 : BitVec 1 := Scalar.cmpi .ne v1958 c0_i32_1228
  let v1963 : BitVec 1 := Scalar.andi v1962 v1959
  let v1964 : BitVec 32 := Scalar.addi v1958 v1957
  let v1965 : BitVec 32 := Scalar.select v1963 v1964 v1958
  let v1967 : BitVec 32 := Scalar.muli c2_i32_1232 v1965
  let c2_i32_1233 : BitVec 32 := 2#32
  let v1968 : BitVec 32 := Scalar.muli c2_i32_1233 v2
  let v1969 : BitVec 32 := Scalar.addi v1967 v1968
  let c3_i32_1234 : BitVec 32 := 3#32
  let c0_i32_1235 : BitVec 32 := 0#32
  let v1970 : BitVec 1 := Scalar.cmpi .eq c3_i32_1234 c0_i32_1235
  let c1_i32_1236 : BitVec 32 := 1#32
  let v1971 : BitVec 32 := Scalar.select v1970 c1_i32_1236 c3_i32_1234
  let v1972 : BitVec 32 := Scalar.remsi v1969 v1971
  let c0_i32_1238 : BitVec 32 := 0#32
  let v1974 : BitVec 1 := Scalar.cmpi .slt v1972 c0_i32_1238
  let c0_i32_1239 : BitVec 32 := 0#32
  let v1975 : BitVec 1 := Scalar.cmpi .slt v1971 c0_i32_1239
  let v1976 : BitVec 1 := Scalar.xori v1974 v1975
  let c0_i32_1237 : BitVec 32 := 0#32
  let v1973 : BitVec 1 := Scalar.cmpi .ne v1972 c0_i32_1237
  let v1977 : BitVec 1 := Scalar.andi v1976 v1973
  let v1978 : BitVec 32 := Scalar.addi v1972 v1971
  let v1979 : BitVec 32 := Scalar.select v1977 v1978 v1972
  let c1_i32_1240 : BitVec 32 := 1#32
  let v1980 : BitVec 1 := Scalar.cmpi .ne v1979 c1_i32_1240
  let v1981 : BitVec 1 := Scalar.ori v1966 v1980
  let c2_i32_1241 : BitVec 32 := 2#32
  let v1982 : BitVec 32 := Scalar.muli c2_i32_1241 v1965
  let c2_i32_1242 : BitVec 32 := 2#32
  let v1983 : BitVec 32 := Scalar.muli c2_i32_1242 v2
  let v1984 : BitVec 32 := Scalar.addi v1982 v1983
  let c1_i32_1243 : BitVec 32 := 1#32
  let v1985 : BitVec 32 := Scalar.addi v1984 c1_i32_1243
  let c3_i32_1244 : BitVec 32 := 3#32
  let c0_i32_1245 : BitVec 32 := 0#32
  let v1986 : BitVec 1 := Scalar.cmpi .eq c3_i32_1244 c0_i32_1245
  let c1_i32_1246 : BitVec 32 := 1#32
  let v1987 : BitVec 32 := Scalar.select v1986 c1_i32_1246 c3_i32_1244
  let v1988 : BitVec 32 := Scalar.remsi v1985 v1987
  let c0_i32_1248 : BitVec 32 := 0#32
  let v1990 : BitVec 1 := Scalar.cmpi .slt v1988 c0_i32_1248
  let c0_i32_1249 : BitVec 32 := 0#32
  let v1991 : BitVec 1 := Scalar.cmpi .slt v1987 c0_i32_1249
  let v1992 : BitVec 1 := Scalar.xori v1990 v1991
  let c0_i32_1247 : BitVec 32 := 0#32
  let v1989 : BitVec 1 := Scalar.cmpi .ne v1988 c0_i32_1247
  let v1993 : BitVec 1 := Scalar.andi v1992 v1989
  let v1994 : BitVec 32 := Scalar.addi v1988 v1987
  let v1995 : BitVec 32 := Scalar.select v1993 v1994 v1988
  let c1_i32_1250 : BitVec 32 := 1#32
  let v1996 : BitVec 1 := Scalar.cmpi .ne v1995 c1_i32_1250
  let v1997 : BitVec 1 := Scalar.andi v1981 v1996
  let v1998 : BitVec 32 := Scalar.extui v1997
  let c0_i32_1251 : BitVec 32 := 0#32
  let v1999 : BitVec 1 := Scalar.cmpi .ne v1998 c0_i32_1251
  v1999

def k0_dev116 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1224 : BitVec 32 := 29#32
  let v1955 : BitVec 32 := Scalar.addi v2 c29_i32_1224
  let c32_i32_1225 : BitVec 32 := 32#32
  let c0_i32_1226 : BitVec 32 := 0#32
  let v1956 : BitVec 1 := Scalar.cmpi .eq c32_i32_1225 c0_i32_1226
  let c1_i32_1227 : BitVec 32 := 1#32
  let v1957 : BitVec 32 := Scalar.select v1956 c1_i32_1227 c32_i32_1225
  let v1958 : BitVec 32 := Scalar.remsi v1955 v1957
  let c0_i32_1229 : BitVec 32 := 0#32
  let v1960 : BitVec 1 := Scalar.cmpi .slt v1958 c0_i32_1229
  let c0_i32_1230 : BitVec 32 := 0#32
  let v1961 : BitVec 1 := Scalar.cmpi .slt v1957 c0_i32_1230
  let v1962 : BitVec 1 := Scalar.xori v1960 v1961
  let c0_i32_1228 : BitVec 32 := 0#32
  let v1959 : BitVec 1 := Scalar.cmpi .ne v1958 c0_i32_1228
  let v1963 : BitVec 1 := Scalar.andi v1962 v1959
  let v1964 : BitVec 32 := Scalar.addi v1958 v1957
  let v1965 : BitVec 32 := Scalar.select v1963 v1964 v1958
  let c1_i32_3564 : BitVec 32 := 1#32
  let v5774 : BitVec 32 := Scalar.muli v1965 c1_i32_3564
  let v5775 : BitVec 32 := Scalar.addi c0_i32_3565 v5774
  v5775.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1231 : BitVec 32 := 0#32
  let v1966 : BitVec 1 := Scalar.cmpi .eq v2 c0_i32_1231
  let c2_i32_1232 : BitVec 32 := 2#32
  let c29_i32_1224 : BitVec 32 := 29#32
  let v1955 : BitVec 32 := Scalar.addi v2 c29_i32_1224
  let c32_i32_1225 : BitVec 32 := 32#32
  let c0_i32_1226 : BitVec 32 := 0#32
  let v1956 : BitVec 1 := Scalar.cmpi .eq c32_i32_1225 c0_i32_1226
  let c1_i32_1227 : BitVec 32 := 1#32
  let v1957 : BitVec 32 := Scalar.select v1956 c1_i32_1227 c32_i32_1225
  let v1958 : BitVec 32 := Scalar.remsi v1955 v1957
  let c0_i32_1229 : BitVec 32 := 0#32
  let v1960 : BitVec 1 := Scalar.cmpi .slt v1958 c0_i32_1229
  let c0_i32_1230 : BitVec 32 := 0#32
  let v1961 : BitVec 1 := Scalar.cmpi .slt v1957 c0_i32_1230
  let v1962 : BitVec 1 := Scalar.xori v1960 v1961
  let c0_i32_1228 : BitVec 32 := 0#32
  let v1959 : BitVec 1 := Scalar.cmpi .ne v1958 c0_i32_1228
  let v1963 : BitVec 1 := Scalar.andi v1962 v1959
  let v1964 : BitVec 32 := Scalar.addi v1958 v1957
  let v1965 : BitVec 32 := Scalar.select v1963 v1964 v1958
  let v1967 : BitVec 32 := Scalar.muli c2_i32_1232 v1965
  let c2_i32_1233 : BitVec 32 := 2#32
  let v1968 : BitVec 32 := Scalar.muli c2_i32_1233 v2
  let v1969 : BitVec 32 := Scalar.addi v1967 v1968
  let c3_i32_1234 : BitVec 32 := 3#32
  let c0_i32_1235 : BitVec 32 := 0#32
  let v1970 : BitVec 1 := Scalar.cmpi .eq c3_i32_1234 c0_i32_1235
  let c1_i32_1236 : BitVec 32 := 1#32
  let v1971 : BitVec 32 := Scalar.select v1970 c1_i32_1236 c3_i32_1234
  let v1972 : BitVec 32 := Scalar.remsi v1969 v1971
  let c0_i32_1238 : BitVec 32 := 0#32
  let v1974 : BitVec 1 := Scalar.cmpi .slt v1972 c0_i32_1238
  let c0_i32_1239 : BitVec 32 := 0#32
  let v1975 : BitVec 1 := Scalar.cmpi .slt v1971 c0_i32_1239
  let v1976 : BitVec 1 := Scalar.xori v1974 v1975
  let c0_i32_1237 : BitVec 32 := 0#32
  let v1973 : BitVec 1 := Scalar.cmpi .ne v1972 c0_i32_1237
  let v1977 : BitVec 1 := Scalar.andi v1976 v1973
  let v1978 : BitVec 32 := Scalar.addi v1972 v1971
  let v1979 : BitVec 32 := Scalar.select v1977 v1978 v1972
  let c1_i32_1240 : BitVec 32 := 1#32
  let v1980 : BitVec 1 := Scalar.cmpi .ne v1979 c1_i32_1240
  let v1981 : BitVec 1 := Scalar.ori v1966 v1980
  let c2_i32_1241 : BitVec 32 := 2#32
  let v1982 : BitVec 32 := Scalar.muli c2_i32_1241 v1965
  let c2_i32_1242 : BitVec 32 := 2#32
  let v1983 : BitVec 32 := Scalar.muli c2_i32_1242 v2
  let v1984 : BitVec 32 := Scalar.addi v1982 v1983
  let c1_i32_1243 : BitVec 32 := 1#32
  let v1985 : BitVec 32 := Scalar.addi v1984 c1_i32_1243
  let c3_i32_1244 : BitVec 32 := 3#32
  let c0_i32_1245 : BitVec 32 := 0#32
  let v1986 : BitVec 1 := Scalar.cmpi .eq c3_i32_1244 c0_i32_1245
  let c1_i32_1246 : BitVec 32 := 1#32
  let v1987 : BitVec 32 := Scalar.select v1986 c1_i32_1246 c3_i32_1244
  let v1988 : BitVec 32 := Scalar.remsi v1985 v1987
  let c0_i32_1248 : BitVec 32 := 0#32
  let v1990 : BitVec 1 := Scalar.cmpi .slt v1988 c0_i32_1248
  let c0_i32_1249 : BitVec 32 := 0#32
  let v1991 : BitVec 1 := Scalar.cmpi .slt v1987 c0_i32_1249
  let v1992 : BitVec 1 := Scalar.xori v1990 v1991
  let c0_i32_1247 : BitVec 32 := 0#32
  let v1989 : BitVec 1 := Scalar.cmpi .ne v1988 c0_i32_1247
  let v1993 : BitVec 1 := Scalar.andi v1992 v1989
  let v1994 : BitVec 32 := Scalar.addi v1988 v1987
  let v1995 : BitVec 32 := Scalar.select v1993 v1994 v1988
  let c1_i32_1250 : BitVec 32 := 1#32
  let v1996 : BitVec 1 := Scalar.cmpi .ne v1995 c1_i32_1250
  let true_1252 : BitVec 1 := 1#1
  let v2000 : BitVec 1 := Scalar.xori v1996 true_1252
  let v2001 : BitVec 1 := Scalar.andi v1981 v2000
  let v2002 : BitVec 32 := Scalar.extui v2001
  let c0_i32_1253 : BitVec 32 := 0#32
  let v2003 : BitVec 1 := Scalar.cmpi .ne v2002 c0_i32_1253
  v2003

def k0_dev117 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1224 : BitVec 32 := 29#32
  let v1955 : BitVec 32 := Scalar.addi v2 c29_i32_1224
  let c32_i32_1225 : BitVec 32 := 32#32
  let c0_i32_1226 : BitVec 32 := 0#32
  let v1956 : BitVec 1 := Scalar.cmpi .eq c32_i32_1225 c0_i32_1226
  let c1_i32_1227 : BitVec 32 := 1#32
  let v1957 : BitVec 32 := Scalar.select v1956 c1_i32_1227 c32_i32_1225
  let v1958 : BitVec 32 := Scalar.remsi v1955 v1957
  let c0_i32_1229 : BitVec 32 := 0#32
  let v1960 : BitVec 1 := Scalar.cmpi .slt v1958 c0_i32_1229
  let c0_i32_1230 : BitVec 32 := 0#32
  let v1961 : BitVec 1 := Scalar.cmpi .slt v1957 c0_i32_1230
  let v1962 : BitVec 1 := Scalar.xori v1960 v1961
  let c0_i32_1228 : BitVec 32 := 0#32
  let v1959 : BitVec 1 := Scalar.cmpi .ne v1958 c0_i32_1228
  let v1963 : BitVec 1 := Scalar.andi v1962 v1959
  let v1964 : BitVec 32 := Scalar.addi v1958 v1957
  let v1965 : BitVec 32 := Scalar.select v1963 v1964 v1958
  let c1_i32_3566 : BitVec 32 := 1#32
  let v5774 : BitVec 32 := Scalar.muli v1965 c1_i32_3566
  let v5775 : BitVec 32 := Scalar.addi c0_i32_3567 v5774
  v5775.toNat
def k0_cond87 (d0 : Dev nD) : BitVec 1 :=
  let c2_i32_1241 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1224 : BitVec 32 := 29#32
  let v1955 : BitVec 32 := Scalar.addi v2 c29_i32_1224
  let c32_i32_1225 : BitVec 32 := 32#32
  let c0_i32_1226 : BitVec 32 := 0#32
  let v1956 : BitVec 1 := Scalar.cmpi .eq c32_i32_1225 c0_i32_1226
  let c1_i32_1227 : BitVec 32 := 1#32
  let v1957 : BitVec 32 := Scalar.select v1956 c1_i32_1227 c32_i32_1225
  let v1958 : BitVec 32 := Scalar.remsi v1955 v1957
  let c0_i32_1229 : BitVec 32 := 0#32
  let v1960 : BitVec 1 := Scalar.cmpi .slt v1958 c0_i32_1229
  let c0_i32_1230 : BitVec 32 := 0#32
  let v1961 : BitVec 1 := Scalar.cmpi .slt v1957 c0_i32_1230
  let v1962 : BitVec 1 := Scalar.xori v1960 v1961
  let c0_i32_1228 : BitVec 32 := 0#32
  let v1959 : BitVec 1 := Scalar.cmpi .ne v1958 c0_i32_1228
  let v1963 : BitVec 1 := Scalar.andi v1962 v1959
  let v1964 : BitVec 32 := Scalar.addi v1958 v1957
  let v1965 : BitVec 32 := Scalar.select v1963 v1964 v1958
  let v1982 : BitVec 32 := Scalar.muli c2_i32_1241 v1965
  let c2_i32_1242 : BitVec 32 := 2#32
  let v1983 : BitVec 32 := Scalar.muli c2_i32_1242 v2
  let v1984 : BitVec 32 := Scalar.addi v1982 v1983
  let c1_i32_1243 : BitVec 32 := 1#32
  let v1985 : BitVec 32 := Scalar.addi v1984 c1_i32_1243
  let c3_i32_1244 : BitVec 32 := 3#32
  let c0_i32_1245 : BitVec 32 := 0#32
  let v1986 : BitVec 1 := Scalar.cmpi .eq c3_i32_1244 c0_i32_1245
  let c1_i32_1246 : BitVec 32 := 1#32
  let v1987 : BitVec 32 := Scalar.select v1986 c1_i32_1246 c3_i32_1244
  let v1988 : BitVec 32 := Scalar.remsi v1985 v1987
  let c0_i32_1248 : BitVec 32 := 0#32
  let v1990 : BitVec 1 := Scalar.cmpi .slt v1988 c0_i32_1248
  let c0_i32_1249 : BitVec 32 := 0#32
  let v1991 : BitVec 1 := Scalar.cmpi .slt v1987 c0_i32_1249
  let v1992 : BitVec 1 := Scalar.xori v1990 v1991
  let c0_i32_1247 : BitVec 32 := 0#32
  let v1989 : BitVec 1 := Scalar.cmpi .ne v1988 c0_i32_1247
  let v1993 : BitVec 1 := Scalar.andi v1992 v1989
  let v1994 : BitVec 32 := Scalar.addi v1988 v1987
  let v1995 : BitVec 32 := Scalar.select v1993 v1994 v1988
  let c1_i32_1250 : BitVec 32 := 1#32
  let v1996 : BitVec 1 := Scalar.cmpi .ne v1995 c1_i32_1250
  let c0_i32_1231 : BitVec 32 := 0#32
  let v1966 : BitVec 1 := Scalar.cmpi .eq v2 c0_i32_1231
  let c2_i32_1232 : BitVec 32 := 2#32
  let v1967 : BitVec 32 := Scalar.muli c2_i32_1232 v1965
  let c2_i32_1233 : BitVec 32 := 2#32
  let v1968 : BitVec 32 := Scalar.muli c2_i32_1233 v2
  let v1969 : BitVec 32 := Scalar.addi v1967 v1968
  let c3_i32_1234 : BitVec 32 := 3#32
  let c0_i32_1235 : BitVec 32 := 0#32
  let v1970 : BitVec 1 := Scalar.cmpi .eq c3_i32_1234 c0_i32_1235
  let c1_i32_1236 : BitVec 32 := 1#32
  let v1971 : BitVec 32 := Scalar.select v1970 c1_i32_1236 c3_i32_1234
  let v1972 : BitVec 32 := Scalar.remsi v1969 v1971
  let c0_i32_1238 : BitVec 32 := 0#32
  let v1974 : BitVec 1 := Scalar.cmpi .slt v1972 c0_i32_1238
  let c0_i32_1239 : BitVec 32 := 0#32
  let v1975 : BitVec 1 := Scalar.cmpi .slt v1971 c0_i32_1239
  let v1976 : BitVec 1 := Scalar.xori v1974 v1975
  let c0_i32_1237 : BitVec 32 := 0#32
  let v1973 : BitVec 1 := Scalar.cmpi .ne v1972 c0_i32_1237
  let v1977 : BitVec 1 := Scalar.andi v1976 v1973
  let v1978 : BitVec 32 := Scalar.addi v1972 v1971
  let v1979 : BitVec 32 := Scalar.select v1977 v1978 v1972
  let c1_i32_1240 : BitVec 32 := 1#32
  let v1980 : BitVec 1 := Scalar.cmpi .ne v1979 c1_i32_1240
  let v1981 : BitVec 1 := Scalar.ori v1966 v1980
  let true_1254 : BitVec 1 := 1#1
  let v2004 : BitVec 1 := Scalar.xori v1981 true_1254
  let v2005 : BitVec 1 := Scalar.andi v1996 v2004
  let v2006 : BitVec 32 := Scalar.extui v2005
  let c0_i32_1255 : BitVec 32 := 0#32
  let v2007 : BitVec 1 := Scalar.cmpi .ne v2006 c0_i32_1255
  v2007

def k0_dev118 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1224 : BitVec 32 := 29#32
  let v1955 : BitVec 32 := Scalar.addi v2 c29_i32_1224
  let c32_i32_1225 : BitVec 32 := 32#32
  let c0_i32_1226 : BitVec 32 := 0#32
  let v1956 : BitVec 1 := Scalar.cmpi .eq c32_i32_1225 c0_i32_1226
  let c1_i32_1227 : BitVec 32 := 1#32
  let v1957 : BitVec 32 := Scalar.select v1956 c1_i32_1227 c32_i32_1225
  let v1958 : BitVec 32 := Scalar.remsi v1955 v1957
  let c0_i32_1229 : BitVec 32 := 0#32
  let v1960 : BitVec 1 := Scalar.cmpi .slt v1958 c0_i32_1229
  let c0_i32_1230 : BitVec 32 := 0#32
  let v1961 : BitVec 1 := Scalar.cmpi .slt v1957 c0_i32_1230
  let v1962 : BitVec 1 := Scalar.xori v1960 v1961
  let c0_i32_1228 : BitVec 32 := 0#32
  let v1959 : BitVec 1 := Scalar.cmpi .ne v1958 c0_i32_1228
  let v1963 : BitVec 1 := Scalar.andi v1962 v1959
  let v1964 : BitVec 32 := Scalar.addi v1958 v1957
  let v1965 : BitVec 32 := Scalar.select v1963 v1964 v1958
  let c1_i32_3566 : BitVec 32 := 1#32
  let v5774 : BitVec 32 := Scalar.muli v1965 c1_i32_3566
  let v5775 : BitVec 32 := Scalar.addi c0_i32_3567 v5774
  v5775.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1263 : BitVec 32 := 0#32
  let v2019 : BitVec 1 := Scalar.cmpi .eq v2 c0_i32_1263
  let c2_i32_1264 : BitVec 32 := 2#32
  let c30_i32_1256 : BitVec 32 := 30#32
  let v2008 : BitVec 32 := Scalar.addi v2 c30_i32_1256
  let c32_i32_1257 : BitVec 32 := 32#32
  let c0_i32_1258 : BitVec 32 := 0#32
  let v2009 : BitVec 1 := Scalar.cmpi .eq c32_i32_1257 c0_i32_1258
  let c1_i32_1259 : BitVec 32 := 1#32
  let v2010 : BitVec 32 := Scalar.select v2009 c1_i32_1259 c32_i32_1257
  let v2011 : BitVec 32 := Scalar.remsi v2008 v2010
  let c0_i32_1261 : BitVec 32 := 0#32
  let v2013 : BitVec 1 := Scalar.cmpi .slt v2011 c0_i32_1261
  let c0_i32_1262 : BitVec 32 := 0#32
  let v2014 : BitVec 1 := Scalar.cmpi .slt v2010 c0_i32_1262
  let v2015 : BitVec 1 := Scalar.xori v2013 v2014
  let c0_i32_1260 : BitVec 32 := 0#32
  let v2012 : BitVec 1 := Scalar.cmpi .ne v2011 c0_i32_1260
  let v2016 : BitVec 1 := Scalar.andi v2015 v2012
  let v2017 : BitVec 32 := Scalar.addi v2011 v2010
  let v2018 : BitVec 32 := Scalar.select v2016 v2017 v2011
  let v2020 : BitVec 32 := Scalar.muli c2_i32_1264 v2018
  let c2_i32_1265 : BitVec 32 := 2#32
  let v2021 : BitVec 32 := Scalar.muli c2_i32_1265 v2
  let v2022 : BitVec 32 := Scalar.addi v2020 v2021
  let c3_i32_1266 : BitVec 32 := 3#32
  let c0_i32_1267 : BitVec 32 := 0#32
  let v2023 : BitVec 1 := Scalar.cmpi .eq c3_i32_1266 c0_i32_1267
  let c1_i32_1268 : BitVec 32 := 1#32
  let v2024 : BitVec 32 := Scalar.select v2023 c1_i32_1268 c3_i32_1266
  let v2025 : BitVec 32 := Scalar.remsi v2022 v2024
  let c0_i32_1270 : BitVec 32 := 0#32
  let v2027 : BitVec 1 := Scalar.cmpi .slt v2025 c0_i32_1270
  let c0_i32_1271 : BitVec 32 := 0#32
  let v2028 : BitVec 1 := Scalar.cmpi .slt v2024 c0_i32_1271
  let v2029 : BitVec 1 := Scalar.xori v2027 v2028
  let c0_i32_1269 : BitVec 32 := 0#32
  let v2026 : BitVec 1 := Scalar.cmpi .ne v2025 c0_i32_1269
  let v2030 : BitVec 1 := Scalar.andi v2029 v2026
  let v2031 : BitVec 32 := Scalar.addi v2025 v2024
  let v2032 : BitVec 32 := Scalar.select v2030 v2031 v2025
  let c1_i32_1272 : BitVec 32 := 1#32
  let v2033 : BitVec 1 := Scalar.cmpi .ne v2032 c1_i32_1272
  let v2034 : BitVec 1 := Scalar.ori v2019 v2033
  let c2_i32_1273 : BitVec 32 := 2#32
  let v2035 : BitVec 32 := Scalar.muli c2_i32_1273 v2018
  let c2_i32_1274 : BitVec 32 := 2#32
  let v2036 : BitVec 32 := Scalar.muli c2_i32_1274 v2
  let v2037 : BitVec 32 := Scalar.addi v2035 v2036
  let c1_i32_1275 : BitVec 32 := 1#32
  let v2038 : BitVec 32 := Scalar.addi v2037 c1_i32_1275
  let c3_i32_1276 : BitVec 32 := 3#32
  let c0_i32_1277 : BitVec 32 := 0#32
  let v2039 : BitVec 1 := Scalar.cmpi .eq c3_i32_1276 c0_i32_1277
  let c1_i32_1278 : BitVec 32 := 1#32
  let v2040 : BitVec 32 := Scalar.select v2039 c1_i32_1278 c3_i32_1276
  let v2041 : BitVec 32 := Scalar.remsi v2038 v2040
  let c0_i32_1280 : BitVec 32 := 0#32
  let v2043 : BitVec 1 := Scalar.cmpi .slt v2041 c0_i32_1280
  let c0_i32_1281 : BitVec 32 := 0#32
  let v2044 : BitVec 1 := Scalar.cmpi .slt v2040 c0_i32_1281
  let v2045 : BitVec 1 := Scalar.xori v2043 v2044
  let c0_i32_1279 : BitVec 32 := 0#32
  let v2042 : BitVec 1 := Scalar.cmpi .ne v2041 c0_i32_1279
  let v2046 : BitVec 1 := Scalar.andi v2045 v2042
  let v2047 : BitVec 32 := Scalar.addi v2041 v2040
  let v2048 : BitVec 32 := Scalar.select v2046 v2047 v2041
  let c1_i32_1282 : BitVec 32 := 1#32
  let v2049 : BitVec 1 := Scalar.cmpi .ne v2048 c1_i32_1282
  let v2050 : BitVec 1 := Scalar.andi v2034 v2049
  let v2051 : BitVec 32 := Scalar.extui v2050
  let c0_i32_1283 : BitVec 32 := 0#32
  let v2052 : BitVec 1 := Scalar.cmpi .ne v2051 c0_i32_1283
  v2052

def k0_dev119 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1256 : BitVec 32 := 30#32
  let v2008 : BitVec 32 := Scalar.addi v2 c30_i32_1256
  let c32_i32_1257 : BitVec 32 := 32#32
  let c0_i32_1258 : BitVec 32 := 0#32
  let v2009 : BitVec 1 := Scalar.cmpi .eq c32_i32_1257 c0_i32_1258
  let c1_i32_1259 : BitVec 32 := 1#32
  let v2010 : BitVec 32 := Scalar.select v2009 c1_i32_1259 c32_i32_1257
  let v2011 : BitVec 32 := Scalar.remsi v2008 v2010
  let c0_i32_1261 : BitVec 32 := 0#32
  let v2013 : BitVec 1 := Scalar.cmpi .slt v2011 c0_i32_1261
  let c0_i32_1262 : BitVec 32 := 0#32
  let v2014 : BitVec 1 := Scalar.cmpi .slt v2010 c0_i32_1262
  let v2015 : BitVec 1 := Scalar.xori v2013 v2014
  let c0_i32_1260 : BitVec 32 := 0#32
  let v2012 : BitVec 1 := Scalar.cmpi .ne v2011 c0_i32_1260
  let v2016 : BitVec 1 := Scalar.andi v2015 v2012
  let v2017 : BitVec 32 := Scalar.addi v2011 v2010
  let v2018 : BitVec 32 := Scalar.select v2016 v2017 v2011
  let c1_i32_3564 : BitVec 32 := 1#32
  let v5774 : BitVec 32 := Scalar.muli v2018 c1_i32_3564
  let v5775 : BitVec 32 := Scalar.addi c0_i32_3565 v5774
  v5775.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1263 : BitVec 32 := 0#32
  let v2019 : BitVec 1 := Scalar.cmpi .eq v2 c0_i32_1263
  let c2_i32_1264 : BitVec 32 := 2#32
  let c30_i32_1256 : BitVec 32 := 30#32
  let v2008 : BitVec 32 := Scalar.addi v2 c30_i32_1256
  let c32_i32_1257 : BitVec 32 := 32#32
  let c0_i32_1258 : BitVec 32 := 0#32
  let v2009 : BitVec 1 := Scalar.cmpi .eq c32_i32_1257 c0_i32_1258
  let c1_i32_1259 : BitVec 32 := 1#32
  let v2010 : BitVec 32 := Scalar.select v2009 c1_i32_1259 c32_i32_1257
  let v2011 : BitVec 32 := Scalar.remsi v2008 v2010
  let c0_i32_1261 : BitVec 32 := 0#32
  let v2013 : BitVec 1 := Scalar.cmpi .slt v2011 c0_i32_1261
  let c0_i32_1262 : BitVec 32 := 0#32
  let v2014 : BitVec 1 := Scalar.cmpi .slt v2010 c0_i32_1262
  let v2015 : BitVec 1 := Scalar.xori v2013 v2014
  let c0_i32_1260 : BitVec 32 := 0#32
  let v2012 : BitVec 1 := Scalar.cmpi .ne v2011 c0_i32_1260
  let v2016 : BitVec 1 := Scalar.andi v2015 v2012
  let v2017 : BitVec 32 := Scalar.addi v2011 v2010
  let v2018 : BitVec 32 := Scalar.select v2016 v2017 v2011
  let v2020 : BitVec 32 := Scalar.muli c2_i32_1264 v2018
  let c2_i32_1265 : BitVec 32 := 2#32
  let v2021 : BitVec 32 := Scalar.muli c2_i32_1265 v2
  let v2022 : BitVec 32 := Scalar.addi v2020 v2021
  let c3_i32_1266 : BitVec 32 := 3#32
  let c0_i32_1267 : BitVec 32 := 0#32
  let v2023 : BitVec 1 := Scalar.cmpi .eq c3_i32_1266 c0_i32_1267
  let c1_i32_1268 : BitVec 32 := 1#32
  let v2024 : BitVec 32 := Scalar.select v2023 c1_i32_1268 c3_i32_1266
  let v2025 : BitVec 32 := Scalar.remsi v2022 v2024
  let c0_i32_1270 : BitVec 32 := 0#32
  let v2027 : BitVec 1 := Scalar.cmpi .slt v2025 c0_i32_1270
  let c0_i32_1271 : BitVec 32 := 0#32
  let v2028 : BitVec 1 := Scalar.cmpi .slt v2024 c0_i32_1271
  let v2029 : BitVec 1 := Scalar.xori v2027 v2028
  let c0_i32_1269 : BitVec 32 := 0#32
  let v2026 : BitVec 1 := Scalar.cmpi .ne v2025 c0_i32_1269
  let v2030 : BitVec 1 := Scalar.andi v2029 v2026
  let v2031 : BitVec 32 := Scalar.addi v2025 v2024
  let v2032 : BitVec 32 := Scalar.select v2030 v2031 v2025
  let c1_i32_1272 : BitVec 32 := 1#32
  let v2033 : BitVec 1 := Scalar.cmpi .ne v2032 c1_i32_1272
  let v2034 : BitVec 1 := Scalar.ori v2019 v2033
  let c2_i32_1273 : BitVec 32 := 2#32
  let v2035 : BitVec 32 := Scalar.muli c2_i32_1273 v2018
  let c2_i32_1274 : BitVec 32 := 2#32
  let v2036 : BitVec 32 := Scalar.muli c2_i32_1274 v2
  let v2037 : BitVec 32 := Scalar.addi v2035 v2036
  let c1_i32_1275 : BitVec 32 := 1#32
  let v2038 : BitVec 32 := Scalar.addi v2037 c1_i32_1275
  let c3_i32_1276 : BitVec 32 := 3#32
  let c0_i32_1277 : BitVec 32 := 0#32
  let v2039 : BitVec 1 := Scalar.cmpi .eq c3_i32_1276 c0_i32_1277
  let c1_i32_1278 : BitVec 32 := 1#32
  let v2040 : BitVec 32 := Scalar.select v2039 c1_i32_1278 c3_i32_1276
  let v2041 : BitVec 32 := Scalar.remsi v2038 v2040
  let c0_i32_1280 : BitVec 32 := 0#32
  let v2043 : BitVec 1 := Scalar.cmpi .slt v2041 c0_i32_1280
  let c0_i32_1281 : BitVec 32 := 0#32
  let v2044 : BitVec 1 := Scalar.cmpi .slt v2040 c0_i32_1281
  let v2045 : BitVec 1 := Scalar.xori v2043 v2044
  let c0_i32_1279 : BitVec 32 := 0#32
  let v2042 : BitVec 1 := Scalar.cmpi .ne v2041 c0_i32_1279
  let v2046 : BitVec 1 := Scalar.andi v2045 v2042
  let v2047 : BitVec 32 := Scalar.addi v2041 v2040
  let v2048 : BitVec 32 := Scalar.select v2046 v2047 v2041
  let c1_i32_1282 : BitVec 32 := 1#32
  let v2049 : BitVec 1 := Scalar.cmpi .ne v2048 c1_i32_1282
  let true_1284 : BitVec 1 := 1#1
  let v2053 : BitVec 1 := Scalar.xori v2049 true_1284
  let v2054 : BitVec 1 := Scalar.andi v2034 v2053
  let v2055 : BitVec 32 := Scalar.extui v2054
  let c0_i32_1285 : BitVec 32 := 0#32
  let v2056 : BitVec 1 := Scalar.cmpi .ne v2055 c0_i32_1285
  v2056

def k0_dev120 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1256 : BitVec 32 := 30#32
  let v2008 : BitVec 32 := Scalar.addi v2 c30_i32_1256
  let c32_i32_1257 : BitVec 32 := 32#32
  let c0_i32_1258 : BitVec 32 := 0#32
  let v2009 : BitVec 1 := Scalar.cmpi .eq c32_i32_1257 c0_i32_1258
  let c1_i32_1259 : BitVec 32 := 1#32
  let v2010 : BitVec 32 := Scalar.select v2009 c1_i32_1259 c32_i32_1257
  let v2011 : BitVec 32 := Scalar.remsi v2008 v2010
  let c0_i32_1261 : BitVec 32 := 0#32
  let v2013 : BitVec 1 := Scalar.cmpi .slt v2011 c0_i32_1261
  let c0_i32_1262 : BitVec 32 := 0#32
  let v2014 : BitVec 1 := Scalar.cmpi .slt v2010 c0_i32_1262
  let v2015 : BitVec 1 := Scalar.xori v2013 v2014
  let c0_i32_1260 : BitVec 32 := 0#32
  let v2012 : BitVec 1 := Scalar.cmpi .ne v2011 c0_i32_1260
  let v2016 : BitVec 1 := Scalar.andi v2015 v2012
  let v2017 : BitVec 32 := Scalar.addi v2011 v2010
  let v2018 : BitVec 32 := Scalar.select v2016 v2017 v2011
  let c1_i32_3566 : BitVec 32 := 1#32
  let v5774 : BitVec 32 := Scalar.muli v2018 c1_i32_3566
  let v5775 : BitVec 32 := Scalar.addi c0_i32_3567 v5774
  v5775.toNat
def k0_cond90 (d0 : Dev nD) : BitVec 1 :=
  let c2_i32_1273 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1256 : BitVec 32 := 30#32
  let v2008 : BitVec 32 := Scalar.addi v2 c30_i32_1256
  let c32_i32_1257 : BitVec 32 := 32#32
  let c0_i32_1258 : BitVec 32 := 0#32
  let v2009 : BitVec 1 := Scalar.cmpi .eq c32_i32_1257 c0_i32_1258
  let c1_i32_1259 : BitVec 32 := 1#32
  let v2010 : BitVec 32 := Scalar.select v2009 c1_i32_1259 c32_i32_1257
  let v2011 : BitVec 32 := Scalar.remsi v2008 v2010
  let c0_i32_1261 : BitVec 32 := 0#32
  let v2013 : BitVec 1 := Scalar.cmpi .slt v2011 c0_i32_1261
  let c0_i32_1262 : BitVec 32 := 0#32
  let v2014 : BitVec 1 := Scalar.cmpi .slt v2010 c0_i32_1262
  let v2015 : BitVec 1 := Scalar.xori v2013 v2014
  let c0_i32_1260 : BitVec 32 := 0#32
  let v2012 : BitVec 1 := Scalar.cmpi .ne v2011 c0_i32_1260
  let v2016 : BitVec 1 := Scalar.andi v2015 v2012
  let v2017 : BitVec 32 := Scalar.addi v2011 v2010
  let v2018 : BitVec 32 := Scalar.select v2016 v2017 v2011
  let v2035 : BitVec 32 := Scalar.muli c2_i32_1273 v2018
  let c2_i32_1274 : BitVec 32 := 2#32
  let v2036 : BitVec 32 := Scalar.muli c2_i32_1274 v2
  let v2037 : BitVec 32 := Scalar.addi v2035 v2036
  let c1_i32_1275 : BitVec 32 := 1#32
  let v2038 : BitVec 32 := Scalar.addi v2037 c1_i32_1275
  let c3_i32_1276 : BitVec 32 := 3#32
  let c0_i32_1277 : BitVec 32 := 0#32
  let v2039 : BitVec 1 := Scalar.cmpi .eq c3_i32_1276 c0_i32_1277
  let c1_i32_1278 : BitVec 32 := 1#32
  let v2040 : BitVec 32 := Scalar.select v2039 c1_i32_1278 c3_i32_1276
  let v2041 : BitVec 32 := Scalar.remsi v2038 v2040
  let c0_i32_1280 : BitVec 32 := 0#32
  let v2043 : BitVec 1 := Scalar.cmpi .slt v2041 c0_i32_1280
  let c0_i32_1281 : BitVec 32 := 0#32
  let v2044 : BitVec 1 := Scalar.cmpi .slt v2040 c0_i32_1281
  let v2045 : BitVec 1 := Scalar.xori v2043 v2044
  let c0_i32_1279 : BitVec 32 := 0#32
  let v2042 : BitVec 1 := Scalar.cmpi .ne v2041 c0_i32_1279
  let v2046 : BitVec 1 := Scalar.andi v2045 v2042
  let v2047 : BitVec 32 := Scalar.addi v2041 v2040
  let v2048 : BitVec 32 := Scalar.select v2046 v2047 v2041
  let c1_i32_1282 : BitVec 32 := 1#32
  let v2049 : BitVec 1 := Scalar.cmpi .ne v2048 c1_i32_1282
  let c0_i32_1263 : BitVec 32 := 0#32
  let v2019 : BitVec 1 := Scalar.cmpi .eq v2 c0_i32_1263
  let c2_i32_1264 : BitVec 32 := 2#32
  let v2020 : BitVec 32 := Scalar.muli c2_i32_1264 v2018
  let c2_i32_1265 : BitVec 32 := 2#32
  let v2021 : BitVec 32 := Scalar.muli c2_i32_1265 v2
  let v2022 : BitVec 32 := Scalar.addi v2020 v2021
  let c3_i32_1266 : BitVec 32 := 3#32
  let c0_i32_1267 : BitVec 32 := 0#32
  let v2023 : BitVec 1 := Scalar.cmpi .eq c3_i32_1266 c0_i32_1267
  let c1_i32_1268 : BitVec 32 := 1#32
  let v2024 : BitVec 32 := Scalar.select v2023 c1_i32_1268 c3_i32_1266
  let v2025 : BitVec 32 := Scalar.remsi v2022 v2024
  let c0_i32_1270 : BitVec 32 := 0#32
  let v2027 : BitVec 1 := Scalar.cmpi .slt v2025 c0_i32_1270
  let c0_i32_1271 : BitVec 32 := 0#32
  let v2028 : BitVec 1 := Scalar.cmpi .slt v2024 c0_i32_1271
  let v2029 : BitVec 1 := Scalar.xori v2027 v2028
  let c0_i32_1269 : BitVec 32 := 0#32
  let v2026 : BitVec 1 := Scalar.cmpi .ne v2025 c0_i32_1269
  let v2030 : BitVec 1 := Scalar.andi v2029 v2026
  let v2031 : BitVec 32 := Scalar.addi v2025 v2024
  let v2032 : BitVec 32 := Scalar.select v2030 v2031 v2025
  let c1_i32_1272 : BitVec 32 := 1#32
  let v2033 : BitVec 1 := Scalar.cmpi .ne v2032 c1_i32_1272
  let v2034 : BitVec 1 := Scalar.ori v2019 v2033
  let true_1286 : BitVec 1 := 1#1
  let v2057 : BitVec 1 := Scalar.xori v2034 true_1286
  let v2058 : BitVec 1 := Scalar.andi v2049 v2057
  let v2059 : BitVec 32 := Scalar.extui v2058
  let c0_i32_1287 : BitVec 32 := 0#32
  let v2060 : BitVec 1 := Scalar.cmpi .ne v2059 c0_i32_1287
  v2060

def k0_dev121 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1256 : BitVec 32 := 30#32
  let v2008 : BitVec 32 := Scalar.addi v2 c30_i32_1256
  let c32_i32_1257 : BitVec 32 := 32#32
  let c0_i32_1258 : BitVec 32 := 0#32
  let v2009 : BitVec 1 := Scalar.cmpi .eq c32_i32_1257 c0_i32_1258
  let c1_i32_1259 : BitVec 32 := 1#32
  let v2010 : BitVec 32 := Scalar.select v2009 c1_i32_1259 c32_i32_1257
  let v2011 : BitVec 32 := Scalar.remsi v2008 v2010
  let c0_i32_1261 : BitVec 32 := 0#32
  let v2013 : BitVec 1 := Scalar.cmpi .slt v2011 c0_i32_1261
  let c0_i32_1262 : BitVec 32 := 0#32
  let v2014 : BitVec 1 := Scalar.cmpi .slt v2010 c0_i32_1262
  let v2015 : BitVec 1 := Scalar.xori v2013 v2014
  let c0_i32_1260 : BitVec 32 := 0#32
  let v2012 : BitVec 1 := Scalar.cmpi .ne v2011 c0_i32_1260
  let v2016 : BitVec 1 := Scalar.andi v2015 v2012
  let v2017 : BitVec 32 := Scalar.addi v2011 v2010
  let v2018 : BitVec 32 := Scalar.select v2016 v2017 v2011
  let c1_i32_3566 : BitVec 32 := 1#32
  let v5774 : BitVec 32 := Scalar.muli v2018 c1_i32_3566
  let v5775 : BitVec 32 := Scalar.addi c0_i32_3567 v5774
  v5775.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1295 : BitVec 32 := 0#32
  let v2072 : BitVec 1 := Scalar.cmpi .eq v2 c0_i32_1295
  let c2_i32_1296 : BitVec 32 := 2#32
  let c31_i32_1288 : BitVec 32 := 31#32
  let v2061 : BitVec 32 := Scalar.addi v2 c31_i32_1288
  let c32_i32_1289 : BitVec 32 := 32#32
  let c0_i32_1290 : BitVec 32 := 0#32
  let v2062 : BitVec 1 := Scalar.cmpi .eq c32_i32_1289 c0_i32_1290
  let c1_i32_1291 : BitVec 32 := 1#32
  let v2063 : BitVec 32 := Scalar.select v2062 c1_i32_1291 c32_i32_1289
  let v2064 : BitVec 32 := Scalar.remsi v2061 v2063
  let c0_i32_1293 : BitVec 32 := 0#32
  let v2066 : BitVec 1 := Scalar.cmpi .slt v2064 c0_i32_1293
  let c0_i32_1294 : BitVec 32 := 0#32
  let v2067 : BitVec 1 := Scalar.cmpi .slt v2063 c0_i32_1294
  let v2068 : BitVec 1 := Scalar.xori v2066 v2067
  let c0_i32_1292 : BitVec 32 := 0#32
  let v2065 : BitVec 1 := Scalar.cmpi .ne v2064 c0_i32_1292
  let v2069 : BitVec 1 := Scalar.andi v2068 v2065
  let v2070 : BitVec 32 := Scalar.addi v2064 v2063
  let v2071 : BitVec 32 := Scalar.select v2069 v2070 v2064
  let v2073 : BitVec 32 := Scalar.muli c2_i32_1296 v2071
  let c2_i32_1297 : BitVec 32 := 2#32
  let v2074 : BitVec 32 := Scalar.muli c2_i32_1297 v2
  let v2075 : BitVec 32 := Scalar.addi v2073 v2074
  let c3_i32_1298 : BitVec 32 := 3#32
  let c0_i32_1299 : BitVec 32 := 0#32
  let v2076 : BitVec 1 := Scalar.cmpi .eq c3_i32_1298 c0_i32_1299
  let c1_i32_1300 : BitVec 32 := 1#32
  let v2077 : BitVec 32 := Scalar.select v2076 c1_i32_1300 c3_i32_1298
  let v2078 : BitVec 32 := Scalar.remsi v2075 v2077
  let c0_i32_1302 : BitVec 32 := 0#32
  let v2080 : BitVec 1 := Scalar.cmpi .slt v2078 c0_i32_1302
  let c0_i32_1303 : BitVec 32 := 0#32
  let v2081 : BitVec 1 := Scalar.cmpi .slt v2077 c0_i32_1303
  let v2082 : BitVec 1 := Scalar.xori v2080 v2081
  let c0_i32_1301 : BitVec 32 := 0#32
  let v2079 : BitVec 1 := Scalar.cmpi .ne v2078 c0_i32_1301
  let v2083 : BitVec 1 := Scalar.andi v2082 v2079
  let v2084 : BitVec 32 := Scalar.addi v2078 v2077
  let v2085 : BitVec 32 := Scalar.select v2083 v2084 v2078
  let c1_i32_1304 : BitVec 32 := 1#32
  let v2086 : BitVec 1 := Scalar.cmpi .ne v2085 c1_i32_1304
  let v2087 : BitVec 1 := Scalar.ori v2072 v2086
  let c2_i32_1305 : BitVec 32 := 2#32
  let v2088 : BitVec 32 := Scalar.muli c2_i32_1305 v2071
  let c2_i32_1306 : BitVec 32 := 2#32
  let v2089 : BitVec 32 := Scalar.muli c2_i32_1306 v2
  let v2090 : BitVec 32 := Scalar.addi v2088 v2089
  let c1_i32_1307 : BitVec 32 := 1#32
  let v2091 : BitVec 32 := Scalar.addi v2090 c1_i32_1307
  let c3_i32_1308 : BitVec 32 := 3#32
  let c0_i32_1309 : BitVec 32 := 0#32
  let v2092 : BitVec 1 := Scalar.cmpi .eq c3_i32_1308 c0_i32_1309
  let c1_i32_1310 : BitVec 32 := 1#32
  let v2093 : BitVec 32 := Scalar.select v2092 c1_i32_1310 c3_i32_1308
  let v2094 : BitVec 32 := Scalar.remsi v2091 v2093
  let c0_i32_1312 : BitVec 32 := 0#32
  let v2096 : BitVec 1 := Scalar.cmpi .slt v2094 c0_i32_1312
  let c0_i32_1313 : BitVec 32 := 0#32
  let v2097 : BitVec 1 := Scalar.cmpi .slt v2093 c0_i32_1313
  let v2098 : BitVec 1 := Scalar.xori v2096 v2097
  let c0_i32_1311 : BitVec 32 := 0#32
  let v2095 : BitVec 1 := Scalar.cmpi .ne v2094 c0_i32_1311
  let v2099 : BitVec 1 := Scalar.andi v2098 v2095
  let v2100 : BitVec 32 := Scalar.addi v2094 v2093
  let v2101 : BitVec 32 := Scalar.select v2099 v2100 v2094
  let c1_i32_1314 : BitVec 32 := 1#32
  let v2102 : BitVec 1 := Scalar.cmpi .ne v2101 c1_i32_1314
  let v2103 : BitVec 1 := Scalar.andi v2087 v2102
  let v2104 : BitVec 32 := Scalar.extui v2103
  let c0_i32_1315 : BitVec 32 := 0#32
  let v2105 : BitVec 1 := Scalar.cmpi .ne v2104 c0_i32_1315
  v2105

def k0_dev122 (d0 : Dev nD) : Nat :=
  let c0_i32_3565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1288 : BitVec 32 := 31#32
  let v2061 : BitVec 32 := Scalar.addi v2 c31_i32_1288
  let c32_i32_1289 : BitVec 32 := 32#32
  let c0_i32_1290 : BitVec 32 := 0#32
  let v2062 : BitVec 1 := Scalar.cmpi .eq c32_i32_1289 c0_i32_1290
  let c1_i32_1291 : BitVec 32 := 1#32
  let v2063 : BitVec 32 := Scalar.select v2062 c1_i32_1291 c32_i32_1289
  let v2064 : BitVec 32 := Scalar.remsi v2061 v2063
  let c0_i32_1293 : BitVec 32 := 0#32
  let v2066 : BitVec 1 := Scalar.cmpi .slt v2064 c0_i32_1293
  let c0_i32_1294 : BitVec 32 := 0#32
  let v2067 : BitVec 1 := Scalar.cmpi .slt v2063 c0_i32_1294
  let v2068 : BitVec 1 := Scalar.xori v2066 v2067
  let c0_i32_1292 : BitVec 32 := 0#32
  let v2065 : BitVec 1 := Scalar.cmpi .ne v2064 c0_i32_1292
  let v2069 : BitVec 1 := Scalar.andi v2068 v2065
  let v2070 : BitVec 32 := Scalar.addi v2064 v2063
  let v2071 : BitVec 32 := Scalar.select v2069 v2070 v2064
  let c1_i32_3564 : BitVec 32 := 1#32
  let v5774 : BitVec 32 := Scalar.muli v2071 c1_i32_3564
  let v5775 : BitVec 32 := Scalar.addi c0_i32_3565 v5774
  v5775.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1295 : BitVec 32 := 0#32
  let v2072 : BitVec 1 := Scalar.cmpi .eq v2 c0_i32_1295
  let c2_i32_1296 : BitVec 32 := 2#32
  let c31_i32_1288 : BitVec 32 := 31#32
  let v2061 : BitVec 32 := Scalar.addi v2 c31_i32_1288
  let c32_i32_1289 : BitVec 32 := 32#32
  let c0_i32_1290 : BitVec 32 := 0#32
  let v2062 : BitVec 1 := Scalar.cmpi .eq c32_i32_1289 c0_i32_1290
  let c1_i32_1291 : BitVec 32 := 1#32
  let v2063 : BitVec 32 := Scalar.select v2062 c1_i32_1291 c32_i32_1289
  let v2064 : BitVec 32 := Scalar.remsi v2061 v2063
  let c0_i32_1293 : BitVec 32 := 0#32
  let v2066 : BitVec 1 := Scalar.cmpi .slt v2064 c0_i32_1293
  let c0_i32_1294 : BitVec 32 := 0#32
  let v2067 : BitVec 1 := Scalar.cmpi .slt v2063 c0_i32_1294
  let v2068 : BitVec 1 := Scalar.xori v2066 v2067
  let c0_i32_1292 : BitVec 32 := 0#32
  let v2065 : BitVec 1 := Scalar.cmpi .ne v2064 c0_i32_1292
  let v2069 : BitVec 1 := Scalar.andi v2068 v2065
  let v2070 : BitVec 32 := Scalar.addi v2064 v2063
  let v2071 : BitVec 32 := Scalar.select v2069 v2070 v2064
  let v2073 : BitVec 32 := Scalar.muli c2_i32_1296 v2071
  let c2_i32_1297 : BitVec 32 := 2#32
  let v2074 : BitVec 32 := Scalar.muli c2_i32_1297 v2
  let v2075 : BitVec 32 := Scalar.addi v2073 v2074
  let c3_i32_1298 : BitVec 32 := 3#32
  let c0_i32_1299 : BitVec 32 := 0#32
  let v2076 : BitVec 1 := Scalar.cmpi .eq c3_i32_1298 c0_i32_1299
  let c1_i32_1300 : BitVec 32 := 1#32
  let v2077 : BitVec 32 := Scalar.select v2076 c1_i32_1300 c3_i32_1298
  let v2078 : BitVec 32 := Scalar.remsi v2075 v2077
  let c0_i32_1302 : BitVec 32 := 0#32
  let v2080 : BitVec 1 := Scalar.cmpi .slt v2078 c0_i32_1302
  let c0_i32_1303 : BitVec 32 := 0#32
  let v2081 : BitVec 1 := Scalar.cmpi .slt v2077 c0_i32_1303
  let v2082 : BitVec 1 := Scalar.xori v2080 v2081
  let c0_i32_1301 : BitVec 32 := 0#32
  let v2079 : BitVec 1 := Scalar.cmpi .ne v2078 c0_i32_1301
  let v2083 : BitVec 1 := Scalar.andi v2082 v2079
  let v2084 : BitVec 32 := Scalar.addi v2078 v2077
  let v2085 : BitVec 32 := Scalar.select v2083 v2084 v2078
  let c1_i32_1304 : BitVec 32 := 1#32
  let v2086 : BitVec 1 := Scalar.cmpi .ne v2085 c1_i32_1304
  let v2087 : BitVec 1 := Scalar.ori v2072 v2086
  let c2_i32_1305 : BitVec 32 := 2#32
  let v2088 : BitVec 32 := Scalar.muli c2_i32_1305 v2071
  let c2_i32_1306 : BitVec 32 := 2#32
  let v2089 : BitVec 32 := Scalar.muli c2_i32_1306 v2
  let v2090 : BitVec 32 := Scalar.addi v2088 v2089
  let c1_i32_1307 : BitVec 32 := 1#32
  let v2091 : BitVec 32 := Scalar.addi v2090 c1_i32_1307
  let c3_i32_1308 : BitVec 32 := 3#32
  let c0_i32_1309 : BitVec 32 := 0#32
  let v2092 : BitVec 1 := Scalar.cmpi .eq c3_i32_1308 c0_i32_1309
  let c1_i32_1310 : BitVec 32 := 1#32
  let v2093 : BitVec 32 := Scalar.select v2092 c1_i32_1310 c3_i32_1308
  let v2094 : BitVec 32 := Scalar.remsi v2091 v2093
  let c0_i32_1312 : BitVec 32 := 0#32
  let v2096 : BitVec 1 := Scalar.cmpi .slt v2094 c0_i32_1312
  let c0_i32_1313 : BitVec 32 := 0#32
  let v2097 : BitVec 1 := Scalar.cmpi .slt v2093 c0_i32_1313
  let v2098 : BitVec 1 := Scalar.xori v2096 v2097
  let c0_i32_1311 : BitVec 32 := 0#32
  let v2095 : BitVec 1 := Scalar.cmpi .ne v2094 c0_i32_1311
  let v2099 : BitVec 1 := Scalar.andi v2098 v2095
  let v2100 : BitVec 32 := Scalar.addi v2094 v2093
  let v2101 : BitVec 32 := Scalar.select v2099 v2100 v2094
  let c1_i32_1314 : BitVec 32 := 1#32
  let v2102 : BitVec 1 := Scalar.cmpi .ne v2101 c1_i32_1314
  let true_1316 : BitVec 1 := 1#1
  let v2106 : BitVec 1 := Scalar.xori v2102 true_1316
  let v2107 : BitVec 1 := Scalar.andi v2087 v2106
  let v2108 : BitVec 32 := Scalar.extui v2107
  let c0_i32_1317 : BitVec 32 := 0#32
  let v2109 : BitVec 1 := Scalar.cmpi .ne v2108 c0_i32_1317
  v2109

def k0_dev123 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1288 : BitVec 32 := 31#32
  let v2061 : BitVec 32 := Scalar.addi v2 c31_i32_1288
  let c32_i32_1289 : BitVec 32 := 32#32
  let c0_i32_1290 : BitVec 32 := 0#32
  let v2062 : BitVec 1 := Scalar.cmpi .eq c32_i32_1289 c0_i32_1290
  let c1_i32_1291 : BitVec 32 := 1#32
  let v2063 : BitVec 32 := Scalar.select v2062 c1_i32_1291 c32_i32_1289
  let v2064 : BitVec 32 := Scalar.remsi v2061 v2063
  let c0_i32_1293 : BitVec 32 := 0#32
  let v2066 : BitVec 1 := Scalar.cmpi .slt v2064 c0_i32_1293
  let c0_i32_1294 : BitVec 32 := 0#32
  let v2067 : BitVec 1 := Scalar.cmpi .slt v2063 c0_i32_1294
  let v2068 : BitVec 1 := Scalar.xori v2066 v2067
  let c0_i32_1292 : BitVec 32 := 0#32
  let v2065 : BitVec 1 := Scalar.cmpi .ne v2064 c0_i32_1292
  let v2069 : BitVec 1 := Scalar.andi v2068 v2065
  let v2070 : BitVec 32 := Scalar.addi v2064 v2063
  let v2071 : BitVec 32 := Scalar.select v2069 v2070 v2064
  let c1_i32_3566 : BitVec 32 := 1#32
  let v5774 : BitVec 32 := Scalar.muli v2071 c1_i32_3566
  let v5775 : BitVec 32 := Scalar.addi c0_i32_3567 v5774
  v5775.toNat
def k0_cond93 (d0 : Dev nD) : BitVec 1 :=
  let c2_i32_1305 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1288 : BitVec 32 := 31#32
  let v2061 : BitVec 32 := Scalar.addi v2 c31_i32_1288
  let c32_i32_1289 : BitVec 32 := 32#32
  let c0_i32_1290 : BitVec 32 := 0#32
  let v2062 : BitVec 1 := Scalar.cmpi .eq c32_i32_1289 c0_i32_1290
  let c1_i32_1291 : BitVec 32 := 1#32
  let v2063 : BitVec 32 := Scalar.select v2062 c1_i32_1291 c32_i32_1289
  let v2064 : BitVec 32 := Scalar.remsi v2061 v2063
  let c0_i32_1293 : BitVec 32 := 0#32
  let v2066 : BitVec 1 := Scalar.cmpi .slt v2064 c0_i32_1293
  let c0_i32_1294 : BitVec 32 := 0#32
  let v2067 : BitVec 1 := Scalar.cmpi .slt v2063 c0_i32_1294
  let v2068 : BitVec 1 := Scalar.xori v2066 v2067
  let c0_i32_1292 : BitVec 32 := 0#32
  let v2065 : BitVec 1 := Scalar.cmpi .ne v2064 c0_i32_1292
  let v2069 : BitVec 1 := Scalar.andi v2068 v2065
  let v2070 : BitVec 32 := Scalar.addi v2064 v2063
  let v2071 : BitVec 32 := Scalar.select v2069 v2070 v2064
  let v2088 : BitVec 32 := Scalar.muli c2_i32_1305 v2071
  let c2_i32_1306 : BitVec 32 := 2#32
  let v2089 : BitVec 32 := Scalar.muli c2_i32_1306 v2
  let v2090 : BitVec 32 := Scalar.addi v2088 v2089
  let c1_i32_1307 : BitVec 32 := 1#32
  let v2091 : BitVec 32 := Scalar.addi v2090 c1_i32_1307
  let c3_i32_1308 : BitVec 32 := 3#32
  let c0_i32_1309 : BitVec 32 := 0#32
  let v2092 : BitVec 1 := Scalar.cmpi .eq c3_i32_1308 c0_i32_1309
  let c1_i32_1310 : BitVec 32 := 1#32
  let v2093 : BitVec 32 := Scalar.select v2092 c1_i32_1310 c3_i32_1308
  let v2094 : BitVec 32 := Scalar.remsi v2091 v2093
  let c0_i32_1312 : BitVec 32 := 0#32
  let v2096 : BitVec 1 := Scalar.cmpi .slt v2094 c0_i32_1312
  let c0_i32_1313 : BitVec 32 := 0#32
  let v2097 : BitVec 1 := Scalar.cmpi .slt v2093 c0_i32_1313
  let v2098 : BitVec 1 := Scalar.xori v2096 v2097
  let c0_i32_1311 : BitVec 32 := 0#32
  let v2095 : BitVec 1 := Scalar.cmpi .ne v2094 c0_i32_1311
  let v2099 : BitVec 1 := Scalar.andi v2098 v2095
  let v2100 : BitVec 32 := Scalar.addi v2094 v2093
  let v2101 : BitVec 32 := Scalar.select v2099 v2100 v2094
  let c1_i32_1314 : BitVec 32 := 1#32
  let v2102 : BitVec 1 := Scalar.cmpi .ne v2101 c1_i32_1314
  let c0_i32_1295 : BitVec 32 := 0#32
  let v2072 : BitVec 1 := Scalar.cmpi .eq v2 c0_i32_1295
  let c2_i32_1296 : BitVec 32 := 2#32
  let v2073 : BitVec 32 := Scalar.muli c2_i32_1296 v2071
  let c2_i32_1297 : BitVec 32 := 2#32
  let v2074 : BitVec 32 := Scalar.muli c2_i32_1297 v2
  let v2075 : BitVec 32 := Scalar.addi v2073 v2074
  let c3_i32_1298 : BitVec 32 := 3#32
  let c0_i32_1299 : BitVec 32 := 0#32
  let v2076 : BitVec 1 := Scalar.cmpi .eq c3_i32_1298 c0_i32_1299
  let c1_i32_1300 : BitVec 32 := 1#32
  let v2077 : BitVec 32 := Scalar.select v2076 c1_i32_1300 c3_i32_1298
  let v2078 : BitVec 32 := Scalar.remsi v2075 v2077
  let c0_i32_1302 : BitVec 32 := 0#32
  let v2080 : BitVec 1 := Scalar.cmpi .slt v2078 c0_i32_1302
  let c0_i32_1303 : BitVec 32 := 0#32
  let v2081 : BitVec 1 := Scalar.cmpi .slt v2077 c0_i32_1303
  let v2082 : BitVec 1 := Scalar.xori v2080 v2081
  let c0_i32_1301 : BitVec 32 := 0#32
  let v2079 : BitVec 1 := Scalar.cmpi .ne v2078 c0_i32_1301
  let v2083 : BitVec 1 := Scalar.andi v2082 v2079
  let v2084 : BitVec 32 := Scalar.addi v2078 v2077
  let v2085 : BitVec 32 := Scalar.select v2083 v2084 v2078
  let c1_i32_1304 : BitVec 32 := 1#32
  let v2086 : BitVec 1 := Scalar.cmpi .ne v2085 c1_i32_1304
  let v2087 : BitVec 1 := Scalar.ori v2072 v2086
  let true_1318 : BitVec 1 := 1#1
  let v2110 : BitVec 1 := Scalar.xori v2087 true_1318
  let v2111 : BitVec 1 := Scalar.andi v2102 v2110
  let v2112 : BitVec 32 := Scalar.extui v2111
  let c0_i32_1319 : BitVec 32 := 0#32
  let v2113 : BitVec 1 := Scalar.cmpi .ne v2112 c0_i32_1319
  v2113

def k0_dev124 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1288 : BitVec 32 := 31#32
  let v2061 : BitVec 32 := Scalar.addi v2 c31_i32_1288
  let c32_i32_1289 : BitVec 32 := 32#32
  let c0_i32_1290 : BitVec 32 := 0#32
  let v2062 : BitVec 1 := Scalar.cmpi .eq c32_i32_1289 c0_i32_1290
  let c1_i32_1291 : BitVec 32 := 1#32
  let v2063 : BitVec 32 := Scalar.select v2062 c1_i32_1291 c32_i32_1289
  let v2064 : BitVec 32 := Scalar.remsi v2061 v2063
  let c0_i32_1293 : BitVec 32 := 0#32
  let v2066 : BitVec 1 := Scalar.cmpi .slt v2064 c0_i32_1293
  let c0_i32_1294 : BitVec 32 := 0#32
  let v2067 : BitVec 1 := Scalar.cmpi .slt v2063 c0_i32_1294
  let v2068 : BitVec 1 := Scalar.xori v2066 v2067
  let c0_i32_1292 : BitVec 32 := 0#32
  let v2065 : BitVec 1 := Scalar.cmpi .ne v2064 c0_i32_1292
  let v2069 : BitVec 1 := Scalar.andi v2068 v2065
  let v2070 : BitVec 32 := Scalar.addi v2064 v2063
  let v2071 : BitVec 32 := Scalar.select v2069 v2070 v2064
  let c1_i32_3566 : BitVec 32 := 1#32
  let v5774 : BitVec 32 := Scalar.muli v2071 c1_i32_3566
  let v5775 : BitVec 32 := Scalar.addi c0_i32_3567 v5774
  v5775.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩
abbrev S2x4096x256 : Shape := ⟨3, ![2, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 158
  | .vmem => 0
  | .smem => 0
  | _ => 0

abbrev hbmTy0_0 (i : Nat) : BufTy := match i % 128 with
  | 0 => ⟨S2x4096x512, .bf16⟩
  | 1 => ⟨S512x256, .bf16⟩
  | 2 => ⟨S2x4096x4x64, .bf16⟩
  | 3 => ⟨S2x4096x4x64, .bf16⟩
  | 4 => ⟨S256x512, .bf16⟩
  | 5 => ⟨S2x4096x512, .f32⟩
  | 6 => ⟨S512x256, .f32⟩
  | 7 => ⟨S2x4096x4x64, .f32⟩
  | 8 => ⟨S2x4096x4x64, .f32⟩
  | 9 => ⟨S256x512, .f32⟩
  | 10 => ⟨S_, .f32⟩
  | 11 => ⟨S2x4096x4x64, .f32⟩
  | 12 => ⟨S2x4096x4x64, .f32⟩
  | 13 => ⟨S2x4096x4x64, .f32⟩
  | 14 => ⟨S_, .f32⟩
  | 15 => ⟨S_, .f32⟩
  | 16 => ⟨S_, .f32⟩
  | 17 => ⟨S2x4096x4x64, .f32⟩
  | 18 => ⟨S2x4096x4x64, .f32⟩
  | 19 => ⟨S_, .f32⟩
  | 20 => ⟨S2x4096x4x64, .f32⟩
  | 21 => ⟨S2x4096x4x64, .f32⟩
  | 22 => ⟨S_, .f32⟩
  | 23 => ⟨S2x4096x4x64, .f32⟩
  | 24 => ⟨S2x4096x4x64, .f32⟩
  | 25 => ⟨S_, .f32⟩
  | 26 => ⟨S2x4096x4x64, .f32⟩
  | 27 => ⟨S2x4096x4x64, .f32⟩
  | 28 => ⟨S2x4096x4x64, .f32⟩
  | 29 => ⟨S_, .f32⟩
  | 30 => ⟨S_, .f32⟩
  | 31 => ⟨S_, .f32⟩
  | 32 => ⟨S2x4096x4x64, .f32⟩
  | 33 => ⟨S2x4096x4x64, .f32⟩
  | 34 => ⟨S_, .f32⟩
  | 35 => ⟨S2x4096x4x64, .f32⟩
  | 36 => ⟨S2x4096x4x64, .f32⟩
  | 37 => ⟨S_, .f32⟩
  | 38 => ⟨S2x4096x4x64, .f32⟩
  | 39 => ⟨S2x4096x4x64, .f32⟩
  | 40 => ⟨S2x4096x256, .f32⟩
  | 41 => ⟨S2x4096x4x64, .f32⟩
  | 42 => ⟨S4096, .i32⟩
  | 43 => ⟨S_, .i32⟩
  | 44 => ⟨S_, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i1⟩
  | 51 => ⟨S4096, .i32⟩
  | 52 => ⟨S4096, .i32⟩
  | 53 => ⟨S_, .i32⟩
  | 54 => ⟨S4096, .i32⟩
  | 55 => ⟨S4096, .i1⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096, .i32⟩
  | 63 => ⟨S_, .i32⟩
  | 64 => ⟨S_, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i1⟩
  | 71 => ⟨S4096, .i32⟩
  | 72 => ⟨S4096, .i32⟩
  | 73 => ⟨S_, .i32⟩
  | 74 => ⟨S4096, .i32⟩
  | 75 => ⟨S4096, .i1⟩
  | 76 => ⟨S4096, .i1⟩
  | 77 => ⟨S_, .i32⟩
  | 78 => ⟨S4096, .i32⟩
  | 79 => ⟨S4096, .i32⟩
  | 80 => ⟨S4096, .i32⟩
  | 81 => ⟨S1x4096, .i32⟩
  | 82 => ⟨S4096x4096, .i32⟩
  | 83 => ⟨S4096x4096, .i32⟩
  | 84 => ⟨S4096x4096, .i1⟩
  | 85 => ⟨S_, .i32⟩
  | 86 => ⟨S1x4096, .i32⟩
  | 87 => ⟨S1x4096, .i1⟩
  | 88 => ⟨S4096x4096, .i1⟩
  | 89 => ⟨S4096x4096, .i1⟩
  | 90 => ⟨S4096x4096, .i32⟩
  | 91 => ⟨S4096x4096, .i32⟩
  | 92 => ⟨S4096x4096, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S4096x4096, .i32⟩
  | 100 => ⟨S4096x4096, .i32⟩
  | 101 => ⟨S_, .i32⟩
  | 102 => ⟨S4096x4096, .i32⟩
  | 103 => ⟨S4096x4096, .i1⟩
  | 104 => ⟨S_, .i32⟩
  | 105 => ⟨S4096x4096, .i32⟩
  | 106 => ⟨S4096x4096, .i1⟩
  | 107 => ⟨S_, .i32⟩
  | 108 => ⟨S_, .i1⟩
  | 109 => ⟨S4096x4096, .i1⟩
  | 110 => ⟨S4096x4096, .i1⟩
  | 111 => ⟨S4096x4096, .i1⟩
  | 112 => ⟨S4096x4096, .i32⟩
  | 113 => ⟨S4096x4096, .i32⟩
  | 114 => ⟨S4096x4096, .i32⟩
  | 115 => ⟨S_, .i32⟩
  | 116 => ⟨S4096x4096, .i32⟩
  | 117 => ⟨S4096x4096, .i1⟩
  | 118 => ⟨S4096x4096, .i1⟩
  | 119 => ⟨S2x4x4096x4096, .f32⟩
  | 120 => ⟨S_, .f32⟩
  | 121 => ⟨S2x4x4096x4096, .f32⟩
  | 122 => ⟨S2x4x4096x4096, .f32⟩
  | 123 => ⟨S1x1x4096x4096, .i1⟩
  | 124 => ⟨S_, .f32⟩
  | 125 => ⟨S_, .f32⟩
  | 126 => ⟨S2x4x4096x4096, .i1⟩
  | 127 => ⟨S2x4x4096x4096, .f32⟩
  | _ => ⟨S2x4096x512, .bf16⟩

abbrev hbmTy0_1 (i : Nat) : BufTy := match i % 128 with
  | 0 => ⟨S2x4x4096x4096, .f32⟩
  | 1 => ⟨S_, .f32⟩
  | 2 => ⟨S2x4x4096, .f32⟩
  | 3 => ⟨S2x4x4096x1, .f32⟩
  | 4 => ⟨S2x4x4096x4096, .f32⟩
  | 5 => ⟨S2x4x4096x4096, .f32⟩
  | 6 => ⟨S2x4x4096x4096, .f32⟩
  | 7 => ⟨S_, .i1⟩
  | 8 => ⟨S4096, .i1⟩
  | 9 => ⟨S1x1x4096x1, .i1⟩
  | 10 => ⟨S_, .f32⟩
  | 11 => ⟨S2x4x4096, .f32⟩
  | 12 => ⟨S2x4x4096x1, .f32⟩
  | 13 => ⟨S_, .f32⟩
  | 14 => ⟨S_, .f32⟩
  | 15 => ⟨S2x4x4096x1, .i1⟩
  | 16 => ⟨S2x4x4096x1, .f32⟩
  | 17 => ⟨S2x4x4096x1, .f32⟩
  | 18 => ⟨S2x4x4096x4096, .f32⟩
  | 19 => ⟨S2x4x4096x4096, .f32⟩
  | 20 => ⟨S1x1x4096x1, .i1⟩
  | 21 => ⟨S_, .f32⟩
  | 22 => ⟨S_, .f32⟩
  | 23 => ⟨S2x4x4096x4096, .i1⟩
  | 24 => ⟨S2x4x4096x4096, .f32⟩
  | 25 => ⟨S2x4x4096x4096, .f32⟩
  | 26 => ⟨S2x4x64x4096, .f32⟩
  | 27 => ⟨S2x4096x4x64, .f32⟩
  | 28 => ⟨S2x4096x256, .f32⟩
  | 29 => ⟨S2x4096x512, .f32⟩
  | _ => ⟨S2x4096x512, .bf16⟩

abbrev hbmTy (i : Nat) : BufTy := match i / 128 with
  | 0 => hbmTy0_0 i
  | 1 => hbmTy0_1 i
  | _ => ⟨S2x4096x512, .bf16⟩

abbrev bufTy : (tb : Table) → Fin (tcTables nBuf tb) → BufTy
  | .hbm, ⟨i, _⟩ => hbmTy i
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_v7 : Ref sig .tc := ⟨.hbm, 51, rfl⟩
abbrev main_call4_v8 : Ref sig .tc := ⟨.hbm, 52, rfl⟩
abbrev main_call4_c : Ref sig .tc := ⟨.hbm, 53, rfl⟩
abbrev main_call4_v9 : Ref sig .tc := ⟨.hbm, 54, rfl⟩
abbrev main_call4_v10 : Ref sig .tc := ⟨.hbm, 55, rfl⟩
abbrev main_call4_v11 : Ref sig .tc := ⟨.hbm, 56, rfl⟩
abbrev main_call4_c_0 : Ref sig .tc := ⟨.hbm, 57, rfl⟩
abbrev main_call4_v12 : Ref sig .tc := ⟨.hbm, 58, rfl⟩
abbrev main_call4_v13 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_7 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_v6 : Ref sig .tc := ⟨.hbm, 70, rfl⟩
abbrev main_call5_v7 : Ref sig .tc := ⟨.hbm, 71, rfl⟩
abbrev main_call5_v8 : Ref sig .tc := ⟨.hbm, 72, rfl⟩
abbrev main_call5_c : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_c_0 : Ref sig .tc := ⟨.hbm, 77, rfl⟩
abbrev main_call5_v12 : Ref sig .tc := ⟨.hbm, 78, rfl⟩
abbrev main_call5_v13 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_8 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_c_9 : Ref sig .tc := ⟨.hbm, 93, rfl⟩
abbrev main_call6_v0 : Ref sig .tc := ⟨.hbm, 94, rfl⟩
abbrev main_call6_c : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_c_1 : Ref sig .tc := ⟨.hbm, 101, rfl⟩
abbrev main_call6_v5 : Ref sig .tc := ⟨.hbm, 102, rfl⟩
abbrev main_call6_v6 : Ref sig .tc := ⟨.hbm, 103, rfl⟩
abbrev main_call6_c_2 : Ref sig .tc := ⟨.hbm, 104, rfl⟩
abbrev main_call6_v7 : Ref sig .tc := ⟨.hbm, 105, rfl⟩
abbrev main_call6_v8 : Ref sig .tc := ⟨.hbm, 106, rfl⟩
abbrev main_call6_c_3 : Ref sig .tc := ⟨.hbm, 107, rfl⟩
abbrev main_call6_v9 : Ref sig .tc := ⟨.hbm, 108, rfl⟩
abbrev main_call6_v10 : Ref sig .tc := ⟨.hbm, 109, rfl⟩
abbrev main_call6_v11 : Ref sig .tc := ⟨.hbm, 110, rfl⟩
abbrev main_call6_v12 : Ref sig .tc := ⟨.hbm, 111, rfl⟩
abbrev main_call6_v13 : Ref sig .tc := ⟨.hbm, 112, rfl⟩
abbrev main_call6_v14 : Ref sig .tc := ⟨.hbm, 113, rfl⟩
abbrev main_v35 : Ref sig .tc := ⟨.hbm, 114, rfl⟩
abbrev main_c_10 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_cst_11 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_cst_12 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_v43 : Ref sig .tc := ⟨.hbm, 128, rfl⟩
abbrev main_cst_13 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_c_14 : Ref sig .tc := ⟨.hbm, 135, rfl⟩
abbrev main_v49 : Ref sig .tc := ⟨.hbm, 136, rfl⟩
abbrev main_v50 : Ref sig .tc := ⟨.hbm, 137, rfl⟩
abbrev main_cst_15 : Ref sig .tc := ⟨.hbm, 138, rfl⟩
abbrev main_v51 : Ref sig .tc := ⟨.hbm, 139, rfl⟩
abbrev main_v52 : Ref sig .tc := ⟨.hbm, 140, rfl⟩
abbrev main_cst_16 : Ref sig .tc := ⟨.hbm, 141, rfl⟩
abbrev main_call8_v0 : Ref sig .tc := ⟨.hbm, 142, rfl⟩
abbrev main_call8_v1 : Ref sig .tc := ⟨.hbm, 143, rfl⟩
abbrev main_call8_v2 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_cst_17 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩

abbrev nD : Nat := 1
abbrev τ : Topo := Topo.v7x

variable {F : FTy → Type} [FloatOps F]

def κ : String → Option EReal := fun
  | "mask" => some ⊥
  | _ => none
-- ==== Proof.Geo.lean ====
/-
  The exchange's geometry: the ring of 32 devices, which part of a stage a device needs, the words that compute both,
  and the pieces of the landing buffer and of the stage that a copy moves.
-/
module

public import proofs.«01_k».proof.Proof.Gen.KernelIdeal.Skeleton
public import proofs.«01_k».proof.Proof.Gen.KernelIdeal.Launch
public import Idealize.ShloMosaic.Lib.Rounds

@[expose] public section

noncomputable section

namespace Cert.KernelIdeal.Hand

open Cert.KernelIdeal Cert.KernelIdeal.Gen
open Idealize.ShloMosaic Idealize.ShloMosaic.TcCoe
open Idealize.SL Idealize.SL.RA Idealize.SL.BI

/-! ## The ring -/

/-- A distance on the ring. -/
abbrev D : Type := Fin 32

set_option backward.proofsInPublic true in
/-- The distance `n`, for a count of steps. -/
def fk (n : ℕ) : D := ⟨n % 32, Nat.mod_lt _ (by decide)⟩
set_option backward.proofsInPublic true in
/-- The device `k` places after `c`. -/
def up (k : D) (c : Dev nD) : Dev nD := ⟨(c.val + k.val) % 32, Nat.mod_lt _ (by decide)⟩
set_option backward.proofsInPublic true in
/-- The device `k` places before `c`. -/
def dn (k : D) (c : Dev nD) : Dev nD := ⟨(c.val + 32 - k.val) % 32, Nat.mod_lt _ (by decide)⟩
set_option backward.proofsInPublic true in
/-- The way back. -/
def neg (k : D) : D := ⟨(32 - k.val) % 32, Nat.mod_lt _ (by decide)⟩

theorem up_dn (k : D) (c : Dev nD) : up k (dn k c) = c := by revert k c; decide +kernel
theorem dn_up (k : D) (c : Dev nD) : dn k (up k c) = c := by revert k c; decide +kernel
theorem up_neg (k : D) (c : Dev nD) : up (neg k) (up k c) = c := by revert k c; decide +kernel
theorem dn_neg (k : D) (c : Dev nD) : dn (neg k) c = up k c := by revert k c; decide +kernel
theorem neg_neg' (k : D) : neg (neg k) = k := by revert k; decide +kernel
theorem neg_ne (k : D) (h : k ≠ 0) : neg k ≠ 0 := by revert k; decide +kernel

/-- The `k`-th shift of the ring. -/
def shift (k : D) : Dev nD ≃ Dev nD := ⟨up k, dn k, dn_up k, up_dn k⟩
/-- Turning distances round. -/
def turn : D ≃ D := ⟨neg, neg, neg_neg', neg_neg'⟩

/-- What `r` needs of the stage of `s`: all of it (0), its first block (1), its second block (2). -/
def kind (s r : Dev nD) : Fin 3 :=
  if s.val = 0 ∨ (2 * r.val + 2 * s.val) % 3 ≠ 1 then (if (2 * r.val + 2 * s.val + 1) % 3 ≠ 1 then 0 else 1) else 2

/-! ## The words -/

/-- The device's own number as the kernel computes it. -/
def meW (c : Dev nD) : BitVec 32 := Scalar.remsi (Scalar.divsi (Dev.word c) 1#32) 32#32
/-- The remainder of `a` by `b`, of the divisor's sign. -/
def modW (a b : BitVec 32) : BitVec 32 :=
  Scalar.select (Scalar.andi (Scalar.xori (Scalar.cmpi .slt (Scalar.remsi a (Scalar.select (Scalar.cmpi .eq b 0#32) 1#32 b)) 0#32)
      (Scalar.cmpi .slt (Scalar.select (Scalar.cmpi .eq b 0#32) 1#32 b) 0#32))
      (Scalar.cmpi .ne (Scalar.remsi a (Scalar.select (Scalar.cmpi .eq b 0#32) 1#32 b)) 0#32))
    (Scalar.addi (Scalar.remsi a (Scalar.select (Scalar.cmpi .eq b 0#32) 1#32 b)) (Scalar.select (Scalar.cmpi .eq b 0#32) 1#32 b))
    (Scalar.remsi a (Scalar.select (Scalar.cmpi .eq b 0#32) 1#32 b))
/-- The peer `n` places on. -/
def upW (c : Dev nD) (n : ℕ) : BitVec 32 := modW (Scalar.addi (meW c) (BitVec.ofNat 32 n)) 32#32
/-- The peer `n` places back. -/
def dnW (c : Dev nD) (n : ℕ) : BitVec 32 := modW (Scalar.subi (Scalar.addi (meW c) 32#32) (BitVec.ofNat 32 n)) 32#32
/-- Whether the first block of `s` is needed by `r`. -/
def n0W (s r : BitVec 32) : BitVec 1 :=
  Scalar.ori (Scalar.cmpi .eq s 0#32) (Scalar.cmpi .ne (modW (Scalar.addi (Scalar.muli 2#32 r) (Scalar.muli 2#32 s)) 3#32) 1#32)
/-- Whether the second block of `s` is needed by `r`. -/
def n1W (s r : BitVec 32) : BitVec 1 :=
  Scalar.cmpi .ne (modW (Scalar.addi (Scalar.addi (Scalar.muli 2#32 r) (Scalar.muli 2#32 s)) 1#32) 3#32) 1#32
/-- The three conditions on the two needs. -/
def needW (j : Fin 3) (a b : BitVec 1) : BitVec 1 :=
  match j with
  | 0 => Scalar.cmpi .ne (Scalar.extui (Scalar.andi a b) : BitVec 32) 0#32
  | 1 => Scalar.cmpi .ne (Scalar.extui (Scalar.andi a (Scalar.xori b 1#1)) : BitVec 32) 0#32
  | 2 => Scalar.cmpi .ne (Scalar.extui (Scalar.andi b (Scalar.xori a 1#1)) : BitVec 32) 0#32
/-- The condition of the `j`-th copy to the peer `n` places on. -/
def sendW (c : Dev nD) (n : ℕ) (j : Fin 3) : BitVec 1 := needW j (n0W (meW c) (upW c n)) (n1W (meW c) (upW c n))
/-- The condition of the `j`-th wait for the peer `n` places back. -/
def recvW (c : Dev nD) (n : ℕ) (j : Fin 3) : BitVec 1 := needW j (n0W (dnW c n) (meW c)) (n1W (dnW c n) (meW c))
/-- The number of the device the peer word `n` places on names. -/
def upN (c : Dev nD) (n : ℕ) : ℕ := (Scalar.addi 0#32 (Scalar.muli (upW c n) 1#32)).toNat

theorem sendW_iff (c : Dev nD) (k : D) (j : Fin 3) : Iff (sendW c k.val j = 1#1) (kind c (up k c) = j) := by
  revert c k j; decide +kernel
theorem recvW_iff (c : Dev nD) (k : D) (j : Fin 3) : Iff (recvW c k.val j = 1#1) (kind (dn k c) c = j) := by
  revert c k j; decide +kernel
theorem upN_eq (c : Dev nD) (k : D) : upN c k.val = (up k c).val := by revert c k; decide +kernel

end Cert.KernelIdeal.Hand

end
-- ==== Proof.Views.lean ====
/-
  The pieces of the landing buffer and of the stage that the copies move: their elements, and what a landed piece holds.
-/
module

public import proofs.«01_k».proof.Proof.Geo

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI

/-- The landing buffer, one slot per distance. -/
abbrev commM : Memref sig .tc .vmem S32x2x2x2x4x64x64 .i8 := Memref.whole cc0_scratch0
/-- The stage: the device's own quantised keys and values. -/
abbrev stageM : Memref sig .tc .vmem S2x2x2x4x64x64 .i8 := Memref.whole cc0_scratch1

theorem inbF (k : D) : ∀ a, (![k.val, 0, 0, 0, 0, 0, 0] : Fin 7 → ℕ) a + S1x2x2x2x4x64x64.size a ≤ S32x2x2x2x4x64x64.size a := by revert k; decide
theorem inbH (k : D) (b : Fin 2) : ∀ a, (![k.val, b.val, 0, 0, 0, 0, 0] : Fin 7 → ℕ) a + S1x1x2x2x4x64x64.size a ≤ S32x2x2x2x4x64x64.size a := by
  revert k b; decide
theorem inbR (b : Fin 2) : ∀ a, (![b.val, 0, 0, 0, 0, 0] : Fin 6 → ℕ) a + S1x2x2x4x64x64.size a ≤ S2x2x2x4x64x64.size a := by revert b; decide

/-- Slot `k` of the landing buffer; -/
def dstF (k : D) : Memref sig .tc .vmem S2x2x2x4x64x64 .i8 :=
  (commM.slice (Rect.unit (s := S32x2x2x2x4x64x64) ![k.val, 0, 0, 0, 0, 0, 0] S1x2x2x2x4x64x64.size (inbF k)) (fun _ => rfl)).squeeze
    S2x2x2x4x64x64 squeezes_S1x2x2x2x4x64x64_S2x2x2x4x64x64
/-- block `b` of slot `k`; -/
def dstH (k : D) (b : Fin 2) : Memref sig .tc .vmem S2x2x4x64x64 .i8 :=
  (commM.slice (Rect.unit (s := S32x2x2x2x4x64x64) ![k.val, b.val, 0, 0, 0, 0, 0] S1x1x2x2x4x64x64.size (inbH k b)) (fun _ => rfl)).squeeze
    S2x2x4x64x64 squeezes_S1x1x2x2x4x64x64_S2x2x4x64x64
/-- block `b` of the stage. -/
def srcH (b : Fin 2) : Memref sig .tc .vmem S2x2x4x64x64 .i8 :=
  (stageM.slice (Rect.unit (s := S2x2x2x4x64x64) ![b.val, 0, 0, 0, 0, 0] S1x2x2x4x64x64.size (inbR b)) (fun _ => rfl)).squeeze
    S2x2x4x64x64 squeezes_S1x2x2x4x64x64_S2x2x4x64x64

/-- The landing buffer's elements and the stage's. -/
abbrev CIx : Type := S32x2x2x2x4x64x64.Idx
abbrev SIx : Type := S2x2x2x4x64x64.Idx

/-- The element of the stage that lands at an element. -/
def tl (i : CIx) : SIx := fun a => i a.succ

/-- The elements the `j`-th copy of distance `k` writes, and those it reads. -/
def dset (j : Fin 3) (k : D) : Finset CIx := match j with
  | 0 => (dstF k).view.set | 1 => (dstH k 0).view.set | 2 => (dstH k 1).view.set
def sset (j : Fin 3) : Finset SIx := match j with
  | 0 => stageM.view.set | 1 => (srcH 0).view.set | 2 => (srcH 1).view.set
/-- Slot `k`'s elements. -/
def slot (k : D) : Finset CIx := Finset.univ.filter fun i => (i 0).val = k.val

theorem mem_slot (k : D) (i : CIx) : Iff (i ∈ slot k) ((i 0).val = k.val) := by unfold slot; simp

theorem mem_dstF (k : D) (i : CIx) : Iff (i ∈ ((dstF k).view.set : Finset CIx)) ((i 0).val = k.val) := by
  have e : (dstF k).view.set = (Rect.unit (s := S32x2x2x2x4x64x64) ![k.val, 0, 0, 0, 0, 0, 0] S1x2x2x2x4x64x64.size (inbF k)).set :=
    (View.set_reshape _ _).trans (View.set_slice_whole _ _)
  refine Iff.trans (Iff.of_eq (congrArg (fun S : Finset CIx => i ∈ S) e)) (Rect.mem_set_unit.trans ?_)
  constructor
  · intro h; have := h 0; simp at this; omega
  · intro e a
    fin_cases a
    · simp; omega
    all_goals exact ⟨Nat.zero_le _, lt_of_lt_of_eq (i _).isLt (Nat.zero_add _).symm⟩

theorem mem_dstH (k : D) (b : Fin 2) (i : CIx) : Iff (i ∈ ((dstH k b).view.set : Finset CIx)) ((i 0).val = k.val ∧ (i 1).val = b.val) := by
  have e : (dstH k b).view.set = (Rect.unit (s := S32x2x2x2x4x64x64) ![k.val, b.val, 0, 0, 0, 0, 0] S1x1x2x2x4x64x64.size (inbH k b)).set :=
    (View.set_reshape _ _).trans (View.set_slice_whole _ _)
  refine Iff.trans (Iff.of_eq (congrArg (fun S : Finset CIx => i ∈ S) e)) (Rect.mem_set_unit.trans ?_)
  constructor
  · intro h; have h0 := h 0; have h1 := h 1; simp at h0 h1; omega
  · rintro ⟨e0, e1⟩ a
    fin_cases a
    · simp; omega
    · simp; omega
    all_goals exact ⟨Nat.zero_le _, lt_of_lt_of_eq (i _).isLt (Nat.zero_add _).symm⟩

/-- Whether the `j`-th copy of a slot writes block `b`. -/
def covers (j : Fin 3) (b : ℕ) : Prop := j = 0 ∨ j.val = b + 1

theorem mem_dset (j : Fin 3) (k : D) (i : CIx) : Iff (i ∈ dset j k) ((i 0).val = k.val ∧ covers j (i 1).val) := by
  unfold covers
  match j with
  | 0 => exact (mem_dstF k i).trans (by simp)
  | 1 => exact (mem_dstH k 0 i).trans (by simp [eq_comm])
  | 2 => exact (mem_dstH k 1 i).trans (by simp [eq_comm])

theorem dset_slot (j : Fin 3) (k : D) : dset j k ⊆ slot k := fun i hi => (mem_slot k i).mpr ((mem_dset j k i).mp hi).1

theorem slot_disjoint (k k' : D) (h : k ≠ k') : Disjoint (slot k) (slot k') := by
  rw [Finset.disjoint_left]; intro i hi hi'
  rw [mem_slot] at hi hi'; exact h (Fin.ext (hi.symm.trans hi'))
theorem slots : (Finset.univ : Finset D).biUnion slot = Finset.univ := by
  ext i; simp only [Finset.mem_biUnion, Finset.mem_univ, true_and, mem_slot, iff_true]; exact ⟨⟨(i 0).val, (i 0).isLt⟩, rfl⟩

theorem sset_zero : sset 0 = Finset.univ := View.set_whole _

/-- Dropping two leading axes of size one puts a zero in front twice. -/
theorem reshape_two {n : ℕ} {d : Fin n → ℕ}
    (h : (⟨n, d⟩ : Shape).numel = (⟨n + 2, Matrix.vecCons 1 (Matrix.vecCons 1 d)⟩ : Shape).numel) (x : (⟨n, d⟩ : Shape).Idx) :
    Shape.reshapeEquiv h x = Fin.cons ⟨0, Nat.one_pos⟩ (Fin.cons ⟨0, Nat.one_pos⟩ x) := by
  apply Shape.reshapeEquiv_eq_of_rowMajor
  refine (Shape.rowMajorPi_succ_val _ _).trans ?_
  refine (congrArg₂ (· + ·) (Nat.zero_mul _) (Shape.rowMajorPi_succ_val (Matrix.vecCons 1 d) (Fin.cons ⟨0, Nat.one_pos⟩ x))).trans ?_
  exact (Nat.zero_add _).trans ((congrArg (· + _) (Nat.zero_mul _)).trans (Nat.zero_add _))

theorem emb_dstF (k : D) (x : SIx) : tl ((dstF k).view.emb x) = stageM.view.emb x := by
  funext a; apply Fin.ext
  show ((Rect.unit (s := S32x2x2x2x4x64x64) ![k.val, 0, 0, 0, 0, 0, 0] S1x2x2x2x4x64x64.size (inbF k)).emb
    (Shape.reshapeEquiv (squeezes_S1x2x2x2x4x64x64_S2x2x2x4x64x64).numel_eq x) a.succ).val = (x a).val
  rw [show Shape.reshapeEquiv (squeezes_S1x2x2x2x4x64x64_S2x2x2x4x64x64).numel_eq x = Fin.cons ⟨0, Nat.one_pos⟩ x from
    Shape.reshapeEquiv_cons_one (d := S2x2x2x4x64x64.size) _ x]
  rw [Rect.emb_apply]
  match a with
  | ⟨0, _⟩ | ⟨1, _⟩ | ⟨2, _⟩ | ⟨3, _⟩ | ⟨4, _⟩ | ⟨5, _⟩ => exact (Nat.zero_add _).trans (Nat.one_mul _)

theorem emb_dstH (k : D) (b : Fin 2) (x : S2x2x4x64x64.Idx) : tl ((dstH k b).view.emb x) = (srcH b).view.emb x := by
  funext a; apply Fin.ext
  show ((Rect.unit (s := S32x2x2x2x4x64x64) ![k.val, b.val, 0, 0, 0, 0, 0] S1x1x2x2x4x64x64.size (inbH k b)).emb
      (Shape.reshapeEquiv (squeezes_S1x1x2x2x4x64x64_S2x2x4x64x64).numel_eq x) a.succ).val
    = ((Rect.unit (s := S2x2x2x4x64x64) ![b.val, 0, 0, 0, 0, 0] S1x2x2x4x64x64.size (inbR b)).emb
      (Shape.reshapeEquiv (squeezes_S1x2x2x4x64x64_S2x2x4x64x64).numel_eq x) a).val
  rw [show Shape.reshapeEquiv (squeezes_S1x1x2x2x4x64x64_S2x2x4x64x64).numel_eq x = _ from reshape_two (d := S2x2x4x64x64.size) _ x,
    show Shape.reshapeEquiv (squeezes_S1x2x2x4x64x64_S2x2x4x64x64).numel_eq x = Fin.cons ⟨0, Nat.one_pos⟩ x from
      Shape.reshapeEquiv_cons_one (d := S2x2x4x64x64.size) _ x]
  rw [Rect.emb_apply, Rect.emb_apply]
  match a with
  | ⟨0, _⟩ | ⟨1, _⟩ | ⟨2, _⟩ | ⟨3, _⟩ | ⟨4, _⟩ | ⟨5, _⟩ => rfl

section
variable {F : FTy → Type}

/-- Contents of a device's stage, and of its landing buffer. -/
abbrev SC (F : FTy → Type) : Type := (cc0_scratch1 : Ref sig .tc).ty.Contents (Elt F)
abbrev CC (F : FTy → Type) : Type := (cc0_scratch0 : Ref sig .tc).ty.Contents (Elt F)

/-- What a landing buffer holds of a stage. -/
def land (f : SC F) : CC F := fun i => f (tl i)

/-- A whole copy leaves the stage's contents in its slot, -/
theorem write_dstF (k : D) (fd : CC F) (f : SC F) (i : CIx) (hi : i ∈ dset 0 k) :
    (dstF k).view.write (Elt F) fd (stageM.view.read (Elt F) f) Finset.univ i = land f i := by
  obtain ⟨x, -, rfl⟩ := Finset.mem_map.mp (show i ∈ (dstF k).view.set from hi)
  refine (View.write_emb_of_mem (v := (dstF k).view) _ _ (Finset.mem_univ _)).trans ?_
  show _ = f (tl ((dstF k).view.emb x))
  rw [emb_dstF]; rfl
/-- and a copy of one block that block's. -/
theorem write_dstH (k : D) (b : Fin 2) (fd : CC F) (f : SC F) (i : CIx) (hi : i ∈ ((dstH k b).view.set : Finset CIx)) :
    (dstH k b).view.write (Elt F) fd ((srcH b).view.read (Elt F) f) Finset.univ i = land f i := by
  obtain ⟨x, -, rfl⟩ := Finset.mem_map.mp hi
  refine (View.write_emb_of_mem (v := (dstH k b).view) _ _ (Finset.mem_univ _)).trans ?_
  show _ = f (tl ((dstH k b).view.emb x))
  rw [emb_dstH]; rfl
end

end Cert.KernelIdeal.Hand

end
-- ==== Proof.Proto.lean ====
/-
  The exchange as one round of deposits: who pays which semaphore cell, with which elements, and the states of a
  device between the steps of its program.
-/
module

public import proofs.«01_k».proof.Proof.Views
public import Idealize.ShloMosaic.Lib.ShareLeaves
public import Idealize.ShloMosaic.Lib.Tactic

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

abbrev barS : Sem sig := (SemArray.scalar (sig.barrier 0 rfl) : Sems sig S_).sem
/-- The semaphore a device's copy of distance `k` raises at home, and the one it raises at its peer. -/
def sdq (k : D) : DmaSem sig := ⟨6 + k.val, by have := k.isLt; show _ < 70; omega⟩
def rvq (k : D) : DmaSem sig := ⟨38 + k.val, by have := k.isLt; show _ < 70; omega⟩

abbrev barCell (c : Dev nD) : GSem nD τ sig := ((c : Thread nD τ), .reg barS)
abbrev sdCell (c : Dev nD) (k : D) : GSem nD τ sig := ((c : Thread nD τ), .dma (sdq k))
abbrev rvCell (c : Dev nD) (k : D) : GSem nD τ sig := ((c : Thread nD τ), .dma (rvq k))

/-- The cells of one device: its barrier, and a departure and an arrival cell for each distance. -/
abbrev Kx : Type := Option (Bool × D)
abbrev ksem : Kx → SemLoc sig
  | none => .reg barS
  | some (false, k) => .dma (sdq k)
  | some (true, k) => .dma (rvq k)
abbrev kcell (x : Dev nD × Kx) : GSem nD τ sig := ((x.1 : Thread nD τ), ksem x.2)

/-! ## What is handed over -/

/-- The bytes a copy counts: of a whole stage, of one block. -/
def amt : Fin 3 → ℕ
  | 0 => stageM.view.dmaCredit
  | _ => (srcH 0).view.dmaCredit

theorem amt_pos (j : Fin 3) : 0 < amt j := by
  unfold amt; split
  · exact View.dmaCredit_pos _ (by decide +kernel)
  · exact View.dmaCredit_pos _ (by decide +kernel)

/-- Elements of a device's landing buffer, and of its stage. -/
def commPt (c : Dev nD) (S : Finset CIx) (f : CC F) : sProp 𝕄 := ((c : Thread nD τ).loc cc0_scratch0) ↦[S]{fullShare} f
def stagePt (c : Dev nD) (S : Finset SIx) (q : PosShare TreeShare) (f : SC F) : sProp 𝕄 := ((c : Thread nD τ).loc cc0_scratch1) ↦[S]{q} f

instance commPt_storable (c : Dev nD) (S) (f : CC F) : BI.Storable (upEmb : UEmb _ 𝕄) (commPt c S f) := by unfold commPt; infer_instance
instance stagePt_storable (c : Dev nD) (S q) (f : SC F) : BI.Storable (upEmb : UEmb _ 𝕄) (stagePt c S q f) := by unfold stagePt; infer_instance

/-- The share of the stage that the copy of distance `k` reads. -/
def lf (k : D) : PosShare TreeShare := ShareLeaves.leaf 5 fullShare k

/-- Device `c`'s piece of its landing buffer for the copy from `k` places before it. -/
abbrev landSet (c : Dev nD) (k : D) : Finset CIx := dset (kind (dn k c) c) k
/-- The kind of the copy a device makes to the device `k` places after it. -/
abbrev kup (c : Dev nD) (k : D) : Fin 3 := kind c (up k c)

/-- A peer's piece for device `c`'s copy of distance `d`. -/
def barPay (c : Dev nD) (d : D) : sProp 𝕄 := iprop(∃ f : CC F, commPt (up d c) (landSet (up d c) d) f)

variable (stg : Dev nD → SC F)

def sdPay (c : Dev nD) (k : D) : sProp 𝕄 := stagePt c (sset (kup c k)) (lf k) (stg c)
def rvPay (c : Dev nD) (k : D) : sProp 𝕄 := commPt c (landSet c k) (land (stg (dn k c)))

/-- The one round of the exchange. -/
def Rd : Rounds.Schedule (GSem nD τ sig) D 𝕄 where
  duties g r := if r = 0 ∧ g.1.2 = .tc then
      (match g.2 with
        | .reg _ => Finset.univ.erase 0
        | .dma q => if (6 < q.val ∧ q.val < 38) ∨ 38 < q.val then {0} else ∅)
    else ∅
  unitless _ := False
  amount g _ _ := match g.2 with
    | .reg _ => 1
    | .dma q => if q.val < 38 then amt (kup g.1.1 (fk (q.val - 6))) else amt (kup (dn (fk (q.val - 38)) g.1.1) (fk (q.val - 38)))
  payload g _ d := match g.2 with
    | .reg _ => barPay g.1.1 d
    | .dma q => if q.val < 38 then sdPay stg g.1.1 (fk (q.val - 6)) else rvPay stg g.1.1 (fk (q.val - 38))
  amount_pos g _ _ _ := by
    split
    · exact Nat.one_pos
    · split <;> exact amt_pos _

instance Rd_payload_storable (g : GSem nD τ sig) (r : ℕ) (d : D) : BI.Storable (upEmb : UEmb _ 𝕄) ((Rd (F := F) stg).payload g r d) := by
  show BI.Storable upEmb (match g.2 with
    | .reg _ => barPay g.1.1 d
    | .dma q => if q.val < 38 then sdPay stg g.1.1 (fk (q.val - 6)) else rvPay stg g.1.1 (fk (q.val - 38)))
  unfold barPay sdPay rvPay
  (repeat' split) <;> infer_instance

section Sched
variable (c : Dev nD) (k : D)

theorem fk_sd : fk ((sdq k).val - 6) = k := Fin.ext (by have := k.isLt; simp only [fk, sdq]; omega)
theorem fk_rv : fk ((rvq k).val - 38) = k := Fin.ext (by have := k.isLt; simp only [fk, rvq]; omega)
theorem sd_lt : (sdq k).val < 38 := by have := k.isLt; simp only [sdq]; omega
theorem rv_ge : ¬ (rvq k).val < 38 := by simp only [rvq]; omega

theorem duties_bar : (Rd (F := F) stg).duties (barCell c) 0 = Finset.univ.erase 0 := by dsimp only [Rd]; exact if_pos ⟨rfl, rfl⟩
theorem duties_sd (h : 0 < k.val) : (Rd (F := F) stg).duties (sdCell c k) 0 = {0} := by
  dsimp only [Rd]; rw [if_pos ⟨rfl, rfl⟩]; exact if_pos (Or.inl ⟨by simp only [sdq]; omega, sd_lt k⟩)
theorem duties_rv (h : 0 < k.val) : (Rd (F := F) stg).duties (rvCell c k) 0 = {0} := by
  dsimp only [Rd]; rw [if_pos ⟨rfl, rfl⟩]; exact if_pos (Or.inr (by simp only [rvq]; omega))
theorem duties_sd0 : (Rd (F := F) stg).duties (sdCell c 0) 0 = ∅ := by
  dsimp only [Rd]; rw [if_pos ⟨rfl, rfl⟩]; exact if_neg (by simp [sdq])
theorem duties_rv0 : (Rd (F := F) stg).duties (rvCell c 0) 0 = ∅ := by
  dsimp only [Rd]; rw [if_pos ⟨rfl, rfl⟩]; exact if_neg (by simp [rvq])
theorem duties_later (g : GSem nD τ sig) : ∀ r, 1 ≤ r → (Rd (F := F) stg).duties g r = ∅ :=
  fun r hr => by dsimp only [Rd]; rw [if_neg fun h => by omega]

theorem amount_bar (d : D) : (Rd (F := F) stg).amount (barCell c) 0 d = 1 := rfl
theorem amount_sd (d : D) : (Rd (F := F) stg).amount (sdCell c k) 0 d = amt (kup c k) := by
  dsimp only [Rd]; rw [if_pos (sd_lt k), fk_sd]
theorem amount_rv (d : D) : (Rd (F := F) stg).amount (rvCell c k) 0 d = amt (kup (dn k c) k) := by
  dsimp only [Rd]; rw [if_neg (rv_ge k), fk_rv]

theorem expect_bar : (Rd (F := F) stg).expect (barCell c) 0 = 31 := by
  unfold Schedule.expect Schedule.amountOf
  rw [duties_bar, Finset.sum_congr rfl fun d _ => amount_bar stg c d, Finset.sum_const]; decide
theorem expect_sd (h : 0 < k.val) : (Rd (F := F) stg).expect (sdCell c k) 0 = amt (kup c k) := by
  unfold Schedule.expect Schedule.amountOf; rw [duties_sd stg c k h, Finset.sum_singleton, amount_sd]
theorem expect_rv (h : 0 < k.val) : (Rd (F := F) stg).expect (rvCell c k) 0 = amt (kup (dn k c) k) := by
  unfold Schedule.expect Schedule.amountOf; rw [duties_rv stg c k h, Finset.sum_singleton, amount_rv]

theorem payload_bar (d : D) : (Rd (F := F) stg).payload (barCell c) 0 d = barPay c d := rfl
theorem payload_sd (d : D) : (Rd (F := F) stg).payload (sdCell c k) 0 d = sdPay stg c k := by
  dsimp only [Rd]; rw [if_pos (sd_lt k), fk_sd]
theorem payload_rv (d : D) : (Rd (F := F) stg).payload (rvCell c k) 0 d = rvPay stg c k := by
  dsimp only [Rd]; rw [if_neg (rv_ge k), fk_rv]

theorem rest_bar : bigSep ((Rd (F := F) stg).duties (barCell c) 0 \ ∅) (fun d => (Rd (F := F) stg).payload (barCell c) 0 d)
    = bigSep (Finset.univ.erase 0) (fun d => barPay (F := F) c d) := by
  rw [Finset.sdiff_empty, duties_bar]; rfl
theorem rest_sd (h : 0 < k.val) : bigSep ((Rd (F := F) stg).duties (sdCell c k) 0 \ ∅) (fun d => (Rd (F := F) stg).payload (sdCell c k) 0 d) = sdPay stg c k := by
  rw [Finset.sdiff_empty, duties_sd stg c k h, bigSep_singleton, payload_sd]
theorem rest_rv (h : 0 < k.val) : bigSep ((Rd (F := F) stg).duties (rvCell c k) 0 \ ∅) (fun d => (Rd (F := F) stg).payload (rvCell c k) 0 d) = rvPay stg c k := by
  rw [Finset.sdiff_empty, duties_rv stg c k h, bigSep_singleton, payload_rv]

end Sched

/-! ## Sweeps over the distances -/

/-- The distances from `n` on, and those from 1 to before `n`. -/
def seg (n : ℕ) : Finset D := Finset.univ.filter fun i => n ≤ i.val
def gone (n : ℕ) : Finset D := Finset.univ.filter fun i => 0 < i.val ∧ i.val < n

theorem seg_succ (n : ℕ) (h : n < 32) : seg n = insert (⟨n, h⟩ : D) (seg (n + 1)) := by
  ext i; simp only [seg, Finset.mem_insert, Finset.mem_filter, Finset.mem_univ, true_and, Fin.ext_iff]; omega
theorem not_mem_seg (n : ℕ) (h : n < 32) : (⟨n, h⟩ : D) ∉ seg (n + 1) := by simp [seg]
theorem gone_succ (n : ℕ) (h0 : 0 < n) (h : n < 32) : gone (n + 1) = insert (⟨n, h⟩ : D) (gone n) := by
  ext i; simp only [gone, Finset.mem_insert, Finset.mem_filter, Finset.mem_univ, true_and, Fin.ext_iff]; omega
theorem not_mem_gone (n : ℕ) (h : n < 32) : (⟨n, h⟩ : D) ∉ gone n := by simp [gone]
theorem seg_one : seg 1 = Finset.univ.erase 0 := by decide
theorem gone_all : gone 32 = Finset.univ.erase 0 := by decide
theorem gone_one : gone 1 = ∅ := by decide
theorem seg_all : seg 32 = ∅ := by decide

/-- What is still to do and what is done, distance by distance. -/
def sweep (T X : D → sProp 𝕄) (n : ℕ) : sProp 𝕄 := iprop(bigSep (seg n) T ∗ bigSep (gone n) X)

theorem sweep_step (T X : D → sProp 𝕄) (n : ℕ) (h0 : 0 < n) (h : n < 32) :
    sweep T X n ⊢ iprop(T ⟨n, h⟩ ∗ (X ⟨n, h⟩ -∗ sweep T X (n + 1))) := by
  unfold sweep
  rw [seg_succ n h, bigSep_insert (not_mem_seg n h), gone_succ n h0 h, bigSep_insert (not_mem_gone n h)]
  show iprop((T ⟨n, h⟩ ∗ bigSep (seg (n + 1)) T) ∗ bigSep (gone n) X)
    ⊢ iprop(T ⟨n, h⟩ ∗ (X ⟨n, h⟩ -∗ bigSep (seg (n + 1)) T ∗ (X ⟨n, h⟩ ∗ bigSep (gone n) X)))
  iintro ⟨⟨HT, Hs⟩, Hg⟩
  isplitl [HT]; · iexact HT
  iintro HX
  isplitl [Hs]; · iexact Hs
  isplitl [HX] <;> iassumption

theorem sweep_start (T X : D → sProp 𝕄) : bigSep (Finset.univ.erase 0) T ⊢ sweep T X 1 := by
  unfold sweep; rw [gone_one, bigSep_empty, seg_one]
  iintro H; isplitl [H]; · iexact H
  iempintro
theorem sweep_end (T X : D → sProp 𝕄) : sweep T X 32 ⊢ bigSep (Finset.univ.erase 0) X := by
  unfold sweep; rw [gone_all]
  iintro ⟨-, H⟩; iexact H

/-! ## What a device owes -/

/-- The arrivals at its peers from distance `n` on, -/
def Orv (c : Dev nD) (n : ℕ) : CellTallies nD τ sig Unit := ∑ i ∈ seg n, tallyAt (rvCell (up i c) i) () (amt (kup c i))
/-- and the barrier signals from distance `n` on with all arrivals. -/
def Obar (c : Dev nD) (n : ℕ) : CellTallies nD τ sig Unit := Orv c 1 + ∑ i ∈ seg n, tallyAt (barCell (up i c)) () 1

theorem Orv_succ (c : Dev nD) (n : ℕ) (h : n < 32) : Orv c n = Orv c (n + 1) + tallyAt (rvCell (up ⟨n, h⟩ c) ⟨n, h⟩) () (amt (kup c ⟨n, h⟩)) := by
  unfold Orv; rw [seg_succ n h, Finset.sum_insert (not_mem_seg n h), add_comm]
theorem Obar_succ (c : Dev nD) (n : ℕ) (h : n < 32) : Obar c n = Obar c (n + 1) + tallyAt (barCell (up ⟨n, h⟩ c)) () 1 := by
  unfold Obar; rw [seg_succ n h, Finset.sum_insert (not_mem_seg n h), add_comm (tallyAt _ _ _), add_assoc]
theorem Orv_all (c : Dev nD) : Orv c 32 = 0 := by unfold Orv; rw [seg_all, Finset.sum_empty]
theorem Obar_all (c : Dev nD) : Obar c 32 = Orv c 1 := by unfold Obar; rw [seg_all, Finset.sum_empty, add_zero]

theorem tallies_pos {ι : Type} [DecidableEq ι] (S : Finset ι) (g' : ι → GSem nD τ sig) (n : ι → ℕ) (g : GSem nD τ sig) (u : Unit)
    (h : 0 < (∑ i ∈ S, tallyAt (g' i) () (n i) : CellTallies nD τ sig Unit) g u) : ∃ i ∈ S, g = g' i := by
  induction S using Finset.induction_on with
  | empty => exact absurd h (Nat.lt_irrefl 0)
  | insert a s ha ih =>
    rw [Finset.sum_insert ha, Pi.add_apply, Finsupp.add_apply, tallyAt_apply] at h
    by_cases e : g = g' a
    · exact ⟨a, Finset.mem_insert_self _ _, e⟩
    · rw [if_neg (fun h' => e h'.1), zero_add] at h
      obtain ⟨i, hi, he⟩ := ih h
      exact ⟨i, Finset.mem_insert_of_mem hi, he⟩

theorem Orv_pos {c : Dev nD} {n : ℕ} {g : GSem nD τ sig} {u : Unit} (h : 0 < Orv c n g u) : ∃ i, g = rvCell (up i c) i := by
  obtain ⟨i, -, e⟩ := tallies_pos _ _ _ _ _ h; exact ⟨i, e⟩
theorem Obar_pos {c : Dev nD} {n : ℕ} {g : GSem nD τ sig} {u : Unit} (h : 0 < Obar c n g u) :
    (∃ i, g = rvCell (up i c) i) ∨ ∃ i, g = barCell (up i c) := by
  unfold Obar at h
  rw [Pi.add_apply, Finsupp.add_apply] at h
  rcases Nat.pos_of_ne_zero (fun e => by omega) |> fun (_ : 0 < 1) => (Nat.add_pos_iff_pos_or_pos.mp h) with h | h
  · exact .inl (Orv_pos h)
  · obtain ⟨i, -, e⟩ := tallies_pos _ _ _ _ _ h; exact .inr ⟨i, e⟩

def L (g : GSem nD τ sig) : Finset Unit := if g.1.2 = .tc then {()} else ∅
/-- Barrier cells at 1, arrival cells at 2, everything else at 0. -/
def lv (g : GSem nD τ sig) (_ : Unit) : ℕ := match g.2 with | .reg _ => 1 | .dma q => if q.val < 38 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_rv (c : Dev nD) (k : D) (u : Unit) : lv (rvCell c k) u = 2 := if_neg (rv_ge k)

theorem mayWait_stage (c : Dev nD) (q : DmaSem sig) (hq : q.val < 38) (O : CellTallies nD τ sig Unit) (hO : O = Obar c 1 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Obar_pos hg with ⟨i, rfl⟩ | ⟨i, rfl⟩ <;> exact Finset.mem_singleton_self _)
      (fun p hp => by rw [Finset.mem_singleton.mp hp]; exact le_of_eq (if_pos hq))
      (fun g u hg => by
        rcases Obar_pos hg with ⟨i, rfl⟩ | ⟨i, rfl⟩
        · rw [lv_rv]; decide
        · exact Nat.one_pos)
  · rw [MayWait_zero]; iintro -; iempintro

/-- At its barrier wait a device owes arrivals only. -/
theorem mayWait_bar (c : Dev nD) : (levAts L lv : sProp 𝕄) ⊢ MayWait (c : Thread nD τ) (.reg barS) () (Orv c 1) :=
  MayOwe.of_cut (L := L) (lev := lv) 1 (fun p hp => by rw [Finset.mem_singleton.mp hp, L_tc]; exact Finset.mem_singleton_self _)
    (fun g u hg => by obtain ⟨i, rfl⟩ := Orv_pos hg; exact Finset.mem_singleton_self _)
    (fun p hp => by rw [Finset.mem_singleton.mp hp]; exact le_refl 1)
    (fun g u hg => by obtain ⟨i, rfl⟩ := Orv_pos hg; rw [lv_rv]; decide)

/-! ## The records every device has -/

variable (K : Dev nD × Kx → ℕ)

/-- Every cell's invariant and that its first round is open; the levels. -/
def recs : sProp 𝕄 :=
  iprop(bigSep Finset.univ (fun x : Dev nD × Kx => cellInv ER (Rd stg) (K x) (kcell x)) ∗ bigSep Finset.univ (fun x : Dev nD × Kx => reached ER (kcell x) 0)
    ∗ levAts L lv)

instance recs_persistent : BI.Persistent (recs stg K) := by unfold recs; infer_instance

theorem pick {I : Type} [DecidableEq I] {s : Finset I} {i : I} {Φ : I → sProp 𝕄} (h : i ∈ s) : bigSep s Φ ⊢ Φ i := bigSep_elim h

theorem recs_inv (x : Dev nD × Kx) : recs stg K ⊢ cellInv ER (Rd stg) (K x) (kcell x) := by
  unfold recs; iintro ⟨H, -, -⟩; iapply (pick (Φ := fun x : Dev nD × Kx => cellInv ER (Rd stg) (K x) (kcell x)) (Finset.mem_univ x)) $$ H
theorem recs_reached (x : Dev nD × Kx) : recs stg K ⊢ (reached ER (kcell x) 0 : sProp 𝕄) := by
  unfold recs; iintro ⟨-, H, -⟩; iapply (pick (Φ := fun x : Dev nD × Kx => (reached ER (kcell x) 0 : sProp 𝕄)) (Finset.mem_univ x)) $$ H
theorem recs_lev : recs stg K ⊢ (levAts L lv : sProp 𝕄) := by
  unfold recs; iintro ⟨-, -, H⟩; iexact H

/-! ## The states -/

/-- What the device owes, whatever it has waited for. -/
def Ow (c : Dev nD) (O : CellTallies nD τ sig Unit) : sProp 𝕄 := iprop(∃ W, owes (c : Thread nD τ) O W)

/-- Before the signal of distance `n`. -/
def stA (c : Dev nD) (n : ℕ) : sProp 𝕄 :=
  iprop(Ow c (Obar c n) ∗ sweep (fun i => iprop((∃ f : CC F, commPt c (landSet c (neg i)) f) ∗ dutyTok ER (barCell (up i c)) 0 (neg i))) (fun _ => iprop(emp)) n)
/-- Before the copy of distance `n`. -/
def stB (c : Dev nD) (n : ℕ) : sProp 𝕄 :=
  iprop(Ow c (Orv c n) ∗ sweep
    (fun i => iprop((∃ f : CC F, commPt (up i c) (landSet (up i c) i) f) ∗ stagePt c Finset.univ (lf i) (stg c)
      ∗ dutyTok ER (sdCell c i) 0 0 ∗ dutyTok ER (rvCell (up i c) i) 0 0))
    (fun i => iprop(stagePt c (Finset.univ \ sset (kup c i)) (lf i) (stg c) ∗ cred (tallyAt (sdCell c i) () (amt (kup c i))))) n)
/-- Before the arrival of distance `n`. -/
def stR (c : Dev nD) (n : ℕ) : sProp 𝕄 :=
  iprop(Ow c 0 ∗ sweep
    (fun i => iprop(cred (tallyAt (rvCell c i) () (amt (kup (dn i c) i))) ∗ atPos ER (rvCell c i) 0 ∅ 0))
    (fun i => iprop(commPt c (landSet c i) (land (stg (dn i c))) ∗ atPos ER (rvCell c i) 1 ∅ 0)) n)
/-- Before the departure of distance `n`. -/
def stE (c : Dev nD) (n : ℕ) : sProp 𝕄 :=
  iprop(Ow c 0 ∗ sweep
    (fun i => iprop((stagePt c (Finset.univ \ sset (kup c i)) (lf i) (stg c) ∗ cred (tallyAt (sdCell c i) () (amt (kup c i)))) ∗ atPos ER (sdCell c i) 0 ∅ 0))
    (fun i => iprop(stagePt c Finset.univ (lf i) (stg c) ∗ atPos ER (sdCell c i) 1 ∅ 0)) n)

/-- The state between the three alternatives of one distance: past the one that applies it is the next distance's. -/
@[irreducible] def tri (S : ℕ → sProp 𝕄) (κ : ℕ → Fin 3) (n j : ℕ) : sProp 𝕄 := S (if (κ n).val < j then n + 1 else n)

end Cert.KernelIdeal.Hand

end
-- ==== Proof.Steps.lean ====
/-
  One rule per kind of step of the exchange: a barrier signal, the barrier wait, a copy, an arrival, a departure.
-/
module

public import proofs.«01_k».proof.Proof.Proto

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A device's program. -/
abbrev P (F : FTy → Type) [FloatOps F] [Named F] (α : Type) : Type 1 := Prog (TpuEff nD τ sig (Elt F) Λ₀ .tc) α
/-- What is left to run, from a state. -/
abbrev run {α : Type} (c : Dev nD) (p : P F α) (Q : α → sProp 𝕄) : sProp 𝕄 :=
  wp frame (wpE (defs₀ (F := F)) 𝒱₀ (c : Thread nD τ) none) Set.univ p Q

variable (stg : Dev nD → SC F) (K : Dev nD × Kx → ℕ) (c : Dev nD)

theorem run_pure {α : Type} {S : sProp 𝕄} {x : α} {Q : α → sProp 𝕄} (h : S ⊢ Q x) : S ⊢ run (F := F) c (pure x) Q := by
  unfold run; rw [wp_pure]; iintro H; imodintro; iapply h $$ H
theorem run_bind {α β : Type} {S : sProp 𝕄} {p : P F α} {k : α → P F β} {Q : β → sProp 𝕄} (h : S ⊢ run c p fun a => run c (k a) Q) :
    S ⊢ run c (p >>= k) Q := by
  unfold run at h ⊢; rw [wp_bind]; exact h

theorem landSet_up_neg (i : D) : landSet (up i c) i = dset (kup c i) i := by unfold landSet kup; rw [dn_up]
theorem kup_dn (i : D) : kup (dn i c) i = kind (dn i c) c := by unfold kup; rw [up_dn]

/-- The signal of distance `n`. -/
theorem sig_step (n : ℕ) (h0 : 0 < n) (h : n < 32) {p : Dev nD} {sem : Sem sig} {w : BitVec 32} {α : Type} {k : PUnit → P F α} {Q : α → sProp 𝕄} {R : sProp 𝕄}
    (hp : p = up ⟨n, h⟩ c) (hs : sem = barS) (hw : w = 1#32)
    (next : iprop((recs stg K ∗ stA c (n + 1)) ∗ R) ⊢ run c (k ⟨⟩) Q) :
    iprop((recs stg K ∗ stA c n) ∗ R) ⊢ run c (semSignalWord p sem w >>= k) Q := by
  subst hp hs hw
  show _ ⊢ run c (.op (.semSignal (up ⟨n, h⟩ c : Thread nD τ) barS 1) k) Q
  unfold stA
  iintro ⟨⟨#Hr, Ho, Hs⟩, HR⟩
  ihave Hs' := (sweep_step _ _ n h0 h) $$ Hs
  icases Hs' with ⟨⟨Hp, Ht⟩, Hn⟩
  unfold Ow
  icases Ho with ⟨%W, Ho⟩
  unfold run
  iapply (Rounds.wp_signal 𝒱₀ ER (Rd stg) (c : Thread nD τ) none (dst := (up ⟨n, h⟩ c : Thread nD τ)) (κ := K (up ⟨n, h⟩ c, none))
      (d := neg ⟨n, h⟩) (r := 0) (by rw [duties_bar]; exact Finset.mem_erase.mpr ⟨neg_ne _ (fun e => absurd (congrArg Fin.val e) (Nat.pos_iff_ne_zero.mp h0)), Finset.mem_univ _⟩) (amount_bar stg _ _) ()
      (Obar c (n + 1)) (Obar_succ c n h) (W := W)) $$ [Ho Ht Hp]
  · isplitr; · iapply (recs_inv stg K (up ⟨n, h⟩ c, none)); iexact Hr
    isplitl [Ho]; · iexact Ho
    isplitl [Ht]; · iexact Ht
    isplitl [Hp]
    · rw [payload_bar]; unfold barPay; rw [up_neg]; iexact Hp
    · iapply (recs_reached stg K (up ⟨n, h⟩ c, none)); iexact Hr
  iintro Ho
  iapply next
  isplitr [HR]
  · isplitr; · iexact Hr
    unfold stA Ow
    isplitl [Ho]; · iexists W; iexact Ho
    iapply Hn; iempintro
  iexact HR

set_option maxRecDepth 16384 in
theorem recs_mayWait : recs stg K ⊢ (MayWait (c : Thread nD τ) (.reg barS) () (Orv c 1) : sProp 𝕄) :=
  (recs_lev stg K).trans (mayWait_bar c)

/-- The barrier wait: every peer's piece comes with it. -/
theorem bar_step {sem : Sem sig} {w : BitVec 32} {α : Type} {k : PUnit → P F α} {Q : α → sProp 𝕄} {R : sProp 𝕄} (hs : sem = barS) (hw : w = 31#32)
    (next : iprop((recs stg K ∗ (Ow c (Orv c 1) ∗ bigSep (Finset.univ.erase 0) (fun d => barPay (F := F) c d) ∗ atPos ER (barCell c) 1 ∅ 0)) ∗ R) ⊢ run c (k ⟨⟩) Q) :
    iprop((recs stg K ∗ stA c 32) ∗ atPos ER (barCell c) 0 ∅ 0 ∗ cred (tallyAt (barCell c) () 31) ∗ R) ⊢ run c (semWaitWord sem w >>= k) Q := by
  subst hs hw
  show _ ⊢ run c (.op (.semWait barS 31) k) Q
  unfold stA Ow
  iintro ⟨⟨#Hr, ⟨%W, Ho⟩, -⟩, Hat, Hc, HR⟩
  rw [Obar_all]
  ihave Hm := (recs_mayWait stg K c) $$ Hr
  unfold run
  iapply (Rounds.wp_wait_rest_token 𝒱₀ ER (Rd stg) (c : Thread nD τ) none (κ := K (c, none))
      (wpE_semWait_eq 𝒱₀ (c : Thread nD τ) none Set.univ) (Set.mem_univ _) () (O := Orv c 1) (W := W) (R := 0) (m := 0) (T := ∅)
      (k' := 31) (by rw [Nat.zero_add]; exact (expect_bar stg c).symm)) $$ [Hc Ho Hat Hm]
  · isplitr; · iapply (recs_inv stg K (c, none)); iexact Hr
    isplitl [Hc]; · iexact Hc
    isplitl [Ho]; · iexact Ho
    isplitl [Hm]; · iexact Hm
    iexact Hat
  iintro ⟨Ho, Hat, -, Hpay⟩
  ihave Hpay := (Entails.of_eq (rest_bar stg c)) $$ Hpay
  iapply next
  isplitr [HR]
  · isplitr; · iexact Hr
    isplitl [Ho]; · unfold Ow; iexists _; iexact Ho
    isplitl [Hpay] <;> iassumption
  iexact HR

theorem sset_succ (b : Fin 2) : sset b.succ = (srcH b).view.set := by fin_cases b <;> rfl
theorem dset_succ (b : Fin 2) (k : D) : dset b.succ k = (dstH k b).view.set := by fin_cases b <;> rfl
theorem amt_succ (b : Fin 2) (k : D) : amt b.succ = (dstH k b).view.dmaCredit := by fin_cases b <;> rfl
theorem amt_succ' (b : Fin 2) : amt b.succ = (srcH b).view.dmaCredit := by fin_cases b <;> rfl
theorem amt_zero (k : D) : amt 0 = (dstF k).view.dmaCredit := rfl

/-- The stage split at the elements a copy reads. -/
theorem stage_split (S : Finset SIx) (q : PosShare TreeShare) (f : SC F) :
    (stagePt c Finset.univ q f : sProp 𝕄) ⊢ iprop(stagePt c S q f ∗ stagePt c (Finset.univ \ S) q f) := by
  unfold stagePt; exact (pointsTo_split_subset (ℓ := (c : Thread nD τ).loc cc0_scratch1) (fun i _ => Finset.mem_univ i)).1
theorem stage_join (S : Finset SIx) (q : PosShare TreeShare) (f : SC F) :
    iprop(stagePt c S q f ∗ stagePt c (Finset.univ \ S) q f) ⊢ (stagePt c Finset.univ q f : sProp 𝕄) := by
  unfold stagePt; exact (pointsTo_split_subset (ℓ := (c : Thread nD τ).loc cc0_scratch1) (fun i _ => Finset.mem_univ i)).2

/-- A copy of the whole stage. -/
theorem send_full (n : ℕ) (h0 : 0 < n) (h : n < 32) (hk : kup c ⟨n, h⟩ = 0) {α : Type} {k : PUnit → P F α} {Q : α → sProp 𝕄} {R : sProp 𝕄}
    {hsc} {hsrc} {hdst} {hsem}
    (next : iprop((recs stg K ∗ stB stg c (n + 1)) ∗ R) ⊢ run c (k ⟨⟩) Q) :
    iprop((recs stg K ∗ stB stg c n) ∗ R) ⊢ run c
      (.op (.enqueueDma stageM (.remote (up ⟨n, h⟩ c : Thread nD τ) (dstF ⟨n, h⟩) (.dma (sdq ⟨n, h⟩)) hsc) (.dma (rvq ⟨n, h⟩)) hsrc hdst hsem) k) Q := by
  unfold stB
  iintro ⟨⟨#Hr, Ho, Hs⟩, HR⟩
  ihave Hs' := (sweep_step _ _ n h0 h) $$ Hs
  icases Hs' with ⟨⟨⟨%fd, Hd⟩, Hst, Ht1, Ht2⟩, Hn⟩
  unfold Ow
  icases Ho with ⟨%W, Ho⟩
  ihave Hst' := (stage_split c (sset (kup c ⟨n, h⟩)) (lf ⟨n, h⟩) (stg c)) $$ Hst
  icases Hst' with ⟨Hst, Hrest⟩
  unfold run
  iapply (Rounds.wp_send_pointsTo 𝒱₀ ER (Rd stg) (c : Thread nD τ) none (κ₁ := K (c, some (false, ⟨n, h⟩))) (κ₂ := K (up ⟨n, h⟩ c, some (true, ⟨n, h⟩)))
      (r₁ := 0) (r₂ := 0) (d₁ := 0) (d₂ := 0) (fd := fd) (fs := stg c) (q := lf ⟨n, h⟩)
      (by rw [duties_sd stg c _ h0]; exact Finset.mem_singleton_self _) (by rw [duties_rv stg _ _ h0]; exact Finset.mem_singleton_self _)
      () () (amt (kup c ⟨n, h⟩)) (by rw [hk]; rfl) (amount_sd stg c _ _) (by rw [amount_rv, dn_up])
      (Orv c (n + 1)) (Orv_succ c n h) (W := W)
      (by rw [payload_sd]; unfold sdPay; rw [hk]; exact Entails.refl _)
      (by
        rw [payload_rv]; unfold rvPay; rw [landSet_up_neg, hk, dn_up]
        exact Entails.of_eq (pointsTo_congr fun i hi => write_dstF ⟨n, h⟩ fd (stg c) i hi)))
    $$ [Hst Hd Ho Ht1 Ht2]
  · isplitr; · iapply (recs_inv stg K (c, some (false, ⟨n, h⟩))); iexact Hr
    isplitr; · iapply (recs_inv stg K (up ⟨n, h⟩ c, some (true, ⟨n, h⟩))); iexact Hr
    isplitl [Hst]; · unfold stagePt; rw [hk]; iexact Hst
    isplitl [Hd]; · unfold commPt; rw [landSet_up_neg, hk]; iexact Hd
    isplitl [Ho]; · iexact Ho
    isplitl [Ht1]; · iexact Ht1
    isplitr; · iapply (recs_reached stg K (c, some (false, ⟨n, h⟩))); iexact Hr
    isplitl [Ht2]; · iexact Ht2
    iapply (recs_reached stg K (up ⟨n, h⟩ c, some (true, ⟨n, h⟩))); iexact Hr
  iintro ⟨Hc, Ho⟩
  iapply next
  isplitr [HR]
  · isplitr; · iexact Hr
    unfold stB Ow
    isplitl [Ho]; · iexists W; iexact Ho
    iapply Hn
    isplitl [Hrest] <;> iassumption
  iexact HR

/-- A copy of block `b`. -/
theorem send_half (b : Fin 2) (n : ℕ) (h0 : 0 < n) (h : n < 32) (hk : kup c ⟨n, h⟩ = b.succ) {α : Type} {k : PUnit → P F α} {Q : α → sProp 𝕄} {R : sProp 𝕄}
    {hsc} {hsrc} {hdst} {hsem}
    (next : iprop((recs stg K ∗ stB stg c (n + 1)) ∗ R) ⊢ run c (k ⟨⟩) Q) :
    iprop((recs stg K ∗ stB stg c n) ∗ R) ⊢ run c
      (.op (.enqueueDma (srcH b) (.remote (up ⟨n, h⟩ c : Thread nD τ) (dstH ⟨n, h⟩ b) (.dma (sdq ⟨n, h⟩)) hsc) (.dma (rvq ⟨n, h⟩)) hsrc hdst hsem) k) Q := by
  unfold stB
  iintro ⟨⟨#Hr, Ho, Hs⟩, HR⟩
  ihave Hs' := (sweep_step _ _ n h0 h) $$ Hs
  icases Hs' with ⟨⟨⟨%fd, Hd⟩, Hst, Ht1, Ht2⟩, Hn⟩
  unfold Ow
  icases Ho with ⟨%W, Ho⟩
  ihave Hst' := (stage_split c (sset (kup c ⟨n, h⟩)) (lf ⟨n, h⟩) (stg c)) $$ Hst
  icases Hst' with ⟨Hst, Hrest⟩
  unfold run
  iapply (Rounds.wp_send_pointsTo 𝒱₀ ER (Rd stg) (c : Thread nD τ) none (κ₁ := K (c, some (false, ⟨n, h⟩))) (κ₂ := K (up ⟨n, h⟩ c, some (true, ⟨n, h⟩)))
      (r₁ := 0) (r₂ := 0) (d₁ := 0) (d₂ := 0) (fd := fd) (fs := stg c) (q := lf ⟨n, h⟩)
      (by rw [duties_sd stg c _ h0]; exact Finset.mem_singleton_self _) (by rw [duties_rv stg _ _ h0]; exact Finset.mem_singleton_self _)
      () () (amt (kup c ⟨n, h⟩)) (by rw [hk, amt_succ b ⟨n, h⟩]) (amount_sd stg c _ _) (by rw [amount_rv, dn_up])
      (Orv c (n + 1)) (Orv_succ c n h) (W := W)
      (by rw [payload_sd]; unfold sdPay; rw [hk, sset_succ]; exact Entails.refl _)
      (by
        rw [payload_rv]; unfold rvPay; rw [landSet_up_neg, hk, dn_up, dset_succ]
        exact Entails.of_eq (pointsTo_congr fun i hi => write_dstH ⟨n, h⟩ b fd (stg c) i hi)))
    $$ [Hst Hd Ho Ht1 Ht2]
  · isplitr; · iapply (recs_inv stg K (c, some (false, ⟨n, h⟩))); iexact Hr
    isplitr; · iapply (recs_inv stg K (up ⟨n, h⟩ c, some (true, ⟨n, h⟩))); iexact Hr
    isplitl [Hst]; · unfold stagePt; rw [hk, sset_succ]; iexact Hst
    isplitl [Hd]; · unfold commPt; rw [landSet_up_neg, hk, dset_succ]; iexact Hd
    isplitl [Ho]; · iexact Ho
    isplitl [Ht1]; · iexact Ht1
    isplitr; · iapply (recs_reached stg K (c, some (false, ⟨n, h⟩))); iexact Hr
    isplitl [Ht2]; · iexact Ht2
    iapply (recs_reached stg K (up ⟨n, h⟩ c, some (true, ⟨n, h⟩))); iexact Hr
  iintro ⟨Hc, Ho⟩
  iapply next
  isplitr [HR]
  · isplitr; · iexact Hr
    unfold stB Ow
    isplitl [Ho]; · iexists W; iexact Ho
    iapply Hn
    isplitl [Hrest] <;> iassumption
  iexact HR

/-- An arrival: any wait on the arrival cell for what the copy counts. -/
theorem recv_any (n : ℕ) (h0 : 0 < n) (h : n < 32) {s s' : Shape} {e e' : EltTy} {sp sp' : Space} {src : Memref sig .tc sp' s' e'} {dst : Memref sig .tc sp s e}
    {hsrc : src.view.WordExact} {hdst : dst.view.WordExact} {q : DmaSem sig} (hq : q = rvq ⟨n, h⟩)
    (hk : dst.view.dmaCredit = amt (kup (dn ⟨n, h⟩ c) ⟨n, h⟩)) {α : Type} {k : PUnit → P F α} {Q : α → sProp 𝕄} {R : sProp 𝕄}
    (next : iprop((recs stg K ∗ stR stg c (n + 1)) ∗ R) ⊢ run c (k ⟨⟩) Q) :
    iprop((recs stg K ∗ stR stg c n) ∗ R) ⊢ run c (.op (.waitDma2 q src dst hsrc hdst) k) Q := by
  subst hq
  unfold stR
  iintro ⟨⟨#Hr, Ho, Hs⟩, HR⟩
  ihave Hs' := (sweep_step _ _ n h0 h) $$ Hs
  icases Hs' with ⟨⟨Hc, Hat⟩, Hn⟩
  unfold Ow
  icases Ho with ⟨%W, Ho⟩
  unfold run
  iapply (Rounds.wp_wait_rest_token 𝒱₀ ER (Rd stg) (c : Thread nD τ) none (κ := K (c, some (true, ⟨n, h⟩)))
      (wpE_waitDma2_eq 𝒱₀ (c : Thread nD τ) none Set.univ) (Set.mem_univ _) () (O := 0) (W := W) (R := 0) (m := 0) (T := ∅)
      (by rw [Nat.zero_add, expect_rv stg c _ h0, hk])) $$ [Hc Ho Hat]
  · isplitr; · iapply (recs_inv stg K (c, some (true, ⟨n, h⟩))); iexact Hr
    isplitl [Hc]; · rw [hk]; iexact Hc
    isplitl [Ho]; · iexact Ho
    isplitr; · rw [MayWait_zero]; iempintro
    iexact Hat
  iintro ⟨Ho, Hat, -, Hpay⟩
  ihave Hpay := (Entails.of_eq (rest_rv stg c _ h0)) $$ Hpay
  iapply next
  isplitr [HR]
  · isplitr; · iexact Hr
    unfold stR Ow
    isplitl [Ho]; · iexists _; iexact Ho
    iapply Hn
    isplitl [Hpay]; · unfold rvPay; iexact Hpay
    iexact Hat
  iexact HR

/-- A departure. -/
theorem leave_any (n : ℕ) (h0 : 0 < n) (h : n < 32) {s s' : Shape} {e e' : EltTy} {sp sp' : Space} {src : Memref sig .tc sp' s' e'} {dst : Memref sig .tc sp s e}
    {hsrc : src.view.WordExact} {hdst : dst.view.WordExact} {q : DmaSem sig} (hq : q = sdq ⟨n, h⟩)
    (hk : dst.view.dmaCredit = amt (kup c ⟨n, h⟩)) {α : Type} {k : PUnit → P F α} {Q : α → sProp 𝕄} {R : sProp 𝕄}
    (next : iprop((recs stg K ∗ stE stg c (n + 1)) ∗ R) ⊢ run c (k ⟨⟩) Q) :
    iprop((recs stg K ∗ stE stg c n) ∗ R) ⊢ run c (.op (.waitDma2 q src dst hsrc hdst) k) Q := by
  subst hq
  unfold stE
  iintro ⟨⟨#Hr, Ho, Hs⟩, HR⟩
  ihave Hs' := (sweep_step _ _ n h0 h) $$ Hs
  icases Hs' with ⟨⟨⟨Hrest, Hc⟩, Hat⟩, Hn⟩
  unfold Ow
  icases Ho with ⟨%W, Ho⟩
  unfold run
  iapply (Rounds.wp_wait_rest_token 𝒱₀ ER (Rd stg) (c : Thread nD τ) none (κ := K (c, some (false, ⟨n, h⟩)))
      (wpE_waitDma2_eq 𝒱₀ (c : Thread nD τ) none Set.univ) (Set.mem_univ _) () (O := 0) (W := W) (R := 0) (m := 0) (T := ∅)
      (by rw [Nat.zero_add, expect_sd stg c _ h0, hk])) $$ [Hc Ho Hat]
  · isplitr; · iapply (recs_inv stg K (c, some (false, ⟨n, h⟩))); iexact Hr
    isplitl [Hc]; · rw [hk]; iexact Hc
    isplitl [Ho]; · iexact Ho
    isplitr; · rw [MayWait_zero]; iempintro
    iexact Hat
  iintro ⟨Ho, Hat, -, Hpay⟩
  ihave Hpay := (Entails.of_eq (rest_sd stg c _ h0)) $$ Hpay
  iapply next
  isplitr [HR]
  · isplitr; · iexact Hr
    unfold stE Ow
    isplitl [Ho]; · iexists _; iexact Ho
    iapply Hn
    isplitr [Hat]
    · iapply (stage_join c (sset (kup c ⟨n, h⟩)) (lf ⟨n, h⟩) (stg c))
      isplitl [Hpay]; · unfold sdPay; iexact Hpay
      iexact Hrest
    iexact Hat
  iexact HR

end Cert.KernelIdeal.Hand

end
-- ==== Proof.Ifs.lean ====
/-
  The steps of the exchange as the program writes them: each copy, arrival and departure is one of three
  alternatives, exactly one of which applies.
-/
module

public import proofs.«01_k».proof.Proof.Steps

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (stg : Dev nD → SC F) (K : Dev nD × Kx → ℕ) (c : Dev nD)

/-- One alternative: it applies when the distance's kind is `j`. -/
theorem tri_if {S : ℕ → sProp 𝕄} {κ : ℕ → Fin 3} {n : ℕ} {j : Fin 3} {cond : BitVec 1} (hc : Iff (cond = 1#1) (κ n = j)) {R : sProp 𝕄}
    {α : Type} {p : cond = 1#1 → P F α} {jp : P F α} {Q : α → sProp 𝕄}
    (hit : κ n = j → (iprop((recs stg K ∗ S (n + 1)) ∗ R) ⊢ run c jp Q) → ∀ hh, iprop((recs stg K ∗ S n) ∗ R) ⊢ run c (p hh) Q)
    (next : iprop((recs stg K ∗ tri S κ n (j.val + 1)) ∗ R) ⊢ run c jp Q) :
    iprop((recs stg K ∗ tri S κ n j.val) ∗ R) ⊢ run c (dite (cond = 1#1) p (fun _ => jp)) Q := by
  unfold tri at next ⊢
  by_cases h : cond = 1#1
  · have hj := hc.mp h
    rw [dif_pos h, if_neg (by rw [hj]; omega)]
    rw [if_pos (by rw [hj]; omega)] at next
    exact hit hj next h
  · have hj : κ n ≠ j := fun e => h (hc.mpr e)
    rw [dif_neg h]
    have e : ((κ n).val < j.val) = ((κ n).val < j.val + 1) := by
      have : (κ n).val ≠ j.val := fun e => hj (Fin.ext e)
      exact propext ⟨fun h => by omega, fun h => by omega⟩
    rw [show (if (κ n).val < j.val then n + 1 else n) = if (κ n).val < j.val + 1 then n + 1 else n by simp only [e]]
    exact next

theorem tri_zero (S : ℕ → sProp 𝕄) (κ : ℕ → Fin 3) (n : ℕ) : tri S κ n 0 = S n := by unfold tri; rw [if_neg (Nat.not_lt_zero _)]
theorem tri_three (S : ℕ → sProp 𝕄) (κ κ' : ℕ → Fin 3) (n : ℕ) : tri S κ n 3 = tri S κ' (n + 1) 0 := by
  rw [tri_zero]; unfold tri; rw [if_pos (κ n).isLt]

/-- The kinds along a device's copies, and along its arrivals. -/
def ku (n : ℕ) : Fin 3 := kup c (fk n)
def kd (n : ℕ) : Fin 3 := kup (dn (fk n) c) (fk n)

theorem fk_lt (n : ℕ) (h : n < 32) : fk n = ⟨n, h⟩ := Fin.ext (Nat.mod_eq_of_lt h)
theorem sendW_ku (n : ℕ) (h : n < 32) (j : Fin 3) : Iff (sendW c n j = 1#1) (ku c n = j) := by
  unfold ku kup; rw [fk_lt n h]; exact sendW_iff c ⟨n, h⟩ j
theorem recvW_kd (n : ℕ) (h : n < 32) (j : Fin 3) : Iff (recvW c n j = 1#1) (kd c n = j) := by
  unfold kd; rw [fk_lt n h, kup_dn]; exact recvW_iff c ⟨n, h⟩ j

/-- Before the `j`-th alternative of the copy, the arrival, the departure of distance `n`. -/
abbrev tB (n j : ℕ) : sProp 𝕄 := tri (stB stg c) (ku c) n j
abbrev tR (n j : ℕ) : sProp 𝕄 := tri (stR stg c) (kd c) n j
abbrev tE (n j : ℕ) : sProp 𝕄 := tri (stE stg c) (ku c) n j

/-- The device's own number. -/
theorem dev_step {S : sProp 𝕄} {α : Type} {k : Dev nD → P F α} {Q : α → sProp 𝕄} (h : S ⊢ run c (k c) Q) :
    S ⊢ run c (Prog.lift .deviceId >>= k) Q := by
  refine BIBase.Entails.trans h ?_
  show _ ⊢ run c (.op .deviceId k) Q
  unfold run; rw [wp_deviceId]

/-- The signal of distance `n`, to the device the program's word names. -/
theorem sig_if (n : ℕ) (h0 : 0 < n) (h : n < 32) {p : Dev nD} {sem : Sem sig} {w : BitVec 32} {α : Type} {k : PUnit → P F α} {Q : α → sProp 𝕄} {R : sProp 𝕄}
    (hp : p.val = upN c n) (hs : sem = barS) (hw : w = 1#32)
    (next : iprop((recs stg K ∗ stA c (n + 1)) ∗ R) ⊢ run c (k ⟨⟩) Q) :
    iprop((recs stg K ∗ stA c n) ∗ R) ⊢ run c (semSignalWord p sem w >>= k) Q :=
  sig_step stg K c n h0 h (Fin.ext (hp.trans (upN_eq c ⟨n, h⟩))) hs hw next

/-- The copy of distance `n` of a whole stage, and of one block of it. -/
theorem send_hit0 (n : ℕ) (h0 : 0 < n) (h : n < 32) (hk : ku c n = 0) {α : Type} {jp : P F α} {Q : α → sProp 𝕄} {R : sProp 𝕄}
    {p : Dev nD} {src dst : Memref sig .tc .vmem S2x2x2x4x64x64 .i8} {sS rS : DmaSem sig} {hsc : dst.view.ref.isScScratch = false}
    {hsrc : src.view.WordExact} {hdst : dst.view.WordExact}
    {hsem : DmaTarget.Typed .vmem (.dma rS) (.remote (Dev.tc p : Thread nD τ) dst (.dma sS) hsc)}
    (hp : p.val = upN c n) (es : src = stageM) (ed : dst = dstF ⟨n, h⟩) (e1 : sS = sdq ⟨n, h⟩) (e2 : rS = rvq ⟨n, h⟩)
    (next : iprop((recs stg K ∗ stB stg c (n + 1)) ∗ R) ⊢ run c jp Q) :
    iprop((recs stg K ∗ stB stg c n) ∗ R) ⊢ run c
      (Prog.lift (.enqueueDma src (.remote (Dev.tc p) dst (.dma sS) hsc) (.dma rS) hsrc hdst hsem) >>= fun _ => jp) Q := by
  subst es ed e1 e2
  have e : p = up ⟨n, h⟩ c := Fin.ext (hp.trans (upN_eq c ⟨n, h⟩))
  subst e
  exact send_full stg K c n h0 h (by unfold ku at hk; rw [← fk_lt n h]; exact hk) (k := fun _ => jp) next

theorem send_hitH (b : Fin 2) (n : ℕ) (h0 : 0 < n) (h : n < 32) (hk : ku c n = b.succ) {α : Type} {jp : P F α} {Q : α → sProp 𝕄} {R : sProp 𝕄}
    {p : Dev nD} {src dst : Memref sig .tc .vmem S2x2x4x64x64 .i8} {sS rS : DmaSem sig} {hsc : dst.view.ref.isScScratch = false}
    {hsrc : src.view.WordExact} {hdst : dst.view.WordExact}
    {hsem : DmaTarget.Typed .vmem (.dma rS) (.remote (Dev.tc p : Thread nD τ) dst (.dma sS) hsc)}
    (hp : p.val = upN c n) (es : src = srcH b) (ed : dst = dstH ⟨n, h⟩ b) (e1 : sS = sdq ⟨n, h⟩) (e2 : rS = rvq ⟨n, h⟩)
    (next : iprop((recs stg K ∗ stB stg c (n + 1)) ∗ R) ⊢ run c jp Q) :
    iprop((recs stg K ∗ stB stg c n) ∗ R) ⊢ run c
      (Prog.lift (.enqueueDma src (.remote (Dev.tc p) dst (.dma sS) hsc) (.dma rS) hsrc hdst hsem) >>= fun _ => jp) Q := by
  subst es ed e1 e2
  have e : p = up ⟨n, h⟩ c := Fin.ext (hp.trans (upN_eq c ⟨n, h⟩))
  subst e
  exact send_half stg K c b n h0 h (by unfold ku at hk; rw [← fk_lt n h]; exact hk) (k := fun _ => jp) next

theorem send_if0 (n : ℕ) (h0 : 0 < n) (h : n < 32) {cond : BitVec 1} (hc : cond = sendW c n 0) {R : sProp 𝕄} {α : Type} {jp : P F α} {Q : α → sProp 𝕄}
    {p : cond = 1#1 → P F α}
    (hit : ku c n = 0 → (iprop((recs stg K ∗ stB stg c (n + 1)) ∗ R) ⊢ run c jp Q) → ∀ hh, iprop((recs stg K ∗ stB stg c n) ∗ R) ⊢ run c (p hh) Q)
    (next : iprop((recs stg K ∗ tB stg c n 1) ∗ R) ⊢ run c jp Q) :
    iprop((recs stg K ∗ tB stg c n 0) ∗ R) ⊢ run c (dite (cond = 1#1) p (fun _ => jp)) Q :=
  tri_if stg K c (j := 0) (hc ▸ sendW_ku c n h 0) hit next

theorem send_if1 (n : ℕ) (h0 : 0 < n) (h : n < 32) {cond : BitVec 1} (hc : cond = sendW c n 1) {R : sProp 𝕄} {α : Type} {jp : P F α} {Q : α → sProp 𝕄}
    {p : cond = 1#1 → P F α}
    (hit : ku c n = 1 → (iprop((recs stg K ∗ stB stg c (n + 1)) ∗ R) ⊢ run c jp Q) → ∀ hh, iprop((recs stg K ∗ stB stg c n) ∗ R) ⊢ run c (p hh) Q)
    (next : iprop((recs stg K ∗ tB stg c n 2) ∗ R) ⊢ run c jp Q) :
    iprop((recs stg K ∗ tB stg c n 1) ∗ R) ⊢ run c (dite (cond = 1#1) p (fun _ => jp)) Q :=
  tri_if stg K c (j := 1) (hc ▸ sendW_ku c n h 1) hit next

theorem send_if2 (n : ℕ) (h0 : 0 < n) (h : n < 32) {cond : BitVec 1} (hc : cond = sendW c n 2) {R : sProp 𝕄} {α : Type} {jp : P F α} {Q : α → sProp 𝕄}
    {p : cond = 1#1 → P F α}
    (hit : ku c n = 2 → (iprop((recs stg K ∗ stB stg c (n + 1)) ∗ R) ⊢ run c jp Q) → ∀ hh, iprop((recs stg K ∗ stB stg c n) ∗ R) ⊢ run c (p hh) Q)
    (next : iprop((recs stg K ∗ tB stg c (n + 1) 0) ∗ R) ⊢ run c jp Q) :
    iprop((recs stg K ∗ tB stg c n 2) ∗ R) ⊢ run c (dite (cond = 1#1) p (fun _ => jp)) Q :=
  tri_if stg K c (j := 2) (hc ▸ sendW_ku c n h 2) hit (by
    show iprop((recs stg K ∗ tri (stB stg c) (ku c) n 3) ∗ R) ⊢ _
    rw [tri_three _ _ (ku c)]; exact next)

theorem amt_eq {j : Fin 3} {k : ℕ} {n : ℕ} (e : k = amt j) {j' : Fin 3} (h : j' = j) : k = amt j' := by rw [h]; exact e

/-- The wait for the arrival of distance `n`. -/
theorem recv_hit (j : Fin 3) (n : ℕ) (h0 : 0 < n) (h : n < 32) (hk : kd c n = j) {R : sProp 𝕄} {α : Type} {jp : P F α} {Q : α → sProp 𝕄}
    {s s' : Shape} {e e' : EltTy} {sp sp' : Space} {src : Memref sig .tc sp' s' e'} {dst : Memref sig .tc sp s e} {q : DmaSem sig} {hsrc} {hdst}
    (hq : q = rvq ⟨n, h⟩) (ha : dst.view.dmaCredit = amt j)
    (next : iprop((recs stg K ∗ stR stg c (n + 1)) ∗ R) ⊢ run c jp Q) :
    iprop((recs stg K ∗ stR stg c n) ∗ R) ⊢ run c (Prog.lift (.waitDma2 q src dst hsrc hdst) >>= fun _ => jp) Q := by
  show _ ⊢ run c (.op (.waitDma2 q src dst hsrc hdst) (fun _ => jp)) Q
  exact recv_any stg K c n h0 h hq (by unfold kd at hk; rw [← fk_lt n h, hk]; exact ha) next

theorem recv_if0 (n : ℕ) (h0 : 0 < n) (h : n < 32) {cond : BitVec 1} (hc : cond = recvW c n 0) {R : sProp 𝕄} {α : Type} {jp : P F α} {Q : α → sProp 𝕄}
    {p : cond = 1#1 → P F α}
    (hit : kd c n = 0 → (iprop((recs stg K ∗ stR stg c (n + 1)) ∗ R) ⊢ run c jp Q) → ∀ hh, iprop((recs stg K ∗ stR stg c n) ∗ R) ⊢ run c (p hh) Q)
    (next : iprop((recs stg K ∗ tR stg c n 1) ∗ R) ⊢ run c jp Q) :
    iprop((recs stg K ∗ tR stg c n 0) ∗ R) ⊢ run c (dite (cond = 1#1) p (fun _ => jp)) Q :=
  tri_if stg K c (j := 0) (hc ▸ recvW_kd c n h 0) hit next

theorem recv_if1 (n : ℕ) (h0 : 0 < n) (h : n < 32) {cond : BitVec 1} (hc : cond = recvW c n 1) {R : sProp 𝕄} {α : Type} {jp : P F α} {Q : α → sProp 𝕄}
    {p : cond = 1#1 → P F α}
    (hit : kd c n = 1 → (iprop((recs stg K ∗ stR stg c (n + 1)) ∗ R) ⊢ run c jp Q) → ∀ hh, iprop((recs stg K ∗ stR stg c n) ∗ R) ⊢ run c (p hh) Q)
    (next : iprop((recs stg K ∗ tR stg c n 2) ∗ R) ⊢ run c jp Q) :
    iprop((recs stg K ∗ tR stg c n 1) ∗ R) ⊢ run c (dite (cond = 1#1) p (fun _ => jp)) Q :=
  tri_if stg K c (j := 1) (hc ▸ recvW_kd c n h 1) hit next

theorem recv_if2 (n : ℕ) (h0 : 0 < n) (h : n < 32) {cond : BitVec 1} (hc : cond = recvW c n 2) {R : sProp 𝕄} {α : Type} {jp : P F α} {Q : α → sProp 𝕄}
    {p : cond = 1#1 → P F α}
    (hit : kd c n = 2 → (iprop((recs stg K ∗ stR stg c (n + 1)) ∗ R) ⊢ run c jp Q) → ∀ hh, iprop((recs stg K ∗ stR stg c n) ∗ R) ⊢ run c (p hh) Q)
    (next : iprop((recs stg K ∗ tR stg c (n + 1) 0) ∗ R) ⊢ run c jp Q) :
    iprop((recs stg K ∗ tR stg c n 2) ∗ R) ⊢ run c (dite (cond = 1#1) p (fun _ => jp)) Q :=
  tri_if stg K c (j := 2) (hc ▸ recvW_kd c n h 2) hit (by
    show iprop((recs stg K ∗ tri (stR stg c) (kd c) n 3) ∗ R) ⊢ _
    rw [tri_three _ _ (kd c)]; exact next)

/-- The wait for the departure of distance `n`. -/
theorem leave_hit (j : Fin 3) (n : ℕ) (h0 : 0 < n) (h : n < 32) (hk : ku c n = j) {R : sProp 𝕄} {α : Type} {jp : P F α} {Q : α → sProp 𝕄}
    {s s' : Shape} {e e' : EltTy} {sp sp' : Space} {src : Memref sig .tc sp' s' e'} {dst : Memref sig .tc sp s e} {q : DmaSem sig} {hsrc} {hdst}
    (hq : q = sdq ⟨n, h⟩) (ha : dst.view.dmaCredit = amt j)
    (next : iprop((recs stg K ∗ stE stg c (n + 1)) ∗ R) ⊢ run c jp Q) :
    iprop((recs stg K ∗ stE stg c n) ∗ R) ⊢ run c (Prog.lift (.waitDma2 q src dst hsrc hdst) >>= fun _ => jp) Q := by
  show _ ⊢ run c (.op (.waitDma2 q src dst hsrc hdst) (fun _ => jp)) Q
  exact leave_any stg K c n h0 h hq (by unfold ku at hk; rw [← fk_lt n h, hk]; exact ha) next

theorem leave_if0 (n : ℕ) (h0 : 0 < n) (h : n < 32) {cond : BitVec 1} (hc : cond = sendW c n 0) {R : sProp 𝕄} {α : Type} {jp : P F α} {Q : α → sProp 𝕄}
    {p : cond = 1#1 → P F α}
    (hit : ku c n = 0 → (iprop((recs stg K ∗ stE stg c (n + 1)) ∗ R) ⊢ run c jp Q) → ∀ hh, iprop((recs stg K ∗ stE stg c n) ∗ R) ⊢ run c (p hh) Q)
    (next : iprop((recs stg K ∗ tE stg c n 1) ∗ R) ⊢ run c jp Q) :
    iprop((recs stg K ∗ tE stg c n 0) ∗ R) ⊢ run c (dite (cond = 1#1) p (fun _ => jp)) Q :=
  tri_if stg K c (j := 0) (hc ▸ sendW_ku c n h 0) hit next

theorem leave_if1 (n : ℕ) (h0 : 0 < n) (h : n < 32) {cond : BitVec 1} (hc : cond = sendW c n 1) {R : sProp 𝕄} {α : Type} {jp : P F α} {Q : α → sProp 𝕄}
    {p : cond = 1#1 → P F α}
    (hit : ku c n = 1 → (iprop((recs stg K ∗ stE stg c (n + 1)) ∗ R) ⊢ run c jp Q) → ∀ hh, iprop((recs stg K ∗ stE stg c n) ∗ R) ⊢ run c (p hh) Q)
    (next : iprop((recs stg K ∗ tE stg c n 2) ∗ R) ⊢ run c jp Q) :
    iprop((recs stg K ∗ tE stg c n 1) ∗ R) ⊢ run c (dite (cond = 1#1) p (fun _ => jp)) Q :=
  tri_if stg K c (j := 1) (hc ▸ sendW_ku c n h 1) hit next

theorem leave_if2 (n : ℕ) (h0 : 0 < n) (h : n < 32) {cond : BitVec 1} (hc : cond = sendW c n 2) {R : sProp 𝕄} {α : Type} {jp : P F α} {Q : α → sProp 𝕄}
    {p : cond = 1#1 → P F α}
    (hit : ku c n = 2 → (iprop((recs stg K ∗ stE stg c (n + 1)) ∗ R) ⊢ run c jp Q) → ∀ hh, iprop((recs stg K ∗ stE stg c n) ∗ R) ⊢ run c (p hh) Q)
    (next : iprop((recs stg K ∗ tE stg c (n + 1) 0) ∗ R) ⊢ run c jp Q) :
    iprop((recs stg K ∗ tE stg c n 2) ∗ R) ⊢ run c (dite (cond = 1#1) p (fun _ => jp)) Q :=
  tri_if stg K c (j := 2) (hc ▸ sendW_ku c n h 2) hit (by
    show iprop((recs stg K ∗ tri (stE stg c) (ku c) n 3) ∗ R) ⊢ _
    rw [tri_three _ _ (ku c)]; exact next)

end Cert.KernelIdeal.Hand

end
-- ==== Proof.Moves.lean ====
/-
  The steps between the exchange's phases, and the loads and stores.
-/
module

public import proofs.«01_k».proof.Proof.Ifs

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (stg : Dev nD → SC F) (K : Dev nD × Kx → ℕ) (c : Dev nD)

/-- A whole staging buffer with its contents. -/
abbrev wpt (b : Ref sig .tc) (X : b.ty.Contents (Elt F)) : sProp 𝕄 := ((c : Thread nD τ).loc b) ↦[Finset.univ]{fullShare} X

/-! ## Loads and stores -/

theorem ld {S : sProp 𝕄} {s : Shape} {e : EltTy} {m : Memref sig .tc .vmem s e} {r : LoadRect s} {hl : m.view.LoadsAt r} {α : Type}
    {k : (r.shape.Idx → Elt F e) → P F α} {Q : α → sProp 𝕄} {Sx : Finset (Idx (m.view.loc (c : Thread nD τ)))} {q : PosShare TreeShare}
    {f : Buf (Elt F) (m.view.loc (c : Thread nD τ))} (hS : m.view.setOn r.set ⊆ Sx)
    (h : S ⊢ iprop((m.view.loc (c : Thread nD τ) ↦[Sx]{q} f) ∗ ((m.view.loc (c : Thread nD τ) ↦[Sx]{q} f) -∗ S)))
    (next : S ⊢ run c (k (m.view.readAt (Elt F) r f)) Q) :
    S ⊢ run c (Prog.lift (.load m r hl) >>= k) Q := by
  have e : (Prog.lift (TpuEff.load m r hl) >>= k : P F α) = Prog.op (TpuEff.load m r hl) k := rfl
  rw [e]
  refine BIBase.Entails.trans h ?_
  unfold run at next ⊢
  iintro ⟨H, Hb⟩
  iapply (wp_load 𝒱₀ (c : Thread nD τ) none Set.univ (m := m) hS) $$ H
  iintro H
  ihave HS := Hb $$ H
  iapply next $$ HS

theorem st {S S' : sProp 𝕄} {s : Shape} {e : EltTy} {m : Memref sig .tc .vmem s e} {r : Rect s} {w : r.shape.Idx → Elt F e}
    {hx : (m.access r).Stores Finset.univ} {hm : Finset.univ = Finset.univ ∨ ∀ a, r.stride a = 1} {α : Type} {k : PUnit → P F α} {Q : α → sProp 𝕄}
    {Sx : Finset (Idx (m.view.loc (c : Thread nD τ)))} (f : Buf (Elt F) (m.view.loc (c : Thread nD τ))) (L : List (View.Piece (Elt F) s e))
    (hS : (m.access r).set ⊆ Sx)
    (h : S ⊢ iprop((m.view.loc (c : Thread nD τ) ↦[Sx]{fullShare} m.view.writes (Elt F) f L)
      ∗ ((m.view.loc (c : Thread nD τ) ↦[Sx]{fullShare} m.view.writes (Elt F) f (⟨r, w⟩ :: L)) -∗ S')))
    (next : S' ⊢ run c (k ⟨⟩) Q) :
    S ⊢ run c (Prog.lift (.store m r w Finset.univ hx hm) >>= k) Q := by
  refine BIBase.Entails.trans h ?_
  show _ ⊢ run c (.op (.store m r w Finset.univ hx hm) k) Q
  unfold run at next ⊢
  iintro ⟨H, Hb⟩
  iapply (wp_store_writes 𝒱₀ (c : Thread nD τ) none Set.univ (m := m) (f := f) (L := L) hS) $$ H
  iintro H
  ihave HS := Hb $$ H
  iapply next $$ HS

/-! ## Picking one holding out of nine -/

section Pick
/-- The state of the body: the exchange's, the five inputs, the stage, the landing buffer, the output, the rest. -/
abbrev Z (G a0 a1 a2 a3 a4 s m o R : sProp 𝕄) : sProp 𝕄 := iprop(G ∗ a0 ∗ a1 ∗ a2 ∗ a3 ∗ a4 ∗ s ∗ m ∗ o ∗ R)
theorem pk0 (G a0 a1 a2 a3 a4 s m o R : sProp 𝕄) : Z G a0 a1 a2 a3 a4 s m o R ⊢ iprop(a0 ∗ (a0 -∗ Z G a0 a1 a2 a3 a4 s m o R)) := by
  iintro ⟨HG, H0, H1, H2, H3, H4, Hs, Hm, Ho, HR⟩
  isplitl [H0]; · iexact H0
  iintro H0
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
theorem pk1 (G a0 a1 a2 a3 a4 s m o R : sProp 𝕄) : Z G a0 a1 a2 a3 a4 s m o R ⊢ iprop(a1 ∗ (a1 -∗ Z G a0 a1 a2 a3 a4 s m o R)) := by
  iintro ⟨HG, H0, H1, H2, H3, H4, Hs, Hm, Ho, HR⟩
  isplitl [H1]; · iexact H1
  iintro H1
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
theorem pk2 (G a0 a1 a2 a3 a4 s m o R : sProp 𝕄) : Z G a0 a1 a2 a3 a4 s m o R ⊢ iprop(a2 ∗ (a2 -∗ Z G a0 a1 a2 a3 a4 s m o R)) := by
  iintro ⟨HG, H0, H1, H2, H3, H4, Hs, Hm, Ho, HR⟩
  isplitl [H2]; · iexact H2
  iintro H2
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
theorem pk3 (G a0 a1 a2 a3 a4 s m o R : sProp 𝕄) : Z G a0 a1 a2 a3 a4 s m o R ⊢ iprop(a3 ∗ (a3 -∗ Z G a0 a1 a2 a3 a4 s m o R)) := by
  iintro ⟨HG, H0, H1, H2, H3, H4, Hs, Hm, Ho, HR⟩
  isplitl [H3]; · iexact H3
  iintro H3
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
theorem pk4 (G a0 a1 a2 a3 a4 s m o R : sProp 𝕄) : Z G a0 a1 a2 a3 a4 s m o R ⊢ iprop(a4 ∗ (a4 -∗ Z G a0 a1 a2 a3 a4 s m o R)) := by
  iintro ⟨HG, H0, H1, H2, H3, H4, Hs, Hm, Ho, HR⟩
  isplitl [H4]; · iexact H4
  iintro H4
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
theorem pks (G a0 a1 a2 a3 a4 s s' m o R : sProp 𝕄) : Z G a0 a1 a2 a3 a4 s m o R ⊢ iprop(s ∗ (s' -∗ Z G a0 a1 a2 a3 a4 s' m o R)) := by
  iintro ⟨HG, H0, H1, H2, H3, H4, Hs, Hm, Ho, HR⟩
  isplitl [Hs]; · iexact Hs
  iintro Hs
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
theorem pkm (G a0 a1 a2 a3 a4 s m m' o R : sProp 𝕄) : Z G a0 a1 a2 a3 a4 s m o R ⊢ iprop(m ∗ (m' -∗ Z G a0 a1 a2 a3 a4 s m' o R)) := by
  iintro ⟨HG, H0, H1, H2, H3, H4, Hs, Hm, Ho, HR⟩
  isplitl [Hm]; · iexact Hm
  iintro Hm
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
theorem pko (G a0 a1 a2 a3 a4 s m o o' R : sProp 𝕄) : Z G a0 a1 a2 a3 a4 s m o R ⊢ iprop(o ∗ (o' -∗ Z G a0 a1 a2 a3 a4 s m o' R)) := by
  iintro ⟨HG, H0, H1, H2, H3, H4, Hs, Hm, Ho, HR⟩
  isplitl [Ho]; · iexact Ho
  iintro Ho
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
/-- The state but for the exchange, the stage, the landing buffer and the rest, set aside. -/
theorem regroup (G a0 a1 a2 a3 a4 s m o R : sProp 𝕄) : Z G a0 a1 a2 a3 a4 s m o R ⊢ iprop((G ∗ s ∗ m ∗ R) ∗ (a0 ∗ a1 ∗ a2 ∗ a3 ∗ a4 ∗ o)) := by
  iintro ⟨HG, H0, H1, H2, H3, H4, Hs, Hm, Ho, HR⟩
  isplitl [HG Hs Hm HR]
  · isplitl [HG]; · iexact HG
    isplitl [Hs]; · iexact Hs
    isplitl [Hm]; · iexact Hm
    iexact HR
  isplitl [H0]; · iexact H0
  isplitl [H1]; · iexact H1
  isplitl [H2]; · iexact H2
  isplitl [H3]; · iexact H3
  isplitl [H4]; · iexact H4
  iexact Ho
theorem ungroup (G a0 a1 a2 a3 a4 s m o R : sProp 𝕄) : iprop((G ∗ s ∗ m ∗ R) ∗ (a0 ∗ a1 ∗ a2 ∗ a3 ∗ a4 ∗ o)) ⊢ Z G a0 a1 a2 a3 a4 s m o R := by
  iintro ⟨⟨HG, Hs, Hm, HR⟩, H0, H1, H2, H3, H4, Ho⟩
  isplitl [HG]; · iexact HG
  isplitl [H0]; · iexact H0
  isplitl [H1]; · iexact H1
  isplitl [H2]; · iexact H2
  isplitl [H3]; · iexact H3
  isplitl [H4]; · iexact H4
  isplitl [Hs]; · iexact Hs
  isplitl [Hm]; · iexact Hm
  isplitl [Ho]; · iexact Ho
  iexact HR
end Pick

/-- A change of the exchange's part of the state. -/
theorem change {G G' a0 a1 a2 a3 a4 s s' m m' o R R' : sProp 𝕄} (h : iprop(G ∗ s ∗ m ∗ R) ⊢ iprop(G' ∗ s' ∗ m' ∗ R')) :
    Z G a0 a1 a2 a3 a4 s m o R ⊢ Z G' a0 a1 a2 a3 a4 s' m' o R' :=
  (regroup G a0 a1 a2 a3 a4 s m o R).trans ((BIClass.sep_mono h (BI.Entails.refl _)).trans (ungroup G' a0 a1 a2 a3 a4 s' m' o R'))

/-! ## From the signals to the copies -/

abbrev D1 : Finset D := Finset.univ.erase 0

theorem stage_eq (f : SC F) : stagePt c Finset.univ fullShare f = (bigSep (Finset.univ : Finset D) fun i => stagePt c Finset.univ (lf i) f : sProp 𝕄) := by
  unfold stagePt lf
  exact ShareLeaves.pointsTo_leaves (ℓ := (c : Thread nD τ).loc cc0_scratch1) Finset.univ f 5 fullShare
/-- The stage held whole is held at its thirty-two shares. -/
theorem stage_leaves (f : SC F) : stagePt c Finset.univ fullShare f ⊢ iprop(stagePt c Finset.univ (lf 0) f ∗ bigSep D1 (fun i => stagePt c Finset.univ (lf i) f)) := by
  rw [stage_eq]
  exact (Entails.of_eq (bigSep_erase (Finset.mem_univ (0 : D))))
theorem stage_unleaves (f : SC F) : iprop(stagePt c Finset.univ (lf 0) f ∗ bigSep D1 (fun i => stagePt c Finset.univ (lf i) f)) ⊢ stagePt c Finset.univ fullShare f := by
  rw [stage_eq]
  exact (Entails.of_eq (bigSep_erase (Φ := fun i : D => stagePt c Finset.univ (lf i) f) (Finset.mem_univ (0 : D))).symm)

/-- What a device needs for its barrier, for its copies, for its arrivals and for its departures. -/
def barStart : sProp 𝕄 := iprop(atPos ER (barCell c) 0 ∅ 0 ∗ cred (tallyAt (barCell c) () 31)
  ∗ bigSep D1 (fun i => iprop(dutyTok ER (sdCell c i) 0 0 ∗ dutyTok ER (rvCell (up i c) i) 0 0)))
def rvStart : sProp 𝕄 := bigSep D1 (fun i => iprop(cred (tallyAt (rvCell c i) () (amt (kup (dn i c) i))) ∗ atPos ER (rvCell c i) 0 ∅ 0))
def restC : sProp 𝕄 := bigSep D1 (fun i => iprop(∃ f : CC F, commPt c (slot i \ landSet c i) f))
def sdStart : sProp 𝕄 := bigSep D1 (fun i => (atPos ER (sdCell c i) 0 ∅ 0 : sProp 𝕄))
def sent : sProp 𝕄 := bigSep D1 (fun i => iprop(stagePt c (Finset.univ \ sset (kup c i)) (lf i) (stg c) ∗ cred (tallyAt (sdCell c i) () (amt (kup c i)))))
def barEnd : sProp 𝕄 := atPos ER (barCell c) 1 ∅ 0
def rvEnd : sProp 𝕄 := bigSep D1 (fun i => (atPos ER (rvCell c i) 1 ∅ 0 : sProp 𝕄))

theorem to_copies {m R : sProp 𝕄} : iprop((recs stg K ∗ (Ow c (Orv c 1) ∗ bigSep D1 (fun d => barPay (F := F) c d) ∗ atPos ER (barCell c) 1 ∅ 0))
      ∗ stagePt c Finset.univ fullShare (stg c) ∗ m ∗ (bigSep D1 (fun i => iprop(dutyTok ER (sdCell c i) 0 0 ∗ dutyTok ER (rvCell (up i c) i) 0 0)) ∗ R))
    ⊢ iprop((recs stg K ∗ tB stg c 1 0) ∗ stagePt c Finset.univ (lf 0) (stg c) ∗ m ∗ (barEnd c ∗ R)) := by
  unfold tB stB barEnd
  rw [tri_zero]
  iintro ⟨⟨Hr, Ho, Hp, Hat⟩, Hs, Hm, Ht, HR⟩
  ihave Hs' := (stage_leaves c (stg c)) $$ Hs
  icases Hs' with ⟨Hs0, Hs⟩
  isplitl [Hr Ho Hp Hs Ht]
  · isplitl [Hr]; · iexact Hr
    isplitl [Ho]; · iexact Ho
    iapply (sweep_start _ _)
    ihave H1 := (Entails.of_eq (bigSep_sep' D1 (fun i => stagePt c Finset.univ (lf i) (stg c))
      (fun i => iprop(dutyTok ER (sdCell c i) 0 0 ∗ dutyTok ER (rvCell (up i c) i) 0 0))).symm) $$ [Hs Ht]
    · isplitl [Hs] <;> iassumption
    iapply (Entails.of_eq (bigSep_sep' D1 (fun d => barPay (F := F) c d) (fun i => iprop(stagePt c Finset.univ (lf i) (stg c)
      ∗ dutyTok ER (sdCell c i) 0 0 ∗ dutyTok ER (rvCell (up i c) i) 0 0))).symm)
    isplitl [Hp] <;> iassumption
  isplitl [Hs0]; · iexact Hs0
  isplitl [Hm]; · iexact Hm
  isplitl [Hat] <;> iassumption

/-- The barrier wait: with it come the peers' pieces, and the stage, filled, is shared out. -/
theorem bar_full {sem : Sem sig} {w : BitVec 32} {α : Type} {k : PUnit → P F α} {Q : α → sProp 𝕄} {a0 a1 a2 a3 a4 m o R : sProp 𝕄} {f : SC F}
    (hs : sem = barS) (hw : w = 31#32) (hf : f = stg c)
    (next : Z (iprop(recs stg K ∗ tB stg c 1 0)) a0 a1 a2 a3 a4 (stagePt c Finset.univ (lf 0) (stg c)) m o iprop(barEnd c ∗ R) ⊢ run c (k ⟨⟩) Q) :
    Z (iprop(recs stg K ∗ stA c 32)) a0 a1 a2 a3 a4 (stagePt c Finset.univ fullShare f) m o iprop(barStart c ∗ R) ⊢ run c (semWaitWord sem w >>= k) Q := by
  subst hf
  refine BIBase.Entails.trans ?_ (bar_step stg K c (R := iprop((a0 ∗ a1 ∗ a2 ∗ a3 ∗ a4 ∗ o) ∗ stagePt c Finset.univ fullShare (stg c) ∗ m
    ∗ (bigSep D1 (fun i => iprop(dutyTok ER (sdCell c i) 0 0 ∗ dutyTok ER (rvCell (up i c) i) 0 0)) ∗ R))) hs hw ?_)
  · refine BIBase.Entails.trans (regroup _ _ _ _ _ _ _ _ _ _) ?_
    unfold barStart
    iintro ⟨⟨HG, Hs, Hm, ⟨Hat, Hc, Ht⟩, HR⟩, HA⟩
    isplitl [HG]; · iexact HG
    isplitl [Hat]; · iexact Hat
    isplitl [Hc]; · iexact Hc
    isplitl [HA]; · iexact HA
    isplitl [Hs]; · iexact Hs
    isplitl [Hm]; · iexact Hm
    isplitl [Ht] <;> iassumption
  · refine BIBase.Entails.trans ?_ next
    refine BIBase.Entails.trans ?_ (ungroup _ _ _ _ _ _ _ _ _ _)
    refine BIBase.Entails.trans ?_ (BIClass.sep_mono (to_copies stg K c) (BI.Entails.refl _))
    iintro ⟨HG, HA, Hs, Hm, HR⟩
    isplitr [HA]
    · isplitl [HG]; · iexact HG
      isplitl [Hs]; · iexact Hs
      isplitl [Hm] <;> iassumption
    iexact HA

/-! ## From the copies to the arrivals, and from these to the departures -/

theorem to_arrivals {s m R : sProp 𝕄} : iprop((recs stg K ∗ tB stg c 32 0) ∗ s ∗ m ∗ (barEnd c ∗ rvStart c ∗ R))
    ⊢ iprop((recs stg K ∗ tR stg c 1 0) ∗ s ∗ m ∗ (barEnd c ∗ sent stg c ∗ R)) := by
  unfold tB stB tR stR rvStart sent
  rw [tri_zero, tri_zero, Orv_all]
  iintro ⟨⟨Hr, Ho, Hw⟩, Hs, Hm, Hb, Hv, HR⟩
  isplitl [Hr Ho Hv]
  · isplitl [Hr]; · iexact Hr
    isplitl [Ho]; · iexact Ho
    iapply (sweep_start _ _) $$ Hv
  isplitl [Hs]; · iexact Hs
  isplitl [Hm]; · iexact Hm
  isplitl [Hb]; · iexact Hb
  isplitl [Hw]; · iapply (sweep_end _ _) $$ Hw
  iexact HR

/-- What the landing buffer holds once all copies have landed: each piece a copy fills has the sender's codes. -/
def Agree (g : CC F) : Prop := (∀ i ∈ slot 0, g i = land (stg c) i) ∧ ∀ k : D, k ≠ 0 → ∀ i ∈ landSet c k, g i = land (stg (dn k c)) i

theorem comm_join (f0 : CC F) (h0 : ∀ i ∈ slot 0, f0 i = land (stg c) i) :
    iprop(commPt c (slot 0) f0 ∗ bigSep D1 (fun i => commPt c (landSet c i) (land (stg (dn i c)))) ∗ restC (F := F) c)
      ⊢ iprop(∃ g : CC F, ⌜Agree stg c g⌝ ∗ commPt c Finset.univ g) := by
  unfold restC
  iintro ⟨H0, H1, H2⟩
  ihave H2' := (bigSep_exists_pi D1 (fun i (f : CC F) => commPt c (slot i \ landSet c i) f)) $$ H2
  icases H2' with ⟨%fr, H2⟩
  ihave H3 := (Entails.of_eq (bigSep_sep' D1 (fun i => commPt c (landSet c i) (land (stg (dn i c))))
      (fun i => commPt c (slot i \ landSet c i) (fr i))).symm) $$ [H1 H2]
  · isplitl [H1] <;> iassumption
  have hj : bigSep D1 (fun i => iprop(commPt c (landSet c i) (land (stg (dn i c))) ∗ commPt c (slot i \ landSet c i) (fr i)))
      ⊢ (bigSep D1 (fun i => commPt c (slot i) ((landSet c i).piecewise (land (stg (dn i c))) (fr i))) : sProp 𝕄) :=
    bigSep_mono fun i _ => pointsTo_join_subset (dset_slot _ _)
  ihave H4 := hj $$ H3
  have hb : iprop(commPt c (slot 0) f0 ∗ bigSep D1 (fun i => commPt c (slot i) ((landSet c i).piecewise (land (stg (dn i c))) (fr i))))
      ⊢ (bigSep (Finset.univ : Finset D) (fun i => commPt c (slot i) (if i = 0 then f0 else (landSet c i).piecewise (land (stg (dn i c))) (fr i))) : sProp 𝕄) := by
    refine BIBase.Entails.trans (BIClass.sep_mono (BI.Entails.refl _) ?_) (Entails.of_eq (bigSep_erase (Φ := fun i : D => commPt c (slot i)
      (if i = 0 then f0 else (landSet c i).piecewise (land (stg (dn i c))) (fr i))) (Finset.mem_univ (0 : D))).symm)
    refine bigSep_mono fun i hi => ?_
    rw [if_neg (Finset.ne_of_mem_erase hi)]
    exact BI.Entails.refl _
  ihave H5 := hb $$ [H0 H4]
  · isplitl [H0] <;> iassumption
  have hu : (bigSep (Finset.univ : Finset D) (fun i => commPt c (slot i) (if i = 0 then f0 else (landSet c i).piecewise (land (stg (dn i c))) (fr i))) : sProp 𝕄)
      ⊢ iprop(∃ g : CC F, ⌜∀ t ∈ (Finset.univ : Finset D), ∀ i ∈ slot t, g i = (if t = 0 then f0 else (landSet c t).piecewise (land (stg (dn t c))) (fr t)) i⌝
        ∗ commPt c (Finset.univ.biUnion slot) g) :=
    pointsTo_biUnion_join (ℓ := (c : Thread nD τ).loc cc0_scratch0) (q := fullShare) (Finset.univ : Finset D) slot
      (fun i : D => (if i = 0 then f0 else (landSet c i).piecewise (land (stg (dn i c))) (fr i) : CC F)) f0 (fun i _ j _ hij => slot_disjoint i j hij)
  ihave H6 := hu $$ H5
  icases H6 with ⟨%g, %hg, H6⟩
  iexists g
  isplitr
  · ipureintro
    refine ⟨fun i hi => ?_, fun k hk i hi => ?_⟩
    · rw [hg 0 (Finset.mem_univ _) i hi]; exact h0 i hi
    · rw [hg k (Finset.mem_univ _) i (dset_slot _ _ hi), if_neg hk]; exact Finset.piecewise_eq_of_mem _ _ _ hi
  · ihave H7 := (Entails.of_eq (congrArg (fun S => commPt c S g) slots)) $$ H6
    iexact H7

theorem to_departures {s R : sProp 𝕄} (f0 : CC F) (h0 : ∀ i ∈ slot 0, f0 i = land (stg c) i) :
    iprop((recs stg K ∗ tR stg c 32 0) ∗ s ∗ commPt c (slot 0) f0 ∗ (barEnd c ∗ sent stg c ∗ restC c ∗ sdStart c ∗ R))
    ⊢ iprop(∃ g : CC F, ⌜Agree stg c g⌝ ∗ ((recs stg K ∗ tE stg c 1 0) ∗ s ∗ commPt c Finset.univ g ∗ (barEnd c ∗ rvEnd c ∗ R))) := by
  unfold tR stR tE stE sent sdStart rvEnd
  rw [tri_zero, tri_zero]
  iintro ⟨⟨Hr, Ho, Hw⟩, Hs, Hm, Hb, Hsent, Hrest, Hsd, HR⟩
  ihave Hw1 := (sweep_end _ _) $$ Hw
  ihave Hw2 := (Entails.of_eq (bigSep_sep' D1 (fun i => commPt c (landSet c i) (land (stg (dn i c)))) (fun i => (atPos ER (rvCell c i) 1 ∅ 0 : sProp 𝕄)))) $$ Hw1
  icases Hw2 with ⟨Hl, Hat⟩
  ihave Hg := (comm_join stg c f0 h0) $$ [Hm Hl Hrest]
  · isplitl [Hm]; · iexact Hm
    isplitl [Hl] <;> iassumption
  icases Hg with ⟨%g, %hg, Hg⟩
  iexists g
  isplitr; · ipureintro; exact hg
  isplitl [Hr Ho Hsent Hsd]
  · isplitl [Hr]; · iexact Hr
    isplitl [Ho]; · iexact Ho
    iapply (sweep_start _ _)
    iapply (Entails.of_eq (bigSep_sep' D1 _ (fun i => (atPos ER (sdCell c i) 0 ∅ 0 : sProp 𝕄))).symm)
    isplitl [Hsent] <;> iassumption
  isplitl [Hs]; · iexact Hs
  isplitl [Hg]; · iexact Hg
  isplitl [Hb]; · iexact Hb
  isplitl [Hat] <;> iassumption

/-- The same on the whole state: the buffer's contents are whatever they are, with the codes where they have landed. -/
theorem landed_all {a0 a1 a2 a3 a4 s o R : sProp 𝕄} {α : Type} {p : P F α} {Q : α → sProp 𝕄} (f0 : CC F) (h0 : ∀ i ∈ slot 0, f0 i = land (stg c) i)
    (next : ∀ g : CC F, Agree stg c g → Z (iprop(recs stg K ∗ tE stg c 1 0)) a0 a1 a2 a3 a4 s (commPt c Finset.univ g) o iprop(barEnd c ∗ rvEnd c ∗ R) ⊢ run c p Q) :
    Z (iprop(recs stg K ∗ tR stg c 32 0)) a0 a1 a2 a3 a4 s (commPt c (slot 0) f0) o iprop(barEnd c ∗ sent stg c ∗ restC c ∗ sdStart c ∗ R) ⊢ run c p Q := by
  refine BIBase.Entails.trans (regroup _ _ _ _ _ _ _ _ _ _) ?_
  iintro ⟨H, HA⟩
  ihave H' := (to_departures stg K c f0 h0) $$ H
  icases H' with ⟨%g, %hg, H⟩
  iapply (next g hg)
  iapply (ungroup _ _ _ _ _ _ _ _ _ _)
  isplitl [H] <;> iassumption

end Cert.KernelIdeal.Hand

end
-- ==== Proof.Out.lean ====
/-
  What the body stores: the stage, the device's own slot, and the two batch rows of the result.
-/
module

public import proofs.«01_k».proof.Proof.Moves
public import Idealize.ShloMosaic.Lib.Pipeline.Value

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The stage -/

/-- The stage's four blocks, with what is stored in each. -/
def stPieces (x2 x3 : S2x128x4x64.Idx → Elt F .bf16) : List (View.Piece (Elt F) S2x2x2x4x64x64 .i8) :=
  [⟨Rect.unit (s := S2x2x2x4x64x64) ![1, 1, 0, 0, 0, 0] S1x1x2x4x64x64.size inb_S2x2x2x4x64x64_S1x1x2x4x64x64_1_1_0_0_0_0,
      k0_pay4 ((Memref.whole cc0_stg3_0 : Memref sig .tc .vmem S2x128x4x64 .bf16).view.readAt (Elt F) (Rect.unit (s := S2x128x4x64) ![0, 64, 0, 0] S2x64x4x64.size inb_S2x128x4x64_S2x64x4x64_0_64_0_0).toLoadRect x3)⟩,
   ⟨Rect.unit (s := S2x2x2x4x64x64) ![1, 0, 0, 0, 0, 0] S1x1x2x4x64x64.size inb_S2x2x2x4x64x64_S1x1x2x4x64x64_1_0_0_0_0_0,
      k0_pay3 ((Memref.whole cc0_stg2_0 : Memref sig .tc .vmem S2x128x4x64 .bf16).view.readAt (Elt F) (Rect.unit (s := S2x128x4x64) ![0, 64, 0, 0] S2x64x4x64.size inb_S2x128x4x64_S2x64x4x64_0_64_0_0).toLoadRect x2)⟩,
   ⟨Rect.unit (s := S2x2x2x4x64x64) ![0, 1, 0, 0, 0, 0] S1x1x2x4x64x64.size inb_S2x2x2x4x64x64_S1x1x2x4x64x64_0_1_0_0_0_0,
      k0_pay2 ((Memref.whole cc0_stg3_0 : Memref sig .tc .vmem S2x128x4x64 .bf16).view.readAt (Elt F) (Rect.unit (s := S2x128x4x64) ![0, 0, 0, 0] S2x64x4x64.size inb_S2x128x4x64_S2x64x4x64_0_0_0_0).toLoadRect x3)⟩,
   ⟨Rect.unit (s := S2x2x2x4x64x64) ![0, 0, 0, 0, 0, 0] S1x1x2x4x64x64.size inb_S2x2x2x4x64x64_S1x1x2x4x64x64_0_0_0_0_0_0,
      k0_pay1 ((Memref.whole cc0_stg2_0 : Memref sig .tc .vmem S2x128x4x64 .bf16).view.readAt (Elt F) (Rect.unit (s := S2x128x4x64) ![0, 0, 0, 0] S2x64x4x64.size inb_S2x128x4x64_S2x64x4x64_0_0_0_0).toLoadRect x2)⟩]

/-- A device's stage, from its blocks of the keys and the values. -/
def stgOf (x2 x3 : S2x128x4x64.Idx → Elt F .bf16) : SC F := stageM.view.writes (Elt F) (fun _ => 0#8) (stPieces x2 x3)

theorem stgOf_any (x2 x3 : S2x128x4x64.Idx → Elt F .bf16) (f : SC F) : stageM.view.writes (Elt F) f (stPieces x2 x3) = stgOf x2 x3 := by
  have hc : ∀ y, ∃ p ∈ stPieces x2 x3, y ∈ p.1.set := View.cover_of_tiled _ S1x1x2x4x64x64.size rfl
  refine View.contents_ext stageM.view (fun y => ?_) fun i hi => absurd rfl (hi i)
  exact View.read_writes_apply_eq _ _ _ _ y _ (hc y)

/-! ## What the body computes -/

section Value
variable (c : Dev nD)

/-- The positions a device may attend to. -/
def maskOf : IVec S128x4096 1 :=
  let v2 := meW c
  let v2118 : IVec S128x4096 32 := iota .tc S128x4096 32 [0] iota_S128x4096_d0_w32
  let v2119 : IVec S128x4096 32 := iota .tc S128x4096 32 [1] iota_S128x4096_d1_w32
  let v2164 := k0_pay7 (k0_pay6 v2) 32#32 (Scalar.cmpi .eq 32#32 0#32)
  let v2191 : BitVec 32 := Scalar.extui (Scalar.cmpi .sgt 64#32 0#32)
  k0_pay15 (k0_pay13 v2 v2118 v2164 (k0_pay8 v2119) 64#32 (k0_pay9 v2119) (k0_pay10 v2119) v2191 0#32)
    (k0_pay14 v2 v2118 v2164 (k0_pay8 v2119) 64#32 (k0_pay9 v2119) (k0_pay10 v2119) v2191 0#32) 3#32 (Scalar.cmpi .eq 3#32 0#32)

/-- The queries' and the output's weights, and one batch row of the inputs, as loaded. -/
def wqOf (x1 : S512x256.Idx → Elt F .bf16) : Vec F S512x256 .bf16 :=
  (Memref.whole cc0_stg1_0 : Memref sig .tc .vmem S512x256 .bf16).view.readAt (Elt F) (Rect.unit (s := S512x256) ![0, 0] S512x256.size inb_S512x256_S512x256_0_0).toLoadRect x1
def woOf (x4 : S256x512.Idx → Elt F .bf16) : FVec F S256x512 .bf16 :=
  k0_pay17 ((Memref.whole cc0_stg4_0 : Memref sig .tc .vmem S256x512 .bf16).view.readAt (Elt F) (Rect.unit (s := S256x512) ![0, 0] S256x512.size inb_S256x512_S256x512_0_0).toLoadRect x4)
def xaOf (x0 : S2x128x512.Idx → Elt F .bf16) : Vec F S1x128x512 .bf16 :=
  (Memref.whole cc0_stg0_0 : Memref sig .tc .vmem S2x128x512 .bf16).view.readAt (Elt F) (Rect.unit (s := S2x128x512) ![0, 0, 0] S1x128x512.size inb_S2x128x512_S1x128x512_0_0_0).toLoadRect x0
def xbOf (x0 : S2x128x512.Idx → Elt F .bf16) : Vec F S1x128x512 .bf16 :=
  (Memref.whole cc0_stg0_0 : Memref sig .tc .vmem S2x128x512 .bf16).view.readAt (Elt F) (Rect.unit (s := S2x128x512) ![1, 0, 0] S1x128x512.size inb_S2x128x512_S1x128x512_1_0_0).toLoadRect x0

theorem inbC (v b : Fin 2) (h : Fin 4) : ∀ a, (![0, 0, v.val, b.val, h.val, 0, 0] : Fin 7 → ℕ) a + S32x2x1x1x1x64x64.size a ≤ S32x2x2x2x4x64x64.size a := by
  revert v b h; decide
/-- All devices' codes of one head of one batch row: keys (`v = 0`) or values (`v = 1`). -/
def cdOf (g : CC F) (v b : Fin 2) (h : Fin 4) : Vec F S32x2x1x1x1x64x64 .i8 :=
  commM.view.readAt (Elt F) (Rect.unit (s := S32x2x2x2x4x64x64) ![0, 0, v.val, b.val, h.val, 0, 0] S32x2x1x1x1x64x64.size (inbC v b h)).toLoadRect g

/-- The first batch row of the result, and the second. -/
def rowA (x0 : S2x128x512.Idx → Elt F .bf16) (x1 : S512x256.Idx → Elt F .bf16) (x4 : S256x512.Idx → Elt F .bf16) (g : CC F) : Vec F S1x128x512 .f32 :=
  let v2256 := maskOf c
  let v2262 := woOf x4
  let v3978 := k0_pay31 v2256 (k0_pay28 (cdOf g 1 0 0)) (k0_pay29 (k0_pay19 (wqOf x1) (xaOf x0)) (cdOf g 0 0 0)) (k0_pay30 (F := F))
  let v3998 := k0_pay32 v2256 (k0_pay20 (wqOf x1) (xaOf x0)) (cdOf g 0 0 1) (cdOf g 1 0 1)
  let v4018 := k0_pay33 v2256 (k0_pay21 (wqOf x1) (xaOf x0)) (cdOf g 0 0 2) (cdOf g 1 0 2)
  k0_pay37 v2256 v2262 v3978 v3998 v4018 (k0_pay34 (cdOf g 1 0 3)) (k0_pay35 (k0_pay22 (wqOf x1) (xaOf x0)) (cdOf g 0 0 3)) (k0_pay36 (F := F))
def rowB (x0 : S2x128x512.Idx → Elt F .bf16) (x1 : S512x256.Idx → Elt F .bf16) (x4 : S256x512.Idx → Elt F .bf16) (g : CC F) : Vec F S1x128x512 .f32 :=
  let v2256 := maskOf c
  let v2262 := woOf x4
  let v2276 := k0_pay23 (wqOf x1) (xbOf x0)
  let v4064 := k0_pay38 v2256 (k0_pay24 (wqOf x1) (xbOf x0)) (cdOf g 0 1 0) (cdOf g 1 1 0)
  let v4084 := k0_pay39 v2256 (k0_pay25 (wqOf x1) (xbOf x0)) (cdOf g 0 1 1) (cdOf g 1 1 1)
  let v4126 := k0_pay42 v2256 (k0_pay26 v2276) (k0_pay27 v2276) v4064 v4084 (k0_pay40 (cdOf g 0 1 2)) (k0_pay41 (cdOf g 1 1 2)) (cdOf g 0 1 3) (cdOf g 1 1 3)
  k0_pay43 v2262 v4126 (constant S128x512 .f32 0x00000000#32)

/-- The result's two batch rows as stored. -/
def outPieces (x0 : S2x128x512.Idx → Elt F .bf16) (x1 : S512x256.Idx → Elt F .bf16) (x4 : S256x512.Idx → Elt F .bf16) (g : CC F) :
    List (View.Piece (Elt F) S2x128x512 .f32) :=
  [⟨Rect.unit (s := S2x128x512) ![1, 0, 0] S1x128x512.size inb_S2x128x512_S1x128x512_1_0_0, rowB c x0 x1 x4 g⟩,
   ⟨Rect.unit (s := S2x128x512) ![0, 0, 0] S1x128x512.size inb_S2x128x512_S1x128x512_0_0_0, rowA c x0 x1 x4 g⟩]
end Value

/-- The device's own slot, and what is stored in it. -/
abbrev ownR : Rect S32x2x2x2x4x64x64 := Rect.unit (s := S32x2x2x2x4x64x64) ![0, 0, 0, 0, 0, 0, 0] S1x2x2x2x4x64x64.size inb_S32x2x2x2x4x64x64_S1x2x2x2x4x64x64_0_0_0_0_0_0_0
def ownP (f : SC F) : View.Piece (Elt F) S32x2x2x2x4x64x64 .i8 :=
  ⟨ownR, k0_pay5 (stageM.view.readAt (Elt F) (Rect.unit (s := S2x2x2x4x64x64) ![0, 0, 0, 0, 0, 0] S2x2x2x4x64x64.size inb_S2x2x2x4x64x64_S2x2x2x4x64x64_0_0_0_0_0_0).toLoadRect f)⟩
theorem mem_ownR (i : CIx) : Iff (i ∈ ownR.set) ((i 0).val = 0) := by
  refine Rect.mem_set_unit.trans ?_
  constructor
  · intro h; have := h 0; simp at this; omega
  · intro e a
    fin_cases a
    · simp; omega
    all_goals exact ⟨Nat.zero_le _, lt_of_lt_of_eq (i _).isLt (Nat.zero_add _).symm⟩

theorem own_set : (commM.access ownR).set ⊆ slot 0 := by
  intro i hi
  have e : (commM.access ownR).set = ownR.set := View.set_slice_whole _ _
  have hi' : i ∈ ownR.set := e ▸ hi
  exact (mem_slot 0 i).mpr ((mem_ownR i).mp hi')
theorem own_setOn : commM.view.setOn ownR.toLoadRect.set ⊆ slot 0 := by
  intro i hi
  obtain ⟨x, hx, rfl⟩ := Finset.mem_map.mp hi
  exact (mem_slot 0 _).mpr ((mem_ownR x).mp hx)
theorem own_val (f : SC F) (fc : CC F) (i : CIx) (hi : i ∈ slot 0) : commM.view.writes (Elt F) fc [ownP f] i = land f i := by
  obtain ⟨x, hx⟩ : ∃ x, ownR.emb x = i := ownR.exists_idx_of_mem ((mem_ownR i).mpr ((mem_slot 0 i).mp hi))
  subst hx
  have e := View.read_writes_cons_emb commM.view fc ownR (ownP f).2 [] x
  rw [View.read_whole] at e
  refine e.trans ?_
  have e2 := shapeCast_addUnit_apply S2x2x2x4x64x64.size
    (stageM.view.readAt (Elt F) (Rect.unit (s := S2x2x2x4x64x64) ![0, 0, 0, 0, 0, 0] S2x2x2x4x64x64.size inb_S2x2x2x4x64x64_S2x2x2x4x64x64_0_0_0_0_0_0).toLoadRect f)
    shapeCasts_S2x2x2x4x64x64_S1x2x2x2x4x64x64 x
  refine Eq.trans e2 ?_
  show f _ = f _
  congr 1

end Cert.KernelIdeal.Hand

end
-- ==== Proof.Walk1.lean ====
/-
  The body's first third: the signals, the stage, the barrier wait and the copies.
-/
module

public import proofs.«01_k».proof.Proof.Out

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (stg : Dev nD → SC F) (K : Dev nD × Kx → ℕ) (c : Dev nD)

set_option maxRecDepth 65536
set_option maxHeartbeats 400000 in
theorem walk1 {x0 : S2x128x512.Idx → Elt F .bf16} {x1 : S512x256.Idx → Elt F .bf16} {x2 x3 : S2x128x4x64.Idx → Elt F .bf16}
    {x4 : S256x512.Idx → Elt F .bf16} {a5 : Memref sig .tc .vmem S2x128x512 .f32} {h5 : a5.IsWhole} (f0 : SC F) {m o R : sProp 𝕄}
    (hst : stg c = stgOf x2 x3) {Q}
    (next : ∀ w1 w2 w3, Z (iprop(recs stg K ∗ tB stg c 31 2)) (wpt c cc0_stg0_0 x0) (wpt c cc0_stg1_0 x1) (wpt c cc0_stg2_0 x2) (wpt c cc0_stg3_0 x3)
      (wpt c cc0_stg4_0 x4) (stagePt c Finset.univ (lf 0) (stg c)) m o iprop(barEnd c ∗ R) ⊢ Q ⟨c, meW c, w1, w2, w3⟩) :
    Z (iprop(recs stg K ∗ stA c 1)) (wpt c cc0_stg0_0 x0) (wpt c cc0_stg1_0 x1) (wpt c cc0_stg2_0 x2) (wpt c cc0_stg3_0 x3) (wpt c cc0_stg4_0 x4)
      (stagePt c Finset.univ fullShare f0) m o iprop(barStart c ∗ R)
    ⊢ run c (k0_part162 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        a5 h5 commM (Memref.isWhole_whole _) stageM (Memref.isWhole_whole _) cc0_scratch2 cc0_scratch3) Q := by
  unfold k0_part162
  refine run_bind c ?_
  unfold k0_part1
  refine dev_step c ?_
  refine sig_if stg K c _ (by decide) (by decide) rfl rfl rfl ?_
  refine sig_if stg K c _ (by decide) (by decide) rfl rfl rfl ?_
  refine run_pure c ?_
  iterate 11
    refine run_bind c ?_
    first | unfold k0_part2 | unfold k0_part3 | unfold k0_part4 | unfold k0_part5 | unfold k0_part6 | unfold k0_part7 | unfold k0_part8 | unfold k0_part9 | unfold k0_part10 | unfold k0_part11 | unfold k0_part12
    repeat
      with_reducible refine sig_if stg K c _ ?_ ?_ ?_ ?_ ?_ ?_
      · decide
      · decide
      · rfl
      · rfl
      · rfl
    refine run_pure c ?_
  refine run_bind c ?_
  rw [k0_part13_eq_skeleton]
  unfold k0_part13_skel
  refine sig_if stg K c _ (by decide) (by decide) rfl rfl rfl ?_
  refine sig_if stg K c _ (by decide) (by decide) rfl rfl rfl ?_
  refine ld c (m := Memref.whole cc0_stg2_0) (f := x2) (Finset.subset_univ _) (pk2 _ _ _ _ _ _ _ _ _ _) ?_
  refine ld c (m := stageM) (f := f0) (Finset.subset_univ _) (pks _ _ _ _ _ _ _ _ _ _ _) ?_
  refine run_pure c ?_
  refine run_bind c ?_
  rw [k0_part14_eq_skeleton]
  unfold k0_part14_skel
  refine st c (m := stageM) f0 [] (Finset.subset_univ _) (pks _ _ _ _ _ _ _ _ _ _ _) ?_
  refine ld c (m := Memref.whole cc0_stg3_0) (f := x3) (Finset.subset_univ _) (pk3 _ _ _ _ _ _ _ _ _ _) ?_
  refine ld c (m := stageM) (Finset.subset_univ _) (pks _ _ _ _ _ _ _ _ _ _ _) ?_
  refine st c (m := stageM) f0 _ (Finset.subset_univ _) (pks _ _ _ _ _ _ _ _ _ _ _) ?_
  refine ld c (m := Memref.whole cc0_stg2_0) (f := x2) (Finset.subset_univ _) (pk2 _ _ _ _ _ _ _ _ _ _) ?_
  refine ld c (m := stageM) (Finset.subset_univ _) (pks _ _ _ _ _ _ _ _ _ _ _) ?_
  refine run_pure c ?_
  refine run_bind c ?_
  rw [k0_part15_eq_skeleton]
  unfold k0_part15_skel
  refine st c (m := stageM) f0 _ (Finset.subset_univ _) (pks _ _ _ _ _ _ _ _ _ _ _) ?_
  refine ld c (m := Memref.whole cc0_stg3_0) (f := x3) (Finset.subset_univ _) (pk3 _ _ _ _ _ _ _ _ _ _) ?_
  refine ld c (m := stageM) (Finset.subset_univ _) (pks _ _ _ _ _ _ _ _ _ _ _) ?_
  refine st c (m := stageM) f0 _ (Finset.subset_univ _) (pks _ _ _ _ _ _ _ _ _ _ _) ?_
  refine bar_full stg K c rfl rfl (f := stageM.view.writes (Elt F) f0 (stPieces x2 x3)) ((stgOf_any x2 x3 f0).trans hst.symm) ?_
  refine run_pure c ?_
  iterate 45
    refine run_bind c ?_
    first | unfold k0_part16 | unfold k0_part17 | unfold k0_part18 | unfold k0_part19 | unfold k0_part20 | unfold k0_part21 | unfold k0_part22 | unfold k0_part23 | unfold k0_part24 | unfold k0_part25 | unfold k0_part26 | unfold k0_part27 | unfold k0_part28 | unfold k0_part29 | unfold k0_part30 | unfold k0_part31 | unfold k0_part32 | unfold k0_part33 | unfold k0_part34 | unfold k0_part35 | unfold k0_part36 | unfold k0_part37 | unfold k0_part38 | unfold k0_part39 | unfold k0_part40 | unfold k0_part41 | unfold k0_part42 | unfold k0_part43 | unfold k0_part44 | unfold k0_part45 | unfold k0_part46 | unfold k0_part47 | unfold k0_part48 | unfold k0_part49 | unfold k0_part50 | unfold k0_part51 | unfold k0_part52 | unfold k0_part53 | unfold k0_part54 | unfold k0_part55 | unfold k0_part56 | unfold k0_part57 | unfold k0_part58 | unfold k0_part59 | unfold k0_part60
    repeat first
        | with_reducible refine send_if0 stg K c _ ?_ ?_ ?_ ?_ ?_
          · decide
          · decide
          · rfl
          · intro hk nx hh
            refine send_hit0 stg K c _ ?_ ?_ hk ?_ ?_ ?_ ?_ ?_ nx
            · decide
            · decide
            · rfl
            · rfl
            · rfl
            · rfl
            · rfl
        | with_reducible refine send_if1 stg K c _ ?_ ?_ ?_ ?_ ?_
          · decide
          · decide
          · rfl
          · intro hk nx hh
            refine send_hitH stg K c 0 _ ?_ ?_ hk ?_ ?_ ?_ ?_ ?_ nx
            · decide
            · decide
            · rfl
            · rfl
            · rfl
            · rfl
            · rfl
        | with_reducible refine send_if2 stg K c _ ?_ ?_ ?_ ?_ ?_
          · decide
          · decide
          · rfl
          · intro hk nx hh
            refine send_hitH stg K c 1 _ ?_ ?_ hk ?_ ?_ ?_ ?_ ?_ nx
            · decide
            · decide
            · rfl
            · rfl
            · rfl
            · rfl
            · rfl
    refine run_pure c ?_
  refine run_pure c ?_
  exact next _ _ _

end Cert.KernelIdeal.Hand

end
-- ==== Proof.Walk2.lean ====
/-
  The body's second third: the copies' end, the device's own slot, the mask and the queries, the arrivals, the attention.
-/
module

public import proofs.«01_k».proof.Proof.Walk1

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (stg : Dev nD → SC F) (K : Dev nD × Kx → ℕ) (c : Dev nD)

/-- The output buffer. -/
abbrev outM : Memref sig .tc .vmem S2x128x512 .f32 := Memref.whole cc0_stg5_0

set_option maxRecDepth 65536 in
set_option maxHeartbeats 400000 in
theorem walk {x0 : S2x128x512.Idx → Elt F .bf16} {x1 : S512x256.Idx → Elt F .bf16} {x2 x3 : S2x128x4x64.Idx → Elt F .bf16}
    {x4 : S256x512.Idx → Elt F .bf16} (f0 : SC F) (fc : CC F) (fo : S2x128x512.Idx → Elt F .f32) {R : sProp 𝕄} (hst : stg c = stgOf x2 x3) {Q : PUnit → sProp 𝕄}
    (next : ∀ g : CC F, Agree stg c g → Z (iprop(recs stg K ∗ tE stg c 32 0)) (wpt c cc0_stg0_0 x0) (wpt c cc0_stg1_0 x1) (wpt c cc0_stg2_0 x2) (wpt c cc0_stg3_0 x3)
      (wpt c cc0_stg4_0 x4) (stagePt c Finset.univ (lf 0) (stg c)) (commPt c Finset.univ g) (wpt c cc0_stg5_0 (outM.view.writes (Elt F) fo (outPieces c x0 x1 x4 g)))
      iprop(barEnd c ∗ rvEnd c ∗ R) ⊢ Q ⟨⟩) :
    Z (iprop(recs stg K ∗ stA c 1)) (wpt c cc0_stg0_0 x0) (wpt c cc0_stg1_0 x1) (wpt c cc0_stg2_0 x2) (wpt c cc0_stg3_0 x3) (wpt c cc0_stg4_0 x4)
      (stagePt c Finset.univ fullShare f0) (commPt c (slot 0) fc) (wpt c cc0_stg5_0 fo) iprop(barStart c ∗ rvStart c ∗ restC c ∗ sdStart c ∗ R)
    ⊢ run c (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        outM (Memref.isWhole_whole _) commM (Memref.isWhole_whole _) stageM (Memref.isWhole_whole _) cc0_scratch2 cc0_scratch3) Q := by
  unfold cc0_body
  refine run_bind c ?_
  refine walk1 stg K c f0 hst ?_
  intro w1 w2 w3
  refine run_bind c ?_
  unfold k0_part163
  refine run_bind c ?_
  rw [k0_part61_eq_skeleton]
  unfold k0_part61_skel
  with_reducible refine send_if2 stg K c _ ?_ ?_ ?_ ?_ ?_
  · decide
  · decide
  · rfl
  · intro hk nx hh
    refine send_hitH stg K c 1 _ ?_ ?_ hk ?_ ?_ ?_ ?_ ?_ nx
    · decide
    · decide
    · rfl
    · rfl
    · rfl
    · rfl
    · rfl
  refine ld c (m := stageM) (f := stg c) (Finset.subset_univ _) (pks _ _ _ _ _ _ _ _ _ _ _) ?_
  refine ld c (m := commM) (f := fc) own_setOn (pkm _ _ _ _ _ _ _ _ _ _ _) ?_
  refine st c (m := commM) fc [] own_set (pkm _ _ _ _ _ _ _ _ _ _ _) ?_
  refine run_pure c ?_
  refine BIBase.Entails.trans (change (to_arrivals stg K c)) ?_
  refine run_bind c ?_
  rw [k0_part62_eq_skeleton]
  unfold k0_part62_skel
  refine run_pure c ?_
  refine run_bind c ?_
  rw [k0_part63_eq_skeleton]
  unfold k0_part63_skel
  refine run_pure c ?_
  refine run_bind c ?_
  rw [k0_part64_eq_skeleton]
  unfold k0_part64_skel
  refine ld c (m := Memref.whole cc0_stg1_0) (f := x1) (Finset.subset_univ _) (pk1 _ _ _ _ _ _ _ _ _ _) ?_
  refine ld c (m := Memref.whole cc0_stg4_0) (f := x4) (Finset.subset_univ _) (pk4 _ _ _ _ _ _ _ _ _ _) ?_
  refine ld c (m := Memref.whole cc0_stg0_0) (f := x0) (Finset.subset_univ _) (pk0 _ _ _ _ _ _ _ _ _ _) ?_
  refine ld c (m := Memref.whole cc0_stg0_0) (f := x0) (Finset.subset_univ _) (pk0 _ _ _ _ _ _ _ _ _ _) ?_
  refine run_pure c ?_
  refine run_bind c ?_
  rw [k0_part65_eq_skeleton]
  unfold k0_part65_skel
  refine run_pure c ?_
  iterate 45
    refine run_bind c ?_
    first | unfold k0_part66 | unfold k0_part67 | unfold k0_part68 | unfold k0_part69 | unfold k0_part70 | unfold k0_part71 | unfold k0_part72 | unfold k0_part73 | unfold k0_part74 | unfold k0_part75 | unfold k0_part76 | unfold k0_part77 | unfold k0_part78 | unfold k0_part79 | unfold k0_part80 | unfold k0_part81 | unfold k0_part82 | unfold k0_part83 | unfold k0_part84 | unfold k0_part85 | unfold k0_part86 | unfold k0_part87 | unfold k0_part88 | unfold k0_part89 | unfold k0_part90 | unfold k0_part91 | unfold k0_part92 | unfold k0_part93 | unfold k0_part94 | unfold k0_part95 | unfold k0_part96 | unfold k0_part97 | unfold k0_part98 | unfold k0_part99 | unfold k0_part100 | unfold k0_part101 | unfold k0_part102 | unfold k0_part103 | unfold k0_part104 | unfold k0_part105 | unfold k0_part106 | unfold k0_part107 | unfold k0_part108 | unfold k0_part109 | unfold k0_part110
    repeat first
        | with_reducible refine recv_if0 stg K c _ ?_ ?_ ?_ ?_ ?_
          · decide
          · decide
          · rfl
          · intro hk nx hh
            refine recv_hit stg K c 0 _ ?_ ?_ hk ?_ ?_ nx
            · decide
            · decide
            · rfl
            · rfl
        | with_reducible refine recv_if1 stg K c _ ?_ ?_ ?_ ?_ ?_
          · decide
          · decide
          · rfl
          · intro hk nx hh
            refine recv_hit stg K c 1 _ ?_ ?_ hk ?_ ?_ nx
            · decide
            · decide
            · rfl
            · rfl
        | with_reducible refine recv_if2 stg K c _ ?_ ?_ ?_ ?_ ?_
          · decide
          · decide
          · rfl
          · intro hk nx hh
            refine recv_hit stg K c 2 _ ?_ ?_ hk ?_ ?_ nx
            · decide
            · decide
            · rfl
            · rfl
    refine run_pure c ?_
  refine run_bind c ?_
  rw [k0_part111_eq_skeleton]
  unfold k0_part111_skel
  repeat first
      | with_reducible refine recv_if0 stg K c _ ?_ ?_ ?_ ?_ ?_
        · decide
        · decide
        · rfl
        · intro hk nx hh
          refine recv_hit stg K c 0 _ ?_ ?_ hk ?_ ?_ nx
          · decide
          · decide
          · rfl
          · rfl
      | with_reducible refine recv_if1 stg K c _ ?_ ?_ ?_ ?_ ?_
        · decide
        · decide
        · rfl
        · intro hk nx hh
          refine recv_hit stg K c 1 _ ?_ ?_ hk ?_ ?_ nx
          · decide
          · decide
          · rfl
          · rfl
      | with_reducible refine recv_if2 stg K c _ ?_ ?_ ?_ ?_ ?_
        · decide
        · decide
        · rfl
        · intro hk nx hh
          refine recv_hit stg K c 2 _ ?_ ?_ hk ?_ ?_ nx
          · decide
          · decide
          · rfl
          · rfl
  refine landed_all stg K c _ (own_val (stg c) fc) fun g hg => ?_
  refine ld c (m := commM) (f := g) (Finset.subset_univ _) (pkm _ _ _ _ _ _ _ _ _ _ _) ?_
  refine ld c (m := commM) (f := g) (Finset.subset_univ _) (pkm _ _ _ _ _ _ _ _ _ _ _) ?_
  refine run_pure c ?_
  refine run_bind c ?_
  rw [k0_part112_eq_skeleton]
  unfold k0_part112_skel
  refine ld c (m := commM) (f := g) (Finset.subset_univ _) (pkm _ _ _ _ _ _ _ _ _ _ _) ?_
  refine ld c (m := commM) (f := g) (Finset.subset_univ _) (pkm _ _ _ _ _ _ _ _ _ _ _) ?_
  refine ld c (m := commM) (f := g) (Finset.subset_univ _) (pkm _ _ _ _ _ _ _ _ _ _ _) ?_
  refine run_pure c ?_
  refine run_bind c ?_
  rw [k0_part113_eq_skeleton]
  unfold k0_part113_skel
  refine ld c (m := commM) (f := g) (Finset.subset_univ _) (pkm _ _ _ _ _ _ _ _ _ _ _) ?_
  refine ld c (m := commM) (f := g) (Finset.subset_univ _) (pkm _ _ _ _ _ _ _ _ _ _ _) ?_
  refine ld c (m := commM) (f := g) (Finset.subset_univ _) (pkm _ _ _ _ _ _ _ _ _ _ _) ?_
  refine run_pure c ?_
  refine run_bind c ?_
  rw [k0_part114_eq_skeleton]
  unfold k0_part114_skel
  refine ld c (m := outM) (f := fo) (Finset.subset_univ _) (pko _ _ _ _ _ _ _ _ _ _ _) ?_
  refine st c (m := outM) fo [] (Finset.subset_univ _) (pko _ _ _ _ _ _ _ _ _ _ _) ?_
  refine ld c (m := commM) (f := g) (Finset.subset_univ _) (pkm _ _ _ _ _ _ _ _ _ _ _) ?_
  refine ld c (m := commM) (f := g) (Finset.subset_univ _) (pkm _ _ _ _ _ _ _ _ _ _ _) ?_
  refine run_pure c ?_
  refine run_bind c ?_
  rw [k0_part115_eq_skeleton]
  unfold k0_part115_skel
  refine ld c (m := commM) (f := g) (Finset.subset_univ _) (pkm _ _ _ _ _ _ _ _ _ _ _) ?_
  refine ld c (m := commM) (f := g) (Finset.subset_univ _) (pkm _ _ _ _ _ _ _ _ _ _ _) ?_
  refine ld c (m := commM) (f := g) (Finset.subset_univ _) (pkm _ _ _ _ _ _ _ _ _ _ _) ?_
  refine ld c (m := commM) (f := g) (Finset.subset_univ _) (pkm _ _ _ _ _ _ _ _ _ _ _) ?_
  refine run_pure c ?_
  refine run_bind c ?_
  rw [k0_part116_eq_skeleton]
  unfold k0_part116_skel
  refine ld c (m := commM) (f := g) (Finset.subset_univ _) (pkm _ _ _ _ _ _ _ _ _ _ _) ?_
  refine ld c (m := commM) (f := g) (Finset.subset_univ _) (pkm _ _ _ _ _ _ _ _ _ _ _) ?_
  refine run_pure c ?_
  refine run_bind c ?_
  rw [k0_part117_eq_skeleton]
  unfold k0_part117_skel
  refine ld c (m := outM) (Finset.subset_univ _) (pko _ _ _ _ _ _ _ _ _ _ _) ?_
  refine st c (m := outM) fo _ (Finset.subset_univ _) (pko _ _ _ _ _ _ _ _ _ _ _) ?_
  refine run_pure c ?_
  iterate 3
    refine run_bind c ?_
    first | unfold k0_part118 | unfold k0_part119 | unfold k0_part120
    repeat first
        | with_reducible refine leave_if0 stg K c _ ?_ ?_ ?_ ?_ ?_
          · decide
          · decide
          · rfl
          · intro hk nx hh
            refine leave_hit stg K c 0 _ ?_ ?_ hk ?_ ?_ nx
            · decide
            · decide
            · rfl
            · rfl
        | with_reducible refine leave_if1 stg K c _ ?_ ?_ ?_ ?_ ?_
          · decide
          · decide
          · rfl
          · intro hk nx hh
            refine leave_hit stg K c 1 _ ?_ ?_ hk ?_ ?_ nx
            · decide
            · decide
            · rfl
            · rfl
        | with_reducible refine leave_if2 stg K c _ ?_ ?_ ?_ ?_ ?_
          · decide
          · decide
          · rfl
          · intro hk nx hh
            refine leave_hit stg K c 2 _ ?_ ?_ hk ?_ ?_ nx
            · decide
            · decide
            · rfl
            · rfl
    refine run_pure c ?_
  refine run_pure c ?_
  refine run_bind c ?_
  unfold k0_part164
  iterate 41
    refine run_bind c ?_
    first | unfold k0_part121 | unfold k0_part122 | unfold k0_part123 | unfold k0_part124 | unfold k0_part125 | unfold k0_part126 | unfold k0_part127 | unfold k0_part128 | unfold k0_part129 | unfold k0_part130 | unfold k0_part131 | unfold k0_part132 | unfold k0_part133 | unfold k0_part134 | unfold k0_part135 | unfold k0_part136 | unfold k0_part137 | unfold k0_part138 | unfold k0_part139 | unfold k0_part140 | unfold k0_part141 | unfold k0_part142 | unfold k0_part143 | unfold k0_part144 | unfold k0_part145 | unfold k0_part146 | unfold k0_part147 | unfold k0_part148 | unfold k0_part149 | unfold k0_part150 | unfold k0_part151 | unfold k0_part152 | unfold k0_part153 | unfold k0_part154 | unfold k0_part155 | unfold k0_part156 | unfold k0_part157 | unfold k0_part158 | unfold k0_part159 | unfold k0_part160 | unfold k0_part161
    repeat first
        | with_reducible refine leave_if0 stg K c _ ?_ ?_ ?_ ?_ ?_
          · decide
          · decide
          · rfl
          · intro hk nx hh
            refine leave_hit stg K c 0 _ ?_ ?_ hk ?_ ?_ nx
            · decide
            · decide
            · rfl
            · rfl
        | with_reducible refine leave_if1 stg K c _ ?_ ?_ ?_ ?_ ?_
          · decide
          · decide
          · rfl
          · intro hk nx hh
            refine leave_hit stg K c 1 _ ?_ ?_ hk ?_ ?_ nx
            · decide
            · decide
            · rfl
            · rfl
        | with_reducible refine leave_if2 stg K c _ ?_ ?_ ?_ ?_ ?_
          · decide
          · decide
          · rfl
          · intro hk nx hh
            refine leave_hit stg K c 2 _ ?_ ?_ hk ?_ ?_ nx
            · decide
            · decide
            · rfl
            · rfl
    refine run_pure c ?_
  refine run_pure c ?_
  repeat first
      | with_reducible refine leave_if0 stg K c _ ?_ ?_ ?_ ?_ ?_
        · decide
        · decide
        · rfl
        · intro hk nx hh
          refine leave_hit stg K c 0 _ ?_ ?_ hk ?_ ?_ nx
          · decide
          · decide
          · rfl
          · rfl
      | with_reducible refine leave_if1 stg K c _ ?_ ?_ ?_ ?_ ?_
        · decide
        · decide
        · rfl
        · intro hk nx hh
          refine leave_hit stg K c 1 _ ?_ ?_ hk ?_ ?_ nx
          · decide
          · decide
          · rfl
          · rfl
      | with_reducible refine leave_if2 stg K c _ ?_ ?_ ?_ ?_ ?_
        · decide
        · decide
        · rfl
        · intro hk nx hh
          refine leave_hit stg K c 2 _ ?_ ?_ hk ?_ ?_ nx
          · decide
          · decide
          · rfl
          · rfl
  refine run_pure c ?_
  exact next g hg

end Cert.KernelIdeal.Hand

end
-- ==== Proof.Body.lean ====
/-
  The body on one device, from what the launch hands it to what it leaves.
-/
module

public import proofs.«01_k».proof.Proof.Walk2
public import proofs.«01_k».proof.Proof.Gen.KernelIdeal.Frame
public import Idealize.ShloMosaic.Lib.Pipeline.DatRel

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F] [Named F]

local notation "𝕄" => MT nD τ sig Unit (Elt F) ℕ UU ℕ

variable (m : (ℓ : Loc nD τ sig) → Buf (Elt F) ℓ) (c : Dev nD)

/-! ## What a device is launched with -/

def X0 : S2x128x512.Idx → Elt F .bf16 := iblk m c 0 t0_0
def X1 : S512x256.Idx → Elt F .bf16 := iblk m c 1 t0_0
def X2 : S2x128x4x64.Idx → Elt F .bf16 := iblk m c 2 t0_0
def X3 : S2x128x4x64.Idx → Elt F .bf16 := iblk m c 3 t0_0
def X4 : S256x512.Idx → Elt F .bf16 := iblk m c 4 t0_0

/-- Every device's stage. -/
def stgs : Dev nD → SC F := fun c => stgOf (X2 m c) (X3 m c)

/-- What the result's buffer may hold at the end: the two rows computed from a landing buffer that has every device's codes where they land. -/
def OutRel (X : S2x128x512.Idx → Elt F .f32) : Prop :=
  ∃ (g : CC F) (fo : S2x128x512.Idx → Elt F .f32), Agree (stgs m) c g ∧ X = outM.view.writes (Elt F) fo (outPieces c (X0 m c) (X1 m c) (X4 m c) g)

/-! ## A device's cells, one by one -/

theorem kx_univ : (Finset.univ : Finset Kx) = insert none ((Finset.univ : Finset (Bool × D)).map Function.Embedding.some) := by
  ext x; cases x <;> simp

theorem kx_sep (Φ : Kx → sProp 𝕄) : bigSep Finset.univ Φ
    = iprop(Φ none ∗ bigSep Finset.univ (fun k : D => Φ (some (false, k))) ∗ bigSep Finset.univ (fun k : D => Φ (some (true, k)))) := by
  have h1 : bigSep (Finset.univ : Finset (Bool × D)) (fun p => Φ (some p))
      = iprop(bigSep Finset.univ (fun k : D => Φ (some (false, k))) ∗ bigSep Finset.univ (fun k : D => Φ (some (true, k)))) :=
    (bigSep_univ_prod (fun p : Bool × D => Φ (some p))).trans
      (bigSep_univ_eq_bigSepL [false, true] (by decide) (by decide) (fun b : Bool => bigSep Finset.univ fun k : D => Φ (some (b, k))))
  rw [kx_univ, bigSep_insert (by simp), bigSep_map]
  exact congrArg (fun X => iprop(Φ none ∗ X)) h1

/-- The round a cell is at when the body ends: the cells of distance 0 are never used. -/
def rr : Kx → ℕ
  | none => 1
  | some (_, k) => if k = 0 then 0 else 1

theorem rr_done (stg : Dev nD → SC F) (x : Kx) (r : ℕ) (hr : rr x ≤ r) : (Rd (F := F) stg).duties (kcell (c, x)) r = ∅ := by
  by_cases h : 1 ≤ r
  · exact duties_later stg _ r h
  · obtain rfl : r = 0 := by omega
    match x, hr with
    | some (false, k), hr =>
      have hk : k = 0 := by by_contra hk; simp [rr, hk] at hr
      subst hk; exact duties_sd0 stg c
    | some (true, k), hr =>
      have hk : k = 0 := by by_contra hk; simp [rr, hk] at hr
      subst hk; exact duties_rv0 stg c

theorem at_end : iprop(barEnd c ∗ (atPos ER (sdCell c 0) 0 ∅ 0 ∗ bigSep D1 (fun i => (atPos ER (sdCell c i) 1 ∅ 0 : sProp 𝕄)))
      ∗ (atPos ER (rvCell c 0) 0 ∅ 0 ∗ rvEnd c))
    ⊢ (bigSep Finset.univ (fun x : Kx => atPos ER (kcell (c, x)) (rr x) ∅ 0) : sProp 𝕄) := by
  have hs (b : Bool) : (iprop(atPos ER (kcell (c, some (b, 0))) 0 ∅ 0 ∗ bigSep D1 (fun i => (atPos ER (kcell (c, some (b, i))) 1 ∅ 0 : sProp 𝕄))) : sProp 𝕄)
      ⊢ bigSep Finset.univ (fun i : D => atPos ER (kcell (c, some (b, i))) (rr (some (b, i))) ∅ 0) := by
    refine BIBase.Entails.trans (BIClass.sep_mono (BI.Entails.refl _) ?_) (Entails.of_eq (bigSep_erase (Φ := fun i : D =>
      (atPos ER (kcell (c, some (b, i))) (rr (some (b, i))) ∅ 0 : sProp 𝕄)) (Finset.mem_univ (0 : D))).symm)
    refine bigSep_mono fun i hi => ?_
    rw [show rr (some (b, i)) = 1 from if_neg (Finset.ne_of_mem_erase hi)]
    exact BI.Entails.refl _
  unfold barEnd rvEnd
  iintro ⟨H0, H1, H2⟩
  iapply (Entails.of_eq (kx_sep (fun x : Kx => (atPos ER (kcell (c, x)) (rr x) ∅ 0 : sProp 𝕄))).symm)
  isplitl [H0]; · iexact H0
  isplitl [H1]
  · iapply (hs false) $$ H1
  · iapply (hs true) $$ H2

/-- All cells of a device close. -/
theorem close_all (stg : Dev nD → SC F) (K : Dev nD × Kx → ℕ) :
    iprop(recs stg K ∗ bigSep Finset.univ (fun x : Kx => atPos ER (kcell (c, x)) (rr x) ∅ 0))
      ⊢ (|={Set.univ}=> bigSep Finset.univ (fun x : Kx => semVal (kcell (c, x)) 0) : sProp 𝕄) := by
  refine BIBase.Entails.trans (bigSep_with_persistent (Ψ := fun x : Kx => (iprop(|={Set.univ}=> semVal (kcell (c, x)) 0) : sProp 𝕄)) fun x _ => ?_) (bigSep_fupd _ _)
  iintro ⟨Hr, Ha⟩
  ihave HI := (recs_inv stg K (c, x)) $$ Hr
  iapply (Rounds.cell_close ER (Rd stg) (Set.mem_univ (K (c, x))) (fun h => h) (R := rr x) (rr_done c stg x))
  isplitl [HI] <;> iassumption

/-! ## The landing buffer in pieces -/

theorem comm_split (f : CC F) : commPt c Finset.univ f
    ⊢ iprop(commPt c (slot 0) f ∗ bigSep D1 (fun i => iprop(∃ f : CC F, commPt c (landSet c (neg i)) f)) ∗ restC c) := by
  have h1 : commPt c Finset.univ f ⊢ (bigSep (Finset.univ : Finset D) (fun i => commPt c (slot i) f) : sProp 𝕄) :=
    (Entails.of_eq (congrArg (fun S => commPt c S f) slots.symm)).trans
      (Entails.of_eq (pointsTo_biUnion (ℓ := (c : Thread nD τ).loc cc0_scratch0) (q := fullShare) (f := f) (Finset.univ : Finset D) slot
        (fun i _ j _ hij => slot_disjoint i j hij)))
  have h2 : bigSep D1 (fun i => commPt c (slot i) f)
      ⊢ (bigSep D1 (fun i => iprop((∃ f : CC F, commPt c (landSet c i) f) ∗ (∃ f : CC F, commPt c (slot i \ landSet c i) f))) : sProp 𝕄) := by
    refine bigSep_mono fun i _ => ?_
    show (commPt c (slot i) f : sProp 𝕄) ⊢ iprop((∃ f : CC F, commPt c (landSet c i) f) ∗ (∃ f : CC F, commPt c (slot i \ landSet c i) f))
    have h3 : commPt c (slot i) f ⊢ iprop(commPt c (landSet c i) f ∗ commPt c (slot i \ landSet c i) f) :=
      (pointsTo_split_subset (ℓ := (c : Thread nD τ).loc cc0_scratch0) (q := fullShare) (f := f) (dset_slot _ _)).1
    iintro H
    ihave H := h3 $$ H
    icases H with ⟨H1, H2⟩
    isplitl [H1]
    · iexists f; iexact H1
    · iexists f; iexact H2
  have h4 : (bigSep D1 (fun i => iprop(∃ f : CC F, commPt c (landSet c i) f)) : sProp 𝕄)
      = bigSep D1 (fun i => iprop(∃ f : CC F, commPt c (landSet c (neg i)) f)) := by
    have e : D1.map turn.toEmbedding = D1 := by decide +kernel
    conv_lhs => rw [← e]
    exact bigSep_map (s := D1) turn.toEmbedding (Φ := fun i : D => (iprop(∃ f : CC F, commPt c (landSet c i) f) : sProp 𝕄))
  have h0 : bigSep (Finset.univ : Finset D) (fun i => commPt c (slot i) f) ⊢ (iprop(commPt c (slot 0) f ∗ bigSep D1 (fun i => commPt c (slot i) f)) : sProp 𝕄) :=
    Entails.of_eq (bigSep_erase (Φ := fun i : D => (commPt c (slot i) f : sProp 𝕄)) (Finset.mem_univ (0 : D)))
  unfold restC
  iintro H
  ihave H := h1 $$ H
  ihave H := h0 $$ H
  icases H with ⟨H0, H⟩
  isplitl [H0]; · iexact H0
  ihave H := h2 $$ H
  ihave H := (Entails.of_eq (bigSep_sep' D1 (fun i => (iprop(∃ f : CC F, commPt c (landSet c i) f) : sProp 𝕄)) (fun i => iprop(∃ f : CC F, commPt c (slot i \ landSet c i) f)))) $$ H
  icases H with ⟨H1, H2⟩
  isplitl [H1]
  · iapply (Entails.of_eq h4) $$ H1
  · iexact H2

/-! ## Before and after the body -/

/-- A device's positions in its cells, and the tokens of the deposits it makes. -/
def lin : sProp 𝕄 :=
  iprop(bigSep Finset.univ (fun x : Kx => atPos ER (kcell (c, x)) 0 ∅ 0)
    ∗ bigSep D1 (fun i => dutyTok ER (barCell (up i c)) 0 (neg i))
    ∗ bigSep D1 (fun i => iprop(dutyTok ER (sdCell c i) 0 0 ∗ dutyTok ER (rvCell (up i c) i) 0 0)))
/-- What a device starts with beside its buffers. -/
def start (stg : Dev nD → SC F) : sProp 𝕄 :=
  iprop((∃ K, recs stg K ∗ lin c) ∗ cred (tallyAt (barCell c) () 31)
    ∗ bigSep D1 (fun i => cred (tallyAt (rvCell c i) () (amt (kup (dn i c) i)))))
/-- The two scratch buffers. -/
def scr : sProp 𝕄 := iprop((∃ f : CC F, commPt c Finset.univ f) ∗ (∃ f : SC F, stagePt c Finset.univ fullShare f))

def Φ₀ : sProp 𝕄 := iprop(start c (stgs m) ∗ scr c)
def Φ₁ : sProp 𝕄 := iprop(scr (F := F) c ∗ bigSep Finset.univ (fun x : Kx => semVal (kcell (c, x)) 0))

/-- The five staged inputs. -/
def ins : sProp 𝕄 := iprop(wpt c cc0_stg0_0 (X0 m c) ∗ wpt c cc0_stg1_0 (X1 m c) ∗ wpt c cc0_stg2_0 (X2 m c) ∗ wpt c cc0_stg3_0 (X3 m c) ∗ wpt c cc0_stg4_0 (X4 m c))

theorem lin_split : lin c ⊢ (iprop(atPos ER (barCell c) 0 ∅ 0 ∗ (atPos ER (sdCell c 0) 0 ∅ 0 ∗ sdStart c)
      ∗ (atPos ER (rvCell c 0) 0 ∅ 0 ∗ bigSep D1 (fun i => (atPos ER (rvCell c i) 0 ∅ 0 : sProp 𝕄)))
      ∗ bigSep D1 (fun i => dutyTok ER (barCell (up i c)) 0 (neg i))
      ∗ bigSep D1 (fun i => iprop(dutyTok ER (sdCell c i) 0 0 ∗ dutyTok ER (rvCell (up i c) i) 0 0))) : sProp 𝕄) := by
  unfold lin sdStart
  iintro ⟨H, Hb, Hs⟩
  ihave H := (Entails.of_eq (kx_sep (fun x : Kx => (atPos ER (kcell (c, x)) 0 ∅ 0 : sProp 𝕄)))) $$ H
  icases H with ⟨H0, H1, H2⟩
  ihave H1 := (Entails.of_eq (bigSep_erase (Φ := fun i : D => (atPos ER (kcell (c, some (false, i))) 0 ∅ 0 : sProp 𝕄)) (Finset.mem_univ (0 : D)))) $$ H1
  ihave H2 := (Entails.of_eq (bigSep_erase (Φ := fun i : D => (atPos ER (kcell (c, some (true, i))) 0 ∅ 0 : sProp 𝕄)) (Finset.mem_univ (0 : D)))) $$ H2
  isplitl [H0]; · iexact H0
  isplitl [H1]; · iexact H1
  isplitl [H2]; · iexact H2
  isplitl [Hb] <;> iassumption

/-- The body, from the inputs, the output's buffer and what the device starts with. -/
theorem body_run (fo : S2x128x512.Idx → Elt F .f32) :
    iprop(Φ₀ m c ∗ Ow c (Obar c 1) ∗ ins m c ∗ wpt c cc0_stg5_0 fo)
    ⊢ run c (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        outM (Memref.isWhole_whole _) commM (Memref.isWhole_whole _) stageM (Memref.isWhole_whole _) cc0_scratch2 cc0_scratch3)
      (fun _ => iprop(Φ₁ c ∗ Ow c 0 ∗ ins m c ∗ ∃ X, ⌜OutRel m c X⌝ ∗ wpt c cc0_stg5_0 X)) := by
  unfold Φ₀ start scr
  iintro ⟨⟨⟨⟨%K, #Hr, Hlin⟩, Hcb, Hcr⟩, ⟨%fc, Hc⟩, ⟨%f0, Hs⟩⟩, Ho, Hin, Hout⟩
  ihave Hlin := (lin_split c) $$ Hlin
  icases Hlin with ⟨Hab, ⟨Has0, Has⟩, ⟨Har0, Har⟩, Htb, Htc⟩
  ihave Hc := (comm_split c fc) $$ Hc
  icases Hc with ⟨Hc0, Hcl, Hrest⟩
  unfold ins
  icases Hin with ⟨H0, H1, H2, H3, H4⟩
  iapply (wp_fupd frame (wpE (defs₀ (F := F)) 𝒱₀ (c : Thread nD τ) none) _ _)
  iapply (walk (stgs m) K c f0 fc fo (x0 := X0 m c) (x1 := X1 m c) (x2 := X2 m c) (x3 := X3 m c) (x4 := X4 m c)
    (R := iprop(atPos ER (sdCell c 0) 0 ∅ 0 ∗ atPos ER (rvCell c 0) 0 ∅ 0)) rfl ?_)
  · intro g hg
    unfold tE
    rw [tri_zero]
    unfold stE
    iintro ⟨⟨#Hr, Ho, Hsw⟩, H0, H1, H2, H3, H4, Hs, Hc, Hout, Hbe, Hre, Hs0, Hr0⟩
    ihave Hsw := (sweep_end _ _) $$ Hsw
    ihave Hsw := (Entails.of_eq (bigSep_sep' D1 (fun i => (stagePt c Finset.univ (lf i) (stgs m c) : sProp 𝕄)) (fun i => atPos ER (sdCell c i) 1 ∅ 0))) $$ Hsw
    icases Hsw with ⟨Hl, Hsd⟩
    ihave Hst := (stage_unleaves c (stgs m c)) $$ [Hs Hl]
    · isplitl [Hs] <;> iassumption
    ihave Hat := (at_end (F := F) c) $$ [Hbe Hre Hs0 Hr0 Hsd]
    · isplitl [Hbe]; · iexact Hbe
      isplitl [Hs0 Hsd]
      · isplitl [Hs0] <;> iassumption
      isplitl [Hr0] <;> iassumption
    imod (close_all c (stgs m) K) $$ [Hat] with Hz
    · isplitr; · iexact Hr
      iexact Hat
    imodintro
    unfold Φ₁ scr
    isplitl [Hst Hc Hz]
    · isplitl [Hst Hc]
      · isplitl [Hc]
        · iexists g; iexact Hc
        · iexists (stgs m c); iexact Hst
      · iexact Hz
    isplitl [Ho]; · iexact Ho
    isplitl [H0 H1 H2 H3 H4]
    · isplitl [H0]; · iexact H0
      isplitl [H1]; · iexact H1
      isplitl [H2]; · iexact H2
      isplitl [H3] <;> iassumption
    iexists (outM.view.writes (Elt F) fo (outPieces c (X0 m c) (X1 m c) (X4 m c) g))
    isplitr
    · ipureintro; exact ⟨g, fo, hg, rfl⟩
    iexact Hout
  · unfold stA barStart rvStart
    isplitl [Ho Hcl Htb]
    · isplitr; · iexact Hr
      isplitl [Ho]; · iexact Ho
      iapply (sweep_start _ _)
      iapply (Entails.of_eq (bigSep_sep' D1 (fun i => (iprop(∃ f : CC F, commPt c (landSet c (neg i)) f) : sProp 𝕄)) (fun i => dutyTok ER (barCell (up i c)) 0 (neg i))).symm)
      isplitl [Hcl] <;> iassumption
    isplitl [H0]; · iexact H0
    isplitl [H1]; · iexact H1
    isplitl [H2]; · iexact H2
    isplitl [H3]; · iexact H3
    isplitl [H4]; · iexact H4
    isplitl [Hs]; · iexact Hs
    isplitl [Hc0]; · iexact Hc0
    isplitl [Hout]; · iexact Hout
    isplitl [Hab Hcb Htc]
    · isplitl [Hab]; · iexact Hab
      isplitl [Hcb] <;> iassumption
    isplitl [Hcr Har]
    · iapply (Entails.of_eq (bigSep_sep' D1 (fun i => (cred (tallyAt (rvCell c i) () (amt (kup (dn i c) i))) : sProp 𝕄)) (fun i => atPos ER (rvCell c i) 0 ∅ 0)).symm)
      isplitl [Hcr] <;> iassumption
    isplitl [Hrest]; · iexact Hrest
    isplitl [Has]; · iexact Has
    isplitl [Has0] <;> iassumption

end Cert.KernelIdeal.Hand

end
-- ==== Proof.Region.lean ====
/-
  The one region: what its windows hold and that the body keeps to it.
-/
module

public import proofs.«01_k».proof.Proof.Body

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig Unit (Elt F) ℕ UU ℕ

variable (m : (ℓ : Loc nD τ sig) → Buf (Elt F) ℓ)

/-- The inputs are left as found; the result is held to `OutRel`. -/
def dats (_ : Fin 1) (c : Dev nD) : Dat τ (Elt F) Unit ℕ UU ℕ cfg0 c where
  A w := m ((cfg0.win w).arr.view.loc (c : Thread nD τ))
  after w _ := match w with
    | ⟨0, _⟩ => X0 m c
    | ⟨1, _⟩ => X1 m c
    | ⟨2, _⟩ => X2 m c
    | ⟨3, _⟩ => X3 m c
    | ⟨4, _⟩ => X4 m c
    | ⟨5, _⟩ => fun _ => Classical.arbitrary _
  Φ t := match t with
    | ⟨0, _⟩ => Φ₀ m c
    | ⟨_ + 1, _⟩ => Φ₁ c
  q _ := fullShare
  owed t := match t with
    | ⟨0, _⟩ => Obar c 1
    | ⟨_ + 1, _⟩ => 0

/-- The window of the result. -/
def fgt (w : Fin cfg0.W) : Bool := match w with
  | ⟨5, _⟩ => true
  | ⟨0, _⟩ | ⟨1, _⟩ | ⟨2, _⟩ | ⟨3, _⟩ | ⟨4, _⟩ => false

def Rl (c : Dev nD) (w : Fin cfg0.W) (_ : Fin cfg0.N) : ((cfg0.win w).block.Idx → Elt F (cfg0.win w).elt) → Prop := match w with
  | ⟨5, _⟩ => fun X => OutRel m c X
  | ⟨0, _⟩ | ⟨1, _⟩ | ⟨2, _⟩ | ⟨3, _⟩ | ⟨4, _⟩ => fun _ => True

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ wpt c b f) := by
  unfold owns; simp only [Memref.view_whole, View.read_whole, View.set_whole]

theorem owns_in (c : Dev nD) (b : Ref sig .tc) (X : b.ty.Contents (Elt F)) :
    (owns (Ix := Unit) (Name := ℕ) (U := UU) (Lvl := ℕ) (c : Thread nD τ) (Memref.whole b) fullShare X : sProp 𝕄) ⊢ wpt c b X := by
  rw [owns_whole_eq]
  iintro ⟨%f, %hf, H⟩
  subst hf; iexact H
theorem owns_out (c : Dev nD) (b : Ref sig .tc) (X : b.ty.Contents (Elt F)) :
    wpt c b X ⊢ (owns (Ix := Unit) (Name := ℕ) (U := UU) (Lvl := ℕ) (c : Thread nD τ) (Memref.whole b) fullShare X : sProp 𝕄) := by
  rw [owns_whole_eq]
  iintro H
  iexists X
  isplitr; · (ipureintro; rfl)
  iexact H

section Before
variable (c : Dev nD)
theorem before_0 (d) : (dats m 0 c).before (0 : Fin 6) t0_0 d = X0 m c := by
  unfold Dat.before; rw [if_pos (fetch0_0 _)]; unfold Dat.fetched Dat.blockOf X0 iblk; rfl
theorem before_1 (d) : (dats m 0 c).before (1 : Fin 6) t0_0 d = X1 m c := by
  unfold Dat.before; rw [if_pos (fetch0_1 _)]; unfold Dat.fetched Dat.blockOf X1 iblk; rfl
theorem before_2 (d) : (dats m 0 c).before (2 : Fin 6) t0_0 d = X2 m c := by
  unfold Dat.before; rw [if_pos (fetch0_2 _)]; unfold Dat.fetched Dat.blockOf X2 iblk; rfl
theorem before_3 (d) : (dats m 0 c).before (3 : Fin 6) t0_0 d = X3 m c := by
  unfold Dat.before; rw [if_pos (fetch0_3 _)]; unfold Dat.fetched Dat.blockOf X3 iblk; rfl
theorem before_4 (d) : (dats m 0 c).before (4 : Fin 6) t0_0 d = X4 m c := by
  unfold Dat.before; rw [if_pos (fetch0_4 _)]; unfold Dat.fetched Dat.blockOf X4 iblk; rfl
end Before

/-- A staging buffer held as `owns` holds it. -/
abbrev own (c : Dev nD) (b : Ref sig .tc) (X : b.ty.Contents (Elt F)) : sProp 𝕄 :=
  owns (Ix := Unit) (Name := ℕ) (U := UU) (Lvl := ℕ) (c : Thread nD τ) (Memref.whole b) fullShare X

def bodyPre (c : Dev nD) : sProp 𝕄 :=
  iprop(Φ₀ m c ∗ (dats m 0 c).owesAt () t0_0.castSucc
    ∗ (∃ d, own c cc0_stg0_0 ((dats m 0 c).before (0 : Fin 6) t0_0 d))
    ∗ (∃ d, own c cc0_stg1_0 ((dats m 0 c).before (1 : Fin 6) t0_0 d))
    ∗ (∃ d, own c cc0_stg2_0 ((dats m 0 c).before (2 : Fin 6) t0_0 d))
    ∗ (∃ d, own c cc0_stg3_0 ((dats m 0 c).before (3 : Fin 6) t0_0 d))
    ∗ (∃ d, own c cc0_stg4_0 ((dats m 0 c).before (4 : Fin 6) t0_0 d))
    ∗ (∃ Y, ⌜((dats m 0 c).toRRel fgt (Rl m c)).Finds (5 : Fin 6) t0_0 Y⌝ ∗ own c cc0_stg5_0 Y))
def bodyPost (c : Dev nD) : sProp 𝕄 :=
  iprop(Φ₁ c ∗ (dats m 0 c).owesAt () t0_0.succ
    ∗ own c cc0_stg0_0 (X0 m c) ∗ own c cc0_stg1_0 (X1 m c) ∗ own c cc0_stg2_0 (X2 m c) ∗ own c cc0_stg3_0 (X3 m c) ∗ own c cc0_stg4_0 (X4 m c)
    ∗ (∃ X, ⌜OutRel m c X⌝ ∗ own c cc0_stg5_0 X))

theorem body_ok (c : Dev nD) : bodyPre m c ⊢ run c (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        outM (Memref.isWhole_whole _) commM (Memref.isWhole_whole _) stageM (Memref.isWhole_whole _) cc0_scratch2 cc0_scratch3) (fun _ => bodyPost m c) := by
  unfold bodyPre
  iintro ⟨HΦ, Ho, ⟨%d0, H0⟩, ⟨%d1, H1⟩, ⟨%d2, H2⟩, ⟨%d3, H3⟩, ⟨%d4, H4⟩, ⟨%Y, -, H5⟩⟩
  ihave H0 := (BIBase.Entails.trans (Entails.of_eq (congrArg (own c cc0_stg0_0) (before_0 m c d0))) (owns_in c cc0_stg0_0 (X0 m c))) $$ H0
  ihave H1 := (BIBase.Entails.trans (Entails.of_eq (congrArg (own c cc0_stg1_0) (before_1 m c d1))) (owns_in c cc0_stg1_0 (X1 m c))) $$ H1
  ihave H2 := (BIBase.Entails.trans (Entails.of_eq (congrArg (own c cc0_stg2_0) (before_2 m c d2))) (owns_in c cc0_stg2_0 (X2 m c))) $$ H2
  ihave H3 := (BIBase.Entails.trans (Entails.of_eq (congrArg (own c cc0_stg3_0) (before_3 m c d3))) (owns_in c cc0_stg3_0 (X3 m c))) $$ H3
  ihave H4 := (BIBase.Entails.trans (Entails.of_eq (congrArg (own c cc0_stg4_0) (before_4 m c d4))) (owns_in c cc0_stg4_0 (X4 m c))) $$ H4
  ihave H5 := (owns_in c cc0_stg5_0 Y) $$ H5
  unfold Dat.owesAt Pipeline.owesWithin
  icases Ho with ⟨%W, %hW, HO⟩
  have e0 : (dats m 0 c).owed t0_0.castSucc = Obar c 1 := rfl
  have e1 : (dats m 0 c).owed t0_0.succ = 0 := rfl
  ihave HO := (Entails.of_eq (congrArg (fun O => (owes (c : Thread nD τ) O W : sProp 𝕄)) e0)) $$ HO
  iapply (wp_mono frame (wpE (defs₀ (F := F)) 𝒱₀ (c : Thread nD τ) none) _ (Q := fun _ => iprop(Φ₁ c ∗ Ow c 0 ∗ ins m c ∗ ∃ X, ⌜OutRel m c X⌝ ∗ wpt c cc0_stg5_0 X)) fun x => ?_)
  · unfold bodyPost ins Ow Dat.owesAt Pipeline.owesWithin
    rw [e1]
    iintro ⟨HΦ, ⟨%W, HO⟩, ⟨H0, H1, H2, H3, H4⟩, ⟨%X, %hX, H5⟩⟩
    isplitl [HΦ]; · iexact HΦ
    isplitl [HO]
    · iexists W
      isplitr; · (ipureintro; exact fun _ _ => Or.inl trivial)
      iexact HO
    isplitl [H0]; · iapply (owns_out c cc0_stg0_0 (X0 m c)) $$ H0
    isplitl [H1]; · iapply (owns_out c cc0_stg1_0 (X1 m c)) $$ H1
    isplitl [H2]; · iapply (owns_out c cc0_stg2_0 (X2 m c)) $$ H2
    isplitl [H3]; · iapply (owns_out c cc0_stg3_0 (X3 m c)) $$ H3
    isplitl [H4]; · iapply (owns_out c cc0_stg4_0 (X4 m c)) $$ H4
    iexists X
    isplitr; · (ipureintro; exact hX)
    iapply (owns_out c cc0_stg5_0 X) $$ H5
  · iapply (body_run m c Y)
    isplitl [HΦ]; · iexact HΦ
    isplitl [HO]
    · unfold Ow; iexists W; iexact HO
    unfold ins
    isplitr [H5]
    · isplitl [H0]; · iexact H0
      isplitl [H1]; · iexact H1
      isplitl [H2]; · iexact H2
      isplitl [H3] <;> iassumption
    iexact H5

theorem body_obligation (c : Dev nD) : BodyObligationRel (dats (F := F) m 0 c) (defs₀ (F := F)) 𝒱₀ () Set.univ fgt (Rl m c) := fun t => by
  rw [fin_N0 t, bigSep_W0, bigSep_W0]
  exact body_ok m c

end Cert.KernelIdeal.Hand

end
-- ==== Proof.Launch.lean ====
/-
  The launch: the cells and tokens dealt to the devices, and the run of all devices.
-/
module

public import proofs.«01_k».proof.Proof.Region
public import Idealize.ShloMosaic.Lib.Pipeline.ArrRel
public import Idealize.ShloMosaic.Lib.Pipeline.CollectiveSegs

@[expose] public section

set_option backward.proofsInPublic true

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig Unit (Elt F) ℕ UU ℕ

variable (m : (ℓ : Loc nD τ sig) → Buf (Elt F) ℓ)

/-! ## Cells -/

/-- The kernel's own semaphores. -/
def osem (x : Bool × D) : SemLoc sig := ksem (some x)

theorem rv_ne_bar (k : D) : (SemLoc.dma (rvq k) : SemLoc sig) ≠ .reg barS := nofun

theorem ksem_injective : Function.Injective ksem := by
  have hs (k : D) : (sdq k).val = 6 + k.val := rfl
  have hr (k : D) : (rvq k).val = 38 + k.val := rfl
  have key (a b : DmaSem sig) (h : (SemLoc.dma a : SemLoc sig) = .dma b) : a.val = b.val := by injection h with h; rw [h]
  intro x y h
  match x, y, h with
  | none, none, _ => rfl
  | none, some (false, k), h => exact absurd h nofun
  | none, some (true, k), h => exact absurd h nofun
  | some (false, k), none, h => exact absurd h nofun
  | some (true, k), none, h => exact absurd h nofun
  | some (false, k), some (false, k'), h => have := key _ _ h; rw [hs, hs] at this; rw [show k = k' from Fin.ext (by omega)]
  | some (true, k), some (true, k'), h => have := key _ _ h; rw [hr, hr] at this; rw [show k = k' from Fin.ext (by omega)]
  | some (false, k), some (true, k'), h => have := key _ _ h; rw [hs, hr] at this; have := k.isLt; omega
  | some (true, k), some (false, k'), h => have := key _ _ h; rw [hr, hs] at this; have := k'.isLt; omega

theorem ownSemFacts : Pipeline.OwnSemFacts cfg0.spec osem := by
  refine ⟨fun k => by revert k; decide +kernel, fun x y h => Option.some.inj (ksem_injective h), fun k w s => by revert k w s; decide +kernel⟩

theorem kcell_injective : Function.Injective (kcell : Dev nD × Kx → GSem nD τ sig) := by
  rintro ⟨c, k⟩ ⟨c', k'⟩ h
  have h1 : c = c' := congrArg (fun g : GSem nD τ sig => g.1.1) h
  have h2 : ksem k = ksem k' := congrArg Prod.snd h
  rw [h1, ksem_injective h2]

/-- All cells, and all tokens: a device's barrier token of every distance, and the token of each departure and each arrival. -/
def allCells : Finset (GSem nD τ sig) := Finset.univ.map ⟨kcell, kcell_injective⟩
abbrev tokOf (x : Dev nD × Option Bool × D) : GSem nD τ sig × ℕ × D := match x.2.1 with
  | none => (barCell x.1, 0, x.2.2)
  | some b => (kcell (x.1, some (b, x.2.2)), 0, 0)
theorem tokOf_injective : Function.Injective tokOf := by
  rintro ⟨c, a, k⟩ ⟨c', a', k'⟩ h
  have hc : (c, a.map fun b => (b, k)) = (c', a'.map fun b => (b, k')) := by
    refine kcell_injective ?_
    cases a <;> cases a' <;> exact congrArg Prod.fst h
  have h1 : c = c' := congrArg Prod.fst hc
  have h2 : (a.map fun b => (b, k)) = (a'.map fun b => (b, k')) := congrArg Prod.snd hc
  subst h1
  cases a <;> cases a'
  · have h3 : k = k' := congrArg (fun x : GSem nD τ sig × ℕ × D => x.2.2) h
    rw [h3]
  · exact absurd h2 nofun
  · exact absurd h2 nofun
  · have h3 := Option.some.inj h2
    rw [show k = k' from congrArg Prod.snd h3]; exact congrArg (fun b => (c, some b, k')) (congrArg Prod.fst h3)
def allToks : Finset (GSem nD τ sig × ℕ × D) := Finset.univ.map ⟨tokOf, tokOf_injective⟩

def u₀ : UU := (initOf (Pipeline.cells cfgs cellOf_inj) (Pipeline.launchToks cfgs cellOf_inj), initOf allCells allToks)

/-- The tokens of a device's own cells. -/
def toks (c : Dev nD) : sProp 𝕄 :=
  iprop(bigSep Finset.univ (fun k : D => dutyTok ER (barCell c) 0 k) ∗ bigSep Finset.univ (fun k : D => dutyTok ER (sdCell c k) 0 0)
    ∗ bigSep Finset.univ (fun k : D => dutyTok ER (rvCell c k) 0 0))

def G (c : Dev nD) : sProp 𝕄 :=
  iprop(bigSep Finset.univ (fun x : Kx => roundState ER (Rd (stgs m)) (kcell (c, x)) 0)
    ∗ (bigSep Finset.univ (fun x : Kx => atPos ER (kcell (c, x)) 0 ∅ 0) ∗ bigSep Finset.univ (fun x : Kx => reached ER (kcell (c, x)) 0)) ∗ toks c)

theorem toks_eq : (bigSep allToks (fun x => (dutyTok ER x.1 x.2.1 x.2.2 : sProp 𝕄))) = bigSep Finset.univ fun c : Dev nD => toks c := by
  have hB (Ψ : Option Bool → sProp 𝕄) : bigSep Finset.univ Ψ = iprop(Ψ none ∗ Ψ (some false) ∗ Ψ (some true)) :=
    bigSep_univ_eq_bigSepL [none, some false, some true] (by decide) (by decide) Ψ
  unfold allToks
  rw [bigSep_map, bigSep_univ_prod]
  exact bigSep_congr fun c _ => by unfold toks; rw [bigSep_univ_prod, hB]; rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Kx => Φ (kcell (c, x)) := by
    unfold allCells; rw [bigSep_map, bigSep_univ_prod]; rfl
  iintro HX
  imod (Rounds.fund ER (Rd (stgs m)) allCells allToks) $$ HX with ⟨Hst, Hr, Hat, Htok⟩
  imodintro
  ihave Hst' := (Entails.of_eq (hX fun g => roundState ER (Rd (stgs m)) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-! ## Semaphores at zero -/

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    (bigSep Finset.univ fun x : Kx => semVal (kcell (c, x)) 0 : sProp 𝕄)
      = iprop(unscopedSems0 c ∗ Pipeline.ownSems0 (Ix := Unit) (Name := ℕ) (U := UU) (Lvl := ℕ) (Val := Elt F) (τ := τ) osem c) := by
  rw [unscopedSems0_eq, kx_univ, bigSep_insert (by simp), bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (Rd (stgs m)) κ (kcell (c, x))))
          ∗ (bigSep Finset.univ (fun x : Kx => atPos ER (kcell (c, x)) 0 ∅ 0) ∗ bigSep Finset.univ (fun x : Kx => reached ER (kcell (c, x)) 0)) ∗ toks c) := by
  have ha : iprop((bigSep Finset.univ fun x : Kx => semVal (kcell (c, x)) 0) ∗ bigSep Finset.univ fun x : Kx => roundState ER (Rd (stgs m)) (kcell (c, x)) 0)
      ⊢ (|={Set.univ}=> bigSep Finset.univ fun x => iprop(∃ κ : ℕ, cellInv ER (Rd (stgs m)) κ (kcell (c, x))) : sProp 𝕄) := by
    rw [← bigSep_sep']
    exact (bigSep_mono fun x _ => (Rounds.body_intro ER (Rd (stgs m)) (kcell (c, x))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

/-! ## The tokens to those who deposit -/

def payToks (c : Dev nD) : sProp 𝕄 :=
  iprop(bigSep D1 (fun i => dutyTok ER (barCell (up i c)) 0 (neg i))
    ∗ bigSep D1 (fun i => iprop(dutyTok ER (sdCell c i) 0 0 ∗ dutyTok ER (rvCell (up i c) i) 0 0)))

theorem around (Φ : Dev nD → D → sProp 𝕄) :
    bigSep Finset.univ (fun c : Dev nD => bigSep Finset.univ fun k : D => Φ c k)
      = bigSep Finset.univ (fun c : Dev nD => bigSep Finset.univ fun k : D => Φ (up k c) k) := by
  rw [bigSep_univ_comm, bigSep_univ_comm (fun c k => Φ (up k c) k)]
  exact bigSep_congr fun k _ => bigSep_univ_equiv (shift k) (fun c => Φ c k)

theorem toks_around : (bigSep Finset.univ fun c : Dev nD => (toks c : sProp 𝕄)) ⊢ bigSep Finset.univ fun c : Dev nD => payToks c := by
  have h1 : (bigSep Finset.univ fun c : Dev nD => bigSep Finset.univ fun k : D => (dutyTok ER (barCell c) 0 k : sProp 𝕄))
      ⊢ bigSep Finset.univ fun c : Dev nD => bigSep D1 fun i => dutyTok ER (barCell (up i c)) 0 (neg i) := by
    refine (Entails.of_eq (bigSep_congr fun c _ => bigSep_univ_equiv turn (fun k : D => (dutyTok ER (barCell c) 0 k : sProp 𝕄)))).trans ?_
    refine (Entails.of_eq (around fun c i => (dutyTok ER (barCell c) 0 (neg i) : sProp 𝕄))).trans ?_
    exact bigSep_mono fun c _ => bigSep_subset (Finset.erase_subset _ _)
  have h2 : (bigSep Finset.univ fun c : Dev nD => bigSep Finset.univ fun k : D => (dutyTok ER (sdCell c k) 0 0 : sProp 𝕄))
      ⊢ bigSep Finset.univ fun c : Dev nD => bigSep D1 fun i => dutyTok ER (sdCell c i) 0 0 :=
    bigSep_mono fun c _ => bigSep_subset (Finset.erase_subset _ _)
  have h3 : (bigSep Finset.univ fun c : Dev nD => bigSep Finset.univ fun k : D => (dutyTok ER (rvCell c k) 0 0 : sProp 𝕄))
      ⊢ bigSep Finset.univ fun c : Dev nD => bigSep D1 fun i => dutyTok ER (rvCell (up i c) i) 0 0 :=
    (Entails.of_eq (around fun c i => (dutyTok ER (rvCell c i) 0 0 : sProp 𝕄))).trans (bigSep_mono fun c _ => bigSep_subset (Finset.erase_subset _ _))
  unfold toks payToks
  simp only [bigSep_sep']
  iintro ⟨H1, H2, H3⟩
  isplitl [H1]; · iapply h1 $$ H1
  isplitl [H2]; · iapply h2 $$ H2
  iapply h3 $$ H3

def G' (c : Dev nD) : sProp 𝕄 := iprop(∃ K : Dev nD × Kx → ℕ, (bigSep Finset.univ (fun x : Dev nD × Kx => cellInv ER (Rd (stgs m)) (K x) (kcell x))
  ∗ bigSep Finset.univ (fun x : Dev nD × Kx => reached ER (kcell x) 0)) ∗ lin c)

theorem deal :
    (bigSep Finset.univ fun c : Dev nD => iprop((bigSep Finset.univ fun x => iprop(∃ κ : ℕ, cellInv ER (Rd (stgs m)) κ (kcell (c, x))))
          ∗ (bigSep Finset.univ (fun x : Kx => atPos ER (kcell (c, x)) 0 ∅ 0) ∗ bigSep Finset.univ (fun x : Kx => reached ER (kcell (c, x)) 0)) ∗ toks c) : sProp 𝕄)
      ⊢ bigSep Finset.univ (G' m) := by
  have hG (K : Dev nD × Kx → ℕ) (c : Dev nD) : iprop((bigSep Finset.univ (fun x : Dev nD × Kx => cellInv ER (Rd (stgs m)) (K x) (kcell x))
      ∗ bigSep Finset.univ (fun x : Dev nD × Kx => reached ER (kcell x) 0)) ∗ lin c) ⊢ G' m c := by
    unfold G'; iintro H; iexists K; iexact H
  rw [bigSep_sep', bigSep_sep', bigSep_sep', ← bigSep_univ_prod (fun x : Dev nD × Kx => iprop(∃ κ : ℕ, cellInv ER (Rd (stgs m)) κ (kcell x))),
    ← bigSep_univ_prod (fun x : Dev nD × Kx => (reached ER (kcell x) 0 : sProp 𝕄))]
  iintro ⟨HI, ⟨Hat, #HR⟩, Htok⟩
  ihave HK := (BI.bigSep_exists_pi Finset.univ (fun (x : Dev nD × Kx) (κ : ℕ) => (cellInv ER (Rd (stgs m)) κ (kcell x) : sProp 𝕄))) $$ HI
  icases HK with ⟨%K, #HI⟩
  ihave Htk := (toks_around (F := F)) $$ Htok
  iapply (bigSep_with_persistent (R := iprop(bigSep Finset.univ (fun x : Dev nD × Kx => cellInv ER (Rd (stgs m)) (K x) (kcell x))
      ∗ bigSep Finset.univ (fun x : Dev nD × Kx => (reached ER (kcell x) 0 : sProp 𝕄)))) fun c _ => hG K c)
  isplitr
  · isplitl; · iexact HI
    iexact HR
  · iapply ((Entails.of_eq (bigSep_sep' Finset.univ (fun c : Dev nD => bigSep Finset.univ fun x : Kx => (atPos ER (kcell (c, x)) 0 ∅ 0 : sProp 𝕄)) payToks).symm).trans
      (bigSep_mono fun c _ => show _ ⊢ lin c from Entails.of_eq (by unfold lin payToks; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (deal m))

/-! ## The credit -/

theorem bar_eq_iff {a b : Dev nD} : Iff (barCell a = barCell b) (a = b) :=
  ⟨fun h => congrArg (fun g : GSem nD τ sig => g.1.1) h, fun h => h ▸ rfl⟩
theorem rv_eq_iff {a b : Dev nD} {i k : D} : Iff (rvCell a i = rvCell b k) (a = b ∧ i = k) :=
  ⟨fun h => by
    have h1 := kcell_injective (a₁ := (a, some (true, i))) (a₂ := (b, some (true, k))) h
    exact ⟨congrArg Prod.fst h1, by have := Option.some.inj (congrArg Prod.snd h1); exact congrArg Prod.snd this⟩,
   fun ⟨h, h'⟩ => by rw [h, h']⟩

theorem tallies_apply {ι : Type} (S : Finset ι) (g' : ι → GSem nD τ sig) (n : ι → ℕ) (g : GSem nD τ sig) :
    (∑ i ∈ S, tallyAt (g' i) () (n i) : CellTallies nD τ sig Unit) g () = ∑ i ∈ S, if g = g' i then n i else 0 := by
  rw [Finset.sum_apply, Finsupp.finset_sum_apply]
  refine Finset.sum_congr rfl fun i _ => ?_
  rw [tallyAt_apply]
  by_cases h : g = g' i
  · rw [if_pos ⟨h, rfl⟩, if_pos h]
  · rw [if_neg fun h' => h h'.1, if_neg h]

theorem owed_bar (d c : Dev nD) : Obar d 1 (barCell c) () = ∑ i ∈ D1, if c = up i d then 1 else 0 := by
  unfold Obar Orv
  rw [Pi.add_apply, Finsupp.add_apply, tallies_apply, tallies_apply, seg_one, Finset.sum_eq_zero fun i _ => if_neg fun h => rv_ne_bar i (congrArg Prod.snd h).symm, zero_add]
  exact Finset.sum_congr rfl fun i _ => by simp only [bar_eq_iff]

theorem owed_rv (d c : Dev nD) (k : D) (hk : k ≠ 0) : Obar d 1 (rvCell c k) () = if c = up k d then amt (kup d k) else 0 := by
  unfold Obar Orv
  rw [Pi.add_apply, Finsupp.add_apply, tallies_apply, tallies_apply, seg_one,
    Finset.sum_eq_zero (s := Finset.univ.erase 0) (f := fun i => if rvCell c k = barCell (up i d) then 1 else 0) fun i _ => if_neg fun h => rv_ne_bar k (congrArg Prod.snd h), add_zero]
  rw [Finset.sum_eq_single k (fun i _ hi => if_neg fun h => hi (rv_eq_iff.mp h).2.symm) fun h => absurd (Finset.mem_erase.mpr ⟨hk, Finset.mem_univ _⟩) h]
  by_cases h : c = up k d
  · rw [if_pos (rv_eq_iff.mpr ⟨h, rfl⟩), if_pos h]
  · rw [if_neg fun h' => h (rv_eq_iff.mp h').1, if_neg h]

theorem up_eq_iff (k : D) (c d : Dev nD) : Iff (c = up k d) (d = dn k c) :=
  ⟨fun h => by rw [h, dn_up], fun h => by rw [h, up_dn]⟩

theorem launch_bar (c : Dev nD) :
    tallyOn (barCell c) (launchCredit (Pipeline.owing fun d => Obar d 1) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  simp only [up_eq_iff]
  rw [Finset.sum_congr rfl fun i _ => Finset.sum_ite_eq' Finset.univ (dn i c) fun _ => 1]
  simp only [Finset.mem_univ, if_true, Finset.sum_const]
  decide

theorem launch_rv (c : Dev nD) (k : D) (hk : k ≠ 0) :
    tallyOn (rvCell c k) (launchCredit (Pipeline.owing fun d => Obar d 1) 0 (rvCell c k)) = (tallyAt (rvCell c k) () (amt (kup (dn k c) k)) : CellTallies nD τ sig Unit) := by
  unfold tallyAt; refine congrArg _ (Finsupp.ext fun u => ?_); cases u
  rw [Pipeline.launchCredit_owing, Finsupp.single_eq_same, Finset.sum_congr rfl fun d _ => owed_rv d c k hk]
  simp only [up_eq_iff]
  rw [Finset.sum_ite_eq' Finset.univ (dn k c) fun d => amt (kup d k), if_pos (Finset.mem_univ _)]

theorem rv_injOn : Set.InjOn (fun i : D => (SemLoc.dma (rvq i) : SemLoc sig)) (D1 : Finset D) := fun i _ j _ h => by
  have h1 : ksem (some (true, i)) = ksem (some (true, j)) := h
  exact congrArg Prod.snd (Option.some.inj (ksem_injective h1))

theorem pick_image {I J : Type} [Fintype I] [DecidableEq I] [DecidableEq J] (Ψ : I → sProp 𝕄) (a : I) (S : Finset J) (f : J → I) (hf : Set.InjOn f S)
    (ha : ∀ j, f j ≠ a) : bigSep Finset.univ Ψ ⊢ iprop(Ψ a ∗ bigSep S (fun i => Ψ (f i))) := by
  have hs : S.image f ⊆ Finset.univ.erase a := by
    intro x hx
    obtain ⟨i, -, rfl⟩ := Finset.mem_image.mp hx
    exact Finset.mem_erase.mpr ⟨ha i, Finset.mem_univ _⟩
  refine (Entails.of_eq (bigSep_univ_at Ψ a)).trans (sep_mono_right ?_)
  exact (bigSep_subset hs).trans (Entails.of_eq (bigSep_image_of_injOn hf Ψ))

theorem sem_pick (Ψ : SemLoc sig → sProp 𝕄) : bigSep Finset.univ Ψ ⊢ iprop(Ψ (.reg barS) ∗ bigSep D1 (fun i => Ψ (.dma (rvq i)))) :=
  pick_image Ψ (.reg barS) D1 (fun i : D => (SemLoc.dma (rvq i) : SemLoc sig)) rv_injOn rv_ne_bar

theorem creds (c : Dev nD) : (Pipeline.launchCred (fun d => Obar d 1) c : sProp 𝕄)
    ⊢ iprop(cred (tallyAt (barCell c) () 31) ∗ bigSep D1 (fun i => cred (tallyAt (rvCell c i) () (amt (kup (dn i c) i))))) := by
  unfold Pipeline.launchCred
  refine (sem_pick _).trans ?_
  rw [launch_bar]
  refine sep_mono_right (Entails.of_eq (bigSep_congr fun i hi => ?_))
  have hi0 : i ≠ 0 := (Finset.mem_erase.mp hi).1
  have h := launch_rv c i hi0
  show cred (tallyOn (rvCell c i) (launchCredit (Pipeline.owing fun d => Obar d 1) 0 (rvCell c i))) = _
  rw [h]

/-! ## The run -/

theorem start_intro (c : Dev nD) (r : PrngReg) :
    iprop(Pipeline.unscopedRestP Pipeline.Prefetch.none cfg0.spec c (fun b => m ((c : Thread nD τ).loc b)) ∗ levAts L lv
        ∗ Pipeline.launchCred (fun d => Obar d 1) c ∗ prngReg c r ∗ G' m c)
      ⊢ |={Set.univ}=> iprop(start c (stgs m) ∗ emp) := by
  unfold start G' recs
  iintro ⟨-, Hlev, Hcr, -, ⟨%K, ⟨HI, HR⟩, Hlin⟩⟩
  ihave Hc := (creds (F := F) c) $$ Hcr
  icases Hc with ⟨H1, HN⟩
  imodintro
  isplitl
  · isplitl [HI HR Hlev Hlin]
    · iexists K
      isplitr [Hlin]
      · isplitl [HI]; · iexact HI
        isplitl [HR] <;> iassumption
      iexact Hlin
    isplitl [H1] <;> iassumption
  · iempintro

theorem scr_eq (c : Dev nD) : (Pipeline.scopedRest (Ix := Unit) (Name := ℕ) (U := UU) (Lvl := ℕ) (Val := Elt F) cfg0.spec c : sProp 𝕄) = scr c := by
  rw [show cfg0.spec = spec0 from rfl, scopedRest0_eq]; unfold scr commPt stagePt; rfl

theorem phi0_intro (c : Dev nD) :
    iprop(start c (stgs m) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scr_eq]
  unfold Φ₁
  iintro ⟨Hr, Hz⟩
  ihave Hz := (Entails.of_eq (sems0_eq (F := F) c)) $$ Hz
  icases Hz with ⟨Hu, Ho⟩
  isplitl [Hu]; · iexact Hu
  isplitl [Ho] <;> iassumption

/-- The region's data, the result's window held to `OutRel`. -/
abbrev rdats (p : Fin 1) (c : Dev nD) : RDat τ (Elt F) Unit ℕ UU ℕ cfg0 c := (dats m p c).toRRel fgt (Rl m c)

theorem waits (c : Dev nD) : (levAts L lv : sProp 𝕄) ⊢ Pipeline.RDat.cellsWaits cfgs (rdats m) () 0 c :=
  Pipeline.RDat.cellsWaits_intro cfgs (rdats m) () 0 c fun w s t =>
    mayWait_stage c _ (by revert w s; decide +kernel) _ (by
      rcases t with ⟨_ | _, ht⟩
      · exact Or.inl rfl
      · exact Or.inr rfl)

theorem share_eq (c : Dev nD) (w : Fin cfg0.W) : (rdats m 0 c).share w = fullShare := by
  rw [Dat.toRRel_share]; unfold Dat.share; split <;> rfl

/-- What a run leaves: the inputs as they were, the result held to `OutRel`. -/
def Post (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ OutRel m c (s.mem ((c.tc : Thread nD τ).loc main_v1))

theorem in_of (c : Dev nD) (w : Fin cfg0.W) (hf : fgt w = false) (hi : (cfg0.win w).isOut = false)
    (B : Buf (Elt F) ((cfg0.win w).arr.view.loc (c : Thread nD τ))) (h : (rdats m 0 c).ArrAt w cfg0.N B) : B = m ((cfg0.win w).arr.view.loc (c : Thread nD τ)) := by
  have h1 : (dats m 0 c).toR.ArrAt w cfg0.N B := ((dats m 0 c).toR.override_arrAt (by simp only [hf]) _ _).mp h
  exact (((dats m 0 c).toR_arrAt_iff w _ _).mp h1).trans ((dats m 0 c).arrAt_in w hi _)

theorem out_of (c : Dev nD) (B : S2x128x512.Idx → Elt F .f32) (h : (rdats m 0 c).ArrAt (5 : Fin 6) cfg0.N B) : OutRel m c B := by
  have hw : (cfg0.win (5 : Fin 6)).WholeAt t0_0 := by decide +kernel
  obtain ⟨X, hX, hB⟩ := RDat.ArrAt.emb_eq_of_wholeAt h hw
  have h1 : OutRel m c X := Dat.toRRel_leaves (w := (5 : Fin 6)) (dats m 0 c) rfl hX
  have h2 : B = X := funext fun j => hB j
  rw [h2]; exact h1

set_option maxRecDepth 8000 in
/-- From any memory with zero counters every weakly fair execution terminates with the inputs unchanged, the result held to `OutRel`, and
    every counter at zero. -/
theorem run_main (ρ : Dev nD → PrngReg) : θ_run defs (onTc (τ := τ) (main (F := F))) ⟨m, fun _ => 0, ρ⟩ (fun r => Post m r.2 ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun c => main_chain c)
    (hbody := fun c => (body_obligation m c).toRRel) (hne := block_pos0) (harr := arr_whole0) (hstage := stage_whole0) (hshare := share_eq m)
    (hdistinct := winFacts0.arr_inj)
    (O₀ := fun d => Obar d 1) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := fun c => start c (stgs m)) (Y := fun c => unscopedSems0 c) (Z := fun _ => iprop(emp))
    (hX := fun c => start_intro m c (ρ c)) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => ⟨in_of m c 0 rfl rfl _ ((h c).1 0), in_of m c 1 rfl rfl _ ((h c).1 1), in_of m c 2 rfl rfl _ ((h c).1 2),
      in_of m c 3 rfl rfl _ ((h c).1 3), in_of m c 4 rfl rfl _ ((h c).1 4), out_of m c _ ((h c).1 5)⟩, sem_eq_zero hs fun c => (h c).2.2⟩)

end Cert.KernelIdeal.Hand

end
-- ==== Proof.Softmax.lean ====
/-
  The softmax of a masked row, over the reals, and what both programs compute of it over the extended reals.
-/
module

public import Idealize.ShloMosaic.PureOps.Ideal

@[expose] public section

noncomputable section

namespace Cert.KernelIdeal.Hand

open Idealize.ShloMosaic

/-- The values' mean over the columns kept, each weighted by the exponential of its score. -/
def att {J : Type} [Fintype J] (M : J → Prop) [DecidablePred M] (s v : J → ℝ) : ℝ :=
  (∑ j, if M j then Real.exp (s j) * v j else 0) / ∑ j, if M j then Real.exp (s j) else 0

section
variable {J : Type} [Fintype J] (M : J → Prop) [DecidablePred M]

theorem att_congr {M' : J → Prop} [DecidablePred M'] {s s' v v' : J → ℝ} (hM : ∀ j, M j ↔ M' j) (hs : ∀ j, M j → s j = s' j) (hv : ∀ j, M j → v j = v' j) :
    att M s v = att M' s' v' := by
  unfold att
  congr 1
  · refine Finset.sum_congr rfl fun j _ => ?_
    by_cases h : M j
    · rw [if_pos h, if_pos ((hM j).mp h), hs j h, hv j h]
    · rw [if_neg h, if_neg (fun h' => h ((hM j).mpr h'))]
  · refine Finset.sum_congr rfl fun j _ => ?_
    by_cases h : M j
    · rw [if_pos h, if_pos ((hM j).mp h), hs j h]
    · rw [if_neg h, if_neg (fun h' => h ((hM j).mpr h'))]

/-- The columns in another order. -/
theorem att_equiv {I : Type} [Fintype I] (e : I ≃ J) (s v : J → ℝ) : att (fun i => M (e i)) (fun i => s (e i)) (fun i => v (e i)) = att M s v := by
  unfold att
  rw [← Equiv.sum_comp e (fun j => if M j then Real.exp (s j) * v j else 0), ← Equiv.sum_comp e (fun j => if M j then Real.exp (s j) else 0)]

theorem mass_pos (hM : ∃ j, M j) (s : J → ℝ) : 0 < ∑ j, if M j then Real.exp (s j) else 0 := by
  obtain ⟨j, hj⟩ := hM
  refine Finset.sum_pos' (fun i _ => ?_) ⟨j, Finset.mem_univ j, ?_⟩
  · split
    · exact (Real.exp_pos _).le
    · exact le_refl _
  · rw [if_pos hj]; exact Real.exp_pos _

/-- A shift of every score changes nothing. -/
theorem att_shift (s v : J → ℝ) (a : ℝ) : att M (fun j => s j - a) v = att M s v := by
  have hn : (∑ j, if M j then Real.exp (s j - a) * v j else 0) = Real.exp (-a) * ∑ j, if M j then Real.exp (s j) * v j else 0 := by
    rw [Finset.mul_sum]
    refine Finset.sum_congr rfl fun j _ => ?_
    split
    · rw [sub_eq_add_neg, Real.exp_add]; ring
    · rw [mul_zero]
  have hd : (∑ j, if M j then Real.exp (s j - a) else 0) = Real.exp (-a) * ∑ j, if M j then Real.exp (s j) else 0 := by
    rw [Finset.mul_sum]
    refine Finset.sum_congr rfl fun j _ => ?_
    split
    · rw [sub_eq_add_neg, Real.exp_add]; ring
    · rw [mul_zero]
  unfold att
  rw [hn, hd, mul_div_mul_left _ _ (Real.exp_pos _).ne']

/-- A constant comes out of the values. -/
theorem att_mul (s v : J → ℝ) (a : ℝ) : att M s (fun j => v j * a) = att M s v * a := by
  unfold att
  rw [div_mul_eq_mul_div, Finset.sum_mul]
  congr 1
  refine Finset.sum_congr rfl fun j _ => ?_
  split
  · ring
  · rw [zero_mul]

theorem coe_sum {I : Type} [Fintype I] (f : I → ℝ) : ((∑ i, f i : ℝ) : EReal) = ∑ i, (f i : EReal) := by
  classical
  induction (Finset.univ : Finset I) using Finset.induction_on with
  | empty => simp
  | insert a t ha ih => rw [Finset.sum_insert ha, Finset.sum_insert ha, EReal.coe_add, ih]

/-- The exponentials of a masked row. -/
theorem exp_row {s : J → ℝ} {e : J → EReal} (he : ∀ j, e j = if M j then ((s j : ℝ) : EReal) else ⊥) (j : J) :
    Ideal.exp (e j) = (((if M j then Real.exp (s j) else 0 : ℝ)) : EReal) := by
  rw [he j]
  split
  · rfl
  · exact Ideal.exp_bot

theorem mass_row {s : J → ℝ} {e : J → EReal} (he : ∀ j, e j = if M j then ((s j : ℝ) : EReal) else ⊥) :
    ∑ j, Ideal.exp (e j) = ((∑ j, (if M j then Real.exp (s j) else 0) : ℝ) : EReal) := by
  rw [coe_sum]; exact Finset.sum_congr rfl fun j _ => exp_row M he j

/-- The weights times the values, over the extended reals, are that mean. -/
theorem att_row (hM : ∃ j, M j) {s v : J → ℝ} {e w : J → EReal} (he : ∀ j, e j = if M j then ((s j : ℝ) : EReal) else ⊥)
    (hw : ∀ j, w j = ((v j : ℝ) : EReal)) {Z : EReal} (hZ : Z = ∑ j, Ideal.exp (e j)) :
    ∑ j, Ideal.div (Ideal.exp (e j)) Z * w j = ((att M s v : ℝ) : EReal) := by
  have hp := mass_pos M hM s
  rw [hZ, mass_row M he]
  have ht : ∀ j, Ideal.div (Ideal.exp (e j)) ((∑ j, (if M j then Real.exp (s j) else 0) : ℝ) : EReal) * w j
      = (((if M j then Real.exp (s j) * v j else 0) / ∑ j, (if M j then Real.exp (s j) else 0) : ℝ) : EReal) := fun j => by
    rw [Ideal.div_coe hp.ne', exp_row M he j, hw j, ← EReal.coe_mul, ← EReal.coe_mul]
    congr 1
    split
    · ring
    · ring
  rw [Finset.sum_congr rfl fun j _ => ht j, ← coe_sum]
  congr 1
  unfold att
  rw [Finset.sum_div]

/-- A masked row's greatest entry is a real. -/
theorem max_row (hM : ∃ j, M j) {s : J → ℝ} {e : J → EReal} (he : ∀ j, e j = if M j then ((s j : ℝ) : EReal) else ⊥) :
    ∃ a : ℝ, Finset.univ.fold max (⊥ : EReal) e = (a : EReal) := by
  classical
  obtain ⟨j, hj⟩ := hM
  have h1 : ∀ t : Finset J, t.fold max (⊥ : EReal) e ≠ ⊤ := fun t => by
    induction t using Finset.induction_on with
    | empty => simp
    | insert a t ha ih =>
      rw [Finset.fold_insert ha]
      rcases max_choice (e a) (t.fold max ⊥ e) with h | h <;> rw [h]
      · rw [he a]; split
        · exact EReal.coe_ne_top _
        · exact bot_ne_top
      · exact ih
  have h2 : Finset.univ.fold max (⊥ : EReal) e ≠ ⊥ := fun h => by
    have : e j ≤ Finset.univ.fold max (⊥ : EReal) e := Finset.le_fold_max _ |>.mpr (Or.inr ⟨j, Finset.mem_univ j, le_refl _⟩)
    rw [h, he j, if_pos hj] at this
    exact EReal.coe_ne_bot _ (le_bot_iff.mp this)
  exact ⟨_, (EReal.coe_toReal (h1 _) h2).symm⟩

/-- The weights as the reference forms them, the greatest score first taken off. -/
theorem att_row_max (hM : ∃ j, M j) {s v : J → ℝ} {e w : J → EReal} (he : ∀ j, e j = if M j then ((s j : ℝ) : EReal) else ⊥)
    (hw : ∀ j, w j = ((v j : ℝ) : EReal)) {m Z : EReal} (hm : m = Finset.univ.fold max (⊥ : EReal) e) (hZ : Z = ∑ j, Ideal.exp (e j - m)) :
    ∑ j, w j * Ideal.div (Ideal.exp (e j - m)) Z = ((att M s v : ℝ) : EReal) := by
  obtain ⟨a, ha⟩ := max_row M hM he
  rw [ha] at hm
  subst hm
  have he' : ∀ j, e j - (a : EReal) = if M j then ((s j - a : ℝ) : EReal) else ⊥ := fun j => by
    rw [he j]; split
    · rw [EReal.coe_sub]
    · exact EReal.bot_sub _
  rw [← att_shift M s v a, ← att_row M hM he' hw hZ]
  exact Finset.sum_congr rfl fun j _ => mul_comm _ _

end

end Cert.KernelIdeal.Hand

end
-- ==== Proof.Codes.lean ====
/-
  The eight-bit codes of the keys and the values: whatever a number is, its code is an integer between -127 and 127, and the code
  kept in eight bits and read back is the code. And which blocks attend to which.
-/
module

public import proofs.«01_k».proof.Proof.Softmax

@[expose] public section

noncomputable section

namespace Cert.KernelIdeal.Hand

open Idealize.ShloMosaic

/-- Whether a row of block `a` attends to a column of block `b`. -/
def look (a b : ℕ) : Prop := a = b ∨ b = 0 ∨ (a + b) % 3 = 0
instance (a b : ℕ) : Decidable (look a b) := by unfold look; infer_instance
theorem select_look (a b : ℕ) (x y : EReal) : Scalar.select (BitVec.ofBool (decide (look a b))) x y = if look a b then x else y := by
  by_cases h : look a b <;> simp [Scalar.select, h]

/-- The code of a number, before it is kept in eight bits. -/
def codeR (z : EReal) : EReal :=
  min (Ideal.ofBits .f32 0x42FE0000#32) (max (Ideal.ofBits .f32 0xC2FE0000#32) (Ideal.liftRound Ideal.roundHalfEven (z * Ideal.ofBits .f32 0x42000000#32)))

/-- The code as an integer. -/
def codeZ (z : EReal) : ℤ :=
  match z * Ideal.ofBits .f32 0x42000000#32 with
  | ⊥ => -127
  | ⊤ => 127
  | (r : ℝ) => min 127 (max (-127) (Ideal.roundHalfEven r))

theorem bits_127 : Ideal.ofBits .f32 0x42FE0000#32 = ((127 : ℝ) : EReal) := by
  simp [Ideal.ofBits, Ideal.ieee, -EReal.coe_mul]; norm_num
theorem bits_neg127 : Ideal.ofBits .f32 0xC2FE0000#32 = ((-127 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_32_short : Ideal.ofBits .bf16 0x4200#16 = ((32 : ℝ) : EReal) := by
  simp [Ideal.ofBits, Ideal.ieee, -EReal.coe_mul]; norm_num
theorem bits_32nd_short : Ideal.ofBits .bf16 0x3D00#16 = ((1 / 32 : ℝ) : EReal) := by
  simp [Ideal.ofBits, Ideal.ieee, -EReal.coe_mul]; norm_num
theorem bits_256th : Ideal.ofBits .f32 0x3B800000#32 = ((1 / 256 : ℝ) : EReal) := by
  simp [Ideal.ofBits, Ideal.ieee, -EReal.coe_mul]; norm_num
theorem bits_8th : Ideal.ofBits .f32 0x3E000000#32 = ((1 / 8 : ℝ) : EReal) := by
  simp [Ideal.ofBits, Ideal.ieee, -EReal.coe_mul]; norm_num
theorem bits_bot : Ideal.ofBits .f32 0xFF800000#32 = ⊥ := by
  simp [Ideal.ofBits, Ideal.ieee]

theorem codeZ_le (z : EReal) : -127 ≤ codeZ z ∧ codeZ z ≤ 127 := by
  unfold codeZ
  split
  · omega
  · omega
  · omega

theorem codeR_eq (z : EReal) : codeR z = ((codeZ z : ℝ) : EReal) := by
  unfold codeR codeZ
  rw [bits_127, bits_neg127]
  generalize z * Ideal.ofBits .f32 0x42000000#32 = y
  induction y using EReal.rec with
  | bot =>
    show min _ (max _ (⊥ : EReal)) = (((-127 : ℤ) : ℝ) : EReal)
    rw [max_eq_left bot_le, min_eq_right]
    · norm_num
    · exact_mod_cast (by norm_num : (-127 : ℝ) ≤ 127)
  | top =>
    show min _ (max _ (⊤ : EReal)) = (((127 : ℤ) : ℝ) : EReal)
    rw [max_eq_right le_top, min_eq_left le_top]
    norm_num
  | coe r =>
    show min _ (max _ (((Ideal.roundHalfEven r : ℤ) : ℝ) : EReal)) = (((min 127 (max (-127) (Ideal.roundHalfEven r)) : ℤ) : ℝ) : EReal)
    rw [← EReal.coe_strictMono.monotone.map_max, ← EReal.coe_strictMono.monotone.map_min]
    push_cast
    rfl

/-- Kept in eight bits and read back. -/
theorem code_back (z : EReal) : (((Ideal.fptosi 8 (codeR z)).toInt : ℝ) : EReal) = ((codeZ z : ℝ) : EReal) := by
  obtain ⟨h1, h2⟩ := codeZ_le z
  rw [codeR_eq]
  congr 2
  rw [Ideal.fptosi, Ideal.toIntClamped_coe]
  simp only [Int.floor_intCast, Int.ceil_intCast, ite_self]
  rw [BitVec.toInt_ofInt]
  norm_num
  rw [Int.bmod_def]
  omega

end Cert.KernelIdeal.Hand

end
-- ==== Proof.Val.lean ====
/-
  The rows that the kernel stores, read at an index: the heads, the queries, the codes, the output product.
-/
module

public import proofs.«01_k».proof.Proof.Out
public import proofs.«01_k».proof.Proof.Codes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- One head of one batch row. -/
def headOf (M : IVec S128x4096 1) (q : FVec Ideal S128x64 .bf16) (kc vc : Vec Ideal S32x2x1x1x1x64x64 .i8) : FVec Ideal S128x64 .f32 := k0_pay32 M q kc vc

/-- The output product of four heads side by side. -/
def outOf (wo : FVec Ideal S256x512 .bf16) (f : Fin 4 → FVec Ideal S128x64 .f32) : FVec Ideal S1x128x512 .f32 :=
  shapeCast S1x128x512 (matmul dot_S128x256_S256x512_S128x512_1_0_0_1_n_n none
    (truncf .bf16 (concatenate S128x256 1 [⟨S128x64, f 0⟩, ⟨S128x64, f 1⟩, ⟨S128x64, f 2⟩, ⟨S128x64, f 3⟩] concatenates_S128x64_S128x64_S128x64_S128x64_S128x256_d1) bitsLt_bf16_f32 : FVec Ideal S128x256 .bf16)
    wo (constant S128x512 .f32 0x00000000#32)) shapeCasts_S128x512_S1x128x512

/-- The queries of one head. -/
def qryOf (w : Vec Ideal S512x256 .bf16) (x : Vec Ideal S1x128x512 .bf16) (h : Fin 4) : FVec Ideal S128x64 .bf16 :=
  match h with | 0 => k0_pay19 w x | 1 => k0_pay20 w x | 2 => k0_pay21 w x | 3 => k0_pay22 w x

theorem rowA_eq (c : Dev nD) (x0 : S2x128x512.Idx → Elt Ideal .bf16) (x1 : S512x256.Idx → Elt Ideal .bf16) (x4 : S256x512.Idx → Elt Ideal .bf16) (g : CC Ideal) :
    rowA c x0 x1 x4 g = outOf (woOf x4) fun h => headOf (maskOf c) (qryOf (wqOf x1) (xaOf x0) h) (cdOf g 0 0 h) (cdOf g 1 0 h) := by
  unfold rowA outOf headOf qryOf k0_pay37
  rfl
theorem rowB_eq (c : Dev nD) (x0 : S2x128x512.Idx → Elt Ideal .bf16) (x1 : S512x256.Idx → Elt Ideal .bf16) (x4 : S256x512.Idx → Elt Ideal .bf16) (g : CC Ideal) :
    rowB c x0 x1 x4 g = outOf (woOf x4) fun h => headOf (maskOf c) (qryOf (wqOf x1) (xbOf x0) h) (cdOf g 0 1 h) (cdOf g 1 1 h) := by
  unfold rowB outOf headOf qryOf k0_pay43 k0_pay42
  rfl

/-- The score of a column for a row, before the row's maximum is taken off: the scaled product where the row may look, else the lowest. -/
def scoreOf (M : IVec S128x4096 1) (q : FVec Ideal S128x64 .bf16) (kc : Vec Ideal S32x2x1x1x1x64x64 .i8) (i : Fin 128) (j : Fin 4096) : EReal :=
  Scalar.select (M (ix2 i j))
    ((∑ d : Fin 64, q (ix2 i d) * (((kc (ix7 ⟨j.val / 128, by omega⟩ ⟨j.val / 64 % 2, by omega⟩ 0 0 0 ⟨j.val % 64, by omega⟩ d)).toInt : ℝ) : EReal))
      * Ideal.ofBits .f32 0x3B800000#32) ⊥

theorem headOf_apply (M : IVec S128x4096 1) (q : FVec Ideal S128x64 .bf16) (kc vc : Vec Ideal S32x2x1x1x1x64x64 .i8) (i : Fin 128) (d : Fin 64) :
    headOf M q kc vc (ix2 i d) = ∑ j : Fin 4096, Ideal.div (Ideal.exp (scoreOf M q kc i j)) (∑ y : Fin 4096, Ideal.exp (scoreOf M q kc i y)) *
      (((vc (ix7 ⟨j.val / 128, by omega⟩ ⟨j.val / 64 % 2, by omega⟩ 0 0 0 ⟨j.val % 64, by omega⟩ d)).toInt : ℝ) : EReal) := by
  pointwise [headOf, k0_pay32]
  rfl

theorem outOf_apply (wo : FVec Ideal S256x512 .bf16) (f : Fin 4 → FVec Ideal S128x64 .f32) (i : Fin 128) (n : Fin 512) :
    outOf wo f (ix3 0 i n) = ∑ e : Fin 256, f ⟨e.val / 64, by omega⟩ (ix2 i ⟨e.val % 64, by omega⟩) * wo (ix2 e n) := by
  pointwise [outOf]
  refine Finset.sum_congr rfl fun e _ => ?_
  congr 1
  have he := e.isLt
  have key : ∀ (h h' : Fin 4) (d d' : Fin 64), h.val = h'.val → d.val = d'.val → f h (ix2 i d) = f h' (ix2 i d') := fun h h' d d' e1 e2 => by
    rw [Fin.ext e1, Fin.ext e2]
  split_ifs <;> (apply key <;> simp <;> omega)

theorem qryOf_apply (w : Vec Ideal S512x256 .bf16) (x : Vec Ideal S1x128x512 .bf16) (h : Fin 4) (i : Fin 128) (d : Fin 64) :
    qryOf w x h (ix2 i d) = ∑ k : Fin 512, x (ix3 0 i k) * w (ix2 k ⟨h.val * 64 + d.val, by have := h.isLt; have := d.isLt; omega⟩) := by
  match h with
  | 0 => show k0_pay19 w x (ix2 i d) = _; pointwise [k0_pay19, k0_pay18, k0_pay16]
  | 1 => show k0_pay20 w x (ix2 i d) = _; pointwise [k0_pay20, k0_pay18, k0_pay16]
  | 2 => show k0_pay21 w x (ix2 i d) = _; pointwise [k0_pay21, k0_pay18, k0_pay16]
  | 3 => show k0_pay22 w x (ix2 i d) = _; pointwise [k0_pay22, k0_pay18, k0_pay16]

theorem wqOf_eq (x1 : S512x256.Idx → Elt Ideal .bf16) : wqOf x1 = x1 :=
  Memref.readAt_unit_zero (Elt Ideal) cc0_stg1_0 (by funext a; fin_cases a <;> rfl) inb_S512x256_S512x256_0_0 x1

theorem woOf_apply (x4 : S256x512.Idx → Elt Ideal .bf16) (e : Fin 256) (n : Fin 512) : woOf x4 (ix2 e n) = x4 (ix2 e n) * Ideal.ofBits .bf16 0x3D00#16 := by
  have hx : (Memref.whole cc0_stg4_0 : Memref sig .tc .vmem S256x512 .bf16).view.readAt (Elt Ideal)
      (Rect.unit (s := S256x512) ![0, 0] S256x512.size inb_S256x512_S256x512_0_0).toLoadRect x4 = x4 :=
    Memref.readAt_unit_zero (Elt Ideal) cc0_stg4_0 (by funext a; fin_cases a <;> rfl) inb_S256x512_S256x512_0_0 x4
  unfold woOf
  rw [hx]
  pointwise [k0_pay17]

theorem xaOf_apply (x0 : S2x128x512.Idx → Elt Ideal .bf16) (i : Fin 128) (k : Fin 512) : xaOf x0 (ix3 0 i k) = x0 (ix3 0 i k) := by
  show x0 _ = x0 _
  congr 1; funext a; apply Fin.ext; fin_cases a
  · rfl
  · show 0 + 1 * i.val = i.val; omega
  · show 0 + 1 * k.val = k.val; omega

theorem xbOf_apply (x0 : S2x128x512.Idx → Elt Ideal .bf16) (i : Fin 128) (k : Fin 512) : xbOf x0 (ix3 0 i k) = x0 (ix3 1 i k) := by
  show x0 _ = x0 _
  congr 1; funext a; apply Fin.ext; fin_cases a
  · rfl
  · show 0 + 1 * i.val = i.val; omega
  · show 0 + 1 * k.val = k.val; omega

theorem cdOf_apply (g : CC Ideal) (v b : Fin 2) (h : Fin 4) (k : Fin 32) (p : Fin 2) (t d : Fin 64) :
    cdOf g v b h (ix7 k p 0 0 0 t d) = g (ix7 k p v b h t d) := by
  show g _ = g _
  congr 1; funext a; apply Fin.ext; fin_cases a
  · show 0 + 1 * k.val = k.val; omega
  · show 0 + 1 * p.val = p.val; omega
  · show v.val + 1 * 0 = v.val; omega
  · show b.val + 1 * 0 = b.val; omega
  · show h.val + 1 * 0 = h.val; omega
  · show 0 + 1 * t.val = t.val; omega
  · show 0 + 1 * d.val = d.val; omega

/-- A number's code as the device keeps it. -/
theorem short_code (z : EReal) : (FloatOps.fptosi (F := Ideal) (φ := .f32) 8
      (min (Ideal.ofBits .f32 0x42FE0000#32) (max (Ideal.ofBits .f32 0xC2FE0000#32) (Ideal.liftRound Ideal.roundHalfEven (z * Ideal.ofBits .bf16 0x4200#16)))))
    = Ideal.fptosi 8 (codeR z) := by
  rw [bits_32_short]
  unfold codeR
  rw [bits_32]
  rfl

theorem pay1_apply (x : Vec Ideal S2x64x4x64 .bf16) (b : Fin 2) (h : Fin 4) (t d : Fin 64) : k0_pay1 x (ix6 0 0 b h t d) = Ideal.fptosi 8 (codeR (x (ix4 b t h d))) := by
  pointwise [k0_pay1]
  exact short_code _
theorem pay2_apply (x : Vec Ideal S2x64x4x64 .bf16) (b : Fin 2) (h : Fin 4) (t d : Fin 64) : k0_pay2 x (ix6 0 0 b h t d) = Ideal.fptosi 8 (codeR (x (ix4 b t h d))) := by
  pointwise [k0_pay2]
  exact short_code _
theorem pay3_apply (x : Vec Ideal S2x64x4x64 .bf16) (b : Fin 2) (h : Fin 4) (t d : Fin 64) : k0_pay3 x (ix6 0 0 b h t d) = Ideal.fptosi 8 (codeR (x (ix4 b t h d))) := by
  pointwise [k0_pay3]
  exact short_code _
theorem pay4_apply (x : Vec Ideal S2x64x4x64 .bf16) (b : Fin 2) (h : Fin 4) (t d : Fin 64) : k0_pay4 x (ix6 0 0 b h t d) = Ideal.fptosi 8 (codeR (x (ix4 b t h d))) := by
  pointwise [k0_pay4]
  exact short_code _

/-- Half a device's block, as loaded. -/
theorem half_apply (x : S2x128x4x64.Idx → Elt Ideal .bf16) (o : ℕ) (inb : ∀ a, (![0, o, 0, 0] : Fin 4 → ℕ) a + S2x64x4x64.size a ≤ S2x128x4x64.size a)
    (b : Fin 2) (t : Fin 64) (h : Fin 4) (d : Fin 64) (ho : o + t.val < 128) (y : S2x64x4x64.Idx) (hy : y = ix4 b t h d) :
    x ((Rect.unit (s := S2x128x4x64) ![0, o, 0, 0] S2x64x4x64.size inb).toLoadRect.idx y) = x (ix4 b ⟨o + t.val, ho⟩ h d) := by
  subst hy
  congr 1; funext a; apply Fin.ext; fin_cases a
  · show 0 + 1 * b.val = b.val; omega
  · show o + 1 * t.val = o + t.val; omega
  · show 0 + 1 * h.val = h.val; omega
  · show 0 + 1 * d.val = d.val; omega

/-- The newest block stored in the stage, read at a place that it holds. -/
theorem stage_hit (f : SC Ideal) (off : Fin 6 → ℕ) (inb : ∀ a, off a + S1x1x2x4x64x64.size a ≤ S2x2x2x4x64x64.size a) (w : S1x1x2x4x64x64.Idx → Elt Ideal .i8)
    (L : List (View.Piece (Elt Ideal) S2x2x2x4x64x64 .i8)) (y : S2x2x2x4x64x64.Idx) (x : S1x1x2x4x64x64.Idx) (hx : ∀ a, (y a).val = off a + 1 * (x a).val) :
    stageM.view.read (Elt Ideal) (stageM.view.writes (Elt Ideal) f (⟨Rect.unit (s := S2x2x2x4x64x64) off S1x1x2x4x64x64.size inb, w⟩ :: L)) y = w x :=
  View.read_writes_cons_hit_of_coords stageM.view f (Rect.unit (s := S2x2x2x4x64x64) off S1x1x2x4x64x64.size inb) w L x y hx

theorem stage_read (x2 x3 : S2x128x4x64.Idx → Elt Ideal .bf16) (y : S2x2x2x4x64x64.Idx) :
    stgOf x2 x3 y = stageM.view.read (Elt Ideal) (stageM.view.writes (Elt Ideal) (fun _ => 0#8) (stPieces x2 x3)) y := by
  have rd : ∀ f : SC Ideal, f y = stageM.view.read (Elt Ideal) f y := fun f => rfl
  exact rd _

theorem stg11 (x2 x3 : S2x128x4x64.Idx → Elt Ideal .bf16) (b : Fin 2) (h : Fin 4) (t d : Fin 64) :
    stgOf x2 x3 (ix6 1 1 b h t d) = Ideal.fptosi 8 (codeR (x3 (ix4 b ⟨64 + t.val, by omega⟩ h d))) := by
  refine (stage_read x2 x3 _).trans ?_
  refine (stage_hit _ _ _ _ _ _ (ix6 0 0 b h t d) ?_).trans ?_
  · intro a
    fin_cases a
    · rfl
    · rfl
    · show b.val = 0 + 1 * b.val; omega
    · show h.val = 0 + 1 * h.val; omega
    · show t.val = 0 + 1 * t.val; omega
    · show d.val = 0 + 1 * d.val; omega
  · refine (pay4_apply _ b h t d).trans ?_
    exact congrArg (fun z => Ideal.fptosi 8 (codeR z)) (half_apply x3 64 _ b t h d (by omega) _ rfl)

theorem stg10 (x2 x3 : S2x128x4x64.Idx → Elt Ideal .bf16) (b : Fin 2) (h : Fin 4) (t d : Fin 64) :
    stgOf x2 x3 (ix6 1 0 b h t d) = Ideal.fptosi 8 (codeR (x2 (ix4 b ⟨64 + t.val, by omega⟩ h d))) := by
  refine (stage_read x2 x3 _).trans ?_
  refine (View.read_writes_cons_miss_of_axis stageM.view _ _ _ _ 1 1 1 rfl rfl rfl (Or.inl Nat.zero_lt_one)).trans ?_
  refine (stage_hit _ _ _ _ _ _ (ix6 0 0 b h t d) ?_).trans ?_
  · intro a
    fin_cases a
    · rfl
    · rfl
    · show b.val = 0 + 1 * b.val; omega
    · show h.val = 0 + 1 * h.val; omega
    · show t.val = 0 + 1 * t.val; omega
    · show d.val = 0 + 1 * d.val; omega
  · refine (pay3_apply _ b h t d).trans ?_
    exact congrArg (fun z => Ideal.fptosi 8 (codeR z)) (half_apply x2 64 _ b t h d (by omega) _ rfl)

theorem stg01 (x2 x3 : S2x128x4x64.Idx → Elt Ideal .bf16) (b : Fin 2) (h : Fin 4) (t d : Fin 64) :
    stgOf x2 x3 (ix6 0 1 b h t d) = Ideal.fptosi 8 (codeR (x3 (ix4 b ⟨0 + t.val, by omega⟩ h d))) := by
  refine (stage_read x2 x3 _).trans ?_
  refine (View.read_writes_cons_miss_of_axis stageM.view _ _ _ _ 0 1 1 rfl rfl rfl (Or.inl Nat.zero_lt_one)).trans ?_
  refine (View.read_writes_cons_miss_of_axis stageM.view _ _ _ _ 0 1 1 rfl rfl rfl (Or.inl Nat.zero_lt_one)).trans ?_
  refine (stage_hit _ _ _ _ _ _ (ix6 0 0 b h t d) ?_).trans ?_
  · intro a
    fin_cases a
    · rfl
    · rfl
    · show b.val = 0 + 1 * b.val; omega
    · show h.val = 0 + 1 * h.val; omega
    · show t.val = 0 + 1 * t.val; omega
    · show d.val = 0 + 1 * d.val; omega
  · refine (pay2_apply _ b h t d).trans ?_
    exact congrArg (fun z => Ideal.fptosi 8 (codeR z)) (half_apply x3 0 _ b t h d (by omega) _ rfl)

theorem stg00 (x2 x3 : S2x128x4x64.Idx → Elt Ideal .bf16) (b : Fin 2) (h : Fin 4) (t d : Fin 64) :
    stgOf x2 x3 (ix6 0 0 b h t d) = Ideal.fptosi 8 (codeR (x2 (ix4 b ⟨0 + t.val, by omega⟩ h d))) := by
  refine (stage_read x2 x3 _).trans ?_
  refine (View.read_writes_cons_miss_of_axis stageM.view _ _ _ _ 0 1 1 rfl rfl rfl (Or.inl Nat.zero_lt_one)).trans ?_
  refine (View.read_writes_cons_miss_of_axis stageM.view _ _ _ _ 0 1 1 rfl rfl rfl (Or.inl Nat.zero_lt_one)).trans ?_
  refine (View.read_writes_cons_miss_of_axis stageM.view _ _ _ _ 1 1 1 rfl rfl rfl (Or.inl Nat.zero_lt_one)).trans ?_
  refine (stage_hit _ _ _ _ _ _ (ix6 0 0 b h t d) ?_).trans ?_
  · intro a
    fin_cases a
    · rfl
    · rfl
    · show b.val = 0 + 1 * b.val; omega
    · show h.val = 0 + 1 * h.val; omega
    · show t.val = 0 + 1 * t.val; omega
    · show d.val = 0 + 1 * d.val; omega
  · refine (pay1_apply _ b h t d).trans ?_
    exact congrArg (fun z => Ideal.fptosi 8 (codeR z)) (half_apply x2 0 _ b t h d (by omega) _ rfl)

theorem stgOf_apply (x2 x3 : S2x128x4x64.Idx → Elt Ideal .bf16) (p v b : Fin 2) (h : Fin 4) (t d : Fin 64) :
    stgOf x2 x3 (ix6 p v b h t d) = Ideal.fptosi 8 (codeR ((if v = 0 then x2 else x3) (ix4 b ⟨p.val * 64 + t.val, by omega⟩ h d))) := by
  match p, v with
  | 1, 1 => exact stg11 x2 x3 b h t d
  | 1, 0 => exact stg10 x2 x3 b h t d
  | 0, 1 => exact stg01 x2 x3 b h t d
  | 0, 0 => exact stg00 x2 x3 b h t d

end Cert.KernelIdeal.Hand

end
-- ==== Proof.Look.lean ====
/-
  Which columns a row of the kernel attends to.
-/
module

public import proofs.«01_k».proof.Proof.Out
public import proofs.«01_k».proof.Proof.Codes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

theorem meW_eq (c : Dev nD) : meW c = BitVec.ofNat 32 c.val := by
  revert c; decide +kernel

/-- The remainder of a word by 32, doubled: the first block of a device. -/
theorem pay7_apply (x : IVec S128x4096 32) (c k : Fin 32) (i : Fin 128) (j : Fin 4096) (hx : x (ix2 i j) = BitVec.ofNat 32 c.val + 32#32 - BitVec.ofNat 32 k.val) :
    k0_pay7 x 32#32 (Scalar.cmpi .eq 32#32 0#32) (ix2 i j) = BitVec.ofNat 32 (2 * ((c.val + 32 - k.val) % 32)) := by
  pointwise [k0_pay7]
  rw [hx]
  clear hx
  revert c k
  decide +kernel

theorem pay6_apply (c : Dev nD) (i : Fin 128) (j : Fin 4096) : k0_pay6 (meW c) (ix2 i j) = BitVec.ofNat 32 c.val + 32#32 - BitVec.ofNat 32 (j.val / 128) := by
  rw [meW_eq]
  pointwise [k0_pay6]
  congr 1
  revert j
  decide +kernel

/-- A column's block. -/
def colB (c : ℕ) (j : ℕ) : ℕ := 2 * ((c + 32 - j / 128) % 32) + j % 128 / 64

theorem pay11_apply (c : Dev nD) (x : IVec S128x4096 32) (i : Fin 128) (j : Fin 4096) (hx : x (ix2 i j) = BitVec.ofNat 32 (2 * ((c.val + 32 - j.val / 128) % 32))) :
    k0_pay11 x (k0_pay8 (iota .tc S128x4096 32 [1] iota_S128x4096_d1_w32)) 64#32 (k0_pay9 (iota .tc S128x4096 32 [1] iota_S128x4096_d1_w32)) (k0_pay10 (iota .tc S128x4096 32 [1] iota_S128x4096_d1_w32)) (Scalar.extui (Scalar.cmpi .sgt 64#32 0#32)) 0#32 (ix2 i j)
      = BitVec.ofNat 32 (colB c.val j.val) := by
  have key : ∀ y : BitVec 32, x (ix2 i j) = y → k0_pay11 x (k0_pay8 (iota .tc S128x4096 32 [1] iota_S128x4096_d1_w32)) 64#32 (k0_pay9 (iota .tc S128x4096 32 [1] iota_S128x4096_d1_w32)) (k0_pay10 (iota .tc S128x4096 32 [1] iota_S128x4096_d1_w32)) (Scalar.extui (Scalar.cmpi .sgt 64#32 0#32)) 0#32 (ix2 i j)
      = y + BitVec.ofNat 32 (j.val % 128 / 64) := by
    rintro y rfl
    pointwise [k0_pay11, k0_pay8, k0_pay9, k0_pay10]
    clear hx
    congr 1
    revert j
    decide +kernel
  rw [key _ hx, ← BitVec.ofNat_add]
  rfl

theorem pay12_apply (c : Dev nD) (i : Fin 128) (j : Fin 4096) :
    k0_pay12 (meW c) (iota .tc S128x4096 32 [0] iota_S128x4096_d0_w32) (ix2 i j) = BitVec.ofNat 32 (2 * c.val + i.val / 64) := by
  rw [meW_eq]
  pointwise [k0_pay12]
  revert c i
  decide +kernel

/-- Two block numbers compared. -/
theorem pay15_apply (x : IVec S128x4096 1) (y : IVec S128x4096 32) (a b : Fin 64) (i : Fin 128) (j : Fin 4096)
    (hx : x (ix2 i j) = IntOp.ori (IntOp.cmpi .eq (BitVec.ofNat 32 a.val) (BitVec.ofNat 32 b.val)) (IntOp.cmpi .eq (BitVec.ofNat 32 b.val) 0#32))
    (hy : y (ix2 i j) = IntOp.addi (BitVec.ofNat 32 a.val) (BitVec.ofNat 32 b.val)) :
    k0_pay15 x y 3#32 (Scalar.cmpi .eq 3#32 0#32) (ix2 i j) = BitVec.ofBool (decide (look a.val b.val)) := by
  pointwise [k0_pay15]
  rw [hx, hy]
  clear hx hy
  revert a b
  decide +kernel

theorem maskOf_apply (c : Dev nD) (i : Fin 128) (j : Fin 4096) : maskOf c (ix2 i j) = BitVec.ofBool (decide (look (2 * c.val + i.val / 64) (colB c.val j.val))) := by
  have hc : c.val < 32 := c.isLt
  have hq := pay12_apply c i j
  have hk := pay11_apply c _ i j (pay7_apply _ ⟨c.val, hc⟩ ⟨j.val / 128, by omega⟩ i j (pay6_apply c i j))
  refine pay15_apply _ _ ⟨2 * c.val + i.val / 64, by omega⟩ ⟨colB c.val j.val, by unfold colB; omega⟩ i j ?_ ?_
  · unfold k0_pay13
    rw [← hq, ← hk]
    rfl
  · unfold k0_pay14
    rw [← hq, ← hk]
    rfl

end Cert.KernelIdeal.Hand

end
-- ==== Proof.Rows.lean ====
/-
  One entry of a row that the kernel stores, as each head's mean of the codes of the values.
-/
module

public import proofs.«01_k».proof.Proof.Val
public import proofs.«01_k».proof.Proof.Look
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe

/-- The code of one head at a column. -/
def atCol (f : Vec Ideal S32x2x1x1x1x64x64 .i8) (j : Fin 4096) (d : Fin 64) : ℤ :=
  (f (ix7 ⟨j.val / 128, by omega⟩ ⟨j.val / 64 % 2, by omega⟩ 0 0 0 ⟨j.val % 64, by omega⟩ d)).toInt

theorem head_row (M : IVec S128x4096 1) (q : FVec Ideal S128x64 .bf16) (kc vc : Vec Ideal S32x2x1x1x1x64x64 .i8) (i : Fin 128) (d : Fin 64) (a : ℕ) (B : Fin 4096 → ℕ)
    (hM : ∀ j, M (ix2 i j) = BitVec.ofBool (decide (look a (B j)))) (hB : ∃ j, look a (B j)) (qr : Fin 64 → ℝ) (hq : ∀ d, q (ix2 i d) = ((qr d : ℝ) : EReal)) :
    headOf M q kc vc (ix2 i d) = ((att (fun j => look a (B j)) (fun j => (∑ d : Fin 64, qr d * (atCol kc j d : ℝ)) * (1 / 256)) (fun j => (atCol vc j d : ℝ)) : ℝ) : EReal) := by
  rw [headOf_apply]
  refine att_row (fun j => look a (B j)) hB (e := fun j => scoreOf M q kc i j) (fun j => ?_) (fun j => rfl) rfl
  unfold scoreOf
  rw [hM, select_look]
  refine if_congr Iff.rfl ?_ rfl
  rw [bits_256th]
  have ht : ∀ d : Fin 64, q (ix2 i d) * (((kc (ix7 ⟨j.val / 128, by omega⟩ ⟨j.val / 64 % 2, by omega⟩ 0 0 0 ⟨j.val % 64, by omega⟩ d)).toInt : ℝ) : EReal)
      = ((qr d * (atCol kc j d : ℝ) : ℝ) : EReal) := fun d => by
    rw [hq, ← EReal.coe_mul]; rfl
  rw [Finset.sum_congr rfl fun d _ => ht d, ← coe_sum, ← EReal.coe_mul]

theorem out_row (M : IVec S128x4096 1) (q : Fin 4 → FVec Ideal S128x64 .bf16) (kc vc : Fin 4 → Vec Ideal S32x2x1x1x1x64x64 .i8) (x4 : S256x512.Idx → Elt Ideal .bf16)
    (i : Fin 128) (n : Fin 512) (a : ℕ) (B : Fin 4096 → ℕ)
    (hM : ∀ j, M (ix2 i j) = BitVec.ofBool (decide (look a (B j)))) (hB : ∃ j, look a (B j)) (qr : Fin 4 → Fin 64 → ℝ) (hq : ∀ h d, q h (ix2 i d) = ((qr h d : ℝ) : EReal)) :
    outOf (woOf x4) (fun h => headOf M (q h) (kc h) (vc h)) (ix3 0 i n) = ∑ e : Fin 256,
      ((att (fun j => look a (B j)) (fun j => (∑ d : Fin 64, qr ⟨e.val / 64, by omega⟩ d * (atCol (kc ⟨e.val / 64, by omega⟩) j d : ℝ)) * (1 / 256))
        (fun j => (atCol (vc ⟨e.val / 64, by omega⟩) j ⟨e.val % 64, by omega⟩ : ℝ)) * (1 / 32) : ℝ) : EReal) * x4 (ix2 e n) := by
  rw [outOf_apply]
  refine Finset.sum_congr rfl fun e _ => ?_
  rw [head_row M _ _ _ i _ a B hM hB _ (hq _), woOf_apply, bits_32nd_short, EReal.coe_mul, mul_comm (x4 _), mul_assoc]

/-! ## Where the columns' codes come from -/

/-- The column's position in the whole sequence; the way back is the same. -/
def pos (c : Dev nD) (j : Fin 4096) : Fin 4096 := ⟨(c.val + 32 - j.val / 128) % 32 * 128 + j.val % 128, by omega⟩
theorem pos_pos (c : Dev nD) (j : Fin 4096) : pos c (pos c j) = j := by
  have hc : c.val < 32 := c.isLt
  apply Fin.ext
  unfold pos
  simp only
  omega
def posE (c : Dev nD) : Fin 4096 ≃ Fin 4096 := ⟨pos c, pos c, pos_pos c, pos_pos c⟩
theorem colB_pos (c : Dev nD) (j : Fin 4096) : colB c.val j.val = (pos c j).val / 64 := by
  unfold colB pos
  simp only
  omega

theorem tl_ix (k : Fin 32) (p v b : Fin 2) (h : Fin 4) (t d : Fin 64) : tl (ix7 k p v b h t d) = ix6 p v b h t d := by
  funext a; fin_cases a <;> rfl

/-- A row's columns' codes have arrived. -/
theorem arrived (stg : Dev nD → SC Ideal) (c : Dev nD) (g : CC Ideal) (hg : Agree stg c g) (i : Fin 128) (k : Fin 32) (p v b : Fin 2) (h : Fin 4) (t d : Fin 64)
    (hl : look (2 * c.val + i.val / 64) (2 * ((c.val + 32 - k.val) % 32) + p.val)) :
    g (ix7 k p v b h t d) = stg (dn k c) (ix6 p v b h t d) := by
  have hc : c.val < 32 := c.isLt
  by_cases hk : k = 0
  · subst hk
    rw [hg.1 _ ((mem_slot 0 _).mpr rfl)]
    unfold land
    rw [tl_ix, show dn 0 c = c from Fin.ext (by show (c.val + 32 - 0) % 32 = c.val; omega)]
  · rw [hg.2 k hk _ ?_]
    · unfold land
      rw [tl_ix]
    · refine (mem_dset _ _ _).mpr ⟨rfl, ?_⟩
      show covers (kind (dn k c) c) p.val
      unfold look at hl
      unfold kind covers dn
      have hk' : k.val ≠ 0 := fun e => hk (Fin.ext e)
      have := k.isLt
      have := p.isLt
      have := i.isLt
      simp only
      split_ifs <;> simp <;> omega

end Cert.KernelIdeal.Hand

end
-- ==== Proof.Start.lean ====
/-
  A device's blocks as launched are its argument arrays, and what the precondition says of them.
-/
module

public import proofs.«01_k».proof.Defs
public import proofs.«01_k».proof.Proof.Body
public import proofs.«01_k».proof.Proof.Codes
public import Idealize.ShloMosaic.Lib.ReduceAll
public import Idealize.ShloMosaic.Lib.Pointwise

@[expose] public section

noncomputable section

namespace Cert.KernelIdeal.Hand

open Cert.KernelIdeal Cert.KernelIdeal.Gen
open Idealize.ShloMosaic Idealize.ShloMosaic.TcCoe

section
variable (m : (ℓ : Loc nD τ sig) → Buf (Elt Ideal) ℓ) (c : Dev nD)

theorem X0_eq : X0 m c = m ((c.tc : Thread nD τ).loc main_arg0) := by
  funext y
  show m ((c.tc : Thread nD τ).loc main_arg0) _ = m ((c.tc : Thread nD τ).loc main_arg0) y
  congr 1; funext a; apply Fin.ext; fin_cases a
  · show 0 * 2 + 1 * (y 0).val = (y 0).val; omega
  · show 0 * 128 + 1 * (y 1).val = (y 1).val; omega
  · show 0 * 512 + 1 * (y 2).val = (y 2).val; omega
theorem X1_eq : X1 m c = m ((c.tc : Thread nD τ).loc main_arg1) := by
  funext y
  show m ((c.tc : Thread nD τ).loc main_arg1) _ = m ((c.tc : Thread nD τ).loc main_arg1) y
  congr 1; funext a; apply Fin.ext; fin_cases a
  · show 0 * 512 + 1 * (y 0).val = (y 0).val; omega
  · show 0 * 256 + 1 * (y 1).val = (y 1).val; omega
theorem X2_eq : X2 m c = m ((c.tc : Thread nD τ).loc main_arg2) := by
  funext y
  show m ((c.tc : Thread nD τ).loc main_arg2) _ = m ((c.tc : Thread nD τ).loc main_arg2) y
  congr 1; funext a; apply Fin.ext; fin_cases a
  · show 0 * 2 + 1 * (y 0).val = (y 0).val; omega
  · show 0 * 128 + 1 * (y 1).val = (y 1).val; omega
  · show 0 * 4 + 1 * (y 2).val = (y 2).val; omega
  · show 0 * 64 + 1 * (y 3).val = (y 3).val; omega
theorem X3_eq : X3 m c = m ((c.tc : Thread nD τ).loc main_arg3) := by
  funext y
  show m ((c.tc : Thread nD τ).loc main_arg3) _ = m ((c.tc : Thread nD τ).loc main_arg3) y
  congr 1; funext a; apply Fin.ext; fin_cases a
  · show 0 * 2 + 1 * (y 0).val = (y 0).val; omega
  · show 0 * 128 + 1 * (y 1).val = (y 1).val; omega
  · show 0 * 4 + 1 * (y 2).val = (y 2).val; omega
  · show 0 * 64 + 1 * (y 3).val = (y 3).val; omega
theorem X4_eq : X4 m c = m ((c.tc : Thread nD τ).loc main_arg4) := by
  funext y
  show m ((c.tc : Thread nD τ).loc main_arg4) _ = m ((c.tc : Thread nD τ).loc main_arg4) y
  congr 1; funext a; apply Fin.ext; fin_cases a
  · show 0 * 256 + 1 * (y 0).val = (y 0).val; omega
  · show 0 * 512 + 1 * (y 1).val = (y 1).val; omega
end

/-! ## The precondition -/

/-- A number whose size is below the greatest is a real. -/
theorem real_of_lt {z : EReal} (h : Ideal.cmp .olt (max z (-z)) (Ideal.ofBits .f32 0x7F800000#32) = 1#1) : ∃ r : ℝ, z = (r : EReal) := by
  have ht : Ideal.ofBits .f32 0x7F800000#32 = ⊤ := by simp [Ideal.ofBits, Ideal.ieee]
  rw [ht] at h
  induction z using EReal.rec with
  | bot => simp [Ideal.cmp] at h
  | top => simp [Ideal.cmp] at h
  | coe r => exact ⟨r, rfl⟩

theorem finite_of [Cert.Pre_finite_inputs_KernelIdeal.Facts] (x : FVec Ideal S2x128x512 .bf16) (wq : FVec Ideal S512x256 .bf16) (k v : FVec Ideal S2x128x4x64 .bf16)
    (wo : FVec Ideal S256x512 .bf16) (h : Cert.Pre_finite_inputs_KernelIdeal.fn x wq k v wo = fun _ => 1#1) :
    (∀ i, ∃ r : ℝ, x i = (r : EReal)) ∧ ∀ i, ∃ r : ℝ, wq i = (r : EReal) := by
  have h0 := congrFun h ix0
  unfold Cert.Pre_finite_inputs_KernelIdeal.fn at h0
  have both : ∀ a b : BitVec 1, IntOp.andi a b = 1#1 → a = 1#1 ∧ b = 1#1 := by decide
  obtain ⟨h1, h2⟩ := both _ _ h0
  haveI : Subsingleton (Cert.Pre_finite_inputs_KernelIdeal.S_).Idx := ⟨fun a b => funext fun i => i.elim0⟩
  exact ⟨fun i => real_of_lt (Host.reduce_andi_all _ _ _ _ _ h1 i), fun i => real_of_lt (Host.reduce_andi_all _ _ _ _ _ h2 i)⟩

end Cert.KernelIdeal.Hand

end
-- ==== Proof.Ref.lean ====
/-
  The reference's result, stage by stage, and each stage read at an index.
-/
module

public import proofs.«01_k».proof.Proof.Gen.ReferenceIdeal.Run
public import proofs.«01_k».proof.Proof.Codes
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand

/-- Each position's block. -/
def blk : IVec S4096 32 :=
  let n6 := broadcastInDim S4096 ![] bcast_S_S4096 (id (constantI S_ 32 64#32))
  let n7 := broadcastInDim S4096 ![] bcast_S_S4096 (constantI S_ 32 0#32)
  select (andi (cmpi .ne (signi (iotaInDim S4096 32 0)) (broadcastInDim S4096 ![] bcast_S_S4096 (signi (id (constantI S_ 32 64#32)))))
      (cmpi .ne (Host.remsi (iotaInDim S4096 32 0) n6) n7))
    (subi (Host.divsi (iotaInDim S4096 32 0) n6) (broadcastInDim S4096 ![] bcast_S_S4096 (constantI S_ 32 1#32)))
    (Host.divsi (iotaInDim S4096 32 0) n6)

/-- The blocks of the rows and of the columns. -/
def rowBlk : IVec S4096x4096 32 := broadcastInDim S4096x4096 ![0, 1] bcast_S4096x1_S4096x4096_0_1 (broadcastInDim S4096x1 ![0] bcast_S4096_S4096x1_0 blk)
def colBlk : IVec S4096x4096 32 := broadcastInDim S4096x4096 ![0, 1] bcast_S1x4096_S4096x4096_0_1 (broadcastInDim S1x4096 ![1] bcast_S4096_S1x4096_1 blk)

/-- The mask. -/
def mask : IVec S4096x4096 1 :=
  let n14 := cmpi .eq (broadcastInDim S1x4096 ![1] bcast_S4096_S1x4096_1 blk) (broadcastInDim S1x4096 ![] bcast_S_S1x4096 (constantI S_ 32 0#32))
  let n16 : IVec S_ 32 := select (cmpi .eq (id (constantI S_ 32 3#32)) (constantI S_ 32 0#32)) (constantI S_ 32 1#32) (id (constantI S_ 32 3#32))
  let n17 := Host.remsi (addi rowBlk colBlk) (broadcastInDim S4096x4096 ![] bcast_S_S4096x4096 n16)
  let n18 := broadcastInDim S4096x4096 ![] bcast_S_S4096x4096 (constantI S_ 32 0#32)
  let n19 := broadcastInDim S4096x4096 ![] bcast_S_S4096x4096 (cmpi .slt n16 (constantI S_ 32 0#32))
  let n21 := select (andi (cmpi .ne (cmpi .slt n17 n18) n19) (cmpi .ne n17 n18)) (addi n17 (broadcastInDim S4096x4096 ![] bcast_S_S4096x4096 n16)) n17
  ori (ori (cmpi .eq rowBlk colBlk) (broadcastInDim S4096x4096 ![0, 1] bcast_S1x4096_S4096x4096_0_1 n14)) (cmpi .eq n21 n18)

/-- Whether a row has a column at all. -/
def someCol : IVec S4096 1 := Host.reduce IntOp.ori mask (constantI S_ 1 0#1) reducesTo_S4096x4096_S4096_d1 h_S_
def keep : IVec S1x1x4096x1 1 := broadcastInDim S1x1x4096x1 ![2] bcast_S4096_S1x1x4096x1_2 someCol

/-- The codes over the scale. -/
def deq (k : FVec Ideal S2x4096x4x64 .bf16) : FVec Ideal S2x4096x4x64 .f32 :=
  let n3 : FVec Ideal S2x4096x4x64 .f32 := broadcastInDim S2x4096x4x64 ![] bcast_S_S2x4096x4x64 (constant S_ .f32 0x42000000#32)
  Host.divf (minimumf (broadcastInDim S2x4096x4x64 ![] bcast_S_S2x4096x4x64 (id (constant S_ .f32 0x42FE0000#32)))
    (maximumf (broadcastInDim S2x4096x4x64 ![] bcast_S_S2x4096x4x64 (id (constant S_ .f32 0xC2FE0000#32))) (Host.roundeven (mulf (extf .f32 k bitsLt_bf16_f32) n3)))) n3

/-- The queries. -/
def qry (x : FVec Ideal S2x4096x512 .bf16) (wq : FVec Ideal S512x256 .bf16) : FVec Ideal S2x4096x4x64 .f32 :=
  shapeCast _ (Host.dotGeneral dot_S2x4096x512_S512x256_S2x4096x256_2_0_01_1_n_n none (extf .f32 x bitsLt_bf16_f32) (extf .f32 wq bitsLt_bf16_f32)) shapeCasts_S2x4096x256_S2x4096x4x64

/-- The masked scores. -/
def scr (q kd : FVec Ideal S2x4096x4x64 .f32) : FVec Ideal S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 mask))
    (mulf (Host.dotGeneral dot_S2x4096x4x64_S2x4096x4x64_S2x4x4096x4096_3_3_1_1_02_02 none q kd)
      (broadcastInDim S2x4x4096x4096 ![] bcast_S_S2x4x4096x4096 (constant S_ .f32 0x3E000000#32)))
    (broadcastInDim S2x4x4096x4096 ![] bcast_S_S2x4x4096x4096 (id (constant S_ .f32 0xFF800000#32)))

/-- Each row's greatest score. -/
def top (s : FVec Ideal S2x4x4096x4096 .f32) : FVec Ideal S2x4x4096 .f32 :=
  Host.reduce FloatOps.maximumf s (constant S_ .f32 0xFF800000#32) reducesTo_S2x4x4096x4096_S2x4x4096_d3 h_S_

/-- The exponentials, each row's greatest score taken off. -/
def expo (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3
    (broadcastInDim S2x4x4096x1 ![0, 1, 2] bcast_S2x4x4096_S2x4x4096x1_0_1_2 (top s))))

/-- The sum of a row's exponentials, and what the row is divided by. -/
def sumRow (w : FVec Ideal S2x4x4096x4096 .f32) : FVec Ideal S2x4x4096 .f32 :=
  Host.reduceAdd w (constant S_ .f32 0x00000000#32) reducesTo_S2x4x4096x4096_S2x4x4096_d3 h_S_
def den (z : FVec Ideal S2x4x4096 .f32) : FVec Ideal S2x4x4096x1 .f32 :=
  select (broadcastInDim S2x4x4096x1 ![0, 1, 2, 3] bcast_S1x1x4096x1_S2x4x4096x1_0_1_2_3 keep)
    (broadcastInDim S2x4x4096x1 ![0, 1, 2] bcast_S2x4x4096_S2x4x4096x1_0_1_2 z)
    (broadcastInDim S2x4x4096x1 ![] bcast_S_S2x4x4096x1 (id (constant S_ .f32 0x3F800000#32)))

/-- The weights. -/
def wts (w : FVec Ideal S2x4x4096x4096 .f32) (z : FVec Ideal S2x4x4096x1 .f32) : FVec Ideal S2x4x4096x4096 .f32 :=
  select (broadcastInDim S2x4x4096x4096 ![0, 1, 2, 3] bcast_S1x1x4096x1_S2x4x4096x4096_0_1_2_3 keep)
    (Host.divf w (broadcastInDim S2x4x4096x4096 ![0, 1, 2, 3] bcast_S2x4x4096x1_S2x4x4096x4096_0_1_2_3 z))
    (broadcastInDim S2x4x4096x4096 ![] bcast_S_S2x4x4096x4096 (id (constant S_ .f32 0x00000000#32)))
def wtsOf (w : FVec Ideal S2x4x4096x4096 .f32) : FVec Ideal S2x4x4096x4096 .f32 := wts w (den (sumRow w))

/-- The values' means, heads side by side. -/
def ctx (vd : FVec Ideal S2x4096x4x64 .f32) (w : FVec Ideal S2x4x4096x4096 .f32) : FVec Ideal S2x4096x256 .f32 :=
  shapeCast _ (transpose S2x4096x4x64 [0, 3, 1, 2] (Host.dotGeneral dot_S2x4096x4x64_S2x4x4096x4096_S2x4x64x4096_1_3_3_2_02_01 none vd w)
    transposes_S2x4x64x4096_S2x4096x4x64_0_3_1_2) shapeCasts_S2x4096x4x64_S2x4096x256

/-- The result. -/
def res (x : FVec Ideal S2x4096x512 .bf16) (wq : FVec Ideal S512x256 .bf16) (k v : FVec Ideal S2x4096x4x64 .bf16) (wo : FVec Ideal S256x512 .bf16) :
    FVec Ideal S2x4096x512 .f32 :=
  Host.dotGeneral dot_S2x4096x256_S256x512_S2x4096x512_2_0_01_1_n_n none (ctx (deq v) (wtsOf (expo (scr (qry x wq) (deq k))))) (extf .f32 wo bitsLt_bf16_f32)

theorem res_eq (m : (ℓ : Loc nD τ sig) → Buf (Elt Ideal) ℓ) (c : Dev nD) :
    Value.res_out0 (F := Ideal) m c = res (m (c.tc.loc main_arg0)) (m (c.tc.loc main_arg1)) (m (c.tc.loc main_arg2)) (m (c.tc.loc main_arg3)) (m (c.tc.loc main_arg4)) := by
  unfold Value.res_out0 Value.res_main_v61; rfl

theorem blk_apply (i : Fin 4096) : blk (ix1 i) = BitVec.ofNat 32 (i.val / 64) := by
  pointwise [blk]
  revert i
  decide +kernel

theorem mask_apply (i j : Fin 4096) : mask (ix2 i j) = BitVec.ofBool (decide (look (i.val / 64) (j.val / 64))) := by
  pointwise [mask, rowBlk, colBlk]
  rw [blk_apply, blk_apply]
  obtain ⟨a, ha⟩ : ∃ a : Fin 64, i.val / 64 = a.val := ⟨⟨i.val / 64, by omega⟩, rfl⟩
  obtain ⟨b, hb⟩ : ∃ b : Fin 64, j.val / 64 = b.val := ⟨⟨j.val / 64, by omega⟩, rfl⟩
  rw [ha, hb]
  clear ha hb i j
  revert a b
  decide +kernel

theorem someCol_apply (i : Fin 4096) : someCol (ix1 i) = 1#1 := by
  have hi : mask (ix2 i i) = 1#1 := by
    rw [mask_apply, decide_eq_true (show look (i.val / 64) (i.val / 64) from Or.inl rfl)]
    rfl
  have h1 : ∀ y : BitVec 1, IntOp.ori 1#1 y = 1#1 := by decide
  pointwise [someCol]
  rw [← Finset.insert_erase (Finset.mem_univ i), Finset.fold_insert (Finset.notMem_erase i _), hi, h1]

theorem keep_apply (i : Fin 4096) : keep (ix4 0 0 i 0) = 1#1 := by
  pointwise [keep]
  exact someCol_apply i

theorem deq_apply (k : FVec Ideal S2x4096x4x64 .bf16) (b : Fin 2) (j : Fin 4096) (h : Fin 4) (d : Fin 64) :
    deq k (ix4 b j h d) = (((codeZ (k (ix4 b j h d)) : ℝ) * (1 / 32) : ℝ) : EReal) := by
  pointwise [deq]
  refine (show _ = Ideal.div (codeR (k (ix4 b j h d))) (Ideal.ofBits .f32 0x42000000#32) from rfl).trans ?_
  rw [bits_32, codeR_eq, Ideal.div_coe (by norm_num), ← EReal.coe_mul]

theorem qry_apply (x : FVec Ideal S2x4096x512 .bf16) (wq : FVec Ideal S512x256 .bf16) (b : Fin 2) (j : Fin 4096) (h : Fin 4) (d : Fin 64) :
    qry x wq (ix4 b j h d) = ∑ k : Fin 512, x (ix3 b j k) * wq (ix2 k ⟨h.val * 64 + d.val, by omega⟩) := by
  pointwise [qry]

theorem scr_apply (q kd : FVec Ideal S2x4096x4x64 .f32) (b : Fin 2) (h : Fin 4) (i j : Fin 4096) :
    scr q kd (ix4 b h i j) = if look (i.val / 64) (j.val / 64) then (∑ d : Fin 64, q (ix4 b i h d) * kd (ix4 b j h d)) * ((1 / 8 : ℝ) : EReal) else ⊥ := by
  rw [← select_look, ← mask_apply, ← bits_8th, ← bits_bot]
  pointwise [scr]
  rfl

theorem top_apply (s : FVec Ideal S2x4x4096x4096 .f32) (b : Fin 2) (h : Fin 4) (i : Fin 4096) :
    top s (ix3 b h i) = Finset.univ.fold max ⊥ fun j : Fin 4096 => s (ix4 b h i j) := by
  rw [← bits_bot]
  pointwise [top]

theorem expo_apply (s : FVec Ideal S2x4x4096x4096 .f32) (b : Fin 2) (h : Fin 4) (i j : Fin 4096) :
    expo s (ix4 b h i j) = Ideal.exp (s (ix4 b h i j) - top s (ix3 b h i)) := by
  pointwise [expo]

theorem sumRow_apply (w : FVec Ideal S2x4x4096x4096 .f32) (b : Fin 2) (h : Fin 4) (i : Fin 4096) :
    sumRow w (ix3 b h i) = ∑ j : Fin 4096, w (ix4 b h i j) := by
  pointwise [sumRow]

theorem den_apply (z : FVec Ideal S2x4x4096 .f32) (b : Fin 2) (h : Fin 4) (i : Fin 4096) : den z (ix4 b h i 0) = z (ix3 b h i) := by
  pointwise [den]
  rw [keep_apply]
  rfl

theorem wts_apply (w : FVec Ideal S2x4x4096x4096 .f32) (z : FVec Ideal S2x4x4096x1 .f32) (b : Fin 2) (h : Fin 4) (i j : Fin 4096) :
    wts w z (ix4 b h i j) = Ideal.div (w (ix4 b h i j)) (z (ix4 b h i 0)) := by
  pointwise [wts]
  rw [keep_apply]
  rfl

theorem ctx_apply (vd : FVec Ideal S2x4096x4x64 .f32) (w : FVec Ideal S2x4x4096x4096 .f32) (b : Fin 2) (i : Fin 4096) (e : Fin 256) :
    ctx vd w (ix3 b i e) = ∑ j : Fin 4096, vd (ix4 b j ⟨e.val / 64, by omega⟩ ⟨e.val % 64, by omega⟩) * w (ix4 b ⟨e.val / 64, by omega⟩ i j) := by
  pointwise [ctx]

theorem res_apply (x : FVec Ideal S2x4096x512 .bf16) (wq : FVec Ideal S512x256 .bf16) (k v : FVec Ideal S2x4096x4x64 .bf16) (wo : FVec Ideal S256x512 .bf16) (b : Fin 2) (i : Fin 4096) (n : Fin 512) :
    res x wq k v wo (ix3 b i n) = ∑ e : Fin 256, ctx (deq v) (wtsOf (expo (scr (qry x wq) (deq k)))) (ix3 b i e) * wo (ix2 e n) := by
  pointwise [res]

theorem wtsOf_apply (s : FVec Ideal S2x4x4096x4096 .f32) (b : Fin 2) (h : Fin 4) (i j : Fin 4096) :
    wtsOf (expo s) (ix4 b h i j) = Ideal.div (Ideal.exp (s (ix4 b h i j) - top s (ix3 b h i))) (∑ y : Fin 4096, Ideal.exp (s (ix4 b h i y) - top s (ix3 b h i))) := by
  have h1 := wts_apply (expo s) (den (sumRow (expo s))) b h i j
  have h2 := (den_apply (sumRow (expo s)) b h i).trans ((sumRow_apply (expo s) b h i).trans (Finset.sum_congr rfl fun y _ => expo_apply s b h i y))
  exact h1.trans (congrArg₂ Ideal.div (expo_apply s b h i j) h2)

/-- One entry of the result: each head's mean of the codes of the values, over the scale, times the output's weights. -/
theorem res_row (x : FVec Ideal S2x4096x512 .bf16) (wq : FVec Ideal S512x256 .bf16) (k v : FVec Ideal S2x4096x4x64 .bf16) (wo : FVec Ideal S256x512 .bf16)
    (b : Fin 2) (i : Fin 4096) (n : Fin 512) (qr : Fin 4 → Fin 64 → ℝ) (hq : ∀ h d, qry x wq (ix4 b i h d) = ((qr h d : ℝ) : EReal)) :
    res x wq k v wo (ix3 b i n) = ∑ e : Fin 256,
      ((att (fun j : Fin 4096 => look (i.val / 64) (j.val / 64))
          (fun j => (∑ d : Fin 64, qr ⟨e.val / 64, by omega⟩ d * (codeZ (k (ix4 b j ⟨e.val / 64, by omega⟩ d)) : ℝ)) * (1 / 256))
          (fun j => (codeZ (v (ix4 b j ⟨e.val / 64, by omega⟩ ⟨e.val % 64, by omega⟩)) : ℝ)) * (1 / 32) : ℝ) : EReal) * wo (ix2 e n) := by
  rw [res_apply]
  refine Finset.sum_congr rfl fun e _ => ?_
  congr 1
  rw [ctx_apply, ← att_mul]
  generalize (⟨e.val / 64, by omega⟩ : Fin 4) = h
  generalize (⟨e.val % 64, by omega⟩ : Fin 64) = d'
  have hw : ∀ j : Fin 4096, wtsOf (expo (scr (qry x wq) (deq k))) (ix4 b h i j) =
      Ideal.div (Ideal.exp (scr (qry x wq) (deq k) (ix4 b h i j) - top (scr (qry x wq) (deq k)) (ix3 b h i)))
        (∑ y : Fin 4096, Ideal.exp (scr (qry x wq) (deq k) (ix4 b h i y) - top (scr (qry x wq) (deq k)) (ix3 b h i))) := fun j => by
    exact wtsOf_apply _ b h i j
  refine (Finset.sum_congr rfl fun j _ => congrArg _ (hw j)).trans ?_
  refine att_row_max (fun j : Fin 4096 => look (i.val / 64) (j.val / 64)) ⟨i, Or.inl rfl⟩ (e := fun j => scr (qry x wq) (deq k) (ix4 b h i j))
    (fun j => ?_) (fun j => ?_) (top_apply _ b h i) rfl
  · rw [scr_apply]
    refine if_congr Iff.rfl ?_ rfl
    have ht : ∀ d : Fin 64, qry x wq (ix4 b i h d) * deq k (ix4 b j h d) = ((qr h d * ((codeZ (k (ix4 b j h d)) : ℝ) * (1 / 32)) : ℝ) : EReal) := fun d => by
      rw [hq, deq_apply, ← EReal.coe_mul]
    rw [Finset.sum_congr rfl fun d _ => ht d, ← coe_sum, ← EReal.coe_mul]
    congr 1
    rw [Finset.sum_mul, Finset.sum_mul]
    exact Finset.sum_congr rfl fun d _ => by ring
  · exact deq_apply v b j h d'

end Cert.ReferenceIdeal.Hand

end
-- ==== Proof.Algebra.lean ====
/-
  Over the extended reals the kernel's result, gathered from the devices, is the reference's.
-/
module

public import proofs.«01_k».proof.Defs
public import proofs.«01_k».proof.Proof.Launch
public import proofs.«01_k».proof.Proof.Rows
public import proofs.«01_k».proof.Proof.Start
public import proofs.«01_k».proof.Proof.Ref

@[expose] public section

set_option maxRecDepth 16384

noncomputable section

namespace Cert.KernelIdeal.Hand

open Cert.KernelIdeal Cert.KernelIdeal.Gen
open Idealize.ShloMosaic Idealize.ShloMosaic.TcCoe Idealize.SL.Sem

/-! ## One entry -/

/-- One entry of the result, of the whole arrays: row `I` of batch `b`, column `n`. -/
def entry (K V : FVec Ideal ⟨4, ![2, 4096, 4, 64]⟩ .bf16) (wo : FVec Ideal S256x512 .bf16) (b : Fin 2) (I : Fin 4096) (n : Fin 512) (qr : Fin 4 → Fin 64 → ℝ) : EReal :=
  ∑ e : Fin 256,
    ((att (fun j : Fin 4096 => look (I.val / 64) (j.val / 64))
        (fun j => (∑ d : Fin 64, qr ⟨e.val / 64, by omega⟩ d * (codeZ (K (ix4 b j ⟨e.val / 64, by omega⟩ d)) : ℝ)) * (1 / 256))
        (fun j => (codeZ (V (ix4 b j ⟨e.val / 64, by omega⟩ ⟨e.val % 64, by omega⟩)) : ℝ)) * (1 / 32) : ℝ) : EReal) * wo (ix2 e n)

theorem code_toInt (z : EReal) : (Ideal.fptosi 8 (codeR z)).toInt = codeZ z := by
  have h := code_back z
  exact_mod_cast h

/-- Position `i` of device `c`'s block, in the whole sequence. -/
def glo (c : Dev nD) (i : Fin 128) : Fin 4096 := ⟨c.val * 128 + i.val, by have : c.val < 32 := c.isLt; omega⟩

section
variable (k2 v2 : Dev nD → S2x128x4x64.Idx → Elt Ideal .bf16) (K V : FVec Ideal ⟨4, ![2, 4096, 4, 64]⟩ .bf16)
variable (hk : ∀ s b r h d, k2 s (ix4 b r h d) = K (ix4 b (glo s r) h d)) (hv : ∀ s b r h d, v2 s (ix4 b r h d) = V (ix4 b (glo s r) h d))
variable (c : Dev nD) (g : CC Ideal) (hg : Agree (fun s => stgOf (k2 s) (v2 s)) c g)
include hk hv hg

theorem atCol_eq (i : Fin 128) (v b : Fin 2) (h : Fin 4) (j : Fin 4096) (d : Fin 64) (hl : look (2 * c.val + i.val / 64) (colB c.val j.val)) :
    atCol (cdOf g v b h) j d = codeZ ((if v = 0 then K else V) (ix4 b (pos c j) h d)) := by
  unfold atCol
  rw [cdOf_apply, arrived _ c g hg i _ _ v b h _ d ?_, stgOf_apply, code_toInt]
  · congr 1
    have hp : glo (dn ⟨j.val / 128, by omega⟩ c) ⟨j.val / 64 % 2 * 64 + j.val % 64, by omega⟩ = pos c j := by
      apply Fin.ext
      unfold glo dn pos
      simp only
      omega
    by_cases h0 : v = 0
    · rw [if_pos h0, if_pos h0, hk]; rw [← hp]
    · rw [if_neg h0, if_neg h0, hv]; rw [← hp]
  · have e : colB c.val j.val = 2 * ((c.val + 32 - j.val / 128) % 32) + j.val / 64 % 2 := by unfold colB; omega
    rw [← e]; exact hl

theorem row_entry (q : Fin 4 → FVec Ideal S128x64 .bf16) (x4 : S256x512.Idx → Elt Ideal .bf16) (b : Fin 2) (i : Fin 128) (n : Fin 512) (qr : Fin 4 → Fin 64 → ℝ)
    (hq : ∀ h d, q h (ix2 i d) = ((qr h d : ℝ) : EReal)) :
    outOf (woOf x4) (fun h => headOf (maskOf c) (q h) (cdOf g 0 b h) (cdOf g 1 b h)) (ix3 0 i n) = entry K V x4 b (glo c i) n qr := by
  have hc : c.val < 32 := c.isLt
  have hi : (glo c i).val / 64 = 2 * c.val + i.val / 64 := by unfold glo; simp only; omega
  have hB : ∃ j : Fin 4096, look (2 * c.val + i.val / 64) (colB c.val j.val) :=
    ⟨⟨i.val, by omega⟩, Or.inl (by unfold colB; simp only; omega)⟩
  rw [out_row (maskOf c) q (fun h => cdOf g 0 b h) (fun h => cdOf g 1 b h) x4 i n (2 * c.val + i.val / 64) (fun j => colB c.val j.val) (maskOf_apply c i) hB qr hq]
  unfold entry
  refine Finset.sum_congr rfl fun e _ => ?_
  congr 3
  rw [hi]
  refine (att_congr _ (fun j => ?_) (fun j hj => ?_) (fun j hj => ?_)).trans
    (att_equiv (fun j : Fin 4096 => look (2 * c.val + i.val / 64) (j.val / 64)) (posE c) _ _)
  · rw [colB_pos]; exact Iff.rfl
  · congr 1
    refine Finset.sum_congr rfl fun d _ => ?_
    rw [atCol_eq k2 v2 K V hk hv c g hg i 0 b _ j d hj]
    rfl
  · rw [atCol_eq k2 v2 K V hk hv c g hg i 1 b _ j _ hj]
    rfl
end

theorem sum_real {I : Type} [Fintype I] (f : I → EReal) (h : ∀ i, ∃ r : ℝ, f i = (r : EReal)) : ∃ r : ℝ, ∑ i, f i = (r : EReal) := by
  choose r hr using h
  exact ⟨∑ i, r i, by rw [coe_sum]; exact Finset.sum_congr rfl fun i _ => hr i⟩

/-- The queries of a row are reals. -/
theorem qry_real (x0 : S2x128x512.Idx → Elt Ideal .bf16) (x1 : S512x256.Idx → Elt Ideal .bf16) (hx : ∀ i, ∃ r : ℝ, x0 i = (r : EReal)) (hw : ∀ i, ∃ r : ℝ, x1 i = (r : EReal))
    (b : Fin 2) (i : Fin 128) : ∃ qr : Fin 4 → Fin 64 → ℝ, ∀ h d, (∑ k : Fin 512, (x0 (ix3 b i k) : EReal) * x1 (ix2 k ⟨h.val * 64 + d.val, by omega⟩)) = ((qr h d : ℝ) : EReal) := by
  have hs : ∀ (h : Fin 4) (d : Fin 64), ∃ r : ℝ, (∑ k : Fin 512, (x0 (ix3 b i k) : EReal) * x1 (ix2 k ⟨h.val * 64 + d.val, by omega⟩)) = (r : EReal) := fun h d =>
    sum_real _ fun k => by
      obtain ⟨r, hr⟩ := hx (ix3 b i k)
      obtain ⟨s, hs⟩ := hw (ix2 k ⟨h.val * 64 + d.val, by omega⟩)
      exact ⟨r * s, by rw [hr, hs, EReal.coe_mul]⟩
  choose qr hqr using hs
  exact ⟨qr, hqr⟩

/-! ## The result's buffer -/

theorem out_hit (f : S2x128x512.Idx → Elt Ideal .f32) (off : Fin 3 → ℕ) (inb : ∀ a, off a + S1x128x512.size a ≤ S2x128x512.size a) (w : S1x128x512.Idx → Elt Ideal .f32)
    (L : List (View.Piece (Elt Ideal) S2x128x512 .f32)) (y : S2x128x512.Idx) (x : S1x128x512.Idx) (hx : ∀ a, (y a).val = off a + 1 * (x a).val) :
    outM.view.read (Elt Ideal) (outM.view.writes (Elt Ideal) f (⟨Rect.unit (s := S2x128x512) off S1x128x512.size inb, w⟩ :: L)) y = w x :=
  View.read_writes_cons_hit_of_coords outM.view f (Rect.unit (s := S2x128x512) off S1x128x512.size inb) w L x y hx

theorem out_at (c : Dev nD) (fo : S2x128x512.Idx → Elt Ideal .f32) (x0 : S2x128x512.Idx → Elt Ideal .bf16) (x1 : S512x256.Idx → Elt Ideal .bf16) (x4 : S256x512.Idx → Elt Ideal .bf16)
    (g : CC Ideal) (b : Fin 2) (i : Fin 128) (n : Fin 512) :
    outM.view.writes (Elt Ideal) fo (outPieces c x0 x1 x4 g) (ix3 b i n) = if b = 0 then rowA c x0 x1 x4 g (ix3 0 i n) else rowB c x0 x1 x4 g (ix3 0 i n) := by
  have rd : ∀ (f : S2x128x512.Idx → Elt Ideal .f32) (y : S2x128x512.Idx), f y = outM.view.read (Elt Ideal) f y := fun f y => rfl
  refine (rd _ _).trans ?_
  match b with
  | 0 =>
    refine (View.read_writes_cons_miss_of_axis outM.view _ _ _ _ 0 1 1 rfl rfl rfl (Or.inl Nat.zero_lt_one)).trans ?_
    refine out_hit _ _ _ _ _ _ (ix3 0 i n) ?_
    intro a
    fin_cases a
    · rfl
    · show i.val = 0 + 1 * i.val; omega
    · show n.val = 0 + 1 * n.val; omega
  | 1 =>
    refine out_hit _ _ _ _ _ _ (ix3 0 i n) ?_
    intro a
    fin_cases a
    · rfl
    · show i.val = 0 + 1 * i.val; omega
    · show n.val = 0 + 1 * n.val; omega

/-! ## Blocks of the whole arrays -/

theorem coords3 (y : S2x128x512.Idx) : ∃ (b : Fin 2) (i : Fin 128) (n : Fin 512), y = ix3 b i n :=
  ⟨y 0, y 1, y 2, by funext a; fin_cases a <;> rfl⟩

theorem block3 (c : Dev nD) (v : (⟨3, ![2, 4096, 512]⟩ : Shape).Idx → EReal) (h : Layout.Tiles ⟨3, ![2, 128, 512]⟩ ⟨3, ![2, 4096, 512]⟩ 1 32) (b : Fin 2) (i : Fin 128) (n : Fin 512) :
    Layout.block ⟨3, ![2, 128, 512]⟩ ⟨3, ![2, 4096, 512]⟩ 1 32 c v h (ix3 b i n) = v (ix3 b (glo c i) n) := by
  rw [Layout.block_apply]
  congr 1; funext a; apply Fin.ext
  rw [Layout.Tiles.idx_val]
  fin_cases a <;> rfl

theorem block4 (c : Dev nD) (v : (⟨4, ![2, 4096, 4, 64]⟩ : Shape).Idx → EReal) (h : Layout.Tiles ⟨4, ![2, 128, 4, 64]⟩ ⟨4, ![2, 4096, 4, 64]⟩ 1 32) (b : Fin 2) (i : Fin 128) (hh : Fin 4) (d : Fin 64) :
    Layout.block ⟨4, ![2, 128, 4, 64]⟩ ⟨4, ![2, 4096, 4, 64]⟩ 1 32 c v h (ix4 b i hh d) = v (ix4 b (glo c i) hh d) := by
  rw [Layout.block_apply]
  congr 1; funext a; apply Fin.ext
  rw [Layout.Tiles.idx_val]
  fin_cases a <;> rfl

/-- What the kernel leaves in a device's block of the result. -/
theorem out_entry (m : (ℓ : Loc nD τ sig) → Buf (Elt Ideal) ℓ) (K V : FVec Ideal ⟨4, ![2, 4096, 4, 64]⟩ .bf16)
    (hk : ∀ s b r h d, X2 m s (ix4 b r h d) = K (ix4 b (glo s r) h d)) (hv : ∀ s b r h d, X3 m s (ix4 b r h d) = V (ix4 b (glo s r) h d))
    (c : Dev nD) (X : S2x128x512.Idx → Elt Ideal .f32) (hX : OutRel m c X) (b : Fin 2) (i : Fin 128) (n : Fin 512) (qr : Fin 4 → Fin 64 → ℝ)
    (hq : ∀ h d, (∑ k : Fin 512, (X0 m c (ix3 b i k) : EReal) * X1 m c (ix2 k ⟨h.val * 64 + d.val, by omega⟩)) = ((qr h d : ℝ) : EReal)) :
    X (ix3 b i n) = entry K V (X4 m c) b (glo c i) n qr := by
  obtain ⟨g, fo, hg, rfl⟩ := hX
  rw [out_at]
  match b with
  | 0 =>
    rw [if_pos rfl, rowA_eq]
    refine row_entry (X2 m) (X3 m) K V hk hv c g hg _ (X4 m c) 0 i n qr fun h d => ?_
    rw [qryOf_apply, wqOf_eq, ← hq]
    exact Finset.sum_congr rfl fun k _ => by rw [xaOf_apply]
  | 1 =>
    rw [if_neg (by decide), rowB_eq]
    refine row_entry (X2 m) (X3 m) K V hk hv c g hg _ (X4 m c) 1 i n qr fun h d => ?_
    rw [qryOf_apply, wqOf_eq, ← hq]
    exact Finset.sum_congr rfl fun k _ => by rw [xbOf_apply]

/-- The claim. -/
theorem algebraic [Cert.Pre_finite_inputs_KernelIdeal.Facts] : Cert.algebraic_KernelIdeal_ReferenceIdeal_pre_finite_inputs_KernelIdeal := by
  intro m ρ m' ρ' hpre hag
  refine ⟨Cert.ReferenceIdeal.Value.res_out0 (F := Ideal) m' 0, ?_, ?_⟩
  · refine (θ_run Cert.KernelIdeal.defs _ _).mono (fun r h c => ?_) (run_main (F := Ideal) m ρ)
    obtain ⟨h0, h1, h2, h3, h4, hX⟩ := h.1 c
    refine ⟨?_, h0, h1, h2, h3, h4⟩
    obtain ⟨hx, hw⟩ := finite_of _ _ _ _ _ (hpre c)
    have hx' : ∀ i, ∃ r : ℝ, X0 m c i = (r : EReal) := fun i => by rw [X0_eq]; exact hx i
    have hw' : ∀ i, ∃ r : ℝ, X1 m c i = (r : EReal) := fun i => by rw [X1_eq]; exact hw i
    funext y
    obtain ⟨b, i, n, rfl⟩ := coords3 y
    obtain ⟨qr, hqr⟩ := qry_real (X0 m c) (X1 m c) hx' hw' b i
    rw [block3, Cert.ReferenceIdeal.Hand.res_eq]
    refine (out_entry m (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (fun s b r h d => ?_) (fun s b r h d => ?_) c _ hX b i n qr hqr).trans ?_
    · rw [X2_eq, (hag s).2.2.1]; exact block4 s _ _ b r h d
    · rw [X3_eq, (hag s).2.2.2.1]; exact block4 s _ _ b r h d
    · rw [X4_eq, (hag c).2.2.2.2]
      refine (Cert.ReferenceIdeal.Hand.res_row _ _ _ _ _ b (glo c i) n qr fun h d => ?_).symm
      rw [Cert.ReferenceIdeal.Hand.qry_apply, ← hqr]
      refine Finset.sum_congr rfl fun k _ => ?_
      rw [X0_eq, X1_eq, (hag c).1, (hag c).2.1, block3]
  · exact (θ_run Cert.ReferenceIdeal.defs _ _).mono (fun r h => h 0) (Cert.ReferenceIdeal.Value.run (F := Ideal) m' ρ')

end Cert.KernelIdeal.Hand

end
-- ==== Proof.lean ====
/-
  The certificate's claims: each program's frame from its run, the named constant's statement, and the two results' agreement.
-/
module

public import proofs.«01_k».proof.Defs
public import proofs.«01_k».proof.Proof.KernelLaunch
public import proofs.«01_k».proof.Proof.Launch
public import proofs.«01_k».proof.Proof.Algebra
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, leaves its arguments as they were, and ends with every counter at zero. -/
theorem frame_kernel : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Kernel.Hand.run_main (F := Bits) m ρ)

/-- So does the idealized kernel. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Hand.run_main (F := Ideal) m ρ)

/-- So does the reference, a line of host operations with no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is named, and the table gives the name minus infinity. -/
theorem preserves : Cert.preserves_Kernel_KernelIdeal :=
  IdealRules.named_const.statement Cert.KernelIdeal.κ "mask" .f32 0xCE6E6B28#32 ⊥ rfl

/-- The shape facts the precondition takes over the kernel's arguments. -/
theorem facts_pre : Cert.Pre_finite_inputs_KernelIdeal.Facts :=
  ⟨by decide, by decide, by decide, by decide, by decide, by decide⟩

/-- The same over the reference's. -/
theorem facts_pre_reference : Cert.Pre_finite_inputs_ReferenceIdeal.Facts :=
  ⟨by decide, by decide, by decide, by decide, by decide, by decide⟩

/-- The two programs' results agree. -/
theorem algebraic [Cert.Pre_finite_inputs_KernelIdeal.Facts] : Cert.algebraic_KernelIdeal_ReferenceIdeal_pre_finite_inputs_KernelIdeal :=
  Cert.KernelIdeal.Hand.algebraic

theorem claim : Cert.Claim :=
  ⟨Cert.Kernel.Gen.facts, Cert.KernelIdeal.Gen.facts, Cert.ReferenceIdeal.Gen.facts, facts_pre, facts_pre_reference,
    frame_kernel, frame_ideal, fun m ρ _ => frame_ideal m ρ trivial, frame_reference, fun m ρ _ => frame_reference m ρ trivial, preserves, @algebraic facts_pre⟩

end Cert.Proof

end
